-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjLinesIdeal (m : (ℓ : Loc Cert.InProjLinesIdeal.nD Cert.InProjLinesIdeal.τ Cert.InProjLinesIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpLinesIdeal (m : (ℓ : Loc Cert.GateUpLinesIdeal.nD Cert.GateUpLinesIdeal.τ Cert.GateUpLinesIdeal.sig) → Buf (Elt Ideal) ℓ) : Prop :=
  True

def Pre_GradAct (m : (ℓ : Loc Cert.GradAct.nD Cert.GradAct.τ Cert.GradAct.sig) → Buf (Elt Bits) ℓ) : Prop :=
  True

def Pre_GradActIdeal (m : (ℓ : Loc Cert.GradActIdeal.nD Cert.GradActIdeal.τ Cert.GradActIdeal.sig) → Buf (Elt Ideal) ℓ) : Prop :=
  True

def Pre_GradActLinesIdeal (m : (ℓ : Loc Cert.GradActLinesIdeal.nD Cert.GradActLinesIdeal.τ Cert.GradActLinesIdeal.sig) → Buf (Elt Ideal) ℓ) : Prop :=
  True

def Pre_GradMerged (m : (ℓ : Loc Cert.GradMerged.nD Cert.GradMerged.τ Cert.GradMerged.sig) → Buf (Elt Bits) ℓ) : Prop :=
  True

def Pre_GradMergedIdeal (m : (ℓ : Loc Cert.GradMergedIdeal.nD Cert.GradMergedIdeal.τ Cert.GradMergedIdeal.sig) → Buf (Elt Ideal) ℓ) : Prop :=
  True

def Pre_GradMergedLinesIdeal (m : (ℓ : Loc Cert.GradMergedLinesIdeal.nD Cert.GradMergedLinesIdeal.τ Cert.GradMergedLinesIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjLinesIdeal (m : (ℓ : Loc Cert.OutProjLinesIdeal.nD Cert.OutProjLinesIdeal.τ Cert.OutProjLinesIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInLinesIdeal (m : (ℓ : Loc Cert.GradInLinesIdeal.nD Cert.GradInLinesIdeal.τ Cert.GradInLinesIdeal.sig) → Buf (Elt Ideal) ℓ) : Prop :=
  True

def Pre_GradGateUp (m : (ℓ : Loc Cert.GradGateUp.nD Cert.GradGateUp.τ Cert.GradGateUp.sig) → Buf (Elt Bits) ℓ) : Prop :=
  True

def Pre_GradGateUpIdeal (m : (ℓ : Loc Cert.GradGateUpIdeal.nD Cert.GradGateUpIdeal.τ Cert.GradGateUpIdeal.sig) → Buf (Elt Ideal) ℓ) : Prop :=
  True

def Pre_GradGateUpLinesIdeal (m : (ℓ : Loc Cert.GradGateUpLinesIdeal.nD Cert.GradGateUpLinesIdeal.τ Cert.GradGateUpLinesIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownLinesIdeal (m : (ℓ : Loc Cert.GradDownLinesIdeal.nD Cert.GradDownLinesIdeal.τ Cert.GradDownLinesIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutLinesIdeal (m : (ℓ : Loc Cert.GradOutLinesIdeal.nD Cert.GradOutLinesIdeal.τ Cert.GradOutLinesIdeal.sig) → Buf (Elt Ideal) ℓ) : Prop :=
  True

def Pre_GradBranch (m : (ℓ : Loc Cert.GradBranch.nD Cert.GradBranch.τ Cert.GradBranch.sig) → Buf (Elt Bits) ℓ) : Prop :=
  True

def Pre_GradBranchIdeal (m : (ℓ : Loc Cert.GradBranchIdeal.nD Cert.GradBranchIdeal.τ Cert.GradBranchIdeal.sig) → Buf (Elt Ideal) ℓ) : Prop :=
  True

def Pre_GradBranchLinesIdeal (m : (ℓ : Loc Cert.GradBranchLinesIdeal.nD Cert.GradBranchLinesIdeal.τ Cert.GradBranchLinesIdeal.sig) → Buf (Elt Ideal) ℓ) : Prop :=
  True

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradFfnLinesIdeal (m : (ℓ : Loc Cert.GradFfnLinesIdeal.nD Cert.GradFfnLinesIdeal.τ Cert.GradFfnLinesIdeal.sig) → Buf (Elt Ideal) ℓ) : Prop :=
  True

def Pre_GradHidden (m : (ℓ : Loc Cert.GradHidden.nD Cert.GradHidden.τ Cert.GradHidden.sig) → Buf (Elt Bits) ℓ) : Prop :=
  True

def Pre_GradHiddenIdeal (m : (ℓ : Loc Cert.GradHiddenIdeal.nD Cert.GradHiddenIdeal.τ Cert.GradHiddenIdeal.sig) → Buf (Elt Ideal) ℓ) : Prop :=
  True

def Pre_GradHiddenLinesIdeal (m : (ℓ : Loc Cert.GradHiddenLinesIdeal.nD Cert.GradHiddenLinesIdeal.τ Cert.GradHiddenLinesIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownLinesIdeal (m : (ℓ : Loc Cert.DownLinesIdeal.nD Cert.DownLinesIdeal.τ Cert.DownLinesIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_scores [hPre_finite_scores : Cert.Pre_finite_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).1 = (fun _ => 1#1)
    ∧ (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).2 = (fun _ => 1#1)

def Pre_AttentionLinesIdeal (m : (ℓ : Loc Cert.AttentionLinesIdeal.nD Cert.AttentionLinesIdeal.τ Cert.AttentionLinesIdeal.sig) → Buf (Elt Ideal) ℓ) : Prop :=
  True

def Pre_AttentionLinesIdeal_finite_scores [hPre_finite_scores : Cert.Pre_finite_scores.Facts] (m : (ℓ : Loc Cert.AttentionLinesIdeal.nD Cert.AttentionLinesIdeal.τ Cert.AttentionLinesIdeal.sig) → Buf (Elt Ideal) ℓ) : Prop :=
  ∀ c : Dev Cert.AttentionLinesIdeal.nD,
    (Cert.Pre_finite_scores.fn (F := Ideal) (m ((c.tc : Thread Cert.AttentionLinesIdeal.nD Cert.AttentionLinesIdeal.τ).loc Cert.AttentionLinesIdeal.main_arg0)) (m ((c.tc : Thread Cert.AttentionLinesIdeal.nD Cert.AttentionLinesIdeal.τ).loc Cert.AttentionLinesIdeal.main_arg1)) (m ((c.tc : Thread Cert.AttentionLinesIdeal.nD Cert.AttentionLinesIdeal.τ).loc Cert.AttentionLinesIdeal.main_arg2))).1 = (fun _ => 1#1)
    ∧ (Cert.Pre_finite_scores.fn (F := Ideal) (m ((c.tc : Thread Cert.AttentionLinesIdeal.nD Cert.AttentionLinesIdeal.τ).loc Cert.AttentionLinesIdeal.main_arg0)) (m ((c.tc : Thread Cert.AttentionLinesIdeal.nD Cert.AttentionLinesIdeal.τ).loc Cert.AttentionLinesIdeal.main_arg1)) (m ((c.tc : Thread Cert.AttentionLinesIdeal.nD Cert.AttentionLinesIdeal.τ).loc Cert.AttentionLinesIdeal.main_arg2))).2 = (fun _ => 1#1)

def Pre_GradMerge (m : (ℓ : Loc Cert.GradMerge.nD Cert.GradMerge.τ Cert.GradMerge.sig) → Buf (Elt Bits) ℓ) : Prop :=
  True

def Pre_GradMergeIdeal (m : (ℓ : Loc Cert.GradMergeIdeal.nD Cert.GradMergeIdeal.τ Cert.GradMergeIdeal.sig) → Buf (Elt Ideal) ℓ) : Prop :=
  True

def Pre_GradMergeLinesIdeal (m : (ℓ : Loc Cert.GradMergeLinesIdeal.nD Cert.GradMergeLinesIdeal.τ Cert.GradMergeLinesIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeLinesIdeal (m : (ℓ : Loc Cert.MergeLinesIdeal.nD Cert.MergeLinesIdeal.τ Cert.MergeLinesIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluLinesIdeal (m : (ℓ : Loc Cert.SwigluLinesIdeal.nD Cert.SwigluLinesIdeal.τ Cert.SwigluLinesIdeal.sig) → Buf (Elt Ideal) ℓ) : Prop :=
  True

def Pre_GradSwiglu (m : (ℓ : Loc Cert.GradSwiglu.nD Cert.GradSwiglu.τ Cert.GradSwiglu.sig) → Buf (Elt Bits) ℓ) : Prop :=
  True

def Pre_GradSwigluIdeal (m : (ℓ : Loc Cert.GradSwigluIdeal.nD Cert.GradSwigluIdeal.τ Cert.GradSwigluIdeal.sig) → Buf (Elt Ideal) ℓ) : Prop :=
  True

def Pre_GradSwigluIdeal_finite_up [hPre_finite_up : Cert.Pre_finite_up.Facts] (m : (ℓ : Loc Cert.GradSwigluIdeal.nD Cert.GradSwigluIdeal.τ Cert.GradSwigluIdeal.sig) → Buf (Elt Ideal) ℓ) : Prop :=
  ∀ c : Dev Cert.GradSwigluIdeal.nD,
    (Cert.Pre_finite_up.fn (F := Ideal) (m ((c.tc : Thread Cert.GradSwigluIdeal.nD Cert.GradSwigluIdeal.τ).loc Cert.GradSwigluIdeal.main_arg0)) (m ((c.tc : Thread Cert.GradSwigluIdeal.nD Cert.GradSwigluIdeal.τ).loc Cert.GradSwigluIdeal.main_arg1))).1 = (fun _ => 1#1)
    ∧ (Cert.Pre_finite_up.fn (F := Ideal) (m ((c.tc : Thread Cert.GradSwigluIdeal.nD Cert.GradSwigluIdeal.τ).loc Cert.GradSwigluIdeal.main_arg0)) (m ((c.tc : Thread Cert.GradSwigluIdeal.nD Cert.GradSwigluIdeal.τ).loc Cert.GradSwigluIdeal.main_arg1))).2 = (fun _ => 1#1)

def Pre_GradSwigluLinesIdeal (m : (ℓ : Loc Cert.GradSwigluLinesIdeal.nD Cert.GradSwigluLinesIdeal.τ Cert.GradSwigluLinesIdeal.sig) → Buf (Elt Ideal) ℓ) : Prop :=
  True

def Pre_GradSwigluLinesIdeal_finite_up [hPre_finite_up : Cert.Pre_finite_up.Facts] (m : (ℓ : Loc Cert.GradSwigluLinesIdeal.nD Cert.GradSwigluLinesIdeal.τ Cert.GradSwigluLinesIdeal.sig) → Buf (Elt Ideal) ℓ) : Prop :=
  ∀ c : Dev Cert.GradSwigluLinesIdeal.nD,
    (Cert.Pre_finite_up.fn (F := Ideal) (m ((c.tc : Thread Cert.GradSwigluLinesIdeal.nD Cert.GradSwigluLinesIdeal.τ).loc Cert.GradSwigluLinesIdeal.main_arg0)) (m ((c.tc : Thread Cert.GradSwigluLinesIdeal.nD Cert.GradSwigluLinesIdeal.τ).loc Cert.GradSwigluLinesIdeal.main_arg1))).1 = (fun _ => 1#1)
    ∧ (Cert.Pre_finite_up.fn (F := Ideal) (m ((c.tc : Thread Cert.GradSwigluLinesIdeal.nD Cert.GradSwigluLinesIdeal.τ).loc Cert.GradSwigluLinesIdeal.main_arg0)) (m ((c.tc : Thread Cert.GradSwigluLinesIdeal.nD Cert.GradSwigluLinesIdeal.τ).loc Cert.GradSwigluLinesIdeal.main_arg1))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvLinesIdeal (m : (ℓ : Loc Cert.ConvLinesIdeal.nD Cert.ConvLinesIdeal.τ Cert.ConvLinesIdeal.sig) → Buf (Elt Ideal) ℓ) : Prop :=
  True

def Pre_GradConv (m : (ℓ : Loc Cert.GradConv.nD Cert.GradConv.τ Cert.GradConv.sig) → Buf (Elt Bits) ℓ) : Prop :=
  True

def Pre_GradConvIdeal (m : (ℓ : Loc Cert.GradConvIdeal.nD Cert.GradConvIdeal.τ Cert.GradConvIdeal.sig) → Buf (Elt Ideal) ℓ) : Prop :=
  True

def Pre_GradConvLinesIdeal (m : (ℓ : Loc Cert.GradConvLinesIdeal.nD Cert.GradConvLinesIdeal.τ Cert.GradConvLinesIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormLinesIdeal (m : (ℓ : Loc Cert.NormLinesIdeal.nD Cert.NormLinesIdeal.τ Cert.NormLinesIdeal.sig) → Buf (Elt Ideal) ℓ) : Prop :=
  True

def Pre_GradNorm (m : (ℓ : Loc Cert.GradNorm.nD Cert.GradNorm.τ Cert.GradNorm.sig) → Buf (Elt Bits) ℓ) : Prop :=
  True

def Pre_GradNormIdeal (m : (ℓ : Loc Cert.GradNormIdeal.nD Cert.GradNormIdeal.τ Cert.GradNormIdeal.sig) → Buf (Elt Ideal) ℓ) : Prop :=
  True

def Pre_GradNormLinesIdeal (m : (ℓ : Loc Cert.GradNormLinesIdeal.nD Cert.GradNormLinesIdeal.τ Cert.GradNormLinesIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsLinesIdeal (m : (ℓ : Loc Cert.HeadsLinesIdeal.nD Cert.HeadsLinesIdeal.τ Cert.HeadsLinesIdeal.sig) → Buf (Elt Ideal) ℓ) : Prop :=
  True

def Pre_GradHeads (m : (ℓ : Loc Cert.GradHeads.nD Cert.GradHeads.τ Cert.GradHeads.sig) → Buf (Elt Bits) ℓ) : Prop :=
  True

def Pre_GradHeadsIdeal (m : (ℓ : Loc Cert.GradHeadsIdeal.nD Cert.GradHeadsIdeal.τ Cert.GradHeadsIdeal.sig) → Buf (Elt Ideal) ℓ) : Prop :=
  True

def Pre_GradHeadsLinesIdeal (m : (ℓ : Loc Cert.GradHeadsLinesIdeal.nD Cert.GradHeadsLinesIdeal.τ Cert.GradHeadsLinesIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossLinesIdeal (m : (ℓ : Loc Cert.LossLinesIdeal.nD Cert.LossLinesIdeal.τ Cert.LossLinesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjLinesIdeal [hInProjLinesIdeal : Cert.InProjLinesIdeal.Facts] : Prop :=
  ∀ (m : (ℓ : Loc Cert.InProjLinesIdeal.nD Cert.InProjLinesIdeal.τ Cert.InProjLinesIdeal.sig) → Buf (Elt Ideal) ℓ) (g : Dev Cert.InProjLinesIdeal.nD → PrngReg), Pre_InProjLinesIdeal m →
    θ_run (Cert.InProjLinesIdeal.defs (F := Ideal)) (onTc (τ := Cert.InProjLinesIdeal.τ) (Cert.InProjLinesIdeal.main (F := Ideal))) ⟨m, fun _ => 0, g⟩ (fun r => (∀ c : Dev Cert.InProjLinesIdeal.nD,
      r.2.mem ((c.tc : Thread Cert.InProjLinesIdeal.nD Cert.InProjLinesIdeal.τ).loc Cert.InProjLinesIdeal.main_arg0) = m ((c.tc : Thread Cert.InProjLinesIdeal.nD Cert.InProjLinesIdeal.τ).loc Cert.InProjLinesIdeal.main_arg0)
      ∧ r.2.mem ((c.tc : Thread Cert.InProjLinesIdeal.nD Cert.InProjLinesIdeal.τ).loc Cert.InProjLinesIdeal.main_arg1) = m ((c.tc : Thread Cert.InProjLinesIdeal.nD Cert.InProjLinesIdeal.τ).loc Cert.InProjLinesIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpLinesIdeal [hGateUpLinesIdeal : Cert.GateUpLinesIdeal.Facts] : Prop :=
  ∀ (m : (ℓ : Loc Cert.GateUpLinesIdeal.nD Cert.GateUpLinesIdeal.τ Cert.GateUpLinesIdeal.sig) → Buf (Elt Ideal) ℓ) (g : Dev Cert.GateUpLinesIdeal.nD → PrngReg), Pre_GateUpLinesIdeal m →
    θ_run (Cert.GateUpLinesIdeal.defs (F := Ideal)) (onTc (τ := Cert.GateUpLinesIdeal.τ) (Cert.GateUpLinesIdeal.main (F := Ideal))) ⟨m, fun _ => 0, g⟩ (fun r => (∀ c : Dev Cert.GateUpLinesIdeal.nD,
      r.2.mem ((c.tc : Thread Cert.GateUpLinesIdeal.nD Cert.GateUpLinesIdeal.τ).loc Cert.GateUpLinesIdeal.main_arg0) = m ((c.tc : Thread Cert.GateUpLinesIdeal.nD Cert.GateUpLinesIdeal.τ).loc Cert.GateUpLinesIdeal.main_arg0)
      ∧ r.2.mem ((c.tc : Thread Cert.GateUpLinesIdeal.nD Cert.GateUpLinesIdeal.τ).loc Cert.GateUpLinesIdeal.main_arg1) = m ((c.tc : Thread Cert.GateUpLinesIdeal.nD Cert.GateUpLinesIdeal.τ).loc Cert.GateUpLinesIdeal.main_arg1))
      ∧ r.2.sem = fun _ => 0)

def quiescent_GradAct [hGradAct : Cert.GradAct.Facts] : Prop :=
  ∀ (m : (ℓ : Loc Cert.GradAct.nD Cert.GradAct.τ Cert.GradAct.sig) → Buf (Elt Bits) ℓ) (g : Dev Cert.GradAct.nD → PrngReg), Pre_GradAct m →
    θ_run (Cert.GradAct.defs (F := Bits)) (onTc (τ := Cert.GradAct.τ) (Cert.GradAct.main (F := Bits))) ⟨m, fun _ => 0, g⟩ (fun r => (∀ c : Dev Cert.GradAct.nD,
      r.2.mem ((c.tc : Thread Cert.GradAct.nD Cert.GradAct.τ).loc Cert.GradAct.main_arg0) = m ((c.tc : Thread Cert.GradAct.nD Cert.GradAct.τ).loc Cert.GradAct.main_arg0)
      ∧ r.2.mem ((c.tc : Thread Cert.GradAct.nD Cert.GradAct.τ).loc Cert.GradAct.main_arg1) = m ((c.tc : Thread Cert.GradAct.nD Cert.GradAct.τ).loc Cert.GradAct.main_arg1))
      ∧ r.2.sem = fun _ => 0)

def quiescent_GradActIdeal [hGradActIdeal : Cert.GradActIdeal.Facts] : Prop :=
  ∀ (m : (ℓ : Loc Cert.GradActIdeal.nD Cert.GradActIdeal.τ Cert.GradActIdeal.sig) → Buf (Elt Ideal) ℓ) (g : Dev Cert.GradActIdeal.nD → PrngReg), Pre_GradActIdeal m →
    θ_run (Cert.GradActIdeal.defs (F := Ideal)) (onTc (τ := Cert.GradActIdeal.τ) (Cert.GradActIdeal.main (F := Ideal))) ⟨m, fun _ => 0, g⟩ (fun r => (∀ c : Dev Cert.GradActIdeal.nD,
      r.2.mem ((c.tc : Thread Cert.GradActIdeal.nD Cert.GradActIdeal.τ).loc Cert.GradActIdeal.main_arg0) = m ((c.tc : Thread Cert.GradActIdeal.nD Cert.GradActIdeal.τ).loc Cert.GradActIdeal.main_arg0)
      ∧ r.2.mem ((c.tc : Thread Cert.GradActIdeal.nD Cert.GradActIdeal.τ).loc Cert.GradActIdeal.main_arg1) = m ((c.tc : Thread Cert.GradActIdeal.nD Cert.GradActIdeal.τ).loc Cert.GradActIdeal.main_arg1))
      ∧ r.2.sem = fun _ => 0)

def quiescent_GradActLinesIdeal [hGradActLinesIdeal : Cert.GradActLinesIdeal.Facts] : Prop :=
  ∀ (m : (ℓ : Loc Cert.GradActLinesIdeal.nD Cert.GradActLinesIdeal.τ Cert.GradActLinesIdeal.sig) → Buf (Elt Ideal) ℓ) (g : Dev Cert.GradActLinesIdeal.nD → PrngReg), Pre_GradActLinesIdeal m →
    θ_run (Cert.GradActLinesIdeal.defs (F := Ideal)) (onTc (τ := Cert.GradActLinesIdeal.τ) (Cert.GradActLinesIdeal.main (F := Ideal))) ⟨m, fun _ => 0, g⟩ (fun r => (∀ c : Dev Cert.GradActLinesIdeal.nD,
      r.2.mem ((c.tc : Thread Cert.GradActLinesIdeal.nD Cert.GradActLinesIdeal.τ).loc Cert.GradActLinesIdeal.main_arg0) = m ((c.tc : Thread Cert.GradActLinesIdeal.nD Cert.GradActLinesIdeal.τ).loc Cert.GradActLinesIdeal.main_arg0)
      ∧ r.2.mem ((c.tc : Thread Cert.GradActLinesIdeal.nD Cert.GradActLinesIdeal.τ).loc Cert.GradActLinesIdeal.main_arg1) = m ((c.tc : Thread Cert.GradActLinesIdeal.nD Cert.GradActLinesIdeal.τ).loc Cert.GradActLinesIdeal.main_arg1))
      ∧ r.2.sem = fun _ => 0)

def quiescent_GradMerged [hGradMerged : Cert.GradMerged.Facts] : Prop :=
  ∀ (m : (ℓ : Loc Cert.GradMerged.nD Cert.GradMerged.τ Cert.GradMerged.sig) → Buf (Elt Bits) ℓ) (g : Dev Cert.GradMerged.nD → PrngReg), Pre_GradMerged m →
    θ_run (Cert.GradMerged.defs (F := Bits)) (onTc (τ := Cert.GradMerged.τ) (Cert.GradMerged.main (F := Bits))) ⟨m, fun _ => 0, g⟩ (fun r => (∀ c : Dev Cert.GradMerged.nD,
      r.2.mem ((c.tc : Thread Cert.GradMerged.nD Cert.GradMerged.τ).loc Cert.GradMerged.main_arg0) = m ((c.tc : Thread Cert.GradMerged.nD Cert.GradMerged.τ).loc Cert.GradMerged.main_arg0)
      ∧ r.2.mem ((c.tc : Thread Cert.GradMerged.nD Cert.GradMerged.τ).loc Cert.GradMerged.main_arg1) = m ((c.tc : Thread Cert.GradMerged.nD Cert.GradMerged.τ).loc Cert.GradMerged.main_arg1))
      ∧ r.2.sem = fun _ => 0)

def quiescent_GradMergedIdeal [hGradMergedIdeal : Cert.GradMergedIdeal.Facts] : Prop :=
  ∀ (m : (ℓ : Loc Cert.GradMergedIdeal.nD Cert.GradMergedIdeal.τ Cert.GradMergedIdeal.sig) → Buf (Elt Ideal) ℓ) (g : Dev Cert.GradMergedIdeal.nD → PrngReg), Pre_GradMergedIdeal m →
    θ_run (Cert.GradMergedIdeal.defs (F := Ideal)) (onTc (τ := Cert.GradMergedIdeal.τ) (Cert.GradMergedIdeal.main (F := Ideal))) ⟨m, fun _ => 0, g⟩ (fun r => (∀ c : Dev Cert.GradMergedIdeal.nD,
      r.2.mem ((c.tc : Thread Cert.GradMergedIdeal.nD Cert.GradMergedIdeal.τ).loc Cert.GradMergedIdeal.main_arg0) = m ((c.tc : Thread Cert.GradMergedIdeal.nD Cert.GradMergedIdeal.τ).loc Cert.GradMergedIdeal.main_arg0)
      ∧ r.2.mem ((c.tc : Thread Cert.GradMergedIdeal.nD Cert.GradMergedIdeal.τ).loc Cert.GradMergedIdeal.main_arg1) = m ((c.tc : Thread Cert.GradMergedIdeal.nD Cert.GradMergedIdeal.τ).loc Cert.GradMergedIdeal.main_arg1))
      ∧ r.2.sem = fun _ => 0)

def quiescent_GradMergedLinesIdeal [hGradMergedLinesIdeal : Cert.GradMergedLinesIdeal.Facts] : Prop :=
  ∀ (m : (ℓ : Loc Cert.GradMergedLinesIdeal.nD Cert.GradMergedLinesIdeal.τ Cert.GradMergedLinesIdeal.sig) → Buf (Elt Ideal) ℓ) (g : Dev Cert.GradMergedLinesIdeal.nD → PrngReg), Pre_GradMergedLinesIdeal m →
    θ_run (Cert.GradMergedLinesIdeal.defs (F := Ideal)) (onTc (τ := Cert.GradMergedLinesIdeal.τ) (Cert.GradMergedLinesIdeal.main (F := Ideal))) ⟨m, fun _ => 0, g⟩ (fun r => (∀ c : Dev Cert.GradMergedLinesIdeal.nD,
      r.2.mem ((c.tc : Thread Cert.GradMergedLinesIdeal.nD Cert.GradMergedLinesIdeal.τ).loc Cert.GradMergedLinesIdeal.main_arg0) = m ((c.tc : Thread Cert.GradMergedLinesIdeal.nD Cert.GradMergedLinesIdeal.τ).loc Cert.GradMergedLinesIdeal.main_arg0)
      ∧ r.2.mem ((c.tc : Thread Cert.GradMergedLinesIdeal.nD Cert.GradMergedLinesIdeal.τ).loc Cert.GradMergedLinesIdeal.main_arg1) = m ((c.tc : Thread Cert.GradMergedLinesIdeal.nD Cert.GradMergedLinesIdeal.τ).loc Cert.GradMergedLinesIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjLinesIdeal [hOutProjLinesIdeal : Cert.OutProjLinesIdeal.Facts] : Prop :=
  ∀ (m : (ℓ : Loc Cert.OutProjLinesIdeal.nD Cert.OutProjLinesIdeal.τ Cert.OutProjLinesIdeal.sig) → Buf (Elt Ideal) ℓ) (g : Dev Cert.OutProjLinesIdeal.nD → PrngReg), Pre_OutProjLinesIdeal m →
    θ_run (Cert.OutProjLinesIdeal.defs (F := Ideal)) (onTc (τ := Cert.OutProjLinesIdeal.τ) (Cert.OutProjLinesIdeal.main (F := Ideal))) ⟨m, fun _ => 0, g⟩ (fun r => (∀ c : Dev Cert.OutProjLinesIdeal.nD,
      r.2.mem ((c.tc : Thread Cert.OutProjLinesIdeal.nD Cert.OutProjLinesIdeal.τ).loc Cert.OutProjLinesIdeal.main_arg0) = m ((c.tc : Thread Cert.OutProjLinesIdeal.nD Cert.OutProjLinesIdeal.τ).loc Cert.OutProjLinesIdeal.main_arg0)
      ∧ r.2.mem ((c.tc : Thread Cert.OutProjLinesIdeal.nD Cert.OutProjLinesIdeal.τ).loc Cert.OutProjLinesIdeal.main_arg1) = m ((c.tc : Thread Cert.OutProjLinesIdeal.nD Cert.OutProjLinesIdeal.τ).loc Cert.OutProjLinesIdeal.main_arg1)
      ∧ r.2.mem ((c.tc : Thread Cert.OutProjLinesIdeal.nD Cert.OutProjLinesIdeal.τ).loc Cert.OutProjLinesIdeal.main_arg2) = m ((c.tc : Thread Cert.OutProjLinesIdeal.nD Cert.OutProjLinesIdeal.τ).loc Cert.OutProjLinesIdeal.main_arg2))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInLinesIdeal [hGradInLinesIdeal : Cert.GradInLinesIdeal.Facts] : Prop :=
  ∀ (m : (ℓ : Loc Cert.GradInLinesIdeal.nD Cert.GradInLinesIdeal.τ Cert.GradInLinesIdeal.sig) → Buf (Elt Ideal) ℓ) (g : Dev Cert.GradInLinesIdeal.nD → PrngReg), Pre_GradInLinesIdeal m →
    θ_run (Cert.GradInLinesIdeal.defs (F := Ideal)) (onTc (τ := Cert.GradInLinesIdeal.τ) (Cert.GradInLinesIdeal.main (F := Ideal))) ⟨m, fun _ => 0, g⟩ (fun r => (∀ c : Dev Cert.GradInLinesIdeal.nD,
      r.2.mem ((c.tc : Thread Cert.GradInLinesIdeal.nD Cert.GradInLinesIdeal.τ).loc Cert.GradInLinesIdeal.main_arg0) = m ((c.tc : Thread Cert.GradInLinesIdeal.nD Cert.GradInLinesIdeal.τ).loc Cert.GradInLinesIdeal.main_arg0)
      ∧ r.2.mem ((c.tc : Thread Cert.GradInLinesIdeal.nD Cert.GradInLinesIdeal.τ).loc Cert.GradInLinesIdeal.main_arg1) = m ((c.tc : Thread Cert.GradInLinesIdeal.nD Cert.GradInLinesIdeal.τ).loc Cert.GradInLinesIdeal.main_arg1))
      ∧ r.2.sem = fun _ => 0)

def quiescent_GradGateUp [hGradGateUp : Cert.GradGateUp.Facts] : Prop :=
  ∀ (m : (ℓ : Loc Cert.GradGateUp.nD Cert.GradGateUp.τ Cert.GradGateUp.sig) → Buf (Elt Bits) ℓ) (g : Dev Cert.GradGateUp.nD → PrngReg), Pre_GradGateUp m →
    θ_run (Cert.GradGateUp.defs (F := Bits)) (onTc (τ := Cert.GradGateUp.τ) (Cert.GradGateUp.main (F := Bits))) ⟨m, fun _ => 0, g⟩ (fun r => (∀ c : Dev Cert.GradGateUp.nD,
      r.2.mem ((c.tc : Thread Cert.GradGateUp.nD Cert.GradGateUp.τ).loc Cert.GradGateUp.main_arg0) = m ((c.tc : Thread Cert.GradGateUp.nD Cert.GradGateUp.τ).loc Cert.GradGateUp.main_arg0)
      ∧ r.2.mem ((c.tc : Thread Cert.GradGateUp.nD Cert.GradGateUp.τ).loc Cert.GradGateUp.main_arg1) = m ((c.tc : Thread Cert.GradGateUp.nD Cert.GradGateUp.τ).loc Cert.GradGateUp.main_arg1))
      ∧ r.2.sem = fun _ => 0)

def quiescent_GradGateUpIdeal [hGradGateUpIdeal : Cert.GradGateUpIdeal.Facts] : Prop :=
  ∀ (m : (ℓ : Loc Cert.GradGateUpIdeal.nD Cert.GradGateUpIdeal.τ Cert.GradGateUpIdeal.sig) → Buf (Elt Ideal) ℓ) (g : Dev Cert.GradGateUpIdeal.nD → PrngReg), Pre_GradGateUpIdeal m →
    θ_run (Cert.GradGateUpIdeal.defs (F := Ideal)) (onTc (τ := Cert.GradGateUpIdeal.τ) (Cert.GradGateUpIdeal.main (F := Ideal))) ⟨m, fun _ => 0, g⟩ (fun r => (∀ c : Dev Cert.GradGateUpIdeal.nD,
      r.2.mem ((c.tc : Thread Cert.GradGateUpIdeal.nD Cert.GradGateUpIdeal.τ).loc Cert.GradGateUpIdeal.main_arg0) = m ((c.tc : Thread Cert.GradGateUpIdeal.nD Cert.GradGateUpIdeal.τ).loc Cert.GradGateUpIdeal.main_arg0)
      ∧ r.2.mem ((c.tc : Thread Cert.GradGateUpIdeal.nD Cert.GradGateUpIdeal.τ).loc Cert.GradGateUpIdeal.main_arg1) = m ((c.tc : Thread Cert.GradGateUpIdeal.nD Cert.GradGateUpIdeal.τ).loc Cert.GradGateUpIdeal.main_arg1))
      ∧ r.2.sem = fun _ => 0)

def quiescent_GradGateUpLinesIdeal [hGradGateUpLinesIdeal : Cert.GradGateUpLinesIdeal.Facts] : Prop :=
  ∀ (m : (ℓ : Loc Cert.GradGateUpLinesIdeal.nD Cert.GradGateUpLinesIdeal.τ Cert.GradGateUpLinesIdeal.sig) → Buf (Elt Ideal) ℓ) (g : Dev Cert.GradGateUpLinesIdeal.nD → PrngReg), Pre_GradGateUpLinesIdeal m →
    θ_run (Cert.GradGateUpLinesIdeal.defs (F := Ideal)) (onTc (τ := Cert.GradGateUpLinesIdeal.τ) (Cert.GradGateUpLinesIdeal.main (F := Ideal))) ⟨m, fun _ => 0, g⟩ (fun r => (∀ c : Dev Cert.GradGateUpLinesIdeal.nD,
      r.2.mem ((c.tc : Thread Cert.GradGateUpLinesIdeal.nD Cert.GradGateUpLinesIdeal.τ).loc Cert.GradGateUpLinesIdeal.main_arg0) = m ((c.tc : Thread Cert.GradGateUpLinesIdeal.nD Cert.GradGateUpLinesIdeal.τ).loc Cert.GradGateUpLinesIdeal.main_arg0)
      ∧ r.2.mem ((c.tc : Thread Cert.GradGateUpLinesIdeal.nD Cert.GradGateUpLinesIdeal.τ).loc Cert.GradGateUpLinesIdeal.main_arg1) = m ((c.tc : Thread Cert.GradGateUpLinesIdeal.nD Cert.GradGateUpLinesIdeal.τ).loc Cert.GradGateUpLinesIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownLinesIdeal [hGradDownLinesIdeal : Cert.GradDownLinesIdeal.Facts] : Prop :=
  ∀ (m : (ℓ : Loc Cert.GradDownLinesIdeal.nD Cert.GradDownLinesIdeal.τ Cert.GradDownLinesIdeal.sig) → Buf (Elt Ideal) ℓ) (g : Dev Cert.GradDownLinesIdeal.nD → PrngReg), Pre_GradDownLinesIdeal m →
    θ_run (Cert.GradDownLinesIdeal.defs (F := Ideal)) (onTc (τ := Cert.GradDownLinesIdeal.τ) (Cert.GradDownLinesIdeal.main (F := Ideal))) ⟨m, fun _ => 0, g⟩ (fun r => (∀ c : Dev Cert.GradDownLinesIdeal.nD,
      r.2.mem ((c.tc : Thread Cert.GradDownLinesIdeal.nD Cert.GradDownLinesIdeal.τ).loc Cert.GradDownLinesIdeal.main_arg0) = m ((c.tc : Thread Cert.GradDownLinesIdeal.nD Cert.GradDownLinesIdeal.τ).loc Cert.GradDownLinesIdeal.main_arg0)
      ∧ r.2.mem ((c.tc : Thread Cert.GradDownLinesIdeal.nD Cert.GradDownLinesIdeal.τ).loc Cert.GradDownLinesIdeal.main_arg1) = m ((c.tc : Thread Cert.GradDownLinesIdeal.nD Cert.GradDownLinesIdeal.τ).loc Cert.GradDownLinesIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutLinesIdeal [hGradOutLinesIdeal : Cert.GradOutLinesIdeal.Facts] : Prop :=
  ∀ (m : (ℓ : Loc Cert.GradOutLinesIdeal.nD Cert.GradOutLinesIdeal.τ Cert.GradOutLinesIdeal.sig) → Buf (Elt Ideal) ℓ) (g : Dev Cert.GradOutLinesIdeal.nD → PrngReg), Pre_GradOutLinesIdeal m →
    θ_run (Cert.GradOutLinesIdeal.defs (F := Ideal)) (onTc (τ := Cert.GradOutLinesIdeal.τ) (Cert.GradOutLinesIdeal.main (F := Ideal))) ⟨m, fun _ => 0, g⟩ (fun r => (∀ c : Dev Cert.GradOutLinesIdeal.nD,
      r.2.mem ((c.tc : Thread Cert.GradOutLinesIdeal.nD Cert.GradOutLinesIdeal.τ).loc Cert.GradOutLinesIdeal.main_arg0) = m ((c.tc : Thread Cert.GradOutLinesIdeal.nD Cert.GradOutLinesIdeal.τ).loc Cert.GradOutLinesIdeal.main_arg0)
      ∧ r.2.mem ((c.tc : Thread Cert.GradOutLinesIdeal.nD Cert.GradOutLinesIdeal.τ).loc Cert.GradOutLinesIdeal.main_arg1) = m ((c.tc : Thread Cert.GradOutLinesIdeal.nD Cert.GradOutLinesIdeal.τ).loc Cert.GradOutLinesIdeal.main_arg1))
      ∧ r.2.sem = fun _ => 0)

def quiescent_GradBranch [hGradBranch : Cert.GradBranch.Facts] : Prop :=
  ∀ (m : (ℓ : Loc Cert.GradBranch.nD Cert.GradBranch.τ Cert.GradBranch.sig) → Buf (Elt Bits) ℓ) (g : Dev Cert.GradBranch.nD → PrngReg), Pre_GradBranch m →
    θ_run (Cert.GradBranch.defs (F := Bits)) (onTc (τ := Cert.GradBranch.τ) (Cert.GradBranch.main (F := Bits))) ⟨m, fun _ => 0, g⟩ (fun r => (∀ c : Dev Cert.GradBranch.nD,
      r.2.mem ((c.tc : Thread Cert.GradBranch.nD Cert.GradBranch.τ).loc Cert.GradBranch.main_arg0) = m ((c.tc : Thread Cert.GradBranch.nD Cert.GradBranch.τ).loc Cert.GradBranch.main_arg0)
      ∧ r.2.mem ((c.tc : Thread Cert.GradBranch.nD Cert.GradBranch.τ).loc Cert.GradBranch.main_arg1) = m ((c.tc : Thread Cert.GradBranch.nD Cert.GradBranch.τ).loc Cert.GradBranch.main_arg1))
      ∧ r.2.sem = fun _ => 0)

def quiescent_GradBranchIdeal [hGradBranchIdeal : Cert.GradBranchIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg), Pre_GradBranchIdeal m →
    θ_run (Cert.GradBranchIdeal.defs (F := Ideal)) (onTc (τ := Cert.GradBranchIdeal.τ) (Cert.GradBranchIdeal.main (F := Ideal))) ⟨m, fun _ => 0, g⟩ (fun r => (∀ c : Dev Cert.GradBranchIdeal.nD,
      r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
      ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ r.2.sem = fun _ => 0)

def quiescent_GradBranchLinesIdeal [hGradBranchLinesIdeal : Cert.GradBranchLinesIdeal.Facts] : Prop :=
  ∀ (m : (ℓ : Loc Cert.GradBranchLinesIdeal.nD Cert.GradBranchLinesIdeal.τ Cert.GradBranchLinesIdeal.sig) → Buf (Elt Ideal) ℓ) (g : Dev Cert.GradBranchLinesIdeal.nD → PrngReg), Pre_GradBranchLinesIdeal m →
    θ_run (Cert.GradBranchLinesIdeal.defs (F := Ideal)) (onTc (τ := Cert.GradBranchLinesIdeal.τ) (Cert.GradBranchLinesIdeal.main (F := Ideal))) ⟨m, fun _ => 0, g⟩ (fun r => (∀ c : Dev Cert.GradBranchLinesIdeal.nD,
      r.2.mem ((c.tc : Thread Cert.GradBranchLinesIdeal.nD Cert.GradBranchLinesIdeal.τ).loc Cert.GradBranchLinesIdeal.main_arg0) = m ((c.tc : Thread Cert.GradBranchLinesIdeal.nD Cert.GradBranchLinesIdeal.τ).loc Cert.GradBranchLinesIdeal.main_arg0)
      ∧ r.2.mem ((c.tc : Thread Cert.GradBranchLinesIdeal.nD Cert.GradBranchLinesIdeal.τ).loc Cert.GradBranchLinesIdeal.main_arg1) = m ((c.tc : Thread Cert.GradBranchLinesIdeal.nD Cert.GradBranchLinesIdeal.τ).loc Cert.GradBranchLinesIdeal.main_arg1))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ r.2.sem = fun _ => 0)

def quiescent_GradFfnLinesIdeal [hGradFfnLinesIdeal : Cert.GradFfnLinesIdeal.Facts] : Prop :=
  ∀ (m : (ℓ : Loc Cert.GradFfnLinesIdeal.nD Cert.GradFfnLinesIdeal.τ Cert.GradFfnLinesIdeal.sig) → Buf (Elt Ideal) ℓ) (g : Dev Cert.GradFfnLinesIdeal.nD → PrngReg), Pre_GradFfnLinesIdeal m →
    θ_run (Cert.GradFfnLinesIdeal.defs (F := Ideal)) (onTc (τ := Cert.GradFfnLinesIdeal.τ) (Cert.GradFfnLinesIdeal.main (F := Ideal))) ⟨m, fun _ => 0, g⟩ (fun r => (∀ c : Dev Cert.GradFfnLinesIdeal.nD,
      r.2.mem ((c.tc : Thread Cert.GradFfnLinesIdeal.nD Cert.GradFfnLinesIdeal.τ).loc Cert.GradFfnLinesIdeal.main_arg0) = m ((c.tc : Thread Cert.GradFfnLinesIdeal.nD Cert.GradFfnLinesIdeal.τ).loc Cert.GradFfnLinesIdeal.main_arg0)
      ∧ r.2.mem ((c.tc : Thread Cert.GradFfnLinesIdeal.nD Cert.GradFfnLinesIdeal.τ).loc Cert.GradFfnLinesIdeal.main_arg1) = m ((c.tc : Thread Cert.GradFfnLinesIdeal.nD Cert.GradFfnLinesIdeal.τ).loc Cert.GradFfnLinesIdeal.main_arg1))
      ∧ r.2.sem = fun _ => 0)

def quiescent_GradHidden [hGradHidden : Cert.GradHidden.Facts] : Prop :=
  ∀ (m : (ℓ : Loc Cert.GradHidden.nD Cert.GradHidden.τ Cert.GradHidden.sig) → Buf (Elt Bits) ℓ) (g : Dev Cert.GradHidden.nD → PrngReg), Pre_GradHidden m →
    θ_run (Cert.GradHidden.defs (F := Bits)) (onTc (τ := Cert.GradHidden.τ) (Cert.GradHidden.main (F := Bits))) ⟨m, fun _ => 0, g⟩ (fun r => (∀ c : Dev Cert.GradHidden.nD,
      r.2.mem ((c.tc : Thread Cert.GradHidden.nD Cert.GradHidden.τ).loc Cert.GradHidden.main_arg0) = m ((c.tc : Thread Cert.GradHidden.nD Cert.GradHidden.τ).loc Cert.GradHidden.main_arg0)
      ∧ r.2.mem ((c.tc : Thread Cert.GradHidden.nD Cert.GradHidden.τ).loc Cert.GradHidden.main_arg1) = m ((c.tc : Thread Cert.GradHidden.nD Cert.GradHidden.τ).loc Cert.GradHidden.main_arg1))
      ∧ r.2.sem = fun _ => 0)

def quiescent_GradHiddenIdeal [hGradHiddenIdeal : Cert.GradHiddenIdeal.Facts] : Prop :=
  ∀ (m : (ℓ : Loc Cert.GradHiddenIdeal.nD Cert.GradHiddenIdeal.τ Cert.GradHiddenIdeal.sig) → Buf (Elt Ideal) ℓ) (g : Dev Cert.GradHiddenIdeal.nD → PrngReg), Pre_GradHiddenIdeal m →
    θ_run (Cert.GradHiddenIdeal.defs (F := Ideal)) (onTc (τ := Cert.GradHiddenIdeal.τ) (Cert.GradHiddenIdeal.main (F := Ideal))) ⟨m, fun _ => 0, g⟩ (fun r => (∀ c : Dev Cert.GradHiddenIdeal.nD,
      r.2.mem ((c.tc : Thread Cert.GradHiddenIdeal.nD Cert.GradHiddenIdeal.τ).loc Cert.GradHiddenIdeal.main_arg0) = m ((c.tc : Thread Cert.GradHiddenIdeal.nD Cert.GradHiddenIdeal.τ).loc Cert.GradHiddenIdeal.main_arg0)
      ∧ r.2.mem ((c.tc : Thread Cert.GradHiddenIdeal.nD Cert.GradHiddenIdeal.τ).loc Cert.GradHiddenIdeal.main_arg1) = m ((c.tc : Thread Cert.GradHiddenIdeal.nD Cert.GradHiddenIdeal.τ).loc Cert.GradHiddenIdeal.main_arg1))
      ∧ r.2.sem = fun _ => 0)

def quiescent_GradHiddenLinesIdeal [hGradHiddenLinesIdeal : Cert.GradHiddenLinesIdeal.Facts] : Prop :=
  ∀ (m : (ℓ : Loc Cert.GradHiddenLinesIdeal.nD Cert.GradHiddenLinesIdeal.τ Cert.GradHiddenLinesIdeal.sig) → Buf (Elt Ideal) ℓ) (g : Dev Cert.GradHiddenLinesIdeal.nD → PrngReg), Pre_GradHiddenLinesIdeal m →
    θ_run (Cert.GradHiddenLinesIdeal.defs (F := Ideal)) (onTc (τ := Cert.GradHiddenLinesIdeal.τ) (Cert.GradHiddenLinesIdeal.main (F := Ideal))) ⟨m, fun _ => 0, g⟩ (fun r => (∀ c : Dev Cert.GradHiddenLinesIdeal.nD,
      r.2.mem ((c.tc : Thread Cert.GradHiddenLinesIdeal.nD Cert.GradHiddenLinesIdeal.τ).loc Cert.GradHiddenLinesIdeal.main_arg0) = m ((c.tc : Thread Cert.GradHiddenLinesIdeal.nD Cert.GradHiddenLinesIdeal.τ).loc Cert.GradHiddenLinesIdeal.main_arg0)
      ∧ r.2.mem ((c.tc : Thread Cert.GradHiddenLinesIdeal.nD Cert.GradHiddenLinesIdeal.τ).loc Cert.GradHiddenLinesIdeal.main_arg1) = m ((c.tc : Thread Cert.GradHiddenLinesIdeal.nD Cert.GradHiddenLinesIdeal.τ).loc Cert.GradHiddenLinesIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownLinesIdeal [hDownLinesIdeal : Cert.DownLinesIdeal.Facts] : Prop :=
  ∀ (m : (ℓ : Loc Cert.DownLinesIdeal.nD Cert.DownLinesIdeal.τ Cert.DownLinesIdeal.sig) → Buf (Elt Ideal) ℓ) (g : Dev Cert.DownLinesIdeal.nD → PrngReg), Pre_DownLinesIdeal m →
    θ_run (Cert.DownLinesIdeal.defs (F := Ideal)) (onTc (τ := Cert.DownLinesIdeal.τ) (Cert.DownLinesIdeal.main (F := Ideal))) ⟨m, fun _ => 0, g⟩ (fun r => (∀ c : Dev Cert.DownLinesIdeal.nD,
      r.2.mem ((c.tc : Thread Cert.DownLinesIdeal.nD Cert.DownLinesIdeal.τ).loc Cert.DownLinesIdeal.main_arg0) = m ((c.tc : Thread Cert.DownLinesIdeal.nD Cert.DownLinesIdeal.τ).loc Cert.DownLinesIdeal.main_arg0)
      ∧ r.2.mem ((c.tc : Thread Cert.DownLinesIdeal.nD Cert.DownLinesIdeal.τ).loc Cert.DownLinesIdeal.main_arg1) = m ((c.tc : Thread Cert.DownLinesIdeal.nD Cert.DownLinesIdeal.τ).loc Cert.DownLinesIdeal.main_arg1)
      ∧ r.2.mem ((c.tc : Thread Cert.DownLinesIdeal.nD Cert.DownLinesIdeal.τ).loc Cert.DownLinesIdeal.main_arg2) = m ((c.tc : Thread Cert.DownLinesIdeal.nD Cert.DownLinesIdeal.τ).loc Cert.DownLinesIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_scores [hAttentionIdeal : Cert.AttentionIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionLinesIdeal [hAttentionLinesIdeal : Cert.AttentionLinesIdeal.Facts] : Prop :=
  ∀ (m : (ℓ : Loc Cert.AttentionLinesIdeal.nD Cert.AttentionLinesIdeal.τ Cert.AttentionLinesIdeal.sig) → Buf (Elt Ideal) ℓ) (g : Dev Cert.AttentionLinesIdeal.nD → PrngReg), Pre_AttentionLinesIdeal m →
    θ_run (Cert.AttentionLinesIdeal.defs (F := Ideal)) (onTc (τ := Cert.AttentionLinesIdeal.τ) (Cert.AttentionLinesIdeal.main (F := Ideal))) ⟨m, fun _ => 0, g⟩ (fun r => (∀ c : Dev Cert.AttentionLinesIdeal.nD,
      r.2.mem ((c.tc : Thread Cert.AttentionLinesIdeal.nD Cert.AttentionLinesIdeal.τ).loc Cert.AttentionLinesIdeal.main_arg0) = m ((c.tc : Thread Cert.AttentionLinesIdeal.nD Cert.AttentionLinesIdeal.τ).loc Cert.AttentionLinesIdeal.main_arg0)
      ∧ r.2.mem ((c.tc : Thread Cert.AttentionLinesIdeal.nD Cert.AttentionLinesIdeal.τ).loc Cert.AttentionLinesIdeal.main_arg1) = m ((c.tc : Thread Cert.AttentionLinesIdeal.nD Cert.AttentionLinesIdeal.τ).loc Cert.AttentionLinesIdeal.main_arg1)
      ∧ r.2.mem ((c.tc : Thread Cert.AttentionLinesIdeal.nD Cert.AttentionLinesIdeal.τ).loc Cert.AttentionLinesIdeal.main_arg2) = m ((c.tc : Thread Cert.AttentionLinesIdeal.nD Cert.AttentionLinesIdeal.τ).loc Cert.AttentionLinesIdeal.main_arg2))
      ∧ r.2.sem = fun _ => 0)

def quiescent_AttentionLinesIdeal_pre_finite_scores [hAttentionLinesIdeal : Cert.AttentionLinesIdeal.Facts] [hPre_finite_scores : Cert.Pre_finite_scores.Facts] : Prop :=
  ∀ (m : (ℓ : Loc Cert.AttentionLinesIdeal.nD Cert.AttentionLinesIdeal.τ Cert.AttentionLinesIdeal.sig) → Buf (Elt Ideal) ℓ) (g : Dev Cert.AttentionLinesIdeal.nD → PrngReg), Pre_AttentionLinesIdeal_finite_scores m →
    θ_run (Cert.AttentionLinesIdeal.defs (F := Ideal)) (onTc (τ := Cert.AttentionLinesIdeal.τ) (Cert.AttentionLinesIdeal.main (F := Ideal))) ⟨m, fun _ => 0, g⟩ (fun r => (∀ c : Dev Cert.AttentionLinesIdeal.nD,
      r.2.mem ((c.tc : Thread Cert.AttentionLinesIdeal.nD Cert.AttentionLinesIdeal.τ).loc Cert.AttentionLinesIdeal.main_arg0) = m ((c.tc : Thread Cert.AttentionLinesIdeal.nD Cert.AttentionLinesIdeal.τ).loc Cert.AttentionLinesIdeal.main_arg0)
      ∧ r.2.mem ((c.tc : Thread Cert.AttentionLinesIdeal.nD Cert.AttentionLinesIdeal.τ).loc Cert.AttentionLinesIdeal.main_arg1) = m ((c.tc : Thread Cert.AttentionLinesIdeal.nD Cert.AttentionLinesIdeal.τ).loc Cert.AttentionLinesIdeal.main_arg1)
      ∧ r.2.mem ((c.tc : Thread Cert.AttentionLinesIdeal.nD Cert.AttentionLinesIdeal.τ).loc Cert.AttentionLinesIdeal.main_arg2) = m ((c.tc : Thread Cert.AttentionLinesIdeal.nD Cert.AttentionLinesIdeal.τ).loc Cert.AttentionLinesIdeal.main_arg2))
      ∧ r.2.sem = fun _ => 0)

def quiescent_GradMerge [hGradMerge : Cert.GradMerge.Facts] : Prop :=
  ∀ (m : (ℓ : Loc Cert.GradMerge.nD Cert.GradMerge.τ Cert.GradMerge.sig) → Buf (Elt Bits) ℓ) (g : Dev Cert.GradMerge.nD → PrngReg), Pre_GradMerge m →
    θ_run (Cert.GradMerge.defs (F := Bits)) (onTc (τ := Cert.GradMerge.τ) (Cert.GradMerge.main (F := Bits))) ⟨m, fun _ => 0, g⟩ (fun r => (∀ c : Dev Cert.GradMerge.nD,
      r.2.mem ((c.tc : Thread Cert.GradMerge.nD Cert.GradMerge.τ).loc Cert.GradMerge.main_arg0) = m ((c.tc : Thread Cert.GradMerge.nD Cert.GradMerge.τ).loc Cert.GradMerge.main_arg0)
      ∧ r.2.mem ((c.tc : Thread Cert.GradMerge.nD Cert.GradMerge.τ).loc Cert.GradMerge.main_arg1) = m ((c.tc : Thread Cert.GradMerge.nD Cert.GradMerge.τ).loc Cert.GradMerge.main_arg1)
      ∧ r.2.mem ((c.tc : Thread Cert.GradMerge.nD Cert.GradMerge.τ).loc Cert.GradMerge.main_arg2) = m ((c.tc : Thread Cert.GradMerge.nD Cert.GradMerge.τ).loc Cert.GradMerge.main_arg2)
      ∧ r.2.mem ((c.tc : Thread Cert.GradMerge.nD Cert.GradMerge.τ).loc Cert.GradMerge.main_arg3) = m ((c.tc : Thread Cert.GradMerge.nD Cert.GradMerge.τ).loc Cert.GradMerge.main_arg3)
      ∧ r.2.mem ((c.tc : Thread Cert.GradMerge.nD Cert.GradMerge.τ).loc Cert.GradMerge.main_arg4) = m ((c.tc : Thread Cert.GradMerge.nD Cert.GradMerge.τ).loc Cert.GradMerge.main_arg4)
      ∧ r.2.mem ((c.tc : Thread Cert.GradMerge.nD Cert.GradMerge.τ).loc Cert.GradMerge.main_arg5) = m ((c.tc : Thread Cert.GradMerge.nD Cert.GradMerge.τ).loc Cert.GradMerge.main_arg5)
      ∧ r.2.mem ((c.tc : Thread Cert.GradMerge.nD Cert.GradMerge.τ).loc Cert.GradMerge.main_arg6) = m ((c.tc : Thread Cert.GradMerge.nD Cert.GradMerge.τ).loc Cert.GradMerge.main_arg6))
      ∧ r.2.sem = fun _ => 0)

def quiescent_GradMergeIdeal [hGradMergeIdeal : Cert.GradMergeIdeal.Facts] : Prop :=
  ∀ (m : (ℓ : Loc Cert.GradMergeIdeal.nD Cert.GradMergeIdeal.τ Cert.GradMergeIdeal.sig) → Buf (Elt Ideal) ℓ) (g : Dev Cert.GradMergeIdeal.nD → PrngReg), Pre_GradMergeIdeal m →
    θ_run (Cert.GradMergeIdeal.defs (F := Ideal)) (onTc (τ := Cert.GradMergeIdeal.τ) (Cert.GradMergeIdeal.main (F := Ideal))) ⟨m, fun _ => 0, g⟩ (fun r => (∀ c : Dev Cert.GradMergeIdeal.nD,
      r.2.mem ((c.tc : Thread Cert.GradMergeIdeal.nD Cert.GradMergeIdeal.τ).loc Cert.GradMergeIdeal.main_arg0) = m ((c.tc : Thread Cert.GradMergeIdeal.nD Cert.GradMergeIdeal.τ).loc Cert.GradMergeIdeal.main_arg0)
      ∧ r.2.mem ((c.tc : Thread Cert.GradMergeIdeal.nD Cert.GradMergeIdeal.τ).loc Cert.GradMergeIdeal.main_arg1) = m ((c.tc : Thread Cert.GradMergeIdeal.nD Cert.GradMergeIdeal.τ).loc Cert.GradMergeIdeal.main_arg1)
      ∧ r.2.mem ((c.tc : Thread Cert.GradMergeIdeal.nD Cert.GradMergeIdeal.τ).loc Cert.GradMergeIdeal.main_arg2) = m ((c.tc : Thread Cert.GradMergeIdeal.nD Cert.GradMergeIdeal.τ).loc Cert.GradMergeIdeal.main_arg2)
      ∧ r.2.mem ((c.tc : Thread Cert.GradMergeIdeal.nD Cert.GradMergeIdeal.τ).loc Cert.GradMergeIdeal.main_arg3) = m ((c.tc : Thread Cert.GradMergeIdeal.nD Cert.GradMergeIdeal.τ).loc Cert.GradMergeIdeal.main_arg3)
      ∧ r.2.mem ((c.tc : Thread Cert.GradMergeIdeal.nD Cert.GradMergeIdeal.τ).loc Cert.GradMergeIdeal.main_arg4) = m ((c.tc : Thread Cert.GradMergeIdeal.nD Cert.GradMergeIdeal.τ).loc Cert.GradMergeIdeal.main_arg4)
      ∧ r.2.mem ((c.tc : Thread Cert.GradMergeIdeal.nD Cert.GradMergeIdeal.τ).loc Cert.GradMergeIdeal.main_arg5) = m ((c.tc : Thread Cert.GradMergeIdeal.nD Cert.GradMergeIdeal.τ).loc Cert.GradMergeIdeal.main_arg5)
      ∧ r.2.mem ((c.tc : Thread Cert.GradMergeIdeal.nD Cert.GradMergeIdeal.τ).loc Cert.GradMergeIdeal.main_arg6) = m ((c.tc : Thread Cert.GradMergeIdeal.nD Cert.GradMergeIdeal.τ).loc Cert.GradMergeIdeal.main_arg6))
      ∧ r.2.sem = fun _ => 0)

def quiescent_GradMergeLinesIdeal [hGradMergeLinesIdeal : Cert.GradMergeLinesIdeal.Facts] : Prop :=
  ∀ (m : (ℓ : Loc Cert.GradMergeLinesIdeal.nD Cert.GradMergeLinesIdeal.τ Cert.GradMergeLinesIdeal.sig) → Buf (Elt Ideal) ℓ) (g : Dev Cert.GradMergeLinesIdeal.nD → PrngReg), Pre_GradMergeLinesIdeal m →
    θ_run (Cert.GradMergeLinesIdeal.defs (F := Ideal)) (onTc (τ := Cert.GradMergeLinesIdeal.τ) (Cert.GradMergeLinesIdeal.main (F := Ideal))) ⟨m, fun _ => 0, g⟩ (fun r => (∀ c : Dev Cert.GradMergeLinesIdeal.nD,
      r.2.mem ((c.tc : Thread Cert.GradMergeLinesIdeal.nD Cert.GradMergeLinesIdeal.τ).loc Cert.GradMergeLinesIdeal.main_arg0) = m ((c.tc : Thread Cert.GradMergeLinesIdeal.nD Cert.GradMergeLinesIdeal.τ).loc Cert.GradMergeLinesIdeal.main_arg0)
      ∧ r.2.mem ((c.tc : Thread Cert.GradMergeLinesIdeal.nD Cert.GradMergeLinesIdeal.τ).loc Cert.GradMergeLinesIdeal.main_arg1) = m ((c.tc : Thread Cert.GradMergeLinesIdeal.nD Cert.GradMergeLinesIdeal.τ).loc Cert.GradMergeLinesIdeal.main_arg1)
      ∧ r.2.mem ((c.tc : Thread Cert.GradMergeLinesIdeal.nD Cert.GradMergeLinesIdeal.τ).loc Cert.GradMergeLinesIdeal.main_arg2) = m ((c.tc : Thread Cert.GradMergeLinesIdeal.nD Cert.GradMergeLinesIdeal.τ).loc Cert.GradMergeLinesIdeal.main_arg2)
      ∧ r.2.mem ((c.tc : Thread Cert.GradMergeLinesIdeal.nD Cert.GradMergeLinesIdeal.τ).loc Cert.GradMergeLinesIdeal.main_arg3) = m ((c.tc : Thread Cert.GradMergeLinesIdeal.nD Cert.GradMergeLinesIdeal.τ).loc Cert.GradMergeLinesIdeal.main_arg3)
      ∧ r.2.mem ((c.tc : Thread Cert.GradMergeLinesIdeal.nD Cert.GradMergeLinesIdeal.τ).loc Cert.GradMergeLinesIdeal.main_arg4) = m ((c.tc : Thread Cert.GradMergeLinesIdeal.nD Cert.GradMergeLinesIdeal.τ).loc Cert.GradMergeLinesIdeal.main_arg4)
      ∧ r.2.mem ((c.tc : Thread Cert.GradMergeLinesIdeal.nD Cert.GradMergeLinesIdeal.τ).loc Cert.GradMergeLinesIdeal.main_arg5) = m ((c.tc : Thread Cert.GradMergeLinesIdeal.nD Cert.GradMergeLinesIdeal.τ).loc Cert.GradMergeLinesIdeal.main_arg5)
      ∧ r.2.mem ((c.tc : Thread Cert.GradMergeLinesIdeal.nD Cert.GradMergeLinesIdeal.τ).loc Cert.GradMergeLinesIdeal.main_arg6) = m ((c.tc : Thread Cert.GradMergeLinesIdeal.nD Cert.GradMergeLinesIdeal.τ).loc Cert.GradMergeLinesIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeLinesIdeal [hMergeLinesIdeal : Cert.MergeLinesIdeal.Facts] : Prop :=
  ∀ (m : (ℓ : Loc Cert.MergeLinesIdeal.nD Cert.MergeLinesIdeal.τ Cert.MergeLinesIdeal.sig) → Buf (Elt Ideal) ℓ) (g : Dev Cert.MergeLinesIdeal.nD → PrngReg), Pre_MergeLinesIdeal m →
    θ_run (Cert.MergeLinesIdeal.defs (F := Ideal)) (onTc (τ := Cert.MergeLinesIdeal.τ) (Cert.MergeLinesIdeal.main (F := Ideal))) ⟨m, fun _ => 0, g⟩ (fun r => (∀ c : Dev Cert.MergeLinesIdeal.nD,
      r.2.mem ((c.tc : Thread Cert.MergeLinesIdeal.nD Cert.MergeLinesIdeal.τ).loc Cert.MergeLinesIdeal.main_arg0) = m ((c.tc : Thread Cert.MergeLinesIdeal.nD Cert.MergeLinesIdeal.τ).loc Cert.MergeLinesIdeal.main_arg0)
      ∧ r.2.mem ((c.tc : Thread Cert.MergeLinesIdeal.nD Cert.MergeLinesIdeal.τ).loc Cert.MergeLinesIdeal.main_arg1) = m ((c.tc : Thread Cert.MergeLinesIdeal.nD Cert.MergeLinesIdeal.τ).loc Cert.MergeLinesIdeal.main_arg1)
      ∧ r.2.mem ((c.tc : Thread Cert.MergeLinesIdeal.nD Cert.MergeLinesIdeal.τ).loc Cert.MergeLinesIdeal.main_arg2) = m ((c.tc : Thread Cert.MergeLinesIdeal.nD Cert.MergeLinesIdeal.τ).loc Cert.MergeLinesIdeal.main_arg2)
      ∧ r.2.mem ((c.tc : Thread Cert.MergeLinesIdeal.nD Cert.MergeLinesIdeal.τ).loc Cert.MergeLinesIdeal.main_arg3) = m ((c.tc : Thread Cert.MergeLinesIdeal.nD Cert.MergeLinesIdeal.τ).loc Cert.MergeLinesIdeal.main_arg3)
      ∧ r.2.mem ((c.tc : Thread Cert.MergeLinesIdeal.nD Cert.MergeLinesIdeal.τ).loc Cert.MergeLinesIdeal.main_arg4) = m ((c.tc : Thread Cert.MergeLinesIdeal.nD Cert.MergeLinesIdeal.τ).loc Cert.MergeLinesIdeal.main_arg4)
      ∧ r.2.mem ((c.tc : Thread Cert.MergeLinesIdeal.nD Cert.MergeLinesIdeal.τ).loc Cert.MergeLinesIdeal.main_arg5) = m ((c.tc : Thread Cert.MergeLinesIdeal.nD Cert.MergeLinesIdeal.τ).loc Cert.MergeLinesIdeal.main_arg5))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluLinesIdeal [hSwigluLinesIdeal : Cert.SwigluLinesIdeal.Facts] : Prop :=
  ∀ (m : (ℓ : Loc Cert.SwigluLinesIdeal.nD Cert.SwigluLinesIdeal.τ Cert.SwigluLinesIdeal.sig) → Buf (Elt Ideal) ℓ) (g : Dev Cert.SwigluLinesIdeal.nD → PrngReg), Pre_SwigluLinesIdeal m →
    θ_run (Cert.SwigluLinesIdeal.defs (F := Ideal)) (onTc (τ := Cert.SwigluLinesIdeal.τ) (Cert.SwigluLinesIdeal.main (F := Ideal))) ⟨m, fun _ => 0, g⟩ (fun r => (∀ c : Dev Cert.SwigluLinesIdeal.nD,
      r.2.mem ((c.tc : Thread Cert.SwigluLinesIdeal.nD Cert.SwigluLinesIdeal.τ).loc Cert.SwigluLinesIdeal.main_arg0) = m ((c.tc : Thread Cert.SwigluLinesIdeal.nD Cert.SwigluLinesIdeal.τ).loc Cert.SwigluLinesIdeal.main_arg0))
      ∧ r.2.sem = fun _ => 0)

def quiescent_GradSwiglu [hGradSwiglu : Cert.GradSwiglu.Facts] : Prop :=
  ∀ (m : (ℓ : Loc Cert.GradSwiglu.nD Cert.GradSwiglu.τ Cert.GradSwiglu.sig) → Buf (Elt Bits) ℓ) (g : Dev Cert.GradSwiglu.nD → PrngReg), Pre_GradSwiglu m →
    θ_run (Cert.GradSwiglu.defs (F := Bits)) (onTc (τ := Cert.GradSwiglu.τ) (Cert.GradSwiglu.main (F := Bits))) ⟨m, fun _ => 0, g⟩ (fun r => (∀ c : Dev Cert.GradSwiglu.nD,
      r.2.mem ((c.tc : Thread Cert.GradSwiglu.nD Cert.GradSwiglu.τ).loc Cert.GradSwiglu.main_arg0) = m ((c.tc : Thread Cert.GradSwiglu.nD Cert.GradSwiglu.τ).loc Cert.GradSwiglu.main_arg0)
      ∧ r.2.mem ((c.tc : Thread Cert.GradSwiglu.nD Cert.GradSwiglu.τ).loc Cert.GradSwiglu.main_arg1) = m ((c.tc : Thread Cert.GradSwiglu.nD Cert.GradSwiglu.τ).loc Cert.GradSwiglu.main_arg1))
      ∧ r.2.sem = fun _ => 0)

def quiescent_GradSwigluIdeal [hGradSwigluIdeal : Cert.GradSwigluIdeal.Facts] : Prop :=
  ∀ (m : (ℓ : Loc Cert.GradSwigluIdeal.nD Cert.GradSwigluIdeal.τ Cert.GradSwigluIdeal.sig) → Buf (Elt Ideal) ℓ) (g : Dev Cert.GradSwigluIdeal.nD → PrngReg), Pre_GradSwigluIdeal m →
    θ_run (Cert.GradSwigluIdeal.defs (F := Ideal)) (onTc (τ := Cert.GradSwigluIdeal.τ) (Cert.GradSwigluIdeal.main (F := Ideal))) ⟨m, fun _ => 0, g⟩ (fun r => (∀ c : Dev Cert.GradSwigluIdeal.nD,
      r.2.mem ((c.tc : Thread Cert.GradSwigluIdeal.nD Cert.GradSwigluIdeal.τ).loc Cert.GradSwigluIdeal.main_arg0) = m ((c.tc : Thread Cert.GradSwigluIdeal.nD Cert.GradSwigluIdeal.τ).loc Cert.GradSwigluIdeal.main_arg0)
      ∧ r.2.mem ((c.tc : Thread Cert.GradSwigluIdeal.nD Cert.GradSwigluIdeal.τ).loc Cert.GradSwigluIdeal.main_arg1) = m ((c.tc : Thread Cert.GradSwigluIdeal.nD Cert.GradSwigluIdeal.τ).loc Cert.GradSwigluIdeal.main_arg1))
      ∧ r.2.sem = fun _ => 0)

def quiescent_GradSwigluIdeal_pre_finite_up [hGradSwigluIdeal : Cert.GradSwigluIdeal.Facts] [hPre_finite_up : Cert.Pre_finite_up.Facts] : Prop :=
  ∀ (m : (ℓ : Loc Cert.GradSwigluIdeal.nD Cert.GradSwigluIdeal.τ Cert.GradSwigluIdeal.sig) → Buf (Elt Ideal) ℓ) (g : Dev Cert.GradSwigluIdeal.nD → PrngReg), Pre_GradSwigluIdeal_finite_up m →
    θ_run (Cert.GradSwigluIdeal.defs (F := Ideal)) (onTc (τ := Cert.GradSwigluIdeal.τ) (Cert.GradSwigluIdeal.main (F := Ideal))) ⟨m, fun _ => 0, g⟩ (fun r => (∀ c : Dev Cert.GradSwigluIdeal.nD,
      r.2.mem ((c.tc : Thread Cert.GradSwigluIdeal.nD Cert.GradSwigluIdeal.τ).loc Cert.GradSwigluIdeal.main_arg0) = m ((c.tc : Thread Cert.GradSwigluIdeal.nD Cert.GradSwigluIdeal.τ).loc Cert.GradSwigluIdeal.main_arg0)
      ∧ r.2.mem ((c.tc : Thread Cert.GradSwigluIdeal.nD Cert.GradSwigluIdeal.τ).loc Cert.GradSwigluIdeal.main_arg1) = m ((c.tc : Thread Cert.GradSwigluIdeal.nD Cert.GradSwigluIdeal.τ).loc Cert.GradSwigluIdeal.main_arg1))
      ∧ r.2.sem = fun _ => 0)

def quiescent_GradSwigluLinesIdeal [hGradSwigluLinesIdeal : Cert.GradSwigluLinesIdeal.Facts] : Prop :=
  ∀ (m : (ℓ : Loc Cert.GradSwigluLinesIdeal.nD Cert.GradSwigluLinesIdeal.τ Cert.GradSwigluLinesIdeal.sig) → Buf (Elt Ideal) ℓ) (g : Dev Cert.GradSwigluLinesIdeal.nD → PrngReg), Pre_GradSwigluLinesIdeal m →
    θ_run (Cert.GradSwigluLinesIdeal.defs (F := Ideal)) (onTc (τ := Cert.GradSwigluLinesIdeal.τ) (Cert.GradSwigluLinesIdeal.main (F := Ideal))) ⟨m, fun _ => 0, g⟩ (fun r => (∀ c : Dev Cert.GradSwigluLinesIdeal.nD,
      r.2.mem ((c.tc : Thread Cert.GradSwigluLinesIdeal.nD Cert.GradSwigluLinesIdeal.τ).loc Cert.GradSwigluLinesIdeal.main_arg0) = m ((c.tc : Thread Cert.GradSwigluLinesIdeal.nD Cert.GradSwigluLinesIdeal.τ).loc Cert.GradSwigluLinesIdeal.main_arg0)
      ∧ r.2.mem ((c.tc : Thread Cert.GradSwigluLinesIdeal.nD Cert.GradSwigluLinesIdeal.τ).loc Cert.GradSwigluLinesIdeal.main_arg1) = m ((c.tc : Thread Cert.GradSwigluLinesIdeal.nD Cert.GradSwigluLinesIdeal.τ).loc Cert.GradSwigluLinesIdeal.main_arg1))
      ∧ r.2.sem = fun _ => 0)

def quiescent_GradSwigluLinesIdeal_pre_finite_up [hGradSwigluLinesIdeal : Cert.GradSwigluLinesIdeal.Facts] [hPre_finite_up : Cert.Pre_finite_up.Facts] : Prop :=
  ∀ (m : (ℓ : Loc Cert.GradSwigluLinesIdeal.nD Cert.GradSwigluLinesIdeal.τ Cert.GradSwigluLinesIdeal.sig) → Buf (Elt Ideal) ℓ) (g : Dev Cert.GradSwigluLinesIdeal.nD → PrngReg), Pre_GradSwigluLinesIdeal_finite_up m →
    θ_run (Cert.GradSwigluLinesIdeal.defs (F := Ideal)) (onTc (τ := Cert.GradSwigluLinesIdeal.τ) (Cert.GradSwigluLinesIdeal.main (F := Ideal))) ⟨m, fun _ => 0, g⟩ (fun r => (∀ c : Dev Cert.GradSwigluLinesIdeal.nD,
      r.2.mem ((c.tc : Thread Cert.GradSwigluLinesIdeal.nD Cert.GradSwigluLinesIdeal.τ).loc Cert.GradSwigluLinesIdeal.main_arg0) = m ((c.tc : Thread Cert.GradSwigluLinesIdeal.nD Cert.GradSwigluLinesIdeal.τ).loc Cert.GradSwigluLinesIdeal.main_arg0)
      ∧ r.2.mem ((c.tc : Thread Cert.GradSwigluLinesIdeal.nD Cert.GradSwigluLinesIdeal.τ).loc Cert.GradSwigluLinesIdeal.main_arg1) = m ((c.tc : Thread Cert.GradSwigluLinesIdeal.nD Cert.GradSwigluLinesIdeal.τ).loc Cert.GradSwigluLinesIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvLinesIdeal [hConvLinesIdeal : Cert.ConvLinesIdeal.Facts] : Prop :=
  ∀ (m : (ℓ : Loc Cert.ConvLinesIdeal.nD Cert.ConvLinesIdeal.τ Cert.ConvLinesIdeal.sig) → Buf (Elt Ideal) ℓ) (g : Dev Cert.ConvLinesIdeal.nD → PrngReg), Pre_ConvLinesIdeal m →
    θ_run (Cert.ConvLinesIdeal.defs (F := Ideal)) (onTc (τ := Cert.ConvLinesIdeal.τ) (Cert.ConvLinesIdeal.main (F := Ideal))) ⟨m, fun _ => 0, g⟩ (fun r => (∀ c : Dev Cert.ConvLinesIdeal.nD,
      r.2.mem ((c.tc : Thread Cert.ConvLinesIdeal.nD Cert.ConvLinesIdeal.τ).loc Cert.ConvLinesIdeal.main_arg0) = m ((c.tc : Thread Cert.ConvLinesIdeal.nD Cert.ConvLinesIdeal.τ).loc Cert.ConvLinesIdeal.main_arg0)
      ∧ r.2.mem ((c.tc : Thread Cert.ConvLinesIdeal.nD Cert.ConvLinesIdeal.τ).loc Cert.ConvLinesIdeal.main_arg1) = m ((c.tc : Thread Cert.ConvLinesIdeal.nD Cert.ConvLinesIdeal.τ).loc Cert.ConvLinesIdeal.main_arg1)
      ∧ r.2.mem ((c.tc : Thread Cert.ConvLinesIdeal.nD Cert.ConvLinesIdeal.τ).loc Cert.ConvLinesIdeal.main_arg2) = m ((c.tc : Thread Cert.ConvLinesIdeal.nD Cert.ConvLinesIdeal.τ).loc Cert.ConvLinesIdeal.main_arg2))
      ∧ r.2.sem = fun _ => 0)

def quiescent_GradConv [hGradConv : Cert.GradConv.Facts] : Prop :=
  ∀ (m : (ℓ : Loc Cert.GradConv.nD Cert.GradConv.τ Cert.GradConv.sig) → Buf (Elt Bits) ℓ) (g : Dev Cert.GradConv.nD → PrngReg), Pre_GradConv m →
    θ_run (Cert.GradConv.defs (F := Bits)) (onTc (τ := Cert.GradConv.τ) (Cert.GradConv.main (F := Bits))) ⟨m, fun _ => 0, g⟩ (fun r => (∀ c : Dev Cert.GradConv.nD,
      r.2.mem ((c.tc : Thread Cert.GradConv.nD Cert.GradConv.τ).loc Cert.GradConv.main_arg0) = m ((c.tc : Thread Cert.GradConv.nD Cert.GradConv.τ).loc Cert.GradConv.main_arg0)
      ∧ r.2.mem ((c.tc : Thread Cert.GradConv.nD Cert.GradConv.τ).loc Cert.GradConv.main_arg1) = m ((c.tc : Thread Cert.GradConv.nD Cert.GradConv.τ).loc Cert.GradConv.main_arg1)
      ∧ r.2.mem ((c.tc : Thread Cert.GradConv.nD Cert.GradConv.τ).loc Cert.GradConv.main_arg2) = m ((c.tc : Thread Cert.GradConv.nD Cert.GradConv.τ).loc Cert.GradConv.main_arg2)
      ∧ r.2.mem ((c.tc : Thread Cert.GradConv.nD Cert.GradConv.τ).loc Cert.GradConv.main_arg3) = m ((c.tc : Thread Cert.GradConv.nD Cert.GradConv.τ).loc Cert.GradConv.main_arg3))
      ∧ r.2.sem = fun _ => 0)

def quiescent_GradConvIdeal [hGradConvIdeal : Cert.GradConvIdeal.Facts] : Prop :=
  ∀ (m : (ℓ : Loc Cert.GradConvIdeal.nD Cert.GradConvIdeal.τ Cert.GradConvIdeal.sig) → Buf (Elt Ideal) ℓ) (g : Dev Cert.GradConvIdeal.nD → PrngReg), Pre_GradConvIdeal m →
    θ_run (Cert.GradConvIdeal.defs (F := Ideal)) (onTc (τ := Cert.GradConvIdeal.τ) (Cert.GradConvIdeal.main (F := Ideal))) ⟨m, fun _ => 0, g⟩ (fun r => (∀ c : Dev Cert.GradConvIdeal.nD,
      r.2.mem ((c.tc : Thread Cert.GradConvIdeal.nD Cert.GradConvIdeal.τ).loc Cert.GradConvIdeal.main_arg0) = m ((c.tc : Thread Cert.GradConvIdeal.nD Cert.GradConvIdeal.τ).loc Cert.GradConvIdeal.main_arg0)
      ∧ r.2.mem ((c.tc : Thread Cert.GradConvIdeal.nD Cert.GradConvIdeal.τ).loc Cert.GradConvIdeal.main_arg1) = m ((c.tc : Thread Cert.GradConvIdeal.nD Cert.GradConvIdeal.τ).loc Cert.GradConvIdeal.main_arg1)
      ∧ r.2.mem ((c.tc : Thread Cert.GradConvIdeal.nD Cert.GradConvIdeal.τ).loc Cert.GradConvIdeal.main_arg2) = m ((c.tc : Thread Cert.GradConvIdeal.nD Cert.GradConvIdeal.τ).loc Cert.GradConvIdeal.main_arg2)
      ∧ r.2.mem ((c.tc : Thread Cert.GradConvIdeal.nD Cert.GradConvIdeal.τ).loc Cert.GradConvIdeal.main_arg3) = m ((c.tc : Thread Cert.GradConvIdeal.nD Cert.GradConvIdeal.τ).loc Cert.GradConvIdeal.main_arg3))
      ∧ r.2.sem = fun _ => 0)

def quiescent_GradConvLinesIdeal [hGradConvLinesIdeal : Cert.GradConvLinesIdeal.Facts] : Prop :=
  ∀ (m : (ℓ : Loc Cert.GradConvLinesIdeal.nD Cert.GradConvLinesIdeal.τ Cert.GradConvLinesIdeal.sig) → Buf (Elt Ideal) ℓ) (g : Dev Cert.GradConvLinesIdeal.nD → PrngReg), Pre_GradConvLinesIdeal m →
    θ_run (Cert.GradConvLinesIdeal.defs (F := Ideal)) (onTc (τ := Cert.GradConvLinesIdeal.τ) (Cert.GradConvLinesIdeal.main (F := Ideal))) ⟨m, fun _ => 0, g⟩ (fun r => (∀ c : Dev Cert.GradConvLinesIdeal.nD,
      r.2.mem ((c.tc : Thread Cert.GradConvLinesIdeal.nD Cert.GradConvLinesIdeal.τ).loc Cert.GradConvLinesIdeal.main_arg0) = m ((c.tc : Thread Cert.GradConvLinesIdeal.nD Cert.GradConvLinesIdeal.τ).loc Cert.GradConvLinesIdeal.main_arg0)
      ∧ r.2.mem ((c.tc : Thread Cert.GradConvLinesIdeal.nD Cert.GradConvLinesIdeal.τ).loc Cert.GradConvLinesIdeal.main_arg1) = m ((c.tc : Thread Cert.GradConvLinesIdeal.nD Cert.GradConvLinesIdeal.τ).loc Cert.GradConvLinesIdeal.main_arg1)
      ∧ r.2.mem ((c.tc : Thread Cert.GradConvLinesIdeal.nD Cert.GradConvLinesIdeal.τ).loc Cert.GradConvLinesIdeal.main_arg2) = m ((c.tc : Thread Cert.GradConvLinesIdeal.nD Cert.GradConvLinesIdeal.τ).loc Cert.GradConvLinesIdeal.main_arg2)
      ∧ r.2.mem ((c.tc : Thread Cert.GradConvLinesIdeal.nD Cert.GradConvLinesIdeal.τ).loc Cert.GradConvLinesIdeal.main_arg3) = m ((c.tc : Thread Cert.GradConvLinesIdeal.nD Cert.GradConvLinesIdeal.τ).loc Cert.GradConvLinesIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormLinesIdeal [hNormLinesIdeal : Cert.NormLinesIdeal.Facts] : Prop :=
  ∀ (m : (ℓ : Loc Cert.NormLinesIdeal.nD Cert.NormLinesIdeal.τ Cert.NormLinesIdeal.sig) → Buf (Elt Ideal) ℓ) (g : Dev Cert.NormLinesIdeal.nD → PrngReg), Pre_NormLinesIdeal m →
    θ_run (Cert.NormLinesIdeal.defs (F := Ideal)) (onTc (τ := Cert.NormLinesIdeal.τ) (Cert.NormLinesIdeal.main (F := Ideal))) ⟨m, fun _ => 0, g⟩ (fun r => (∀ c : Dev Cert.NormLinesIdeal.nD,
      r.2.mem ((c.tc : Thread Cert.NormLinesIdeal.nD Cert.NormLinesIdeal.τ).loc Cert.NormLinesIdeal.main_arg0) = m ((c.tc : Thread Cert.NormLinesIdeal.nD Cert.NormLinesIdeal.τ).loc Cert.NormLinesIdeal.main_arg0)
      ∧ r.2.mem ((c.tc : Thread Cert.NormLinesIdeal.nD Cert.NormLinesIdeal.τ).loc Cert.NormLinesIdeal.main_arg1) = m ((c.tc : Thread Cert.NormLinesIdeal.nD Cert.NormLinesIdeal.τ).loc Cert.NormLinesIdeal.main_arg1))
      ∧ r.2.sem = fun _ => 0)

def quiescent_GradNorm [hGradNorm : Cert.GradNorm.Facts] : Prop :=
  ∀ (m : (ℓ : Loc Cert.GradNorm.nD Cert.GradNorm.τ Cert.GradNorm.sig) → Buf (Elt Bits) ℓ) (g : Dev Cert.GradNorm.nD → PrngReg), Pre_GradNorm m →
    θ_run (Cert.GradNorm.defs (F := Bits)) (onTc (τ := Cert.GradNorm.τ) (Cert.GradNorm.main (F := Bits))) ⟨m, fun _ => 0, g⟩ (fun r => (∀ c : Dev Cert.GradNorm.nD,
      r.2.mem ((c.tc : Thread Cert.GradNorm.nD Cert.GradNorm.τ).loc Cert.GradNorm.main_arg0) = m ((c.tc : Thread Cert.GradNorm.nD Cert.GradNorm.τ).loc Cert.GradNorm.main_arg0)
      ∧ r.2.mem ((c.tc : Thread Cert.GradNorm.nD Cert.GradNorm.τ).loc Cert.GradNorm.main_arg1) = m ((c.tc : Thread Cert.GradNorm.nD Cert.GradNorm.τ).loc Cert.GradNorm.main_arg1)
      ∧ r.2.mem ((c.tc : Thread Cert.GradNorm.nD Cert.GradNorm.τ).loc Cert.GradNorm.main_arg2) = m ((c.tc : Thread Cert.GradNorm.nD Cert.GradNorm.τ).loc Cert.GradNorm.main_arg2)
      ∧ r.2.mem ((c.tc : Thread Cert.GradNorm.nD Cert.GradNorm.τ).loc Cert.GradNorm.main_arg3) = m ((c.tc : Thread Cert.GradNorm.nD Cert.GradNorm.τ).loc Cert.GradNorm.main_arg3))
      ∧ r.2.sem = fun _ => 0)

def quiescent_GradNormIdeal [hGradNormIdeal : Cert.GradNormIdeal.Facts] : Prop :=
  ∀ (m : (ℓ : Loc Cert.GradNormIdeal.nD Cert.GradNormIdeal.τ Cert.GradNormIdeal.sig) → Buf (Elt Ideal) ℓ) (g : Dev Cert.GradNormIdeal.nD → PrngReg), Pre_GradNormIdeal m →
    θ_run (Cert.GradNormIdeal.defs (F := Ideal)) (onTc (τ := Cert.GradNormIdeal.τ) (Cert.GradNormIdeal.main (F := Ideal))) ⟨m, fun _ => 0, g⟩ (fun r => (∀ c : Dev Cert.GradNormIdeal.nD,
      r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
      ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
      ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2)
      ∧ r.2.mem ((c.tc : Thread Cert.GradNormIdeal.nD Cert.GradNormIdeal.τ).loc Cert.GradNormIdeal.main_arg3) = m ((c.tc : Thread Cert.GradNormIdeal.nD Cert.GradNormIdeal.τ).loc Cert.GradNormIdeal.main_arg3))
      ∧ r.2.sem = fun _ => 0)

def quiescent_GradNormLinesIdeal [hGradNormLinesIdeal : Cert.GradNormLinesIdeal.Facts] : Prop :=
  ∀ (m : (ℓ : Loc Cert.GradNormLinesIdeal.nD Cert.GradNormLinesIdeal.τ Cert.GradNormLinesIdeal.sig) → Buf (Elt Ideal) ℓ) (g : Dev Cert.GradNormLinesIdeal.nD → PrngReg), Pre_GradNormLinesIdeal m →
    θ_run (Cert.GradNormLinesIdeal.defs (F := Ideal)) (onTc (τ := Cert.GradNormLinesIdeal.τ) (Cert.GradNormLinesIdeal.main (F := Ideal))) ⟨m, fun _ => 0, g⟩ (fun r => (∀ c : Dev Cert.GradNormLinesIdeal.nD,
      r.2.mem ((c.tc : Thread Cert.GradNormLinesIdeal.nD Cert.GradNormLinesIdeal.τ).loc Cert.GradNormLinesIdeal.main_arg0) = m ((c.tc : Thread Cert.GradNormLinesIdeal.nD Cert.GradNormLinesIdeal.τ).loc Cert.GradNormLinesIdeal.main_arg0)
      ∧ r.2.mem ((c.tc : Thread Cert.GradNormLinesIdeal.nD Cert.GradNormLinesIdeal.τ).loc Cert.GradNormLinesIdeal.main_arg1) = m ((c.tc : Thread Cert.GradNormLinesIdeal.nD Cert.GradNormLinesIdeal.τ).loc Cert.GradNormLinesIdeal.main_arg1)
      ∧ r.2.mem ((c.tc : Thread Cert.GradNormLinesIdeal.nD Cert.GradNormLinesIdeal.τ).loc Cert.GradNormLinesIdeal.main_arg2) = m ((c.tc : Thread Cert.GradNormLinesIdeal.nD Cert.GradNormLinesIdeal.τ).loc Cert.GradNormLinesIdeal.main_arg2)
      ∧ r.2.mem ((c.tc : Thread Cert.GradNormLinesIdeal.nD Cert.GradNormLinesIdeal.τ).loc Cert.GradNormLinesIdeal.main_arg3) = m ((c.tc : Thread Cert.GradNormLinesIdeal.nD Cert.GradNormLinesIdeal.τ).loc Cert.GradNormLinesIdeal.main_arg3))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ r.2.sem = fun _ => 0)

def quiescent_HeadsLinesIdeal [hHeadsLinesIdeal : Cert.HeadsLinesIdeal.Facts] : Prop :=
  ∀ (m : (ℓ : Loc Cert.HeadsLinesIdeal.nD Cert.HeadsLinesIdeal.τ Cert.HeadsLinesIdeal.sig) → Buf (Elt Ideal) ℓ) (g : Dev Cert.HeadsLinesIdeal.nD → PrngReg), Pre_HeadsLinesIdeal m →
    θ_run (Cert.HeadsLinesIdeal.defs (F := Ideal)) (onTc (τ := Cert.HeadsLinesIdeal.τ) (Cert.HeadsLinesIdeal.main (F := Ideal))) ⟨m, fun _ => 0, g⟩ (fun r => (∀ c : Dev Cert.HeadsLinesIdeal.nD,
      r.2.mem ((c.tc : Thread Cert.HeadsLinesIdeal.nD Cert.HeadsLinesIdeal.τ).loc Cert.HeadsLinesIdeal.main_arg0) = m ((c.tc : Thread Cert.HeadsLinesIdeal.nD Cert.HeadsLinesIdeal.τ).loc Cert.HeadsLinesIdeal.main_arg0)
      ∧ r.2.mem ((c.tc : Thread Cert.HeadsLinesIdeal.nD Cert.HeadsLinesIdeal.τ).loc Cert.HeadsLinesIdeal.main_arg1) = m ((c.tc : Thread Cert.HeadsLinesIdeal.nD Cert.HeadsLinesIdeal.τ).loc Cert.HeadsLinesIdeal.main_arg1)
      ∧ r.2.mem ((c.tc : Thread Cert.HeadsLinesIdeal.nD Cert.HeadsLinesIdeal.τ).loc Cert.HeadsLinesIdeal.main_arg2) = m ((c.tc : Thread Cert.HeadsLinesIdeal.nD Cert.HeadsLinesIdeal.τ).loc Cert.HeadsLinesIdeal.main_arg2))
      ∧ r.2.sem = fun _ => 0)

def quiescent_GradHeads [hGradHeads : Cert.GradHeads.Facts] : Prop :=
  ∀ (m : (ℓ : Loc Cert.GradHeads.nD Cert.GradHeads.τ Cert.GradHeads.sig) → Buf (Elt Bits) ℓ) (g : Dev Cert.GradHeads.nD → PrngReg), Pre_GradHeads m →
    θ_run (Cert.GradHeads.defs (F := Bits)) (onTc (τ := Cert.GradHeads.τ) (Cert.GradHeads.main (F := Bits))) ⟨m, fun _ => 0, g⟩ (fun r => (∀ c : Dev Cert.GradHeads.nD,
      r.2.mem ((c.tc : Thread Cert.GradHeads.nD Cert.GradHeads.τ).loc Cert.GradHeads.main_arg0) = m ((c.tc : Thread Cert.GradHeads.nD Cert.GradHeads.τ).loc Cert.GradHeads.main_arg0)
      ∧ r.2.mem ((c.tc : Thread Cert.GradHeads.nD Cert.GradHeads.τ).loc Cert.GradHeads.main_arg1) = m ((c.tc : Thread Cert.GradHeads.nD Cert.GradHeads.τ).loc Cert.GradHeads.main_arg1)
      ∧ r.2.mem ((c.tc : Thread Cert.GradHeads.nD Cert.GradHeads.τ).loc Cert.GradHeads.main_arg2) = m ((c.tc : Thread Cert.GradHeads.nD Cert.GradHeads.τ).loc Cert.GradHeads.main_arg2)
      ∧ r.2.mem ((c.tc : Thread Cert.GradHeads.nD Cert.GradHeads.τ).loc Cert.GradHeads.main_arg3) = m ((c.tc : Thread Cert.GradHeads.nD Cert.GradHeads.τ).loc Cert.GradHeads.main_arg3)
      ∧ r.2.mem ((c.tc : Thread Cert.GradHeads.nD Cert.GradHeads.τ).loc Cert.GradHeads.main_arg4) = m ((c.tc : Thread Cert.GradHeads.nD Cert.GradHeads.τ).loc Cert.GradHeads.main_arg4)
      ∧ r.2.mem ((c.tc : Thread Cert.GradHeads.nD Cert.GradHeads.τ).loc Cert.GradHeads.main_arg5) = m ((c.tc : Thread Cert.GradHeads.nD Cert.GradHeads.τ).loc Cert.GradHeads.main_arg5))
      ∧ r.2.sem = fun _ => 0)

def quiescent_GradHeadsIdeal [hGradHeadsIdeal : Cert.GradHeadsIdeal.Facts] : Prop :=
  ∀ (m : (ℓ : Loc Cert.GradHeadsIdeal.nD Cert.GradHeadsIdeal.τ Cert.GradHeadsIdeal.sig) → Buf (Elt Ideal) ℓ) (g : Dev Cert.GradHeadsIdeal.nD → PrngReg), Pre_GradHeadsIdeal m →
    θ_run (Cert.GradHeadsIdeal.defs (F := Ideal)) (onTc (τ := Cert.GradHeadsIdeal.τ) (Cert.GradHeadsIdeal.main (F := Ideal))) ⟨m, fun _ => 0, g⟩ (fun r => (∀ c : Dev Cert.GradHeadsIdeal.nD,
      r.2.mem ((c.tc : Thread Cert.GradHeadsIdeal.nD Cert.GradHeadsIdeal.τ).loc Cert.GradHeadsIdeal.main_arg0) = m ((c.tc : Thread Cert.GradHeadsIdeal.nD Cert.GradHeadsIdeal.τ).loc Cert.GradHeadsIdeal.main_arg0)
      ∧ r.2.mem ((c.tc : Thread Cert.GradHeadsIdeal.nD Cert.GradHeadsIdeal.τ).loc Cert.GradHeadsIdeal.main_arg1) = m ((c.tc : Thread Cert.GradHeadsIdeal.nD Cert.GradHeadsIdeal.τ).loc Cert.GradHeadsIdeal.main_arg1)
      ∧ r.2.mem ((c.tc : Thread Cert.GradHeadsIdeal.nD Cert.GradHeadsIdeal.τ).loc Cert.GradHeadsIdeal.main_arg2) = m ((c.tc : Thread Cert.GradHeadsIdeal.nD Cert.GradHeadsIdeal.τ).loc Cert.GradHeadsIdeal.main_arg2)
      ∧ r.2.mem ((c.tc : Thread Cert.GradHeadsIdeal.nD Cert.GradHeadsIdeal.τ).loc Cert.GradHeadsIdeal.main_arg3) = m ((c.tc : Thread Cert.GradHeadsIdeal.nD Cert.GradHeadsIdeal.τ).loc Cert.GradHeadsIdeal.main_arg3)
      ∧ r.2.mem ((c.tc : Thread Cert.GradHeadsIdeal.nD Cert.GradHeadsIdeal.τ).loc Cert.GradHeadsIdeal.main_arg4) = m ((c.tc : Thread Cert.GradHeadsIdeal.nD Cert.GradHeadsIdeal.τ).loc Cert.GradHeadsIdeal.main_arg4)
      ∧ r.2.mem ((c.tc : Thread Cert.GradHeadsIdeal.nD Cert.GradHeadsIdeal.τ).loc Cert.GradHeadsIdeal.main_arg5) = m ((c.tc : Thread Cert.GradHeadsIdeal.nD Cert.GradHeadsIdeal.τ).loc Cert.GradHeadsIdeal.main_arg5))
      ∧ r.2.sem = fun _ => 0)

def quiescent_GradHeadsLinesIdeal [hGradHeadsLinesIdeal : Cert.GradHeadsLinesIdeal.Facts] : Prop :=
  ∀ (m : (ℓ : Loc Cert.GradHeadsLinesIdeal.nD Cert.GradHeadsLinesIdeal.τ Cert.GradHeadsLinesIdeal.sig) → Buf (Elt Ideal) ℓ) (g : Dev Cert.GradHeadsLinesIdeal.nD → PrngReg), Pre_GradHeadsLinesIdeal m →
    θ_run (Cert.GradHeadsLinesIdeal.defs (F := Ideal)) (onTc (τ := Cert.GradHeadsLinesIdeal.τ) (Cert.GradHeadsLinesIdeal.main (F := Ideal))) ⟨m, fun _ => 0, g⟩ (fun r => (∀ c : Dev Cert.GradHeadsLinesIdeal.nD,
      r.2.mem ((c.tc : Thread Cert.GradHeadsLinesIdeal.nD Cert.GradHeadsLinesIdeal.τ).loc Cert.GradHeadsLinesIdeal.main_arg0) = m ((c.tc : Thread Cert.GradHeadsLinesIdeal.nD Cert.GradHeadsLinesIdeal.τ).loc Cert.GradHeadsLinesIdeal.main_arg0)
      ∧ r.2.mem ((c.tc : Thread Cert.GradHeadsLinesIdeal.nD Cert.GradHeadsLinesIdeal.τ).loc Cert.GradHeadsLinesIdeal.main_arg1) = m ((c.tc : Thread Cert.GradHeadsLinesIdeal.nD Cert.GradHeadsLinesIdeal.τ).loc Cert.GradHeadsLinesIdeal.main_arg1)
      ∧ r.2.mem ((c.tc : Thread Cert.GradHeadsLinesIdeal.nD Cert.GradHeadsLinesIdeal.τ).loc Cert.GradHeadsLinesIdeal.main_arg2) = m ((c.tc : Thread Cert.GradHeadsLinesIdeal.nD Cert.GradHeadsLinesIdeal.τ).loc Cert.GradHeadsLinesIdeal.main_arg2)
      ∧ r.2.mem ((c.tc : Thread Cert.GradHeadsLinesIdeal.nD Cert.GradHeadsLinesIdeal.τ).loc Cert.GradHeadsLinesIdeal.main_arg3) = m ((c.tc : Thread Cert.GradHeadsLinesIdeal.nD Cert.GradHeadsLinesIdeal.τ).loc Cert.GradHeadsLinesIdeal.main_arg3)
      ∧ r.2.mem ((c.tc : Thread Cert.GradHeadsLinesIdeal.nD Cert.GradHeadsLinesIdeal.τ).loc Cert.GradHeadsLinesIdeal.main_arg4) = m ((c.tc : Thread Cert.GradHeadsLinesIdeal.nD Cert.GradHeadsLinesIdeal.τ).loc Cert.GradHeadsLinesIdeal.main_arg4)
      ∧ r.2.mem ((c.tc : Thread Cert.GradHeadsLinesIdeal.nD Cert.GradHeadsLinesIdeal.τ).loc Cert.GradHeadsLinesIdeal.main_arg5) = m ((c.tc : Thread Cert.GradHeadsLinesIdeal.nD Cert.GradHeadsLinesIdeal.τ).loc Cert.GradHeadsLinesIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossLinesIdeal [hLossLinesIdeal : Cert.LossLinesIdeal.Facts] : Prop :=
  ∀ (m : (ℓ : Loc Cert.LossLinesIdeal.nD Cert.LossLinesIdeal.τ Cert.LossLinesIdeal.sig) → Buf (Elt Ideal) ℓ) (g : Dev Cert.LossLinesIdeal.nD → PrngReg), Pre_LossLinesIdeal m →
    θ_run (Cert.LossLinesIdeal.defs (F := Ideal)) (onTc (τ := Cert.LossLinesIdeal.τ) (Cert.LossLinesIdeal.main (F := Ideal))) ⟨m, fun _ => 0, g⟩ (fun r => (∀ c : Dev Cert.LossLinesIdeal.nD,
      r.2.mem ((c.tc : Thread Cert.LossLinesIdeal.nD Cert.LossLinesIdeal.τ).loc Cert.LossLinesIdeal.main_arg0) = m ((c.tc : Thread Cert.LossLinesIdeal.nD Cert.LossLinesIdeal.τ).loc Cert.LossLinesIdeal.main_arg0)
      ∧ r.2.mem ((c.tc : Thread Cert.LossLinesIdeal.nD Cert.LossLinesIdeal.τ).loc Cert.LossLinesIdeal.main_arg1) = m ((c.tc : Thread Cert.LossLinesIdeal.nD Cert.LossLinesIdeal.τ).loc Cert.LossLinesIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjLinesIdeal [hInProjIdeal : Cert.InProjIdeal.Facts] [hInProjLinesIdeal : Cert.InProjLinesIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjLinesIdeal.nD Cert.InProjLinesIdeal.τ Cert.InProjLinesIdeal.sig) → Buf (Elt Ideal) ℓ) (g' : Dev Cert.InProjLinesIdeal.nD → PrngReg), Pre_InProjIdeal m →
    (∀ c : Dev Cert.InProjIdeal.nD,
      m' ((c.tc : Thread Cert.InProjLinesIdeal.nD Cert.InProjLinesIdeal.τ).loc Cert.InProjLinesIdeal.main_arg0) = m ((c.tc : Thread Cert.InProjIdeal.nD Cert.InProjIdeal.τ).loc Cert.InProjIdeal.main_arg0)
      ∧ m' ((c.tc : Thread Cert.InProjLinesIdeal.nD Cert.InProjLinesIdeal.τ).loc Cert.InProjLinesIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjLinesIdeal.defs (F := Ideal)) (onTc (τ := Cert.InProjLinesIdeal.τ) (Cert.InProjLinesIdeal.main (F := Ideal))) ⟨m', fun _ => 0, g'⟩ (fun r => ∀ c : Dev Cert.InProjLinesIdeal.nD,
          r.2.mem ((c.tc : Thread Cert.InProjLinesIdeal.nD Cert.InProjLinesIdeal.τ).loc Cert.InProjLinesIdeal.main_v3) = v0 c
          ∧ r.2.mem ((c.tc : Thread Cert.InProjLinesIdeal.nD Cert.InProjLinesIdeal.τ).loc Cert.InProjLinesIdeal.main_arg0) = m' ((c.tc : Thread Cert.InProjLinesIdeal.nD Cert.InProjLinesIdeal.τ).loc Cert.InProjLinesIdeal.main_arg0)
          ∧ r.2.mem ((c.tc : Thread Cert.InProjLinesIdeal.nD Cert.InProjLinesIdeal.τ).loc Cert.InProjLinesIdeal.main_arg1) = m' ((c.tc : Thread Cert.InProjLinesIdeal.nD Cert.InProjLinesIdeal.τ).loc Cert.InProjLinesIdeal.main_arg1))

def preserves_GateUp_GateUpIdeal : Prop :=
  True

def algebraic_GateUpIdeal_GateUpLinesIdeal [hGateUpIdeal : Cert.GateUpIdeal.Facts] [hGateUpLinesIdeal : Cert.GateUpLinesIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpLinesIdeal.nD Cert.GateUpLinesIdeal.τ Cert.GateUpLinesIdeal.sig) → Buf (Elt Ideal) ℓ) (g' : Dev Cert.GateUpLinesIdeal.nD → PrngReg), Pre_GateUpIdeal m →
    (∀ c : Dev Cert.GateUpIdeal.nD,
      m' ((c.tc : Thread Cert.GateUpLinesIdeal.nD Cert.GateUpLinesIdeal.τ).loc Cert.GateUpLinesIdeal.main_arg0) = m ((c.tc : Thread Cert.GateUpIdeal.nD Cert.GateUpIdeal.τ).loc Cert.GateUpIdeal.main_arg0)
      ∧ m' ((c.tc : Thread Cert.GateUpLinesIdeal.nD Cert.GateUpLinesIdeal.τ).loc Cert.GateUpLinesIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpLinesIdeal.defs (F := Ideal)) (onTc (τ := Cert.GateUpLinesIdeal.τ) (Cert.GateUpLinesIdeal.main (F := Ideal))) ⟨m', fun _ => 0, g'⟩ (fun r => ∀ c : Dev Cert.GateUpLinesIdeal.nD,
          r.2.mem ((c.tc : Thread Cert.GateUpLinesIdeal.nD Cert.GateUpLinesIdeal.τ).loc Cert.GateUpLinesIdeal.main_v3) = v0 c
          ∧ r.2.mem ((c.tc : Thread Cert.GateUpLinesIdeal.nD Cert.GateUpLinesIdeal.τ).loc Cert.GateUpLinesIdeal.main_arg0) = m' ((c.tc : Thread Cert.GateUpLinesIdeal.nD Cert.GateUpLinesIdeal.τ).loc Cert.GateUpLinesIdeal.main_arg0)
          ∧ r.2.mem ((c.tc : Thread Cert.GateUpLinesIdeal.nD Cert.GateUpLinesIdeal.τ).loc Cert.GateUpLinesIdeal.main_arg1) = m' ((c.tc : Thread Cert.GateUpLinesIdeal.nD Cert.GateUpLinesIdeal.τ).loc Cert.GateUpLinesIdeal.main_arg1))

def preserves_GradAct_GradActIdeal : Prop :=
  True

def algebraic_GradActIdeal_GradActLinesIdeal [hGradActIdeal : Cert.GradActIdeal.Facts] [hGradActLinesIdeal : Cert.GradActLinesIdeal.Facts] : Prop :=
  ∀ (m : (ℓ : Loc Cert.GradActIdeal.nD Cert.GradActIdeal.τ Cert.GradActIdeal.sig) → Buf (Elt Ideal) ℓ) (g : Dev Cert.GradActIdeal.nD → PrngReg)
    (m' : (ℓ : Loc Cert.GradActLinesIdeal.nD Cert.GradActLinesIdeal.τ Cert.GradActLinesIdeal.sig) → Buf (Elt Ideal) ℓ) (g' : Dev Cert.GradActLinesIdeal.nD → PrngReg), Pre_GradActIdeal m →
    (∀ c : Dev Cert.GradActIdeal.nD,
      m' ((c.tc : Thread Cert.GradActLinesIdeal.nD Cert.GradActLinesIdeal.τ).loc Cert.GradActLinesIdeal.main_arg0) = m ((c.tc : Thread Cert.GradActIdeal.nD Cert.GradActIdeal.τ).loc Cert.GradActIdeal.main_arg0)
      ∧ m' ((c.tc : Thread Cert.GradActLinesIdeal.nD Cert.GradActLinesIdeal.τ).loc Cert.GradActLinesIdeal.main_arg1) = m ((c.tc : Thread Cert.GradActIdeal.nD Cert.GradActIdeal.τ).loc Cert.GradActIdeal.main_arg1)) →
    ∃ (v0 : (c : Dev Cert.GradActIdeal.nD) → Buf (Elt Ideal) ((c.tc : Thread Cert.GradActIdeal.nD Cert.GradActIdeal.τ).loc Cert.GradActIdeal.main_v1)),
      θ_run (Cert.GradActIdeal.defs (F := Ideal)) (onTc (τ := Cert.GradActIdeal.τ) (Cert.GradActIdeal.main (F := Ideal))) ⟨m, fun _ => 0, g⟩ (fun r => ∀ c : Dev Cert.GradActIdeal.nD,
          r.2.mem ((c.tc : Thread Cert.GradActIdeal.nD Cert.GradActIdeal.τ).loc Cert.GradActIdeal.main_v1) = v0 c
          ∧ r.2.mem ((c.tc : Thread Cert.GradActIdeal.nD Cert.GradActIdeal.τ).loc Cert.GradActIdeal.main_arg0) = m ((c.tc : Thread Cert.GradActIdeal.nD Cert.GradActIdeal.τ).loc Cert.GradActIdeal.main_arg0)
          ∧ r.2.mem ((c.tc : Thread Cert.GradActIdeal.nD Cert.GradActIdeal.τ).loc Cert.GradActIdeal.main_arg1) = m ((c.tc : Thread Cert.GradActIdeal.nD Cert.GradActIdeal.τ).loc Cert.GradActIdeal.main_arg1))
      ∧ θ_run (Cert.GradActLinesIdeal.defs (F := Ideal)) (onTc (τ := Cert.GradActLinesIdeal.τ) (Cert.GradActLinesIdeal.main (F := Ideal))) ⟨m', fun _ => 0, g'⟩ (fun r => ∀ c : Dev Cert.GradActLinesIdeal.nD,
          r.2.mem ((c.tc : Thread Cert.GradActLinesIdeal.nD Cert.GradActLinesIdeal.τ).loc Cert.GradActLinesIdeal.main_v5) = v0 c
          ∧ r.2.mem ((c.tc : Thread Cert.GradActLinesIdeal.nD Cert.GradActLinesIdeal.τ).loc Cert.GradActLinesIdeal.main_arg0) = m' ((c.tc : Thread Cert.GradActLinesIdeal.nD Cert.GradActLinesIdeal.τ).loc Cert.GradActLinesIdeal.main_arg0)
          ∧ r.2.mem ((c.tc : Thread Cert.GradActLinesIdeal.nD Cert.GradActLinesIdeal.τ).loc Cert.GradActLinesIdeal.main_arg1) = m' ((c.tc : Thread Cert.GradActLinesIdeal.nD Cert.GradActLinesIdeal.τ).loc Cert.GradActLinesIdeal.main_arg1))

def preserves_GradMerged_GradMergedIdeal : Prop :=
  True

def algebraic_GradMergedIdeal_GradMergedLinesIdeal [hGradMergedIdeal : Cert.GradMergedIdeal.Facts] [hGradMergedLinesIdeal : Cert.GradMergedLinesIdeal.Facts] : Prop :=
  ∀ (m : (ℓ : Loc Cert.GradMergedIdeal.nD Cert.GradMergedIdeal.τ Cert.GradMergedIdeal.sig) → Buf (Elt Ideal) ℓ) (g : Dev Cert.GradMergedIdeal.nD → PrngReg)
    (m' : (ℓ : Loc Cert.GradMergedLinesIdeal.nD Cert.GradMergedLinesIdeal.τ Cert.GradMergedLinesIdeal.sig) → Buf (Elt Ideal) ℓ) (g' : Dev Cert.GradMergedLinesIdeal.nD → PrngReg), Pre_GradMergedIdeal m →
    (∀ c : Dev Cert.GradMergedIdeal.nD,
      m' ((c.tc : Thread Cert.GradMergedLinesIdeal.nD Cert.GradMergedLinesIdeal.τ).loc Cert.GradMergedLinesIdeal.main_arg0) = m ((c.tc : Thread Cert.GradMergedIdeal.nD Cert.GradMergedIdeal.τ).loc Cert.GradMergedIdeal.main_arg0)
      ∧ m' ((c.tc : Thread Cert.GradMergedLinesIdeal.nD Cert.GradMergedLinesIdeal.τ).loc Cert.GradMergedLinesIdeal.main_arg1) = m ((c.tc : Thread Cert.GradMergedIdeal.nD Cert.GradMergedIdeal.τ).loc Cert.GradMergedIdeal.main_arg1)) →
    ∃ (v0 : (c : Dev Cert.GradMergedIdeal.nD) → Buf (Elt Ideal) ((c.tc : Thread Cert.GradMergedIdeal.nD Cert.GradMergedIdeal.τ).loc Cert.GradMergedIdeal.main_v1)),
      θ_run (Cert.GradMergedIdeal.defs (F := Ideal)) (onTc (τ := Cert.GradMergedIdeal.τ) (Cert.GradMergedIdeal.main (F := Ideal))) ⟨m, fun _ => 0, g⟩ (fun r => ∀ c : Dev Cert.GradMergedIdeal.nD,
          r.2.mem ((c.tc : Thread Cert.GradMergedIdeal.nD Cert.GradMergedIdeal.τ).loc Cert.GradMergedIdeal.main_v1) = v0 c
          ∧ r.2.mem ((c.tc : Thread Cert.GradMergedIdeal.nD Cert.GradMergedIdeal.τ).loc Cert.GradMergedIdeal.main_arg0) = m ((c.tc : Thread Cert.GradMergedIdeal.nD Cert.GradMergedIdeal.τ).loc Cert.GradMergedIdeal.main_arg0)
          ∧ r.2.mem ((c.tc : Thread Cert.GradMergedIdeal.nD Cert.GradMergedIdeal.τ).loc Cert.GradMergedIdeal.main_arg1) = m ((c.tc : Thread Cert.GradMergedIdeal.nD Cert.GradMergedIdeal.τ).loc Cert.GradMergedIdeal.main_arg1))
      ∧ θ_run (Cert.GradMergedLinesIdeal.defs (F := Ideal)) (onTc (τ := Cert.GradMergedLinesIdeal.τ) (Cert.GradMergedLinesIdeal.main (F := Ideal))) ⟨m', fun _ => 0, g'⟩ (fun r => ∀ c : Dev Cert.GradMergedLinesIdeal.nD,
          r.2.mem ((c.tc : Thread Cert.GradMergedLinesIdeal.nD Cert.GradMergedLinesIdeal.τ).loc Cert.GradMergedLinesIdeal.main_v5) = v0 c
          ∧ r.2.mem ((c.tc : Thread Cert.GradMergedLinesIdeal.nD Cert.GradMergedLinesIdeal.τ).loc Cert.GradMergedLinesIdeal.main_arg0) = m' ((c.tc : Thread Cert.GradMergedLinesIdeal.nD Cert.GradMergedLinesIdeal.τ).loc Cert.GradMergedLinesIdeal.main_arg0)
          ∧ r.2.mem ((c.tc : Thread Cert.GradMergedLinesIdeal.nD Cert.GradMergedLinesIdeal.τ).loc Cert.GradMergedLinesIdeal.main_arg1) = m' ((c.tc : Thread Cert.GradMergedLinesIdeal.nD Cert.GradMergedLinesIdeal.τ).loc Cert.GradMergedLinesIdeal.main_arg1))

def preserves_OutProj_OutProjIdeal : Prop :=
  True

def algebraic_OutProjIdeal_OutProjLinesIdeal [hOutProjIdeal : Cert.OutProjIdeal.Facts] [hOutProjLinesIdeal : Cert.OutProjLinesIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjLinesIdeal.nD Cert.OutProjLinesIdeal.τ Cert.OutProjLinesIdeal.sig) → Buf (Elt Ideal) ℓ) (g' : Dev Cert.OutProjLinesIdeal.nD → PrngReg), Pre_OutProjIdeal m →
    (∀ c : Dev Cert.OutProjIdeal.nD,
      m' ((c.tc : Thread Cert.OutProjLinesIdeal.nD Cert.OutProjLinesIdeal.τ).loc Cert.OutProjLinesIdeal.main_arg0) = m ((c.tc : Thread Cert.OutProjIdeal.nD Cert.OutProjIdeal.τ).loc Cert.OutProjIdeal.main_arg0)
      ∧ m' ((c.tc : Thread Cert.OutProjLinesIdeal.nD Cert.OutProjLinesIdeal.τ).loc Cert.OutProjLinesIdeal.main_arg1) = m ((c.tc : Thread Cert.OutProjIdeal.nD Cert.OutProjIdeal.τ).loc Cert.OutProjIdeal.main_arg1)
      ∧ m' ((c.tc : Thread Cert.OutProjLinesIdeal.nD Cert.OutProjLinesIdeal.τ).loc Cert.OutProjLinesIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjLinesIdeal.defs (F := Ideal)) (onTc (τ := Cert.OutProjLinesIdeal.τ) (Cert.OutProjLinesIdeal.main (F := Ideal))) ⟨m', fun _ => 0, g'⟩ (fun r => ∀ c : Dev Cert.OutProjLinesIdeal.nD,
          r.2.mem ((c.tc : Thread Cert.OutProjLinesIdeal.nD Cert.OutProjLinesIdeal.τ).loc Cert.OutProjLinesIdeal.main_v3) = v0 c
          ∧ r.2.mem ((c.tc : Thread Cert.OutProjLinesIdeal.nD Cert.OutProjLinesIdeal.τ).loc Cert.OutProjLinesIdeal.main_arg0) = m' ((c.tc : Thread Cert.OutProjLinesIdeal.nD Cert.OutProjLinesIdeal.τ).loc Cert.OutProjLinesIdeal.main_arg0)
          ∧ r.2.mem ((c.tc : Thread Cert.OutProjLinesIdeal.nD Cert.OutProjLinesIdeal.τ).loc Cert.OutProjLinesIdeal.main_arg1) = m' ((c.tc : Thread Cert.OutProjLinesIdeal.nD Cert.OutProjLinesIdeal.τ).loc Cert.OutProjLinesIdeal.main_arg1)
          ∧ r.2.mem ((c.tc : Thread Cert.OutProjLinesIdeal.nD Cert.OutProjLinesIdeal.τ).loc Cert.OutProjLinesIdeal.main_arg2) = m' ((c.tc : Thread Cert.OutProjLinesIdeal.nD Cert.OutProjLinesIdeal.τ).loc Cert.OutProjLinesIdeal.main_arg2))

def preserves_GradIn_GradInIdeal : Prop :=
  True

def algebraic_GradInIdeal_GradInLinesIdeal [hGradInIdeal : Cert.GradInIdeal.Facts] [hGradInLinesIdeal : Cert.GradInLinesIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInLinesIdeal.nD Cert.GradInLinesIdeal.τ Cert.GradInLinesIdeal.sig) → Buf (Elt Ideal) ℓ) (g' : Dev Cert.GradInLinesIdeal.nD → PrngReg), Pre_GradInIdeal m →
    (∀ c : Dev Cert.GradInIdeal.nD,
      m' ((c.tc : Thread Cert.GradInLinesIdeal.nD Cert.GradInLinesIdeal.τ).loc Cert.GradInLinesIdeal.main_arg0) = m ((c.tc : Thread Cert.GradInIdeal.nD Cert.GradInIdeal.τ).loc Cert.GradInIdeal.main_arg0)
      ∧ m' ((c.tc : Thread Cert.GradInLinesIdeal.nD Cert.GradInLinesIdeal.τ).loc Cert.GradInLinesIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInLinesIdeal.defs (F := Ideal)) (onTc (τ := Cert.GradInLinesIdeal.τ) (Cert.GradInLinesIdeal.main (F := Ideal))) ⟨m', fun _ => 0, g'⟩ (fun r => ∀ c : Dev Cert.GradInLinesIdeal.nD,
          r.2.mem ((c.tc : Thread Cert.GradInLinesIdeal.nD Cert.GradInLinesIdeal.τ).loc Cert.GradInLinesIdeal.main_v8) = v0 c
          ∧ r.2.mem ((c.tc : Thread Cert.GradInLinesIdeal.nD Cert.GradInLinesIdeal.τ).loc Cert.GradInLinesIdeal.main_arg0) = m' ((c.tc : Thread Cert.GradInLinesIdeal.nD Cert.GradInLinesIdeal.τ).loc Cert.GradInLinesIdeal.main_arg0)
          ∧ r.2.mem ((c.tc : Thread Cert.GradInLinesIdeal.nD Cert.GradInLinesIdeal.τ).loc Cert.GradInLinesIdeal.main_arg1) = m' ((c.tc : Thread Cert.GradInLinesIdeal.nD Cert.GradInLinesIdeal.τ).loc Cert.GradInLinesIdeal.main_arg1))

def preserves_GradGateUp_GradGateUpIdeal : Prop :=
  True

def algebraic_GradGateUpIdeal_GradGateUpLinesIdeal [hGradGateUpIdeal : Cert.GradGateUpIdeal.Facts] [hGradGateUpLinesIdeal : Cert.GradGateUpLinesIdeal.Facts] : Prop :=
  ∀ (m : (ℓ : Loc Cert.GradGateUpIdeal.nD Cert.GradGateUpIdeal.τ Cert.GradGateUpIdeal.sig) → Buf (Elt Ideal) ℓ) (g : Dev Cert.GradGateUpIdeal.nD → PrngReg)
    (m' : (ℓ : Loc Cert.GradGateUpLinesIdeal.nD Cert.GradGateUpLinesIdeal.τ Cert.GradGateUpLinesIdeal.sig) → Buf (Elt Ideal) ℓ) (g' : Dev Cert.GradGateUpLinesIdeal.nD → PrngReg), Pre_GradGateUpIdeal m →
    (∀ c : Dev Cert.GradGateUpIdeal.nD,
      m' ((c.tc : Thread Cert.GradGateUpLinesIdeal.nD Cert.GradGateUpLinesIdeal.τ).loc Cert.GradGateUpLinesIdeal.main_arg0) = m ((c.tc : Thread Cert.GradGateUpIdeal.nD Cert.GradGateUpIdeal.τ).loc Cert.GradGateUpIdeal.main_arg0)
      ∧ m' ((c.tc : Thread Cert.GradGateUpLinesIdeal.nD Cert.GradGateUpLinesIdeal.τ).loc Cert.GradGateUpLinesIdeal.main_arg1) = m ((c.tc : Thread Cert.GradGateUpIdeal.nD Cert.GradGateUpIdeal.τ).loc Cert.GradGateUpIdeal.main_arg1)) →
    ∃ (v0 : (c : Dev Cert.GradGateUpIdeal.nD) → Buf (Elt Ideal) ((c.tc : Thread Cert.GradGateUpIdeal.nD Cert.GradGateUpIdeal.τ).loc Cert.GradGateUpIdeal.main_v0)),
      θ_run (Cert.GradGateUpIdeal.defs (F := Ideal)) (onTc (τ := Cert.GradGateUpIdeal.τ) (Cert.GradGateUpIdeal.main (F := Ideal))) ⟨m, fun _ => 0, g⟩ (fun r => ∀ c : Dev Cert.GradGateUpIdeal.nD,
          r.2.mem ((c.tc : Thread Cert.GradGateUpIdeal.nD Cert.GradGateUpIdeal.τ).loc Cert.GradGateUpIdeal.main_v0) = v0 c
          ∧ r.2.mem ((c.tc : Thread Cert.GradGateUpIdeal.nD Cert.GradGateUpIdeal.τ).loc Cert.GradGateUpIdeal.main_arg0) = m ((c.tc : Thread Cert.GradGateUpIdeal.nD Cert.GradGateUpIdeal.τ).loc Cert.GradGateUpIdeal.main_arg0)
          ∧ r.2.mem ((c.tc : Thread Cert.GradGateUpIdeal.nD Cert.GradGateUpIdeal.τ).loc Cert.GradGateUpIdeal.main_arg1) = m ((c.tc : Thread Cert.GradGateUpIdeal.nD Cert.GradGateUpIdeal.τ).loc Cert.GradGateUpIdeal.main_arg1))
      ∧ θ_run (Cert.GradGateUpLinesIdeal.defs (F := Ideal)) (onTc (τ := Cert.GradGateUpLinesIdeal.τ) (Cert.GradGateUpLinesIdeal.main (F := Ideal))) ⟨m', fun _ => 0, g'⟩ (fun r => ∀ c : Dev Cert.GradGateUpLinesIdeal.nD,
          r.2.mem ((c.tc : Thread Cert.GradGateUpLinesIdeal.nD Cert.GradGateUpLinesIdeal.τ).loc Cert.GradGateUpLinesIdeal.main_v6) = v0 c
          ∧ r.2.mem ((c.tc : Thread Cert.GradGateUpLinesIdeal.nD Cert.GradGateUpLinesIdeal.τ).loc Cert.GradGateUpLinesIdeal.main_arg0) = m' ((c.tc : Thread Cert.GradGateUpLinesIdeal.nD Cert.GradGateUpLinesIdeal.τ).loc Cert.GradGateUpLinesIdeal.main_arg0)
          ∧ r.2.mem ((c.tc : Thread Cert.GradGateUpLinesIdeal.nD Cert.GradGateUpLinesIdeal.τ).loc Cert.GradGateUpLinesIdeal.main_arg1) = m' ((c.tc : Thread Cert.GradGateUpLinesIdeal.nD Cert.GradGateUpLinesIdeal.τ).loc Cert.GradGateUpLinesIdeal.main_arg1))

def preserves_GradDown_GradDownIdeal : Prop :=
  True

def algebraic_GradDownIdeal_GradDownLinesIdeal [hGradDownIdeal : Cert.GradDownIdeal.Facts] [hGradDownLinesIdeal : Cert.GradDownLinesIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownLinesIdeal.nD Cert.GradDownLinesIdeal.τ Cert.GradDownLinesIdeal.sig) → Buf (Elt Ideal) ℓ) (g' : Dev Cert.GradDownLinesIdeal.nD → PrngReg), Pre_GradDownIdeal m →
    (∀ c : Dev Cert.GradDownIdeal.nD,
      m' ((c.tc : Thread Cert.GradDownLinesIdeal.nD Cert.GradDownLinesIdeal.τ).loc Cert.GradDownLinesIdeal.main_arg0) = m ((c.tc : Thread Cert.GradDownIdeal.nD Cert.GradDownIdeal.τ).loc Cert.GradDownIdeal.main_arg0)
      ∧ m' ((c.tc : Thread Cert.GradDownLinesIdeal.nD Cert.GradDownLinesIdeal.τ).loc Cert.GradDownLinesIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownLinesIdeal.defs (F := Ideal)) (onTc (τ := Cert.GradDownLinesIdeal.τ) (Cert.GradDownLinesIdeal.main (F := Ideal))) ⟨m', fun _ => 0, g'⟩ (fun r => ∀ c : Dev Cert.GradDownLinesIdeal.nD,
          r.2.mem ((c.tc : Thread Cert.GradDownLinesIdeal.nD Cert.GradDownLinesIdeal.τ).loc Cert.GradDownLinesIdeal.main_v6) = v0 c
          ∧ r.2.mem ((c.tc : Thread Cert.GradDownLinesIdeal.nD Cert.GradDownLinesIdeal.τ).loc Cert.GradDownLinesIdeal.main_arg0) = m' ((c.tc : Thread Cert.GradDownLinesIdeal.nD Cert.GradDownLinesIdeal.τ).loc Cert.GradDownLinesIdeal.main_arg0)
          ∧ r.2.mem ((c.tc : Thread Cert.GradDownLinesIdeal.nD Cert.GradDownLinesIdeal.τ).loc Cert.GradDownLinesIdeal.main_arg1) = m' ((c.tc : Thread Cert.GradDownLinesIdeal.nD Cert.GradDownLinesIdeal.τ).loc Cert.GradDownLinesIdeal.main_arg1))

def preserves_GradOut_GradOutIdeal : Prop :=
  True

def algebraic_GradOutIdeal_GradOutLinesIdeal [hGradOutIdeal : Cert.GradOutIdeal.Facts] [hGradOutLinesIdeal : Cert.GradOutLinesIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutLinesIdeal.nD Cert.GradOutLinesIdeal.τ Cert.GradOutLinesIdeal.sig) → Buf (Elt Ideal) ℓ) (g' : Dev Cert.GradOutLinesIdeal.nD → PrngReg), Pre_GradOutIdeal m →
    (∀ c : Dev Cert.GradOutIdeal.nD,
      m' ((c.tc : Thread Cert.GradOutLinesIdeal.nD Cert.GradOutLinesIdeal.τ).loc Cert.GradOutLinesIdeal.main_arg0) = m ((c.tc : Thread Cert.GradOutIdeal.nD Cert.GradOutIdeal.τ).loc Cert.GradOutIdeal.main_arg0)
      ∧ m' ((c.tc : Thread Cert.GradOutLinesIdeal.nD Cert.GradOutLinesIdeal.τ).loc Cert.GradOutLinesIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutLinesIdeal.defs (F := Ideal)) (onTc (τ := Cert.GradOutLinesIdeal.τ) (Cert.GradOutLinesIdeal.main (F := Ideal))) ⟨m', fun _ => 0, g'⟩ (fun r => ∀ c : Dev Cert.GradOutLinesIdeal.nD,
          r.2.mem ((c.tc : Thread Cert.GradOutLinesIdeal.nD Cert.GradOutLinesIdeal.τ).loc Cert.GradOutLinesIdeal.main_v6) = v0 c
          ∧ r.2.mem ((c.tc : Thread Cert.GradOutLinesIdeal.nD Cert.GradOutLinesIdeal.τ).loc Cert.GradOutLinesIdeal.main_arg0) = m' ((c.tc : Thread Cert.GradOutLinesIdeal.nD Cert.GradOutLinesIdeal.τ).loc Cert.GradOutLinesIdeal.main_arg0)
          ∧ r.2.mem ((c.tc : Thread Cert.GradOutLinesIdeal.nD Cert.GradOutLinesIdeal.τ).loc Cert.GradOutLinesIdeal.main_arg1) = m' ((c.tc : Thread Cert.GradOutLinesIdeal.nD Cert.GradOutLinesIdeal.τ).loc Cert.GradOutLinesIdeal.main_arg1))

def preserves_GradBranch_GradBranchIdeal : Prop :=
  True

def algebraic_GradBranchIdeal_GradBranchLinesIdeal [hGradBranchIdeal : Cert.GradBranchIdeal.Facts] [hGradBranchLinesIdeal : Cert.GradBranchLinesIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg)
    (m' : (ℓ : Loc Cert.GradBranchLinesIdeal.nD Cert.GradBranchLinesIdeal.τ Cert.GradBranchLinesIdeal.sig) → Buf (Elt Ideal) ℓ) (g' : Dev Cert.GradBranchLinesIdeal.nD → PrngReg), Pre_GradBranchIdeal m →
    (∀ c : Dev Cert.GradBranchIdeal.nD,
      m' ((c.tc : Thread Cert.GradBranchLinesIdeal.nD Cert.GradBranchLinesIdeal.τ).loc Cert.GradBranchLinesIdeal.main_arg0) = m ((c.tc : Thread Cert.GradBranchIdeal.nD Cert.GradBranchIdeal.τ).loc Cert.GradBranchIdeal.main_arg0)
      ∧ m' ((c.tc : Thread Cert.GradBranchLinesIdeal.nD Cert.GradBranchLinesIdeal.τ).loc Cert.GradBranchLinesIdeal.main_arg1) = m ((c.tc : Thread Cert.GradBranchIdeal.nD Cert.GradBranchIdeal.τ).loc Cert.GradBranchIdeal.main_arg1)) →
    ∃ (v0 : (c : Dev Cert.GradBranchIdeal.nD) → Buf (Elt Ideal) ((c.tc : Thread Cert.GradBranchIdeal.nD Cert.GradBranchIdeal.τ).loc Cert.GradBranchIdeal.main_v0)),
      θ_run (Cert.GradBranchIdeal.defs (F := Ideal)) (onTc (τ := Cert.GradBranchIdeal.τ) (Cert.GradBranchIdeal.main (F := Ideal))) ⟨m, fun _ => 0, g⟩ (fun r => ∀ c : Dev Cert.GradBranchIdeal.nD,
          r.2.mem ((c.tc : Thread Cert.GradBranchIdeal.nD Cert.GradBranchIdeal.τ).loc Cert.GradBranchIdeal.main_v0) = v0 c
          ∧ r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
          ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ θ_run (Cert.GradBranchLinesIdeal.defs (F := Ideal)) (onTc (τ := Cert.GradBranchLinesIdeal.τ) (Cert.GradBranchLinesIdeal.main (F := Ideal))) ⟨m', fun _ => 0, g'⟩ (fun r => ∀ c : Dev Cert.GradBranchLinesIdeal.nD,
          r.2.mem ((c.tc : Thread Cert.GradBranchLinesIdeal.nD Cert.GradBranchLinesIdeal.τ).loc Cert.GradBranchLinesIdeal.main_v6) = v0 c
          ∧ r.2.mem ((c.tc : Thread Cert.GradBranchLinesIdeal.nD Cert.GradBranchLinesIdeal.τ).loc Cert.GradBranchLinesIdeal.main_arg0) = m' ((c.tc : Thread Cert.GradBranchLinesIdeal.nD Cert.GradBranchLinesIdeal.τ).loc Cert.GradBranchLinesIdeal.main_arg0)
          ∧ r.2.mem ((c.tc : Thread Cert.GradBranchLinesIdeal.nD Cert.GradBranchLinesIdeal.τ).loc Cert.GradBranchLinesIdeal.main_arg1) = m' ((c.tc : Thread Cert.GradBranchLinesIdeal.nD Cert.GradBranchLinesIdeal.τ).loc Cert.GradBranchLinesIdeal.main_arg1))

def preserves_GradFfn_GradFfnIdeal : Prop :=
  True

def algebraic_GradFfnIdeal_GradFfnLinesIdeal [hGradFfnIdeal : Cert.GradFfnIdeal.Facts] [hGradFfnLinesIdeal : Cert.GradFfnLinesIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradFfnLinesIdeal.nD Cert.GradFfnLinesIdeal.τ Cert.GradFfnLinesIdeal.sig) → Buf (Elt Ideal) ℓ) (g' : Dev Cert.GradFfnLinesIdeal.nD → PrngReg), Pre_GradFfnIdeal m →
    (∀ c : Dev Cert.GradFfnIdeal.nD,
      m' ((c.tc : Thread Cert.GradFfnLinesIdeal.nD Cert.GradFfnLinesIdeal.τ).loc Cert.GradFfnLinesIdeal.main_arg0) = m ((c.tc : Thread Cert.GradFfnIdeal.nD Cert.GradFfnIdeal.τ).loc Cert.GradFfnIdeal.main_arg0)
      ∧ m' ((c.tc : Thread Cert.GradFfnLinesIdeal.nD Cert.GradFfnLinesIdeal.τ).loc Cert.GradFfnLinesIdeal.main_arg1) = m ((c.tc : Thread Cert.GradFfnIdeal.nD Cert.GradFfnIdeal.τ).loc Cert.GradFfnIdeal.main_arg1)) →
    ∃ (v0 : (c : Dev Cert.GradFfnIdeal.nD) → Buf (Elt Ideal) ((c.tc : Thread Cert.GradFfnIdeal.nD Cert.GradFfnIdeal.τ).loc Cert.GradFfnIdeal.main_v1)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v1) = v0 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1))
      ∧ θ_run (Cert.GradFfnLinesIdeal.defs (F := Ideal)) (onTc (τ := Cert.GradFfnLinesIdeal.τ) (Cert.GradFfnLinesIdeal.main (F := Ideal))) ⟨m', fun _ => 0, g'⟩ (fun r => ∀ c : Dev Cert.GradFfnLinesIdeal.nD,
          r.2.mem ((c.tc : Thread Cert.GradFfnLinesIdeal.nD Cert.GradFfnLinesIdeal.τ).loc Cert.GradFfnLinesIdeal.main_v5) = v0 c
          ∧ r.2.mem ((c.tc : Thread Cert.GradFfnLinesIdeal.nD Cert.GradFfnLinesIdeal.τ).loc Cert.GradFfnLinesIdeal.main_arg0) = m' ((c.tc : Thread Cert.GradFfnLinesIdeal.nD Cert.GradFfnLinesIdeal.τ).loc Cert.GradFfnLinesIdeal.main_arg0)
          ∧ r.2.mem ((c.tc : Thread Cert.GradFfnLinesIdeal.nD Cert.GradFfnLinesIdeal.τ).loc Cert.GradFfnLinesIdeal.main_arg1) = m' ((c.tc : Thread Cert.GradFfnLinesIdeal.nD Cert.GradFfnLinesIdeal.τ).loc Cert.GradFfnLinesIdeal.main_arg1))

def preserves_GradHidden_GradHiddenIdeal : Prop :=
  True

def algebraic_GradHiddenIdeal_GradHiddenLinesIdeal [hGradHiddenIdeal : Cert.GradHiddenIdeal.Facts] [hGradHiddenLinesIdeal : Cert.GradHiddenLinesIdeal.Facts] : Prop :=
  ∀ (m : (ℓ : Loc Cert.GradHiddenIdeal.nD Cert.GradHiddenIdeal.τ Cert.GradHiddenIdeal.sig) → Buf (Elt Ideal) ℓ) (g : Dev Cert.GradHiddenIdeal.nD → PrngReg)
    (m' : (ℓ : Loc Cert.GradHiddenLinesIdeal.nD Cert.GradHiddenLinesIdeal.τ Cert.GradHiddenLinesIdeal.sig) → Buf (Elt Ideal) ℓ) (g' : Dev Cert.GradHiddenLinesIdeal.nD → PrngReg), Pre_GradHiddenIdeal m →
    (∀ c : Dev Cert.GradHiddenIdeal.nD,
      m' ((c.tc : Thread Cert.GradHiddenLinesIdeal.nD Cert.GradHiddenLinesIdeal.τ).loc Cert.GradHiddenLinesIdeal.main_arg0) = m ((c.tc : Thread Cert.GradHiddenIdeal.nD Cert.GradHiddenIdeal.τ).loc Cert.GradHiddenIdeal.main_arg0)
      ∧ m' ((c.tc : Thread Cert.GradHiddenLinesIdeal.nD Cert.GradHiddenLinesIdeal.τ).loc Cert.GradHiddenLinesIdeal.main_arg1) = m ((c.tc : Thread Cert.GradHiddenIdeal.nD Cert.GradHiddenIdeal.τ).loc Cert.GradHiddenIdeal.main_arg1)) →
    ∃ (v0 : (c : Dev Cert.GradHiddenIdeal.nD) → Buf (Elt Ideal) ((c.tc : Thread Cert.GradHiddenIdeal.nD Cert.GradHiddenIdeal.τ).loc Cert.GradHiddenIdeal.main_v1)),
      θ_run (Cert.GradHiddenIdeal.defs (F := Ideal)) (onTc (τ := Cert.GradHiddenIdeal.τ) (Cert.GradHiddenIdeal.main (F := Ideal))) ⟨m, fun _ => 0, g⟩ (fun r => ∀ c : Dev Cert.GradHiddenIdeal.nD,
          r.2.mem ((c.tc : Thread Cert.GradHiddenIdeal.nD Cert.GradHiddenIdeal.τ).loc Cert.GradHiddenIdeal.main_v1) = v0 c
          ∧ r.2.mem ((c.tc : Thread Cert.GradHiddenIdeal.nD Cert.GradHiddenIdeal.τ).loc Cert.GradHiddenIdeal.main_arg0) = m ((c.tc : Thread Cert.GradHiddenIdeal.nD Cert.GradHiddenIdeal.τ).loc Cert.GradHiddenIdeal.main_arg0)
          ∧ r.2.mem ((c.tc : Thread Cert.GradHiddenIdeal.nD Cert.GradHiddenIdeal.τ).loc Cert.GradHiddenIdeal.main_arg1) = m ((c.tc : Thread Cert.GradHiddenIdeal.nD Cert.GradHiddenIdeal.τ).loc Cert.GradHiddenIdeal.main_arg1))
      ∧ θ_run (Cert.GradHiddenLinesIdeal.defs (F := Ideal)) (onTc (τ := Cert.GradHiddenLinesIdeal.τ) (Cert.GradHiddenLinesIdeal.main (F := Ideal))) ⟨m', fun _ => 0, g'⟩ (fun r => ∀ c : Dev Cert.GradHiddenLinesIdeal.nD,
          r.2.mem ((c.tc : Thread Cert.GradHiddenLinesIdeal.nD Cert.GradHiddenLinesIdeal.τ).loc Cert.GradHiddenLinesIdeal.main_v5) = v0 c
          ∧ r.2.mem ((c.tc : Thread Cert.GradHiddenLinesIdeal.nD Cert.GradHiddenLinesIdeal.τ).loc Cert.GradHiddenLinesIdeal.main_arg0) = m' ((c.tc : Thread Cert.GradHiddenLinesIdeal.nD Cert.GradHiddenLinesIdeal.τ).loc Cert.GradHiddenLinesIdeal.main_arg0)
          ∧ r.2.mem ((c.tc : Thread Cert.GradHiddenLinesIdeal.nD Cert.GradHiddenLinesIdeal.τ).loc Cert.GradHiddenLinesIdeal.main_arg1) = m' ((c.tc : Thread Cert.GradHiddenLinesIdeal.nD Cert.GradHiddenLinesIdeal.τ).loc Cert.GradHiddenLinesIdeal.main_arg1))

def preserves_Down_DownIdeal : Prop :=
  True

def algebraic_DownIdeal_DownLinesIdeal [hDownIdeal : Cert.DownIdeal.Facts] [hDownLinesIdeal : Cert.DownLinesIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownLinesIdeal.nD Cert.DownLinesIdeal.τ Cert.DownLinesIdeal.sig) → Buf (Elt Ideal) ℓ) (g' : Dev Cert.DownLinesIdeal.nD → PrngReg), Pre_DownIdeal m →
    (∀ c : Dev Cert.DownIdeal.nD,
      m' ((c.tc : Thread Cert.DownLinesIdeal.nD Cert.DownLinesIdeal.τ).loc Cert.DownLinesIdeal.main_arg0) = m ((c.tc : Thread Cert.DownIdeal.nD Cert.DownIdeal.τ).loc Cert.DownIdeal.main_arg0)
      ∧ m' ((c.tc : Thread Cert.DownLinesIdeal.nD Cert.DownLinesIdeal.τ).loc Cert.DownLinesIdeal.main_arg1) = m ((c.tc : Thread Cert.DownIdeal.nD Cert.DownIdeal.τ).loc Cert.DownIdeal.main_arg1)
      ∧ m' ((c.tc : Thread Cert.DownLinesIdeal.nD Cert.DownLinesIdeal.τ).loc Cert.DownLinesIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownLinesIdeal.defs (F := Ideal)) (onTc (τ := Cert.DownLinesIdeal.τ) (Cert.DownLinesIdeal.main (F := Ideal))) ⟨m', fun _ => 0, g'⟩ (fun r => ∀ c : Dev Cert.DownLinesIdeal.nD,
          r.2.mem ((c.tc : Thread Cert.DownLinesIdeal.nD Cert.DownLinesIdeal.τ).loc Cert.DownLinesIdeal.main_v3) = v0 c
          ∧ r.2.mem ((c.tc : Thread Cert.DownLinesIdeal.nD Cert.DownLinesIdeal.τ).loc Cert.DownLinesIdeal.main_arg0) = m' ((c.tc : Thread Cert.DownLinesIdeal.nD Cert.DownLinesIdeal.τ).loc Cert.DownLinesIdeal.main_arg0)
          ∧ r.2.mem ((c.tc : Thread Cert.DownLinesIdeal.nD Cert.DownLinesIdeal.τ).loc Cert.DownLinesIdeal.main_arg1) = m' ((c.tc : Thread Cert.DownLinesIdeal.nD Cert.DownLinesIdeal.τ).loc Cert.DownLinesIdeal.main_arg1)
          ∧ r.2.mem ((c.tc : Thread Cert.DownLinesIdeal.nD Cert.DownLinesIdeal.τ).loc Cert.DownLinesIdeal.main_arg2) = m' ((c.tc : Thread Cert.DownLinesIdeal.nD Cert.DownLinesIdeal.τ).loc Cert.DownLinesIdeal.main_arg2))

def preserves_Attention_AttentionIdeal : Prop :=
  True

def algebraic_AttentionIdeal_AttentionLinesIdeal_pre_finite_scores [hAttentionIdeal : Cert.AttentionIdeal.Facts] [hAttentionLinesIdeal : Cert.AttentionLinesIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionLinesIdeal.nD Cert.AttentionLinesIdeal.τ Cert.AttentionLinesIdeal.sig) → Buf (Elt Ideal) ℓ) (g' : Dev Cert.AttentionLinesIdeal.nD → PrngReg), Pre_AttentionIdeal_finite_scores m →
    (∀ c : Dev Cert.AttentionIdeal.nD,
      m' ((c.tc : Thread Cert.AttentionLinesIdeal.nD Cert.AttentionLinesIdeal.τ).loc Cert.AttentionLinesIdeal.main_arg0) = m ((c.tc : Thread Cert.AttentionIdeal.nD Cert.AttentionIdeal.τ).loc Cert.AttentionIdeal.main_arg0)
      ∧ m' ((c.tc : Thread Cert.AttentionLinesIdeal.nD Cert.AttentionLinesIdeal.τ).loc Cert.AttentionLinesIdeal.main_arg1) = m ((c.tc : Thread Cert.AttentionIdeal.nD Cert.AttentionIdeal.τ).loc Cert.AttentionIdeal.main_arg1)
      ∧ m' ((c.tc : Thread Cert.AttentionLinesIdeal.nD Cert.AttentionLinesIdeal.τ).loc Cert.AttentionLinesIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v7)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v7) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionLinesIdeal.defs (F := Ideal)) (onTc (τ := Cert.AttentionLinesIdeal.τ) (Cert.AttentionLinesIdeal.main (F := Ideal))) ⟨m', fun _ => 0, g'⟩ (fun r => ∀ c : Dev Cert.AttentionLinesIdeal.nD,
          r.2.mem ((c.tc : Thread Cert.AttentionLinesIdeal.nD Cert.AttentionLinesIdeal.τ).loc Cert.AttentionLinesIdeal.main_v16) = v0 c
          ∧ r.2.mem ((c.tc : Thread Cert.AttentionLinesIdeal.nD Cert.AttentionLinesIdeal.τ).loc Cert.AttentionLinesIdeal.main_arg0) = m' ((c.tc : Thread Cert.AttentionLinesIdeal.nD Cert.AttentionLinesIdeal.τ).loc Cert.AttentionLinesIdeal.main_arg0)
          ∧ r.2.mem ((c.tc : Thread Cert.AttentionLinesIdeal.nD Cert.AttentionLinesIdeal.τ).loc Cert.AttentionLinesIdeal.main_arg1) = m' ((c.tc : Thread Cert.AttentionLinesIdeal.nD Cert.AttentionLinesIdeal.τ).loc Cert.AttentionLinesIdeal.main_arg1)
          ∧ r.2.mem ((c.tc : Thread Cert.AttentionLinesIdeal.nD Cert.AttentionLinesIdeal.τ).loc Cert.AttentionLinesIdeal.main_arg2) = m' ((c.tc : Thread Cert.AttentionLinesIdeal.nD Cert.AttentionLinesIdeal.τ).loc Cert.AttentionLinesIdeal.main_arg2))

def preserves_GradMerge_GradMergeIdeal : Prop :=
  True

def algebraic_GradMergeIdeal_GradMergeLinesIdeal [hGradMergeIdeal : Cert.GradMergeIdeal.Facts] [hGradMergeLinesIdeal : Cert.GradMergeLinesIdeal.Facts] : Prop :=
  ∀ (m : (ℓ : Loc Cert.GradMergeIdeal.nD Cert.GradMergeIdeal.τ Cert.GradMergeIdeal.sig) → Buf (Elt Ideal) ℓ) (g : Dev Cert.GradMergeIdeal.nD → PrngReg)
    (m' : (ℓ : Loc Cert.GradMergeLinesIdeal.nD Cert.GradMergeLinesIdeal.τ Cert.GradMergeLinesIdeal.sig) → Buf (Elt Ideal) ℓ) (g' : Dev Cert.GradMergeLinesIdeal.nD → PrngReg), Pre_GradMergeIdeal m →
    (∀ c : Dev Cert.GradMergeIdeal.nD,
      m' ((c.tc : Thread Cert.GradMergeLinesIdeal.nD Cert.GradMergeLinesIdeal.τ).loc Cert.GradMergeLinesIdeal.main_arg0) = m ((c.tc : Thread Cert.GradMergeIdeal.nD Cert.GradMergeIdeal.τ).loc Cert.GradMergeIdeal.main_arg0)
      ∧ m' ((c.tc : Thread Cert.GradMergeLinesIdeal.nD Cert.GradMergeLinesIdeal.τ).loc Cert.GradMergeLinesIdeal.main_arg1) = m ((c.tc : Thread Cert.GradMergeIdeal.nD Cert.GradMergeIdeal.τ).loc Cert.GradMergeIdeal.main_arg1)
      ∧ m' ((c.tc : Thread Cert.GradMergeLinesIdeal.nD Cert.GradMergeLinesIdeal.τ).loc Cert.GradMergeLinesIdeal.main_arg2) = m ((c.tc : Thread Cert.GradMergeIdeal.nD Cert.GradMergeIdeal.τ).loc Cert.GradMergeIdeal.main_arg2)
      ∧ m' ((c.tc : Thread Cert.GradMergeLinesIdeal.nD Cert.GradMergeLinesIdeal.τ).loc Cert.GradMergeLinesIdeal.main_arg3) = m ((c.tc : Thread Cert.GradMergeIdeal.nD Cert.GradMergeIdeal.τ).loc Cert.GradMergeIdeal.main_arg3)
      ∧ m' ((c.tc : Thread Cert.GradMergeLinesIdeal.nD Cert.GradMergeLinesIdeal.τ).loc Cert.GradMergeLinesIdeal.main_arg4) = m ((c.tc : Thread Cert.GradMergeIdeal.nD Cert.GradMergeIdeal.τ).loc Cert.GradMergeIdeal.main_arg4)
      ∧ m' ((c.tc : Thread Cert.GradMergeLinesIdeal.nD Cert.GradMergeLinesIdeal.τ).loc Cert.GradMergeLinesIdeal.main_arg5) = m ((c.tc : Thread Cert.GradMergeIdeal.nD Cert.GradMergeIdeal.τ).loc Cert.GradMergeIdeal.main_arg5)
      ∧ m' ((c.tc : Thread Cert.GradMergeLinesIdeal.nD Cert.GradMergeLinesIdeal.τ).loc Cert.GradMergeLinesIdeal.main_arg6) = m ((c.tc : Thread Cert.GradMergeIdeal.nD Cert.GradMergeIdeal.τ).loc Cert.GradMergeIdeal.main_arg6)) →
    ∃ (v0 : (c : Dev Cert.GradMergeIdeal.nD) → Buf (Elt Ideal) ((c.tc : Thread Cert.GradMergeIdeal.nD Cert.GradMergeIdeal.τ).loc Cert.GradMergeIdeal.main_v1_0)) (v1 : (c : Dev Cert.GradMergeIdeal.nD) → Buf (Elt Ideal) ((c.tc : Thread Cert.GradMergeIdeal.nD Cert.GradMergeIdeal.τ).loc Cert.GradMergeIdeal.main_v1_1)) (v2 : (c : Dev Cert.GradMergeIdeal.nD) → Buf (Elt Ideal) ((c.tc : Thread Cert.GradMergeIdeal.nD Cert.GradMergeIdeal.τ).loc Cert.GradMergeIdeal.main_v1_2)) (v3 : (c : Dev Cert.GradMergeIdeal.nD) → Buf (Elt Ideal) ((c.tc : Thread Cert.GradMergeIdeal.nD Cert.GradMergeIdeal.τ).loc Cert.GradMergeIdeal.main_v1_3)) (v4 : (c : Dev Cert.GradMergeIdeal.nD) → Buf (Elt Ideal) ((c.tc : Thread Cert.GradMergeIdeal.nD Cert.GradMergeIdeal.τ).loc Cert.GradMergeIdeal.main_v1_4)) (v5 : (c : Dev Cert.GradMergeIdeal.nD) → Buf (Elt Ideal) ((c.tc : Thread Cert.GradMergeIdeal.nD Cert.GradMergeIdeal.τ).loc Cert.GradMergeIdeal.main_v1_5)) (v6 : (c : Dev Cert.GradMergeIdeal.nD) → Buf (Elt Ideal) ((c.tc : Thread Cert.GradMergeIdeal.nD Cert.GradMergeIdeal.τ).loc Cert.GradMergeIdeal.main_v1_6)) (v7 : (c : Dev Cert.GradMergeIdeal.nD) → Buf (Elt Ideal) ((c.tc : Thread Cert.GradMergeIdeal.nD Cert.GradMergeIdeal.τ).loc Cert.GradMergeIdeal.main_v1_7)),
      θ_run (Cert.GradMergeIdeal.defs (F := Ideal)) (onTc (τ := Cert.GradMergeIdeal.τ) (Cert.GradMergeIdeal.main (F := Ideal))) ⟨m, fun _ => 0, g⟩ (fun r => ∀ c : Dev Cert.GradMergeIdeal.nD,
          r.2.mem ((c.tc : Thread Cert.GradMergeIdeal.nD Cert.GradMergeIdeal.τ).loc Cert.GradMergeIdeal.main_v1_0) = v0 c
          ∧ r.2.mem ((c.tc : Thread Cert.GradMergeIdeal.nD Cert.GradMergeIdeal.τ).loc Cert.GradMergeIdeal.main_v1_1) = v1 c
          ∧ r.2.mem ((c.tc : Thread Cert.GradMergeIdeal.nD Cert.GradMergeIdeal.τ).loc Cert.GradMergeIdeal.main_v1_2) = v2 c
          ∧ r.2.mem ((c.tc : Thread Cert.GradMergeIdeal.nD Cert.GradMergeIdeal.τ).loc Cert.GradMergeIdeal.main_v1_3) = v3 c
          ∧ r.2.mem ((c.tc : Thread Cert.GradMergeIdeal.nD Cert.GradMergeIdeal.τ).loc Cert.GradMergeIdeal.main_v1_4) = v4 c
          ∧ r.2.mem ((c.tc : Thread Cert.GradMergeIdeal.nD Cert.GradMergeIdeal.τ).loc Cert.GradMergeIdeal.main_v1_5) = v5 c
          ∧ r.2.mem ((c.tc : Thread Cert.GradMergeIdeal.nD Cert.GradMergeIdeal.τ).loc Cert.GradMergeIdeal.main_v1_6) = v6 c
          ∧ r.2.mem ((c.tc : Thread Cert.GradMergeIdeal.nD Cert.GradMergeIdeal.τ).loc Cert.GradMergeIdeal.main_v1_7) = v7 c
          ∧ r.2.mem ((c.tc : Thread Cert.GradMergeIdeal.nD Cert.GradMergeIdeal.τ).loc Cert.GradMergeIdeal.main_arg0) = m ((c.tc : Thread Cert.GradMergeIdeal.nD Cert.GradMergeIdeal.τ).loc Cert.GradMergeIdeal.main_arg0)
          ∧ r.2.mem ((c.tc : Thread Cert.GradMergeIdeal.nD Cert.GradMergeIdeal.τ).loc Cert.GradMergeIdeal.main_arg1) = m ((c.tc : Thread Cert.GradMergeIdeal.nD Cert.GradMergeIdeal.τ).loc Cert.GradMergeIdeal.main_arg1)
          ∧ r.2.mem ((c.tc : Thread Cert.GradMergeIdeal.nD Cert.GradMergeIdeal.τ).loc Cert.GradMergeIdeal.main_arg2) = m ((c.tc : Thread Cert.GradMergeIdeal.nD Cert.GradMergeIdeal.τ).loc Cert.GradMergeIdeal.main_arg2)
          ∧ r.2.mem ((c.tc : Thread Cert.GradMergeIdeal.nD Cert.GradMergeIdeal.τ).loc Cert.GradMergeIdeal.main_arg3) = m ((c.tc : Thread Cert.GradMergeIdeal.nD Cert.GradMergeIdeal.τ).loc Cert.GradMergeIdeal.main_arg3)
          ∧ r.2.mem ((c.tc : Thread Cert.GradMergeIdeal.nD Cert.GradMergeIdeal.τ).loc Cert.GradMergeIdeal.main_arg4) = m ((c.tc : Thread Cert.GradMergeIdeal.nD Cert.GradMergeIdeal.τ).loc Cert.GradMergeIdeal.main_arg4)
          ∧ r.2.mem ((c.tc : Thread Cert.GradMergeIdeal.nD Cert.GradMergeIdeal.τ).loc Cert.GradMergeIdeal.main_arg5) = m ((c.tc : Thread Cert.GradMergeIdeal.nD Cert.GradMergeIdeal.τ).loc Cert.GradMergeIdeal.main_arg5)
          ∧ r.2.mem ((c.tc : Thread Cert.GradMergeIdeal.nD Cert.GradMergeIdeal.τ).loc Cert.GradMergeIdeal.main_arg6) = m ((c.tc : Thread Cert.GradMergeIdeal.nD Cert.GradMergeIdeal.τ).loc Cert.GradMergeIdeal.main_arg6))
      ∧ θ_run (Cert.GradMergeLinesIdeal.defs (F := Ideal)) (onTc (τ := Cert.GradMergeLinesIdeal.τ) (Cert.GradMergeLinesIdeal.main (F := Ideal))) ⟨m', fun _ => 0, g'⟩ (fun r => ∀ c : Dev Cert.GradMergeLinesIdeal.nD,
          r.2.mem ((c.tc : Thread Cert.GradMergeLinesIdeal.nD Cert.GradMergeLinesIdeal.τ).loc Cert.GradMergeLinesIdeal.main_v40) = v0 c
          ∧ r.2.mem ((c.tc : Thread Cert.GradMergeLinesIdeal.nD Cert.GradMergeLinesIdeal.τ).loc Cert.GradMergeLinesIdeal.main_v42) = v1 c
          ∧ r.2.mem ((c.tc : Thread Cert.GradMergeLinesIdeal.nD Cert.GradMergeLinesIdeal.τ).loc Cert.GradMergeLinesIdeal.main_v44) = v2 c
          ∧ r.2.mem ((c.tc : Thread Cert.GradMergeLinesIdeal.nD Cert.GradMergeLinesIdeal.τ).loc Cert.GradMergeLinesIdeal.main_v46) = v3 c
          ∧ r.2.mem ((c.tc : Thread Cert.GradMergeLinesIdeal.nD Cert.GradMergeLinesIdeal.τ).loc Cert.GradMergeLinesIdeal.main_v48) = v4 c
          ∧ r.2.mem ((c.tc : Thread Cert.GradMergeLinesIdeal.nD Cert.GradMergeLinesIdeal.τ).loc Cert.GradMergeLinesIdeal.main_v50) = v5 c
          ∧ r.2.mem ((c.tc : Thread Cert.GradMergeLinesIdeal.nD Cert.GradMergeLinesIdeal.τ).loc Cert.GradMergeLinesIdeal.main_v38) = v6 c
          ∧ r.2.mem ((c.tc : Thread Cert.GradMergeLinesIdeal.nD Cert.GradMergeLinesIdeal.τ).loc Cert.GradMergeLinesIdeal.main_v31) = v7 c
          ∧ r.2.mem ((c.tc : Thread Cert.GradMergeLinesIdeal.nD Cert.GradMergeLinesIdeal.τ).loc Cert.GradMergeLinesIdeal.main_arg0) = m' ((c.tc : Thread Cert.GradMergeLinesIdeal.nD Cert.GradMergeLinesIdeal.τ).loc Cert.GradMergeLinesIdeal.main_arg0)
          ∧ r.2.mem ((c.tc : Thread Cert.GradMergeLinesIdeal.nD Cert.GradMergeLinesIdeal.τ).loc Cert.GradMergeLinesIdeal.main_arg1) = m' ((c.tc : Thread Cert.GradMergeLinesIdeal.nD Cert.GradMergeLinesIdeal.τ).loc Cert.GradMergeLinesIdeal.main_arg1)
          ∧ r.2.mem ((c.tc : Thread Cert.GradMergeLinesIdeal.nD Cert.GradMergeLinesIdeal.τ).loc Cert.GradMergeLinesIdeal.main_arg2) = m' ((c.tc : Thread Cert.GradMergeLinesIdeal.nD Cert.GradMergeLinesIdeal.τ).loc Cert.GradMergeLinesIdeal.main_arg2)
          ∧ r.2.mem ((c.tc : Thread Cert.GradMergeLinesIdeal.nD Cert.GradMergeLinesIdeal.τ).loc Cert.GradMergeLinesIdeal.main_arg3) = m' ((c.tc : Thread Cert.GradMergeLinesIdeal.nD Cert.GradMergeLinesIdeal.τ).loc Cert.GradMergeLinesIdeal.main_arg3)
          ∧ r.2.mem ((c.tc : Thread Cert.GradMergeLinesIdeal.nD Cert.GradMergeLinesIdeal.τ).loc Cert.GradMergeLinesIdeal.main_arg4) = m' ((c.tc : Thread Cert.GradMergeLinesIdeal.nD Cert.GradMergeLinesIdeal.τ).loc Cert.GradMergeLinesIdeal.main_arg4)
          ∧ r.2.mem ((c.tc : Thread Cert.GradMergeLinesIdeal.nD Cert.GradMergeLinesIdeal.τ).loc Cert.GradMergeLinesIdeal.main_arg5) = m' ((c.tc : Thread Cert.GradMergeLinesIdeal.nD Cert.GradMergeLinesIdeal.τ).loc Cert.GradMergeLinesIdeal.main_arg5)
          ∧ r.2.mem ((c.tc : Thread Cert.GradMergeLinesIdeal.nD Cert.GradMergeLinesIdeal.τ).loc Cert.GradMergeLinesIdeal.main_arg6) = m' ((c.tc : Thread Cert.GradMergeLinesIdeal.nD Cert.GradMergeLinesIdeal.τ).loc Cert.GradMergeLinesIdeal.main_arg6))

def preserves_Merge_MergeIdeal : Prop :=
  True

def algebraic_MergeIdeal_MergeLinesIdeal [hMergeIdeal : Cert.MergeIdeal.Facts] [hMergeLinesIdeal : Cert.MergeLinesIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeLinesIdeal.nD Cert.MergeLinesIdeal.τ Cert.MergeLinesIdeal.sig) → Buf (Elt Ideal) ℓ) (g' : Dev Cert.MergeLinesIdeal.nD → PrngReg), Pre_MergeIdeal m →
    (∀ c : Dev Cert.MergeIdeal.nD,
      m' ((c.tc : Thread Cert.MergeLinesIdeal.nD Cert.MergeLinesIdeal.τ).loc Cert.MergeLinesIdeal.main_arg0) = m ((c.tc : Thread Cert.MergeIdeal.nD Cert.MergeIdeal.τ).loc Cert.MergeIdeal.main_arg0)
      ∧ m' ((c.tc : Thread Cert.MergeLinesIdeal.nD Cert.MergeLinesIdeal.τ).loc Cert.MergeLinesIdeal.main_arg1) = m ((c.tc : Thread Cert.MergeIdeal.nD Cert.MergeIdeal.τ).loc Cert.MergeIdeal.main_arg1)
      ∧ m' ((c.tc : Thread Cert.MergeLinesIdeal.nD Cert.MergeLinesIdeal.τ).loc Cert.MergeLinesIdeal.main_arg2) = m ((c.tc : Thread Cert.MergeIdeal.nD Cert.MergeIdeal.τ).loc Cert.MergeIdeal.main_arg2)
      ∧ m' ((c.tc : Thread Cert.MergeLinesIdeal.nD Cert.MergeLinesIdeal.τ).loc Cert.MergeLinesIdeal.main_arg3) = m ((c.tc : Thread Cert.MergeIdeal.nD Cert.MergeIdeal.τ).loc Cert.MergeIdeal.main_arg3)
      ∧ m' ((c.tc : Thread Cert.MergeLinesIdeal.nD Cert.MergeLinesIdeal.τ).loc Cert.MergeLinesIdeal.main_arg4) = m ((c.tc : Thread Cert.MergeIdeal.nD Cert.MergeIdeal.τ).loc Cert.MergeIdeal.main_arg4)
      ∧ m' ((c.tc : Thread Cert.MergeLinesIdeal.nD Cert.MergeLinesIdeal.τ).loc Cert.MergeLinesIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeLinesIdeal.defs (F := Ideal)) (onTc (τ := Cert.MergeLinesIdeal.τ) (Cert.MergeLinesIdeal.main (F := Ideal))) ⟨m', fun _ => 0, g'⟩ (fun r => ∀ c : Dev Cert.MergeLinesIdeal.nD,
          r.2.mem ((c.tc : Thread Cert.MergeLinesIdeal.nD Cert.MergeLinesIdeal.τ).loc Cert.MergeLinesIdeal.main_v24) = v0 c
          ∧ r.2.mem ((c.tc : Thread Cert.MergeLinesIdeal.nD Cert.MergeLinesIdeal.τ).loc Cert.MergeLinesIdeal.main_v25) = v1 c
          ∧ r.2.mem ((c.tc : Thread Cert.MergeLinesIdeal.nD Cert.MergeLinesIdeal.τ).loc Cert.MergeLinesIdeal.main_arg0) = m' ((c.tc : Thread Cert.MergeLinesIdeal.nD Cert.MergeLinesIdeal.τ).loc Cert.MergeLinesIdeal.main_arg0)
          ∧ r.2.mem ((c.tc : Thread Cert.MergeLinesIdeal.nD Cert.MergeLinesIdeal.τ).loc Cert.MergeLinesIdeal.main_arg1) = m' ((c.tc : Thread Cert.MergeLinesIdeal.nD Cert.MergeLinesIdeal.τ).loc Cert.MergeLinesIdeal.main_arg1)
          ∧ r.2.mem ((c.tc : Thread Cert.MergeLinesIdeal.nD Cert.MergeLinesIdeal.τ).loc Cert.MergeLinesIdeal.main_arg2) = m' ((c.tc : Thread Cert.MergeLinesIdeal.nD Cert.MergeLinesIdeal.τ).loc Cert.MergeLinesIdeal.main_arg2)
          ∧ r.2.mem ((c.tc : Thread Cert.MergeLinesIdeal.nD Cert.MergeLinesIdeal.τ).loc Cert.MergeLinesIdeal.main_arg3) = m' ((c.tc : Thread Cert.MergeLinesIdeal.nD Cert.MergeLinesIdeal.τ).loc Cert.MergeLinesIdeal.main_arg3)
          ∧ r.2.mem ((c.tc : Thread Cert.MergeLinesIdeal.nD Cert.MergeLinesIdeal.τ).loc Cert.MergeLinesIdeal.main_arg4) = m' ((c.tc : Thread Cert.MergeLinesIdeal.nD Cert.MergeLinesIdeal.τ).loc Cert.MergeLinesIdeal.main_arg4)
          ∧ r.2.mem ((c.tc : Thread Cert.MergeLinesIdeal.nD Cert.MergeLinesIdeal.τ).loc Cert.MergeLinesIdeal.main_arg5) = m' ((c.tc : Thread Cert.MergeLinesIdeal.nD Cert.MergeLinesIdeal.τ).loc Cert.MergeLinesIdeal.main_arg5))

def preserves_Swiglu_SwigluIdeal : Prop :=
  True

def algebraic_SwigluIdeal_SwigluLinesIdeal [hSwigluIdeal : Cert.SwigluIdeal.Facts] [hSwigluLinesIdeal : Cert.SwigluLinesIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluLinesIdeal.nD Cert.SwigluLinesIdeal.τ Cert.SwigluLinesIdeal.sig) → Buf (Elt Ideal) ℓ) (g' : Dev Cert.SwigluLinesIdeal.nD → PrngReg), Pre_SwigluIdeal m →
    (∀ c : Dev Cert.SwigluIdeal.nD,
      m' ((c.tc : Thread Cert.SwigluLinesIdeal.nD Cert.SwigluLinesIdeal.τ).loc Cert.SwigluLinesIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluLinesIdeal.defs (F := Ideal)) (onTc (τ := Cert.SwigluLinesIdeal.τ) (Cert.SwigluLinesIdeal.main (F := Ideal))) ⟨m', fun _ => 0, g'⟩ (fun r => ∀ c : Dev Cert.SwigluLinesIdeal.nD,
          r.2.mem ((c.tc : Thread Cert.SwigluLinesIdeal.nD Cert.SwigluLinesIdeal.τ).loc Cert.SwigluLinesIdeal.main_v5) = v0 c
          ∧ r.2.mem ((c.tc : Thread Cert.SwigluLinesIdeal.nD Cert.SwigluLinesIdeal.τ).loc Cert.SwigluLinesIdeal.main_arg0) = m' ((c.tc : Thread Cert.SwigluLinesIdeal.nD Cert.SwigluLinesIdeal.τ).loc Cert.SwigluLinesIdeal.main_arg0))

def preserves_GradSwiglu_GradSwigluIdeal : Prop :=
  True

def algebraic_GradSwigluIdeal_GradSwigluLinesIdeal_pre_finite_up [hGradSwigluIdeal : Cert.GradSwigluIdeal.Facts] [hGradSwigluLinesIdeal : Cert.GradSwigluLinesIdeal.Facts] [hPre_finite_up : Cert.Pre_finite_up.Facts] : Prop :=
  ∀ (m : (ℓ : Loc Cert.GradSwigluIdeal.nD Cert.GradSwigluIdeal.τ Cert.GradSwigluIdeal.sig) → Buf (Elt Ideal) ℓ) (g : Dev Cert.GradSwigluIdeal.nD → PrngReg)
    (m' : (ℓ : Loc Cert.GradSwigluLinesIdeal.nD Cert.GradSwigluLinesIdeal.τ Cert.GradSwigluLinesIdeal.sig) → Buf (Elt Ideal) ℓ) (g' : Dev Cert.GradSwigluLinesIdeal.nD → PrngReg), Pre_GradSwigluIdeal_finite_up m →
    (∀ c : Dev Cert.GradSwigluIdeal.nD,
      m' ((c.tc : Thread Cert.GradSwigluLinesIdeal.nD Cert.GradSwigluLinesIdeal.τ).loc Cert.GradSwigluLinesIdeal.main_arg0) = m ((c.tc : Thread Cert.GradSwigluIdeal.nD Cert.GradSwigluIdeal.τ).loc Cert.GradSwigluIdeal.main_arg0)
      ∧ m' ((c.tc : Thread Cert.GradSwigluLinesIdeal.nD Cert.GradSwigluLinesIdeal.τ).loc Cert.GradSwigluLinesIdeal.main_arg1) = m ((c.tc : Thread Cert.GradSwigluIdeal.nD Cert.GradSwigluIdeal.τ).loc Cert.GradSwigluIdeal.main_arg1)) →
    ∃ (v0 : (c : Dev Cert.GradSwigluIdeal.nD) → Buf (Elt Ideal) ((c.tc : Thread Cert.GradSwigluIdeal.nD Cert.GradSwigluIdeal.τ).loc Cert.GradSwigluIdeal.main_v0)),
      θ_run (Cert.GradSwigluIdeal.defs (F := Ideal)) (onTc (τ := Cert.GradSwigluIdeal.τ) (Cert.GradSwigluIdeal.main (F := Ideal))) ⟨m, fun _ => 0, g⟩ (fun r => ∀ c : Dev Cert.GradSwigluIdeal.nD,
          r.2.mem ((c.tc : Thread Cert.GradSwigluIdeal.nD Cert.GradSwigluIdeal.τ).loc Cert.GradSwigluIdeal.main_v0) = v0 c
          ∧ r.2.mem ((c.tc : Thread Cert.GradSwigluIdeal.nD Cert.GradSwigluIdeal.τ).loc Cert.GradSwigluIdeal.main_arg0) = m ((c.tc : Thread Cert.GradSwigluIdeal.nD Cert.GradSwigluIdeal.τ).loc Cert.GradSwigluIdeal.main_arg0)
          ∧ r.2.mem ((c.tc : Thread Cert.GradSwigluIdeal.nD Cert.GradSwigluIdeal.τ).loc Cert.GradSwigluIdeal.main_arg1) = m ((c.tc : Thread Cert.GradSwigluIdeal.nD Cert.GradSwigluIdeal.τ).loc Cert.GradSwigluIdeal.main_arg1))
      ∧ θ_run (Cert.GradSwigluLinesIdeal.defs (F := Ideal)) (onTc (τ := Cert.GradSwigluLinesIdeal.τ) (Cert.GradSwigluLinesIdeal.main (F := Ideal))) ⟨m', fun _ => 0, g'⟩ (fun r => ∀ c : Dev Cert.GradSwigluLinesIdeal.nD,
          r.2.mem ((c.tc : Thread Cert.GradSwigluLinesIdeal.nD Cert.GradSwigluLinesIdeal.τ).loc Cert.GradSwigluLinesIdeal.main_v12) = v0 c
          ∧ r.2.mem ((c.tc : Thread Cert.GradSwigluLinesIdeal.nD Cert.GradSwigluLinesIdeal.τ).loc Cert.GradSwigluLinesIdeal.main_arg0) = m' ((c.tc : Thread Cert.GradSwigluLinesIdeal.nD Cert.GradSwigluLinesIdeal.τ).loc Cert.GradSwigluLinesIdeal.main_arg0)
          ∧ r.2.mem ((c.tc : Thread Cert.GradSwigluLinesIdeal.nD Cert.GradSwigluLinesIdeal.τ).loc Cert.GradSwigluLinesIdeal.main_arg1) = m' ((c.tc : Thread Cert.GradSwigluLinesIdeal.nD Cert.GradSwigluLinesIdeal.τ).loc Cert.GradSwigluLinesIdeal.main_arg1))

def preserves_Conv_ConvIdeal : Prop :=
  True

def algebraic_ConvIdeal_ConvLinesIdeal [hConvIdeal : Cert.ConvIdeal.Facts] [hConvLinesIdeal : Cert.ConvLinesIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvLinesIdeal.nD Cert.ConvLinesIdeal.τ Cert.ConvLinesIdeal.sig) → Buf (Elt Ideal) ℓ) (g' : Dev Cert.ConvLinesIdeal.nD → PrngReg), Pre_ConvIdeal m →
    (∀ c : Dev Cert.ConvIdeal.nD,
      m' ((c.tc : Thread Cert.ConvLinesIdeal.nD Cert.ConvLinesIdeal.τ).loc Cert.ConvLinesIdeal.main_arg0) = m ((c.tc : Thread Cert.ConvIdeal.nD Cert.ConvIdeal.τ).loc Cert.ConvIdeal.main_arg0)
      ∧ m' ((c.tc : Thread Cert.ConvLinesIdeal.nD Cert.ConvLinesIdeal.τ).loc Cert.ConvLinesIdeal.main_arg1) = m ((c.tc : Thread Cert.ConvIdeal.nD Cert.ConvIdeal.τ).loc Cert.ConvIdeal.main_arg1)
      ∧ m' ((c.tc : Thread Cert.ConvLinesIdeal.nD Cert.ConvLinesIdeal.τ).loc Cert.ConvLinesIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvLinesIdeal.defs (F := Ideal)) (onTc (τ := Cert.ConvLinesIdeal.τ) (Cert.ConvLinesIdeal.main (F := Ideal))) ⟨m', fun _ => 0, g'⟩ (fun r => ∀ c : Dev Cert.ConvLinesIdeal.nD,
          r.2.mem ((c.tc : Thread Cert.ConvLinesIdeal.nD Cert.ConvLinesIdeal.τ).loc Cert.ConvLinesIdeal.main_v33) = v0 c
          ∧ r.2.mem ((c.tc : Thread Cert.ConvLinesIdeal.nD Cert.ConvLinesIdeal.τ).loc Cert.ConvLinesIdeal.main_arg0) = m' ((c.tc : Thread Cert.ConvLinesIdeal.nD Cert.ConvLinesIdeal.τ).loc Cert.ConvLinesIdeal.main_arg0)
          ∧ r.2.mem ((c.tc : Thread Cert.ConvLinesIdeal.nD Cert.ConvLinesIdeal.τ).loc Cert.ConvLinesIdeal.main_arg1) = m' ((c.tc : Thread Cert.ConvLinesIdeal.nD Cert.ConvLinesIdeal.τ).loc Cert.ConvLinesIdeal.main_arg1)
          ∧ r.2.mem ((c.tc : Thread Cert.ConvLinesIdeal.nD Cert.ConvLinesIdeal.τ).loc Cert.ConvLinesIdeal.main_arg2) = m' ((c.tc : Thread Cert.ConvLinesIdeal.nD Cert.ConvLinesIdeal.τ).loc Cert.ConvLinesIdeal.main_arg2))

def preserves_GradConv_GradConvIdeal : Prop :=
  True

def algebraic_GradConvIdeal_GradConvLinesIdeal [hGradConvIdeal : Cert.GradConvIdeal.Facts] [hGradConvLinesIdeal : Cert.GradConvLinesIdeal.Facts] : Prop :=
  ∀ (m : (ℓ : Loc Cert.GradConvIdeal.nD Cert.GradConvIdeal.τ Cert.GradConvIdeal.sig) → Buf (Elt Ideal) ℓ) (g : Dev Cert.GradConvIdeal.nD → PrngReg)
    (m' : (ℓ : Loc Cert.GradConvLinesIdeal.nD Cert.GradConvLinesIdeal.τ Cert.GradConvLinesIdeal.sig) → Buf (Elt Ideal) ℓ) (g' : Dev Cert.GradConvLinesIdeal.nD → PrngReg), Pre_GradConvIdeal m →
    (∀ c : Dev Cert.GradConvIdeal.nD,
      m' ((c.tc : Thread Cert.GradConvLinesIdeal.nD Cert.GradConvLinesIdeal.τ).loc Cert.GradConvLinesIdeal.main_arg0) = m ((c.tc : Thread Cert.GradConvIdeal.nD Cert.GradConvIdeal.τ).loc Cert.GradConvIdeal.main_arg0)
      ∧ m' ((c.tc : Thread Cert.GradConvLinesIdeal.nD Cert.GradConvLinesIdeal.τ).loc Cert.GradConvLinesIdeal.main_arg1) = m ((c.tc : Thread Cert.GradConvIdeal.nD Cert.GradConvIdeal.τ).loc Cert.GradConvIdeal.main_arg1)
      ∧ m' ((c.tc : Thread Cert.GradConvLinesIdeal.nD Cert.GradConvLinesIdeal.τ).loc Cert.GradConvLinesIdeal.main_arg2) = m ((c.tc : Thread Cert.GradConvIdeal.nD Cert.GradConvIdeal.τ).loc Cert.GradConvIdeal.main_arg2)
      ∧ m' ((c.tc : Thread Cert.GradConvLinesIdeal.nD Cert.GradConvLinesIdeal.τ).loc Cert.GradConvLinesIdeal.main_arg3) = m ((c.tc : Thread Cert.GradConvIdeal.nD Cert.GradConvIdeal.τ).loc Cert.GradConvIdeal.main_arg3)) →
    ∃ (v0 : (c : Dev Cert.GradConvIdeal.nD) → Buf (Elt Ideal) ((c.tc : Thread Cert.GradConvIdeal.nD Cert.GradConvIdeal.τ).loc Cert.GradConvIdeal.main_v2_0)) (v1 : (c : Dev Cert.GradConvIdeal.nD) → Buf (Elt Ideal) ((c.tc : Thread Cert.GradConvIdeal.nD Cert.GradConvIdeal.τ).loc Cert.GradConvIdeal.main_v2_1)),
      θ_run (Cert.GradConvIdeal.defs (F := Ideal)) (onTc (τ := Cert.GradConvIdeal.τ) (Cert.GradConvIdeal.main (F := Ideal))) ⟨m, fun _ => 0, g⟩ (fun r => ∀ c : Dev Cert.GradConvIdeal.nD,
          r.2.mem ((c.tc : Thread Cert.GradConvIdeal.nD Cert.GradConvIdeal.τ).loc Cert.GradConvIdeal.main_v2_0) = v0 c
          ∧ r.2.mem ((c.tc : Thread Cert.GradConvIdeal.nD Cert.GradConvIdeal.τ).loc Cert.GradConvIdeal.main_v2_1) = v1 c
          ∧ r.2.mem ((c.tc : Thread Cert.GradConvIdeal.nD Cert.GradConvIdeal.τ).loc Cert.GradConvIdeal.main_arg0) = m ((c.tc : Thread Cert.GradConvIdeal.nD Cert.GradConvIdeal.τ).loc Cert.GradConvIdeal.main_arg0)
          ∧ r.2.mem ((c.tc : Thread Cert.GradConvIdeal.nD Cert.GradConvIdeal.τ).loc Cert.GradConvIdeal.main_arg1) = m ((c.tc : Thread Cert.GradConvIdeal.nD Cert.GradConvIdeal.τ).loc Cert.GradConvIdeal.main_arg1)
          ∧ r.2.mem ((c.tc : Thread Cert.GradConvIdeal.nD Cert.GradConvIdeal.τ).loc Cert.GradConvIdeal.main_arg2) = m ((c.tc : Thread Cert.GradConvIdeal.nD Cert.GradConvIdeal.τ).loc Cert.GradConvIdeal.main_arg2)
          ∧ r.2.mem ((c.tc : Thread Cert.GradConvIdeal.nD Cert.GradConvIdeal.τ).loc Cert.GradConvIdeal.main_arg3) = m ((c.tc : Thread Cert.GradConvIdeal.nD Cert.GradConvIdeal.τ).loc Cert.GradConvIdeal.main_arg3))
      ∧ θ_run (Cert.GradConvLinesIdeal.defs (F := Ideal)) (onTc (τ := Cert.GradConvLinesIdeal.τ) (Cert.GradConvLinesIdeal.main (F := Ideal))) ⟨m', fun _ => 0, g'⟩ (fun r => ∀ c : Dev Cert.GradConvLinesIdeal.nD,
          r.2.mem ((c.tc : Thread Cert.GradConvLinesIdeal.nD Cert.GradConvLinesIdeal.τ).loc Cert.GradConvLinesIdeal.main_v75) = v0 c
          ∧ r.2.mem ((c.tc : Thread Cert.GradConvLinesIdeal.nD Cert.GradConvLinesIdeal.τ).loc Cert.GradConvLinesIdeal.main_v78) = v1 c
          ∧ r.2.mem ((c.tc : Thread Cert.GradConvLinesIdeal.nD Cert.GradConvLinesIdeal.τ).loc Cert.GradConvLinesIdeal.main_arg0) = m' ((c.tc : Thread Cert.GradConvLinesIdeal.nD Cert.GradConvLinesIdeal.τ).loc Cert.GradConvLinesIdeal.main_arg0)
          ∧ r.2.mem ((c.tc : Thread Cert.GradConvLinesIdeal.nD Cert.GradConvLinesIdeal.τ).loc Cert.GradConvLinesIdeal.main_arg1) = m' ((c.tc : Thread Cert.GradConvLinesIdeal.nD Cert.GradConvLinesIdeal.τ).loc Cert.GradConvLinesIdeal.main_arg1)
          ∧ r.2.mem ((c.tc : Thread Cert.GradConvLinesIdeal.nD Cert.GradConvLinesIdeal.τ).loc Cert.GradConvLinesIdeal.main_arg2) = m' ((c.tc : Thread Cert.GradConvLinesIdeal.nD Cert.GradConvLinesIdeal.τ).loc Cert.GradConvLinesIdeal.main_arg2)
          ∧ r.2.mem ((c.tc : Thread Cert.GradConvLinesIdeal.nD Cert.GradConvLinesIdeal.τ).loc Cert.GradConvLinesIdeal.main_arg3) = m' ((c.tc : Thread Cert.GradConvLinesIdeal.nD Cert.GradConvLinesIdeal.τ).loc Cert.GradConvLinesIdeal.main_arg3))

def preserves_Norm_NormIdeal : Prop :=
  True

def algebraic_NormIdeal_NormLinesIdeal [hNormIdeal : Cert.NormIdeal.Facts] [hNormLinesIdeal : Cert.NormLinesIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormLinesIdeal.nD Cert.NormLinesIdeal.τ Cert.NormLinesIdeal.sig) → Buf (Elt Ideal) ℓ) (g' : Dev Cert.NormLinesIdeal.nD → PrngReg), Pre_NormIdeal m →
    (∀ c : Dev Cert.NormIdeal.nD,
      m' ((c.tc : Thread Cert.NormLinesIdeal.nD Cert.NormLinesIdeal.τ).loc Cert.NormLinesIdeal.main_arg0) = m ((c.tc : Thread Cert.NormIdeal.nD Cert.NormIdeal.τ).loc Cert.NormIdeal.main_arg0)
      ∧ m' ((c.tc : Thread Cert.NormLinesIdeal.nD Cert.NormLinesIdeal.τ).loc Cert.NormLinesIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormLinesIdeal.defs (F := Ideal)) (onTc (τ := Cert.NormLinesIdeal.τ) (Cert.NormLinesIdeal.main (F := Ideal))) ⟨m', fun _ => 0, g'⟩ (fun r => ∀ c : Dev Cert.NormLinesIdeal.nD,
          r.2.mem ((c.tc : Thread Cert.NormLinesIdeal.nD Cert.NormLinesIdeal.τ).loc Cert.NormLinesIdeal.main_v13) = v0 c
          ∧ r.2.mem ((c.tc : Thread Cert.NormLinesIdeal.nD Cert.NormLinesIdeal.τ).loc Cert.NormLinesIdeal.main_arg0) = m' ((c.tc : Thread Cert.NormLinesIdeal.nD Cert.NormLinesIdeal.τ).loc Cert.NormLinesIdeal.main_arg0)
          ∧ r.2.mem ((c.tc : Thread Cert.NormLinesIdeal.nD Cert.NormLinesIdeal.τ).loc Cert.NormLinesIdeal.main_arg1) = m' ((c.tc : Thread Cert.NormLinesIdeal.nD Cert.NormLinesIdeal.τ).loc Cert.NormLinesIdeal.main_arg1))

def preserves_GradNorm_GradNormIdeal : Prop :=
  True

def algebraic_GradNormIdeal_GradNormLinesIdeal [hGradNormIdeal : Cert.GradNormIdeal.Facts] [hGradNormLinesIdeal : Cert.GradNormLinesIdeal.Facts] : Prop :=
  ∀ (m : (ℓ : Loc Cert.GradNormIdeal.nD Cert.GradNormIdeal.τ Cert.GradNormIdeal.sig) → Buf (Elt Ideal) ℓ) (g : Dev Cert.GradNormIdeal.nD → PrngReg)
    (m' : (ℓ : Loc Cert.GradNormLinesIdeal.nD Cert.GradNormLinesIdeal.τ Cert.GradNormLinesIdeal.sig) → Buf (Elt Ideal) ℓ) (g' : Dev Cert.GradNormLinesIdeal.nD → PrngReg), Pre_GradNormIdeal m →
    (∀ c : Dev Cert.GradNormIdeal.nD,
      m' ((c.tc : Thread Cert.GradNormLinesIdeal.nD Cert.GradNormLinesIdeal.τ).loc Cert.GradNormLinesIdeal.main_arg0) = m ((c.tc : Thread Cert.GradNormIdeal.nD Cert.GradNormIdeal.τ).loc Cert.GradNormIdeal.main_arg0)
      ∧ m' ((c.tc : Thread Cert.GradNormLinesIdeal.nD Cert.GradNormLinesIdeal.τ).loc Cert.GradNormLinesIdeal.main_arg1) = m ((c.tc : Thread Cert.GradNormIdeal.nD Cert.GradNormIdeal.τ).loc Cert.GradNormIdeal.main_arg1)
      ∧ m' ((c.tc : Thread Cert.GradNormLinesIdeal.nD Cert.GradNormLinesIdeal.τ).loc Cert.GradNormLinesIdeal.main_arg2) = m ((c.tc : Thread Cert.GradNormIdeal.nD Cert.GradNormIdeal.τ).loc Cert.GradNormIdeal.main_arg2)
      ∧ m' ((c.tc : Thread Cert.GradNormLinesIdeal.nD Cert.GradNormLinesIdeal.τ).loc Cert.GradNormLinesIdeal.main_arg3) = m ((c.tc : Thread Cert.GradNormIdeal.nD Cert.GradNormIdeal.τ).loc Cert.GradNormIdeal.main_arg3)) →
    ∃ (v0 : (c : Dev Cert.GradNormIdeal.nD) → Buf (Elt Ideal) ((c.tc : Thread Cert.GradNormIdeal.nD Cert.GradNormIdeal.τ).loc Cert.GradNormIdeal.main_v1_0)) (v1 : (c : Dev Cert.GradNormIdeal.nD) → Buf (Elt Ideal) ((c.tc : Thread Cert.GradNormIdeal.nD Cert.GradNormIdeal.τ).loc Cert.GradNormIdeal.main_v1_1)) (v2 : (c : Dev Cert.GradNormIdeal.nD) → Buf (Elt Ideal) ((c.tc : Thread Cert.GradNormIdeal.nD Cert.GradNormIdeal.τ).loc Cert.GradNormIdeal.main_v1_2)),
      θ_run (Cert.GradNormIdeal.defs (F := Ideal)) (onTc (τ := Cert.GradNormIdeal.τ) (Cert.GradNormIdeal.main (F := Ideal))) ⟨m, fun _ => 0, g⟩ (fun r => ∀ c : Dev Cert.GradNormIdeal.nD,
          r.2.mem ((c.tc : Thread Cert.GradNormIdeal.nD Cert.GradNormIdeal.τ).loc Cert.GradNormIdeal.main_v1_0) = v0 c
          ∧ r.2.mem ((c.tc : Thread Cert.GradNormIdeal.nD Cert.GradNormIdeal.τ).loc Cert.GradNormIdeal.main_v1_1) = v1 c
          ∧ r.2.mem ((c.tc : Thread Cert.GradNormIdeal.nD Cert.GradNormIdeal.τ).loc Cert.GradNormIdeal.main_v1_2) = v2 c
          ∧ r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
          ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
          ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2)
          ∧ r.2.mem ((c.tc : Thread Cert.GradNormIdeal.nD Cert.GradNormIdeal.τ).loc Cert.GradNormIdeal.main_arg3) = m ((c.tc : Thread Cert.GradNormIdeal.nD Cert.GradNormIdeal.τ).loc Cert.GradNormIdeal.main_arg3))
      ∧ θ_run (Cert.GradNormLinesIdeal.defs (F := Ideal)) (onTc (τ := Cert.GradNormLinesIdeal.τ) (Cert.GradNormLinesIdeal.main (F := Ideal))) ⟨m', fun _ => 0, g'⟩ (fun r => ∀ c : Dev Cert.GradNormLinesIdeal.nD,
          r.2.mem ((c.tc : Thread Cert.GradNormLinesIdeal.nD Cert.GradNormLinesIdeal.τ).loc Cert.GradNormLinesIdeal.main_v37) = v0 c
          ∧ r.2.mem ((c.tc : Thread Cert.GradNormLinesIdeal.nD Cert.GradNormLinesIdeal.τ).loc Cert.GradNormLinesIdeal.main_v38) = v1 c
          ∧ r.2.mem ((c.tc : Thread Cert.GradNormLinesIdeal.nD Cert.GradNormLinesIdeal.τ).loc Cert.GradNormLinesIdeal.main_v39) = v2 c
          ∧ r.2.mem ((c.tc : Thread Cert.GradNormLinesIdeal.nD Cert.GradNormLinesIdeal.τ).loc Cert.GradNormLinesIdeal.main_arg0) = m' ((c.tc : Thread Cert.GradNormLinesIdeal.nD Cert.GradNormLinesIdeal.τ).loc Cert.GradNormLinesIdeal.main_arg0)
          ∧ r.2.mem ((c.tc : Thread Cert.GradNormLinesIdeal.nD Cert.GradNormLinesIdeal.τ).loc Cert.GradNormLinesIdeal.main_arg1) = m' ((c.tc : Thread Cert.GradNormLinesIdeal.nD Cert.GradNormLinesIdeal.τ).loc Cert.GradNormLinesIdeal.main_arg1)
          ∧ r.2.mem ((c.tc : Thread Cert.GradNormLinesIdeal.nD Cert.GradNormLinesIdeal.τ).loc Cert.GradNormLinesIdeal.main_arg2) = m' ((c.tc : Thread Cert.GradNormLinesIdeal.nD Cert.GradNormLinesIdeal.τ).loc Cert.GradNormLinesIdeal.main_arg2)
          ∧ r.2.mem ((c.tc : Thread Cert.GradNormLinesIdeal.nD Cert.GradNormLinesIdeal.τ).loc Cert.GradNormLinesIdeal.main_arg3) = m' ((c.tc : Thread Cert.GradNormLinesIdeal.nD Cert.GradNormLinesIdeal.τ).loc Cert.GradNormLinesIdeal.main_arg3))

def preserves_Heads_HeadsIdeal : Prop :=
  True

def algebraic_HeadsIdeal_HeadsLinesIdeal [hHeadsIdeal : Cert.HeadsIdeal.Facts] [hHeadsLinesIdeal : Cert.HeadsLinesIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsLinesIdeal.nD Cert.HeadsLinesIdeal.τ Cert.HeadsLinesIdeal.sig) → Buf (Elt Ideal) ℓ) (g' : Dev Cert.HeadsLinesIdeal.nD → PrngReg), Pre_HeadsIdeal m →
    (∀ c : Dev Cert.HeadsIdeal.nD,
      m' ((c.tc : Thread Cert.HeadsLinesIdeal.nD Cert.HeadsLinesIdeal.τ).loc Cert.HeadsLinesIdeal.main_arg0) = m ((c.tc : Thread Cert.HeadsIdeal.nD Cert.HeadsIdeal.τ).loc Cert.HeadsIdeal.main_arg0)
      ∧ m' ((c.tc : Thread Cert.HeadsLinesIdeal.nD Cert.HeadsLinesIdeal.τ).loc Cert.HeadsLinesIdeal.main_arg1) = m ((c.tc : Thread Cert.HeadsIdeal.nD Cert.HeadsIdeal.τ).loc Cert.HeadsIdeal.main_arg1)
      ∧ m' ((c.tc : Thread Cert.HeadsLinesIdeal.nD Cert.HeadsLinesIdeal.τ).loc Cert.HeadsLinesIdeal.main_arg2) = m ((c.tc : Thread Cert.HeadsIdeal.nD Cert.HeadsIdeal.τ).loc Cert.HeadsIdeal.main_arg2)) →
    ∃ (v0 : (c : Dev Cert.HeadsIdeal.nD) → Buf (Elt Ideal) ((c.tc : Thread Cert.HeadsIdeal.nD Cert.HeadsIdeal.τ).loc Cert.HeadsIdeal.main_v2_0)) (v1 : (c : Dev Cert.HeadsIdeal.nD) → Buf (Elt Ideal) ((c.tc : Thread Cert.HeadsIdeal.nD Cert.HeadsIdeal.τ).loc Cert.HeadsIdeal.main_v2_1)) (v2 : (c : Dev Cert.HeadsIdeal.nD) → Buf (Elt Ideal) ((c.tc : Thread Cert.HeadsIdeal.nD Cert.HeadsIdeal.τ).loc Cert.HeadsIdeal.main_v2_2)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v2_0) = v0 c
          ∧ r.2.mem ((c.tc : Thread Cert.HeadsIdeal.nD Cert.HeadsIdeal.τ).loc Cert.HeadsIdeal.main_v2_1) = v1 c
          ∧ r.2.mem ((c.tc : Thread Cert.HeadsIdeal.nD Cert.HeadsIdeal.τ).loc Cert.HeadsIdeal.main_v2_2) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ θ_run (Cert.HeadsLinesIdeal.defs (F := Ideal)) (onTc (τ := Cert.HeadsLinesIdeal.τ) (Cert.HeadsLinesIdeal.main (F := Ideal))) ⟨m', fun _ => 0, g'⟩ (fun r => ∀ c : Dev Cert.HeadsLinesIdeal.nD,
          r.2.mem ((c.tc : Thread Cert.HeadsLinesIdeal.nD Cert.HeadsLinesIdeal.τ).loc Cert.HeadsLinesIdeal.main_v38) = v0 c
          ∧ r.2.mem ((c.tc : Thread Cert.HeadsLinesIdeal.nD Cert.HeadsLinesIdeal.τ).loc Cert.HeadsLinesIdeal.main_v39) = v1 c
          ∧ r.2.mem ((c.tc : Thread Cert.HeadsLinesIdeal.nD Cert.HeadsLinesIdeal.τ).loc Cert.HeadsLinesIdeal.main_v40) = v2 c
          ∧ r.2.mem ((c.tc : Thread Cert.HeadsLinesIdeal.nD Cert.HeadsLinesIdeal.τ).loc Cert.HeadsLinesIdeal.main_arg0) = m' ((c.tc : Thread Cert.HeadsLinesIdeal.nD Cert.HeadsLinesIdeal.τ).loc Cert.HeadsLinesIdeal.main_arg0)
          ∧ r.2.mem ((c.tc : Thread Cert.HeadsLinesIdeal.nD Cert.HeadsLinesIdeal.τ).loc Cert.HeadsLinesIdeal.main_arg1) = m' ((c.tc : Thread Cert.HeadsLinesIdeal.nD Cert.HeadsLinesIdeal.τ).loc Cert.HeadsLinesIdeal.main_arg1)
          ∧ r.2.mem ((c.tc : Thread Cert.HeadsLinesIdeal.nD Cert.HeadsLinesIdeal.τ).loc Cert.HeadsLinesIdeal.main_arg2) = m' ((c.tc : Thread Cert.HeadsLinesIdeal.nD Cert.HeadsLinesIdeal.τ).loc Cert.HeadsLinesIdeal.main_arg2))

def preserves_GradHeads_GradHeadsIdeal : Prop :=
  True

def algebraic_GradHeadsIdeal_GradHeadsLinesIdeal [hGradHeadsIdeal : Cert.GradHeadsIdeal.Facts] [hGradHeadsLinesIdeal : Cert.GradHeadsLinesIdeal.Facts] : Prop :=
  ∀ (m : (ℓ : Loc Cert.GradHeadsIdeal.nD Cert.GradHeadsIdeal.τ Cert.GradHeadsIdeal.sig) → Buf (Elt Ideal) ℓ) (g : Dev Cert.GradHeadsIdeal.nD → PrngReg)
    (m' : (ℓ : Loc Cert.GradHeadsLinesIdeal.nD Cert.GradHeadsLinesIdeal.τ Cert.GradHeadsLinesIdeal.sig) → Buf (Elt Ideal) ℓ) (g' : Dev Cert.GradHeadsLinesIdeal.nD → PrngReg), Pre_GradHeadsIdeal m →
    (∀ c : Dev Cert.GradHeadsIdeal.nD,
      m' ((c.tc : Thread Cert.GradHeadsLinesIdeal.nD Cert.GradHeadsLinesIdeal.τ).loc Cert.GradHeadsLinesIdeal.main_arg0) = m ((c.tc : Thread Cert.GradHeadsIdeal.nD Cert.GradHeadsIdeal.τ).loc Cert.GradHeadsIdeal.main_arg0)
      ∧ m' ((c.tc : Thread Cert.GradHeadsLinesIdeal.nD Cert.GradHeadsLinesIdeal.τ).loc Cert.GradHeadsLinesIdeal.main_arg1) = m ((c.tc : Thread Cert.GradHeadsIdeal.nD Cert.GradHeadsIdeal.τ).loc Cert.GradHeadsIdeal.main_arg1)
      ∧ m' ((c.tc : Thread Cert.GradHeadsLinesIdeal.nD Cert.GradHeadsLinesIdeal.τ).loc Cert.GradHeadsLinesIdeal.main_arg2) = m ((c.tc : Thread Cert.GradHeadsIdeal.nD Cert.GradHeadsIdeal.τ).loc Cert.GradHeadsIdeal.main_arg2)
      ∧ m' ((c.tc : Thread Cert.GradHeadsLinesIdeal.nD Cert.GradHeadsLinesIdeal.τ).loc Cert.GradHeadsLinesIdeal.main_arg3) = m ((c.tc : Thread Cert.GradHeadsIdeal.nD Cert.GradHeadsIdeal.τ).loc Cert.GradHeadsIdeal.main_arg3)
      ∧ m' ((c.tc : Thread Cert.GradHeadsLinesIdeal.nD Cert.GradHeadsLinesIdeal.τ).loc Cert.GradHeadsLinesIdeal.main_arg4) = m ((c.tc : Thread Cert.GradHeadsIdeal.nD Cert.GradHeadsIdeal.τ).loc Cert.GradHeadsIdeal.main_arg4)
      ∧ m' ((c.tc : Thread Cert.GradHeadsLinesIdeal.nD Cert.GradHeadsLinesIdeal.τ).loc Cert.GradHeadsLinesIdeal.main_arg5) = m ((c.tc : Thread Cert.GradHeadsIdeal.nD Cert.GradHeadsIdeal.τ).loc Cert.GradHeadsIdeal.main_arg5)) →
    ∃ (v0 : (c : Dev Cert.GradHeadsIdeal.nD) → Buf (Elt Ideal) ((c.tc : Thread Cert.GradHeadsIdeal.nD Cert.GradHeadsIdeal.τ).loc Cert.GradHeadsIdeal.main_v2_0)) (v1 : (c : Dev Cert.GradHeadsIdeal.nD) → Buf (Elt Ideal) ((c.tc : Thread Cert.GradHeadsIdeal.nD Cert.GradHeadsIdeal.τ).loc Cert.GradHeadsIdeal.main_v2_1)) (v2 : (c : Dev Cert.GradHeadsIdeal.nD) → Buf (Elt Ideal) ((c.tc : Thread Cert.GradHeadsIdeal.nD Cert.GradHeadsIdeal.τ).loc Cert.GradHeadsIdeal.main_v2_2)),
      θ_run (Cert.GradHeadsIdeal.defs (F := Ideal)) (onTc (τ := Cert.GradHeadsIdeal.τ) (Cert.GradHeadsIdeal.main (F := Ideal))) ⟨m, fun _ => 0, g⟩ (fun r => ∀ c : Dev Cert.GradHeadsIdeal.nD,
          r.2.mem ((c.tc : Thread Cert.GradHeadsIdeal.nD Cert.GradHeadsIdeal.τ).loc Cert.GradHeadsIdeal.main_v2_0) = v0 c
          ∧ r.2.mem ((c.tc : Thread Cert.GradHeadsIdeal.nD Cert.GradHeadsIdeal.τ).loc Cert.GradHeadsIdeal.main_v2_1) = v1 c
          ∧ r.2.mem ((c.tc : Thread Cert.GradHeadsIdeal.nD Cert.GradHeadsIdeal.τ).loc Cert.GradHeadsIdeal.main_v2_2) = v2 c
          ∧ r.2.mem ((c.tc : Thread Cert.GradHeadsIdeal.nD Cert.GradHeadsIdeal.τ).loc Cert.GradHeadsIdeal.main_arg0) = m ((c.tc : Thread Cert.GradHeadsIdeal.nD Cert.GradHeadsIdeal.τ).loc Cert.GradHeadsIdeal.main_arg0)
          ∧ r.2.mem ((c.tc : Thread Cert.GradHeadsIdeal.nD Cert.GradHeadsIdeal.τ).loc Cert.GradHeadsIdeal.main_arg1) = m ((c.tc : Thread Cert.GradHeadsIdeal.nD Cert.GradHeadsIdeal.τ).loc Cert.GradHeadsIdeal.main_arg1)
          ∧ r.2.mem ((c.tc : Thread Cert.GradHeadsIdeal.nD Cert.GradHeadsIdeal.τ).loc Cert.GradHeadsIdeal.main_arg2) = m ((c.tc : Thread Cert.GradHeadsIdeal.nD Cert.GradHeadsIdeal.τ).loc Cert.GradHeadsIdeal.main_arg2)
          ∧ r.2.mem ((c.tc : Thread Cert.GradHeadsIdeal.nD Cert.GradHeadsIdeal.τ).loc Cert.GradHeadsIdeal.main_arg3) = m ((c.tc : Thread Cert.GradHeadsIdeal.nD Cert.GradHeadsIdeal.τ).loc Cert.GradHeadsIdeal.main_arg3)
          ∧ r.2.mem ((c.tc : Thread Cert.GradHeadsIdeal.nD Cert.GradHeadsIdeal.τ).loc Cert.GradHeadsIdeal.main_arg4) = m ((c.tc : Thread Cert.GradHeadsIdeal.nD Cert.GradHeadsIdeal.τ).loc Cert.GradHeadsIdeal.main_arg4)
          ∧ r.2.mem ((c.tc : Thread Cert.GradHeadsIdeal.nD Cert.GradHeadsIdeal.τ).loc Cert.GradHeadsIdeal.main_arg5) = m ((c.tc : Thread Cert.GradHeadsIdeal.nD Cert.GradHeadsIdeal.τ).loc Cert.GradHeadsIdeal.main_arg5))
      ∧ θ_run (Cert.GradHeadsLinesIdeal.defs (F := Ideal)) (onTc (τ := Cert.GradHeadsLinesIdeal.τ) (Cert.GradHeadsLinesIdeal.main (F := Ideal))) ⟨m', fun _ => 0, g'⟩ (fun r => ∀ c : Dev Cert.GradHeadsLinesIdeal.nD,
          r.2.mem ((c.tc : Thread Cert.GradHeadsLinesIdeal.nD Cert.GradHeadsLinesIdeal.τ).loc Cert.GradHeadsLinesIdeal.main_v95) = v0 c
          ∧ r.2.mem ((c.tc : Thread Cert.GradHeadsLinesIdeal.nD Cert.GradHeadsLinesIdeal.τ).loc Cert.GradHeadsLinesIdeal.main_v96) = v1 c
          ∧ r.2.mem ((c.tc : Thread Cert.GradHeadsLinesIdeal.nD Cert.GradHeadsLinesIdeal.τ).loc Cert.GradHeadsLinesIdeal.main_v97) = v2 c
          ∧ r.2.mem ((c.tc : Thread Cert.GradHeadsLinesIdeal.nD Cert.GradHeadsLinesIdeal.τ).loc Cert.GradHeadsLinesIdeal.main_arg0) = m' ((c.tc : Thread Cert.GradHeadsLinesIdeal.nD Cert.GradHeadsLinesIdeal.τ).loc Cert.GradHeadsLinesIdeal.main_arg0)
          ∧ r.2.mem ((c.tc : Thread Cert.GradHeadsLinesIdeal.nD Cert.GradHeadsLinesIdeal.τ).loc Cert.GradHeadsLinesIdeal.main_arg1) = m' ((c.tc : Thread Cert.GradHeadsLinesIdeal.nD Cert.GradHeadsLinesIdeal.τ).loc Cert.GradHeadsLinesIdeal.main_arg1)
          ∧ r.2.mem ((c.tc : Thread Cert.GradHeadsLinesIdeal.nD Cert.GradHeadsLinesIdeal.τ).loc Cert.GradHeadsLinesIdeal.main_arg2) = m' ((c.tc : Thread Cert.GradHeadsLinesIdeal.nD Cert.GradHeadsLinesIdeal.τ).loc Cert.GradHeadsLinesIdeal.main_arg2)
          ∧ r.2.mem ((c.tc : Thread Cert.GradHeadsLinesIdeal.nD Cert.GradHeadsLinesIdeal.τ).loc Cert.GradHeadsLinesIdeal.main_arg3) = m' ((c.tc : Thread Cert.GradHeadsLinesIdeal.nD Cert.GradHeadsLinesIdeal.τ).loc Cert.GradHeadsLinesIdeal.main_arg3)
          ∧ r.2.mem ((c.tc : Thread Cert.GradHeadsLinesIdeal.nD Cert.GradHeadsLinesIdeal.τ).loc Cert.GradHeadsLinesIdeal.main_arg4) = m' ((c.tc : Thread Cert.GradHeadsLinesIdeal.nD Cert.GradHeadsLinesIdeal.τ).loc Cert.GradHeadsLinesIdeal.main_arg4)
          ∧ r.2.mem ((c.tc : Thread Cert.GradHeadsLinesIdeal.nD Cert.GradHeadsLinesIdeal.τ).loc Cert.GradHeadsLinesIdeal.main_arg5) = m' ((c.tc : Thread Cert.GradHeadsLinesIdeal.nD Cert.GradHeadsLinesIdeal.τ).loc Cert.GradHeadsLinesIdeal.main_arg5))

def preserves_Loss_LossIdeal : Prop :=
  True

def algebraic_LossIdeal_LossLinesIdeal [hLossIdeal : Cert.LossIdeal.Facts] [hLossLinesIdeal : Cert.LossLinesIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossLinesIdeal.nD Cert.LossLinesIdeal.τ Cert.LossLinesIdeal.sig) → Buf (Elt Ideal) ℓ) (g' : Dev Cert.LossLinesIdeal.nD → PrngReg), Pre_LossIdeal m →
    (∀ c : Dev Cert.LossIdeal.nD,
      m' ((c.tc : Thread Cert.LossLinesIdeal.nD Cert.LossLinesIdeal.τ).loc Cert.LossLinesIdeal.main_arg0) = m ((c.tc : Thread Cert.LossIdeal.nD Cert.LossIdeal.τ).loc Cert.LossIdeal.main_arg0)
      ∧ m' ((c.tc : Thread Cert.LossLinesIdeal.nD Cert.LossLinesIdeal.τ).loc Cert.LossLinesIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossLinesIdeal.defs (F := Ideal)) (onTc (τ := Cert.LossLinesIdeal.τ) (Cert.LossLinesIdeal.main (F := Ideal))) ⟨m', fun _ => 0, g'⟩ (fun r => ∀ c : Dev Cert.LossLinesIdeal.nD,
          r.2.mem ((c.tc : Thread Cert.LossLinesIdeal.nD Cert.LossLinesIdeal.τ).loc Cert.LossLinesIdeal.main_v14) = v0 c
          ∧ r.2.mem ((c.tc : Thread Cert.LossLinesIdeal.nD Cert.LossLinesIdeal.τ).loc Cert.LossLinesIdeal.main_v15) = v1 c
          ∧ r.2.mem ((c.tc : Thread Cert.LossLinesIdeal.nD Cert.LossLinesIdeal.τ).loc Cert.LossLinesIdeal.main_v16) = v2 c
          ∧ r.2.mem ((c.tc : Thread Cert.LossLinesIdeal.nD Cert.LossLinesIdeal.τ).loc Cert.LossLinesIdeal.main_arg0) = m' ((c.tc : Thread Cert.LossLinesIdeal.nD Cert.LossLinesIdeal.τ).loc Cert.LossLinesIdeal.main_arg0)
          ∧ r.2.mem ((c.tc : Thread Cert.LossLinesIdeal.nD Cert.LossLinesIdeal.τ).loc Cert.LossLinesIdeal.main_arg1) = m' ((c.tc : Thread Cert.LossLinesIdeal.nD Cert.LossLinesIdeal.τ).loc Cert.LossLinesIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjLinesIdeal : Cert.InProjLinesIdeal.Facts) (hGateUp : Cert.GateUp.Facts) (hGateUpIdeal : Cert.GateUpIdeal.Facts) (hGateUpLinesIdeal : Cert.GateUpLinesIdeal.Facts) (hGradAct : Cert.GradAct.Facts) (hGradActIdeal : Cert.GradActIdeal.Facts) (hGradActLinesIdeal : Cert.GradActLinesIdeal.Facts) (hGradMerged : Cert.GradMerged.Facts) (hGradMergedIdeal : Cert.GradMergedIdeal.Facts) (hGradMergedLinesIdeal : Cert.GradMergedLinesIdeal.Facts) (hOutProj : Cert.OutProj.Facts) (hOutProjIdeal : Cert.OutProjIdeal.Facts) (hOutProjLinesIdeal : Cert.OutProjLinesIdeal.Facts) (hGradIn : Cert.GradIn.Facts) (hGradInIdeal : Cert.GradInIdeal.Facts) (hGradInLinesIdeal : Cert.GradInLinesIdeal.Facts) (hGradGateUp : Cert.GradGateUp.Facts) (hGradGateUpIdeal : Cert.GradGateUpIdeal.Facts) (hGradGateUpLinesIdeal : Cert.GradGateUpLinesIdeal.Facts) (hGradDown : Cert.GradDown.Facts) (hGradDownIdeal : Cert.GradDownIdeal.Facts) (hGradDownLinesIdeal : Cert.GradDownLinesIdeal.Facts) (hGradOut : Cert.GradOut.Facts) (hGradOutIdeal : Cert.GradOutIdeal.Facts) (hGradOutLinesIdeal : Cert.GradOutLinesIdeal.Facts) (hGradBranch : Cert.GradBranch.Facts) (hGradBranchIdeal : Cert.GradBranchIdeal.Facts) (hGradBranchLinesIdeal : Cert.GradBranchLinesIdeal.Facts) (hGradFfn : Cert.GradFfn.Facts) (hGradFfnIdeal : Cert.GradFfnIdeal.Facts) (hGradFfnLinesIdeal : Cert.GradFfnLinesIdeal.Facts) (hGradHidden : Cert.GradHidden.Facts) (hGradHiddenIdeal : Cert.GradHiddenIdeal.Facts) (hGradHiddenLinesIdeal : Cert.GradHiddenLinesIdeal.Facts) (hDown : Cert.Down.Facts) (hDownIdeal : Cert.DownIdeal.Facts) (hDownLinesIdeal : Cert.DownLinesIdeal.Facts) (hAttention : Cert.Attention.Facts) (hAttentionIdeal : Cert.AttentionIdeal.Facts) (hAttentionLinesIdeal : Cert.AttentionLinesIdeal.Facts) (hGradMerge : Cert.GradMerge.Facts) (hGradMergeIdeal : Cert.GradMergeIdeal.Facts) (hGradMergeLinesIdeal : Cert.GradMergeLinesIdeal.Facts) (hMerge : Cert.Merge.Facts) (hMergeIdeal : Cert.MergeIdeal.Facts) (hMergeLinesIdeal : Cert.MergeLinesIdeal.Facts) (hSwiglu : Cert.Swiglu.Facts) (hSwigluIdeal : Cert.SwigluIdeal.Facts) (hSwigluLinesIdeal : Cert.SwigluLinesIdeal.Facts) (hGradSwiglu : Cert.GradSwiglu.Facts) (hGradSwigluIdeal : Cert.GradSwigluIdeal.Facts) (hGradSwigluLinesIdeal : Cert.GradSwigluLinesIdeal.Facts) (hConv : Cert.Conv.Facts) (hConvIdeal : Cert.ConvIdeal.Facts) (hConvLinesIdeal : Cert.ConvLinesIdeal.Facts) (hGradConv : Cert.GradConv.Facts) (hGradConvIdeal : Cert.GradConvIdeal.Facts) (hGradConvLinesIdeal : Cert.GradConvLinesIdeal.Facts) (hNorm : Cert.Norm.Facts) (hNormIdeal : Cert.NormIdeal.Facts) (hNormLinesIdeal : Cert.NormLinesIdeal.Facts) (hGradNorm : Cert.GradNorm.Facts) (hGradNormIdeal : Cert.GradNormIdeal.Facts) (hGradNormLinesIdeal : Cert.GradNormLinesIdeal.Facts) (hHeads : Cert.Heads.Facts) (hHeadsIdeal : Cert.HeadsIdeal.Facts) (hHeadsLinesIdeal : Cert.HeadsLinesIdeal.Facts) (hGradHeads : Cert.GradHeads.Facts) (hGradHeadsIdeal : Cert.GradHeadsIdeal.Facts) (hGradHeadsLinesIdeal : Cert.GradHeadsLinesIdeal.Facts) (hLoss : Cert.Loss.Facts) (hLossIdeal : Cert.LossIdeal.Facts) (hLossLinesIdeal : Cert.LossLinesIdeal.Facts) (hPre_finite : Cert.Pre_finite.Facts) (hPre_finite_scores : Cert.Pre_finite_scores.Facts) (hPre_finite_up : Cert.Pre_finite_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjLinesIdeal (hInProjLinesIdeal := hInProjLinesIdeal)
    ∧ quiescent_GateUp (hGateUp := hGateUp)
    ∧ quiescent_GateUpIdeal (hGateUpIdeal := hGateUpIdeal)
    ∧ quiescent_GateUpLinesIdeal (hGateUpLinesIdeal := hGateUpLinesIdeal)
    ∧ quiescent_GradAct (hGradAct := hGradAct)
    ∧ quiescent_GradActIdeal (hGradActIdeal := hGradActIdeal)
    ∧ quiescent_GradActLinesIdeal (hGradActLinesIdeal := hGradActLinesIdeal)
    ∧ quiescent_GradMerged (hGradMerged := hGradMerged)
    ∧ quiescent_GradMergedIdeal (hGradMergedIdeal := hGradMergedIdeal)
    ∧ quiescent_GradMergedLinesIdeal (hGradMergedLinesIdeal := hGradMergedLinesIdeal)
    ∧ quiescent_OutProj (hOutProj := hOutProj)
    ∧ quiescent_OutProjIdeal (hOutProjIdeal := hOutProjIdeal)
    ∧ quiescent_OutProjLinesIdeal (hOutProjLinesIdeal := hOutProjLinesIdeal)
    ∧ quiescent_GradIn (hGradIn := hGradIn)
    ∧ quiescent_GradInIdeal (hGradInIdeal := hGradInIdeal)
    ∧ quiescent_GradInLinesIdeal (hGradInLinesIdeal := hGradInLinesIdeal)
    ∧ quiescent_GradGateUp (hGradGateUp := hGradGateUp)
    ∧ quiescent_GradGateUpIdeal (hGradGateUpIdeal := hGradGateUpIdeal)
    ∧ quiescent_GradGateUpLinesIdeal (hGradGateUpLinesIdeal := hGradGateUpLinesIdeal)
    ∧ quiescent_GradDown (hGradDown := hGradDown)
    ∧ quiescent_GradDownIdeal (hGradDownIdeal := hGradDownIdeal)
    ∧ quiescent_GradDownLinesIdeal (hGradDownLinesIdeal := hGradDownLinesIdeal)
    ∧ quiescent_GradOut (hGradOut := hGradOut)
    ∧ quiescent_GradOutIdeal (hGradOutIdeal := hGradOutIdeal)
    ∧ quiescent_GradOutLinesIdeal (hGradOutLinesIdeal := hGradOutLinesIdeal)
    ∧ quiescent_GradBranch (hGradBranch := hGradBranch)
    ∧ quiescent_GradBranchIdeal (hGradBranchIdeal := hGradBranchIdeal)
    ∧ quiescent_GradBranchLinesIdeal (hGradBranchLinesIdeal := hGradBranchLinesIdeal)
    ∧ quiescent_GradFfn (hGradFfn := hGradFfn)
    ∧ quiescent_GradFfnIdeal (hGradFfnIdeal := hGradFfnIdeal)
    ∧ quiescent_GradFfnLinesIdeal (hGradFfnLinesIdeal := hGradFfnLinesIdeal)
    ∧ quiescent_GradHidden (hGradHidden := hGradHidden)
    ∧ quiescent_GradHiddenIdeal (hGradHiddenIdeal := hGradHiddenIdeal)
    ∧ quiescent_GradHiddenLinesIdeal (hGradHiddenLinesIdeal := hGradHiddenLinesIdeal)
    ∧ quiescent_Down (hDown := hDown)
    ∧ quiescent_DownIdeal (hDownIdeal := hDownIdeal)
    ∧ quiescent_DownLinesIdeal (hDownLinesIdeal := hDownLinesIdeal)
    ∧ quiescent_Attention (hAttention := hAttention)
    ∧ quiescent_AttentionIdeal (hAttentionIdeal := hAttentionIdeal)
    ∧ quiescent_AttentionIdeal_pre_finite_scores (hAttentionIdeal := hAttentionIdeal) (hPre_finite_scores := hPre_finite_scores)
    ∧ quiescent_AttentionLinesIdeal (hAttentionLinesIdeal := hAttentionLinesIdeal)
    ∧ quiescent_AttentionLinesIdeal_pre_finite_scores (hAttentionLinesIdeal := hAttentionLinesIdeal) (hPre_finite_scores := hPre_finite_scores)
    ∧ quiescent_GradMerge (hGradMerge := hGradMerge)
    ∧ quiescent_GradMergeIdeal (hGradMergeIdeal := hGradMergeIdeal)
    ∧ quiescent_GradMergeLinesIdeal (hGradMergeLinesIdeal := hGradMergeLinesIdeal)
    ∧ quiescent_Merge (hMerge := hMerge)
    ∧ quiescent_MergeIdeal (hMergeIdeal := hMergeIdeal)
    ∧ quiescent_MergeLinesIdeal (hMergeLinesIdeal := hMergeLinesIdeal)
    ∧ quiescent_Swiglu (hSwiglu := hSwiglu)
    ∧ quiescent_SwigluIdeal (hSwigluIdeal := hSwigluIdeal)
    ∧ quiescent_SwigluLinesIdeal (hSwigluLinesIdeal := hSwigluLinesIdeal)
    ∧ quiescent_GradSwiglu (hGradSwiglu := hGradSwiglu)
    ∧ quiescent_GradSwigluIdeal (hGradSwigluIdeal := hGradSwigluIdeal)
    ∧ quiescent_GradSwigluIdeal_pre_finite_up (hGradSwigluIdeal := hGradSwigluIdeal) (hPre_finite_up := hPre_finite_up)
    ∧ quiescent_GradSwigluLinesIdeal (hGradSwigluLinesIdeal := hGradSwigluLinesIdeal)
    ∧ quiescent_GradSwigluLinesIdeal_pre_finite_up (hGradSwigluLinesIdeal := hGradSwigluLinesIdeal) (hPre_finite_up := hPre_finite_up)
    ∧ quiescent_Conv (hConv := hConv)
    ∧ quiescent_ConvIdeal (hConvIdeal := hConvIdeal)
    ∧ quiescent_ConvLinesIdeal (hConvLinesIdeal := hConvLinesIdeal)
    ∧ quiescent_GradConv (hGradConv := hGradConv)
    ∧ quiescent_GradConvIdeal (hGradConvIdeal := hGradConvIdeal)
    ∧ quiescent_GradConvLinesIdeal (hGradConvLinesIdeal := hGradConvLinesIdeal)
    ∧ quiescent_Norm (hNorm := hNorm)
    ∧ quiescent_NormIdeal (hNormIdeal := hNormIdeal)
    ∧ quiescent_NormLinesIdeal (hNormLinesIdeal := hNormLinesIdeal)
    ∧ quiescent_GradNorm (hGradNorm := hGradNorm)
    ∧ quiescent_GradNormIdeal (hGradNormIdeal := hGradNormIdeal)
    ∧ quiescent_GradNormLinesIdeal (hGradNormLinesIdeal := hGradNormLinesIdeal)
    ∧ quiescent_Heads (hHeads := hHeads)
    ∧ quiescent_HeadsIdeal (hHeadsIdeal := hHeadsIdeal)
    ∧ quiescent_HeadsLinesIdeal (hHeadsLinesIdeal := hHeadsLinesIdeal)
    ∧ quiescent_GradHeads (hGradHeads := hGradHeads)
    ∧ quiescent_GradHeadsIdeal (hGradHeadsIdeal := hGradHeadsIdeal)
    ∧ quiescent_GradHeadsLinesIdeal (hGradHeadsLinesIdeal := hGradHeadsLinesIdeal)
    ∧ quiescent_Loss (hLoss := hLoss)
    ∧ quiescent_LossIdeal (hLossIdeal := hLossIdeal)
    ∧ quiescent_LossLinesIdeal (hLossLinesIdeal := hLossLinesIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjLinesIdeal (hInProjIdeal := hInProjIdeal) (hInProjLinesIdeal := hInProjLinesIdeal)
    ∧ preserves_GateUp_GateUpIdeal
    ∧ algebraic_GateUpIdeal_GateUpLinesIdeal (hGateUpIdeal := hGateUpIdeal) (hGateUpLinesIdeal := hGateUpLinesIdeal)
    ∧ preserves_GradAct_GradActIdeal
    ∧ algebraic_GradActIdeal_GradActLinesIdeal (hGradActIdeal := hGradActIdeal) (hGradActLinesIdeal := hGradActLinesIdeal)
    ∧ preserves_GradMerged_GradMergedIdeal
    ∧ algebraic_GradMergedIdeal_GradMergedLinesIdeal (hGradMergedIdeal := hGradMergedIdeal) (hGradMergedLinesIdeal := hGradMergedLinesIdeal)
    ∧ preserves_OutProj_OutProjIdeal
    ∧ algebraic_OutProjIdeal_OutProjLinesIdeal (hOutProjIdeal := hOutProjIdeal) (hOutProjLinesIdeal := hOutProjLinesIdeal)
    ∧ preserves_GradIn_GradInIdeal
    ∧ algebraic_GradInIdeal_GradInLinesIdeal (hGradInIdeal := hGradInIdeal) (hGradInLinesIdeal := hGradInLinesIdeal)
    ∧ preserves_GradGateUp_GradGateUpIdeal
    ∧ algebraic_GradGateUpIdeal_GradGateUpLinesIdeal (hGradGateUpIdeal := hGradGateUpIdeal) (hGradGateUpLinesIdeal := hGradGateUpLinesIdeal)
    ∧ preserves_GradDown_GradDownIdeal
    ∧ algebraic_GradDownIdeal_GradDownLinesIdeal (hGradDownIdeal := hGradDownIdeal) (hGradDownLinesIdeal := hGradDownLinesIdeal)
    ∧ preserves_GradOut_GradOutIdeal
    ∧ algebraic_GradOutIdeal_GradOutLinesIdeal (hGradOutIdeal := hGradOutIdeal) (hGradOutLinesIdeal := hGradOutLinesIdeal)
    ∧ preserves_GradBranch_GradBranchIdeal
    ∧ algebraic_GradBranchIdeal_GradBranchLinesIdeal (hGradBranchIdeal := hGradBranchIdeal) (hGradBranchLinesIdeal := hGradBranchLinesIdeal)
    ∧ preserves_GradFfn_GradFfnIdeal
    ∧ algebraic_GradFfnIdeal_GradFfnLinesIdeal (hGradFfnIdeal := hGradFfnIdeal) (hGradFfnLinesIdeal := hGradFfnLinesIdeal)
    ∧ preserves_GradHidden_GradHiddenIdeal
    ∧ algebraic_GradHiddenIdeal_GradHiddenLinesIdeal (hGradHiddenIdeal := hGradHiddenIdeal) (hGradHiddenLinesIdeal := hGradHiddenLinesIdeal)
    ∧ preserves_Down_DownIdeal
    ∧ algebraic_DownIdeal_DownLinesIdeal (hDownIdeal := hDownIdeal) (hDownLinesIdeal := hDownLinesIdeal)
    ∧ preserves_Attention_AttentionIdeal
    ∧ algebraic_AttentionIdeal_AttentionLinesIdeal_pre_finite_scores (hAttentionIdeal := hAttentionIdeal) (hAttentionLinesIdeal := hAttentionLinesIdeal) (hPre_finite_scores := hPre_finite_scores)
    ∧ preserves_GradMerge_GradMergeIdeal
    ∧ algebraic_GradMergeIdeal_GradMergeLinesIdeal (hGradMergeIdeal := hGradMergeIdeal) (hGradMergeLinesIdeal := hGradMergeLinesIdeal)
    ∧ preserves_Merge_MergeIdeal
    ∧ algebraic_MergeIdeal_MergeLinesIdeal (hMergeIdeal := hMergeIdeal) (hMergeLinesIdeal := hMergeLinesIdeal)
    ∧ preserves_Swiglu_SwigluIdeal
    ∧ algebraic_SwigluIdeal_SwigluLinesIdeal (hSwigluIdeal := hSwigluIdeal) (hSwigluLinesIdeal := hSwigluLinesIdeal)
    ∧ preserves_GradSwiglu_GradSwigluIdeal
    ∧ algebraic_GradSwigluIdeal_GradSwigluLinesIdeal_pre_finite_up (hGradSwigluIdeal := hGradSwigluIdeal) (hGradSwigluLinesIdeal := hGradSwigluLinesIdeal) (hPre_finite_up := hPre_finite_up)
    ∧ preserves_Conv_ConvIdeal
    ∧ algebraic_ConvIdeal_ConvLinesIdeal (hConvIdeal := hConvIdeal) (hConvLinesIdeal := hConvLinesIdeal)
    ∧ preserves_GradConv_GradConvIdeal
    ∧ algebraic_GradConvIdeal_GradConvLinesIdeal (hGradConvIdeal := hGradConvIdeal) (hGradConvLinesIdeal := hGradConvLinesIdeal)
    ∧ preserves_Norm_NormIdeal
    ∧ algebraic_NormIdeal_NormLinesIdeal (hNormIdeal := hNormIdeal) (hNormLinesIdeal := hNormLinesIdeal)
    ∧ preserves_GradNorm_GradNormIdeal
    ∧ algebraic_GradNormIdeal_GradNormLinesIdeal (hGradNormIdeal := hGradNormIdeal) (hGradNormLinesIdeal := hGradNormLinesIdeal)
    ∧ preserves_Heads_HeadsIdeal
    ∧ algebraic_HeadsIdeal_HeadsLinesIdeal (hHeadsIdeal := hHeadsIdeal) (hHeadsLinesIdeal := hHeadsLinesIdeal)
    ∧ preserves_GradHeads_GradHeadsIdeal
    ∧ algebraic_GradHeadsIdeal_GradHeadsLinesIdeal (hGradHeadsIdeal := hGradHeadsIdeal) (hGradHeadsLinesIdeal := hGradHeadsLinesIdeal)
    ∧ preserves_Loss_LossIdeal
    ∧ algebraic_LossIdeal_LossLinesIdeal (hLossIdeal := hLossIdeal) (hLossLinesIdeal := hLossLinesIdeal)
-- ==== Pre_finite.lean ====
abbrev S8x8192x64 : Shape := ⟨3, ![8, 8192, 64]⟩
abbrev S_ : Shape := ⟨0, ![]⟩

class Facts : Prop where
  bcast_S_S8x8192x64 : S_.BroadcastsInDim S8x8192x64 (![] : Fin 0 → Fin S8x8192x64.rank)

variable [Facts]

def fn {F : FTy → Type} [FloatOps F] (main_arg0 : FVec F S8x8192x64 .f32) (main_arg1 : FVec F S8x8192x64 .f32) (main_arg2 : FVec F S8x8192x64 .f32) (main_arg3 : FVec F S8x8192x64 .f32) : IVec S8x8192x64 1 × IVec S8x8192x64 1 × IVec S8x8192x64 1 × IVec S8x8192x64 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_v3 : FVec F S8x8192x64 .f32 := Host.absf main_arg1
  let main_cst_0 : FVec F S_ .f32 := constant S_ .f32 0x7F800000#32
  let main_v4 : FVec F S8x8192x64 .f32 := broadcastInDim S8x8192x64 ![] bcast_S_S8x8192x64 main_cst_0
  let main_v5 : IVec S8x8192x64 1 := cmpf .olt main_v3 main_v4
  let main_v6 : FVec F S8x8192x64 .f32 := Host.absf main_arg2
  let main_cst_1 : FVec F S_ .f32 := constant S_ .f32 0x7F800000#32
  let main_v7 : FVec F S8x8192x64 .f32 := broadcastInDim S8x8192x64 ![] bcast_S_S8x8192x64 main_cst_1
  let main_v8 : IVec S8x8192x64 1 := cmpf .olt main_v6 main_v7
  let main_v9 : FVec F S8x8192x64 .f32 := Host.absf main_arg3
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  (main_v2, main_v5, main_v8, main_v11)
-- ==== Pre_finite_scores.lean ====
abbrev S8x8192x64 : Shape := ⟨3, ![8, 8192, 64]⟩
abbrev S_ : Shape := ⟨0, ![]⟩

class Facts : Prop where
  bcast_S_S8x8192x64 : S_.BroadcastsInDim S8x8192x64 (![] : Fin 0 → Fin S8x8192x64.rank)

variable [Facts]

def fn {F : FTy → Type} [FloatOps F] (main_arg0 : FVec F S8x8192x64 .f32) (main_arg1 : FVec F S8x8192x64 .f32) (main_arg2 : FVec F S8x8192x64 .f32) : IVec S8x8192x64 1 × IVec S8x8192x64 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_v3 : FVec F S8x8192x64 .f32 := Host.absf main_arg1
  let main_cst_0 : FVec F S_ .f32 := constant S_ .f32 0x7F800000#32
  let main_v4 : FVec F S8x8192x64 .f32 := broadcastInDim S8x8192x64 ![] bcast_S_S8x8192x64 main_cst_0
  let main_v5 : IVec S8x8192x64 1 := cmpf .olt main_v3 main_v4
  (main_v2, main_v5)
-- ==== Pre_finite_up.lean ====
abbrev S8192x5632 : Shape := ⟨2, ![8192, 5632]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bcast_S_S8192x2816 : S_.BroadcastsInDim S8192x2816 (![] : Fin 0 → Fin S8192x2816.rank)

variable [Facts]

def fn {F : FTy → Type} [FloatOps F] (main_arg0 : FVec F S8192x5632 .bf16) (main_arg1 : FVec F S8192x2816 .bf16) : IVec S8192x2816 1 × IVec S8192x2816 1 :=
  let main_v0 : FVec F S8192x2816 .bf16 := (extractStridedSlice S8192x2816 ![0, 2816] · slices_S8192x5632_S8192x2816_0_2816) main_arg0
  let main_v1 : FVec F S8192x2816 .bf16 := Host.absf main_v0
  let main_cst : FVec F S_ .bf16 := constant S_ .bf16 0x7F80#16
  let main_v2 : FVec F S8192x2816 .bf16 := broadcastInDim S8192x2816 ![] bcast_S_S8192x2816 main_cst
  let main_v3 : IVec S8192x2816 1 := cmpf .olt main_v1 main_v2
  let main_v4 : FVec F S8192x2816 .bf16 := Host.absf main_arg1
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  (main_v3, main_v6)
-- ==== Kernel.lean ====
abbrev S8x8192x64 : Shape := ⟨3, ![8, 8192, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S256x256 : Shape := ⟨2, ![256, 256]⟩
abbrev S1x1024x64 : Shape := ⟨3, ![1, 1024, 64]⟩
abbrev S1x8192x64 : Shape := ⟨3, ![1, 8192, 64]⟩
abbrev S1024x1 : Shape := ⟨2, ![1024, 1]⟩
abbrev S1024x64 : Shape := ⟨2, ![1024, 64]⟩
abbrev S1024 : Shape := ⟨1, ![1024]⟩
abbrev S1024x256 : Shape := ⟨2, ![1024, 256]⟩
abbrev S256x1 : Shape := ⟨2, ![256, 1]⟩
abbrev S256x64 : Shape := ⟨2, ![256, 64]⟩
abbrev S1x256x64 : Shape := ⟨3, ![1, 256, 64]⟩
abbrev S256 : Shape := ⟨1, ![256]⟩
abbrev S768x1 : Shape := ⟨2, ![768, 1]⟩
abbrev S768x64 : Shape := ⟨2, ![768, 64]⟩
abbrev S512x1 : Shape := ⟨2, ![512, 1]⟩
abbrev S512x64 : Shape := ⟨2, ![512, 64]⟩
abbrev S1x512x64 : Shape := ⟨3, ![1, 512, 64]⟩
abbrev S512x256 : Shape := ⟨2, ![512, 256]⟩
abbrev S512 : Shape := ⟨1, ![512]⟩
abbrev S1x768x64 : Shape := ⟨3, ![1, 768, 64]⟩
abbrev S768x256 : Shape := ⟨2, ![768, 256]⟩
abbrev S768 : Shape := ⟨1, ![768]⟩

abbrev nBuf : Space → Nat
  | .hbm => 71
  | .vmem => 19
  | .smem => 0
  | _ => 0

abbrev bufTy : (tb : Table) → Fin (tcTables nBuf tb) → BufTy
  | .hbm, ⟨0, _⟩ => ⟨S8x8192x64, .f32⟩
  | .hbm, ⟨1, _⟩ => ⟨S8x8192x64, .f32⟩
  | .hbm, ⟨2, _⟩ => ⟨S8x8192x64, .f32⟩
  | .hbm, ⟨3, _⟩ => ⟨S8x8192x64, .f32⟩
  | .hbm, ⟨4, _⟩ => ⟨S8x8192x8192, .f32⟩
  | .hbm, ⟨5, _⟩ => ⟨S8192, .i32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .i1⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S_, .f32⟩
  | .hbm, ⟨46, _⟩ => ⟨S8x8192x8192, .i1⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S_, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S_, .f32⟩
  | .hbm, ⟨57, _⟩ => ⟨S8x8192x8192, .i1⟩
  | .hbm, ⟨58, _⟩ => ⟨S8x8192x8192, .f32⟩
  | .hbm, ⟨59, _⟩ => ⟨S8x8192x8192, .f32⟩
  | .hbm, ⟨60, _⟩ => ⟨S8x8192x64, .f32⟩
  | .hbm, ⟨61, _⟩ => ⟨S8x8192x64, .bf16⟩
  | .hbm, ⟨62, _⟩ => ⟨S8x8192x64, .bf16⟩
  | .hbm, ⟨63, _⟩ => ⟨S8x8192x64, .bf16⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .bf16⟩
  | .hbm, ⟨68, _⟩ => ⟨S8x8192x64, .f32⟩
  | .hbm, ⟨69, _⟩ => ⟨S8x8192x64, .f32⟩
  | .hbm, ⟨70, _⟩ => ⟨S8x8192x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S256x256, .bf16⟩
  | .local _ .vmem, ⟨11, _⟩ => ⟨S1x1024x64, .f32⟩
  | .local _ .vmem, ⟨12, _⟩ => ⟨S1x1024x64, .f32⟩
  | .local _ .vmem, ⟨13, _⟩ => ⟨S1x8192x64, .f32⟩
  | .local _ .vmem, ⟨14, _⟩ => ⟨S1x8192x64, .f32⟩
  | .local _ .vmem, ⟨15, _⟩ => ⟨S1x8192x64, .f32⟩
  | .local _ .vmem, ⟨16, _⟩ => ⟨S1x8192x64, .f32⟩
  | .local _ .vmem, ⟨17, _⟩ => ⟨S1024x1, .f32⟩
  | .local _ .vmem, ⟨18, _⟩ => ⟨S1024x64, .bf16⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_call1_v0 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_v2 : Ref sig .tc := ⟨.hbm, 32, rfl⟩
abbrev main_call1_call0_v3 : Ref sig .tc := ⟨.hbm, 33, rfl⟩
abbrev main_call1_call0_v4 : Ref sig .tc := ⟨.hbm, 34, rfl⟩
abbrev main_call1_call0_v5 : Ref sig .tc := ⟨.hbm, 35, rfl⟩
abbrev main_call1_call0_v6 : Ref sig .tc := ⟨.hbm, 36, rfl⟩
abbrev main_call1_call0_v7 : Ref sig .tc := ⟨.hbm, 37, rfl⟩
abbrev main_call1_call0_v8 : Ref sig .tc := ⟨.hbm, 38, rfl⟩
abbrev main_call1_call0_v9 : Ref sig .tc := ⟨.hbm, 39, rfl⟩
abbrev main_call1_call0_v10 : Ref sig .tc := ⟨.hbm, 40, rfl⟩
abbrev main_call1_call0_v11 : Ref sig .tc := ⟨.hbm, 41, rfl⟩
abbrev main_call1_v1 : Ref sig .tc := ⟨.hbm, 42, rfl⟩
abbrev main_v9 : Ref sig .tc := ⟨.hbm, 43, rfl⟩
abbrev main_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v10 : Ref sig .tc := ⟨.hbm, 48, rfl⟩
abbrev main_call3_cst : Ref sig .tc := ⟨.hbm, 49, rfl⟩
abbrev main_call3_v0 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_0 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24_0 : Ref sig .tc := ⟨.hbm, 68, rfl⟩
abbrev main_v24_1 : Ref sig .tc := ⟨.hbm, 69, rfl⟩
abbrev main_v24_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c3_i32 : BitVec 32 := 3#32
  let v44 : BitVec 32 := Scalar.addi v41 c3_i32
  let c256_i32_20 : BitVec 32 := 256#32
  let v48 : BitVec 32 := Scalar.muli v44 c256_i32_20
  v48
def k0_off1 (i : grid0.Coords) (c3_i32 : BitVec 32) : Fin 3 → Nat :=
  let c0_21 : Index := 0#32
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let v44 : BitVec 32 := Scalar.addi v41 c3_i32
  let c256_i32_20 : BitVec 32 := 256#32
  let v48 : BitVec 32 := Scalar.muli v44 c256_i32_20
  let v49 : BitVec 32 := v48
  let v50 : Index := Scalar.indexCast v49
  let c0_22 : Index := 0#32
  ![0, v50.toNat, 0]
def k0_mult2 (i : grid0.Coords) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c2_i32 : BitVec 32 := 2#32
  let v142 : BitVec 32 := Scalar.addi v41 c2_i32
  let c256_i32_58 : BitVec 32 := 256#32
  let v146 : BitVec 32 := Scalar.muli v142 c256_i32_58
  v146
def k0_mult3 (i : grid0.Coords) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c1_i32_96 : BitVec 32 := 1#32
  let v240 : BitVec 32 := Scalar.addi v41 c1_i32_96
  let c256_i32_97 : BitVec 32 := 256#32
  let v244 : BitVec 32 := Scalar.muli v240 c256_i32_97
  v244
def k0_mult4 (i : grid0.Coords) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_135 : BitVec 32 := 0#32
  let v338 : BitVec 32 := Scalar.addi v41 c0_i32_135
  let c256_i32_136 : BitVec 32 := 256#32
  let v339 : BitVec 32 := Scalar.muli v338 c256_i32_136
  v339
@[reducible] def k0_t1_loop (i : grid0.Coords) : Scf.Loop 32 :=
  let c0_i32_181 : BitVec 32 := 0#32
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_175 : BitVec 32 := 0#32
  let v426 : BitVec 1 := Scalar.cmpi .sgt v41 c0_i32_175
  let v427 : BitVec 32 := Scalar.extui v426
  let c0_i32_176 : BitVec 32 := 0#32
  let v428 : BitVec 1 := Scalar.cmpi .slt v41 c0_i32_176
  let v429 : BitVec 32 := Scalar.extui v428
  let v430 : BitVec 32 := Scalar.subi v427 v429
  let c4_i32 : BitVec 32 := 4#32
  let c0_i32_177 : BitVec 32 := 0#32
  let v431 : BitVec 1 := Scalar.cmpi .sgt c4_i32 c0_i32_177
  let v432 : BitVec 32 := Scalar.extui v431
  let c0_i32_178 : BitVec 32 := 0#32
  let v433 : BitVec 1 := Scalar.cmpi .slt c4_i32 c0_i32_178
  let v434 : BitVec 32 := Scalar.extui v433
  let v435 : BitVec 32 := Scalar.subi v432 v434
  let v436 : BitVec 1 := Scalar.cmpi .ne v430 v435
  let v437 : BitVec 32 := Scalar.remsi v41 c4_i32
  let c0_i32_179 : BitVec 32 := 0#32
  let v438 : BitVec 1 := Scalar.cmpi .ne v437 c0_i32_179
  let v439 : BitVec 1 := Scalar.andi v436 v438
  let v425 : BitVec 32 := Scalar.divsi v41 c4_i32
  let c1_i32_180 : BitVec 32 := 1#32
  let v440 : BitVec 32 := Scalar.subi v425 c1_i32_180
  let v441 : BitVec 32 := Scalar.select v439 v440 v425
  let v442 : BitVec 32 := Scalar.subi v441 c0_i32_181
  let c1_i32_182 : BitVec 32 := 1#32
  let v444 : BitVec 32 := Scalar.divsi v442 c1_i32_182
  let v445 : BitVec 32 := Scalar.muli v444 c1_i32_182
  let v446 : BitVec 32 := Scalar.addi c0_i32_181 v445
  let c1_i32_183 : BitVec 32 := 1#32
  ⟨c0_i32_181, v446, c1_i32_183⟩
def k0_mult5 (i : grid0.Coords) (k0_t1 : Fin (k0_t1_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_188 : BitVec 32 := 0#32
  let v452 : BitVec 32 := Scalar.subi v41 c0_i32_188
  let c1_i32_189 : BitVec 32 := 1#32
  let v453 : BitVec 32 := Scalar.subi v452 c1_i32_189
  let c0_i32_190 : BitVec 32 := 0#32
  let v454 : BitVec 32 := Scalar.subi v453 c0_i32_190
  let c4_i32_191 : BitVec 32 := 4#32
  let c0_i32_181 : BitVec 32 := 0#32
  let c1_i32_183 : BitVec 32 := 1#32
  let arg13 : BitVec 32 := Scf.iv c0_i32_181 c1_i32_183 k0_t1
  let v455 : BitVec 32 := Scalar.muli c4_i32_191 arg13
  let v456 : BitVec 32 := Scalar.subi v454 v455
  let c256_i32_192 : BitVec 32 := 256#32
  let v457 : BitVec 32 := Scalar.muli v456 c256_i32_192
  v457
def k0_off2 (i : grid0.Coords) (k0_t1 : Fin (k0_t1_loop i).trips) (c0_i32_190 : BitVec 32) : Fin 3 → Nat :=
  let c0_193 : Index := 0#32
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_188 : BitVec 32 := 0#32
  let v452 : BitVec 32 := Scalar.subi v41 c0_i32_188
  let c1_i32_189 : BitVec 32 := 1#32
  let v453 : BitVec 32 := Scalar.subi v452 c1_i32_189
  let v454 : BitVec 32 := Scalar.subi v453 c0_i32_190
  let c4_i32_191 : BitVec 32 := 4#32
  let c0_i32_181 : BitVec 32 := 0#32
  let c1_i32_183 : BitVec 32 := 1#32
  let arg13 : BitVec 32 := Scf.iv c0_i32_181 c1_i32_183 k0_t1
  let v455 : BitVec 32 := Scalar.muli c4_i32_191 arg13
  let v456 : BitVec 32 := Scalar.subi v454 v455
  let c256_i32_192 : BitVec 32 := 256#32
  let v457 : BitVec 32 := Scalar.muli v456 c256_i32_192
  let v458 : BitVec 32 := v457
  let v459 : Index := Scalar.indexCast v458
  let c0_194 : Index := 0#32
  ![0, v459.toNat, 0]
def k0_mult6 (i : grid0.Coords) (k0_t1 : Fin (k0_t1_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_227 : BitVec 32 := 0#32
  let v533 : BitVec 32 := Scalar.subi v41 c0_i32_227
  let c1_i32_228 : BitVec 32 := 1#32
  let v534 : BitVec 32 := Scalar.subi v533 c1_i32_228
  let c1_i32_229 : BitVec 32 := 1#32
  let v535 : BitVec 32 := Scalar.subi v534 c1_i32_229
  let c4_i32_230 : BitVec 32 := 4#32
  let c0_i32_181 : BitVec 32 := 0#32
  let c1_i32_183 : BitVec 32 := 1#32
  let arg13 : BitVec 32 := Scf.iv c0_i32_181 c1_i32_183 k0_t1
  let v536 : BitVec 32 := Scalar.muli c4_i32_230 arg13
  let v537 : BitVec 32 := Scalar.subi v535 v536
  let c256_i32_231 : BitVec 32 := 256#32
  let v538 : BitVec 32 := Scalar.muli v537 c256_i32_231
  v538
def k0_mult7 (i : grid0.Coords) (k0_t1 : Fin (k0_t1_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_266 : BitVec 32 := 0#32
  let v614 : BitVec 32 := Scalar.subi v41 c0_i32_266
  let c1_i32_267 : BitVec 32 := 1#32
  let v615 : BitVec 32 := Scalar.subi v614 c1_i32_267
  let c2_i32_268 : BitVec 32 := 2#32
  let v616 : BitVec 32 := Scalar.subi v615 c2_i32_268
  let c4_i32_269 : BitVec 32 := 4#32
  let c0_i32_181 : BitVec 32 := 0#32
  let c1_i32_183 : BitVec 32 := 1#32
  let arg13 : BitVec 32 := Scf.iv c0_i32_181 c1_i32_183 k0_t1
  let v617 : BitVec 32 := Scalar.muli c4_i32_269 arg13
  let v618 : BitVec 32 := Scalar.subi v616 v617
  let c256_i32_270 : BitVec 32 := 256#32
  let v619 : BitVec 32 := Scalar.muli v618 c256_i32_270
  v619
def k0_mult8 (i : grid0.Coords) (k0_t1 : Fin (k0_t1_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_305 : BitVec 32 := 0#32
  let v695 : BitVec 32 := Scalar.subi v41 c0_i32_305
  let c1_i32_306 : BitVec 32 := 1#32
  let v696 : BitVec 32 := Scalar.subi v695 c1_i32_306
  let c3_i32_307 : BitVec 32 := 3#32
  let v697 : BitVec 32 := Scalar.subi v696 c3_i32_307
  let c4_i32_308 : BitVec 32 := 4#32
  let c0_i32_181 : BitVec 32 := 0#32
  let c1_i32_183 : BitVec 32 := 1#32
  let arg13 : BitVec 32 := Scf.iv c0_i32_181 c1_i32_183 k0_t1
  let v698 : BitVec 32 := Scalar.muli c4_i32_308 arg13
  let v699 : BitVec 32 := Scalar.subi v697 v698
  let c256_i32_309 : BitVec 32 := 256#32
  let v700 : BitVec 32 := Scalar.muli v699 c256_i32_309
  v700
@[reducible] def k0_t2_loop (i : grid0.Coords) : Scf.Loop 32 :=
  let c0_i32_181 : BitVec 32 := 0#32
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_175 : BitVec 32 := 0#32
  let v426 : BitVec 1 := Scalar.cmpi .sgt v41 c0_i32_175
  let v427 : BitVec 32 := Scalar.extui v426
  let c0_i32_176 : BitVec 32 := 0#32
  let v428 : BitVec 1 := Scalar.cmpi .slt v41 c0_i32_176
  let v429 : BitVec 32 := Scalar.extui v428
  let v430 : BitVec 32 := Scalar.subi v427 v429
  let c4_i32 : BitVec 32 := 4#32
  let c0_i32_177 : BitVec 32 := 0#32
  let v431 : BitVec 1 := Scalar.cmpi .sgt c4_i32 c0_i32_177
  let v432 : BitVec 32 := Scalar.extui v431
  let c0_i32_178 : BitVec 32 := 0#32
  let v433 : BitVec 1 := Scalar.cmpi .slt c4_i32 c0_i32_178
  let v434 : BitVec 32 := Scalar.extui v433
  let v435 : BitVec 32 := Scalar.subi v432 v434
  let v436 : BitVec 1 := Scalar.cmpi .ne v430 v435
  let v437 : BitVec 32 := Scalar.remsi v41 c4_i32
  let c0_i32_179 : BitVec 32 := 0#32
  let v438 : BitVec 1 := Scalar.cmpi .ne v437 c0_i32_179
  let v439 : BitVec 1 := Scalar.andi v436 v438
  let v425 : BitVec 32 := Scalar.divsi v41 c4_i32
  let c1_i32_180 : BitVec 32 := 1#32
  let v440 : BitVec 32 := Scalar.subi v425 c1_i32_180
  let v441 : BitVec 32 := Scalar.select v439 v440 v425
  let v442 : BitVec 32 := Scalar.subi v441 c0_i32_181
  let c1_i32_182 : BitVec 32 := 1#32
  let v444 : BitVec 32 := Scalar.divsi v442 c1_i32_182
  let v445 : BitVec 32 := Scalar.muli v444 c1_i32_182
  let v446 : BitVec 32 := Scalar.addi c0_i32_181 v445
  let v443 : BitVec 32 := Scalar.addi c0_i32_181 v442
  let c1_i32_184 : BitVec 32 := 1#32
  ⟨v446, v443, c1_i32_184⟩
def k0_mult9 (i : grid0.Coords) (k0_t2 : Fin (k0_t2_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_188 : BitVec 32 := 0#32
  let v452 : BitVec 32 := Scalar.subi v41 c0_i32_188
  let c1_i32_189 : BitVec 32 := 1#32
  let v453 : BitVec 32 := Scalar.subi v452 c1_i32_189
  let c0_i32_190 : BitVec 32 := 0#32
  let v454 : BitVec 32 := Scalar.subi v453 c0_i32_190
  let c4_i32_191 : BitVec 32 := 4#32
  let c0_i32_181 : BitVec 32 := 0#32
  let c0_i32_175 : BitVec 32 := 0#32
  let v426 : BitVec 1 := Scalar.cmpi .sgt v41 c0_i32_175
  let v427 : BitVec 32 := Scalar.extui v426
  let c0_i32_176 : BitVec 32 := 0#32
  let v428 : BitVec 1 := Scalar.cmpi .slt v41 c0_i32_176
  let v429 : BitVec 32 := Scalar.extui v428
  let v430 : BitVec 32 := Scalar.subi v427 v429
  let c4_i32 : BitVec 32 := 4#32
  let c0_i32_177 : BitVec 32 := 0#32
  let v431 : BitVec 1 := Scalar.cmpi .sgt c4_i32 c0_i32_177
  let v432 : BitVec 32 := Scalar.extui v431
  let c0_i32_178 : BitVec 32 := 0#32
  let v433 : BitVec 1 := Scalar.cmpi .slt c4_i32 c0_i32_178
  let v434 : BitVec 32 := Scalar.extui v433
  let v435 : BitVec 32 := Scalar.subi v432 v434
  let v436 : BitVec 1 := Scalar.cmpi .ne v430 v435
  let v437 : BitVec 32 := Scalar.remsi v41 c4_i32
  let c0_i32_179 : BitVec 32 := 0#32
  let v438 : BitVec 1 := Scalar.cmpi .ne v437 c0_i32_179
  let v439 : BitVec 1 := Scalar.andi v436 v438
  let v425 : BitVec 32 := Scalar.divsi v41 c4_i32
  let c1_i32_180 : BitVec 32 := 1#32
  let v440 : BitVec 32 := Scalar.subi v425 c1_i32_180
  let v441 : BitVec 32 := Scalar.select v439 v440 v425
  let v442 : BitVec 32 := Scalar.subi v441 c0_i32_181
  let c1_i32_182 : BitVec 32 := 1#32
  let v444 : BitVec 32 := Scalar.divsi v442 c1_i32_182
  let v445 : BitVec 32 := Scalar.muli v444 c1_i32_182
  let v446 : BitVec 32 := Scalar.addi c0_i32_181 v445
  let c1_i32_184 : BitVec 32 := 1#32
  let arg13 : BitVec 32 := Scf.iv v446 c1_i32_184 k0_t2
  let v455 : BitVec 32 := Scalar.muli c4_i32_191 arg13
  let v456 : BitVec 32 := Scalar.subi v454 v455
  let c256_i32_192 : BitVec 32 := 256#32
  let v457 : BitVec 32 := Scalar.muli v456 c256_i32_192
  v457
def k0_off3 (i : grid0.Coords) (k0_t2 : Fin (k0_t2_loop i).trips) (c0_i32_190 : BitVec 32) : Fin 3 → Nat :=
  let c0_193 : Index := 0#32
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_188 : BitVec 32 := 0#32
  let v452 : BitVec 32 := Scalar.subi v41 c0_i32_188
  let c1_i32_189 : BitVec 32 := 1#32
  let v453 : BitVec 32 := Scalar.subi v452 c1_i32_189
  let v454 : BitVec 32 := Scalar.subi v453 c0_i32_190
  let c4_i32_191 : BitVec 32 := 4#32
  let c0_i32_181 : BitVec 32 := 0#32
  let c0_i32_175 : BitVec 32 := 0#32
  let v426 : BitVec 1 := Scalar.cmpi .sgt v41 c0_i32_175
  let v427 : BitVec 32 := Scalar.extui v426
  let c0_i32_176 : BitVec 32 := 0#32
  let v428 : BitVec 1 := Scalar.cmpi .slt v41 c0_i32_176
  let v429 : BitVec 32 := Scalar.extui v428
  let v430 : BitVec 32 := Scalar.subi v427 v429
  let c4_i32 : BitVec 32 := 4#32
  let c0_i32_177 : BitVec 32 := 0#32
  let v431 : BitVec 1 := Scalar.cmpi .sgt c4_i32 c0_i32_177
  let v432 : BitVec 32 := Scalar.extui v431
  let c0_i32_178 : BitVec 32 := 0#32
  let v433 : BitVec 1 := Scalar.cmpi .slt c4_i32 c0_i32_178
  let v434 : BitVec 32 := Scalar.extui v433
  let v435 : BitVec 32 := Scalar.subi v432 v434
  let v436 : BitVec 1 := Scalar.cmpi .ne v430 v435
  let v437 : BitVec 32 := Scalar.remsi v41 c4_i32
  let c0_i32_179 : BitVec 32 := 0#32
  let v438 : BitVec 1 := Scalar.cmpi .ne v437 c0_i32_179
  let v439 : BitVec 1 := Scalar.andi v436 v438
  let v425 : BitVec 32 := Scalar.divsi v41 c4_i32
  let c1_i32_180 : BitVec 32 := 1#32
  let v440 : BitVec 32 := Scalar.subi v425 c1_i32_180
  let v441 : BitVec 32 := Scalar.select v439 v440 v425
  let v442 : BitVec 32 := Scalar.subi v441 c0_i32_181
  let c1_i32_182 : BitVec 32 := 1#32
  let v444 : BitVec 32 := Scalar.divsi v442 c1_i32_182
  let v445 : BitVec 32 := Scalar.muli v444 c1_i32_182
  let v446 : BitVec 32 := Scalar.addi c0_i32_181 v445
  let c1_i32_184 : BitVec 32 := 1#32
  let arg13 : BitVec 32 := Scf.iv v446 c1_i32_184 k0_t2
  let v455 : BitVec 32 := Scalar.muli c4_i32_191 arg13
  let v456 : BitVec 32 := Scalar.subi v454 v455
  let c256_i32_192 : BitVec 32 := 256#32
  let v457 : BitVec 32 := Scalar.muli v456 c256_i32_192
  let v458 : BitVec 32 := v457
  let v459 : Index := Scalar.indexCast v458
  let c0_194 : Index := 0#32
  ![0, v459.toNat, 0]
def k0_mult10 (i : grid0.Coords) (k0_t2 : Fin (k0_t2_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_227 : BitVec 32 := 0#32
  let v533 : BitVec 32 := Scalar.subi v41 c0_i32_227
  let c1_i32_228 : BitVec 32 := 1#32
  let v534 : BitVec 32 := Scalar.subi v533 c1_i32_228
  let c1_i32_229 : BitVec 32 := 1#32
  let v535 : BitVec 32 := Scalar.subi v534 c1_i32_229
  let c4_i32_230 : BitVec 32 := 4#32
  let c0_i32_181 : BitVec 32 := 0#32
  let c0_i32_175 : BitVec 32 := 0#32
  let v426 : BitVec 1 := Scalar.cmpi .sgt v41 c0_i32_175
  let v427 : BitVec 32 := Scalar.extui v426
  let c0_i32_176 : BitVec 32 := 0#32
  let v428 : BitVec 1 := Scalar.cmpi .slt v41 c0_i32_176
  let v429 : BitVec 32 := Scalar.extui v428
  let v430 : BitVec 32 := Scalar.subi v427 v429
  let c4_i32 : BitVec 32 := 4#32
  let c0_i32_177 : BitVec 32 := 0#32
  let v431 : BitVec 1 := Scalar.cmpi .sgt c4_i32 c0_i32_177
  let v432 : BitVec 32 := Scalar.extui v431
  let c0_i32_178 : BitVec 32 := 0#32
  let v433 : BitVec 1 := Scalar.cmpi .slt c4_i32 c0_i32_178
  let v434 : BitVec 32 := Scalar.extui v433
  let v435 : BitVec 32 := Scalar.subi v432 v434
  let v436 : BitVec 1 := Scalar.cmpi .ne v430 v435
  let v437 : BitVec 32 := Scalar.remsi v41 c4_i32
  let c0_i32_179 : BitVec 32 := 0#32
  let v438 : BitVec 1 := Scalar.cmpi .ne v437 c0_i32_179
  let v439 : BitVec 1 := Scalar.andi v436 v438
  let v425 : BitVec 32 := Scalar.divsi v41 c4_i32
  let c1_i32_180 : BitVec 32 := 1#32
  let v440 : BitVec 32 := Scalar.subi v425 c1_i32_180
  let v441 : BitVec 32 := Scalar.select v439 v440 v425
  let v442 : BitVec 32 := Scalar.subi v441 c0_i32_181
  let c1_i32_182 : BitVec 32 := 1#32
  let v444 : BitVec 32 := Scalar.divsi v442 c1_i32_182
  let v445 : BitVec 32 := Scalar.muli v444 c1_i32_182
  let v446 : BitVec 32 := Scalar.addi c0_i32_181 v445
  let c1_i32_184 : BitVec 32 := 1#32
  let arg13 : BitVec 32 := Scf.iv v446 c1_i32_184 k0_t2
  let v536 : BitVec 32 := Scalar.muli c4_i32_230 arg13
  let v537 : BitVec 32 := Scalar.subi v535 v536
  let c256_i32_231 : BitVec 32 := 256#32
  let v538 : BitVec 32 := Scalar.muli v537 c256_i32_231
  v538
def k0_mult11 (i : grid0.Coords) (k0_t2 : Fin (k0_t2_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_266 : BitVec 32 := 0#32
  let v614 : BitVec 32 := Scalar.subi v41 c0_i32_266
  let c1_i32_267 : BitVec 32 := 1#32
  let v615 : BitVec 32 := Scalar.subi v614 c1_i32_267
  let c2_i32_268 : BitVec 32 := 2#32
  let v616 : BitVec 32 := Scalar.subi v615 c2_i32_268
  let c4_i32_269 : BitVec 32 := 4#32
  let c0_i32_181 : BitVec 32 := 0#32
  let c0_i32_175 : BitVec 32 := 0#32
  let v426 : BitVec 1 := Scalar.cmpi .sgt v41 c0_i32_175
  let v427 : BitVec 32 := Scalar.extui v426
  let c0_i32_176 : BitVec 32 := 0#32
  let v428 : BitVec 1 := Scalar.cmpi .slt v41 c0_i32_176
  let v429 : BitVec 32 := Scalar.extui v428
  let v430 : BitVec 32 := Scalar.subi v427 v429
  let c4_i32 : BitVec 32 := 4#32
  let c0_i32_177 : BitVec 32 := 0#32
  let v431 : BitVec 1 := Scalar.cmpi .sgt c4_i32 c0_i32_177
  let v432 : BitVec 32 := Scalar.extui v431
  let c0_i32_178 : BitVec 32 := 0#32
  let v433 : BitVec 1 := Scalar.cmpi .slt c4_i32 c0_i32_178
  let v434 : BitVec 32 := Scalar.extui v433
  let v435 : BitVec 32 := Scalar.subi v432 v434
  let v436 : BitVec 1 := Scalar.cmpi .ne v430 v435
  let v437 : BitVec 32 := Scalar.remsi v41 c4_i32
  let c0_i32_179 : BitVec 32 := 0#32
  let v438 : BitVec 1 := Scalar.cmpi .ne v437 c0_i32_179
  let v439 : BitVec 1 := Scalar.andi v436 v438
  let v425 : BitVec 32 := Scalar.divsi v41 c4_i32
  let c1_i32_180 : BitVec 32 := 1#32
  let v440 : BitVec 32 := Scalar.subi v425 c1_i32_180
  let v441 : BitVec 32 := Scalar.select v439 v440 v425
  let v442 : BitVec 32 := Scalar.subi v441 c0_i32_181
  let c1_i32_182 : BitVec 32 := 1#32
  let v444 : BitVec 32 := Scalar.divsi v442 c1_i32_182
  let v445 : BitVec 32 := Scalar.muli v444 c1_i32_182
  let v446 : BitVec 32 := Scalar.addi c0_i32_181 v445
  let c1_i32_184 : BitVec 32 := 1#32
  let arg13 : BitVec 32 := Scf.iv v446 c1_i32_184 k0_t2
  let v617 : BitVec 32 := Scalar.muli c4_i32_269 arg13
  let v618 : BitVec 32 := Scalar.subi v616 v617
  let c256_i32_270 : BitVec 32 := 256#32
  let v619 : BitVec 32 := Scalar.muli v618 c256_i32_270
  v619
def k0_mult12 (i : grid0.Coords) (k0_t2 : Fin (k0_t2_loop i).trips) : BitVec 32 :=
  let arg1 : BitVec 32 := BitVec.ofNat 32 (i 1).val
  let c1024_i32_12 : BitVec 32 := 1024#32
  let v24 : BitVec 32 := Scalar.muli arg1 c1024_i32_12
  let c0_i32_13 : BitVec 32 := 0#32
  let v26 : BitVec 1 := Scalar.cmpi .sgt v24 c0_i32_13
  let v27 : BitVec 32 := Scalar.extui v26
  let c0_i32_14 : BitVec 32 := 0#32
  let v28 : BitVec 1 := Scalar.cmpi .slt v24 c0_i32_14
  let v29 : BitVec 32 := Scalar.extui v28
  let v30 : BitVec 32 := Scalar.subi v27 v29
  let c256_i32 : BitVec 32 := 256#32
  let c0_i32_15 : BitVec 32 := 0#32
  let v31 : BitVec 1 := Scalar.cmpi .sgt c256_i32 c0_i32_15
  let v32 : BitVec 32 := Scalar.extui v31
  let c0_i32_16 : BitVec 32 := 0#32
  let v33 : BitVec 1 := Scalar.cmpi .slt c256_i32 c0_i32_16
  let v34 : BitVec 32 := Scalar.extui v33
  let v35 : BitVec 32 := Scalar.subi v32 v34
  let v36 : BitVec 1 := Scalar.cmpi .ne v30 v35
  let v37 : BitVec 32 := Scalar.remsi v24 c256_i32
  let c0_i32_17 : BitVec 32 := 0#32
  let v38 : BitVec 1 := Scalar.cmpi .ne v37 c0_i32_17
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c0_i32_305 : BitVec 32 := 0#32
  let v695 : BitVec 32 := Scalar.subi v41 c0_i32_305
  let c1_i32_306 : BitVec 32 := 1#32
  let v696 : BitVec 32 := Scalar.subi v695 c1_i32_306
  let c3_i32_307 : BitVec 32 := 3#32
  let v697 : BitVec 32 := Scalar.subi v696 c3_i32_307
  let c4_i32_308 : BitVec 32 := 4#32
  let c0_i32_181 : BitVec 32 := 0#32
  let c0_i32_175 : BitVec 32 := 0#32
  let v426 : BitVec 1 := Scalar.cmpi .sgt v41 c0_i32_175
  let v427 : BitVec 32 := Scalar.extui v426
  let c0_i32_176 : BitVec 32 := 0#32
  let v428 : BitVec 1 := Scalar.cmpi .slt v41 c0_i32_176
  let v429 : BitVec 32 := Scalar.extui v428
  let v430 : BitVec 32 := Scalar.subi v427 v429
  let c4_i32 : BitVec 32 := 4#32
  let c0_i32_177 : BitVec 32 := 0#32
  let v431 : BitVec 1 := Scalar.cmpi .sgt c4_i32 c0_i32_177
  let v432 : BitVec 32 := Scalar.extui v431
  let c0_i32_178 : BitVec 32 := 0#32
  let v433 : BitVec 1 := Scalar.cmpi .slt c4_i32 c0_i32_178
  let v434 : BitVec 32 := Scalar.extui v433
  let v435 : BitVec 32 := Scalar.subi v432 v434
  let v436 : BitVec 1 := Scalar.cmpi .ne v430 v435
  let v437 : BitVec 32 := Scalar.remsi v41 c4_i32
  let c0_i32_179 : BitVec 32 := 0#32
  let v438 : BitVec 1 := Scalar.cmpi .ne v437 c0_i32_179
  let v439 : BitVec 1 := Scalar.andi v436 v438
  let v425 : BitVec 32 := Scalar.divsi v41 c4_i32
  let c1_i32_180 : BitVec 32 := 1#32
  let v440 : BitVec 32 := Scalar.subi v425 c1_i32_180
  let v441 : BitVec 32 := Scalar.select v439 v440 v425
  let v442 : BitVec 32 := Scalar.subi v441 c0_i32_181
  let c1_i32_182 : BitVec 32 := 1#32
  let v444 : BitVec 32 := Scalar.divsi v442 c1_i32_182
  let v445 : BitVec 32 := Scalar.muli v444 c1_i32_182
  let v446 : BitVec 32 := Scalar.addi c0_i32_181 v445
  let c1_i32_184 : BitVec 32 := 1#32
  let arg13 : BitVec 32 := Scf.iv v446 c1_i32_184 k0_t2
  let v698 : BitVec 32 := Scalar.muli c4_i32_308 arg13
  let v699 : BitVec 32 := Scalar.subi v697 v698
  let c256_i32_309 : BitVec 32 := 256#32
  let v700 : BitVec 32 := Scalar.muli v699 c256_i32_309
  v700
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x8192x64 : Shape := ⟨3, ![8, 8192, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x64x8192 : Shape := ⟨3, ![8, 64, 8192]⟩

abbrev nBuf : Space → Nat
  | .hbm => 154
  | .vmem => 0
  | .smem => 0
  | _ => 0

abbrev hbmTy0_0 (i : Nat) : BufTy := match i % 128 with
  | 0 => ⟨S8x8192x64, .f32⟩
  | 1 => ⟨S8x8192x64, .f32⟩
  | 2 => ⟨S8x8192x64, .f32⟩
  | 3 => ⟨S8x8192x64, .f32⟩
  | 4 => ⟨S8x8192x8192, .f32⟩
  | 5 => ⟨S8192, .i32⟩
  | 6 => ⟨S1x8192, .i32⟩
  | 7 => ⟨S8192x1, .i32⟩
  | 8 => ⟨S8192x8192, .i32⟩
  | 9 => ⟨S8192x8192, .i32⟩
  | 10 => ⟨S8192x8192, .i1⟩
  | 11 => ⟨S8x8192x8192, .f32⟩
  | 12 => ⟨S_, .f32⟩
  | 13 => ⟨S8x8192x8192, .f32⟩
  | 14 => ⟨S8x8192x8192, .f32⟩
  | 15 => ⟨S8x8192x8192, .f32⟩
  | 16 => ⟨S8x8192x8192, .f32⟩
  | 17 => ⟨S8x8192x8192, .i1⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .f32⟩
  | 26 => ⟨S_, .f32⟩
  | 27 => ⟨S8x8192x8192, .f32⟩
  | 28 => ⟨S8x8192x8192, .i1⟩
  | 29 => ⟨S_, .f32⟩
  | 30 => ⟨S8x8192x8192, .f32⟩
  | 31 => ⟨S8x8192x8192, .f32⟩
  | 32 => ⟨S_, .f32⟩
  | 33 => ⟨S8x8192x8192, .f32⟩
  | 34 => ⟨S8x8192x8192, .i1⟩
  | 35 => ⟨S_, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S8x8192x8192, .f32⟩
  | 48 => ⟨S8x8192x8192, .i1⟩
  | 49 => ⟨S_, .f32⟩
  | 50 => ⟨S8x8192x8192, .f32⟩
  | 51 => ⟨S8x8192x8192, .f32⟩
  | 52 => ⟨S8x8192x8192, .f32⟩
  | 53 => ⟨S8x8192x8192, .f32⟩
  | 54 => ⟨S8x8192x8192, .f32⟩
  | 55 => ⟨S_, .f32⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S_, .f32⟩
  | 62 => ⟨S8x8192x8192, .f32⟩
  | 63 => ⟨S8x8192x8192, .f32⟩
  | 64 => ⟨S8x8192x8192, .f32⟩
  | 65 => ⟨S8x8192x8192, .f32⟩
  | 66 => ⟨S8x8192x8192, .i1⟩
  | 67 => ⟨S8x8192x8192, .f32⟩
  | 68 => ⟨S8x8192x8192, .f32⟩
  | 69 => ⟨S8x8192x8192, .f32⟩
  | 70 => ⟨S8x8192x8192, .f32⟩
  | 71 => ⟨S8x8192x8192, .f32⟩
  | 72 => ⟨S8x8192x8192, .f32⟩
  | 73 => ⟨S8x8192x8192, .f32⟩
  | 74 => ⟨S8x8192x8192, .f32⟩
  | 75 => ⟨S_, .f32⟩
  | 76 => ⟨S8x8192x8192, .f32⟩
  | 77 => ⟨S8x8192x8192, .i1⟩
  | 78 => ⟨S_, .f32⟩
  | 79 => ⟨S8x8192x8192, .f32⟩
  | 80 => ⟨S8x8192x8192, .f32⟩
  | 81 => ⟨S_, .f32⟩
  | 82 => ⟨S8x8192x8192, .f32⟩
  | 83 => ⟨S8x8192x8192, .i1⟩
  | 84 => ⟨S_, .f32⟩
  | 85 => ⟨S8x8192x8192, .f32⟩
  | 86 => ⟨S8x8192x8192, .f32⟩
  | 87 => ⟨S8x8192x8192, .f32⟩
  | 88 => ⟨S8x8192x8192, .f32⟩
  | 89 => ⟨S_, .f32⟩
  | 90 => ⟨S_, .f32⟩
  | 91 => ⟨S_, .i1⟩
  | 92 => ⟨S_, .f32⟩
  | 93 => ⟨S_, .f32⟩
  | 94 => ⟨S_, .f32⟩
  | 95 => ⟨S_, .f32⟩
  | 96 => ⟨S8x8192x8192, .f32⟩
  | 97 => ⟨S8x8192x8192, .i1⟩
  | 98 => ⟨S_, .f32⟩
  | 99 => ⟨S8x8192x8192, .f32⟩
  | 100 => ⟨S8x8192x8192, .f32⟩
  | 101 => ⟨S8x8192x8192, .f32⟩
  | 102 => ⟨S8x8192x8192, .f32⟩
  | 103 => ⟨S8x8192x8192, .f32⟩
  | 104 => ⟨S_, .f32⟩
  | 105 => ⟨S8x8192x8192, .f32⟩
  | 106 => ⟨S8x8192x8192, .f32⟩
  | 107 => ⟨S8x8192x8192, .f32⟩
  | 108 => ⟨S_, .f32⟩
  | 109 => ⟨S_, .f32⟩
  | 110 => ⟨S8x8192x8192, .i1⟩
  | 111 => ⟨S8x8192x8192, .f32⟩
  | 112 => ⟨S8x8192x8192, .f32⟩
  | 113 => ⟨S_, .f32⟩
  | 114 => ⟨S8x8192x8192, .f32⟩
  | 115 => ⟨S_, .f32⟩
  | 116 => ⟨S_, .f32⟩
  | 117 => ⟨S8x8192x8192, .f32⟩
  | 118 => ⟨S8x8192x8192, .f32⟩
  | 119 => ⟨S8x8192x8192, .f32⟩
  | 120 => ⟨S8x8192x8192, .f32⟩
  | 121 => ⟨S_, .f32⟩
  | 122 => ⟨S_, .f32⟩
  | 123 => ⟨S8x8192x8192, .i1⟩
  | 124 => ⟨S8x8192x8192, .f32⟩
  | 125 => ⟨S8x8192x8192, .f32⟩
  | 126 => ⟨S_, .f32⟩
  | 127 => ⟨S8x8192x8192, .f32⟩
  | _ => ⟨S8x8192x64, .f32⟩

abbrev hbmTy0_1 (i : Nat) : BufTy := match i % 128 with
  | 0 => ⟨S8x8192x64, .f32⟩
  | 1 => ⟨S8x64x8192, .f32⟩
  | 2 => ⟨S8x8192x64, .f32⟩
  | 3 => ⟨S8x8192x8192, .f32⟩
  | 4 => ⟨S_, .f32⟩
  | 5 => ⟨S8x8192x8192, .f32⟩
  | 6 => ⟨S8x8192x8192, .f32⟩
  | 7 => ⟨S8x8192x8192, .f32⟩
  | 8 => ⟨S8x8192x8192, .f32⟩
  | 9 => ⟨S_, .f32⟩
  | 10 => ⟨S_, .f32⟩
  | 11 => ⟨S8x8192x8192, .f32⟩
  | 12 => ⟨S8x8192x8192, .f32⟩
  | 13 => ⟨S_, .f32⟩
  | 14 => ⟨S8x8192x8192, .f32⟩
  | 15 => ⟨S8x8192x8192, .f32⟩
  | 16 => ⟨S8x8192x8192, .f32⟩
  | 17 => ⟨S8x8192x8192, .f32⟩
  | 18 => ⟨S8x8192x8192, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x64, .f32⟩
  | 25 => ⟨S8x8192x64, .f32⟩
  | _ => ⟨S8x8192x64, .f32⟩

abbrev hbmTy (i : Nat) : BufTy := match i / 128 with
  | 0 => hbmTy0_0 i
  | 1 => hbmTy0_1 i
  | _ => ⟨S8x8192x64, .f32⟩

abbrev bufTy : (tb : Table) → Fin (tcTables nBuf tb) → BufTy
  | .hbm, ⟨i, _⟩ => hbmTy i
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1_0 : Ref sig .tc := ⟨.hbm, 25, rfl⟩
abbrev main_call0_call0_cst_0 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_call0_cst_1 : Ref sig .tc := ⟨.hbm, 29, rfl⟩
abbrev main_call0_call0_v15 : Ref sig .tc := ⟨.hbm, 30, rfl⟩
abbrev main_call0_call0_v16 : Ref sig .tc := ⟨.hbm, 31, rfl⟩
abbrev main_call0_call0_cst_2 : Ref sig .tc := ⟨.hbm, 32, rfl⟩
abbrev main_call0_call0_v17 : Ref sig .tc := ⟨.hbm, 33, rfl⟩
abbrev main_call0_call0_v18 : Ref sig .tc := ⟨.hbm, 34, rfl⟩
abbrev main_call0_call0_cst_3 : Ref sig .tc := ⟨.hbm, 35, rfl⟩
abbrev main_call0_call0_v19 : Ref sig .tc := ⟨.hbm, 36, rfl⟩
abbrev main_call0_call0_v20 : Ref sig .tc := ⟨.hbm, 37, rfl⟩
abbrev main_call0_call0_v21 : Ref sig .tc := ⟨.hbm, 38, rfl⟩
abbrev main_v7_1 : Ref sig .tc := ⟨.hbm, 39, rfl⟩
abbrev main_call0_call0_cst_4 : Ref sig .tc := ⟨.hbm, 40, rfl⟩
abbrev main_call0_call0_cst_5 : Ref sig .tc := ⟨.hbm, 41, rfl⟩
abbrev main_call0_call0_v23 : Ref sig .tc := ⟨.hbm, 42, rfl⟩
abbrev main_call0_call0_cst_6 : Ref sig .tc := ⟨.hbm, 43, rfl⟩
abbrev main_call0_call0_cst_7 : Ref sig .tc := ⟨.hbm, 44, rfl⟩
abbrev main_call0_call0_v24 : Ref sig .tc := ⟨.hbm, 45, rfl⟩
abbrev main_call0_call0_cst_8 : Ref sig .tc := ⟨.hbm, 46, rfl⟩
abbrev main_call0_call0_v25 : Ref sig .tc := ⟨.hbm, 47, rfl⟩
abbrev main_call0_call0_v26 : Ref sig .tc := ⟨.hbm, 48, rfl⟩
abbrev main_call0_call0_cst_9 : Ref sig .tc := ⟨.hbm, 49, rfl⟩
abbrev main_call0_call0_v27 : Ref sig .tc := ⟨.hbm, 50, rfl⟩
abbrev main_call0_call0_v28 : Ref sig .tc := ⟨.hbm, 51, rfl⟩
abbrev main_call0_call0_v29 : Ref sig .tc := ⟨.hbm, 52, rfl⟩
abbrev main_call0_call0_v30 : Ref sig .tc := ⟨.hbm, 53, rfl⟩
abbrev main_call0_call0_v31 : Ref sig .tc := ⟨.hbm, 54, rfl⟩
abbrev main_call0_call0_cst_10 : Ref sig .tc := ⟨.hbm, 55, rfl⟩
abbrev main_call0_call0_v32 : Ref sig .tc := ⟨.hbm, 56, rfl⟩
abbrev main_v7_2 : Ref sig .tc := ⟨.hbm, 57, rfl⟩
abbrev main_v7_0 : Ref sig .tc := ⟨.hbm, 58, rfl⟩
abbrev main_v8 : Ref sig .tc := ⟨.hbm, 59, rfl⟩
abbrev main_call1_v0 : Ref sig .tc := ⟨.hbm, 60, rfl⟩
abbrev main_call1_call0_cst : Ref sig .tc := ⟨.hbm, 61, rfl⟩
abbrev main_call1_call0_v0 : Ref sig .tc := ⟨.hbm, 62, rfl⟩
abbrev main_call1_call0_v1 : Ref sig .tc := ⟨.hbm, 63, rfl⟩
abbrev main_call1_call0_v2 : Ref sig .tc := ⟨.hbm, 64, rfl⟩
abbrev main_call1_call0_v3 : Ref sig .tc := ⟨.hbm, 65, rfl⟩
abbrev main_call1_call0_v4 : Ref sig .tc := ⟨.hbm, 66, rfl⟩
abbrev main_call1_call0_v5 : Ref sig .tc := ⟨.hbm, 67, rfl⟩
abbrev main_call1_call0_v6 : Ref sig .tc := ⟨.hbm, 68, rfl⟩
abbrev main_call1_call0_v7 : Ref sig .tc := ⟨.hbm, 69, rfl⟩
abbrev main_call1_call0_v8 : Ref sig .tc := ⟨.hbm, 70, rfl⟩
abbrev main_call1_call0_v9 : Ref sig .tc := ⟨.hbm, 71, rfl⟩
abbrev main_call1_call0_v10 : Ref sig .tc := ⟨.hbm, 72, rfl⟩
abbrev main_call1_call0_v11 : Ref sig .tc := ⟨.hbm, 73, rfl⟩
abbrev main_call1_v1_0 : Ref sig .tc := ⟨.hbm, 74, rfl⟩
abbrev main_call1_call0_cst_0 : Ref sig .tc := ⟨.hbm, 75, rfl⟩
abbrev main_call1_call0_v13 : Ref sig .tc := ⟨.hbm, 76, rfl⟩
abbrev main_call1_call0_v14 : Ref sig .tc := ⟨.hbm, 77, rfl⟩
abbrev main_call1_call0_cst_1 : Ref sig .tc := ⟨.hbm, 78, rfl⟩
abbrev main_call1_call0_v15 : Ref sig .tc := ⟨.hbm, 79, rfl⟩
abbrev main_call1_call0_v16 : Ref sig .tc := ⟨.hbm, 80, rfl⟩
abbrev main_call1_call0_cst_2 : Ref sig .tc := ⟨.hbm, 81, rfl⟩
abbrev main_call1_call0_v17 : Ref sig .tc := ⟨.hbm, 82, rfl⟩
abbrev main_call1_call0_v18 : Ref sig .tc := ⟨.hbm, 83, rfl⟩
abbrev main_call1_call0_cst_3 : Ref sig .tc := ⟨.hbm, 84, rfl⟩
abbrev main_call1_call0_v19 : Ref sig .tc := ⟨.hbm, 85, rfl⟩
abbrev main_call1_call0_v20 : Ref sig .tc := ⟨.hbm, 86, rfl⟩
abbrev main_call1_call0_v21 : Ref sig .tc := ⟨.hbm, 87, rfl⟩
abbrev main_v9_1 : Ref sig .tc := ⟨.hbm, 88, rfl⟩
abbrev main_call1_call0_cst_4 : Ref sig .tc := ⟨.hbm, 89, rfl⟩
abbrev main_call1_call0_cst_5 : Ref sig .tc := ⟨.hbm, 90, rfl⟩
abbrev main_call1_call0_v23 : Ref sig .tc := ⟨.hbm, 91, rfl⟩
abbrev main_call1_call0_cst_6 : Ref sig .tc := ⟨.hbm, 92, rfl⟩
abbrev main_call1_call0_cst_7 : Ref sig .tc := ⟨.hbm, 93, rfl⟩
abbrev main_call1_call0_v24 : Ref sig .tc := ⟨.hbm, 94, rfl⟩
abbrev main_call1_call0_cst_8 : Ref sig .tc := ⟨.hbm, 95, rfl⟩
abbrev main_call1_call0_v25 : Ref sig .tc := ⟨.hbm, 96, rfl⟩
abbrev main_call1_call0_v26 : Ref sig .tc := ⟨.hbm, 97, rfl⟩
abbrev main_call1_call0_cst_9 : Ref sig .tc := ⟨.hbm, 98, rfl⟩
abbrev main_call1_call0_v27 : Ref sig .tc := ⟨.hbm, 99, rfl⟩
abbrev main_call1_call0_v28 : Ref sig .tc := ⟨.hbm, 100, rfl⟩
abbrev main_call1_call0_v29 : Ref sig .tc := ⟨.hbm, 101, rfl⟩
abbrev main_call1_call0_v30 : Ref sig .tc := ⟨.hbm, 102, rfl⟩
abbrev main_call1_call0_v31 : Ref sig .tc := ⟨.hbm, 103, rfl⟩
abbrev main_call1_call0_cst_10 : Ref sig .tc := ⟨.hbm, 104, rfl⟩
abbrev main_call1_call0_v32 : Ref sig .tc := ⟨.hbm, 105, rfl⟩
abbrev main_v9_2 : Ref sig .tc := ⟨.hbm, 106, rfl⟩
abbrev main_v9_0 : Ref sig .tc := ⟨.hbm, 107, rfl⟩
abbrev main_cst : Ref sig .tc := ⟨.hbm, 108, rfl⟩
abbrev main_call2_v0 : Ref sig .tc := ⟨.hbm, 109, rfl⟩
abbrev main_v10_1 : Ref sig .tc := ⟨.hbm, 110, rfl⟩
abbrev main_call2_v2 : Ref sig .tc := ⟨.hbm, 111, rfl⟩
abbrev main_v10_0 : Ref sig .tc := ⟨.hbm, 112, rfl⟩
abbrev main_call2_cst : Ref sig .tc := ⟨.hbm, 113, rfl⟩
abbrev main_v10_2 : Ref sig .tc := ⟨.hbm, 114, rfl⟩
abbrev main_call3_cst : Ref sig .tc := ⟨.hbm, 115, rfl⟩
abbrev main_call3_v0 : Ref sig .tc := ⟨.hbm, 116, rfl⟩
abbrev main_v11 : Ref sig .tc := ⟨.hbm, 117, rfl⟩
abbrev main_v12 : Ref sig .tc := ⟨.hbm, 118, rfl⟩
abbrev main_v13 : Ref sig .tc := ⟨.hbm, 119, rfl⟩
abbrev main_v14 : Ref sig .tc := ⟨.hbm, 120, rfl⟩
abbrev main_cst_0 : Ref sig .tc := ⟨.hbm, 121, rfl⟩
abbrev main_call4_v0 : Ref sig .tc := ⟨.hbm, 122, rfl⟩
abbrev main_v15_1 : Ref sig .tc := ⟨.hbm, 123, rfl⟩
abbrev main_call4_v2 : Ref sig .tc := ⟨.hbm, 124, rfl⟩
abbrev main_v15_0 : Ref sig .tc := ⟨.hbm, 125, rfl⟩
abbrev main_call4_cst : Ref sig .tc := ⟨.hbm, 126, rfl⟩
abbrev main_v15_2 : Ref sig .tc := ⟨.hbm, 127, rfl⟩
abbrev main_v16 : Ref sig .tc := ⟨.hbm, 128, rfl⟩
abbrev main_v17 : Ref sig .tc := ⟨.hbm, 129, rfl⟩
abbrev main_v18 : Ref sig .tc := ⟨.hbm, 130, rfl⟩
abbrev main_v19 : Ref sig .tc := ⟨.hbm, 131, rfl⟩
abbrev main_call5_cst : Ref sig .tc := ⟨.hbm, 132, rfl⟩
abbrev main_call5_v0 : Ref sig .tc := ⟨.hbm, 133, rfl⟩
abbrev main_v20 : Ref sig .tc := ⟨.hbm, 134, rfl⟩
abbrev main_v21 : Ref sig .tc := ⟨.hbm, 135, rfl⟩
abbrev main_v22 : Ref sig .tc := ⟨.hbm, 136, rfl⟩
abbrev main_call6_cst : Ref sig .tc := ⟨.hbm, 137, rfl⟩
abbrev main_call6_v0 : Ref sig .tc := ⟨.hbm, 138, rfl⟩
abbrev main_v23 : Ref sig .tc := ⟨.hbm, 139, rfl⟩
abbrev main_v24 : Ref sig .tc := ⟨.hbm, 140, rfl⟩
abbrev main_call7_cst : Ref sig .tc := ⟨.hbm, 141, rfl⟩
abbrev main_call7_v0 : Ref sig .tc := ⟨.hbm, 142, rfl⟩
abbrev main_v25 : Ref sig .tc := ⟨.hbm, 143, rfl⟩
abbrev main_call8_v0 : Ref sig .tc := ⟨.hbm, 144, rfl⟩
abbrev main_call8_v1 : Ref sig .tc := ⟨.hbm, 145, rfl⟩
abbrev main_v26 : Ref sig .tc := ⟨.hbm, 146, rfl⟩
abbrev main_v27 : Ref sig .tc := ⟨.hbm, 147, rfl⟩
abbrev main_call9_v0 : Ref sig .tc := ⟨.hbm, 148, rfl⟩
abbrev main_call9_v1 : Ref sig .tc := ⟨.hbm, 149, rfl⟩
abbrev main_v28 : Ref sig .tc := ⟨.hbm, 150, rfl⟩
abbrev main_v29 : Ref sig .tc := ⟨.hbm, 151, rfl⟩
abbrev main_v30 : Ref sig .tc := ⟨.hbm, 152, rfl⟩
abbrev main_v31 : Ref sig .tc := ⟨.hbm, 153, rfl⟩

abbrev nD : Nat := 1
abbrev τ : Topo := Topo.v7x

variable {F : FTy → Type} [FloatOps F]
-- ==== InProj.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjLinesIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | .hbm, ⟨5, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateUp.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpLinesIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradAct.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S1024x2816, .bf16⟩
  | .hbm, ⟨3, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradActLinesIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradMerged.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMergedLinesIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjLinesIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradIn.lean ====
abbrev S8192x1024 : Shape := ⟨2, ![8192, 1024]⟩
abbrev S8192x7168 : Shape := ⟨2, ![8192, 7168]⟩
abbrev S8x1024x896 : Shape := ⟨3, ![8, 1024, 896]⟩
abbrev S1024x1024 : Shape := ⟨2, ![1024, 1024]⟩
abbrev S1024x896 : Shape := ⟨2, ![1024, 896]⟩
abbrev S1x1024x896 : Shape := ⟨3, ![1, 1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8x1024x896, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInLinesIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S1024x8x896, .f32⟩
  | .hbm, ⟨10, _⟩ => ⟨S8x1024x896, .f32⟩
  | .hbm, ⟨11, _⟩ => ⟨S8x1024x896, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradGateUp.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGateUpLinesIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownLinesIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutLinesIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradBranch.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranchLinesIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradFfn.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S5632x1024, .bf16⟩
  | .hbm, ⟨3, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnLinesIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | .hbm, ⟨8, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradHidden.lean ====
abbrev S8192x7168 : Shape := ⟨2, ![8192, 7168]⟩
abbrev S1024x7168 : Shape := ⟨2, ![1024, 7168]⟩
abbrev S7168x1024 : Shape := ⟨2, ![7168, 1024]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S7168x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond3 (i : grid0.Coords) : BitVec 1 :=
  let arg2 : BitVec 32 := BitVec.ofNat 32 (i 2).val
  let c6_i32_6 : BitVec 32 := 6#32
  let v12 : BitVec 1 := Scalar.cmpi .eq arg2 c6_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradHiddenLinesIdeal.lean ====
abbrev S8192x7168 : Shape := ⟨2, ![8192, 7168]⟩
abbrev S1024x7168 : Shape := ⟨2, ![1024, 7168]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S_, .f32⟩
  | .hbm, ⟨3, _⟩ => ⟨S8192x1024, .f32⟩
  | .hbm, ⟨4, _⟩ => ⟨S1024x7168, .f32⟩
  | .hbm, ⟨5, _⟩ => ⟨S8192x7168, .f32⟩
  | .hbm, ⟨6, _⟩ => ⟨S8192x7168, .f32⟩
  | .hbm, ⟨7, _⟩ => ⟨S8192x1024, .f32⟩
  | .hbm, ⟨8, _⟩ => ⟨S8192x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownLinesIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Attention.lean ====
abbrev S8x8192x64 : Shape := ⟨3, ![8, 8192, 64]⟩
abbrev S512x512 : Shape := ⟨2, ![512, 512]⟩
abbrev S1x512x64 : Shape := ⟨3, ![1, 512, 64]⟩
abbrev S1x8192x64 : Shape := ⟨3, ![1, 8192, 64]⟩
abbrev S512x1 : Shape := ⟨2, ![512, 1]⟩
abbrev S512x64 : Shape := ⟨2, ![512, 64]⟩
abbrev S512 : Shape := ⟨1, ![512]⟩

abbrev nBuf : Space → Nat
  | .hbm => 11
  | .vmem => 9
  | .smem => 0
  | _ => 0

abbrev bufTy : (tb : Table) → Fin (tcTables nBuf tb) → BufTy
  | .hbm, ⟨0, _⟩ => ⟨S8x8192x64, .f32⟩
  | .hbm, ⟨1, _⟩ => ⟨S8x8192x64, .f32⟩
  | .hbm, ⟨2, _⟩ => ⟨S8x8192x64, .f32⟩
  | .hbm, ⟨3, _⟩ => ⟨S8x8192x64, .bf16⟩
  | .hbm, ⟨4, _⟩ => ⟨S8x8192x64, .bf16⟩
  | .hbm, ⟨5, _⟩ => ⟨S8x8192x64, .bf16⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512x512, .bf16⟩
  | .hbm, ⟨10, _⟩ => ⟨S8x8192x64, .f32⟩
  | .local _ .vmem, ⟨0, _⟩ => ⟨S1x512x64, .bf16⟩
  | .local _ .vmem, ⟨1, _⟩ => ⟨S1x512x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S512x512, .bf16⟩
  | .local _ .vmem, ⟨7, _⟩ => ⟨S1x512x64, .f32⟩
  | .local _ .vmem, ⟨8, _⟩ => ⟨S1x512x64, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c0_i32_7 : BitVec 32 := 0#32
  let v25 : BitVec 32 := Scalar.addi v22 c0_i32_7
  let c512_i32_8 : BitVec 32 := 512#32
  let v26 : BitVec 32 := Scalar.muli v25 c512_i32_8
  v26
def k0_off1 (i : grid0.Coords) : Fin 3 → Nat :=
  let c0 : Index := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c0_i32_7 : BitVec 32 := 0#32
  let v25 : BitVec 32 := Scalar.addi v22 c0_i32_7
  let c512_i32_8 : BitVec 32 := 512#32
  let v26 : BitVec 32 := Scalar.muli v25 c512_i32_8
  let v27 : BitVec 32 := v26
  let v28 : Index := Scalar.indexCast v27
  let c0_9 : Index := 0#32
  ![0, v28.toNat, 0]
@[reducible] def k0_t1_loop (i : grid0.Coords) : Scf.Loop 32 :=
  let c0_i32_32 : BitVec 32 := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v80 : BitVec 32 := Scalar.subi v79 c0_i32_32
  let c1_i32_33 : BitVec 32 := 1#32
  let v82 : BitVec 32 := Scalar.divsi v80 c1_i32_33
  let v83 : BitVec 32 := Scalar.muli v82 c1_i32_33
  let v84 : BitVec 32 := Scalar.addi c0_i32_32 v83
  let c1_i32_34 : BitVec 32 := 1#32
  ⟨c0_i32_32, v84, c1_i32_34⟩
def k0_mult2 (i : grid0.Coords) (k0_t1 : Fin (k0_t1_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c1_i32_50 : BitVec 32 := 1#32
  let v114 : BitVec 32 := Scalar.subi v22 c1_i32_50
  let c0_i32_32 : BitVec 32 := 0#32
  let c1_i32_34 : BitVec 32 := 1#32
  let arg7 : BitVec 32 := Scf.iv c0_i32_32 c1_i32_34 k0_t1
  let v115 : BitVec 32 := Scalar.subi v114 arg7
  let c512_i32_51 : BitVec 32 := 512#32
  let v116 : BitVec 32 := Scalar.muli v115 c512_i32_51
  v116
def k0_off2 (i : grid0.Coords) (k0_t1 : Fin (k0_t1_loop i).trips) : Fin 3 → Nat :=
  let c0_52 : Index := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c1_i32_50 : BitVec 32 := 1#32
  let v114 : BitVec 32 := Scalar.subi v22 c1_i32_50
  let c0_i32_32 : BitVec 32 := 0#32
  let c1_i32_34 : BitVec 32 := 1#32
  let arg7 : BitVec 32 := Scf.iv c0_i32_32 c1_i32_34 k0_t1
  let v115 : BitVec 32 := Scalar.subi v114 arg7
  let c512_i32_51 : BitVec 32 := 512#32
  let v116 : BitVec 32 := Scalar.muli v115 c512_i32_51
  let v117 : BitVec 32 := v116
  let v118 : Index := Scalar.indexCast v117
  let c0_53 : Index := 0#32
  ![0, v118.toNat, 0]
@[reducible] def k0_t2_loop (i : grid0.Coords) : Scf.Loop 32 :=
  let c0_i32_32 : BitVec 32 := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v80 : BitVec 32 := Scalar.subi v79 c0_i32_32
  let c1_i32_33 : BitVec 32 := 1#32
  let v82 : BitVec 32 := Scalar.divsi v80 c1_i32_33
  let v83 : BitVec 32 := Scalar.muli v82 c1_i32_33
  let v84 : BitVec 32 := Scalar.addi c0_i32_32 v83
  let v81 : BitVec 32 := Scalar.addi c0_i32_32 v80
  let c1_i32_35 : BitVec 32 := 1#32
  ⟨v84, v81, c1_i32_35⟩
def k0_mult3 (i : grid0.Coords) (k0_t2 : Fin (k0_t2_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c1_i32_50 : BitVec 32 := 1#32
  let v114 : BitVec 32 := Scalar.subi v22 c1_i32_50
  let c0_i32_32 : BitVec 32 := 0#32
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v80 : BitVec 32 := Scalar.subi v79 c0_i32_32
  let c1_i32_33 : BitVec 32 := 1#32
  let v82 : BitVec 32 := Scalar.divsi v80 c1_i32_33
  let v83 : BitVec 32 := Scalar.muli v82 c1_i32_33
  let v84 : BitVec 32 := Scalar.addi c0_i32_32 v83
  let c1_i32_35 : BitVec 32 := 1#32
  let arg7 : BitVec 32 := Scf.iv v84 c1_i32_35 k0_t2
  let v115 : BitVec 32 := Scalar.subi v114 arg7
  let c512_i32_51 : BitVec 32 := 512#32
  let v116 : BitVec 32 := Scalar.muli v115 c512_i32_51
  v116
def k0_off3 (i : grid0.Coords) (k0_t2 : Fin (k0_t2_loop i).trips) : Fin 3 → Nat :=
  let c0_52 : Index := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c1_i32_50 : BitVec 32 := 1#32
  let v114 : BitVec 32 := Scalar.subi v22 c1_i32_50
  let c0_i32_32 : BitVec 32 := 0#32
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v80 : BitVec 32 := Scalar.subi v79 c0_i32_32
  let c1_i32_33 : BitVec 32 := 1#32
  let v82 : BitVec 32 := Scalar.divsi v80 c1_i32_33
  let v83 : BitVec 32 := Scalar.muli v82 c1_i32_33
  let v84 : BitVec 32 := Scalar.addi c0_i32_32 v83
  let c1_i32_35 : BitVec 32 := 1#32
  let arg7 : BitVec 32 := Scf.iv v84 c1_i32_35 k0_t2
  let v115 : BitVec 32 := Scalar.subi v114 arg7
  let c512_i32_51 : BitVec 32 := 512#32
  let v116 : BitVec 32 := Scalar.muli v115 c512_i32_51
  let v117 : BitVec 32 := v116
  let v118 : Index := Scalar.indexCast v117
  let c0_53 : Index := 0#32
  ![0, v118.toNat, 0]
@[reducible] def k0_t3_loop (i : grid0.Coords) : Scf.Loop 32 :=
  let c0_i32_43 : BitVec 32 := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c0_i32_37 : BitVec 32 := 0#32
  let v88 : BitVec 1 := Scalar.cmpi .sgt v22 c0_i32_37
  let v89 : BitVec 32 := Scalar.extui v88
  let c0_i32_38 : BitVec 32 := 0#32
  let v90 : BitVec 1 := Scalar.cmpi .slt v22 c0_i32_38
  let v91 : BitVec 32 := Scalar.extui v90
  let v92 : BitVec 32 := Scalar.subi v89 v91
  let c4_i32_36 : BitVec 32 := 4#32
  let c0_i32_39 : BitVec 32 := 0#32
  let v93 : BitVec 1 := Scalar.cmpi .sgt c4_i32_36 c0_i32_39
  let v94 : BitVec 32 := Scalar.extui v93
  let c0_i32_40 : BitVec 32 := 0#32
  let v95 : BitVec 1 := Scalar.cmpi .slt c4_i32_36 c0_i32_40
  let v96 : BitVec 32 := Scalar.extui v95
  let v97 : BitVec 32 := Scalar.subi v94 v96
  let v98 : BitVec 1 := Scalar.cmpi .ne v92 v97
  let v99 : BitVec 32 := Scalar.remsi v22 c4_i32_36
  let c0_i32_41 : BitVec 32 := 0#32
  let v100 : BitVec 1 := Scalar.cmpi .ne v99 c0_i32_41
  let v101 : BitVec 1 := Scalar.andi v98 v100
  let v87 : BitVec 32 := Scalar.divsi v22 c4_i32_36
  let c1_i32_42 : BitVec 32 := 1#32
  let v102 : BitVec 32 := Scalar.subi v87 c1_i32_42
  let v103 : BitVec 32 := Scalar.select v101 v102 v87
  let v104 : BitVec 32 := Scalar.subi v103 c0_i32_43
  let c1_i32_44 : BitVec 32 := 1#32
  let v106 : BitVec 32 := Scalar.divsi v104 c1_i32_44
  let v107 : BitVec 32 := Scalar.muli v106 c1_i32_44
  let v108 : BitVec 32 := Scalar.addi c0_i32_43 v107
  let c1_i32_45 : BitVec 32 := 1#32
  ⟨c0_i32_43, v108, c1_i32_45⟩
def k0_mult4 (i : grid0.Coords) (k0_t3 : Fin (k0_t3_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v114 : BitVec 32 := Scalar.subi v22 v79
  let c1_i32_50 : BitVec 32 := 1#32
  let v115 : BitVec 32 := Scalar.subi v114 c1_i32_50
  let c0_i32_51 : BitVec 32 := 0#32
  let v116 : BitVec 32 := Scalar.subi v115 c0_i32_51
  let c4_i32_52 : BitVec 32 := 4#32
  let c0_i32_43 : BitVec 32 := 0#32
  let c1_i32_45 : BitVec 32 := 1#32
  let arg7 : BitVec 32 := Scf.iv c0_i32_43 c1_i32_45 k0_t3
  let v117 : BitVec 32 := Scalar.muli c4_i32_52 arg7
  let v118 : BitVec 32 := Scalar.subi v116 v117
  let c512_i32_53 : BitVec 32 := 512#32
  let v119 : BitVec 32 := Scalar.muli v118 c512_i32_53
  v119
def k0_off4 (i : grid0.Coords) (k0_t3 : Fin (k0_t3_loop i).trips) (c0_i32_51 : BitVec 32) : Fin 3 → Nat :=
  let c0_54 : Index := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v114 : BitVec 32 := Scalar.subi v22 v79
  let c1_i32_50 : BitVec 32 := 1#32
  let v115 : BitVec 32 := Scalar.subi v114 c1_i32_50
  let v116 : BitVec 32 := Scalar.subi v115 c0_i32_51
  let c4_i32_52 : BitVec 32 := 4#32
  let c0_i32_43 : BitVec 32 := 0#32
  let c1_i32_45 : BitVec 32 := 1#32
  let arg7 : BitVec 32 := Scf.iv c0_i32_43 c1_i32_45 k0_t3
  let v117 : BitVec 32 := Scalar.muli c4_i32_52 arg7
  let v118 : BitVec 32 := Scalar.subi v116 v117
  let c512_i32_53 : BitVec 32 := 512#32
  let v119 : BitVec 32 := Scalar.muli v118 c512_i32_53
  let v120 : BitVec 32 := v119
  let v121 : Index := Scalar.indexCast v120
  let c0_55 : Index := 0#32
  ![0, v121.toNat, 0]
def k0_mult5 (i : grid0.Coords) (k0_t3 : Fin (k0_t3_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v155 : BitVec 32 := Scalar.subi v22 v79
  let c1_i32_70 : BitVec 32 := 1#32
  let v156 : BitVec 32 := Scalar.subi v155 c1_i32_70
  let c1_i32_71 : BitVec 32 := 1#32
  let v157 : BitVec 32 := Scalar.subi v156 c1_i32_71
  let c4_i32_72 : BitVec 32 := 4#32
  let c0_i32_43 : BitVec 32 := 0#32
  let c1_i32_45 : BitVec 32 := 1#32
  let arg7 : BitVec 32 := Scf.iv c0_i32_43 c1_i32_45 k0_t3
  let v158 : BitVec 32 := Scalar.muli c4_i32_72 arg7
  let v159 : BitVec 32 := Scalar.subi v157 v158
  let c512_i32_73 : BitVec 32 := 512#32
  let v160 : BitVec 32 := Scalar.muli v159 c512_i32_73
  v160
def k0_mult6 (i : grid0.Coords) (k0_t3 : Fin (k0_t3_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v196 : BitVec 32 := Scalar.subi v22 v79
  let c1_i32_90 : BitVec 32 := 1#32
  let v197 : BitVec 32 := Scalar.subi v196 c1_i32_90
  let c2_i32 : BitVec 32 := 2#32
  let v198 : BitVec 32 := Scalar.subi v197 c2_i32
  let c4_i32_91 : BitVec 32 := 4#32
  let c0_i32_43 : BitVec 32 := 0#32
  let c1_i32_45 : BitVec 32 := 1#32
  let arg7 : BitVec 32 := Scf.iv c0_i32_43 c1_i32_45 k0_t3
  let v199 : BitVec 32 := Scalar.muli c4_i32_91 arg7
  let v200 : BitVec 32 := Scalar.subi v198 v199
  let c512_i32_92 : BitVec 32 := 512#32
  let v201 : BitVec 32 := Scalar.muli v200 c512_i32_92
  v201
def k0_mult7 (i : grid0.Coords) (k0_t3 : Fin (k0_t3_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v237 : BitVec 32 := Scalar.subi v22 v79
  let c1_i32_109 : BitVec 32 := 1#32
  let v238 : BitVec 32 := Scalar.subi v237 c1_i32_109
  let c3_i32 : BitVec 32 := 3#32
  let v239 : BitVec 32 := Scalar.subi v238 c3_i32
  let c4_i32_110 : BitVec 32 := 4#32
  let c0_i32_43 : BitVec 32 := 0#32
  let c1_i32_45 : BitVec 32 := 1#32
  let arg7 : BitVec 32 := Scf.iv c0_i32_43 c1_i32_45 k0_t3
  let v240 : BitVec 32 := Scalar.muli c4_i32_110 arg7
  let v241 : BitVec 32 := Scalar.subi v239 v240
  let c512_i32_111 : BitVec 32 := 512#32
  let v242 : BitVec 32 := Scalar.muli v241 c512_i32_111
  v242
@[reducible] def k0_t4_loop (i : grid0.Coords) : Scf.Loop 32 :=
  let c0_i32_43 : BitVec 32 := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c0_i32_37 : BitVec 32 := 0#32
  let v88 : BitVec 1 := Scalar.cmpi .sgt v22 c0_i32_37
  let v89 : BitVec 32 := Scalar.extui v88
  let c0_i32_38 : BitVec 32 := 0#32
  let v90 : BitVec 1 := Scalar.cmpi .slt v22 c0_i32_38
  let v91 : BitVec 32 := Scalar.extui v90
  let v92 : BitVec 32 := Scalar.subi v89 v91
  let c4_i32_36 : BitVec 32 := 4#32
  let c0_i32_39 : BitVec 32 := 0#32
  let v93 : BitVec 1 := Scalar.cmpi .sgt c4_i32_36 c0_i32_39
  let v94 : BitVec 32 := Scalar.extui v93
  let c0_i32_40 : BitVec 32 := 0#32
  let v95 : BitVec 1 := Scalar.cmpi .slt c4_i32_36 c0_i32_40
  let v96 : BitVec 32 := Scalar.extui v95
  let v97 : BitVec 32 := Scalar.subi v94 v96
  let v98 : BitVec 1 := Scalar.cmpi .ne v92 v97
  let v99 : BitVec 32 := Scalar.remsi v22 c4_i32_36
  let c0_i32_41 : BitVec 32 := 0#32
  let v100 : BitVec 1 := Scalar.cmpi .ne v99 c0_i32_41
  let v101 : BitVec 1 := Scalar.andi v98 v100
  let v87 : BitVec 32 := Scalar.divsi v22 c4_i32_36
  let c1_i32_42 : BitVec 32 := 1#32
  let v102 : BitVec 32 := Scalar.subi v87 c1_i32_42
  let v103 : BitVec 32 := Scalar.select v101 v102 v87
  let v104 : BitVec 32 := Scalar.subi v103 c0_i32_43
  let c1_i32_44 : BitVec 32 := 1#32
  let v106 : BitVec 32 := Scalar.divsi v104 c1_i32_44
  let v107 : BitVec 32 := Scalar.muli v106 c1_i32_44
  let v108 : BitVec 32 := Scalar.addi c0_i32_43 v107
  let v105 : BitVec 32 := Scalar.addi c0_i32_43 v104
  let c1_i32_46 : BitVec 32 := 1#32
  ⟨v108, v105, c1_i32_46⟩
def k0_mult8 (i : grid0.Coords) (k0_t4 : Fin (k0_t4_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v114 : BitVec 32 := Scalar.subi v22 v79
  let c1_i32_50 : BitVec 32 := 1#32
  let v115 : BitVec 32 := Scalar.subi v114 c1_i32_50
  let c0_i32_51 : BitVec 32 := 0#32
  let v116 : BitVec 32 := Scalar.subi v115 c0_i32_51
  let c4_i32_52 : BitVec 32 := 4#32
  let c0_i32_43 : BitVec 32 := 0#32
  let c0_i32_37 : BitVec 32 := 0#32
  let v88 : BitVec 1 := Scalar.cmpi .sgt v22 c0_i32_37
  let v89 : BitVec 32 := Scalar.extui v88
  let c0_i32_38 : BitVec 32 := 0#32
  let v90 : BitVec 1 := Scalar.cmpi .slt v22 c0_i32_38
  let v91 : BitVec 32 := Scalar.extui v90
  let v92 : BitVec 32 := Scalar.subi v89 v91
  let c4_i32_36 : BitVec 32 := 4#32
  let c0_i32_39 : BitVec 32 := 0#32
  let v93 : BitVec 1 := Scalar.cmpi .sgt c4_i32_36 c0_i32_39
  let v94 : BitVec 32 := Scalar.extui v93
  let c0_i32_40 : BitVec 32 := 0#32
  let v95 : BitVec 1 := Scalar.cmpi .slt c4_i32_36 c0_i32_40
  let v96 : BitVec 32 := Scalar.extui v95
  let v97 : BitVec 32 := Scalar.subi v94 v96
  let v98 : BitVec 1 := Scalar.cmpi .ne v92 v97
  let v99 : BitVec 32 := Scalar.remsi v22 c4_i32_36
  let c0_i32_41 : BitVec 32 := 0#32
  let v100 : BitVec 1 := Scalar.cmpi .ne v99 c0_i32_41
  let v101 : BitVec 1 := Scalar.andi v98 v100
  let v87 : BitVec 32 := Scalar.divsi v22 c4_i32_36
  let c1_i32_42 : BitVec 32 := 1#32
  let v102 : BitVec 32 := Scalar.subi v87 c1_i32_42
  let v103 : BitVec 32 := Scalar.select v101 v102 v87
  let v104 : BitVec 32 := Scalar.subi v103 c0_i32_43
  let c1_i32_44 : BitVec 32 := 1#32
  let v106 : BitVec 32 := Scalar.divsi v104 c1_i32_44
  let v107 : BitVec 32 := Scalar.muli v106 c1_i32_44
  let v108 : BitVec 32 := Scalar.addi c0_i32_43 v107
  let c1_i32_46 : BitVec 32 := 1#32
  let arg7 : BitVec 32 := Scf.iv v108 c1_i32_46 k0_t4
  let v117 : BitVec 32 := Scalar.muli c4_i32_52 arg7
  let v118 : BitVec 32 := Scalar.subi v116 v117
  let c512_i32_53 : BitVec 32 := 512#32
  let v119 : BitVec 32 := Scalar.muli v118 c512_i32_53
  v119
def k0_off5 (i : grid0.Coords) (k0_t4 : Fin (k0_t4_loop i).trips) (c0_i32_51 : BitVec 32) : Fin 3 → Nat :=
  let c0_54 : Index := 0#32
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v114 : BitVec 32 := Scalar.subi v22 v79
  let c1_i32_50 : BitVec 32 := 1#32
  let v115 : BitVec 32 := Scalar.subi v114 c1_i32_50
  let v116 : BitVec 32 := Scalar.subi v115 c0_i32_51
  let c4_i32_52 : BitVec 32 := 4#32
  let c0_i32_43 : BitVec 32 := 0#32
  let c0_i32_37 : BitVec 32 := 0#32
  let v88 : BitVec 1 := Scalar.cmpi .sgt v22 c0_i32_37
  let v89 : BitVec 32 := Scalar.extui v88
  let c0_i32_38 : BitVec 32 := 0#32
  let v90 : BitVec 1 := Scalar.cmpi .slt v22 c0_i32_38
  let v91 : BitVec 32 := Scalar.extui v90
  let v92 : BitVec 32 := Scalar.subi v89 v91
  let c4_i32_36 : BitVec 32 := 4#32
  let c0_i32_39 : BitVec 32 := 0#32
  let v93 : BitVec 1 := Scalar.cmpi .sgt c4_i32_36 c0_i32_39
  let v94 : BitVec 32 := Scalar.extui v93
  let c0_i32_40 : BitVec 32 := 0#32
  let v95 : BitVec 1 := Scalar.cmpi .slt c4_i32_36 c0_i32_40
  let v96 : BitVec 32 := Scalar.extui v95
  let v97 : BitVec 32 := Scalar.subi v94 v96
  let v98 : BitVec 1 := Scalar.cmpi .ne v92 v97
  let v99 : BitVec 32 := Scalar.remsi v22 c4_i32_36
  let c0_i32_41 : BitVec 32 := 0#32
  let v100 : BitVec 1 := Scalar.cmpi .ne v99 c0_i32_41
  let v101 : BitVec 1 := Scalar.andi v98 v100
  let v87 : BitVec 32 := Scalar.divsi v22 c4_i32_36
  let c1_i32_42 : BitVec 32 := 1#32
  let v102 : BitVec 32 := Scalar.subi v87 c1_i32_42
  let v103 : BitVec 32 := Scalar.select v101 v102 v87
  let v104 : BitVec 32 := Scalar.subi v103 c0_i32_43
  let c1_i32_44 : BitVec 32 := 1#32
  let v106 : BitVec 32 := Scalar.divsi v104 c1_i32_44
  let v107 : BitVec 32 := Scalar.muli v106 c1_i32_44
  let v108 : BitVec 32 := Scalar.addi c0_i32_43 v107
  let c1_i32_46 : BitVec 32 := 1#32
  let arg7 : BitVec 32 := Scf.iv v108 c1_i32_46 k0_t4
  let v117 : BitVec 32 := Scalar.muli c4_i32_52 arg7
  let v118 : BitVec 32 := Scalar.subi v116 v117
  let c512_i32_53 : BitVec 32 := 512#32
  let v119 : BitVec 32 := Scalar.muli v118 c512_i32_53
  let v120 : BitVec 32 := v119
  let v121 : Index := Scalar.indexCast v120
  let c0_55 : Index := 0#32
  ![0, v121.toNat, 0]
def k0_mult9 (i : grid0.Coords) (k0_t4 : Fin (k0_t4_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v155 : BitVec 32 := Scalar.subi v22 v79
  let c1_i32_70 : BitVec 32 := 1#32
  let v156 : BitVec 32 := Scalar.subi v155 c1_i32_70
  let c1_i32_71 : BitVec 32 := 1#32
  let v157 : BitVec 32 := Scalar.subi v156 c1_i32_71
  let c4_i32_72 : BitVec 32 := 4#32
  let c0_i32_43 : BitVec 32 := 0#32
  let c0_i32_37 : BitVec 32 := 0#32
  let v88 : BitVec 1 := Scalar.cmpi .sgt v22 c0_i32_37
  let v89 : BitVec 32 := Scalar.extui v88
  let c0_i32_38 : BitVec 32 := 0#32
  let v90 : BitVec 1 := Scalar.cmpi .slt v22 c0_i32_38
  let v91 : BitVec 32 := Scalar.extui v90
  let v92 : BitVec 32 := Scalar.subi v89 v91
  let c4_i32_36 : BitVec 32 := 4#32
  let c0_i32_39 : BitVec 32 := 0#32
  let v93 : BitVec 1 := Scalar.cmpi .sgt c4_i32_36 c0_i32_39
  let v94 : BitVec 32 := Scalar.extui v93
  let c0_i32_40 : BitVec 32 := 0#32
  let v95 : BitVec 1 := Scalar.cmpi .slt c4_i32_36 c0_i32_40
  let v96 : BitVec 32 := Scalar.extui v95
  let v97 : BitVec 32 := Scalar.subi v94 v96
  let v98 : BitVec 1 := Scalar.cmpi .ne v92 v97
  let v99 : BitVec 32 := Scalar.remsi v22 c4_i32_36
  let c0_i32_41 : BitVec 32 := 0#32
  let v100 : BitVec 1 := Scalar.cmpi .ne v99 c0_i32_41
  let v101 : BitVec 1 := Scalar.andi v98 v100
  let v87 : BitVec 32 := Scalar.divsi v22 c4_i32_36
  let c1_i32_42 : BitVec 32 := 1#32
  let v102 : BitVec 32 := Scalar.subi v87 c1_i32_42
  let v103 : BitVec 32 := Scalar.select v101 v102 v87
  let v104 : BitVec 32 := Scalar.subi v103 c0_i32_43
  let c1_i32_44 : BitVec 32 := 1#32
  let v106 : BitVec 32 := Scalar.divsi v104 c1_i32_44
  let v107 : BitVec 32 := Scalar.muli v106 c1_i32_44
  let v108 : BitVec 32 := Scalar.addi c0_i32_43 v107
  let c1_i32_46 : BitVec 32 := 1#32
  let arg7 : BitVec 32 := Scf.iv v108 c1_i32_46 k0_t4
  let v158 : BitVec 32 := Scalar.muli c4_i32_72 arg7
  let v159 : BitVec 32 := Scalar.subi v157 v158
  let c512_i32_73 : BitVec 32 := 512#32
  let v160 : BitVec 32 := Scalar.muli v159 c512_i32_73
  v160
def k0_mult10 (i : grid0.Coords) (k0_t4 : Fin (k0_t4_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v196 : BitVec 32 := Scalar.subi v22 v79
  let c1_i32_90 : BitVec 32 := 1#32
  let v197 : BitVec 32 := Scalar.subi v196 c1_i32_90
  let c2_i32 : BitVec 32 := 2#32
  let v198 : BitVec 32 := Scalar.subi v197 c2_i32
  let c4_i32_91 : BitVec 32 := 4#32
  let c0_i32_43 : BitVec 32 := 0#32
  let c0_i32_37 : BitVec 32 := 0#32
  let v88 : BitVec 1 := Scalar.cmpi .sgt v22 c0_i32_37
  let v89 : BitVec 32 := Scalar.extui v88
  let c0_i32_38 : BitVec 32 := 0#32
  let v90 : BitVec 1 := Scalar.cmpi .slt v22 c0_i32_38
  let v91 : BitVec 32 := Scalar.extui v90
  let v92 : BitVec 32 := Scalar.subi v89 v91
  let c4_i32_36 : BitVec 32 := 4#32
  let c0_i32_39 : BitVec 32 := 0#32
  let v93 : BitVec 1 := Scalar.cmpi .sgt c4_i32_36 c0_i32_39
  let v94 : BitVec 32 := Scalar.extui v93
  let c0_i32_40 : BitVec 32 := 0#32
  let v95 : BitVec 1 := Scalar.cmpi .slt c4_i32_36 c0_i32_40
  let v96 : BitVec 32 := Scalar.extui v95
  let v97 : BitVec 32 := Scalar.subi v94 v96
  let v98 : BitVec 1 := Scalar.cmpi .ne v92 v97
  let v99 : BitVec 32 := Scalar.remsi v22 c4_i32_36
  let c0_i32_41 : BitVec 32 := 0#32
  let v100 : BitVec 1 := Scalar.cmpi .ne v99 c0_i32_41
  let v101 : BitVec 1 := Scalar.andi v98 v100
  let v87 : BitVec 32 := Scalar.divsi v22 c4_i32_36
  let c1_i32_42 : BitVec 32 := 1#32
  let v102 : BitVec 32 := Scalar.subi v87 c1_i32_42
  let v103 : BitVec 32 := Scalar.select v101 v102 v87
  let v104 : BitVec 32 := Scalar.subi v103 c0_i32_43
  let c1_i32_44 : BitVec 32 := 1#32
  let v106 : BitVec 32 := Scalar.divsi v104 c1_i32_44
  let v107 : BitVec 32 := Scalar.muli v106 c1_i32_44
  let v108 : BitVec 32 := Scalar.addi c0_i32_43 v107
  let c1_i32_46 : BitVec 32 := 1#32
  let arg7 : BitVec 32 := Scf.iv v108 c1_i32_46 k0_t4
  let v199 : BitVec 32 := Scalar.muli c4_i32_91 arg7
  let v200 : BitVec 32 := Scalar.subi v198 v199
  let c512_i32_92 : BitVec 32 := 512#32
  let v201 : BitVec 32 := Scalar.muli v200 c512_i32_92
  v201
def k0_mult11 (i : grid0.Coords) (k0_t4 : Fin (k0_t4_loop i).trips) : BitVec 32 :=
  let arg1 : BitVec 32 := BitVec.ofNat 32 (i 1).val
  let c512_i32_0 : BitVec 32 := 512#32
  let v5 : BitVec 32 := Scalar.muli arg1 c512_i32_0
  let c0_i32 : BitVec 32 := 0#32
  let v7 : BitVec 1 := Scalar.cmpi .sgt v5 c0_i32
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c512_i32_1 : BitVec 32 := 512#32
  let c0_i32_3 : BitVec 32 := 0#32
  let v12 : BitVec 1 := Scalar.cmpi .sgt c512_i32_1 c0_i32_3
  let v13 : BitVec 32 := Scalar.extui v12
  let c0_i32_4 : BitVec 32 := 0#32
  let v14 : BitVec 1 := Scalar.cmpi .slt c512_i32_1 c0_i32_4
  let v15 : BitVec 32 := Scalar.extui v14
  let v16 : BitVec 32 := Scalar.subi v13 v15
  let v17 : BitVec 1 := Scalar.cmpi .ne v11 v16
  let v18 : BitVec 32 := Scalar.remsi v5 c512_i32_1
  let c0_i32_5 : BitVec 32 := 0#32
  let v19 : BitVec 1 := Scalar.cmpi .ne v18 c0_i32_5
  let v20 : BitVec 1 := Scalar.andi v17 v19
  let v6 : BitVec 32 := Scalar.divsi v5 c512_i32_1
  let c1_i32 : BitVec 32 := 1#32
  let v21 : BitVec 32 := Scalar.subi v6 c1_i32
  let v22 : BitVec 32 := Scalar.select v20 v21 v6
  let c4_i32 : BitVec 32 := 4#32
  let c0_i32_27 : BitVec 32 := 0#32
  let v70 : BitVec 1 := Scalar.cmpi .eq c4_i32 c0_i32_27
  let c1_i32_28 : BitVec 32 := 1#32
  let v71 : BitVec 32 := Scalar.select v70 c1_i32_28 c4_i32
  let v72 : BitVec 32 := Scalar.remsi v22 v71
  let c0_i32_30 : BitVec 32 := 0#32
  let v74 : BitVec 1 := Scalar.cmpi .slt v72 c0_i32_30
  let c0_i32_31 : BitVec 32 := 0#32
  let v75 : BitVec 1 := Scalar.cmpi .slt v71 c0_i32_31
  let v76 : BitVec 1 := Scalar.xori v74 v75
  let c0_i32_29 : BitVec 32 := 0#32
  let v73 : BitVec 1 := Scalar.cmpi .ne v72 c0_i32_29
  let v77 : BitVec 1 := Scalar.andi v76 v73
  let v78 : BitVec 32 := Scalar.addi v72 v71
  let v79 : BitVec 32 := Scalar.select v77 v78 v72
  let v237 : BitVec 32 := Scalar.subi v22 v79
  let c1_i32_109 : BitVec 32 := 1#32
  let v238 : BitVec 32 := Scalar.subi v237 c1_i32_109
  let c3_i32 : BitVec 32 := 3#32
  let v239 : BitVec 32 := Scalar.subi v238 c3_i32
  let c4_i32_110 : BitVec 32 := 4#32
  let c0_i32_43 : BitVec 32 := 0#32
  let c0_i32_37 : BitVec 32 := 0#32
  let v88 : BitVec 1 := Scalar.cmpi .sgt v22 c0_i32_37
  let v89 : BitVec 32 := Scalar.extui v88
  let c0_i32_38 : BitVec 32 := 0#32
  let v90 : BitVec 1 := Scalar.cmpi .slt v22 c0_i32_38
  let v91 : BitVec 32 := Scalar.extui v90
  let v92 : BitVec 32 := Scalar.subi v89 v91
  let c4_i32_36 : BitVec 32 := 4#32
  let c0_i32_39 : BitVec 32 := 0#32
  let v93 : BitVec 1 := Scalar.cmpi .sgt c4_i32_36 c0_i32_39
  let v94 : BitVec 32 := Scalar.extui v93
  let c0_i32_40 : BitVec 32 := 0#32
  let v95 : BitVec 1 := Scalar.cmpi .slt c4_i32_36 c0_i32_40
  let v96 : BitVec 32 := Scalar.extui v95
  let v97 : BitVec 32 := Scalar.subi v94 v96
  let v98 : BitVec 1 := Scalar.cmpi .ne v92 v97
  let v99 : BitVec 32 := Scalar.remsi v22 c4_i32_36
  let c0_i32_41 : BitVec 32 := 0#32
  let v100 : BitVec 1 := Scalar.cmpi .ne v99 c0_i32_41
  let v101 : BitVec 1 := Scalar.andi v98 v100
  let v87 : BitVec 32 := Scalar.divsi v22 c4_i32_36
  let c1_i32_42 : BitVec 32 := 1#32
  let v102 : BitVec 32 := Scalar.subi v87 c1_i32_42
  let v103 : BitVec 32 := Scalar.select v101 v102 v87
  let v104 : BitVec 32 := Scalar.subi v103 c0_i32_43
  let c1_i32_44 : BitVec 32 := 1#32
  let v106 : BitVec 32 := Scalar.divsi v104 c1_i32_44
  let v107 : BitVec 32 := Scalar.muli v106 c1_i32_44
  let v108 : BitVec 32 := Scalar.addi c0_i32_43 v107
  let c1_i32_46 : BitVec 32 := 1#32
  let arg7 : BitVec 32 := Scf.iv v108 c1_i32_46 k0_t4
  let v240 : BitVec 32 := Scalar.muli c4_i32_110 arg7
  let v241 : BitVec 32 := Scalar.subi v239 v240
  let c512_i32_111 : BitVec 32 := 512#32
  let v242 : BitVec 32 := Scalar.muli v241 c512_i32_111
  v242
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttentionLinesIdeal.lean ====
abbrev S8x8192x64 : Shape := ⟨3, ![8, 8192, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S8x8192x64, .f32⟩
  | .hbm, ⟨2, _⟩ => ⟨S8x8192x64, .f32⟩
  | .hbm, ⟨3, _⟩ => ⟨S8x8192x8192, .f32⟩
  | .hbm, ⟨4, _⟩ => ⟨S8192, .i32⟩
  | .hbm, ⟨5, _⟩ => ⟨S1x8192, .i32⟩
  | .hbm, ⟨6, _⟩ => ⟨S8192x1, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S8x8192x8192, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .i1⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S_, .f32⟩
  | .hbm, ⟨45, _⟩ => ⟨S8x8192x8192, .i1⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S_, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S_, .f32⟩
  | .hbm, ⟨56, _⟩ => ⟨S8x8192x8192, .i1⟩
  | .hbm, ⟨57, _⟩ => ⟨S8x8192x8192, .f32⟩
  | .hbm, ⟨58, _⟩ => ⟨S8x8192x8192, .f32⟩
  | .hbm, ⟨59, _⟩ => ⟨S8x8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_call0_cst : Ref sig .tc := ⟨.hbm, 28, rfl⟩
abbrev main_call1_call0_v0 : Ref sig .tc := ⟨.hbm, 29, rfl⟩
abbrev main_call1_call0_v1 : Ref sig .tc := ⟨.hbm, 30, rfl⟩
abbrev main_call1_call0_v2 : Ref sig .tc := ⟨.hbm, 31, rfl⟩
abbrev main_call1_call0_v3 : Ref sig .tc := ⟨.hbm, 32, rfl⟩
abbrev main_call1_call0_v4 : Ref sig .tc := ⟨.hbm, 33, rfl⟩
abbrev main_call1_call0_v5 : Ref sig .tc := ⟨.hbm, 34, rfl⟩
abbrev main_call1_call0_v6 : Ref sig .tc := ⟨.hbm, 35, rfl⟩
abbrev main_call1_call0_v7 : Ref sig .tc := ⟨.hbm, 36, rfl⟩
abbrev main_call1_call0_v8 : Ref sig .tc := ⟨.hbm, 37, rfl⟩
abbrev main_call1_call0_v9 : Ref sig .tc := ⟨.hbm, 38, rfl⟩
abbrev main_call1_call0_v10 : Ref sig .tc := ⟨.hbm, 39, rfl⟩
abbrev main_call1_call0_v11 : Ref sig .tc := ⟨.hbm, 40, rfl⟩
abbrev main_call1_v1 : Ref sig .tc := ⟨.hbm, 41, rfl⟩
abbrev main_v9 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v10 : Ref sig .tc := ⟨.hbm, 47, rfl⟩
abbrev main_call3_cst : Ref sig .tc := ⟨.hbm, 48, rfl⟩
abbrev main_call3_v0 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst_0 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v15 : Ref sig .tc := ⟨.hbm, 58, rfl⟩
abbrev main_v16 : Ref sig .tc := ⟨.hbm, 59, rfl⟩

abbrev nD : Nat := 1
abbrev τ : Topo := Topo.v7x

variable {F : FTy → Type} [FloatOps F]
-- ==== GradMerge.lean ====
abbrev S8192x512 : Shape := ⟨2, ![8192, 512]⟩
abbrev S3x512x1024 : Shape := ⟨3, ![3, 512, 1024]⟩
abbrev S8192x7168 : Shape := ⟨2, ![8192, 7168]⟩
abbrev S1x3072 : Shape := ⟨2, ![1, 3072]⟩
abbrev S8192x1024 : Shape := ⟨2, ![8192, 1024]⟩
abbrev S3x1024x512 : Shape := ⟨3, ![3, 1024, 512]⟩
abbrev S8192x3072 : Shape := ⟨2, ![8192, 3072]⟩
abbrev S8x8192x64 : Shape := ⟨3, ![8, 8192, 64]⟩
abbrev S512x512 : Shape := ⟨2, ![512, 512]⟩
abbrev S512x1024 : Shape := ⟨2, ![512, 1024]⟩
abbrev S512x3072 : Shape := ⟨2, ![512, 3072]⟩
abbrev S8x512x64 : Shape := ⟨3, ![8, 512, 64]⟩
abbrev S1x512x1024 : Shape := ⟨3, ![1, 512, 1024]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩
abbrev S512x64 : Shape := ⟨2, ![512, 64]⟩
abbrev S1x512x64 : Shape := ⟨3, ![1, 512, 64]⟩

abbrev nBuf : Space → Nat
  | .hbm => 16
  | .vmem => 32
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S3x512x1024, .bf16⟩
  | .hbm, ⟨4, _⟩ => ⟨S8192x7168, .bf16⟩
  | .hbm, ⟨5, _⟩ => ⟨S1x3072, .f32⟩
  | .hbm, ⟨6, _⟩ => ⟨S8192x1024, .bf16⟩
  | .hbm, ⟨7, _⟩ => ⟨S3x1024x512, .bf16⟩
  | .hbm, ⟨8, _⟩ => ⟨S8192x3072, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x512, .f32⟩
  | .hbm, ⟨13, _⟩ => ⟨S8192x512, .f32⟩
  | .hbm, ⟨14, _⟩ => ⟨S8x8192x64, .f32⟩
  | .hbm, ⟨15, _⟩ => ⟨S1x3072, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x1024, .bf16⟩
  | .local _ .vmem, ⟨7, _⟩ => ⟨S3x1024x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x3072, .f32⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S8x512x64, .f32⟩
  | .local _ .vmem, ⟨30, _⟩ => ⟨S8x512x64, .f32⟩
  | .local _ .vmem, ⟨31, _⟩ => ⟨S1x3072, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v130 : BitVec 1 := Scalar.cmpi .eq arg0 c0_i32
  let v131 : BitVec 32 := Scalar.extui v130
  let c0_i32_88 : BitVec 32 := 0#32
  let v132 : BitVec 1 := Scalar.cmpi .ne v131 c0_i32_88
  v132

def k0_cond2 (i : grid0.Coords) : BitVec 1 :=
  let arg0 : BitVec 32 := BitVec.ofNat 32 (i 0).val
  let c0_i32_89 : BitVec 32 := 0#32
  let v133 : BitVec 1 := Scalar.cmpi .sgt arg0 c0_i32_89
  let v134 : BitVec 32 := Scalar.extui v133
  let c0_i32_90 : BitVec 32 := 0#32
  let v135 : BitVec 1 := Scalar.cmpi .ne v134 c0_i32_90
  v135

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== GradMergeLinesIdeal.lean ====
abbrev S8192x512 : Shape := ⟨2, ![8192, 512]⟩
abbrev S3x512x1024 : Shape := ⟨3, ![3, 512, 1024]⟩
abbrev S8192x7168 : Shape := ⟨2, ![8192, 7168]⟩
abbrev S1x3072 : Shape := ⟨2, ![1, 3072]⟩
abbrev S8192x1024 : Shape := ⟨2, ![8192, 1024]⟩
abbrev S8192x1x512 : Shape := ⟨3, ![8192, 1, 512]⟩
abbrev S8192x3x512 : Shape := ⟨3, ![8192, 3, 512]⟩
abbrev S3x1024x8192 : Shape := ⟨3, ![3, 1024, 8192]⟩
abbrev S8192x3x1024 : Shape := ⟨3, ![8192, 3, 1024]⟩
abbrev S8192x3072 : Shape := ⟨2, ![8192, 3072]⟩
abbrev S_ : Shape := ⟨0, ![]⟩
abbrev S3072 : Shape := ⟨1, ![3072]⟩
abbrev S3x8192x512 : Shape := ⟨3, ![3, 8192, 512]⟩
abbrev S8192x8x64 : Shape := ⟨3, ![8192, 8, 64]⟩
abbrev S8x8192x64 : Shape := ⟨3, ![8, 8192, 64]⟩
abbrev S8192x1x1024 : Shape := ⟨3, ![8192, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S3x512x1024, .bf16⟩
  | .hbm, ⟨4, _⟩ => ⟨S8192x7168, .bf16⟩
  | .hbm, ⟨5, _⟩ => ⟨S1x3072, .f32⟩
  | .hbm, ⟨6, _⟩ => ⟨S8192x1024, .bf16⟩
  | .hbm, ⟨7, _⟩ => ⟨S8192x1x512, .bf16⟩
  | .hbm, ⟨8, _⟩ => ⟨S8192x1x512, .bf16⟩
  | .hbm, ⟨9, _⟩ => ⟨S8192x1x512, .bf16⟩
  | .hbm, ⟨10, _⟩ => ⟨S8192x3x512, .bf16⟩
  | .hbm, ⟨11, _⟩ => ⟨S8192x3x512, .f32⟩
  | .hbm, ⟨12, _⟩ => ⟨S3x512x1024, .f32⟩
  | .hbm, ⟨13, _⟩ => ⟨S3x1024x8192, .f32⟩
  | .hbm, ⟨14, _⟩ => ⟨S8192x3x1024, .f32⟩
  | .hbm, ⟨15, _⟩ => ⟨S8192x3072, .bf16⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3x1024, .f32⟩
  | .hbm, ⟨32, _⟩ => ⟨S8192x3x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x3x1024, .f32⟩
  | .hbm, ⟨37, _⟩ => ⟨S8192x3x1024, .f32⟩
  | .hbm, ⟨38, _⟩ => ⟨S8192x3x1024, .f32⟩
  | .hbm, ⟨39, _⟩ => ⟨S8192x3072, .f32⟩
  | .hbm, ⟨40, _⟩ => ⟨S8192x3072, .f32⟩
  | .hbm, ⟨41, _⟩ => ⟨S_, .f32⟩
  | .hbm, ⟨42, _⟩ => ⟨S3072, .f32⟩
  | .hbm, ⟨43, _⟩ => ⟨S1x3072, .f32⟩
  | .hbm, ⟨44, _⟩ => ⟨S3x1024x8192, .f32⟩
  | .hbm, ⟨45, _⟩ => ⟨S3x8192x512, .f32⟩
  | .hbm, ⟨46, _⟩ => ⟨S8192x3x512, .f32⟩
  | .hbm, ⟨47, _⟩ => ⟨S8192x1x512, .f32⟩
  | .hbm, ⟨48, _⟩ => ⟨S8192x512, .f32⟩
  | .hbm, ⟨49, _⟩ => ⟨S8192x8x64, .f32⟩
  | .hbm, ⟨50, _⟩ => ⟨S8x8192x64, .f32⟩
  | .hbm, ⟨51, _⟩ => ⟨S8192x3x1024, .bf16⟩
  | .hbm, ⟨52, _⟩ => ⟨S8192x3072, .bf16⟩
  | .hbm, ⟨53, _⟩ => ⟨S8192x1x1024, .bf16⟩
  | .hbm, ⟨54, _⟩ => ⟨S8192x1024, .bf16⟩
  | .hbm, ⟨55, _⟩ => ⟨S8192x1x1024, .bf16⟩
  | .hbm, ⟨56, _⟩ => ⟨S8192x1024, .bf16⟩
  | .hbm, ⟨57, _⟩ => ⟨S8192x1x1024, .bf16⟩
  | .hbm, ⟨58, _⟩ => ⟨S8192x1024, .bf16⟩
  | .hbm, ⟨59, _⟩ => ⟨S8192x1x512, .f32⟩
  | .hbm, ⟨60, _⟩ => ⟨S8192x512, .f32⟩
  | .hbm, ⟨61, _⟩ => ⟨S8192x1x512, .f32⟩
  | .hbm, ⟨62, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Merge.lean ====
abbrev S8192x512 : Shape := ⟨2, ![8192, 512]⟩
abbrev S8x8192x64 : Shape := ⟨3, ![8, 8192, 64]⟩
abbrev S3x512x1024 : Shape := ⟨3, ![3, 512, 1024]⟩
abbrev S8192x7168 : Shape := ⟨2, ![8192, 7168]⟩
abbrev S1x3072 : Shape := ⟨2, ![1, 3072]⟩
abbrev S8192x1024 : Shape := ⟨2, ![8192, 1024]⟩
abbrev S512x512 : Shape := ⟨2, ![512, 512]⟩
abbrev S8x512x64 : Shape := ⟨3, ![8, 512, 64]⟩
abbrev S512x1024 : Shape := ⟨2, ![512, 1024]⟩
abbrev S1x512x64 : Shape := ⟨3, ![1, 512, 64]⟩
abbrev S512x64 : Shape := ⟨2, ![512, 64]⟩
abbrev S1x512x1024 : Shape := ⟨3, ![1, 512, 1024]⟩
abbrev S1x1024 : Shape := ⟨2, ![1, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8x8192x64, .f32⟩
  | .hbm, ⟨3, _⟩ => ⟨S3x512x1024, .bf16⟩
  | .hbm, ⟨4, _⟩ => ⟨S8192x7168, .bf16⟩
  | .hbm, ⟨5, _⟩ => ⟨S1x3072, .f32⟩
  | .hbm, ⟨6, _⟩ => ⟨S8192x1024, .bf16⟩
  | .hbm, ⟨7, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S8x512x64, .f32⟩
  | .local _ .vmem, ⟨5, _⟩ => ⟨S8x512x64, .f32⟩
  | .local _ .vmem, ⟨6, _⟩ => ⟨S3x512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x3072, .f32⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeLinesIdeal.lean ====
abbrev S8192x512 : Shape := ⟨2, ![8192, 512]⟩
abbrev S8x8192x64 : Shape := ⟨3, ![8, 8192, 64]⟩
abbrev S3x512x1024 : Shape := ⟨3, ![3, 512, 1024]⟩
abbrev S8192x7168 : Shape := ⟨2, ![8192, 7168]⟩
abbrev S1x3072 : Shape := ⟨2, ![1, 3072]⟩
abbrev S8192x8x64 : Shape := ⟨3, ![8192, 8, 64]⟩
abbrev S8192x1x512 : Shape := ⟨3, ![8192, 1, 512]⟩
abbrev S8192x3x512 : Shape := ⟨3, ![8192, 3, 512]⟩
abbrev S3x1024x8192 : Shape := ⟨3, ![3, 1024, 8192]⟩
abbrev S8192x3x1024 : Shape := ⟨3, ![8192, 3, 1024]⟩
abbrev S8192x3072 : Shape := ⟨2, ![8192, 3072]⟩
abbrev S_ : Shape := ⟨0, ![]⟩
abbrev S8192x1024 : Shape := ⟨2, ![8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8x8192x64, .f32⟩
  | .hbm, ⟨3, _⟩ => ⟨S3x512x1024, .bf16⟩
  | .hbm, ⟨4, _⟩ => ⟨S8192x7168, .bf16⟩
  | .hbm, ⟨5, _⟩ => ⟨S1x3072, .f32⟩
  | .hbm, ⟨6, _⟩ => ⟨S8192x8x64, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x1x512, .f32⟩
  | .hbm, ⟨11, _⟩ => ⟨S8192x1x512, .f32⟩
  | .hbm, ⟨12, _⟩ => ⟨S8192x1x512, .f32⟩
  | .hbm, ⟨13, _⟩ => ⟨S8192x3x512, .f32⟩
  | .hbm, ⟨14, _⟩ => ⟨S3x512x1024, .f32⟩
  | .hbm, ⟨15, _⟩ => ⟨S3x1024x8192, .f32⟩
  | .hbm, ⟨16, _⟩ => ⟨S8192x3x1024, .f32⟩
  | .hbm, ⟨17, _⟩ => ⟨S8192x3072, .bf16⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S8192x3x1024, .f32⟩
  | .hbm, ⟨30, _⟩ => ⟨S8192x3x1024, .f32⟩
  | .hbm, ⟨31, _⟩ => ⟨S_, .f32⟩
  | .hbm, ⟨32, _⟩ => ⟨S8192x1024, .f32⟩
  | .hbm, ⟨33, _⟩ => ⟨S8192x1024, .bf16⟩
  | .hbm, ⟨34, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Swiglu.lean ====
abbrev S8192x5632 : Shape := ⟨2, ![8192, 5632]⟩
abbrev S8192x2816 : Shape := ⟨2, ![8192, 2816]⟩
abbrev S512x1408 : Shape := ⟨2, ![512, 1408]⟩

abbrev nBuf : Space → Nat
  | .hbm => 2
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluLinesIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== GradSwiglu.lean ====
abbrev S8192x5632 : Shape := ⟨2, ![8192, 5632]⟩
abbrev S8192x2816 : Shape := ⟨2, ![8192, 2816]⟩
abbrev S512x5632 : Shape := ⟨2, ![512, 5632]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S512x5632, .bf16⟩
  | .local _ .vmem, ⟨1, _⟩ => ⟨S512x5632, .bf16⟩
  | .local _ .vmem, ⟨2, _⟩ => ⟨S512x2816, .bf16⟩
  | .local _ .vmem, ⟨3, _⟩ => ⟨S512x2816, .bf16⟩
  | .local _ .vmem, ⟨4, _⟩ => ⟨S512x5632, .bf16⟩
  | .local _ .vmem, ⟨5, _⟩ => ⟨S512x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradSwigluLinesIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Conv.lean ====
abbrev S8192x7168 : Shape := ⟨2, ![8192, 7168]⟩
abbrev S3x512 : Shape := ⟨2, ![3, 512]⟩
abbrev S512 : Shape := ⟨1, ![512]⟩
abbrev S_ : Shape := ⟨0, ![]⟩
abbrev S8x512 : Shape := ⟨2, ![8, 512]⟩
abbrev S1x512 : Shape := ⟨2, ![1, 512]⟩
abbrev S8192x512 : Shape := ⟨2, ![8192, 512]⟩
abbrev S512x512 : Shape := ⟨2, ![512, 512]⟩
abbrev S16x512 : Shape := ⟨2, ![16, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x7168, .bf16⟩
  | .hbm, ⟨1, _⟩ => ⟨S3x512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S8x512, .f32⟩
  | .hbm, ⟨6, _⟩ => ⟨S1x512, .f32⟩
  | .hbm, ⟨7, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S8x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvLinesIdeal.lean ====
abbrev S8192x7168 : Shape := ⟨2, ![8192, 7168]⟩
abbrev S3x512 : Shape := ⟨2, ![3, 512]⟩
abbrev S512 : Shape := ⟨1, ![512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S3x512, .f32⟩
  | .hbm, ⟨2, _⟩ => ⟨S512, .f32⟩
  | .hbm, ⟨3, _⟩ => ⟨S8192x512, .bf16⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S2x512, .f32⟩
  | .hbm, ⟨12, _⟩ => ⟨S8194x512, .f32⟩
  | .hbm, ⟨13, _⟩ => ⟨S1x512, .f32⟩
  | .hbm, ⟨14, _⟩ => ⟨S512, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S1x512, .f32⟩
  | .hbm, ⟨30, _⟩ => ⟨S512, .f32⟩
  | .hbm, ⟨31, _⟩ => ⟨S8192x512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== GradConv.lean ====
abbrev S8192x7168 : Shape := ⟨2, ![8192, 7168]⟩
abbrev S8192x512 : Shape := ⟨2, ![8192, 512]⟩
abbrev S3x512 : Shape := ⟨2, ![3, 512]⟩
abbrev S512 : Shape := ⟨1, ![512]⟩
abbrev S_ : Shape := ⟨0, ![]⟩
abbrev S8x512 : Shape := ⟨2, ![8, 512]⟩
abbrev S1x512 : Shape := ⟨2, ![1, 512]⟩
abbrev S8192x1536 : Shape := ⟨2, ![8192, 1536]⟩
abbrev S512x512 : Shape := ⟨2, ![512, 512]⟩
abbrev S16x512 : Shape := ⟨2, ![16, 512]⟩
abbrev S512x1536 : Shape := ⟨2, ![512, 1536]⟩
abbrev S4x512 : Shape := ⟨2, ![4, 512]⟩

abbrev nBuf : Space → Nat
  | .hbm => 10
  | .vmem => 21
  | .smem => 0
  | _ => 0

abbrev bufTy : (tb : Table) → Fin (tcTables nBuf tb) → BufTy
  | .hbm, ⟨0, _⟩ => ⟨S8192x7168, .bf16⟩
  | .hbm, ⟨1, _⟩ => ⟨S8192x512, .f32⟩
  | .hbm, ⟨2, _⟩ => ⟨S3x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S8x512, .f32⟩
  | .hbm, ⟨7, _⟩ => ⟨S1x512, .f32⟩
  | .hbm, ⟨8, _⟩ => ⟨S8192x1536, .bf16⟩
  | .hbm, ⟨9, _⟩ => ⟨S8x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S16x512, .bf16⟩
  | .local _ .vmem, ⟨9, _⟩ => ⟨S16x512, .bf16⟩
  | .local _ .vmem, ⟨10, _⟩ => ⟨S512x512, .f32⟩
  | .local _ .vmem, ⟨11, _⟩ => ⟨S512x512, .f32⟩
  | .local _ .vmem, ⟨12, _⟩ => ⟨S16x512, .bf16⟩
  | .local _ .vmem, ⟨13, _⟩ => ⟨S16x512, .bf16⟩
  | .local _ .vmem, ⟨14, _⟩ => ⟨S16x512, .f32⟩
  | .local _ .vmem, ⟨15, _⟩ => ⟨S16x512, .f32⟩
  | .local _ .vmem, ⟨16, _⟩ => ⟨S8x512, .f32⟩
  | .local _ .vmem, ⟨17, _⟩ => ⟨S1x512, .f32⟩
  | .local _ .vmem, ⟨18, _⟩ => ⟨S512x1536, .bf16⟩
  | .local _ .vmem, ⟨19, _⟩ => ⟨S512x1536, .bf16⟩
  | .local _ .vmem, ⟨20, _⟩ => ⟨S8x512, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_33 : BitVec 32 := 0#32
  let v122 : BitVec 1 := Scalar.cmpi .eq arg0 c0_i32_33
  let v123 : BitVec 32 := Scalar.extui v122
  let c0_i32_34 : BitVec 32 := 0#32
  let v124 : BitVec 1 := Scalar.cmpi .ne v123 c0_i32_34
  v124

def k0_cond2 (i : grid0.Coords) : BitVec 1 :=
  let arg0 : BitVec 32 := BitVec.ofNat 32 (i 0).val
  let c0_i32_35 : BitVec 32 := 0#32
  let v125 : BitVec 1 := Scalar.cmpi .sgt arg0 c0_i32_35
  let v126 : BitVec 32 := Scalar.extui v125
  let c0_i32_36 : BitVec 32 := 0#32
  let v127 : BitVec 1 := Scalar.cmpi .ne v126 c0_i32_36
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GradConvLinesIdeal.lean ====
abbrev S8192x7168 : Shape := ⟨2, ![8192, 7168]⟩
abbrev S8192x512 : Shape := ⟨2, ![8192, 512]⟩
abbrev S3x512 : Shape := ⟨2, ![3, 512]⟩
abbrev S512 : Shape := ⟨1, ![512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S8192x1536 : Shape := ⟨2, ![8192, 1536]⟩
abbrev S4x512 : Shape := ⟨2, ![4, 512]⟩
abbrev S8x512 : Shape := ⟨2, ![8, 512]⟩

abbrev nBuf : Space → Nat
  | .hbm => 100
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x512, .f32⟩
  | .hbm, ⟨2, _⟩ => ⟨S3x512, .f32⟩
  | .hbm, ⟨3, _⟩ => ⟨S512, .f32⟩
  | .hbm, ⟨4, _⟩ => ⟨S8192x512, .bf16⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S2x512, .f32⟩
  | .hbm, ⟨13, _⟩ => ⟨S8194x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S512, .f32⟩
  | .hbm, ⟨50, _⟩ => ⟨S_, .f32⟩
  | .hbm, ⟨51, _⟩ => ⟨S8194x512, .f32⟩
  | .hbm, ⟨52, _⟩ => ⟨S1x512, .f32⟩
  | .hbm, ⟨53, _⟩ => ⟨S_, .f32⟩
  | .hbm, ⟨54, _⟩ => ⟨S3x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S_, .f32⟩
  | .hbm, ⟨64, _⟩ => ⟨S8194x512, .f32⟩
  | .hbm, ⟨65, _⟩ => ⟨S8194x512, .f32⟩
  | .hbm, ⟨66, _⟩ => ⟨S1x512, .f32⟩
  | .hbm, ⟨67, _⟩ => ⟨S_, .f32⟩
  | .hbm, ⟨68, _⟩ => ⟨S3x512, .f32⟩
  | .hbm, ⟨69, _⟩ => ⟨S3x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S512, .f32⟩
  | .hbm, ⟨83, _⟩ => ⟨S_, .f32⟩
  | .hbm, ⟨84, _⟩ => ⟨S8194x512, .f32⟩
  | .hbm, ⟨85, _⟩ => ⟨S8194x512, .f32⟩
  | .hbm, ⟨86, _⟩ => ⟨S1x512, .f32⟩
  | .hbm, ⟨87, _⟩ => ⟨S_, .f32⟩
  | .hbm, ⟨88, _⟩ => ⟨S3x512, .f32⟩
  | .hbm, ⟨89, _⟩ => ⟨S3x512, .f32⟩
  | .hbm, ⟨90, _⟩ => ⟨S2x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x1536, .f32⟩
  | .hbm, ⟨95, _⟩ => ⟨S8192x1536, .bf16⟩
  | .hbm, ⟨96, _⟩ => ⟨S1x512, .f32⟩
  | .hbm, ⟨97, _⟩ => ⟨S_, .f32⟩
  | .hbm, ⟨98, _⟩ => ⟨S4x512, .f32⟩
  | .hbm, ⟨99, _⟩ => ⟨S8x512, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormLinesIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GradNorm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32_18 : BitVec 32 := 0#32
  let v43 : BitVec 1 := Scalar.cmpi .sgt arg0 c0_i32_18
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GradNormLinesIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Heads.lean ====
abbrev S8192x7168 : Shape := ⟨2, ![8192, 7168]⟩
abbrev S64 : Shape := ⟨1, ![64]⟩
abbrev S1x64 : Shape := ⟨2, ![1, 64]⟩
abbrev S8x8192x64 : Shape := ⟨3, ![8, 8192, 64]⟩
abbrev S512x512 : Shape := ⟨2, ![512, 512]⟩
abbrev S8x512x64 : Shape := ⟨3, ![8, 512, 64]⟩
abbrev S512x64 : Shape := ⟨2, ![512, 64]⟩
abbrev S512 : Shape := ⟨1, ![512]⟩
abbrev S512x1 : Shape := ⟨2, ![512, 1]⟩
abbrev S1x512x64 : Shape := ⟨3, ![1, 512, 64]⟩

abbrev nBuf : Space → Nat
  | .hbm => 8
  | .vmem => 14
  | .smem => 0
  | _ => 0

abbrev bufTy : (tb : Table) → Fin (tcTables nBuf tb) → BufTy
  | .hbm, ⟨0, _⟩ => ⟨S8192x7168, .bf16⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S1x64, .f32⟩
  | .hbm, ⟨5, _⟩ => ⟨S8x8192x64, .bf16⟩
  | .hbm, ⟨6, _⟩ => ⟨S8x8192x64, .bf16⟩
  | .hbm, ⟨7, _⟩ => ⟨S8x8192x64, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x64, .f32⟩
  | .local _ .vmem, ⟨7, _⟩ => ⟨S1x64, .f32⟩
  | .local _ .vmem, ⟨8, _⟩ => ⟨S8x512x64, .bf16⟩
  | .local _ .vmem, ⟨9, _⟩ => ⟨S8x512x64, .bf16⟩
  | .local _ .vmem, ⟨10, _⟩ => ⟨S8x512x64, .bf16⟩
  | .local _ .vmem, ⟨11, _⟩ => ⟨S8x512x64, .bf16⟩
  | .local _ .vmem, ⟨12, _⟩ => ⟨S8x512x64, .bf16⟩
  | .local _ .vmem, ⟨13, _⟩ => ⟨S8x512x64, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HeadsLinesIdeal.lean ====
abbrev S8192x7168 : Shape := ⟨2, ![8192, 7168]⟩
abbrev S64 : Shape := ⟨1, ![64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8x8192x64 : Shape := ⟨3, ![8, 8192, 64]⟩

abbrev nBuf : Space → Nat
  | .hbm => 51
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S64, .f32⟩
  | .hbm, ⟨2, _⟩ => ⟨S64, .f32⟩
  | .hbm, ⟨3, _⟩ => ⟨S8192x512, .bf16⟩
  | .hbm, ⟨4, _⟩ => ⟨S8192x8x64, .bf16⟩
  | .hbm, ⟨5, _⟩ => ⟨S8192x512, .bf16⟩
  | .hbm, ⟨6, _⟩ => ⟨S8192x8x64, .bf16⟩
  | .hbm, ⟨7, _⟩ => ⟨S8192x512, .bf16⟩
  | .hbm, ⟨8, _⟩ => ⟨S8192x8x64, .bf16⟩
  | .hbm, ⟨9, _⟩ => ⟨S8192x8x64, .f32⟩
  | .hbm, ⟨10, _⟩ => ⟨S8192x8x64, .f32⟩
  | .hbm, ⟨11, _⟩ => ⟨S_, .f32⟩
  | .hbm, ⟨12, _⟩ => ⟨S8192x8, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S8192x8x64, .f32⟩
  | .hbm, ⟨22, _⟩ => ⟨S8192x8x64, .f32⟩
  | .hbm, ⟨23, _⟩ => ⟨S1x1x64, .f32⟩
  | .hbm, ⟨24, _⟩ => ⟨S8192x8x64, .f32⟩
  | .hbm, ⟨25, _⟩ => ⟨S8192x8x64, .f32⟩
  | .hbm, ⟨26, _⟩ => ⟨S8x8192x64, .f32⟩
  | .hbm, ⟨27, _⟩ => ⟨S_, .f32⟩
  | .hbm, ⟨28, _⟩ => ⟨S8x8192x64, .f32⟩
  | .hbm, ⟨29, _⟩ => ⟨S8x8192x64, .f32⟩
  | .hbm, ⟨30, _⟩ => ⟨S8192x8x64, .f32⟩
  | .hbm, ⟨31, _⟩ => ⟨S8192x8x64, .f32⟩
  | .hbm, ⟨32, _⟩ => ⟨S_, .f32⟩
  | .hbm, ⟨33, _⟩ => ⟨S8192x8, .f32⟩
  | .hbm, ⟨34, _⟩ => ⟨S8192x8x1, .f32⟩
  | .hbm, ⟨35, _⟩ => ⟨S_, .f32⟩
  | .hbm, ⟨36, _⟩ => ⟨S8192x8x1, .f32⟩
  | .hbm, ⟨37, _⟩ => ⟨S8192x8x1, .f32⟩
  | .hbm, ⟨38, _⟩ => ⟨S_, .f32⟩
  | .hbm, ⟨39, _⟩ => ⟨S8192x8x1, .f32⟩
  | .hbm, ⟨40, _⟩ => ⟨S8192x8x1, .f32⟩
  | .hbm, ⟨41, _⟩ => ⟨S8192x8x1, .f32⟩
  | .hbm, ⟨42, _⟩ => ⟨S8192x8x64, .f32⟩
  | .hbm, ⟨43, _⟩ => ⟨S8192x8x64, .f32⟩
  | .hbm, ⟨44, _⟩ => ⟨S1x1x64, .f32⟩
  | .hbm, ⟨45, _⟩ => ⟨S8192x8x64, .f32⟩
  | .hbm, ⟨46, _⟩ => ⟨S8192x8x64, .f32⟩
  | .hbm, ⟨47, _⟩ => ⟨S8x8192x64, .f32⟩
  | .hbm, ⟨48, _⟩ => ⟨S8x8192x64, .bf16⟩
  | .hbm, ⟨49, _⟩ => ⟨S8x8192x64, .bf16⟩
  | .hbm, ⟨50, _⟩ => ⟨S8x8192x64, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== GradHeads.lean ====
abbrev S8192x7168 : Shape := ⟨2, ![8192, 7168]⟩
abbrev S64 : Shape := ⟨1, ![64]⟩
abbrev S8x8192x64 : Shape := ⟨3, ![8, 8192, 64]⟩
abbrev S1x64 : Shape := ⟨2, ![1, 64]⟩
abbrev S8192x1536 : Shape := ⟨2, ![8192, 1536]⟩
abbrev S512x512 : Shape := ⟨2, ![512, 512]⟩
abbrev S8x512x64 : Shape := ⟨3, ![8, 512, 64]⟩
abbrev S512x1536 : Shape := ⟨2, ![512, 1536]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x7168, .bf16⟩
  | .hbm, ⟨1, _⟩ => ⟨S64, .f32⟩
  | .hbm, ⟨2, _⟩ => ⟨S64, .f32⟩
  | .hbm, ⟨3, _⟩ => ⟨S8x8192x64, .f32⟩
  | .hbm, ⟨4, _⟩ => ⟨S8x8192x64, .f32⟩
  | .hbm, ⟨5, _⟩ => ⟨S8x8192x64, .f32⟩
  | .hbm, ⟨6, _⟩ => ⟨S1x64, .f32⟩
  | .hbm, ⟨7, _⟩ => ⟨S1x64, .f32⟩
  | .hbm, ⟨8, _⟩ => ⟨S8192x1536, .bf16⟩
  | .hbm, ⟨9, _⟩ => ⟨S1x64, .f32⟩
  | .hbm, ⟨10, _⟩ => ⟨S1x64, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x64, .f32⟩
  | .local _ .vmem, ⟨5, _⟩ => ⟨S1x64, .f32⟩
  | .local _ .vmem, ⟨6, _⟩ => ⟨S8x512x64, .f32⟩
  | .local _ .vmem, ⟨7, _⟩ => ⟨S8x512x64, .f32⟩
  | .local _ .vmem, ⟨8, _⟩ => ⟨S8x512x64, .f32⟩
  | .local _ .vmem, ⟨9, _⟩ => ⟨S8x512x64, .f32⟩
  | .local _ .vmem, ⟨10, _⟩ => ⟨S8x512x64, .f32⟩
  | .local _ .vmem, ⟨11, _⟩ => ⟨S8x512x64, .f32⟩
  | .local _ .vmem, ⟨12, _⟩ => ⟨S512x1536, .bf16⟩
  | .local _ .vmem, ⟨13, _⟩ => ⟨S512x1536, .bf16⟩
  | .local _ .vmem, ⟨14, _⟩ => ⟨S1x64, .f32⟩
  | .local _ .vmem, ⟨15, _⟩ => ⟨S1x64, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v658 : BitVec 1 := Scalar.cmpi .eq arg0 c0_i32
  let v659 : BitVec 32 := Scalar.extui v658
  let c0_i32_266 : BitVec 32 := 0#32
  let v660 : BitVec 1 := Scalar.cmpi .ne v659 c0_i32_266
  v660

def k0_cond2 (i : grid0.Coords) : BitVec 1 :=
  let arg0 : BitVec 32 := BitVec.ofNat 32 (i 0).val
  let c0_i32_267 : BitVec 32 := 0#32
  let v661 : BitVec 1 := Scalar.cmpi .sgt arg0 c0_i32_267
  let v662 : BitVec 32 := Scalar.extui v661
  let c0_i32_268 : BitVec 32 := 0#32
  let v663 : BitVec 1 := Scalar.cmpi .ne v662 c0_i32_268
  v663

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GradHeadsLinesIdeal.lean ====
abbrev S8192x7168 : Shape := ⟨2, ![8192, 7168]⟩
abbrev S64 : Shape := ⟨1, ![64]⟩
abbrev S8x8192x64 : Shape := ⟨3, ![8, 8192, 64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8192x1536 : Shape := ⟨2, ![8192, 1536]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S64, .f32⟩
  | .hbm, ⟨2, _⟩ => ⟨S64, .f32⟩
  | .hbm, ⟨3, _⟩ => ⟨S8x8192x64, .f32⟩
  | .hbm, ⟨4, _⟩ => ⟨S8x8192x64, .f32⟩
  | .hbm, ⟨5, _⟩ => ⟨S8x8192x64, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S8192x512, .bf16⟩
  | .hbm, ⟨11, _⟩ => ⟨S8192x512, .f32⟩
  | .hbm, ⟨12, _⟩ => ⟨S8192x8x64, .f32⟩
  | .hbm, ⟨13, _⟩ => ⟨S8192x8x64, .f32⟩
  | .hbm, ⟨14, _⟩ => ⟨S8192x8x64, .f32⟩
  | .hbm, ⟨15, _⟩ => ⟨S8192x8x64, .f32⟩
  | .hbm, ⟨16, _⟩ => ⟨S_, .f32⟩
  | .hbm, ⟨17, _⟩ => ⟨S8192x8, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x1, .f32⟩
  | .hbm, ⟨26, _⟩ => ⟨S8192x8x1, .f32⟩
  | .hbm, ⟨27, _⟩ => ⟨S_, .f32⟩
  | .hbm, ⟨28, _⟩ => ⟨S8192x8x1, .f32⟩
  | .hbm, ⟨29, _⟩ => ⟨S8192x8x1, .f32⟩
  | .hbm, ⟨30, _⟩ => ⟨S8192x8x64, .f32⟩
  | .hbm, ⟨31, _⟩ => ⟨S8192x8x64, .f32⟩
  | .hbm, ⟨32, _⟩ => ⟨S1x1x64, .f32⟩
  | .hbm, ⟨33, _⟩ => ⟨S8192x8x64, .f32⟩
  | .hbm, ⟨34, _⟩ => ⟨S8192x8x64, .f32⟩
  | .hbm, ⟨35, _⟩ => ⟨S8x8192x64, .f32⟩
  | .hbm, ⟨36, _⟩ => ⟨S_, .f32⟩
  | .hbm, ⟨37, _⟩ => ⟨S8x8192x64, .f32⟩
  | .hbm, ⟨38, _⟩ => ⟨S8x8192x64, .f32⟩
  | .hbm, ⟨39, _⟩ => ⟨S8192x8x64, .f32⟩
  | .hbm, ⟨40, _⟩ => ⟨S_, .f32⟩
  | .hbm, ⟨41, _⟩ => ⟨S8192x8, .f32⟩
  | .hbm, ⟨42, _⟩ => ⟨S8192x8x1, .f32⟩
  | .hbm, ⟨43, _⟩ => ⟨S_, .f32⟩
  | .hbm, ⟨44, _⟩ => ⟨S8192x8x1, .f32⟩
  | .hbm, ⟨45, _⟩ => ⟨S8192x8x1, .f32⟩
  | .hbm, ⟨46, _⟩ => ⟨S_, .f32⟩
  | .hbm, ⟨47, _⟩ => ⟨S8192x8x1, .f32⟩
  | .hbm, ⟨48, _⟩ => ⟨S8192x8x1, .f32⟩
  | .hbm, ⟨49, _⟩ => ⟨S8192x8x1, .f32⟩
  | .hbm, ⟨50, _⟩ => ⟨S8192x8x1, .f32⟩
  | .hbm, ⟨51, _⟩ => ⟨S_, .f32⟩
  | .hbm, ⟨52, _⟩ => ⟨S8192x8x1, .f32⟩
  | .hbm, ⟨53, _⟩ => ⟨S8192x8x1, .f32⟩
  | .hbm, ⟨54, _⟩ => ⟨S8192x8x64, .f32⟩
  | .hbm, ⟨55, _⟩ => ⟨S8192x8x64, .f32⟩
  | .hbm, ⟨56, _⟩ => ⟨S1x1x64, .f32⟩
  | .hbm, ⟨57, _⟩ => ⟨S8192x8x64, .f32⟩
  | .hbm, ⟨58, _⟩ => ⟨S8192x8x64, .f32⟩
  | .hbm, ⟨59, _⟩ => ⟨S8x8192x64, .f32⟩
  | .hbm, ⟨60, _⟩ => ⟨S8x8192x64, .f32⟩
  | .hbm, ⟨61, _⟩ => ⟨S8192x8x64, .f32⟩
  | .hbm, ⟨62, _⟩ => ⟨S8192x8x64, .f32⟩
  | .hbm, ⟨63, _⟩ => ⟨S8192x8x64, .f32⟩
  | .hbm, ⟨64, _⟩ => ⟨S_, .f32⟩
  | .hbm, ⟨65, _⟩ => ⟨S64, .f32⟩
  | .hbm, ⟨66, _⟩ => ⟨S1x1x64, .f32⟩
  | .hbm, ⟨67, _⟩ => ⟨S8192x8x64, .f32⟩
  | .hbm, ⟨68, _⟩ => ⟨S8192x8x64, .f32⟩
  | .hbm, ⟨69, _⟩ => ⟨S_, .f32⟩
  | .hbm, ⟨70, _⟩ => ⟨S64, .f32⟩
  | .hbm, ⟨71, _⟩ => ⟨S8192x8x64, .f32⟩
  | .hbm, ⟨72, _⟩ => ⟨S_, .f32⟩
  | .hbm, ⟨73, _⟩ => ⟨S8192x8, .f32⟩
  | .hbm, ⟨74, _⟩ => ⟨S8192x8x1, .f32⟩
  | .hbm, ⟨75, _⟩ => ⟨S8192x8x64, .f32⟩
  | .hbm, ⟨76, _⟩ => ⟨S8192x8x64, .f32⟩
  | .hbm, ⟨77, _⟩ => ⟨S8192x8x1, .f32⟩
  | .hbm, ⟨78, _⟩ => ⟨S_, .f32⟩
  | .hbm, ⟨79, _⟩ => ⟨S8192x8x1, .f32⟩
  | .hbm, ⟨80, _⟩ => ⟨S8192x8x1, .f32⟩
  | .hbm, ⟨81, _⟩ => ⟨S_, .f32⟩
  | .hbm, ⟨82, _⟩ => ⟨S8192x8, .f32⟩
  | .hbm, ⟨83, _⟩ => ⟨S8192x8x64, .f32⟩
  | .hbm, ⟨84, _⟩ => ⟨S8192x8x64, .f32⟩
  | .hbm, ⟨85, _⟩ => ⟨S8192x8x64, .f32⟩
  | .hbm, ⟨86, _⟩ => ⟨S8192x8x64, .f32⟩
  | .hbm, ⟨87, _⟩ => ⟨S8192x8x64, .f32⟩
  | .hbm, ⟨88, _⟩ => ⟨S_, .f32⟩
  | .hbm, ⟨89, _⟩ => ⟨S8x8192x64, .f32⟩
  | .hbm, ⟨90, _⟩ => ⟨S8x8192x64, .f32⟩
  | .hbm, ⟨91, _⟩ => ⟨S8192x8x64, .f32⟩
  | .hbm, ⟨92, _⟩ => ⟨S8192x8x64, .f32⟩
  | .hbm, ⟨93, _⟩ => ⟨S_, .f32⟩
  | .hbm, ⟨94, _⟩ => ⟨S64, .f32⟩
  | .hbm, ⟨95, _⟩ => ⟨S1x1x64, .f32⟩
  | .hbm, ⟨96, _⟩ => ⟨S8192x8x64, .f32⟩
  | .hbm, ⟨97, _⟩ => ⟨S8192x8x64, .f32⟩
  | .hbm, ⟨98, _⟩ => ⟨S_, .f32⟩
  | .hbm, ⟨99, _⟩ => ⟨S64, .f32⟩
  | .hbm, ⟨100, _⟩ => ⟨S8192x8x64, .f32⟩
  | .hbm, ⟨101, _⟩ => ⟨S_, .f32⟩
  | .hbm, ⟨102, _⟩ => ⟨S8192x8, .f32⟩
  | .hbm, ⟨103, _⟩ => ⟨S8192x8x1, .f32⟩
  | .hbm, ⟨104, _⟩ => ⟨S8192x8x64, .f32⟩
  | .hbm, ⟨105, _⟩ => ⟨S8192x8x64, .f32⟩
  | .hbm, ⟨106, _⟩ => ⟨S8192x8x1, .f32⟩
  | .hbm, ⟨107, _⟩ => ⟨S_, .f32⟩
  | .hbm, ⟨108, _⟩ => ⟨S8192x8x1, .f32⟩
  | .hbm, ⟨109, _⟩ => ⟨S8192x8x1, .f32⟩
  | .hbm, ⟨110, _⟩ => ⟨S_, .f32⟩
  | .hbm, ⟨111, _⟩ => ⟨S8192x8, .f32⟩
  | .hbm, ⟨112, _⟩ => ⟨S8192x8x64, .f32⟩
  | .hbm, ⟨113, _⟩ => ⟨S8192x8x64, .f32⟩
  | .hbm, ⟨114, _⟩ => ⟨S8192x8x64, .f32⟩
  | .hbm, ⟨115, _⟩ => ⟨S8192x8x64, .f32⟩
  | .hbm, ⟨116, _⟩ => ⟨S8192x8x64, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x1536, .f32⟩
  | .hbm, ⟨121, _⟩ => ⟨S8192x1536, .bf16⟩
  | .hbm, ⟨122, _⟩ => ⟨S1x64, .f32⟩
  | .hbm, ⟨123, _⟩ => ⟨S1x64, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_cst_18 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Loss.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_11 : BitVec 32 := 0#32
  let v21 : BitVec 1 := Scalar.cmpi .ne v20 c0_i32_11
  v21

def k0_cond2 (i : grid0.Coords) : BitVec 1 :=
  let arg0 : BitVec 32 := BitVec.ofNat 32 (i 0).val
  let c0_i32_12 : BitVec 32 := 0#32
  let v22 : BitVec 1 := Scalar.cmpi .sgt arg0 c0_i32_12
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LossLinesIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Blocks.lean ====
module

public import Idealize.ShloMosaic.Lib.Pointwise
public import Idealize.ShloMosaic.Lib.Pointwise.IndexVar
public import Idealize.ShloMosaic.Lib.VecWindow

@[expose] public section

noncomputable section

/-! # A sum taken block by block

A product whose inner axis is cut into blocks adds one block's terms after another's. Sums of extended reals may be
regrouped, so nothing is assumed of the terms. -/

namespace Cert.Blocks

open Finset

/-- The sum of the first `K` terms. -/
def part {N : ℕ} (f : Fin N → EReal) (K : ℕ) : EReal := ∑ n ∈ range K, if h : n < N then f ⟨n, h⟩ else 0

theorem part_all {N : ℕ} (f : Fin N → EReal) : part f N = ∑ i, f i := by
  unfold part
  rw [Finset.sum_range]
  exact sum_congr rfl fun i _ => dif_pos i.isLt

theorem part_zero {N : ℕ} (f : Fin N → EReal) : part f 0 = 0 := by simp [part]

/-- One more block of `b` terms. -/
theorem part_block {N : ℕ} (f : Fin N → EReal) {K L b : ℕ} (e : L = K + b) (h : K + b ≤ N) (g : Fin b → EReal)
    (hg : ∀ r : Fin b, g r = f ⟨K + r.val, by omega⟩) : part f K + ∑ r, g r = part f L := by
  subst e
  unfold part
  rw [Finset.sum_range_add, Finset.sum_range (n := b)]
  refine congrArg _ (sum_congr rfl fun r _ => ?_)
  rw [hg, dif_pos]

end Cert.Blocks
-- ==== Proof.Common.lean ====
module

public import proofs.«01_k».proof.Proof.Blocks
public import proofs.«01_k».proof.Defs
public import Idealize.ShloMosaic.Lib.Pipeline.ValueKit.Geometry
public import Idealize.ShloMosaic.Lib.Claim
public import Idealize.ShloMosaic.Lib.StableHlo.RunRead
public import Idealize.ShloMosaic.Lib.StableHlo.ReadAt

@[expose] public section

noncomputable section

/-! # What the proofs of the calls have in common -/

namespace Cert.Blocks

open Idealize.ShloMosaic

/-- An index of a matrix is a row and a column. -/
theorem pair (n m : ℕ) (y : (⟨2, ![n, m]⟩ : Shape).Idx) : ∃ (a : Fin n) (b : Fin m), y = ix2 a b :=
  ⟨y 0, y 1, (ix2_eta y).symm⟩

/-- The point before a point of a grid is a point of it. -/
theorem prev {N : ℕ} (t : Fin N) : t.val - 1 < N := Nat.lt_of_le_of_lt (Nat.sub_le _ _) t.isLt

/-- Two points of one run. -/
theorem within (B n : ℕ) (h : (n + 1) % B ≠ 0) : (n + 1) % B = n % B + 1 ∧ n / B = (n + 1) / B := by
  have d : ¬ B ∣ n + 1 := fun d => h (Nat.mod_eq_zero_of_dvd d)
  have e : (n + 1) / B = n / B := by rw [Nat.succ_div, if_neg d, Nat.add_zero]
  refine ⟨?_, e.symm⟩
  have a := Nat.div_add_mod n B
  have b := Nat.div_add_mod (n + 1) B
  rw [e] at b
  omega

/-- A sum kept from point to point. The points come in runs of `B`; a run has the terms `f`, each point of it the next
`w` of them, whose sum is `p`. The first point starts the sum `s` afresh, the later ones but the last add to it. -/
theorem run {N K : ℕ} (B w : ℕ) (s : (n : ℕ) → n < N → EReal) (f : Fin N → Fin K → EReal) (p : Fin N → EReal)
    (hf : ∀ t u : Fin N, t.val / B = u.val / B → f t = f u)
    (hp : ∀ t, part (f t) (w * (t.val % B)) + p t = part (f t) (w * (t.val % B + 1)))
    (h0 : ∀ t : Fin N, t.val % B = 0 → s t.val t.isLt = p t)
    (h1 : ∀ t : Fin N, t.val % B ≠ 0 → t.val % B ≠ B - 1 → s t.val t.isLt = s (t.val - 1) (prev t) + p t)
    (n : ℕ) (hn : n < N) (h : n % B < B - 1) : s n hn = part (f ⟨n, hn⟩) (w * (n % B + 1)) := by
  have start : ∀ t : Fin N, t.val % B = 0 → s t.val t.isLt = part (f t) (w * (t.val % B + 1)) := fun t e => by
    rw [h0 t e, ← hp, e, Nat.mul_zero, part_zero, zero_add]
  induction n with
  | zero => exact start ⟨0, hn⟩ (Nat.zero_mod B)
  | succ n ih =>
    by_cases e : (n + 1) % B = 0
    · exact start ⟨n + 1, hn⟩ e
    · obtain ⟨e1, e2⟩ := within B n e
      refine (h1 ⟨n + 1, hn⟩ e (Nat.ne_of_lt h)).trans ?_
      refine (congrArg (· + p ⟨n + 1, hn⟩) (ih (Nat.lt_of_succ_lt hn) (by omega))).trans ?_
      rw [hf ⟨n, Nat.lt_of_succ_lt hn⟩ ⟨n + 1, hn⟩ e2, ← e1]
      exact hp ⟨n + 1, hn⟩

/-- At the last point of a run the sum is that of all the terms. -/
theorem whole {N K : ℕ} (B w : ℕ) (s : (n : ℕ) → n < N → EReal) (f : Fin N → Fin K → EReal) (p : Fin N → EReal)
    (hf : ∀ t u : Fin N, t.val / B = u.val / B → f t = f u)
    (hp : ∀ t, part (f t) (w * (t.val % B)) + p t = part (f t) (w * (t.val % B + 1)))
    (h0 : ∀ t : Fin N, t.val % B = 0 → s t.val t.isLt = p t)
    (h1 : ∀ t : Fin N, t.val % B ≠ 0 → t.val % B ≠ B - 1 → s t.val t.isLt = s (t.val - 1) (prev t) + p t)
    (hK : w * B = K) (t : Fin N) (h : t.val % B = B - 1) (hB : 1 < B) : s (t.val - 1) (prev t) + p t = ∑ n, f t n := by
  obtain ⟨n, hn⟩ := t
  cases n with
  | zero => simp at h; omega
  | succ n =>
    dsimp only at h
    obtain ⟨e1, e2⟩ := within B n (by omega)
    refine (congrArg (· + p ⟨n + 1, hn⟩) (run B w s f p hf hp h0 h1 n (Nat.lt_of_succ_lt hn) (by omega))).trans ?_
    rw [hf ⟨n, Nat.lt_of_succ_lt hn⟩ ⟨n + 1, hn⟩ e2, ← e1]
    refine (hp ⟨n + 1, hn⟩).trans ?_
    dsimp only
    rw [h, Nat.sub_add_cancel (Nat.le_of_lt hB), hK, part_all]

end Cert.Blocks

end
-- ==== Proof.InProjValue.lean ====
module

public import proofs.«01_k».proof.Proof.Gen.InProjIdeal.Frame
public import proofs.«01_k».proof.Proof.Gen.InProjLinesIdeal.Run
public import proofs.«01_k».proof.Proof.Common

@[expose] public section

set_option maxRecDepth 16384

noncomputable section

/-! # InProj: the trunk's projection of the normalised rows onto the three branches -/

namespace Cert.InProjIdeal

open Idealize.ShloMosaic Idealize.ShloMosaic.TcCoe Idealize.SL.Sem Idealize.ShloMosaic.StableHlo Cert.InProjIdeal.Gen

/-! ## The mathematics -/

/-- Element `(p, q)` of the product is the sum of these terms. -/
def terms (x : FVec Ideal S8192x1024 .bf16) (y : FVec Ideal S1024x7168 .bf16) (p : Fin 8192) (q : Fin 7168) (n : Fin 1024) : EReal :=
  x (ix2 p n) * y (ix2 n q)

/-- The product. -/
def result (x : FVec Ideal S8192x1024 .bf16) (y : FVec Ideal S1024x7168 .bf16) : FVec Ideal S8192x7168 .bf16 := fun i =>
  ∑ n, terms x y (i 0) (i 1) n

/-! ## What the body computes from a point's blocks -/

theorem pay1_at (x0 x1 : Vec Ideal S1024x1024 .bf16) (a b : Fin 1024) :
    k0_pay1 (F := Ideal) x0 x1 (ix2 a b) = ∑ r : Fin 1024, x0 (ix2 a r) * x1 (ix2 r b) := by
  unfold k0_pay1
  pointwise [dot_S1024x1024_S1024x1024_S1024x1024_1_0_0_1_n_n]

/-- The body stores one whole block. -/
theorem block (x0 x1 : Vec Ideal S1024x1024 .bf16) : out0_2 (F := Ideal) x0 x1 = k0_pay1 (F := Ideal) x0 x1 := by
  unfold out0_2
  rw [View.canon_cons_unit_lit, View.ld_unit_lit, View.ld_unit_lit]
  all_goals decide

/-! ## The blocks a point is given -/

variable (m : (ℓ : Loc nD τ sig) → Buf (Elt Ideal) ℓ) (c : Dev nD)

theorem pt_lt (t : Fin cfg0.N) : t.val < 56 := lt_of_lt_of_eq t.isLt N_0

theorem idx0 : ∀ t : Fin cfg0.N, win0_0.index t = ![t.val / 7, 0] := (by decide +kernel : ∀ t : Fin grid0.N, _)
theorem idx1 : ∀ t : Fin cfg0.N, win0_1.index t = ![0, t.val % 7] := (by decide +kernel : ∀ t : Fin grid0.N, _)
theorem idx2 : ∀ t : Fin cfg0.N, win0_2.index t = ![t.val / 7, t.val % 7] := (by decide +kernel : ∀ t : Fin grid0.N, _)

abbrev X : FVec Ideal S8192x1024 .bf16 := m ((c : Thread nD τ).loc main_arg0)
abbrev Y : FVec Ideal S1024x7168 .bf16 := m ((c : Thread nD τ).loc main_arg1)

/-- Row `a` of point `t`'s block of the result, in the whole result. -/
def row (t : Fin cfg0.N) (a : Fin 1024) : Fin 8192 := ⟨1024 * (t.val / 7) + a.val, by have := pt_lt t; omega⟩
/-- Column `b` of it. -/
def col (t : Fin cfg0.N) (b : Fin 1024) : Fin 7168 := ⟨1024 * (t.val % 7) + b.val, by have := pt_lt t; omega⟩

abbrev B0 (t : Fin cfg0.N) : FVec Ideal S1024x1024 .bf16 := iblk m c 0 t
abbrev B1 (t : Fin cfg0.N) : FVec Ideal S1024x1024 .bf16 := iblk m c 1 t

theorem blk0 (t : Fin cfg0.N) (r a : Fin 1024) : B0 m c t (ix2 a r) = X m c (ix2 (row t a) r) := by
  unfold B0
  blk_simp [iblk]
  rw [V_main_arg0]
  refine congrArg (X m c) ?_
  unfold row
  blk_ext [idx0]

theorem blk1 (t : Fin cfg0.N) (r b : Fin 1024) : B1 m c t (ix2 r b) = Y m c (ix2 r (col t b)) := by
  unfold B1
  blk_simp [iblk]
  rw [V_main_arg1]
  refine congrArg (Y m c) ?_
  unfold col
  blk_ext [idx1]

theorem out_at (t : Fin cfg0.N) (a b : Fin 1024) :
    out0_2 (F := Ideal) (B0 m c t) (B1 m c t) (ix2 a b) = ∑ n, terms (X m c) (Y m c) (row t a) (col t b) n := by
  rw [block, pay1_at]
  exact Finset.sum_congr rfl fun r _ => by rw [blk0, blk1]; rfl

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1024 y
  refine (out_at m c t a b).trans ?_
  refine congrArg (result (X m c) (Y m c)) (?_ : ix2 (row t a) (col t b) = _)
  unfold row col
  blk_ext [idx2]

end Cert.InProjIdeal

/-! ## The reference -/

namespace Cert.InProjLinesIdeal

open Idealize.ShloMosaic Idealize.ShloMosaic.TcCoe Cert.InProjLinesIdeal.Gen

theorem lines_eq (x : FVec Ideal S8192x1024 .bf16) (y : FVec Ideal S1024x7168 .bf16) :
    (truncf .bf16 (Host.dotGeneral dot_S8192x1024_S1024x7168_S8192x7168_1_0_0_1_n_n none (extf .f32 x bitsLt_bf16_f32) (extf .f32 y bitsLt_bf16_f32)) bitsLt_bf16_f32 : FVec Ideal S8192x7168 .bf16) = InProjIdeal.result x y := by
  funext i
  obtain ⟨a, b, rfl⟩ := Blocks.pair 8192 7168 i
  refine Eq.trans (b := ∑ n : Fin 1024, x (ix2 a n) * y (ix2 n b)) ?_ rfl
  pointwise [dot_S8192x1024_S1024x7168_S8192x7168_1_0_0_1_n_n]

end Cert.InProjLinesIdeal

/-! ## The claims -/

namespace Cert.Proof

open Idealize.ShloMosaic Idealize.ShloMosaic.TcCoe Idealize.SL.Sem

/-- The reference leaves its arguments alone and declares no semaphore. -/
theorem frame_InProjLinesIdeal : Cert.quiescent_InProjLinesIdeal := fun m ρ _ =>
  (θ_run Cert.InProjLinesIdeal.defs _ _).mono
    (fun r h => ⟨fun c => (h c).2, sem_eq_zero_of_no_sems (by decide) r.2⟩)
    (Cert.InProjLinesIdeal.Value.run m ρ)

/-- The kernel and the reference leave the same array. -/
theorem equal_InProj : Cert.algebraic_InProjIdeal_InProjLinesIdeal := by
  intro m g m' g' _ hagree
  refine ⟨fun c => InProjIdeal.result (InProjIdeal.X m c) (InProjIdeal.Y m c), ?_, ?_⟩
  · exact (θ_run Cert.InProjIdeal.defs _ _).mono (fun r h c => ⟨((h.1 c).1 2).trans (InProjIdeal.final m c), h.2.1 c⟩)
      (θ_run_and (Cert.InProjIdeal.Gen.run_main m g) (Cert.InProjIdeal.Gen.frame m g))
  · refine (θ_run Cert.InProjLinesIdeal.defs _ _).mono (fun r h c => ?_) (Cert.InProjLinesIdeal.Value.run m' g')
    obtain ⟨e0, e1⟩ := hagree c
    refine ⟨(h c).1.trans ((InProjLinesIdeal.lines_eq _ _).trans ?_), (h c).2⟩
    rw [e0, e1]

end Cert.Proof

end
-- ==== Proof.GateUpValue.lean ====
module

public import proofs.«01_k».proof.Proof.Gen.GateUpIdeal.Frame
public import proofs.«01_k».proof.Proof.Gen.GateUpLinesIdeal.Run
public import proofs.«01_k».proof.Proof.Common

@[expose] public section

set_option maxRecDepth 16384

noncomputable section

/-! # GateUp: the feed-forward block's first product -/

namespace Cert.GateUpIdeal

open Idealize.ShloMosaic Idealize.ShloMosaic.TcCoe Idealize.SL.Sem Idealize.ShloMosaic.StableHlo Cert.GateUpIdeal.Gen

/-! ## The mathematics -/

/-- Element `(p, q)` of the product is the sum of these terms. -/
def terms (x : FVec Ideal S8192x1024 .bf16) (y : FVec Ideal S1024x5632 .bf16) (p : Fin 8192) (q : Fin 5632) (n : Fin 1024) : EReal :=
  x (ix2 p n) * y (ix2 n q)

/-- The product. -/
def result (x : FVec Ideal S8192x1024 .bf16) (y : FVec Ideal S1024x5632 .bf16) : FVec Ideal S8192x5632 .bf16 := fun i =>
  ∑ n, terms x y (i 0) (i 1) n

/-! ## What the body computes from a point's blocks -/

theorem pay1_at (x0 : Vec Ideal S1024x1024 .bf16) (x1 : Vec Ideal S1024x1408 .bf16) (a : Fin 1024) (b : Fin 1408) :
    k0_pay1 (F := Ideal) x0 x1 (ix2 a b) = ∑ r : Fin 1024, x0 (ix2 a r) * x1 (ix2 r b) := by
  unfold k0_pay1
  pointwise [dot_S1024x1024_S1024x1408_S1024x1408_1_0_0_1_n_n]

/-- The body stores one whole block. -/
theorem block (x0 : Vec Ideal S1024x1024 .bf16) (x1 : Vec Ideal S1024x1408 .bf16) : out0_2 (F := Ideal) x0 x1 = k0_pay1 (F := Ideal) x0 x1 := by
  unfold out0_2
  rw [View.canon_cons_unit_lit, View.ld_unit_lit, View.ld_unit_lit]
  all_goals decide

/-! ## The blocks a point is given -/

variable (m : (ℓ : Loc nD τ sig) → Buf (Elt Ideal) ℓ) (c : Dev nD)

theorem pt_lt (t : Fin cfg0.N) : t.val < 32 := lt_of_lt_of_eq t.isLt N_0

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

abbrev X : FVec Ideal S8192x1024 .bf16 := m ((c : Thread nD τ).loc main_arg0)
abbrev Y : FVec Ideal S1024x5632 .bf16 := m ((c : Thread nD τ).loc main_arg1)

/-- Row `a` of point `t`'s block of the result, in the whole result. -/
def row (t : Fin cfg0.N) (a : Fin 1024) : Fin 8192 := ⟨1024 * (t.val / 4) + a.val, by have := pt_lt t; omega⟩
/-- Column `b` of it. -/
def col (t : Fin cfg0.N) (b : Fin 1408) : Fin 5632 := ⟨1408 * (t.val % 4) + b.val, by have := pt_lt t; omega⟩

abbrev B0 (t : Fin cfg0.N) : FVec Ideal S1024x1024 .bf16 := iblk m c 0 t
abbrev B1 (t : Fin cfg0.N) : FVec Ideal S1024x1408 .bf16 := iblk m c 1 t

theorem blk0 (t : Fin cfg0.N) (r a : Fin 1024) : B0 m c t (ix2 a r) = X m c (ix2 (row t a) r) := by
  unfold B0
  blk_simp [iblk]
  rw [V_main_arg0]
  refine congrArg (X m c) ?_
  unfold row
  blk_ext [idx0]

theorem blk1 (t : Fin cfg0.N) (r : Fin 1024) (b : Fin 1408) : B1 m c t (ix2 r b) = Y m c (ix2 r (col t b)) := by
  unfold B1
  blk_simp [iblk]
  rw [V_main_arg1]
  refine congrArg (Y m c) ?_
  unfold col
  blk_ext [idx1]

theorem out_at (t : Fin cfg0.N) (a : Fin 1024) (b : Fin 1408) :
    out0_2 (F := Ideal) (B0 m c t) (B1 m c t) (ix2 a b) = ∑ n, terms (X m c) (Y m c) (row t a) (col t b) n := by
  rw [block, pay1_at]
  exact Finset.sum_congr rfl fun r _ => by rw [blk0, blk1]; rfl

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1408 y
  refine (out_at m c t a b).trans ?_
  refine congrArg (result (X m c) (Y m c)) (?_ : ix2 (row t a) (col t b) = _)
  unfold row col
  blk_ext [idx2]

end Cert.GateUpIdeal

/-! ## The reference -/

namespace Cert.GateUpLinesIdeal

open Idealize.ShloMosaic Idealize.ShloMosaic.TcCoe Cert.GateUpLinesIdeal.Gen

theorem lines_eq (x : FVec Ideal S8192x1024 .bf16) (y : FVec Ideal S1024x5632 .bf16) :
    (truncf .bf16 (Host.dotGeneral dot_S8192x1024_S1024x5632_S8192x5632_1_0_0_1_n_n none (extf .f32 x bitsLt_bf16_f32) (extf .f32 y bitsLt_bf16_f32)) bitsLt_bf16_f32 : FVec Ideal S8192x5632 .bf16) = GateUpIdeal.result x y := by
  funext i
  obtain ⟨a, b, rfl⟩ := Blocks.pair 8192 5632 i
  refine Eq.trans (b := ∑ n : Fin 1024, x (ix2 a n) * y (ix2 n b)) ?_ rfl
  pointwise [dot_S8192x1024_S1024x5632_S8192x5632_1_0_0_1_n_n]

end Cert.GateUpLinesIdeal

/-! ## The claims -/

namespace Cert.Proof

open Idealize.ShloMosaic Idealize.ShloMosaic.TcCoe Idealize.SL.Sem

/-- The reference leaves its arguments alone and declares no semaphore. -/
theorem frame_GateUpLinesIdeal : Cert.quiescent_GateUpLinesIdeal := fun m ρ _ =>
  (θ_run Cert.GateUpLinesIdeal.defs _ _).mono
    (fun r h => ⟨fun c => (h c).2, sem_eq_zero_of_no_sems (by decide) r.2⟩)
    (Cert.GateUpLinesIdeal.Value.run m ρ)

/-- The kernel and the reference leave the same array. -/
theorem equal_GateUp : Cert.algebraic_GateUpIdeal_GateUpLinesIdeal := by
  intro m g m' g' _ hagree
  refine ⟨fun c => GateUpIdeal.result (GateUpIdeal.X m c) (GateUpIdeal.Y m c), ?_, ?_⟩
  · exact (θ_run Cert.GateUpIdeal.defs _ _).mono (fun r h c => ⟨((h.1 c).1 2).trans (GateUpIdeal.final m c), h.2.1 c⟩)
      (θ_run_and (Cert.GateUpIdeal.Gen.run_main m g) (Cert.GateUpIdeal.Gen.frame m g))
  · refine (θ_run Cert.GateUpLinesIdeal.defs _ _).mono (fun r h c => ?_) (Cert.GateUpLinesIdeal.Value.run m' g')
    obtain ⟨e0, e1⟩ := hagree c
    refine ⟨(h c).1.trans ((GateUpLinesIdeal.lines_eq _ _).trans ?_), (h c).2⟩
    rw [e0, e1]

end Cert.Proof

end
-- ==== Proof.GradActValue.lean ====
module

public import proofs.«01_k».proof.Proof.Gen.GradActIdeal.Frame
public import proofs.«01_k».proof.Proof.Gen.GradActLinesIdeal.Run
public import proofs.«01_k».proof.Proof.Common

@[expose] public section

set_option maxRecDepth 16384

noncomputable section

/-! # GradAct: the gradient of the feed-forward block's activations -/

namespace Cert.GradActIdeal

open Idealize.ShloMosaic Idealize.ShloMosaic.TcCoe Idealize.SL.Sem Idealize.ShloMosaic.StableHlo Cert.GradActIdeal.Gen

/-! ## The mathematics -/

/-- Element `(p, q)` of the product is the sum of these terms. -/
def terms (x : FVec Ideal S8192x1024 .bf16) (y : FVec Ideal S2816x1024 .bf16) (p : Fin 8192) (q : Fin 2816) (n : Fin 1024) : EReal :=
  x (ix2 p n) * y (ix2 q n)

/-- The product. -/
def result (x : FVec Ideal S8192x1024 .bf16) (y : FVec Ideal S2816x1024 .bf16) : FVec Ideal S8192x2816 .bf16 := fun i =>
  ∑ n, terms x y (i 0) (i 1) n

/-! ## What the body computes from a point's blocks -/

theorem pay1_at (x0 : Vec Ideal S1024x1024 .bf16) (x1 : Vec Ideal S1024x1408 .bf16) (a : Fin 1024) (b : Fin 1408) :
    k0_pay1 (F := Ideal) x0 x1 (ix2 a b) = ∑ r : Fin 1024, x0 (ix2 a r) * x1 (ix2 r b) := by
  unfold k0_pay1
  pointwise [dot_S1024x1024_S1024x1408_S1024x1408_1_0_0_1_n_n]

/-- The body stores one whole block. -/
theorem block (x0 : Vec Ideal S1024x1024 .bf16) (x1 : Vec Ideal S1024x1408 .bf16) : out0_2 (F := Ideal) x0 x1 = k0_pay1 (F := Ideal) x0 x1 := by
  unfold out0_2
  rw [View.canon_cons_unit_lit, View.ld_unit_lit, View.ld_unit_lit]
  all_goals decide

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

abbrev X : FVec Ideal S8192x1024 .bf16 := m ((c : Thread nD τ).loc main_arg0)
abbrev Y : FVec Ideal S2816x1024 .bf16 := m ((c : Thread nD τ).loc main_arg1)

/-- Row `a` of point `t`'s block of the result, in the whole result. -/
def row (t : Fin cfg0.N) (a : Fin 1024) : Fin 8192 := ⟨1024 * (t.val / 2) + a.val, by have := pt_lt t; omega⟩
/-- Column `b` of it. -/
def col (t : Fin cfg0.N) (b : Fin 1408) : Fin 2816 := ⟨1408 * (t.val % 2) + b.val, by have := pt_lt t; omega⟩

abbrev B0 (t : Fin cfg0.N) : FVec Ideal S1024x1024 .bf16 := iblk m c 0 t
abbrev B1 (t : Fin cfg0.N) : FVec Ideal S1024x1408 .bf16 := iblk m c 1 t

theorem blk0 (t : Fin cfg0.N) (r a : Fin 1024) : B0 m c t (ix2 a r) = X m c (ix2 (row t a) r) := by
  unfold B0
  blk_simp [iblk]
  rw [V_main_arg0]
  refine congrArg (X m c) ?_
  unfold row
  blk_ext [idx0]

theorem V_v0 : V m c main_v0 = transpose S1024x2816 [1, 0] (Y m c) transposes_S2816x1024_S1024x2816_1_0 := by
  unfold V
  simp only [hostOps0]
  after_reads_simp

theorem turned (i : Fin 1024) (j : Fin 2816) : (V m c main_v0 : FVec Ideal S1024x2816 .bf16) (ix2 i j) = Y m c (ix2 j i) := by
  rw [V_v0]
  pointwise

theorem blk1 (t : Fin cfg0.N) (r : Fin 1024) (b : Fin 1408) : B1 m c t (ix2 r b) = Y m c (ix2 (col t b) r) := by
  rw [← turned]
  unfold B1
  blk_simp [iblk]
  refine congrArg (V m c main_v0) ?_
  unfold col
  blk_ext [idx1]

theorem out_at (t : Fin cfg0.N) (a : Fin 1024) (b : Fin 1408) :
    out0_2 (F := Ideal) (B0 m c t) (B1 m c t) (ix2 a b) = ∑ n, terms (X m c) (Y m c) (row t a) (col t b) n := by
  rw [block, pay1_at]
  exact Finset.sum_congr rfl fun r _ => by rw [blk0, blk1]; rfl

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1408 y
  refine (out_at m c t a b).trans ?_
  refine congrArg (result (X m c) (Y m c)) (?_ : ix2 (row t a) (col t b) = _)
  unfold row col
  blk_ext [idx2]

end Cert.GradActIdeal

/-! ## The reference -/

namespace Cert.GradActLinesIdeal

open Idealize.ShloMosaic Idealize.ShloMosaic.TcCoe Cert.GradActLinesIdeal.Gen

theorem lines_eq (x : FVec Ideal S8192x1024 .bf16) (y : FVec Ideal S2816x1024 .bf16) :
    (truncf .bf16 (Host.dotGeneral dot_S8192x1024_S2816x1024_S8192x2816_1_1_0_0_n_n none (extf .f32 x bitsLt_bf16_f32) (extf .f32 y bitsLt_bf16_f32)) bitsLt_bf16_f32 : FVec Ideal S8192x2816 .bf16) = GradActIdeal.result x y := by
  funext i
  obtain ⟨a, b, rfl⟩ := Blocks.pair 8192 2816 i
  refine Eq.trans (b := ∑ n : Fin 1024, x (ix2 a n) * y (ix2 b n)) ?_ rfl
  pointwise [dot_S8192x1024_S2816x1024_S8192x2816_1_1_0_0_n_n]

end Cert.GradActLinesIdeal

/-! ## The claims -/

namespace Cert.Proof

open Idealize.ShloMosaic Idealize.ShloMosaic.TcCoe Idealize.SL.Sem

/-- The reference leaves its arguments alone and declares no semaphore. -/
theorem frame_GradActLinesIdeal : Cert.quiescent_GradActLinesIdeal := fun m ρ _ =>
  (θ_run Cert.GradActLinesIdeal.defs _ _).mono
    (fun r h => ⟨fun c => (h c).2, sem_eq_zero_of_no_sems (by decide) r.2⟩)
    (Cert.GradActLinesIdeal.Value.run m ρ)

/-- The kernel and the reference leave the same array. -/
theorem equal_GradAct : Cert.algebraic_GradActIdeal_GradActLinesIdeal := by
  intro m g m' g' _ hagree
  refine ⟨fun c => GradActIdeal.result (GradActIdeal.X m c) (GradActIdeal.Y m c), ?_, ?_⟩
  · exact (θ_run Cert.GradActIdeal.defs _ _).mono (fun r h c => ⟨((h.1 c).1 2).trans (GradActIdeal.final m c), h.2.1 c⟩)
      (θ_run_and (Cert.GradActIdeal.Gen.run_main m g) (Cert.GradActIdeal.Gen.frame m g))
  · refine (θ_run Cert.GradActLinesIdeal.defs _ _).mono (fun r h c => ?_) (Cert.GradActLinesIdeal.Value.run m' g')
    obtain ⟨e0, e1⟩ := hagree c
    refine ⟨(h c).1.trans ((GradActLinesIdeal.lines_eq _ _).trans ?_), (h c).2⟩
    rw [e0, e1]

end Cert.Proof

end
-- ==== Proof.GradMergedValue.lean ====
module

public import proofs.«01_k».proof.Proof.Gen.GradMergedIdeal.Frame
public import proofs.«01_k».proof.Proof.Gen.GradMergedLinesIdeal.Run
public import proofs.«01_k».proof.Proof.Common

@[expose] public section

set_option maxRecDepth 16384

noncomputable section

/-! # GradMerged: the gradient of the merged branches -/

namespace Cert.GradMergedIdeal

open Idealize.ShloMosaic Idealize.ShloMosaic.TcCoe Idealize.SL.Sem Idealize.ShloMosaic.StableHlo Cert.GradMergedIdeal.Gen

/-! ## The mathematics -/

/-- Element `(p, q)` of the product is the sum of these terms. -/
def terms (x : FVec Ideal S8192x1024 .bf16) (y : FVec Ideal S1024x1024 .bf16) (p : Fin 8192) (q n : Fin 1024) : EReal :=
  x (ix2 p n) * y (ix2 q n)

/-- The product. -/
def result (x : FVec Ideal S8192x1024 .bf16) (y : FVec Ideal S1024x1024 .bf16) : FVec Ideal S8192x1024 .bf16 := fun i =>
  ∑ n, terms x y (i 0) (i 1) n

/-! ## What the body computes from a point's blocks -/

theorem pay1_at (x0 x1 : Vec Ideal S1024x1024 .bf16) (a b : Fin 1024) :
    k0_pay1 (F := Ideal) x0 x1 (ix2 a b) = ∑ r : Fin 1024, x0 (ix2 a r) * x1 (ix2 r b) := by
  unfold k0_pay1
  pointwise [dot_S1024x1024_S1024x1024_S1024x1024_1_0_0_1_n_n]

/-- The body stores one whole block. -/
theorem block (x0 x1 : Vec Ideal S1024x1024 .bf16) : out0_2 (F := Ideal) x0 x1 = k0_pay1 (F := Ideal) x0 x1 := by
  unfold out0_2
  rw [View.canon_cons_unit_lit, View.ld_unit_lit, View.ld_unit_lit]
  all_goals decide

/-! ## The blocks a point is given -/

variable (m : (ℓ : Loc nD τ sig) → Buf (Elt Ideal) ℓ) (c : Dev nD)

theorem pt_lt (t : Fin cfg0.N) : t.val < 8 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

abbrev X : FVec Ideal S8192x1024 .bf16 := m ((c : Thread nD τ).loc main_arg0)
abbrev Y : FVec Ideal S1024x1024 .bf16 := m ((c : Thread nD τ).loc main_arg1)

/-- Row `a` of point `t`'s block of the result, in the whole result. -/
def row (t : Fin cfg0.N) (a : Fin 1024) : Fin 8192 := ⟨1024 * (t.val) + a.val, by have := pt_lt t; omega⟩
/-- Column `b` of it. -/
def col (t : Fin cfg0.N) (b : Fin 1024) : Fin 1024 := b

abbrev B0 (t : Fin cfg0.N) : FVec Ideal S1024x1024 .bf16 := iblk m c 0 t
abbrev B1 (t : Fin cfg0.N) : FVec Ideal S1024x1024 .bf16 := iblk m c 1 t

theorem blk0 (t : Fin cfg0.N) (r a : Fin 1024) : B0 m c t (ix2 a r) = X m c (ix2 (row t a) r) := by
  unfold B0
  blk_simp [iblk]
  rw [V_main_arg0]
  refine congrArg (X m c) ?_
  unfold row
  blk_ext [idx0]

theorem V_v0 : V m c main_v0 = transpose S1024x1024 [1, 0] (Y m c) transposes_S1024x1024_S1024x1024_1_0 := by
  unfold V
  simp only [hostOps0]
  after_reads_simp

theorem turned (i j : Fin 1024) : (V m c main_v0 : FVec Ideal S1024x1024 .bf16) (ix2 i j) = Y m c (ix2 j i) := by
  rw [V_v0]
  pointwise

theorem blk1 (t : Fin cfg0.N) (r b : Fin 1024) : B1 m c t (ix2 r b) = Y m c (ix2 (col t b) r) := by
  rw [← turned]
  unfold B1
  blk_simp [iblk]
  refine congrArg (V m c main_v0) ?_
  unfold col
  blk_ext [idx1]

theorem out_at (t : Fin cfg0.N) (a b : Fin 1024) :
    out0_2 (F := Ideal) (B0 m c t) (B1 m c t) (ix2 a b) = ∑ n, terms (X m c) (Y m c) (row t a) (col t b) n := by
  rw [block, pay1_at]
  exact Finset.sum_congr rfl fun r _ => by rw [blk0, blk1]; rfl

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1024 y
  refine (out_at m c t a b).trans ?_
  refine congrArg (result (X m c) (Y m c)) (?_ : ix2 (row t a) (col t b) = _)
  unfold row col
  blk_ext [idx2]

end Cert.GradMergedIdeal

/-! ## The reference -/

namespace Cert.GradMergedLinesIdeal

open Idealize.ShloMosaic Idealize.ShloMosaic.TcCoe Cert.GradMergedLinesIdeal.Gen

theorem lines_eq (x : FVec Ideal S8192x1024 .bf16) (y : FVec Ideal S1024x1024 .bf16) :
    (truncf .bf16 (Host.dotGeneral dot_S8192x1024_S1024x1024_S8192x1024_1_1_0_0_n_n none (extf .f32 x bitsLt_bf16_f32) (extf .f32 y bitsLt_bf16_f32)) bitsLt_bf16_f32 : FVec Ideal S8192x1024 .bf16) = GradMergedIdeal.result x y := by
  funext i
  obtain ⟨a, b, rfl⟩ := Blocks.pair 8192 1024 i
  refine Eq.trans (b := ∑ n : Fin 1024, x (ix2 a n) * y (ix2 b n)) ?_ rfl
  pointwise [dot_S8192x1024_S1024x1024_S8192x1024_1_1_0_0_n_n]

end Cert.GradMergedLinesIdeal

/-! ## The claims -/

namespace Cert.Proof

open Idealize.ShloMosaic Idealize.ShloMosaic.TcCoe Idealize.SL.Sem

/-- The reference leaves its arguments alone and declares no semaphore. -/
theorem frame_GradMergedLinesIdeal : Cert.quiescent_GradMergedLinesIdeal := fun m ρ _ =>
  (θ_run Cert.GradMergedLinesIdeal.defs _ _).mono
    (fun r h => ⟨fun c => (h c).2, sem_eq_zero_of_no_sems (by decide) r.2⟩)
    (Cert.GradMergedLinesIdeal.Value.run m ρ)

/-- The kernel and the reference leave the same array. -/
theorem equal_GradMerged : Cert.algebraic_GradMergedIdeal_GradMergedLinesIdeal := by
  intro m g m' g' _ hagree
  refine ⟨fun c => GradMergedIdeal.result (GradMergedIdeal.X m c) (GradMergedIdeal.Y m c), ?_, ?_⟩
  · exact (θ_run Cert.GradMergedIdeal.defs _ _).mono (fun r h c => ⟨((h.1 c).1 2).trans (GradMergedIdeal.final m c), h.2.1 c⟩)
      (θ_run_and (Cert.GradMergedIdeal.Gen.run_main m g) (Cert.GradMergedIdeal.Gen.frame m g))
  · refine (θ_run Cert.GradMergedLinesIdeal.defs _ _).mono (fun r h c => ?_) (Cert.GradMergedLinesIdeal.Value.run m' g')
    obtain ⟨e0, e1⟩ := hagree c
    refine ⟨(h c).1.trans ((GradMergedLinesIdeal.lines_eq _ _).trans ?_), (h c).2⟩
    rw [e0, e1]

end Cert.Proof

end
-- ==== Proof.OutProjValue.lean ====
module

public import proofs.«01_k».proof.Proof.Gen.OutProjIdeal.Frame
public import proofs.«01_k».proof.Proof.Gen.OutProjLinesIdeal.Run
public import proofs.«01_k».proof.Proof.Common

@[expose] public section

set_option maxRecDepth 16384

noncomputable section

/-! # OutProj: the output projection, added to what the layer was given -/

namespace Cert.OutProjIdeal

open Idealize.ShloMosaic Idealize.ShloMosaic.TcCoe Idealize.SL.Sem Idealize.ShloMosaic.StableHlo Cert.OutProjIdeal.Gen

/-! ## The mathematics -/

/-- Element `(p, q)` of the product is the sum of these terms. -/
def terms (x : FVec Ideal S8192x1024 .bf16) (y : FVec Ideal S1024x1024 .bf16) (p : Fin 8192) (q n : Fin 1024) : EReal :=
  x (ix2 p n) * y (ix2 n q)

/-- The product, added to the residual. -/
def result (x : FVec Ideal S8192x1024 .bf16) (y : FVec Ideal S1024x1024 .bf16) (z : FVec Ideal S8192x1024 .f32) : FVec Ideal S8192x1024 .f32 := fun i =>
  z i + ∑ n, terms x y (i 0) (i 1) n

/-! ## What the body computes from a point's blocks -/

theorem pay1_at (x0 x1 : Vec Ideal S1024x1024 .bf16) (x2 : Vec Ideal S1024x1024 .f32) (a b : Fin 1024) :
    k0_pay1 (F := Ideal) x0 x1 x2 (ix2 a b) = (∑ r : Fin 1024, x0 (ix2 a r) * x1 (ix2 r b)) + x2 (ix2 a b) := by
  unfold k0_pay1
  pointwise [dot_S1024x1024_S1024x1024_S1024x1024_1_0_0_1_n_n]

/-- The body stores one whole block. -/
theorem block (x0 x1 : Vec Ideal S1024x1024 .bf16) (x2 : Vec Ideal S1024x1024 .f32) : out0_3 (F := Ideal) x0 x1 x2 = k0_pay1 (F := Ideal) x0 x1 x2 := by
  unfold out0_3
  rw [View.canon_cons_unit_lit, View.ld_unit_lit, View.ld_unit_lit, View.ld_unit_lit]
  all_goals decide

/-! ## The blocks a point is given -/

variable (m : (ℓ : Loc nD τ sig) → Buf (Elt Ideal) ℓ) (c : Dev nD)

theorem pt_lt (t : Fin cfg0.N) : t.val < 8 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

abbrev X : FVec Ideal S8192x1024 .bf16 := m ((c : Thread nD τ).loc main_arg0)
abbrev Y : FVec Ideal S1024x1024 .bf16 := m ((c : Thread nD τ).loc main_arg1)
abbrev Z : FVec Ideal S8192x1024 .f32 := m ((c : Thread nD τ).loc main_arg2)

/-- Row `a` of point `t`'s block of the result, in the whole result. -/
def row (t : Fin cfg0.N) (a : Fin 1024) : Fin 8192 := ⟨1024 * (t.val) + a.val, by have := pt_lt t; omega⟩
/-- Column `b` of it. -/
def col (t : Fin cfg0.N) (b : Fin 1024) : Fin 1024 := b

abbrev B0 (t : Fin cfg0.N) : FVec Ideal S1024x1024 .bf16 := iblk m c 0 t
abbrev B1 (t : Fin cfg0.N) : FVec Ideal S1024x1024 .bf16 := iblk m c 1 t
abbrev B2 (t : Fin cfg0.N) : FVec Ideal S1024x1024 .f32 := iblk m c 2 t

theorem blk0 (t : Fin cfg0.N) (r a : Fin 1024) : B0 m c t (ix2 a r) = X m c (ix2 (row t a) r) := by
  unfold B0
  blk_simp [iblk]
  rw [V_main_arg0]
  refine congrArg (X m c) ?_
  unfold row
  blk_ext [idx0]

theorem blk1 (t : Fin cfg0.N) (r b : Fin 1024) : B1 m c t (ix2 r b) = Y m c (ix2 r (col t b)) := by
  unfold B1
  blk_simp [iblk]
  rw [V_main_arg1]
  refine congrArg (Y m c) ?_
  unfold col
  blk_ext [idx1]

theorem blk2 (t : Fin cfg0.N) (a b : Fin 1024) : B2 m c t (ix2 a b) = Z m c (ix2 (row t a) (col t b)) := by
  unfold B2
  blk_simp [iblk]
  rw [V_main_arg2]
  refine congrArg (Z m c) ?_
  unfold row col
  blk_ext [idx2]

theorem out_at (t : Fin cfg0.N) (a b : Fin 1024) :
    out0_3 (F := Ideal) (B0 m c t) (B1 m c t) (B2 m c t) (ix2 a b) = Z m c (ix2 (row t a) (col t b)) + ∑ n, terms (X m c) (Y m c) (row t a) (col t b) n := by
  rw [block, pay1_at, blk2, add_comm]
  refine congrArg _ (Finset.sum_congr rfl fun r _ => ?_)
  rw [blk0, blk1]
  rfl

/-! ## The whole result -/

theorem final : (dats m 0 c).arrAt 3 cfg0.N = result (X m c) (Y m c) (Z m c) := by
  refine (dats m 0 c).arrAt_eq_of_covers 3 _ (by decide +kernel) fun t hf y => ?_
  blk_simp
  rw [after0_3]
  obtain ⟨a, b, rfl⟩ := Blocks.pair 1024 1024 y
  refine (out_at m c t a b).trans ?_
  refine congrArg (result (X m c) (Y m c) (Z m c)) (?_ : ix2 (row t a) (col t b) = _)
  unfold row col
  blk_ext [idx3]

end Cert.OutProjIdeal

/-! ## The reference -/

namespace Cert.OutProjLinesIdeal

open Idealize.ShloMosaic Idealize.ShloMosaic.TcCoe Cert.OutProjLinesIdeal.Gen

theorem lines_eq (x : FVec Ideal S8192x1024 .bf16) (y : FVec Ideal S1024x1024 .bf16) (z : FVec Ideal S8192x1024 .f32) :
    (addf z (Host.dotGeneral dot_S8192x1024_S1024x1024_S8192x1024_1_0_0_1_n_n none (extf .f32 x bitsLt_bf16_f32) (extf .f32 y bitsLt_bf16_f32)) : FVec Ideal S8192x1024 .f32) = OutProjIdeal.result x y z := by
  funext i
  obtain ⟨a, b, rfl⟩ := Blocks.pair 8192 1024 i
  refine Eq.trans (b := z (ix2 a b) + ∑ n : Fin 1024, x (ix2 a n) * y (ix2 n b)) ?_ rfl
  pointwise [dot_S8192x1024_S1024x1024_S8192x1024_1_0_0_1_n_n]

end Cert.OutProjLinesIdeal

/-! ## The claims -/

namespace Cert.Proof

open Idealize.ShloMosaic Idealize.ShloMosaic.TcCoe Idealize.SL.Sem

/-- The reference leaves its arguments alone and declares no semaphore. -/
theorem frame_OutProjLinesIdeal : Cert.quiescent_OutProjLinesIdeal := fun m ρ _ =>
  (θ_run Cert.OutProjLinesIdeal.defs _ _).mono
    (fun r h => ⟨fun c => (h c).2, sem_eq_zero_of_no_sems (by decide) r.2⟩)
    (Cert.OutProjLinesIdeal.Value.run m ρ)

/-- The kernel and the reference leave the same array. -/
theorem equal_OutProj : Cert.algebraic_OutProjIdeal_OutProjLinesIdeal := by
  intro m g m' g' _ hagree
  refine ⟨fun c => OutProjIdeal.result (OutProjIdeal.X m c) (OutProjIdeal.Y m c) (OutProjIdeal.Z m c), ?_, ?_⟩
  · exact (θ_run Cert.OutProjIdeal.defs _ _).mono (fun r h c => ⟨((h.1 c).1 3).trans (OutProjIdeal.final m c), h.2.1 c⟩)
      (θ_run_and (Cert.OutProjIdeal.Gen.run_main m g) (Cert.OutProjIdeal.Gen.frame m g))
  · refine (θ_run Cert.OutProjLinesIdeal.defs _ _).mono (fun r h c => ?_) (Cert.OutProjLinesIdeal.Value.run m' g')
    obtain ⟨e0, e1, e2⟩ := hagree c
    refine ⟨(h c).1.trans ((OutProjLinesIdeal.lines_eq _ _ _).trans ?_), (h c).2⟩
    rw [e0, e1, e2]

end Cert.Proof

end
-- ==== Proof.GradInValue.lean ====
module

public import proofs.«01_k».proof.Proof.Gen.GradInIdeal.Frame
public import proofs.«01_k».proof.Proof.Gen.GradInLinesIdeal.Run
public import proofs.«01_k».proof.Proof.Common

@[expose] public section

set_option maxRecDepth 16384

noncomputable section

/-! # GradIn: the gradient of `w_in`, in the shards the devices keep -/

namespace Cert.GradInIdeal

open Idealize.ShloMosaic Idealize.ShloMosaic.TcCoe Idealize.SL.Sem Idealize.ShloMosaic.StableHlo Cert.GradInIdeal.Gen

/-! ## The mathematics -/

/-- Element `(p, q)` of the product is the sum of these terms. -/
def terms (x : FVec Ideal S8192x1024 .bf16) (y : FVec Ideal S8192x7168 .bf16) (p : Fin 1024) (q : Fin 7168) (n : Fin 8192) : EReal :=
  x (ix2 n p) * y (ix2 n q)

/-- Column `b` of shard `s`. -/
def shardCol (s : Fin 8) (b : Fin 896) : Fin 7168 := ⟨896 * s.val + b.val, by omega⟩

/-- The product, cut into shards of 896 columns. -/
def result (x : FVec Ideal S8192x1024 .bf16) (y : FVec Ideal S8192x7168 .bf16) : FVec Ideal S8x1024x896 .bf16 := fun i =>
  ∑ n, terms x y (i 1) (shardCol (i 0) (i 2)) n

/-! ## What the body computes from a point's blocks -/

section
variable {F : FTy → Type} [FloatOps F]

/-- The first point of a run leaves its product in the scratch. -/
theorem first (c : Dev nD) (i : grid0.Coords) a3 h3 a4 h4 a5 h5 a6 h6 hc0 hc1 hc2 (x0 : Vec F S1024x1024 .bf16) (x1 : Vec F S1024x896 .bf16) :
    sout0_A_0 c i a3 h3 a4 h4 a5 h5 a6 h6 hc0 hc1 hc2 x0 x1 = k0_pay2 x0 x1 := by
  unfold sout0_A_0
  dsimp only [kernelRun0_A]
  rw [View.read_writes_full, View.readAt_full, View.readAt_full, h3.read_unread, h4.read_unread]

/-- A later point adds its own. -/
theorem next (c : Dev nD) (i : grid0.Coords) a3 h3 a4 h4 a5 h5 a6 h6 hc0 hc1 hc2 (x0 : Vec F S1024x1024 .bf16) (x1 : Vec F S1024x896 .bf16) (acc) :
    sout0_B_0 c i a3 h3 a4 h4 a5 h5 a6 h6 hc0 hc1 hc2 x0 x1 acc = k0_pay3 x0 x1 acc := by
  unfold sout0_B_0
  dsimp only [kernelRun0_B]
  rw [View.read_writes_full, View.readAt_full, View.readAt_full, View.readAt_full, h3.read_unread, h4.read_unread, h6.read_unread]

/-- The last point writes the whole sum out. -/
theorem last (c : Dev nD) (i : grid0.Coords) a3 h3 a4 h4 a5 h5 a6 h6 hc0 hc1 hc2 (x0 : Vec F S1024x1024 .bf16) (x1 : Vec F S1024x896 .bf16) (acc) :
    out0_C_2 c i a3 h3 a4 h4 a5 h5 a6 h6 hc0 hc1 hc2 x0 x1 acc = k0_pay4 (k0_pay3 x0 x1 acc) := by
  unfold out0_C_2
  dsimp only [kernelRun0_C]
  unfold kernelRun0_C.sl.v12 kernelRun0_C.sl.HS0_1
  rw [View.read_writes_full, View.readCov_full, View.readAt_full, View.readAt_full, View.readAt_full, h3.read_unread, h4.read_unread, h6.read_unread]

end

theorem pay1_at (x0 : Vec Ideal S1024x1024 .bf16) (x1 : Vec Ideal S1024x896 .bf16) (a : Fin 1024) (b : Fin 896) : k0_pay1 (F := Ideal) x0 x1 (ix2 a b) = ∑ r : Fin 1024, x0 (ix2 r a) * x1 (ix2 r b) := by
  unfold k0_pay1
  pointwise [dot_S1024x1024_S1024x896_S1024x896_0_0_1_1_n_n]

theorem pay2_at (x0 : Vec Ideal S1024x1024 .bf16) (x1 : Vec Ideal S1024x896 .bf16) (a : Fin 1024) (b : Fin 896) : k0_pay2 (F := Ideal) x0 x1 (ix2 a b) = ∑ r : Fin 1024, x0 (ix2 r a) * x1 (ix2 r b) := by
  rw [← pay1_at]
  unfold k0_pay2
  pointwise

theorem pay3_at (x0 : Vec Ideal S1024x1024 .bf16) (x1 : Vec Ideal S1024x896 .bf16) (acc) (a : Fin 1024) (b : Fin 896) :
    k0_pay3 (F := Ideal) x0 x1 acc (ix2 a b) = acc (ix2 a b) + ∑ r : Fin 1024, x0 (ix2 r a) * x1 (ix2 r b) := by
  rw [← pay1_at]
  unfold k0_pay3
  pointwise

theorem pay4_at (acc : Vec Ideal S1024x896 .f32) (a : Fin 1024) (b : Fin 896) : k0_pay4 (F := Ideal) acc (ix3 (0 : Fin 1) a b) = acc (ix2 a b) := by
  unfold k0_pay4
  pointwise

/-! ## The blocks a point is given -/

variable (m : (ℓ : Loc nD τ sig) → Buf (Elt Ideal) ℓ) (c : Dev nD)

theorem pt_lt (t : Fin cfg0.N) : t.val < 64 := lt_of_lt_of_eq t.isLt N_0

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![t.val / 8, 0, 0] := (by decide +kernel : ∀ t : Fin grid0.N, _)

abbrev X : FVec Ideal S8192x1024 .bf16 := m ((c : Thread nD τ).loc main_arg0)
abbrev Y : FVec Ideal S8192x7168 .bf16 := m ((c : Thread nD τ).loc main_arg1)

/-- Row `a` of point `t`'s block of the result, in the whole result. -/
def row (t : Fin cfg0.N) (a : Fin 1024) : Fin 1024 := a
/-- Column `b` of it. -/
def col (t : Fin cfg0.N) (b : Fin 896) : Fin 7168 := ⟨896 * (t.val / 8) + b.val, by have := pt_lt t; omega⟩

abbrev B0 (t : Fin cfg0.N) : FVec Ideal S1024x1024 .bf16 := iblk m c 0 t
abbrev B1 (t : Fin cfg0.N) : FVec Ideal S1024x896 .bf16 := iblk m c 1 t

theorem blk0 (t : Fin cfg0.N) (r a : Fin 1024) : B0 m c t (ix2 r a) = X m c (ix2 ⟨1024 * (t.val % 8) + r.val, by omega⟩ (row t a)) := by
  unfold B0
  blk_simp [iblk]
  rw [V_main_arg0]
  refine congrArg (X m c) ?_
  unfold row
  blk_ext [idx0]

theorem blk1 (t : Fin cfg0.N) (r : Fin 1024) (b : Fin 896) : B1 m c t (ix2 r b) = Y m c (ix2 ⟨1024 * (t.val % 8) + r.val, by omega⟩ (col t b)) := by
  unfold B1
  blk_simp [iblk]
  rw [V_main_arg1]
  refine congrArg (Y m c) ?_
  unfold col
  blk_ext [idx1]

/-- The sum of one point's products continues the sum of the terms. -/
theorem block_terms (t : Fin cfg0.N) (a : Fin 1024) (b : Fin 896) :
    Blocks.part (terms (X m c) (Y m c) (row t a) (col t b)) (1024 * (t.val % 8)) + (∑ r : Fin 1024, B0 m c t (ix2 r a) * B1 m c t (ix2 r b))
      = Blocks.part (terms (X m c) (Y m c) (row t a) (col t b)) (1024 * (t.val % 8 + 1)) :=
  Blocks.part_block _ (by omega) (by omega) _ fun r => by rw [blk0, blk1]; rfl

theorem row_congr {t u : Fin cfg0.N} (h : t.val / 8 = u.val / 8) (a : Fin 1024) : row t a = row u a := by
  rfl
theorem col_congr {t u : Fin cfg0.N} (h : t.val / 8 = u.val / 8) (b : Fin 896) : col t b = col u b := by
  unfold col; simp only [h]

/-! ## The run of points that makes one block -/

theorem outs_first (t : Fin cfg0.N) (ht : t.val % 8 = 0) : (outsAt0 m c t.val t.isLt).2 = k0_pay2 (F := Ideal) (B0 m c t) (B1 m c t) := by
  rw [outsAt0_A m c t ht (by have := pt_lt t; omega) (by have := pt_lt t; omega)]
  dsimp only
  rw [first]

theorem outs_next (t : Fin cfg0.N) (ht : t.val % 8 ≠ 0) (hl : t.val % 8 ≠ 7) :
    (outsAt0 m c t.val t.isLt).2 = k0_pay3 (F := Ideal) (B0 m c t) (B1 m c t) (outsAt0 m c (t.val - 1) (Blocks.prev t)).2 := by
  rw [outsAt0_B m c t ht (by have := pt_lt t; omega) hl]
  dsimp only
  rw [next]

theorem outs_last (t : Fin cfg0.N) (hl : t.val % 8 = 7) :
    (outsAt0 m c t.val t.isLt).1 = k0_pay4 (F := Ideal) (k0_pay3 (F := Ideal) (B0 m c t) (B1 m c t) (outsAt0 m c (t.val - 1) (Blocks.prev t)).2) := by
  rw [outsAt0_C m c t (by omega) (by have := pt_lt t; omega) hl]
  dsimp only
  rw [last]

theorem out_at (t : Fin cfg0.N) (ht : t.val % 8 = 7) (a : Fin 1024) (b : Fin 896) :
    (outsAt0 m c t.val t.isLt).1 (ix3 (0 : Fin 1) a b) = ∑ n, terms (X m c) (Y m c) (row t a) (col t b) n := by
  rw [outs_last m c t ht, pay4_at, pay3_at]
  exact Blocks.whole 8 1024 (fun n h => (outsAt0 m c n h).2 (ix2 a b)) (fun t => terms (X m c) (Y m c) (row t a) (col t b))
    (fun t => ∑ r : Fin 1024, B0 m c t (ix2 r a) * B1 m c t (ix2 r b)) (fun t u h => by rw [row_congr h, col_congr h])
    (fun t => block_terms m c t a b) (fun t h => by rw [outs_first m c t h, pay2_at])
    (fun t h h' => by rw [outs_next m c t h h', pay3_at]) rfl t ht (by decide)

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ : ∃ (a : Fin 1024) (b : Fin 896), y = ix3 (0 : Fin 1) a b := ⟨y 1, y 2, funext fun i => by
    match i with
    | ⟨0, _⟩ => exact Fin.eq_zero _
    | ⟨1, _⟩ => rfl
    | ⟨2, _⟩ => rfl⟩
  refine (out_at m c t ((flush0_2 t).mp hf) a b).trans ?_
  refine congrArg (result (X m c) (Y m c)) (?_ : ix3 ⟨t.val / 8, by have := pt_lt t; omega⟩ a b = _)
  blk_ext [idx2]

end Cert.GradInIdeal

/-! ## The reference -/

namespace Cert.GradInLinesIdeal

open Idealize.ShloMosaic Idealize.ShloMosaic.TcCoe Cert.GradInLinesIdeal.Gen

theorem lines_eq (x : FVec Ideal S8192x1024 .bf16) (y : FVec Ideal S8192x7168 .bf16) :
    (truncf .bf16 (transpose S8x1024x896 [1, 0, 2] (shapeCast S1024x8x896 (transpose S1024x7168 [1, 0] (Host.dotGeneral dot_S8192x7168_S8192x1024_S7168x1024_0_0_1_1_n_n none (extf .f32 y bitsLt_bf16_f32) (extf .f32 x bitsLt_bf16_f32)) transposes_S7168x1024_S1024x7168_1_0) shapeCasts_S1024x7168_S1024x8x896) transposes_S1024x8x896_S8x1024x896_1_0_2) bitsLt_bf16_f32 : FVec Ideal S8x1024x896 .bf16) = GradInIdeal.result x y := by
  funext i
  obtain ⟨s, a, b, rfl⟩ : ∃ (s : Fin 8) (a : Fin 1024) (b : Fin 896), i = ix3 s a b := ⟨i 0, i 1, i 2, funext fun i => by
    match i with
    | ⟨0, _⟩ => rfl
    | ⟨1, _⟩ => rfl
    | ⟨2, _⟩ => rfl⟩
  refine Eq.trans (b := ∑ n : Fin 8192, x (ix2 n a) * y (ix2 n (GradInIdeal.shardCol s b))) ?_ rfl
  pointwise [dot_S8192x7168_S8192x1024_S7168x1024_0_0_1_1_n_n]
  refine Finset.sum_congr rfl fun n _ => (mul_comm _ _).trans (congrArg (fun q => x (ix2 n a) * y (ix2 n q)) (Fin.ext ?_))
  show s.val * 896 + b.val = 896 * s.val + b.val
  omega

end Cert.GradInLinesIdeal

/-! ## The claims -/

namespace Cert.Proof

open Idealize.ShloMosaic Idealize.ShloMosaic.TcCoe Idealize.SL.Sem

/-- The reference leaves its arguments alone and declares no semaphore. -/
theorem frame_GradInLinesIdeal : Cert.quiescent_GradInLinesIdeal := fun m ρ _ =>
  (θ_run Cert.GradInLinesIdeal.defs _ _).mono
    (fun r h => ⟨fun c => (h c).2, sem_eq_zero_of_no_sems (by decide) r.2⟩)
    (Cert.GradInLinesIdeal.Value.run m ρ)

/-- The kernel and the reference leave the same array. -/
theorem equal_GradIn : Cert.algebraic_GradInIdeal_GradInLinesIdeal := by
  intro m g m' g' _ hagree
  refine ⟨fun c => GradInIdeal.result (GradInIdeal.X m c) (GradInIdeal.Y m c), ?_, ?_⟩
  · exact (θ_run Cert.GradInIdeal.defs _ _).mono (fun r h c => ⟨((h.1 c).1 2).trans (GradInIdeal.final m c), h.2.1 c⟩)
      (θ_run_and (Cert.GradInIdeal.Gen.run_main m g) (Cert.GradInIdeal.Gen.frame m g))
  · refine (θ_run Cert.GradInLinesIdeal.defs _ _).mono (fun r h c => ?_) (Cert.GradInLinesIdeal.Value.run m' g')
    obtain ⟨e0, e1⟩ := hagree c
    refine ⟨(h c).1.trans ((GradInLinesIdeal.lines_eq _ _).trans ?_), (h c).2⟩
    rw [e0, e1]

end Cert.Proof

end
-- ==== Proof.GradGateUpValue.lean ====
module

public import proofs.«01_k».proof.Proof.Gen.GradGateUpIdeal.Frame
public import proofs.«01_k».proof.Proof.Gen.GradGateUpLinesIdeal.Run
public import proofs.«01_k».proof.Proof.Common

@[expose] public section

set_option maxRecDepth 16384

noncomputable section

/-! # GradGateUp: the gradient of `w_gate_up` -/

namespace Cert.GradGateUpIdeal

open Idealize.ShloMosaic Idealize.ShloMosaic.TcCoe Idealize.SL.Sem Idealize.ShloMosaic.StableHlo Cert.GradGateUpIdeal.Gen

/-! ## The mathematics -/

/-- Element `(p, q)` of the product is the sum of these terms. -/
def terms (x : FVec Ideal S8192x1024 .bf16) (y : FVec Ideal S8192x5632 .bf16) (p : Fin 1024) (q : Fin 5632) (n : Fin 8192) : EReal :=
  x (ix2 n p) * y (ix2 n q)

/-- The product. -/
def result (x : FVec Ideal S8192x1024 .bf16) (y : FVec Ideal S8192x5632 .bf16) : FVec Ideal S1024x5632 .bf16 := fun i =>
  ∑ n, terms x y (i 0) (i 1) n

/-! ## What the body computes from a point's blocks -/

section
variable {F : FTy → Type} [FloatOps F]

/-- The first point of a run leaves its product in the scratch. -/
theorem first (c : Dev nD) (i : grid0.Coords) a3 h3 a4 h4 a5 h5 a6 h6 hc0 hc1 hc2 (x0 : Vec F S1024x1024 .bf16) (x1 : Vec F S1024x1408 .bf16) :
    sout0_A_0 c i a3 h3 a4 h4 a5 h5 a6 h6 hc0 hc1 hc2 x0 x1 = k0_pay2 x0 x1 := by
  unfold sout0_A_0
  dsimp only [kernelRun0_A]
  rw [View.read_writes_full, View.readAt_full, View.readAt_full, h3.read_unread, h4.read_unread]

/-- A later point adds its own. -/
theorem next (c : Dev nD) (i : grid0.Coords) a3 h3 a4 h4 a5 h5 a6 h6 hc0 hc1 hc2 (x0 : Vec F S1024x1024 .bf16) (x1 : Vec F S1024x1408 .bf16) (acc) :
    sout0_B_0 c i a3 h3 a4 h4 a5 h5 a6 h6 hc0 hc1 hc2 x0 x1 acc = k0_pay3 x0 x1 acc := by
  unfold sout0_B_0
  dsimp only [kernelRun0_B]
  rw [View.read_writes_full, View.readAt_full, View.readAt_full, View.readAt_full, h3.read_unread, h4.read_unread, h6.read_unread]

/-- The last point writes the whole sum out. -/
theorem last (c : Dev nD) (i : grid0.Coords) a3 h3 a4 h4 a5 h5 a6 h6 hc0 hc1 hc2 (x0 : Vec F S1024x1024 .bf16) (x1 : Vec F S1024x1408 .bf16) (acc) :
    out0_C_2 c i a3 h3 a4 h4 a5 h5 a6 h6 hc0 hc1 hc2 x0 x1 acc = k0_pay4 (k0_pay3 x0 x1 acc) := by
  unfold out0_C_2
  dsimp only [kernelRun0_C]
  unfold kernelRun0_C.sl.v12 kernelRun0_C.sl.HS0_1
  rw [View.read_writes_full, View.readCov_full, View.readAt_full, View.readAt_full, View.readAt_full, h3.read_unread, h4.read_unread, h6.read_unread]

end

theorem pay1_at (x0 : Vec Ideal S1024x1024 .bf16) (x1 : Vec Ideal S1024x1408 .bf16) (a : Fin 1024) (b : Fin 1408) : k0_pay1 (F := Ideal) x0 x1 (ix2 a b) = ∑ r : Fin 1024, x0 (ix2 r a) * x1 (ix2 r b) := by
  unfold k0_pay1
  pointwise [dot_S1024x1024_S1024x1408_S1024x1408_0_0_1_1_n_n]

theorem pay2_at (x0 : Vec Ideal S1024x1024 .bf16) (x1 : Vec Ideal S1024x1408 .bf16) (a : Fin 1024) (b : Fin 1408) : k0_pay2 (F := Ideal) x0 x1 (ix2 a b) = ∑ r : Fin 1024, x0 (ix2 r a) * x1 (ix2 r b) := by
  rw [← pay1_at]
  unfold k0_pay2
  pointwise

theorem pay3_at (x0 : Vec Ideal S1024x1024 .bf16) (x1 : Vec Ideal S1024x1408 .bf16) (acc) (a : Fin 1024) (b : Fin 1408) :
    k0_pay3 (F := Ideal) x0 x1 acc (ix2 a b) = acc (ix2 a b) + ∑ r : Fin 1024, x0 (ix2 r a) * x1 (ix2 r b) := by
  rw [← pay1_at]
  unfold k0_pay3
  pointwise

theorem pay4_at (acc : Vec Ideal S1024x1408 .f32) (a : Fin 1024) (b : Fin 1408) : k0_pay4 (F := Ideal) acc (ix2 a b) = acc (ix2 a b) := by
  unfold k0_pay4
  pointwise

/-! ## The blocks a point is given -/

variable (m : (ℓ : Loc nD τ sig) → Buf (Elt Ideal) ℓ) (c : Dev nD)

theorem pt_lt (t : Fin cfg0.N) : t.val < 32 := lt_of_lt_of_eq t.isLt N_0

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

abbrev X : FVec Ideal S8192x1024 .bf16 := m ((c : Thread nD τ).loc main_arg0)
abbrev Y : FVec Ideal S8192x5632 .bf16 := m ((c : Thread nD τ).loc main_arg1)

/-- Row `a` of point `t`'s block of the result, in the whole result. -/
def row (t : Fin cfg0.N) (a : Fin 1024) : Fin 1024 := a
/-- Column `b` of it. -/
def col (t : Fin cfg0.N) (b : Fin 1408) : Fin 5632 := ⟨1408 * (t.val / 8) + b.val, by have := pt_lt t; omega⟩

abbrev B0 (t : Fin cfg0.N) : FVec Ideal S1024x1024 .bf16 := iblk m c 0 t
abbrev B1 (t : Fin cfg0.N) : FVec Ideal S1024x1408 .bf16 := iblk m c 1 t

theorem blk0 (t : Fin cfg0.N) (r a : Fin 1024) : B0 m c t (ix2 r a) = X m c (ix2 ⟨1024 * (t.val % 8) + r.val, by omega⟩ (row t a)) := by
  unfold B0
  blk_simp [iblk]
  rw [V_main_arg0]
  refine congrArg (X m c) ?_
  unfold row
  blk_ext [idx0]

theorem blk1 (t : Fin cfg0.N) (r : Fin 1024) (b : Fin 1408) : B1 m c t (ix2 r b) = Y m c (ix2 ⟨1024 * (t.val % 8) + r.val, by omega⟩ (col t b)) := by
  unfold B1
  blk_simp [iblk]
  rw [V_main_arg1]
  refine congrArg (Y m c) ?_
  unfold col
  blk_ext [idx1]

/-- The sum of one point's products continues the sum of the terms. -/
theorem block_terms (t : Fin cfg0.N) (a : Fin 1024) (b : Fin 1408) :
    Blocks.part (terms (X m c) (Y m c) (row t a) (col t b)) (1024 * (t.val % 8)) + (∑ r : Fin 1024, B0 m c t (ix2 r a) * B1 m c t (ix2 r b))
      = Blocks.part (terms (X m c) (Y m c) (row t a) (col t b)) (1024 * (t.val % 8 + 1)) :=
  Blocks.part_block _ (by omega) (by omega) _ fun r => by rw [blk0, blk1]; rfl

theorem row_congr {t u : Fin cfg0.N} (h : t.val / 8 = u.val / 8) (a : Fin 1024) : row t a = row u a := by
  rfl
theorem col_congr {t u : Fin cfg0.N} (h : t.val / 8 = u.val / 8) (b : Fin 1408) : col t b = col u b := by
  unfold col; simp only [h]

/-! ## The run of points that makes one block -/

theorem outs_first (t : Fin cfg0.N) (ht : t.val % 8 = 0) : (outsAt0 m c t.val t.isLt).2 = k0_pay2 (F := Ideal) (B0 m c t) (B1 m c t) := by
  rw [outsAt0_A m c t ht (by have := pt_lt t; omega) (by have := pt_lt t; omega)]
  dsimp only
  rw [first]

theorem outs_next (t : Fin cfg0.N) (ht : t.val % 8 ≠ 0) (hl : t.val % 8 ≠ 7) :
    (outsAt0 m c t.val t.isLt).2 = k0_pay3 (F := Ideal) (B0 m c t) (B1 m c t) (outsAt0 m c (t.val - 1) (Blocks.prev t)).2 := by
  rw [outsAt0_B m c t ht (by have := pt_lt t; omega) hl]
  dsimp only
  rw [next]

theorem outs_last (t : Fin cfg0.N) (hl : t.val % 8 = 7) :
    (outsAt0 m c t.val t.isLt).1 = k0_pay4 (F := Ideal) (k0_pay3 (F := Ideal) (B0 m c t) (B1 m c t) (outsAt0 m c (t.val - 1) (Blocks.prev t)).2) := by
  rw [outsAt0_C m c t (by omega) (by have := pt_lt t; omega) hl]
  dsimp only
  rw [last]

theorem out_at (t : Fin cfg0.N) (ht : t.val % 8 = 7) (a : Fin 1024) (b : Fin 1408) :
    (outsAt0 m c t.val t.isLt).1 (ix2 a b) = ∑ n, terms (X m c) (Y m c) (row t a) (col t b) n := by
  rw [outs_last m c t ht, pay4_at, pay3_at]
  exact Blocks.whole 8 1024 (fun n h => (outsAt0 m c n h).2 (ix2 a b)) (fun t => terms (X m c) (Y m c) (row t a) (col t b))
    (fun t => ∑ r : Fin 1024, B0 m c t (ix2 r a) * B1 m c t (ix2 r b)) (fun t u h => by rw [row_congr h, col_congr h])
    (fun t => block_terms m c t a b) (fun t h => by rw [outs_first m c t h, pay2_at])
    (fun t h h' => by rw [outs_next m c t h h', pay3_at]) rfl t ht (by decide)

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1408 y
  refine (out_at m c t ((flush0_2 t).mp hf) a b).trans ?_
  refine congrArg (result (X m c) (Y m c)) (?_ : ix2 (row t a) (col t b) = _)
  unfold row col
  blk_ext [idx2]

end Cert.GradGateUpIdeal

/-! ## The reference -/

namespace Cert.GradGateUpLinesIdeal

open Idealize.ShloMosaic Idealize.ShloMosaic.TcCoe Cert.GradGateUpLinesIdeal.Gen

theorem dot_at (x : FVec Ideal S8192x1024 .bf16) (y : FVec Ideal S8192x5632 .bf16) (q : Fin 5632) (p : Fin 1024) :
    (Host.dotGeneral dot_S8192x5632_S8192x1024_S5632x1024_0_0_1_1_n_n none (extf .f32 y bitsLt_bf16_f32) (extf .f32 x bitsLt_bf16_f32) : FVec Ideal S5632x1024 .f32) (ix2 q p)
      = ∑ n, GradGateUpIdeal.terms x y p q n := by
  refine Eq.trans (b := ∑ n : Fin 8192, y (ix2 n q) * x (ix2 n p)) ?_ (Finset.sum_congr rfl fun n _ => mul_comm _ _)
  pointwise [dot_S8192x5632_S8192x1024_S5632x1024_0_0_1_1_n_n]

theorem lines_eq (x : FVec Ideal S8192x1024 .bf16) (y : FVec Ideal S8192x5632 .bf16) :
    (truncf .bf16 (transpose S1024x5632 [1, 0] (Host.dotGeneral dot_S8192x5632_S8192x1024_S5632x1024_0_0_1_1_n_n none (extf .f32 y bitsLt_bf16_f32) (extf .f32 x bitsLt_bf16_f32)) transposes_S5632x1024_S1024x5632_1_0) bitsLt_bf16_f32 : FVec Ideal S1024x5632 .bf16) = GradGateUpIdeal.result x y := by
  funext i
  obtain ⟨a, b, rfl⟩ := Blocks.pair 1024 5632 i
  refine Eq.trans ?_ (dot_at x y b a)
  pointwise

end Cert.GradGateUpLinesIdeal

/-! ## The claims -/

namespace Cert.Proof

open Idealize.ShloMosaic Idealize.ShloMosaic.TcCoe Idealize.SL.Sem

/-- The reference leaves its arguments alone and declares no semaphore. -/
theorem frame_GradGateUpLinesIdeal : Cert.quiescent_GradGateUpLinesIdeal := fun m ρ _ =>
  (θ_run Cert.GradGateUpLinesIdeal.defs _ _).mono
    (fun r h => ⟨fun c => (h c).2, sem_eq_zero_of_no_sems (by decide) r.2⟩)
    (Cert.GradGateUpLinesIdeal.Value.run m ρ)

/-- The kernel and the reference leave the same array. -/
theorem equal_GradGateUp : Cert.algebraic_GradGateUpIdeal_GradGateUpLinesIdeal := by
  intro m g m' g' _ hagree
  refine ⟨fun c => GradGateUpIdeal.result (GradGateUpIdeal.X m c) (GradGateUpIdeal.Y m c), ?_, ?_⟩
  · exact (θ_run Cert.GradGateUpIdeal.defs _ _).mono (fun r h c => ⟨((h.1 c).1 2).trans (GradGateUpIdeal.final m c), h.2.1 c⟩)
      (θ_run_and (Cert.GradGateUpIdeal.Gen.run_main m g) (Cert.GradGateUpIdeal.Gen.frame m g))
  · refine (θ_run Cert.GradGateUpLinesIdeal.defs _ _).mono (fun r h c => ?_) (Cert.GradGateUpLinesIdeal.Value.run m' g')
    obtain ⟨e0, e1⟩ := hagree c
    refine ⟨(h c).1.trans ((GradGateUpLinesIdeal.lines_eq _ _).trans ?_), (h c).2⟩
    rw [e0, e1]

end Cert.Proof

end
-- ==== Proof.GradDownValue.lean ====
module

public import proofs.«01_k».proof.Proof.Gen.GradDownIdeal.Frame
public import proofs.«01_k».proof.Proof.Gen.GradDownLinesIdeal.Run
public import proofs.«01_k».proof.Proof.Common

@[expose] public section

set_option maxRecDepth 16384

noncomputable section

/-! # GradDown: the gradient of `w_down` -/

namespace Cert.GradDownIdeal

open Idealize.ShloMosaic Idealize.ShloMosaic.TcCoe Idealize.SL.Sem Idealize.ShloMosaic.StableHlo Cert.GradDownIdeal.Gen

/-! ## The mathematics -/

/-- Element `(p, q)` of the product is the sum of these terms. -/
def terms (x : FVec Ideal S8192x2816 .bf16) (y : FVec Ideal S8192x1024 .bf16) (p : Fin 2816) (q : Fin 1024) (n : Fin 8192) : EReal :=
  x (ix2 n p) * y (ix2 n q)

/-- The product. -/
def result (x : FVec Ideal S8192x2816 .bf16) (y : FVec Ideal S8192x1024 .bf16) : FVec Ideal S2816x1024 .bf16 := fun i =>
  ∑ n, terms x y (i 0) (i 1) n

/-! ## What the body computes from a point's blocks -/

section
variable {F : FTy → Type} [FloatOps F]

/-- The first point of a run leaves its product in the scratch. -/
theorem first (c : Dev nD) (i : grid0.Coords) a3 h3 a4 h4 a5 h5 a6 h6 hc0 hc1 hc2 (x0 : Vec F S1024x1408 .bf16) (x1 : Vec F S1024x1024 .bf16) :
    sout0_A_0 c i a3 h3 a4 h4 a5 h5 a6 h6 hc0 hc1 hc2 x0 x1 = k0_pay2 x0 x1 := by
  unfold sout0_A_0
  dsimp only [kernelRun0_A]
  rw [View.read_writes_full, View.readAt_full, View.readAt_full, h3.read_unread, h4.read_unread]

/-- A later point adds its own. -/
theorem next (c : Dev nD) (i : grid0.Coords) a3 h3 a4 h4 a5 h5 a6 h6 hc0 hc1 hc2 (x0 : Vec F S1024x1408 .bf16) (x1 : Vec F S1024x1024 .bf16) (acc) :
    sout0_B_0 c i a3 h3 a4 h4 a5 h5 a6 h6 hc0 hc1 hc2 x0 x1 acc = k0_pay3 x0 x1 acc := by
  unfold sout0_B_0
  dsimp only [kernelRun0_B]
  rw [View.read_writes_full, View.readAt_full, View.readAt_full, View.readAt_full, h3.read_unread, h4.read_unread, h6.read_unread]

/-- The last point writes the whole sum out. -/
theorem last (c : Dev nD) (i : grid0.Coords) a3 h3 a4 h4 a5 h5 a6 h6 hc0 hc1 hc2 (x0 : Vec F S1024x1408 .bf16) (x1 : Vec F S1024x1024 .bf16) (acc) :
    out0_C_2 c i a3 h3 a4 h4 a5 h5 a6 h6 hc0 hc1 hc2 x0 x1 acc = k0_pay4 (k0_pay3 x0 x1 acc) := by
  unfold out0_C_2
  dsimp only [kernelRun0_C]
  unfold kernelRun0_C.sl.v12 kernelRun0_C.sl.HS0_1
  rw [View.read_writes_full, View.readCov_full, View.readAt_full, View.readAt_full, View.readAt_full, h3.read_unread, h4.read_unread, h6.read_unread]

end

theorem pay1_at (x0 : Vec Ideal S1024x1408 .bf16) (x1 : Vec Ideal S1024x1024 .bf16) (a : Fin 1408) (b : Fin 1024) : k0_pay1 (F := Ideal) x0 x1 (ix2 a b) = ∑ r : Fin 1024, x0 (ix2 r a) * x1 (ix2 r b) := by
  unfold k0_pay1
  pointwise [dot_S1024x1408_S1024x1024_S1408x1024_0_0_1_1_n_n]

theorem pay2_at (x0 : Vec Ideal S1024x1408 .bf16) (x1 : Vec Ideal S1024x1024 .bf16) (a : Fin 1408) (b : Fin 1024) : k0_pay2 (F := Ideal) x0 x1 (ix2 a b) = ∑ r : Fin 1024, x0 (ix2 r a) * x1 (ix2 r b) := by
  rw [← pay1_at]
  unfold k0_pay2
  pointwise

theorem pay3_at (x0 : Vec Ideal S1024x1408 .bf16) (x1 : Vec Ideal S1024x1024 .bf16) (acc) (a : Fin 1408) (b : Fin 1024) :
    k0_pay3 (F := Ideal) x0 x1 acc (ix2 a b) = acc (ix2 a b) + ∑ r : Fin 1024, x0 (ix2 r a) * x1 (ix2 r b) := by
  rw [← pay1_at]
  unfold k0_pay3
  pointwise

theorem pay4_at (acc : Vec Ideal S1408x1024 .f32) (a : Fin 1408) (b : Fin 1024) : k0_pay4 (F := Ideal) acc (ix2 a b) = acc (ix2 a b) := by
  unfold k0_pay4
  pointwise

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

abbrev X : FVec Ideal S8192x2816 .bf16 := m ((c : Thread nD τ).loc main_arg0)
abbrev Y : FVec Ideal S8192x1024 .bf16 := m ((c : Thread nD τ).loc main_arg1)

/-- Row `a` of point `t`'s block of the result, in the whole result. -/
def row (t : Fin cfg0.N) (a : Fin 1408) : Fin 2816 := ⟨1408 * (t.val / 8) + a.val, by have := pt_lt t; omega⟩
/-- Column `b` of it. -/
def col (t : Fin cfg0.N) (b : Fin 1024) : Fin 1024 := b

abbrev B0 (t : Fin cfg0.N) : FVec Ideal S1024x1408 .bf16 := iblk m c 0 t
abbrev B1 (t : Fin cfg0.N) : FVec Ideal S1024x1024 .bf16 := iblk m c 1 t

theorem blk0 (t : Fin cfg0.N) (r : Fin 1024) (a : Fin 1408) : B0 m c t (ix2 r a) = X m c (ix2 ⟨1024 * (t.val % 8) + r.val, by omega⟩ (row t a)) := by
  unfold B0
  blk_simp [iblk]
  rw [V_main_arg0]
  refine congrArg (X m c) ?_
  unfold row
  blk_ext [idx0]

theorem blk1 (t : Fin cfg0.N) (r b : Fin 1024) : B1 m c t (ix2 r b) = Y m c (ix2 ⟨1024 * (t.val % 8) + r.val, by omega⟩ (col t b)) := by
  unfold B1
  blk_simp [iblk]
  rw [V_main_arg1]
  refine congrArg (Y m c) ?_
  unfold col
  blk_ext [idx1]

/-- The sum of one point's products continues the sum of the terms. -/
theorem block_terms (t : Fin cfg0.N) (a : Fin 1408) (b : Fin 1024) :
    Blocks.part (terms (X m c) (Y m c) (row t a) (col t b)) (1024 * (t.val % 8)) + (∑ r : Fin 1024, B0 m c t (ix2 r a) * B1 m c t (ix2 r b))
      = Blocks.part (terms (X m c) (Y m c) (row t a) (col t b)) (1024 * (t.val % 8 + 1)) :=
  Blocks.part_block _ (by omega) (by omega) _ fun r => by rw [blk0, blk1]; rfl

theorem row_congr {t u : Fin cfg0.N} (h : t.val / 8 = u.val / 8) (a : Fin 1408) : row t a = row u a := by
  unfold row; simp only [h]
theorem col_congr {t u : Fin cfg0.N} (h : t.val / 8 = u.val / 8) (b : Fin 1024) : col t b = col u b := by
  rfl

/-! ## The run of points that makes one block -/

theorem outs_first (t : Fin cfg0.N) (ht : t.val % 8 = 0) : (outsAt0 m c t.val t.isLt).2 = k0_pay2 (F := Ideal) (B0 m c t) (B1 m c t) := by
  rw [outsAt0_A m c t ht (by have := pt_lt t; omega) (by have := pt_lt t; omega)]
  dsimp only
  rw [first]

theorem outs_next (t : Fin cfg0.N) (ht : t.val % 8 ≠ 0) (hl : t.val % 8 ≠ 7) :
    (outsAt0 m c t.val t.isLt).2 = k0_pay3 (F := Ideal) (B0 m c t) (B1 m c t) (outsAt0 m c (t.val - 1) (Blocks.prev t)).2 := by
  rw [outsAt0_B m c t ht (by have := pt_lt t; omega) hl]
  dsimp only
  rw [next]

theorem outs_last (t : Fin cfg0.N) (hl : t.val % 8 = 7) :
    (outsAt0 m c t.val t.isLt).1 = k0_pay4 (F := Ideal) (k0_pay3 (F := Ideal) (B0 m c t) (B1 m c t) (outsAt0 m c (t.val - 1) (Blocks.prev t)).2) := by
  rw [outsAt0_C m c t (by omega) (by have := pt_lt t; omega) hl]
  dsimp only
  rw [last]

theorem out_at (t : Fin cfg0.N) (ht : t.val % 8 = 7) (a : Fin 1408) (b : Fin 1024) :
    (outsAt0 m c t.val t.isLt).1 (ix2 a b) = ∑ n, terms (X m c) (Y m c) (row t a) (col t b) n := by
  rw [outs_last m c t ht, pay4_at, pay3_at]
  exact Blocks.whole 8 1024 (fun n h => (outsAt0 m c n h).2 (ix2 a b)) (fun t => terms (X m c) (Y m c) (row t a) (col t b))
    (fun t => ∑ r : Fin 1024, B0 m c t (ix2 r a) * B1 m c t (ix2 r b)) (fun t u h => by rw [row_congr h, col_congr h])
    (fun t => block_terms m c t a b) (fun t h => by rw [outs_first m c t h, pay2_at])
    (fun t h h' => by rw [outs_next m c t h h', pay3_at]) rfl t ht (by decide)

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1408 1024 y
  refine (out_at m c t ((flush0_2 t).mp hf) a b).trans ?_
  refine congrArg (result (X m c) (Y m c)) (?_ : ix2 (row t a) (col t b) = _)
  unfold row col
  blk_ext [idx2]

end Cert.GradDownIdeal

/-! ## The reference -/

namespace Cert.GradDownLinesIdeal

open Idealize.ShloMosaic Idealize.ShloMosaic.TcCoe Cert.GradDownLinesIdeal.Gen

theorem dot_at (x : FVec Ideal S8192x2816 .bf16) (y : FVec Ideal S8192x1024 .bf16) (q : Fin 1024) (p : Fin 2816) :
    (Host.dotGeneral dot_S8192x1024_S8192x2816_S1024x2816_0_0_1_1_n_n none (extf .f32 y bitsLt_bf16_f32) (extf .f32 x bitsLt_bf16_f32) : FVec Ideal S1024x2816 .f32) (ix2 q p)
      = ∑ n, GradDownIdeal.terms x y p q n := by
  refine Eq.trans (b := ∑ n : Fin 8192, y (ix2 n q) * x (ix2 n p)) ?_ (Finset.sum_congr rfl fun n _ => mul_comm _ _)
  pointwise [dot_S8192x1024_S8192x2816_S1024x2816_0_0_1_1_n_n]

theorem lines_eq (x : FVec Ideal S8192x2816 .bf16) (y : FVec Ideal S8192x1024 .bf16) :
    (truncf .bf16 (transpose S2816x1024 [1, 0] (Host.dotGeneral dot_S8192x1024_S8192x2816_S1024x2816_0_0_1_1_n_n none (extf .f32 y bitsLt_bf16_f32) (extf .f32 x bitsLt_bf16_f32)) transposes_S1024x2816_S2816x1024_1_0) bitsLt_bf16_f32 : FVec Ideal S2816x1024 .bf16) = GradDownIdeal.result x y := by
  funext i
  obtain ⟨a, b, rfl⟩ := Blocks.pair 2816 1024 i
  refine Eq.trans ?_ (dot_at x y b a)
  pointwise

end Cert.GradDownLinesIdeal

/-! ## The claims -/

namespace Cert.Proof

open Idealize.ShloMosaic Idealize.ShloMosaic.TcCoe Idealize.SL.Sem

/-- The reference leaves its arguments alone and declares no semaphore. -/
theorem frame_GradDownLinesIdeal : Cert.quiescent_GradDownLinesIdeal := fun m ρ _ =>
  (θ_run Cert.GradDownLinesIdeal.defs _ _).mono
    (fun r h => ⟨fun c => (h c).2, sem_eq_zero_of_no_sems (by decide) r.2⟩)
    (Cert.GradDownLinesIdeal.Value.run m ρ)

/-- The kernel and the reference leave the same array. -/
theorem equal_GradDown : Cert.algebraic_GradDownIdeal_GradDownLinesIdeal := by
  intro m g m' g' _ hagree
  refine ⟨fun c => GradDownIdeal.result (GradDownIdeal.X m c) (GradDownIdeal.Y m c), ?_, ?_⟩
  · exact (θ_run Cert.GradDownIdeal.defs _ _).mono (fun r h c => ⟨((h.1 c).1 2).trans (GradDownIdeal.final m c), h.2.1 c⟩)
      (θ_run_and (Cert.GradDownIdeal.Gen.run_main m g) (Cert.GradDownIdeal.Gen.frame m g))
  · refine (θ_run Cert.GradDownLinesIdeal.defs _ _).mono (fun r h c => ?_) (Cert.GradDownLinesIdeal.Value.run m' g')
    obtain ⟨e0, e1⟩ := hagree c
    refine ⟨(h c).1.trans ((GradDownLinesIdeal.lines_eq _ _).trans ?_), (h c).2⟩
    rw [e0, e1]

end Cert.Proof

end
-- ==== Proof.GradOutValue.lean ====
module

public import proofs.«01_k».proof.Proof.Gen.GradOutIdeal.Frame
public import proofs.«01_k».proof.Proof.Gen.GradOutLinesIdeal.Run
public import proofs.«01_k».proof.Proof.Common

@[expose] public section

set_option maxRecDepth 16384

noncomputable section

/-! # GradOut: the gradient of `w_o` -/

namespace Cert.GradOutIdeal

open Idealize.ShloMosaic Idealize.ShloMosaic.TcCoe Idealize.SL.Sem Idealize.ShloMosaic.StableHlo Cert.GradOutIdeal.Gen

/-! ## The mathematics -/

/-- Element `(p, q)` of the product is the sum of these terms. -/
def terms (x y : FVec Ideal S8192x1024 .bf16) (p q : Fin 1024) (n : Fin 8192) : EReal :=
  x (ix2 n p) * y (ix2 n q)

/-- The product. -/
def result (x y : FVec Ideal S8192x1024 .bf16) : FVec Ideal S1024x1024 .bf16 := fun i =>
  ∑ n, terms x y (i 0) (i 1) n

/-! ## What the body computes from a point's blocks -/

section
variable {F : FTy → Type} [FloatOps F]

/-- The first point of a run leaves its product in the scratch. -/
theorem first (c : Dev nD) (i : grid0.Coords) a3 h3 a4 h4 a5 h5 a6 h6 hc0 hc1 hc2 (x0 x1 : Vec F S1024x1024 .bf16) :
    sout0_A_0 c i a3 h3 a4 h4 a5 h5 a6 h6 hc0 hc1 hc2 x0 x1 = k0_pay2 x0 x1 := by
  unfold sout0_A_0
  dsimp only [kernelRun0_A]
  rw [View.read_writes_full, View.readAt_full, View.readAt_full, h3.read_unread, h4.read_unread]

/-- A later point adds its own. -/
theorem next (c : Dev nD) (i : grid0.Coords) a3 h3 a4 h4 a5 h5 a6 h6 hc0 hc1 hc2 (x0 x1 : Vec F S1024x1024 .bf16) (acc) :
    sout0_B_0 c i a3 h3 a4 h4 a5 h5 a6 h6 hc0 hc1 hc2 x0 x1 acc = k0_pay3 x0 x1 acc := by
  unfold sout0_B_0
  dsimp only [kernelRun0_B]
  rw [View.read_writes_full, View.readAt_full, View.readAt_full, View.readAt_full, h3.read_unread, h4.read_unread, h6.read_unread]

/-- The last point writes the whole sum out. -/
theorem last (c : Dev nD) (i : grid0.Coords) a3 h3 a4 h4 a5 h5 a6 h6 hc0 hc1 hc2 (x0 x1 : Vec F S1024x1024 .bf16) (acc) :
    out0_C_2 c i a3 h3 a4 h4 a5 h5 a6 h6 hc0 hc1 hc2 x0 x1 acc = k0_pay4 (k0_pay3 x0 x1 acc) := by
  unfold out0_C_2
  dsimp only [kernelRun0_C]
  unfold kernelRun0_C.sl.v12 kernelRun0_C.sl.HS0_1
  rw [View.read_writes_full, View.readCov_full, View.readAt_full, View.readAt_full, View.readAt_full, h3.read_unread, h4.read_unread, h6.read_unread]

end

theorem pay1_at (x0 x1 : Vec Ideal S1024x1024 .bf16) (a b : Fin 1024) : k0_pay1 (F := Ideal) x0 x1 (ix2 a b) = ∑ r : Fin 1024, x0 (ix2 r a) * x1 (ix2 r b) := by
  unfold k0_pay1
  pointwise [dot_S1024x1024_S1024x1024_S1024x1024_0_0_1_1_n_n]

theorem pay2_at (x0 x1 : Vec Ideal S1024x1024 .bf16) (a b : Fin 1024) : k0_pay2 (F := Ideal) x0 x1 (ix2 a b) = ∑ r : Fin 1024, x0 (ix2 r a) * x1 (ix2 r b) := by
  rw [← pay1_at]
  unfold k0_pay2
  pointwise

theorem pay3_at (x0 x1 : Vec Ideal S1024x1024 .bf16) (acc) (a b : Fin 1024) :
    k0_pay3 (F := Ideal) x0 x1 acc (ix2 a b) = acc (ix2 a b) + ∑ r : Fin 1024, x0 (ix2 r a) * x1 (ix2 r b) := by
  rw [← pay1_at]
  unfold k0_pay3
  pointwise

theorem pay4_at (acc : Vec Ideal S1024x1024 .f32) (a b : Fin 1024) : k0_pay4 (F := Ideal) acc (ix2 a b) = acc (ix2 a b) := by
  unfold k0_pay4
  pointwise

/-! ## The blocks a point is given -/

variable (m : (ℓ : Loc nD τ sig) → Buf (Elt Ideal) ℓ) (c : Dev nD)

theorem pt_lt (t : Fin cfg0.N) : t.val < 8 := lt_of_lt_of_eq t.isLt N_0

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

abbrev X : FVec Ideal S8192x1024 .bf16 := m ((c : Thread nD τ).loc main_arg0)
abbrev Y : FVec Ideal S8192x1024 .bf16 := m ((c : Thread nD τ).loc main_arg1)

/-- Row `a` of point `t`'s block of the result, in the whole result. -/
def row (t : Fin cfg0.N) (a : Fin 1024) : Fin 1024 := a
/-- Column `b` of it. -/
def col (t : Fin cfg0.N) (b : Fin 1024) : Fin 1024 := b

abbrev B0 (t : Fin cfg0.N) : FVec Ideal S1024x1024 .bf16 := iblk m c 0 t
abbrev B1 (t : Fin cfg0.N) : FVec Ideal S1024x1024 .bf16 := iblk m c 1 t

theorem blk0 (t : Fin cfg0.N) (r a : Fin 1024) : B0 m c t (ix2 r a) = X m c (ix2 ⟨1024 * (t.val % 8) + r.val, by omega⟩ (row t a)) := by
  unfold B0
  blk_simp [iblk]
  rw [V_main_arg0]
  refine congrArg (X m c) ?_
  unfold row
  blk_ext [idx0]

theorem blk1 (t : Fin cfg0.N) (r b : Fin 1024) : B1 m c t (ix2 r b) = Y m c (ix2 ⟨1024 * (t.val % 8) + r.val, by omega⟩ (col t b)) := by
  unfold B1
  blk_simp [iblk]
  rw [V_main_arg1]
  refine congrArg (Y m c) ?_
  unfold col
  blk_ext [idx1]

/-- The sum of one point's products continues the sum of the terms. -/
theorem block_terms (t : Fin cfg0.N) (a b : Fin 1024) :
    Blocks.part (terms (X m c) (Y m c) (row t a) (col t b)) (1024 * (t.val % 8)) + (∑ r : Fin 1024, B0 m c t (ix2 r a) * B1 m c t (ix2 r b))
      = Blocks.part (terms (X m c) (Y m c) (row t a) (col t b)) (1024 * (t.val % 8 + 1)) :=
  Blocks.part_block _ (by omega) (by omega) _ fun r => by rw [blk0, blk1]; rfl

theorem row_congr {t u : Fin cfg0.N} (h : t.val / 8 = u.val / 8) (a : Fin 1024) : row t a = row u a := by
  rfl
theorem col_congr {t u : Fin cfg0.N} (h : t.val / 8 = u.val / 8) (b : Fin 1024) : col t b = col u b := by
  rfl

/-! ## The run of points that makes one block -/

theorem outs_first (t : Fin cfg0.N) (ht : t.val % 8 = 0) : (outsAt0 m c t.val t.isLt).2 = k0_pay2 (F := Ideal) (B0 m c t) (B1 m c t) := by
  rw [outsAt0_A m c t ht (by have := pt_lt t; omega) (by have := pt_lt t; omega)]
  dsimp only
  rw [first]

theorem outs_next (t : Fin cfg0.N) (ht : t.val % 8 ≠ 0) (hl : t.val % 8 ≠ 7) :
    (outsAt0 m c t.val t.isLt).2 = k0_pay3 (F := Ideal) (B0 m c t) (B1 m c t) (outsAt0 m c (t.val - 1) (Blocks.prev t)).2 := by
  rw [outsAt0_B m c t ht (by have := pt_lt t; omega) hl]
  dsimp only
  rw [next]

theorem outs_last (t : Fin cfg0.N) (hl : t.val % 8 = 7) :
    (outsAt0 m c t.val t.isLt).1 = k0_pay4 (F := Ideal) (k0_pay3 (F := Ideal) (B0 m c t) (B1 m c t) (outsAt0 m c (t.val - 1) (Blocks.prev t)).2) := by
  rw [outsAt0_C m c t (by omega) (by have := pt_lt t; omega) hl]
  dsimp only
  rw [last]

theorem out_at (t : Fin cfg0.N) (ht : t.val % 8 = 7) (a b : Fin 1024) :
    (outsAt0 m c t.val t.isLt).1 (ix2 a b) = ∑ n, terms (X m c) (Y m c) (row t a) (col t b) n := by
  rw [outs_last m c t ht, pay4_at, pay3_at]
  exact Blocks.whole 8 1024 (fun n h => (outsAt0 m c n h).2 (ix2 a b)) (fun t => terms (X m c) (Y m c) (row t a) (col t b))
    (fun t => ∑ r : Fin 1024, B0 m c t (ix2 r a) * B1 m c t (ix2 r b)) (fun t u h => by rw [row_congr h, col_congr h])
    (fun t => block_terms m c t a b) (fun t h => by rw [outs_first m c t h, pay2_at])
    (fun t h h' => by rw [outs_next m c t h h', pay3_at]) rfl t ht (by decide)

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1024 y
  refine (out_at m c t ((flush0_2 t).mp hf) a b).trans ?_
  refine congrArg (result (X m c) (Y m c)) (?_ : ix2 (row t a) (col t b) = _)
  unfold row col
  blk_ext [idx2]

end Cert.GradOutIdeal

/-! ## The reference -/

namespace Cert.GradOutLinesIdeal

open Idealize.ShloMosaic Idealize.ShloMosaic.TcCoe Cert.GradOutLinesIdeal.Gen

theorem dot_at (x y : FVec Ideal S8192x1024 .bf16) (q p : Fin 1024) :
    (Host.dotGeneral dot_S8192x1024_S8192x1024_S1024x1024_0_0_1_1_n_n none (extf .f32 y bitsLt_bf16_f32) (extf .f32 x bitsLt_bf16_f32) : FVec Ideal S1024x1024 .f32) (ix2 q p)
      = ∑ n, GradOutIdeal.terms x y p q n := by
  refine Eq.trans (b := ∑ n : Fin 8192, y (ix2 n q) * x (ix2 n p)) ?_ (Finset.sum_congr rfl fun n _ => mul_comm _ _)
  pointwise [dot_S8192x1024_S8192x1024_S1024x1024_0_0_1_1_n_n]

theorem lines_eq (x y : FVec Ideal S8192x1024 .bf16) :
    (truncf .bf16 (transpose S1024x1024 [1, 0] (Host.dotGeneral dot_S8192x1024_S8192x1024_S1024x1024_0_0_1_1_n_n none (extf .f32 y bitsLt_bf16_f32) (extf .f32 x bitsLt_bf16_f32)) transposes_S1024x1024_S1024x1024_1_0) bitsLt_bf16_f32 : FVec Ideal S1024x1024 .bf16) = GradOutIdeal.result x y := by
  funext i
  obtain ⟨a, b, rfl⟩ := Blocks.pair 1024 1024 i
  refine Eq.trans ?_ (dot_at x y b a)
  pointwise

end Cert.GradOutLinesIdeal

/-! ## The claims -/

namespace Cert.Proof

open Idealize.ShloMosaic Idealize.ShloMosaic.TcCoe Idealize.SL.Sem

/-- The reference leaves its arguments alone and declares no semaphore. -/
theorem frame_GradOutLinesIdeal : Cert.quiescent_GradOutLinesIdeal := fun m ρ _ =>
  (θ_run Cert.GradOutLinesIdeal.defs _ _).mono
    (fun r h => ⟨fun c => (h c).2, sem_eq_zero_of_no_sems (by decide) r.2⟩)
    (Cert.GradOutLinesIdeal.Value.run m ρ)

/-- The kernel and the reference leave the same array. -/
theorem equal_GradOut : Cert.algebraic_GradOutIdeal_GradOutLinesIdeal := by
  intro m g m' g' _ hagree
  refine ⟨fun c => GradOutIdeal.result (GradOutIdeal.X m c) (GradOutIdeal.Y m c), ?_, ?_⟩
  · exact (θ_run Cert.GradOutIdeal.defs _ _).mono (fun r h c => ⟨((h.1 c).1 2).trans (GradOutIdeal.final m c), h.2.1 c⟩)
      (θ_run_and (Cert.GradOutIdeal.Gen.run_main m g) (Cert.GradOutIdeal.Gen.frame m g))
  · refine (θ_run Cert.GradOutLinesIdeal.defs _ _).mono (fun r h c => ?_) (Cert.GradOutLinesIdeal.Value.run m' g')
    obtain ⟨e0, e1⟩ := hagree c
    refine ⟨(h c).1.trans ((GradOutLinesIdeal.lines_eq _ _).trans ?_), (h c).2⟩
    rw [e0, e1]

end Cert.Proof

end
-- ==== Proof.GradBranchValue.lean ====
module

public import proofs.«01_k».proof.Proof.Gen.GradBranchIdeal.Frame
public import proofs.«01_k».proof.Proof.Gen.GradBranchLinesIdeal.Run
public import proofs.«01_k».proof.Proof.Common

@[expose] public section

set_option maxRecDepth 16384

noncomputable section

/-! # GradBranch: the gradient of a branch's output weight -/

namespace Cert.GradBranchIdeal

open Idealize.ShloMosaic Idealize.ShloMosaic.TcCoe Idealize.SL.Sem Idealize.ShloMosaic.StableHlo Cert.GradBranchIdeal.Gen

/-! ## The mathematics -/

/-- Element `(p, q)` of the product is the sum of these terms. -/
def terms (x : FVec Ideal S8192x512 .bf16) (y : FVec Ideal S8192x1024 .bf16) (p : Fin 512) (q : Fin 1024) (n : Fin 8192) : EReal :=
  x (ix2 n p) * y (ix2 n q)

/-- The product. -/
def result (x : FVec Ideal S8192x512 .bf16) (y : FVec Ideal S8192x1024 .bf16) : FVec Ideal S512x1024 .bf16 := fun i =>
  ∑ n, terms x y (i 0) (i 1) n

/-! ## What the body computes from a point's blocks -/

section
variable {F : FTy → Type} [FloatOps F]

/-- The first point of a run leaves its product in the scratch. -/
theorem first (c : Dev nD) (i : grid0.Coords) a3 h3 a4 h4 a5 h5 a6 h6 hc0 hc1 hc2 (x0 : Vec F S1024x512 .bf16) (x1 : Vec F S1024x1024 .bf16) :
    sout0_A_0 c i a3 h3 a4 h4 a5 h5 a6 h6 hc0 hc1 hc2 x0 x1 = k0_pay2 x0 x1 := by
  unfold sout0_A_0
  dsimp only [kernelRun0_A]
  rw [View.read_writes_full, View.readAt_full, View.readAt_full, h3.read_unread, h4.read_unread]

/-- A later point adds its own. -/
theorem next (c : Dev nD) (i : grid0.Coords) a3 h3 a4 h4 a5 h5 a6 h6 hc0 hc1 hc2 (x0 : Vec F S1024x512 .bf16) (x1 : Vec F S1024x1024 .bf16) (acc) :
    sout0_B_0 c i a3 h3 a4 h4 a5 h5 a6 h6 hc0 hc1 hc2 x0 x1 acc = k0_pay3 x0 x1 acc := by
  unfold sout0_B_0
  dsimp only [kernelRun0_B]
  rw [View.read_writes_full, View.readAt_full, View.readAt_full, View.readAt_full, h3.read_unread, h4.read_unread, h6.read_unread]

/-- The last point writes the whole sum out. -/
theorem last (c : Dev nD) (i : grid0.Coords) a3 h3 a4 h4 a5 h5 a6 h6 hc0 hc1 hc2 (x0 : Vec F S1024x512 .bf16) (x1 : Vec F S1024x1024 .bf16) (acc) :
    out0_C_2 c i a3 h3 a4 h4 a5 h5 a6 h6 hc0 hc1 hc2 x0 x1 acc = k0_pay4 (k0_pay3 x0 x1 acc) := by
  unfold out0_C_2
  dsimp only [kernelRun0_C]
  unfold kernelRun0_C.sl.v12 kernelRun0_C.sl.HS0_1
  rw [View.read_writes_full, View.readCov_full, View.readAt_full, View.readAt_full, View.readAt_full, h3.read_unread, h4.read_unread, h6.read_unread]

end

theorem pay1_at (x0 : Vec Ideal S1024x512 .bf16) (x1 : Vec Ideal S1024x1024 .bf16) (a : Fin 512) (b : Fin 1024) : k0_pay1 (F := Ideal) x0 x1 (ix2 a b) = ∑ r : Fin 1024, x0 (ix2 r a) * x1 (ix2 r b) := by
  unfold k0_pay1
  pointwise [dot_S1024x512_S1024x1024_S512x1024_0_0_1_1_n_n]

theorem pay2_at (x0 : Vec Ideal S1024x512 .bf16) (x1 : Vec Ideal S1024x1024 .bf16) (a : Fin 512) (b : Fin 1024) : k0_pay2 (F := Ideal) x0 x1 (ix2 a b) = ∑ r : Fin 1024, x0 (ix2 r a) * x1 (ix2 r b) := by
  rw [← pay1_at]
  unfold k0_pay2
  pointwise

theorem pay3_at (x0 : Vec Ideal S1024x512 .bf16) (x1 : Vec Ideal S1024x1024 .bf16) (acc) (a : Fin 512) (b : Fin 1024) :
    k0_pay3 (F := Ideal) x0 x1 acc (ix2 a b) = acc (ix2 a b) + ∑ r : Fin 1024, x0 (ix2 r a) * x1 (ix2 r b) := by
  rw [← pay1_at]
  unfold k0_pay3
  pointwise

theorem pay4_at (acc : Vec Ideal S512x1024 .f32) (a : Fin 512) (b : Fin 1024) : k0_pay4 (F := Ideal) acc (ix2 a b) = acc (ix2 a b) := by
  unfold k0_pay4
  pointwise

/-! ## The blocks a point is given -/

variable (m : (ℓ : Loc nD τ sig) → Buf (Elt Ideal) ℓ) (c : Dev nD)

theorem pt_lt (t : Fin cfg0.N) : t.val < 8 := lt_of_lt_of_eq t.isLt N_0

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

abbrev X : FVec Ideal S8192x512 .bf16 := m ((c : Thread nD τ).loc main_arg0)
abbrev Y : FVec Ideal S8192x1024 .bf16 := m ((c : Thread nD τ).loc main_arg1)

/-- Row `a` of point `t`'s block of the result, in the whole result. -/
def row (t : Fin cfg0.N) (a : Fin 512) : Fin 512 := a
/-- Column `b` of it. -/
def col (t : Fin cfg0.N) (b : Fin 1024) : Fin 1024 := b

abbrev B0 (t : Fin cfg0.N) : FVec Ideal S1024x512 .bf16 := iblk m c 0 t
abbrev B1 (t : Fin cfg0.N) : FVec Ideal S1024x1024 .bf16 := iblk m c 1 t

theorem blk0 (t : Fin cfg0.N) (r : Fin 1024) (a : Fin 512) : B0 m c t (ix2 r a) = X m c (ix2 ⟨1024 * (t.val % 8) + r.val, by omega⟩ (row t a)) := by
  unfold B0
  blk_simp [iblk]
  rw [V_main_arg0]
  refine congrArg (X m c) ?_
  unfold row
  blk_ext [idx0]

theorem blk1 (t : Fin cfg0.N) (r b : Fin 1024) : B1 m c t (ix2 r b) = Y m c (ix2 ⟨1024 * (t.val % 8) + r.val, by omega⟩ (col t b)) := by
  unfold B1
  blk_simp [iblk]
  rw [V_main_arg1]
  refine congrArg (Y m c) ?_
  unfold col
  blk_ext [idx1]

/-- The sum of one point's products continues the sum of the terms. -/
theorem block_terms (t : Fin cfg0.N) (a : Fin 512) (b : Fin 1024) :
    Blocks.part (terms (X m c) (Y m c) (row t a) (col t b)) (1024 * (t.val % 8)) + (∑ r : Fin 1024, B0 m c t (ix2 r a) * B1 m c t (ix2 r b))
      = Blocks.part (terms (X m c) (Y m c) (row t a) (col t b)) (1024 * (t.val % 8 + 1)) :=
  Blocks.part_block _ (by omega) (by omega) _ fun r => by rw [blk0, blk1]; rfl

theorem row_congr {t u : Fin cfg0.N} (h : t.val / 8 = u.val / 8) (a : Fin 512) : row t a = row u a := by
  rfl
theorem col_congr {t u : Fin cfg0.N} (h : t.val / 8 = u.val / 8) (b : Fin 1024) : col t b = col u b := by
  rfl

/-! ## The run of points that makes one block -/

theorem outs_first (t : Fin cfg0.N) (ht : t.val % 8 = 0) : (outsAt0 m c t.val t.isLt).2 = k0_pay2 (F := Ideal) (B0 m c t) (B1 m c t) := by
  rw [outsAt0_A m c t ht (by have := pt_lt t; omega) (by have := pt_lt t; omega)]
  dsimp only
  rw [first]

theorem outs_next (t : Fin cfg0.N) (ht : t.val % 8 ≠ 0) (hl : t.val % 8 ≠ 7) :
    (outsAt0 m c t.val t.isLt).2 = k0_pay3 (F := Ideal) (B0 m c t) (B1 m c t) (outsAt0 m c (t.val - 1) (Blocks.prev t)).2 := by
  rw [outsAt0_B m c t ht (by have := pt_lt t; omega) hl]
  dsimp only
  rw [next]

theorem outs_last (t : Fin cfg0.N) (hl : t.val % 8 = 7) :
    (outsAt0 m c t.val t.isLt).1 = k0_pay4 (F := Ideal) (k0_pay3 (F := Ideal) (B0 m c t) (B1 m c t) (outsAt0 m c (t.val - 1) (Blocks.prev t)).2) := by
  rw [outsAt0_C m c t (by omega) (by have := pt_lt t; omega) hl]
  dsimp only
  rw [last]

theorem out_at (t : Fin cfg0.N) (ht : t.val % 8 = 7) (a : Fin 512) (b : Fin 1024) :
    (outsAt0 m c t.val t.isLt).1 (ix2 a b) = ∑ n, terms (X m c) (Y m c) (row t a) (col t b) n := by
  rw [outs_last m c t ht, pay4_at, pay3_at]
  exact Blocks.whole 8 1024 (fun n h => (outsAt0 m c n h).2 (ix2 a b)) (fun t => terms (X m c) (Y m c) (row t a) (col t b))
    (fun t => ∑ r : Fin 1024, B0 m c t (ix2 r a) * B1 m c t (ix2 r b)) (fun t u h => by rw [row_congr h, col_congr h])
    (fun t => block_terms m c t a b) (fun t h => by rw [outs_first m c t h, pay2_at])
    (fun t h h' => by rw [outs_next m c t h h', pay3_at]) rfl t ht (by decide)

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 512 1024 y
  refine (out_at m c t ((flush0_2 t).mp hf) a b).trans ?_
  refine congrArg (result (X m c) (Y m c)) (?_ : ix2 (row t a) (col t b) = _)
  unfold row col
  blk_ext [idx2]

end Cert.GradBranchIdeal

/-! ## The reference -/

namespace Cert.GradBranchLinesIdeal

open Idealize.ShloMosaic Idealize.ShloMosaic.TcCoe Cert.GradBranchLinesIdeal.Gen

theorem dot_at (x : FVec Ideal S8192x512 .bf16) (y : FVec Ideal S8192x1024 .bf16) (q : Fin 1024) (p : Fin 512) :
    (Host.dotGeneral dot_S8192x1024_S8192x512_S1024x512_0_0_1_1_n_n none (extf .f32 y bitsLt_bf16_f32) (extf .f32 x bitsLt_bf16_f32) : FVec Ideal S1024x512 .f32) (ix2 q p)
      = ∑ n, GradBranchIdeal.terms x y p q n := by
  refine Eq.trans (b := ∑ n : Fin 8192, y (ix2 n q) * x (ix2 n p)) ?_ (Finset.sum_congr rfl fun n _ => mul_comm _ _)
  pointwise [dot_S8192x1024_S8192x512_S1024x512_0_0_1_1_n_n]

theorem lines_eq (x : FVec Ideal S8192x512 .bf16) (y : FVec Ideal S8192x1024 .bf16) :
    (truncf .bf16 (transpose S512x1024 [1, 0] (Host.dotGeneral dot_S8192x1024_S8192x512_S1024x512_0_0_1_1_n_n none (extf .f32 y bitsLt_bf16_f32) (extf .f32 x bitsLt_bf16_f32)) transposes_S1024x512_S512x1024_1_0) bitsLt_bf16_f32 : FVec Ideal S512x1024 .bf16) = GradBranchIdeal.result x y := by
  funext i
  obtain ⟨a, b, rfl⟩ := Blocks.pair 512 1024 i
  refine Eq.trans ?_ (dot_at x y b a)
  pointwise

end Cert.GradBranchLinesIdeal

/-! ## The claims -/

namespace Cert.Proof

open Idealize.ShloMosaic Idealize.ShloMosaic.TcCoe Idealize.SL.Sem

/-- The reference leaves its arguments alone and declares no semaphore. -/
theorem frame_GradBranchLinesIdeal : Cert.quiescent_GradBranchLinesIdeal := fun m ρ _ =>
  (θ_run Cert.GradBranchLinesIdeal.defs _ _).mono
    (fun r h => ⟨fun c => (h c).2, sem_eq_zero_of_no_sems (by decide) r.2⟩)
    (Cert.GradBranchLinesIdeal.Value.run m ρ)

/-- The kernel and the reference leave the same array. -/
theorem equal_GradBranch : Cert.algebraic_GradBranchIdeal_GradBranchLinesIdeal := by
  intro m g m' g' _ hagree
  refine ⟨fun c => GradBranchIdeal.result (GradBranchIdeal.X m c) (GradBranchIdeal.Y m c), ?_, ?_⟩
  · exact (θ_run Cert.GradBranchIdeal.defs _ _).mono (fun r h c => ⟨((h.1 c).1 2).trans (GradBranchIdeal.final m c), h.2.1 c⟩)
      (θ_run_and (Cert.GradBranchIdeal.Gen.run_main m g) (Cert.GradBranchIdeal.Gen.frame m g))
  · refine (θ_run Cert.GradBranchLinesIdeal.defs _ _).mono (fun r h c => ?_) (Cert.GradBranchLinesIdeal.Value.run m' g')
    obtain ⟨e0, e1⟩ := hagree c
    refine ⟨(h c).1.trans ((GradBranchLinesIdeal.lines_eq _ _).trans ?_), (h c).2⟩
    rw [e0, e1]

end Cert.Proof

end
-- ==== Proof.GradFfnValue.lean ====
module

public import proofs.«01_k».proof.Proof.Gen.GradFfnIdeal.Frame
public import proofs.«01_k».proof.Proof.Gen.GradFfnLinesIdeal.Run
public import proofs.«01_k».proof.Proof.Common

@[expose] public section

set_option maxRecDepth 16384

noncomputable section

/-! # GradFfn: the gradient of the feed-forward block's input -/

namespace Cert.GradFfnIdeal

open Idealize.ShloMosaic Idealize.ShloMosaic.TcCoe Idealize.SL.Sem Idealize.ShloMosaic.StableHlo Cert.GradFfnIdeal.Gen

/-! ## The mathematics -/

/-- Element `(p, q)` of the product is the sum of these terms. -/
def terms (x : FVec Ideal S8192x5632 .bf16) (y : FVec Ideal S1024x5632 .bf16) (p : Fin 8192) (q : Fin 1024) (n : Fin 5632) : EReal :=
  x (ix2 p n) * y (ix2 q n)

/-- The product. -/
def result (x : FVec Ideal S8192x5632 .bf16) (y : FVec Ideal S1024x5632 .bf16) : FVec Ideal S8192x1024 .bf16 := fun i =>
  ∑ n, terms x y (i 0) (i 1) n

/-! ## What the body computes from a point's blocks -/

section
variable {F : FTy → Type} [FloatOps F]

/-- The first point of a run leaves its product in the scratch. -/
theorem first (c : Dev nD) (i : grid0.Coords) a3 h3 a4 h4 a5 h5 a6 h6 hc0 hc1 hc2 (x0 : Vec F S1024x1408 .bf16) (x1 : Vec F S1408x1024 .bf16) :
    sout0_A_0 c i a3 h3 a4 h4 a5 h5 a6 h6 hc0 hc1 hc2 x0 x1 = k0_pay2 x0 x1 := by
  unfold sout0_A_0
  dsimp only [kernelRun0_A]
  rw [View.read_writes_full, View.readAt_full, View.readAt_full, h3.read_unread, h4.read_unread]

/-- A later point adds its own. -/
theorem next (c : Dev nD) (i : grid0.Coords) a3 h3 a4 h4 a5 h5 a6 h6 hc0 hc1 hc2 (x0 : Vec F S1024x1408 .bf16) (x1 : Vec F S1408x1024 .bf16) (acc) :
    sout0_B_0 c i a3 h3 a4 h4 a5 h5 a6 h6 hc0 hc1 hc2 x0 x1 acc = k0_pay3 x0 x1 acc := by
  unfold sout0_B_0
  dsimp only [kernelRun0_B]
  rw [View.read_writes_full, View.readAt_full, View.readAt_full, View.readAt_full, h3.read_unread, h4.read_unread, h6.read_unread]

/-- The last point writes the whole sum out. -/
theorem last (c : Dev nD) (i : grid0.Coords) a3 h3 a4 h4 a5 h5 a6 h6 hc0 hc1 hc2 (x0 : Vec F S1024x1408 .bf16) (x1 : Vec F S1408x1024 .bf16) (acc) :
    out0_C_2 c i a3 h3 a4 h4 a5 h5 a6 h6 hc0 hc1 hc2 x0 x1 acc = k0_pay4 x0 x1 acc := by
  unfold out0_C_2
  dsimp only [kernelRun0_C]
  rw [View.read_writes_full, View.readAt_full, View.readAt_full, View.readAt_full, h3.read_unread, h4.read_unread, h6.read_unread]

end

theorem pay1_at (x0 : Vec Ideal S1024x1408 .bf16) (x1 : Vec Ideal S1408x1024 .bf16) (a b : Fin 1024) : k0_pay1 (F := Ideal) x0 x1 (ix2 a b) = ∑ r : Fin 1408, x0 (ix2 a r) * x1 (ix2 r b) := by
  unfold k0_pay1
  pointwise [dot_S1024x1408_S1408x1024_S1024x1024_1_0_0_1_n_n]

theorem pay2_at (x0 : Vec Ideal S1024x1408 .bf16) (x1 : Vec Ideal S1408x1024 .bf16) (a b : Fin 1024) : k0_pay2 (F := Ideal) x0 x1 (ix2 a b) = ∑ r : Fin 1408, x0 (ix2 a r) * x1 (ix2 r b) := by
  rw [← pay1_at]
  unfold k0_pay2
  pointwise

theorem pay3_at (x0 : Vec Ideal S1024x1408 .bf16) (x1 : Vec Ideal S1408x1024 .bf16) (acc) (a b : Fin 1024) :
    k0_pay3 (F := Ideal) x0 x1 acc (ix2 a b) = acc (ix2 a b) + ∑ r : Fin 1408, x0 (ix2 a r) * x1 (ix2 r b) := by
  rw [← pay1_at]
  unfold k0_pay3
  pointwise

theorem pay4_at (x0 : Vec Ideal S1024x1408 .bf16) (x1 : Vec Ideal S1408x1024 .bf16) (acc) (a b : Fin 1024) :
    k0_pay4 (F := Ideal) x0 x1 acc (ix2 a b) = acc (ix2 a b) + ∑ r : Fin 1408, x0 (ix2 a r) * x1 (ix2 r b) := by
  rw [← pay1_at]
  unfold k0_pay4
  pointwise

/-! ## The blocks a point is given -/

variable (m : (ℓ : Loc nD τ sig) → Buf (Elt Ideal) ℓ) (c : Dev nD)

theorem pt_lt (t : Fin cfg0.N) : t.val < 32 := lt_of_lt_of_eq t.isLt N_0

theorem idx0 : ∀ t : Fin cfg0.N, win0_0.index t = ![t.val / 4, t.val % 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

abbrev X : FVec Ideal S8192x5632 .bf16 := m ((c : Thread nD τ).loc main_arg0)
abbrev Y : FVec Ideal S1024x5632 .bf16 := m ((c : Thread nD τ).loc main_arg1)

/-- Row `a` of point `t`'s block of the result, in the whole result. -/
def row (t : Fin cfg0.N) (a : Fin 1024) : Fin 8192 := ⟨1024 * (t.val / 4) + a.val, by have := pt_lt t; omega⟩
/-- Column `b` of it. -/
def col (t : Fin cfg0.N) (b : Fin 1024) : Fin 1024 := b

abbrev B0 (t : Fin cfg0.N) : FVec Ideal S1024x1408 .bf16 := iblk m c 0 t
abbrev B1 (t : Fin cfg0.N) : FVec Ideal S1408x1024 .bf16 := iblk m c 1 t

theorem blk0 (t : Fin cfg0.N) (r : Fin 1408) (a : Fin 1024) : B0 m c t (ix2 a r) = X m c (ix2 (row t a) ⟨1408 * (t.val % 4) + r.val, by omega⟩) := by
  unfold B0
  blk_simp [iblk]
  rw [V_main_arg0]
  refine congrArg (X m c) ?_
  unfold row
  blk_ext [idx0]

theorem V_v0 : V m c main_v0 = transpose S5632x1024 [1, 0] (Y m c) transposes_S1024x5632_S5632x1024_1_0 := by
  unfold V
  simp only [hostOps0]
  after_reads_simp

theorem turned (i : Fin 5632) (j : Fin 1024) : (V m c main_v0 : FVec Ideal S5632x1024 .bf16) (ix2 i j) = Y m c (ix2 j i) := by
  rw [V_v0]
  pointwise

theorem blk1 (t : Fin cfg0.N) (r : Fin 1408) (b : Fin 1024) : B1 m c t (ix2 r b) = Y m c (ix2 (col t b) ⟨1408 * (t.val % 4) + r.val, by omega⟩) := by
  rw [← turned]
  unfold B1
  blk_simp [iblk]
  refine congrArg (V m c main_v0) ?_
  unfold col
  blk_ext [idx1]

/-- The sum of one point's products continues the sum of the terms. -/
theorem block_terms (t : Fin cfg0.N) (a b : Fin 1024) :
    Blocks.part (terms (X m c) (Y m c) (row t a) (col t b)) (1408 * (t.val % 4)) + (∑ r : Fin 1408, B0 m c t (ix2 a r) * B1 m c t (ix2 r b))
      = Blocks.part (terms (X m c) (Y m c) (row t a) (col t b)) (1408 * (t.val % 4 + 1)) :=
  Blocks.part_block _ (by omega) (by omega) _ fun r => by rw [blk0, blk1]; rfl

theorem row_congr {t u : Fin cfg0.N} (h : t.val / 4 = u.val / 4) (a : Fin 1024) : row t a = row u a := by
  unfold row; simp only [h]
theorem col_congr {t u : Fin cfg0.N} (h : t.val / 4 = u.val / 4) (b : Fin 1024) : col t b = col u b := by
  rfl

/-! ## The run of points that makes one block -/

theorem outs_first (t : Fin cfg0.N) (ht : t.val % 4 = 0) : (outsAt0 m c t.val t.isLt).2 = k0_pay2 (F := Ideal) (B0 m c t) (B1 m c t) := by
  rw [outsAt0_A m c t ht (by have := pt_lt t; omega) (by have := pt_lt t; omega)]
  dsimp only
  rw [first]

theorem outs_next (t : Fin cfg0.N) (ht : t.val % 4 ≠ 0) (hl : t.val % 4 ≠ 3) :
    (outsAt0 m c t.val t.isLt).2 = k0_pay3 (F := Ideal) (B0 m c t) (B1 m c t) (outsAt0 m c (t.val - 1) (Blocks.prev t)).2 := by
  rw [outsAt0_B m c t ht (by have := pt_lt t; omega) hl]
  dsimp only
  rw [next]

theorem outs_last (t : Fin cfg0.N) (hl : t.val % 4 = 3) :
    (outsAt0 m c t.val t.isLt).1 = k0_pay4 (F := Ideal) (B0 m c t) (B1 m c t) (outsAt0 m c (t.val - 1) (Blocks.prev t)).2 := by
  rw [outsAt0_C m c t (by omega) (by have := pt_lt t; omega) hl]
  dsimp only
  rw [last]

theorem out_at (t : Fin cfg0.N) (ht : t.val % 4 = 3) (a b : Fin 1024) :
    (outsAt0 m c t.val t.isLt).1 (ix2 a b) = ∑ n, terms (X m c) (Y m c) (row t a) (col t b) n := by
  rw [outs_last m c t ht, pay4_at]
  exact Blocks.whole 4 1408 (fun n h => (outsAt0 m c n h).2 (ix2 a b)) (fun t => terms (X m c) (Y m c) (row t a) (col t b))
    (fun t => ∑ r : Fin 1408, B0 m c t (ix2 a r) * B1 m c t (ix2 r b)) (fun t u h => by rw [row_congr h, col_congr h])
    (fun t => block_terms m c t a b) (fun t h => by rw [outs_first m c t h, pay2_at])
    (fun t h h' => by rw [outs_next m c t h h', pay3_at]) rfl t ht (by decide)

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1024 y
  refine (out_at m c t ((flush0_2 t).mp hf) a b).trans ?_
  refine congrArg (result (X m c) (Y m c)) (?_ : ix2 (row t a) (col t b) = _)
  unfold row col
  blk_ext [idx2]

end Cert.GradFfnIdeal

/-! ## The reference -/

namespace Cert.GradFfnLinesIdeal

open Idealize.ShloMosaic Idealize.ShloMosaic.TcCoe Cert.GradFfnLinesIdeal.Gen

theorem lines_eq (x : FVec Ideal S8192x5632 .bf16) (y : FVec Ideal S1024x5632 .bf16) :
    (truncf .bf16 (Host.dotGeneral dot_S8192x5632_S1024x5632_S8192x1024_1_1_0_0_n_n none (extf .f32 x bitsLt_bf16_f32) (extf .f32 y bitsLt_bf16_f32)) bitsLt_bf16_f32 : FVec Ideal S8192x1024 .bf16) = GradFfnIdeal.result x y := by
  funext i
  obtain ⟨a, b, rfl⟩ := Blocks.pair 8192 1024 i
  refine Eq.trans (b := ∑ n : Fin 5632, x (ix2 a n) * y (ix2 b n)) ?_ rfl
  pointwise [dot_S8192x5632_S1024x5632_S8192x1024_1_1_0_0_n_n]

end Cert.GradFfnLinesIdeal

/-! ## The claims -/

namespace Cert.Proof

open Idealize.ShloMosaic Idealize.ShloMosaic.TcCoe Idealize.SL.Sem

/-- The reference leaves its arguments alone and declares no semaphore. -/
theorem frame_GradFfnLinesIdeal : Cert.quiescent_GradFfnLinesIdeal := fun m ρ _ =>
  (θ_run Cert.GradFfnLinesIdeal.defs _ _).mono
    (fun r h => ⟨fun c => (h c).2, sem_eq_zero_of_no_sems (by decide) r.2⟩)
    (Cert.GradFfnLinesIdeal.Value.run m ρ)

/-- The kernel and the reference leave the same array. -/
theorem equal_GradFfn : Cert.algebraic_GradFfnIdeal_GradFfnLinesIdeal := by
  intro m g m' g' _ hagree
  refine ⟨fun c => GradFfnIdeal.result (GradFfnIdeal.X m c) (GradFfnIdeal.Y m c), ?_, ?_⟩
  · exact (θ_run Cert.GradFfnIdeal.defs _ _).mono (fun r h c => ⟨((h.1 c).1 2).trans (GradFfnIdeal.final m c), h.2.1 c⟩)
      (θ_run_and (Cert.GradFfnIdeal.Gen.run_main m g) (Cert.GradFfnIdeal.Gen.frame m g))
  · refine (θ_run Cert.GradFfnLinesIdeal.defs _ _).mono (fun r h c => ?_) (Cert.GradFfnLinesIdeal.Value.run m' g')
    obtain ⟨e0, e1⟩ := hagree c
    refine ⟨(h c).1.trans ((GradFfnLinesIdeal.lines_eq _ _).trans ?_), (h c).2⟩
    rw [e0, e1]

end Cert.Proof

end
-- ==== Proof.GradHiddenValue.lean ====
module

public import proofs.«01_k».proof.Proof.Gen.GradHiddenIdeal.Frame
public import proofs.«01_k».proof.Proof.Gen.GradHiddenLinesIdeal.Run
public import proofs.«01_k».proof.Proof.Common

@[expose] public section

set_option maxRecDepth 16384

noncomputable section

/-! # GradHidden: the gradient of the normalised rows -/

namespace Cert.GradHiddenIdeal

open Idealize.ShloMosaic Idealize.ShloMosaic.TcCoe Idealize.SL.Sem Idealize.ShloMosaic.StableHlo Cert.GradHiddenIdeal.Gen

/-! ## The mathematics -/

/-- Element `(p, q)` of the product is the sum of these terms. -/
def terms (x : FVec Ideal S8192x7168 .bf16) (y : FVec Ideal S1024x7168 .bf16) (p : Fin 8192) (q : Fin 1024) (n : Fin 7168) : EReal :=
  x (ix2 p n) * y (ix2 q n)

/-- The product. -/
def result (x : FVec Ideal S8192x7168 .bf16) (y : FVec Ideal S1024x7168 .bf16) : FVec Ideal S8192x1024 .bf16 := fun i =>
  ∑ n, terms x y (i 0) (i 1) n

/-! ## What the body computes from a point's blocks -/

section
variable {F : FTy → Type} [FloatOps F]

/-- The first point of a run leaves its product in the scratch. -/
theorem first (c : Dev nD) (i : grid0.Coords) a3 h3 a4 h4 a5 h5 a6 h6 hc0 hc1 hc2 (x0 x1 : Vec F S1024x1024 .bf16) :
    sout0_A_0 c i a3 h3 a4 h4 a5 h5 a6 h6 hc0 hc1 hc2 x0 x1 = k0_pay2 x0 x1 := by
  unfold sout0_A_0
  dsimp only [kernelRun0_A]
  rw [View.read_writes_full, View.readAt_full, View.readAt_full, h3.read_unread, h4.read_unread]

/-- A later point adds its own. -/
theorem next (c : Dev nD) (i : grid0.Coords) a3 h3 a4 h4 a5 h5 a6 h6 hc0 hc1 hc2 (x0 x1 : Vec F S1024x1024 .bf16) (acc) :
    sout0_B_0 c i a3 h3 a4 h4 a5 h5 a6 h6 hc0 hc1 hc2 x0 x1 acc = k0_pay3 x0 x1 acc := by
  unfold sout0_B_0
  dsimp only [kernelRun0_B]
  rw [View.read_writes_full, View.readAt_full, View.readAt_full, View.readAt_full, h3.read_unread, h4.read_unread, h6.read_unread]

/-- The last point writes the whole sum out. -/
theorem last (c : Dev nD) (i : grid0.Coords) a3 h3 a4 h4 a5 h5 a6 h6 hc0 hc1 hc2 (x0 x1 : Vec F S1024x1024 .bf16) (acc) :
    out0_C_2 c i a3 h3 a4 h4 a5 h5 a6 h6 hc0 hc1 hc2 x0 x1 acc = k0_pay4 x0 x1 acc := by
  unfold out0_C_2
  dsimp only [kernelRun0_C]
  rw [View.read_writes_full, View.readAt_full, View.readAt_full, View.readAt_full, h3.read_unread, h4.read_unread, h6.read_unread]

end

theorem pay1_at (x0 x1 : Vec Ideal S1024x1024 .bf16) (a b : Fin 1024) : k0_pay1 (F := Ideal) x0 x1 (ix2 a b) = ∑ r : Fin 1024, x0 (ix2 a r) * x1 (ix2 r b) := by
  unfold k0_pay1
  pointwise [dot_S1024x1024_S1024x1024_S1024x1024_1_0_0_1_n_n]

theorem pay2_at (x0 x1 : Vec Ideal S1024x1024 .bf16) (a b : Fin 1024) : k0_pay2 (F := Ideal) x0 x1 (ix2 a b) = ∑ r : Fin 1024, x0 (ix2 a r) * x1 (ix2 r b) := by
  rw [← pay1_at]
  unfold k0_pay2
  pointwise

theorem pay3_at (x0 x1 : Vec Ideal S1024x1024 .bf16) (acc) (a b : Fin 1024) :
    k0_pay3 (F := Ideal) x0 x1 acc (ix2 a b) = acc (ix2 a b) + ∑ r : Fin 1024, x0 (ix2 a r) * x1 (ix2 r b) := by
  rw [← pay1_at]
  unfold k0_pay3
  pointwise

theorem pay4_at (x0 x1 : Vec Ideal S1024x1024 .bf16) (acc) (a b : Fin 1024) :
    k0_pay4 (F := Ideal) x0 x1 acc (ix2 a b) = acc (ix2 a b) + ∑ r : Fin 1024, x0 (ix2 a r) * x1 (ix2 r b) := by
  rw [← pay1_at]
  unfold k0_pay4
  pointwise

/-! ## The blocks a point is given -/

variable (m : (ℓ : Loc nD τ sig) → Buf (Elt Ideal) ℓ) (c : Dev nD)

theorem pt_lt (t : Fin cfg0.N) : t.val < 56 := lt_of_lt_of_eq t.isLt N_0

theorem idx0 : ∀ t : Fin cfg0.N, win0_0.index t = ![t.val / 7, t.val % 7] := (by decide +kernel : ∀ t : Fin grid0.N, _)
theorem idx1 : ∀ t : Fin cfg0.N, win0_1.index t = ![t.val % 7, 0] := (by decide +kernel : ∀ t : Fin grid0.N, _)
theorem idx2 : ∀ t : Fin cfg0.N, win0_2.index t = ![t.val / 7, 0] := (by decide +kernel : ∀ t : Fin grid0.N, _)

abbrev X : FVec Ideal S8192x7168 .bf16 := m ((c : Thread nD τ).loc main_arg0)
abbrev Y : FVec Ideal S1024x7168 .bf16 := m ((c : Thread nD τ).loc main_arg1)

/-- Row `a` of point `t`'s block of the result, in the whole result. -/
def row (t : Fin cfg0.N) (a : Fin 1024) : Fin 8192 := ⟨1024 * (t.val / 7) + a.val, by have := pt_lt t; omega⟩
/-- Column `b` of it. -/
def col (t : Fin cfg0.N) (b : Fin 1024) : Fin 1024 := b

abbrev B0 (t : Fin cfg0.N) : FVec Ideal S1024x1024 .bf16 := iblk m c 0 t
abbrev B1 (t : Fin cfg0.N) : FVec Ideal S1024x1024 .bf16 := iblk m c 1 t

theorem blk0 (t : Fin cfg0.N) (r a : Fin 1024) : B0 m c t (ix2 a r) = X m c (ix2 (row t a) ⟨1024 * (t.val % 7) + r.val, by omega⟩) := by
  unfold B0
  blk_simp [iblk]
  rw [V_main_arg0]
  refine congrArg (X m c) ?_
  unfold row
  blk_ext [idx0]

theorem V_v0 : V m c main_v0 = transpose S7168x1024 [1, 0] (Y m c) transposes_S1024x7168_S7168x1024_1_0 := by
  unfold V
  simp only [hostOps0]
  after_reads_simp

theorem turned (i : Fin 7168) (j : Fin 1024) : (V m c main_v0 : FVec Ideal S7168x1024 .bf16) (ix2 i j) = Y m c (ix2 j i) := by
  rw [V_v0]
  pointwise

theorem blk1 (t : Fin cfg0.N) (r b : Fin 1024) : B1 m c t (ix2 r b) = Y m c (ix2 (col t b) ⟨1024 * (t.val % 7) + r.val, by omega⟩) := by
  rw [← turned]
  unfold B1
  blk_simp [iblk]
  refine congrArg (V m c main_v0) ?_
  unfold col
  blk_ext [idx1]

/-- The sum of one point's products continues the sum of the terms. -/
theorem block_terms (t : Fin cfg0.N) (a b : Fin 1024) :
    Blocks.part (terms (X m c) (Y m c) (row t a) (col t b)) (1024 * (t.val % 7)) + (∑ r : Fin 1024, B0 m c t (ix2 a r) * B1 m c t (ix2 r b))
      = Blocks.part (terms (X m c) (Y m c) (row t a) (col t b)) (1024 * (t.val % 7 + 1)) :=
  Blocks.part_block _ (by omega) (by omega) _ fun r => by rw [blk0, blk1]; rfl

theorem row_congr {t u : Fin cfg0.N} (h : t.val / 7 = u.val / 7) (a : Fin 1024) : row t a = row u a := by
  unfold row; simp only [h]
theorem col_congr {t u : Fin cfg0.N} (h : t.val / 7 = u.val / 7) (b : Fin 1024) : col t b = col u b := by
  rfl

/-! ## The run of points that makes one block -/

theorem outs_first (t : Fin cfg0.N) (ht : t.val % 7 = 0) : (outsAt0 m c t.val t.isLt).2 = k0_pay2 (F := Ideal) (B0 m c t) (B1 m c t) := by
  rw [outsAt0_A m c t ht (by have := pt_lt t; omega) (by have := pt_lt t; omega)]
  dsimp only
  rw [first]

theorem outs_next (t : Fin cfg0.N) (ht : t.val % 7 ≠ 0) (hl : t.val % 7 ≠ 6) :
    (outsAt0 m c t.val t.isLt).2 = k0_pay3 (F := Ideal) (B0 m c t) (B1 m c t) (outsAt0 m c (t.val - 1) (Blocks.prev t)).2 := by
  rw [outsAt0_B m c t ht (by have := pt_lt t; omega) hl]
  dsimp only
  rw [next]

theorem outs_last (t : Fin cfg0.N) (hl : t.val % 7 = 6) :
    (outsAt0 m c t.val t.isLt).1 = k0_pay4 (F := Ideal) (B0 m c t) (B1 m c t) (outsAt0 m c (t.val - 1) (Blocks.prev t)).2 := by
  rw [outsAt0_C m c t (by omega) (by have := pt_lt t; omega) hl]
  dsimp only
  rw [last]

theorem out_at (t : Fin cfg0.N) (ht : t.val % 7 = 6) (a b : Fin 1024) :
    (outsAt0 m c t.val t.isLt).1 (ix2 a b) = ∑ n, terms (X m c) (Y m c) (row t a) (col t b) n := by
  rw [outs_last m c t ht, pay4_at]
  exact Blocks.whole 7 1024 (fun n h => (outsAt0 m c n h).2 (ix2 a b)) (fun t => terms (X m c) (Y m c) (row t a) (col t b))
    (fun t => ∑ r : Fin 1024, B0 m c t (ix2 a r) * B1 m c t (ix2 r b)) (fun t u h => by rw [row_congr h, col_congr h])
    (fun t => block_terms m c t a b) (fun t h => by rw [outs_first m c t h, pay2_at])
    (fun t h h' => by rw [outs_next m c t h h', pay3_at]) rfl t ht (by decide)

/-! ## The whole result -/

theorem final : (dats m 0 c).arrAt 2 cfg0.N = result (X m c) (Y m c) := by
  refine (dats m 0 c).arrAt_eq_of_covers 2 _ (by decide +kernel) fun t hf y => ?_
  blk_simp
  rw [after0_2]
  obtain ⟨a, b, rfl⟩ := Blocks.pair 1024 1024 y
  refine (out_at m c t ((flush0_2 t).mp hf) a b).trans ?_
  refine congrArg (result (X m c) (Y m c)) (?_ : ix2 (row t a) (col t b) = _)
  unfold row col
  blk_ext [idx2]

end Cert.GradHiddenIdeal

/-! ## The reference -/

namespace Cert.GradHiddenLinesIdeal

open Idealize.ShloMosaic Idealize.ShloMosaic.TcCoe Cert.GradHiddenLinesIdeal.Gen

theorem lines_eq (x : FVec Ideal S8192x7168 .bf16) (y : FVec Ideal S1024x7168 .bf16) :
    (truncf .bf16 (Host.dotGeneral dot_S8192x7168_S1024x7168_S8192x1024_1_1_0_0_n_n none (extf .f32 x bitsLt_bf16_f32) (extf .f32 y bitsLt_bf16_f32)) bitsLt_bf16_f32 : FVec Ideal S8192x1024 .bf16) = GradHiddenIdeal.result x y := by
  funext i
  obtain ⟨a, b, rfl⟩ := Blocks.pair 8192 1024 i
  refine Eq.trans (b := ∑ n : Fin 7168, x (ix2 a n) * y (ix2 b n)) ?_ rfl
  pointwise [dot_S8192x7168_S1024x7168_S8192x1024_1_1_0_0_n_n]

end Cert.GradHiddenLinesIdeal

/-! ## The claims -/

namespace Cert.Proof

open Idealize.ShloMosaic Idealize.ShloMosaic.TcCoe Idealize.SL.Sem

/-- The reference leaves its arguments alone and declares no semaphore. -/
theorem frame_GradHiddenLinesIdeal : Cert.quiescent_GradHiddenLinesIdeal := fun m ρ _ =>
  (θ_run Cert.GradHiddenLinesIdeal.defs _ _).mono
    (fun r h => ⟨fun c => (h c).2, sem_eq_zero_of_no_sems (by decide) r.2⟩)
    (Cert.GradHiddenLinesIdeal.Value.run m ρ)

/-- The kernel and the reference leave the same array. -/
theorem equal_GradHidden : Cert.algebraic_GradHiddenIdeal_GradHiddenLinesIdeal := by
  intro m g m' g' _ hagree
  refine ⟨fun c => GradHiddenIdeal.result (GradHiddenIdeal.X m c) (GradHiddenIdeal.Y m c), ?_, ?_⟩
  · exact (θ_run Cert.GradHiddenIdeal.defs _ _).mono (fun r h c => ⟨((h.1 c).1 2).trans (GradHiddenIdeal.final m c), h.2.1 c⟩)
      (θ_run_and (Cert.GradHiddenIdeal.Gen.run_main m g) (Cert.GradHiddenIdeal.Gen.frame m g))
  · refine (θ_run Cert.GradHiddenLinesIdeal.defs _ _).mono (fun r h c => ?_) (Cert.GradHiddenLinesIdeal.Value.run m' g')
    obtain ⟨e0, e1⟩ := hagree c
    refine ⟨(h c).1.trans ((GradHiddenLinesIdeal.lines_eq _ _).trans ?_), (h c).2⟩
    rw [e0, e1]

end Cert.Proof

end
-- ==== Proof.DownValue.lean ====
module

public import proofs.«01_k».proof.Proof.Gen.DownIdeal.Frame
public import proofs.«01_k».proof.Proof.Gen.DownLinesIdeal.Run
public import proofs.«01_k».proof.Proof.Common

@[expose] public section

set_option maxRecDepth 16384

noncomputable section

/-! # Down: the feed-forward block's second product, added to its input -/

namespace Cert.DownIdeal

open Idealize.ShloMosaic Idealize.ShloMosaic.TcCoe Idealize.SL.Sem Idealize.ShloMosaic.StableHlo Cert.DownIdeal.Gen

/-! ## The mathematics -/

/-- Element `(p, q)` of the product is the sum of these terms. -/
def terms (x : FVec Ideal S8192x2816 .bf16) (y : FVec Ideal S2816x1024 .bf16) (p : Fin 8192) (q : Fin 1024) (n : Fin 2816) : EReal :=
  x (ix2 p n) * y (ix2 n q)

/-- The product, added to the residual. -/
def result (x : FVec Ideal S8192x2816 .bf16) (y : FVec Ideal S2816x1024 .bf16) (z : FVec Ideal S8192x1024 .f32) : FVec Ideal S8192x1024 .f32 := fun i =>
  z i + ∑ n, terms x y (i 0) (i 1) n

/-! ## What the body computes from a point's blocks -/

section
variable {F : FTy → Type} [FloatOps F]

/-- The first point of a run leaves its product in the scratch. -/
theorem first (c : Dev nD) (i : grid0.Coords) a3 h3 a4 h4 a5 h5 a6 h6 a7 h7 hc0 hc1 hc2 (x0 : Vec F S1024x1408 .bf16) (x1 : Vec F S1408x1024 .bf16) (x2 : Vec F S1024x1024 .f32) :
    sout0_A_0 c i a3 h3 a4 h4 a5 h5 a6 h6 a7 h7 hc0 hc1 hc2 x0 x1 x2 = k0_pay2 x0 x1 := by
  unfold sout0_A_0
  dsimp only [kernelRun0_A]
  rw [View.read_writes_full, View.readAt_full, View.readAt_full, h3.read_unread, h4.read_unread]

/-- The last point writes the whole sum and the residual out. -/
theorem last (c : Dev nD) (i : grid0.Coords) a3 h3 a4 h4 a5 h5 a6 h6 a7 h7 hc0 hc1 hc2 (x0 : Vec F S1024x1408 .bf16) (x1 : Vec F S1408x1024 .bf16) (x2 : Vec F S1024x1024 .f32) (acc) :
    out0_B_3 c i a3 h3 a4 h4 a5 h5 a6 h6 a7 h7 hc0 hc1 hc2 x0 x1 x2 acc = k0_pay4 x0 x1 acc x2 := by
  unfold out0_B_3
  dsimp only [kernelRun0_B]
  rw [View.read_writes_full, View.readAt_full, View.readAt_full, View.readAt_full, View.readAt_full, h3.read_unread, h4.read_unread, h5.read_unread, h7.read_unread]

end

theorem pay1_at (x0 : Vec Ideal S1024x1408 .bf16) (x1 : Vec Ideal S1408x1024 .bf16) (a b : Fin 1024) : k0_pay1 (F := Ideal) x0 x1 (ix2 a b) = ∑ r : Fin 1408, x0 (ix2 a r) * x1 (ix2 r b) := by
  unfold k0_pay1
  pointwise [dot_S1024x1408_S1408x1024_S1024x1024_1_0_0_1_n_n]

theorem pay2_at (x0 : Vec Ideal S1024x1408 .bf16) (x1 : Vec Ideal S1408x1024 .bf16) (a b : Fin 1024) : k0_pay2 (F := Ideal) x0 x1 (ix2 a b) = ∑ r : Fin 1408, x0 (ix2 a r) * x1 (ix2 r b) := by
  rw [← pay1_at]
  unfold k0_pay2
  pointwise

theorem pay4_at (x0 : Vec Ideal S1024x1408 .bf16) (x1 : Vec Ideal S1408x1024 .bf16) (acc x2) (a b : Fin 1024) :
    k0_pay4 (F := Ideal) x0 x1 acc x2 (ix2 a b) = acc (ix2 a b) + (∑ r : Fin 1408, x0 (ix2 a r) * x1 (ix2 r b)) + x2 (ix2 a b) := by
  rw [← pay1_at]
  unfold k0_pay4
  pointwise

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)

abbrev X : FVec Ideal S8192x2816 .bf16 := m ((c : Thread nD τ).loc main_arg0)
abbrev Y : FVec Ideal S2816x1024 .bf16 := m ((c : Thread nD τ).loc main_arg1)
abbrev Z : FVec Ideal S8192x1024 .f32 := m ((c : Thread nD τ).loc main_arg2)

/-- Row `a` of point `t`'s block of the result, in the whole result. -/
def row (t : Fin cfg0.N) (a : Fin 1024) : Fin 8192 := ⟨1024 * (t.val / 2) + a.val, by have := pt_lt t; omega⟩
/-- Column `b` of it. -/
def col (t : Fin cfg0.N) (b : Fin 1024) : Fin 1024 := b

abbrev B0 (t : Fin cfg0.N) : FVec Ideal S1024x1408 .bf16 := iblk m c 0 t
abbrev B1 (t : Fin cfg0.N) : FVec Ideal S1408x1024 .bf16 := iblk m c 1 t
abbrev B2 (t : Fin cfg0.N) : FVec Ideal S1024x1024 .f32 := iblk m c 2 t

theorem blk0 (t : Fin cfg0.N) (r : Fin 1408) (a : Fin 1024) : B0 m c t (ix2 a r) = X m c (ix2 (row t a) ⟨1408 * (t.val % 2) + r.val, by omega⟩) := by
  unfold B0
  blk_simp [iblk]
  rw [V_main_arg0]
  refine congrArg (X m c) ?_
  unfold row
  blk_ext [idx0]

theorem blk1 (t : Fin cfg0.N) (r : Fin 1408) (b : Fin 1024) : B1 m c t (ix2 r b) = Y m c (ix2 ⟨1408 * (t.val % 2) + r.val, by omega⟩ (col t b)) := by
  unfold B1
  blk_simp [iblk]
  rw [V_main_arg1]
  refine congrArg (Y m c) ?_
  unfold col
  blk_ext [idx1]

theorem blk2 (t : Fin cfg0.N) (a b : Fin 1024) : B2 m c t (ix2 a b) = Z m c (ix2 (row t a) (col t b)) := by
  unfold B2
  blk_simp [iblk]
  rw [V_main_arg2]
  refine congrArg (Z m c) ?_
  unfold row col
  blk_ext [idx2]

/-- The sum of one point's products continues the sum of the terms. -/
theorem block_terms (t : Fin cfg0.N) (a b : Fin 1024) :
    Blocks.part (terms (X m c) (Y m c) (row t a) (col t b)) (1408 * (t.val % 2)) + (∑ r : Fin 1408, B0 m c t (ix2 a r) * B1 m c t (ix2 r b))
      = Blocks.part (terms (X m c) (Y m c) (row t a) (col t b)) (1408 * (t.val % 2 + 1)) :=
  Blocks.part_block _ (by omega) (by omega) _ fun r => by rw [blk0, blk1]; rfl

theorem row_congr {t u : Fin cfg0.N} (h : t.val / 2 = u.val / 2) (a : Fin 1024) : row t a = row u a := by
  unfold row; simp only [h]
theorem col_congr {t u : Fin cfg0.N} (h : t.val / 2 = u.val / 2) (b : Fin 1024) : col t b = col u b := by
  rfl

/-! ## The run of points that makes one block -/

theorem outs_first (t : Fin cfg0.N) (ht : t.val % 2 = 0) : (outsAt0 m c t.val t.isLt).2 = k0_pay2 (F := Ideal) (B0 m c t) (B1 m c t) := by
  rw [outsAt0_A m c t ht (by have := pt_lt t; omega)]
  dsimp only
  rw [first]

theorem outs_last (t : Fin cfg0.N) (hl : t.val % 2 = 1) :
    (outsAt0 m c t.val t.isLt).1 = k0_pay4 (F := Ideal) (B0 m c t) (B1 m c t) (outsAt0 m c (t.val - 1) (Blocks.prev t)).2 (B2 m c t) := by
  rw [outsAt0_B m c t (by omega) hl]
  dsimp only
  rw [last]

theorem acc_first (t : Fin cfg0.N) (ht : t.val % 2 = 0) (a b : Fin 1024) :
    (outsAt0 m c t.val t.isLt).2 (ix2 a b) = Blocks.part (terms (X m c) (Y m c) (row t a) (col t b)) (1408 * (t.val % 2 + 1)) := by
  rw [outs_first m c t ht, pay2_at, ← block_terms, ht, Nat.mul_zero, Blocks.part_zero, zero_add]

theorem out_at (t : Fin cfg0.N) (ht : t.val % 2 = 1) (a b : Fin 1024) :
    (outsAt0 m c t.val t.isLt).1 (ix2 a b) = Z m c (ix2 (row t a) (col t b)) + ∑ n, terms (X m c) (Y m c) (row t a) (col t b) n := by
  have e := acc_first m c ⟨t.val - 1, (Blocks.prev t)⟩ (by dsimp only; omega) a b
  rw [row_congr (u := t) (by dsimp only; omega), col_congr (u := t) (by dsimp only; omega),
    show 1408 * ((t.val - 1) % 2 + 1) = 1408 * (t.val % 2) by omega] at e
  rw [outs_last m c t ht, pay4_at, e, block_terms, ht, blk2, add_comm, ← Blocks.part_all]

/-! ## The whole result -/

theorem final : (dats m 0 c).arrAt 3 cfg0.N = result (X m c) (Y m c) (Z m c) := by
  refine (dats m 0 c).arrAt_eq_of_covers 3 _ (by decide +kernel) fun t hf y => ?_
  blk_simp
  rw [after0_3]
  obtain ⟨a, b, rfl⟩ := Blocks.pair 1024 1024 y
  refine (out_at m c t ((flush0_3 t).mp hf) a b).trans ?_
  refine congrArg (result (X m c) (Y m c) (Z m c)) (?_ : ix2 (row t a) (col t b) = _)
  unfold row col
  blk_ext [idx3]

end Cert.DownIdeal

/-! ## The reference -/

namespace Cert.DownLinesIdeal

open Idealize.ShloMosaic Idealize.ShloMosaic.TcCoe Cert.DownLinesIdeal.Gen

theorem lines_eq (x : FVec Ideal S8192x2816 .bf16) (y : FVec Ideal S2816x1024 .bf16) (z : FVec Ideal S8192x1024 .f32) :
    (addf z (Host.dotGeneral dot_S8192x2816_S2816x1024_S8192x1024_1_0_0_1_n_n none (extf .f32 x bitsLt_bf16_f32) (extf .f32 y bitsLt_bf16_f32)) : FVec Ideal S8192x1024 .f32) = DownIdeal.result x y z := by
  funext i
  obtain ⟨a, b, rfl⟩ := Blocks.pair 8192 1024 i
  refine Eq.trans (b := z (ix2 a b) + ∑ n : Fin 2816, x (ix2 a n) * y (ix2 n b)) ?_ rfl
  pointwise [dot_S8192x2816_S2816x1024_S8192x1024_1_0_0_1_n_n]

end Cert.DownLinesIdeal

/-! ## The claims -/

namespace Cert.Proof

open Idealize.ShloMosaic Idealize.ShloMosaic.TcCoe Idealize.SL.Sem

/-- The reference leaves its arguments alone and declares no semaphore. -/
theorem frame_DownLinesIdeal : Cert.quiescent_DownLinesIdeal := fun m ρ _ =>
  (θ_run Cert.DownLinesIdeal.defs _ _).mono
    (fun r h => ⟨fun c => (h c).2, sem_eq_zero_of_no_sems (by decide) r.2⟩)
    (Cert.DownLinesIdeal.Value.run m ρ)

/-- The kernel and the reference leave the same array. -/
theorem equal_Down : Cert.algebraic_DownIdeal_DownLinesIdeal := by
  intro m g m' g' _ hagree
  refine ⟨fun c => DownIdeal.result (DownIdeal.X m c) (DownIdeal.Y m c) (DownIdeal.Z m c), ?_, ?_⟩
  · exact (θ_run Cert.DownIdeal.defs _ _).mono (fun r h c => ⟨((h.1 c).1 3).trans (DownIdeal.final m c), h.2.1 c⟩)
      (θ_run_and (Cert.DownIdeal.Gen.run_main m g) (Cert.DownIdeal.Gen.frame m g))
  · refine (θ_run Cert.DownLinesIdeal.defs _ _).mono (fun r h c => ?_) (Cert.DownLinesIdeal.Value.run m' g')
    obtain ⟨e0, e1, e2⟩ := hagree c
    refine ⟨(h c).1.trans ((DownLinesIdeal.lines_eq _ _ _).trans ?_), (h c).2⟩
    rw [e0, e1, e2]

end Cert.Proof

end
-- ==== Proof.AttentionStep.lean ====
module

public import proofs.«01_k».proof.Proof.Gen.AttentionIdeal.Frame

@[expose] public section

set_option maxRecDepth 16384

noncomputable section

/-! # Attention: one key block of the output

A grid point holds 512 queries of a head and the head's keys and values whole. It takes the key blocks from the diagonal
to the left, 512 keys at a time, and carries over the sums of the log-complements of the keys already seen and the
output so far. -/

namespace Cert.AttentionIdeal

open Idealize.ShloMosaic Cert.AttentionIdeal.Gen

variable {F : FTy → Type} [FloatOps F]

/-- A value for every query and key of a block. -/
abbrev Sq (F : FTy → Type) [FloatOps F] := FVec F S512x512 .f32

/-- What a step carries: the sums of the log-complements to the right, and the output so far. -/
abbrev Acc (F : FTy → Type) [FloatOps F] := FVec F S512x1 .f32 × FVec F S512x64 .f32

/-- The scores. -/
def z (q k : FVec F S512x64 .bf16) : Sq F :=
  matmul dot_S512x64_S512x64_S512x512_1_1_0_0_n_n none q k (constant S512x512 .f32 0x00000000#32)

/-- The logarithm of the sigmoid of a score. -/
def lb (z : Sq F) : Sq F :=
  subf (minimumf z (broadcast S512x512 (Scalar.ofBits .f32 0x00000000#32)))
    (log (addf (broadcast S512x512 (Scalar.ofBits .f32 0x3F800000#32))
      (exp (subf (broadcast S512x512 (Scalar.ofBits .f32 0x00000000#32)) (absf z)))))

/-- Zero at the entries the mask leaves out. -/
def masked (m : IVec S512x512 1) (x : Sq F) : Sq F :=
  select m x (broadcast S512x512 (Scalar.ofBits .f32 0x00000000#32))

variable (keep : Sq F → Sq F)

/-- The logarithm of the complement, at the keys kept. -/
def lc (z : Sq F) : Sq F := keep (subf (lb z) z)

/-- The sums over the keys to the right within the block: times the matrix `u`. -/
def right (u x : FVec F S512x512 .bf16) : Sq F :=
  matmul dot_S512x512_S512x512_S512x512_1_0_0_1_n_n none x u (constant S512x512 .f32 0x00000000#32)

/-- The weights. -/
def wt (u : FVec F S512x512 .bf16) (r : FVec F S512x1 .f32) (z : Sq F) : FVec F S512x512 .bf16 :=
  truncf .bf16 (keep (exp (addf (addf (lb z) (right u (truncf .bf16 (lc keep z) bitsLt_bf16_f32)))
    (broadcastTo S512x512 r broadcasts_S512x1_S512x512)))) bitsLt_bf16_f32

/-- The output with the block's part added. -/
def addOut (o : FVec F S512x64 .f32) (w : FVec F S512x512 .bf16) (v : FVec F S512x64 .bf16) : FVec F S512x64 .f32 :=
  addf o (matmul dot_S512x512_S512x64_S512x64_1_0_0_1_n_n none w v (constant S512x64 .f32 0x00000000#32))

/-- The carried sums with the sums of the block's rows added. -/
def addSum (r : FVec F S512x1 .f32) (x : Sq F) : FVec F S512x1 .f32 :=
  addf r (shapeCast S512x1 (multiReduction .add [1] S512 x 0x00000000#32 reduces_S512x512_S512 (.inl rfl) rfl) shapeCasts_S512_S512x1)

/-- The carried values after a block of keys `k` and values `v`. -/
def next (q : FVec F S512x64 .bf16) (u : FVec F S512x512 .bf16) (k v : FVec F S512x64 .bf16) (a : Acc F) : Acc F :=
  (addSum a.1 (lc keep (z q k)), addOut a.2 (wt keep u a.1 (z q k)) v)

/-! ## What a point reads -/

/-- The queries, the head's keys and values, and the matrix of ones below the diagonal. -/
structure Data (F : FTy → Type) [FloatOps F] where
  Q : FVec F S1x512x64 .bf16
  K : FVec F S1x8192x64 .bf16
  V : FVec F S1x8192x64 .bf16
  U : FVec F S512x512 .bf16

/-- The part of `X` a box covers. -/
abbrev cut {S : Shape} {φ : FTy} (X : FVec F S φ) (r : Rect S) : FVec F r.shape φ := fun x => X (r.idx x)

/-- The 512 rows of `X` at offsets `o`. -/
def rowsAt (X : FVec F S1x8192x64 .bf16) (o : Fin 3 → ℕ) (ho : ∀ a, o a + S1x512x64.size a ≤ S1x8192x64.size a) : FVec F S512x64 .bf16 :=
  shapeCast S512x64 (cut X (Rect.unit (s := S1x8192x64) o S1x512x64.size ho)) shapeCasts_S1x512x64_S512x64

def queries (D : Data F) : FVec F S512x64 .bf16 :=
  shapeCast S512x64 (cut D.Q (Rect.unit (s := S1x512x64) ![0, 0, 0] S1x512x64.size inb_S1x512x64_S1x512x64_0_0_0)) shapeCasts_S1x512x64_S512x64
def below (D : Data F) : FVec F S512x512 .bf16 :=
  shapeCast S512x512 (cut D.U (Rect.unit (s := S512x512) ![0, 0] S512x512.size inb_S512x512_S512x512_0_0)) shapeCasts_S512x512_S512x512

/-- The step over the key block at offsets `o`. -/
def stepAt (D : Data F) (o : Fin 3 → ℕ) (ho : ∀ a, o a + S1x512x64.size a ≤ S1x8192x64.size a) (a : Acc F) : Acc F :=
  next keep (queries D) (below D) (rowsAt D.K o ho) (rowsAt D.V o ho) a

theorem inb_block {n : ℕ} (h : n < 16) : ∀ a, (![0, 512 * n, 0] : Fin 3 → ℕ) a + S1x512x64.size a ≤ S1x8192x64.size a := by
  intro a; fin_cases a
  · exact le_refl 1
  · show 512 * n + 512 ≤ 8192; omega
  · exact le_refl 64

/-- The step over key block `n`. -/
def step (D : Data F) (n : ℕ) (h : n < 16) (a : Acc F) : Acc F := stepAt keep D ![0, 512 * n, 0] (inb_block h) a

theorem stepAt_eq (D : Data F) (o : Fin 3 → ℕ) (ho : ∀ a, o a + S1x512x64.size a ≤ S1x8192x64.size a) (n : ℕ) (h : n < 16)
    (e : o = ![0, 512 * n, 0]) (a : Acc F) : stepAt keep D o ho a = step keep D n h a := by
  subst e; rfl

/-- The carried values before any key. -/
def none0 : Acc F := (broadcast S512x1 (Scalar.ofBits .f32 0x00000000#32), broadcast S512x64 (Scalar.ofBits .f32 0x00000000#32))

/-- The mask on the diagonal of query block `n`. -/
def diagMask (i : grid0.Coords) : IVec S512x512 1 :=
  cmpi .slt (addi (iota .tc S512x512 32 [1] iota_S512x512_d1_w32) (broadcast S512x512 (BitVec.ofNat 32 (512 * (i 1).val))))
    (addi (iota .tc S512x512 32 [0] iota_S512x512_d0_w32) (broadcast S512x512 (BitVec.ofNat 32 (512 * (i 1).val))))

/-- The carried values of query block `n` after the diagonal's block and `m` blocks to its left. -/
def lefts (D : Data F) (i : grid0.Coords) : ℕ → Acc F
  | 0 => step (masked (diagMask i)) D (i 1).val (i 1).isLt none0
  | m + 1 => step id D ((i 1).val - 1 - m) (by have : (i 1).val < 16 := (i 1).isLt; omega) (lefts D i m)

end Cert.AttentionIdeal
end
-- ==== Proof.AttentionPoint.lean ====
module

public import proofs.«01_k».proof.Proof.AttentionStep
public import Idealize.ShloMosaic.Lib.Tactic
public import Idealize.ShloMosaic.Lib.VecWindow

@[expose] public section

set_option maxRecDepth 16384
set_option maxHeartbeats 2000000

noncomputable section

/-! # Attention: the block a grid point leaves

The first loop takes the blocks left of the diagonal that do not fill a group of four, the third loop takes the others
four at a time; the second and the fourth make no trip. -/

namespace Cert.AttentionIdeal

open Idealize.ShloMosaic Idealize.ShloMosaic.TcCoe Cert.AttentionIdeal.Gen

/-! ## Trips and rows in closed form -/

theorem t1_trips : ∀ i : grid0.Coords, (k0_t1_loop i).trips = (i 1).val % 4 := by decide +kernel
theorem t2_trips : ∀ i : grid0.Coords, (k0_t2_loop i).trips = 0 := by decide +kernel
theorem t3_trips : ∀ i : grid0.Coords, (k0_t3_loop i).trips = (i 1).val / 4 := by decide +kernel
theorem t4_trips : ∀ i : grid0.Coords, (k0_t4_loop i).trips = 0 := by decide +kernel

theorem off1_eq : ∀ i : grid0.Coords, k0_off1 i = ![0, 512 * (i 1).val, 0] := by decide +kernel
theorem off2_eq : ∀ (i : grid0.Coords) (k : Fin (k0_t1_loop i).trips), k0_off2 i k = ![0, 512 * ((i 1).val - 1 - k.val), 0] := by decide +kernel
theorem off4_eq : ∀ (i : grid0.Coords) (k : Fin (k0_t3_loop i).trips) (r : Fin 4),
    k0_off4 i k (BitVec.ofNat 32 r.val) = ![0, 512 * ((i 1).val - 1 - ((i 1).val % 4 + 4 * k.val + r.val)), 0] := by decide +kernel

/-- The query block, as the kernel finds it from its first row. -/
def blockNo (i : grid0.Coords) : BitVec 32 :=
  let v5 := Scalar.muli (BitVec.ofNat 32 (i 1).val) 512#32
  let v6 := Scalar.divsi v5 512#32
  let v11 : BitVec 32 := Scalar.subi (Scalar.extui (Scalar.cmpi .sgt v5 0#32)) (Scalar.extui (Scalar.cmpi .slt v5 0#32))
  let v16 : BitVec 32 := Scalar.subi (Scalar.extui (Scalar.cmpi .sgt 512#32 0#32)) (Scalar.extui (Scalar.cmpi .slt 512#32 0#32))
  Scalar.select (Scalar.andi (Scalar.cmpi .ne v11 v16) (Scalar.cmpi .ne (Scalar.remsi v5 512#32) 0#32)) (Scalar.subi v6 1#32) v6

theorem firstKey : ∀ i : grid0.Coords, Scalar.muli (Scalar.addi (blockNo i) 0#32) 512#32 = BitVec.ofNat 32 (512 * (i 1).val) := by decide +kernel
theorem firstRow : ∀ i : grid0.Coords, Scalar.muli (BitVec.ofNat 32 (i 1).val) 512#32 = BitVec.ofNat 32 (512 * (i 1).val) := by decide +kernel

variable {F : FTy → Type} [FloatOps F]

/-! ## The loops -/

section
variable (c : Dev nD) (i : grid0.Coords)
  (arg2 : Memref sig .tc .vmem S1x512x64 .bf16) (harg2 : arg2.IsWhole) (arg3 : Memref sig .tc .vmem S1x8192x64 .bf16) (harg3 : arg3.IsWhole)
  (arg4 : Memref sig .tc .vmem S1x8192x64 .bf16) (harg4 : arg4.IsWhole) (arg5 : Memref sig .tc .vmem S512x512 .bf16) (harg5 : arg5.IsWhole)
  (arg6 : Memref sig .tc .vmem S1x512x64 .f32) (harg6 : arg6.IsWhole) (v22 v79 v108 : BitVec 32)
  (X2 : BufTy.Contents (Elt F) arg2.view.ty) (X3 : BufTy.Contents (Elt F) arg3.view.ty) (X4 : BufTy.Contents (Elt F) arg4.view.ty)
  (X5 : BufTy.Contents (Elt F) arg5.view.ty)

/-- What the buffers hold. -/
def dataOf : Data F := ⟨arg2.view.read (Elt F) X2, arg3.view.read (Elt F) X3, arg4.view.read (Elt F) X4, arg5.view.read (Elt F) X5⟩

abbrev first := st_k0_t1 (F := F) Variants.none c none i arg2 harg2 arg3 harg3 arg4 harg4 arg5 harg5 arg6 harg6 X2 X3 X4 X5
abbrev second := st_k0_t2 (F := F) Variants.none c none i arg2 harg2 arg3 harg3 arg4 harg4 arg5 harg5 arg6 harg6 X2 X3 X4 X5
abbrev third := st_k0_t3 (F := F) Variants.none c none i arg2 harg2 arg3 harg3 arg4 harg4 arg5 harg5 arg6 harg6 v22 v79 X2 X3 X4 X5
abbrev fourth := st_k0_t4 (F := F) Variants.none c none i arg2 harg2 arg3 harg3 arg4 harg4 arg5 harg5 arg6 harg6 v22 v79 v108 X2 X3 X4 X5

/-- A trip of the first loop is a step. -/
theorem trip1 (k : Fin (k0_t1_loop i).trips) (a : Acc F) :
    tripR_k0_t1 (F := F) Variants.none c none i arg2 harg2 arg3 harg3 arg4 harg4 arg5 harg5 arg6 harg6 X2 X3 X4 X5 k a
      = stepAt id (dataOf arg2 arg3 arg4 arg5 X2 X3 X4 X5) (k0_off2 i k) (k0_off2_inb i k) a := by
  unfold tripR_k0_t1 trip_k0_t1
  rfl

/-- A trip of the third loop is four steps. -/
theorem trip3 (k : Fin (k0_t3_loop i).trips) (a : Acc F) :
    tripR_k0_t3 (F := F) Variants.none c none i arg2 harg2 arg3 harg3 arg4 harg4 arg5 harg5 arg6 harg6 v22 v79 X2 X3 X4 X5 k a
      = stepAt id (dataOf arg2 arg3 arg4 arg5 X2 X3 X4 X5) (k0_off4 i k 3#32) (k0_off4_inb i k 3)
         (stepAt id (dataOf arg2 arg3 arg4 arg5 X2 X3 X4 X5) (k0_off4 i k 2#32) (k0_off4_inb i k 2)
          (stepAt id (dataOf arg2 arg3 arg4 arg5 X2 X3 X4 X5) (k0_off4 i k 1#32) (k0_off4_inb i k 1)
           (stepAt id (dataOf arg2 arg3 arg4 arg5 X2 X3 X4 X5) (k0_off4 i k 0#32) (k0_off4_inb i k 0) a))) := by
  unfold tripR_k0_t3 trip_k0_t3
  rfl

/-- The first loop takes the blocks left of the diagonal one by one. -/
theorem first_eq : ∀ n, n ≤ (k0_t1_loop i).trips →
    first c i arg2 harg2 arg3 harg3 arg4 harg4 arg5 harg5 arg6 harg6 X2 X3 X4 X5 (lefts (dataOf arg2 arg3 arg4 arg5 X2 X3 X4 X5) i 0) n
      = lefts (dataOf arg2 arg3 arg4 arg5 X2 X3 X4 X5) i n
  | 0, _ => rfl
  | n + 1, h => by
    refine (st_k0_t1_succ (F := F) Variants.none c none i arg2 harg2 arg3 harg3 arg4 harg4 arg5 harg5 arg6 harg6 X2 X3 X4 X5 _ ⟨n, h⟩).trans ?_
    refine (congrArg _ (first_eq n (by omega))).trans ?_
    rw [trip1]
    exact stepAt_eq _ _ _ _ ((i 1).val - 1 - n) (by have : (i 1).val < 16 := (i 1).isLt; omega) (off2_eq i ⟨n, h⟩) _

/-- The third loop takes the rest four by four. -/
theorem third_eq : ∀ n, n ≤ (k0_t3_loop i).trips →
    third c i arg2 harg2 arg3 harg3 arg4 harg4 arg5 harg5 arg6 harg6 v22 v79 X2 X3 X4 X5 (lefts (dataOf arg2 arg3 arg4 arg5 X2 X3 X4 X5) i ((i 1).val % 4)) n
      = lefts (dataOf arg2 arg3 arg4 arg5 X2 X3 X4 X5) i ((i 1).val % 4 + 4 * n)
  | 0, _ => rfl
  | n + 1, h => by
    have hi : (i 1).val < 16 := (i 1).isLt
    refine (st_k0_t3_succ (F := F) Variants.none c none i arg2 harg2 arg3 harg3 arg4 harg4 arg5 harg5 arg6 harg6 v22 v79 X2 X3 X4 X5 _ ⟨n, h⟩).trans ?_
    refine (congrArg _ (third_eq n (by omega))).trans ?_
    rw [trip3]
    rw [stepAt_eq id (dataOf arg2 arg3 arg4 arg5 X2 X3 X4 X5) (k0_off4 i ⟨n, h⟩ 0#32) _ ((i 1).val - 1 - ((i 1).val % 4 + 4 * n + 0)) (by omega) (off4_eq i ⟨n, h⟩ 0),
      stepAt_eq id (dataOf arg2 arg3 arg4 arg5 X2 X3 X4 X5) (k0_off4 i ⟨n, h⟩ 1#32) _ ((i 1).val - 1 - ((i 1).val % 4 + 4 * n + 1)) (by omega) (off4_eq i ⟨n, h⟩ 1),
      stepAt_eq id (dataOf arg2 arg3 arg4 arg5 X2 X3 X4 X5) (k0_off4 i ⟨n, h⟩ 2#32) _ ((i 1).val - 1 - ((i 1).val % 4 + 4 * n + 2)) (by omega) (off4_eq i ⟨n, h⟩ 2),
      stepAt_eq id (dataOf arg2 arg3 arg4 arg5 X2 X3 X4 X5) (k0_off4 i ⟨n, h⟩ 3#32) _ ((i 1).val - 1 - ((i 1).val % 4 + 4 * n + 3)) (by omega) (off4_eq i ⟨n, h⟩ 3)]
    rfl
end

/-! ## The block -/

/-- The diagonal's mask as the kernel forms it. -/
theorem diagMask_eq (i : grid0.Coords) :
    (cmpi .slt (addi (iota .tc S512x512 32 [1] iota_S512x512_d1_w32) (broadcast S512x512 (Scalar.muli (Scalar.addi (blockNo i) 0#32) 512#32)))
      (addi (iota .tc S512x512 32 [0] iota_S512x512_d0_w32) (broadcast S512x512 (Scalar.muli (BitVec.ofNat 32 (i 1).val) 512#32))) : IVec S512x512 1)
      = diagMask i := by
  rw [firstKey, firstRow]; rfl

variable (c : Dev nD) (i : grid0.Coords)
  (arg2 : Memref sig .tc .vmem S1x512x64 .bf16) (harg2 : arg2.IsWhole) (arg3 : Memref sig .tc .vmem S1x8192x64 .bf16) (harg3 : arg3.IsWhole)
  (arg4 : Memref sig .tc .vmem S1x8192x64 .bf16) (harg4 : arg4.IsWhole) (arg5 : Memref sig .tc .vmem S512x512 .bf16) (harg5 : arg5.IsWhole)
  (arg6 : Memref sig .tc .vmem S1x512x64 .f32) (harg6 : arg6.IsWhole)
  (x0 : Vec F S1x512x64 .bf16) (x1 x2 : Vec F S1x8192x64 .bf16) (x3 : Vec F S512x512 .bf16)

theorem piece : ∃ (v22 v79 v108 : BitVec 32), (kernelRun0_A (F := F) c i arg2 harg2 arg3 harg3 arg4 harg4 arg5 harg5 arg6 harg6 x0 x1 x2 x3).1
    = [⟨Rect.unit (s := S1x512x64) ![0, 0, 0] S1x512x64.size inb_S1x512x64_S1x512x64_0_0_0,
        shapeCast S1x512x64 (fourth c i arg2 harg2 arg3 harg3 arg4 harg4 arg5 harg5 arg6 harg6 v22 v79 v108 (harg2.unread x0) (harg3.unread x1) (harg4.unread x2) (harg5.unread x3)
          (third c i arg2 harg2 arg3 harg3 arg4 harg4 arg5 harg5 arg6 harg6 v22 v79 (harg2.unread x0) (harg3.unread x1) (harg4.unread x2) (harg5.unread x3)
           (second c i arg2 harg2 arg3 harg3 arg4 harg4 arg5 harg5 arg6 harg6 (harg2.unread x0) (harg3.unread x1) (harg4.unread x2) (harg5.unread x3)
            (first c i arg2 harg2 arg3 harg3 arg4 harg4 arg5 harg5 arg6 harg6 (harg2.unread x0) (harg3.unread x1) (harg4.unread x2) (harg5.unread x3)
             (stepAt (masked (cmpi .slt (addi (iota .tc S512x512 32 [1] iota_S512x512_d1_w32) (broadcast S512x512 (Scalar.muli (Scalar.addi (blockNo i) 0#32) 512#32)))
      (addi (iota .tc S512x512 32 [0] iota_S512x512_d0_w32) (broadcast S512x512 (Scalar.muli (BitVec.ofNat 32 (i 1).val) 512#32)))))
               (dataOf arg2 arg3 arg4 arg5 (harg2.unread x0) (harg3.unread x1) (harg4.unread x2) (harg5.unread x3)) (k0_off1 i) (k0_off1_inb i) none0)
             (k0_t1_loop i).trips) (k0_t2_loop i).trips) (k0_t3_loop i).trips) (k0_t4_loop i).trips).2 shapeCasts_S512x64_S1x512x64⟩] := by
  refine ⟨?_, ?_, ?_, ?run⟩
  case run =>
    unfold kernelRun0_A
    rfl

/-- The block left is the output after every block up to the first. -/
theorem out_eq : out0_A_4 (F := F) c i arg2 harg2 arg3 harg3 arg4 harg4 arg5 harg5 arg6 harg6 x0 x1 x2 x3
    = shapeCast S1x512x64 (lefts ⟨x0, x1, x2, x3⟩ i (i 1).val).2 shapeCasts_S512x64_S1x512x64 := by
  obtain ⟨v22, v79, v108, h⟩ := piece (F := F) c i arg2 harg2 arg3 harg3 arg4 harg4 arg5 harg5 arg6 harg6 x0 x1 x2 x3
  have hD : dataOf (F := F) arg2 arg3 arg4 arg5 (harg2.unread x0) (harg3.unread x1) (harg4.unread x2) (harg5.unread x3) = ⟨x0, x1, x2, x3⟩ := by
    unfold dataOf
    rw [harg2.read_unread, harg3.read_unread, harg4.read_unread, harg5.read_unread]
  unfold out0_A_4
  rw [h]
  refine (View.read_writes_full _ _ _ _ _).trans ?_
  unfold fourth second
  rw [t4_trips, st_k0_t4_zero, t2_trips, st_k0_t2_zero, diagMask_eq, stepAt_eq _ _ _ _ (i 1).val (i 1).isLt (off1_eq i)]
  refine congrArg (fun a : Acc F => shapeCast S1x512x64 a.2 shapeCasts_S512x64_S1x512x64) ?_
  refine (congrArg (fun a => third c i arg2 harg2 arg3 harg3 arg4 harg4 arg5 harg5 arg6 harg6 v22 v79 _ _ _ _ a _)
    (first_eq c i arg2 harg2 arg3 harg3 arg4 harg4 arg5 harg5 arg6 harg6 _ _ _ _ _ le_rfl)).trans ?_
  rw [t1_trips]
  refine (third_eq c i arg2 harg2 arg3 harg3 arg4 harg4 arg5 harg5 arg6 harg6 v22 v79 _ _ _ _ _ le_rfl).trans ?_
  rw [t3_trips, hD, Nat.mod_add_div]

end Cert.AttentionIdeal
end
-- ==== Proof.Math.lean ====
module

public import Mathlib.Analysis.SpecialFunctions.Log.Basic
public import Mathlib.Algebra.BigOperators.Intervals

@[expose] public section

noncomputable section

/-! # Stick-breaking attention and its gradient over the reals

One head: the score of query `t` and key `s` is an inner product, and the weight of key `s` is the probability that the
stick breaks at `s` and at no key between `s` and the query. Queries and keys are numbered by the natural numbers and
there are `N` of each. The gradients are the formulas one gets by differentiating these lines. -/

namespace Cert.Stick

open Finset

/-- A head's queries, keys and values, and the gradient of its output. -/
structure Head where
  q : ℕ → Fin 64 → ℝ
  k : ℕ → Fin 64 → ℝ
  v : ℕ → Fin 64 → ℝ
  g : ℕ → Fin 64 → ℝ

/-- The logarithm of the sigmoid. -/
def ls (x : ℝ) : ℝ := min x 0 - Real.log (1 + Real.exp (-|x|))

theorem ls_neg (x : ℝ) : ls (-x) = ls x - x := by
  unfold ls; rw [abs_neg]
  rcases le_total x 0 with h | h
  · rw [min_eq_right (by linarith), min_eq_left h]; ring
  · rw [min_eq_left (by linarith), min_eq_right h]; ring

theorem exp_ls (x : ℝ) : Real.exp (ls x) = Real.exp x / (1 + Real.exp x) := by
  have h1 : 0 < 1 + Real.exp (-|x|) := by positivity
  unfold ls
  rw [Real.exp_sub, Real.exp_log h1]
  rcases le_total x 0 with h | h
  · rw [min_eq_left h, abs_of_nonpos h, neg_neg]
  · rw [min_eq_right h, abs_of_nonneg h, Real.exp_zero, Real.exp_neg]
    have : 0 < Real.exp x := Real.exp_pos x
    field_simp
    ring

/-- The two sigmoids add up to one. -/
theorem exp_ls_neg (x : ℝ) : Real.exp (ls (-x)) = 1 - Real.exp (ls x) := by
  rw [exp_ls, exp_ls, Real.exp_neg]
  have : 0 < Real.exp x := Real.exp_pos x
  field_simp
  ring

variable (A : Head) (N : ℕ) (t s : ℕ)

/-- The score. -/
def Z : ℝ := ∑ d, A.q t d * A.k s d
/-- The logarithm of the chance that the stick goes on past key `s`. -/
def lm : ℝ := if s < t then ls (Z A t s) - Z A t s else 0
/-- The weight. -/
def W : ℝ := if s < t then Real.exp (ls (Z A t s) + ∑ j ∈ Ico (s + 1) N, lm A t j) else 0
/-- The output. -/
def O (d : Fin 64) : ℝ := ∑ s ∈ range N, W A N t s * A.v s d
/-- The weight's gradient times the weight. -/
def G : ℝ := (∑ d, A.g t d * A.v s d) * W A N t s
/-- The score's gradient. -/
def dZ : ℝ := if s < t then G A N t s - Real.exp (ls (Z A t s)) * ∑ j ∈ range (s + 1), G A N t j else 0
/-- The gradients of the queries, the keys and the values. -/
def dQ (d : Fin 64) : ℝ := ∑ s ∈ range N, dZ A N t s * A.k s d
def dK (d : Fin 64) : ℝ := ∑ t ∈ range N, dZ A N t s * A.q t d
def dV (d : Fin 64) : ℝ := ∑ t ∈ range N, W A N t s * A.g t d

variable {t s}

theorem lm_zero (h : t ≤ s) : lm A t s = 0 := if_neg (by omega)
theorem W_zero (h : t ≤ s) : W A N t s = 0 := if_neg (by omega)
theorem G_zero (h : t ≤ s) : G A N t s = 0 := by unfold G; rw [W_zero A N h, mul_zero]
theorem dZ_zero (h : t ≤ s) : dZ A N t s = 0 := if_neg (by omega)

/-- The output times its gradient is the sum over the keys of the weights' gradients times the weights. -/
theorem sum_G : ∑ d, A.g t d * O A N t d = ∑ s ∈ range N, G A N t s := by
  unfold O G
  simp only [mul_sum, sum_mul]
  rw [sum_comm]
  refine sum_congr rfl fun s _ => sum_congr rfl fun d _ => ?_
  ring

/-! ## Sums over a block of `n` keys -/

section
variable {M : Type} [AddCommMonoid M] (f : ℕ → M) {o n : ℕ}

theorem sum_block : ∑ j ∈ Ico o (o + n), f j = ∑ b : Fin n, f (o + b.val) := by
  rw [sum_Ico_eq_sum_range, Nat.add_sub_cancel_left, sum_range]

/-- A sum from a block on is the block's and the sum from the next one on. -/
theorem sum_from (h : o + n ≤ N) : ∑ j ∈ Ico o N, f j = ∑ j ∈ Ico (o + n) N, f j + ∑ b : Fin n, f (o + b.val) := by
  rw [← sum_block, add_comm, sum_Ico_consecutive f (by omega) h]
end

variable (f : ℕ → ℝ) {o n : ℕ}

/-- The sum over the keys of a block to the right of one of them. -/
theorem sum_right (b : Fin n) : ∑ c : Fin n, (if b < c then f (o + c.val) else 0) = ∑ j ∈ Ico (o + b.val + 1) (o + n), f j := by
  have hb := b.isLt
  have h : ∀ c : Fin n, (if b < c then f (o + c.val) else 0) = (fun j => if o + b.val < j then f j else 0) (o + c.val) := fun c => by
    refine if_congr ?_ rfl rfl
    rw [Fin.lt_def]; omega
  rw [sum_congr rfl fun c _ => h c, ← sum_block (fun j => if o + b.val < j then f j else 0), ← sum_filter]
  refine sum_congr ?_ fun _ _ => rfl
  ext j; simp only [mem_filter, mem_Ico]; omega

/-- The sum over all keys to the right of one of a block. -/
theorem sum_after (h : o + n ≤ N) (b : Fin n) :
    ∑ j ∈ Ico (o + b.val + 1) N, f j = ∑ c : Fin n, (if b < c then f (o + c.val) else 0) + ∑ j ∈ Ico (o + n) N, f j := by
  rw [sum_right, sum_Ico_consecutive f (by omega) h]

/-- The sum over the keys up to one of a block: all, less those to the right. -/
theorem sum_upto (h : o + n ≤ N) (b : Fin n) :
    ∑ j ∈ range (o + b.val + 1), f j
      = ∑ j ∈ range N, f j - ∑ j ∈ Ico (o + n) N, f j - ∑ c : Fin n, (if b < c then f (o + c.val) else 0) := by
  have e : ∑ j ∈ range (o + b.val + 1), f j + ∑ j ∈ Ico (o + b.val + 1) N, f j = ∑ j ∈ range N, f j :=
    sum_range_add_sum_Ico f (by omega)
  rw [sum_after N f h] at e
  linarith

/-- The sum over `n` rows from `p` on. -/
theorem sum_rows (p n : ℕ) : ∑ r : Fin n, f (p + r.val) = ∑ j ∈ Ico p (p + n), f j := by
  rw [sum_Ico_eq_sum_range, Nat.add_sub_cancel_left, sum_range]

end Cert.Stick
end
-- ==== Proof.WindowReal.lean ====
module

public import proofs.«01_k».proof.Proof.Math
public import Idealize.ShloMosaic.Lib.Pointwise
public import Idealize.ShloMosaic.Lib.Pointwise.IndexVar

@[expose] public section

set_option maxRecDepth 16384

noncomputable section

/-! # Running sums

A sum over windows as long as the row, padded below or above by one less than that, is the running sum of the row from
its left or its right end. -/

namespace Cert.Window

open Idealize.ShloMosaic Finset

theorem foldl_coe {n : ℕ} (g : Fin n → EReal) (f : ℕ → ℝ) (hg : ∀ i : Fin n, g i = ((f i.val : ℝ) : EReal)) (c : ℝ) :
    (List.finRange n).foldl (fun r i => r + g i) (c : EReal) = ((c + ∑ i ∈ range n, f i : ℝ) : EReal) := by
  induction n generalizing c f with
  | zero => simp
  | succ n ih =>
    rw [List.finRange_succ, List.foldl_cons, List.foldl_map, hg 0, ← EReal.coe_add,
      ih (fun i => g i.succ) (fun i => f (i + 1)) (fun i => hg i.succ), sum_range_succ']
    congr 1
    show c + f 0 + _ = c + (_ + f 0)
    ring

variable {a b N : ℕ}

theorem numel_row : (⟨3, ![1, 1, N]⟩ : Shape).numel = N := by
  show ∏ i : Fin 3, (![1, 1, N] : Fin 3 → ℕ) i = N
  simp [Fin.prod_univ_succ]

theorem row_last (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  have h0 : ((⟨3, ![1, 1, N]⟩ : Shape).rowMajor.symm n 0).val < 1 := ((⟨3, ![1, 1, N]⟩ : Shape).rowMajor.symm n 0).isLt
  have h1 : ((⟨3, ![1, 1, N]⟩ : Shape).rowMajor.symm n 1).val < 1 := ((⟨3, ![1, 1, N]⟩ : Shape).rowMajor.symm n 1).isLt
  have e0 := Nat.lt_one_iff.mp h0
  have e1 := Nat.lt_one_iff.mp h1
  refine ⟨e0, e1, ?_⟩
  have h := Shape.rowMajor_val_three (d := ![1, 1, N]) ((⟨3, ![1, 1, N]⟩ : Shape).rowMajor.symm n)
  rw [Equiv.apply_symm_apply, e0, e1] at h
  rw [h]
  simp

theorem window_sum {L H : ℕ} (x : (⟨3, ![a, b, N]⟩ : Shape).Idx → EReal)
    (h : (⟨3, ![a, b, N]⟩ : Shape).ReduceWindows (![1, 1, N] : Fin 3 → ℕ) ![1, 1, 1] ![0, 0, L] ![0, 0, H] ⟨3, ![a, b, N]⟩)
    (i : Fin a) (j : Fin b) (k : Fin N) (f : ℕ → ℝ) (hx : ∀ n : Fin N, x (ix3 i j n) = ((f n.val : ℝ) : EReal)) :
    Ideal.hostReduceWindowAdd (![1, 1, N] : Fin 3 → ℕ) ![1, 1, 1] ![0, 0, L] ![0, 0, H] h x 0 (ix3 i j k)
      = ((∑ n ∈ range N, (if L ≤ k.val + n ∧ k.val + n - L < N then f (k.val + n - L) else 0) : ℝ) : EReal) := by
  unfold Ideal.hostReduceWindowAdd Host.reduceWindow
  refine (foldl_coe _ (fun n => if L ≤ k.val + n ∧ k.val + n - L < N then f (k.val + n - L) else 0) (fun n => ?_) 0).trans ?_
  · obtain ⟨e0, e1, e2⟩ := row_last n
    dsimp only
    by_cases hc : L ≤ k.val + n.val ∧ k.val + n.val - L < N
    · have hin : ∀ c : Fin 3, (![0, 0, L] : Fin 3 → ℕ) c ≤ (ix3 i j k (c.cast h.1.symm)).val * (![1, 1, 1] : Fin 3 → ℕ) c
          + ((⟨3, ![1, 1, N]⟩ : Shape).rowMajor.symm n c).val
          ∧ (ix3 i j k (c.cast h.1.symm)).val * (![1, 1, 1] : Fin 3 → ℕ) c
          + ((⟨3, ![1, 1, N]⟩ : Shape).rowMajor.symm n c).val - (![0, 0, L] : Fin 3 → ℕ) c < (![a, b, N] : Fin 3 → ℕ) c := by
        intro c
        match c with
        | ⟨0, _⟩ =>
          show 0 ≤ i.val * 1 + ((⟨3, ![1, 1, N]⟩ : Shape).rowMajor.symm n 0).val
            ∧ i.val * 1 + ((⟨3, ![1, 1, N]⟩ : Shape).rowMajor.symm n 0).val - 0 < a
          rw [e0]; have := i.isLt; omega
        | ⟨1, _⟩ =>
          show 0 ≤ j.val * 1 + ((⟨3, ![1, 1, N]⟩ : Shape).rowMajor.symm n 1).val
            ∧ j.val * 1 + ((⟨3, ![1, 1, N]⟩ : Shape).rowMajor.symm n 1).val - 0 < b
          rw [e1]; have := j.isLt; omega
        | ⟨2, _⟩ =>
          show L ≤ k.val * 1 + ((⟨3, ![1, 1, N]⟩ : Shape).rowMajor.symm n 2).val
            ∧ k.val * 1 + ((⟨3, ![1, 1, N]⟩ : Shape).rowMajor.symm n 2).val - L < N
          rw [e2]; omega
      rw [dif_pos hin, if_pos hc]
      refine (congrArg x (funext fun c => Fin.ext ?_)).trans (hx ⟨k.val + n.val - L, hc.2⟩)
      match c with
      | ⟨0, _⟩ =>
        show i.val * 1 + ((⟨3, ![1, 1, N]⟩ : Shape).rowMajor.symm n 0).val - 0 = i.val
        rw [e0]; omega
      | ⟨1, _⟩ =>
        show j.val * 1 + ((⟨3, ![1, 1, N]⟩ : Shape).rowMajor.symm n 1).val - 0 = j.val
        rw [e1]; omega
      | ⟨2, _⟩ =>
        show k.val * 1 + ((⟨3, ![1, 1, N]⟩ : Shape).rowMajor.symm n 2).val - L = k.val + n.val - L
        rw [e2]; omega
    · rw [if_neg hc, dif_neg]
      · rfl
      · intro hin
        have h2 := hin 2
        change L ≤ k.val * 1 + ((⟨3, ![1, 1, N]⟩ : Shape).rowMajor.symm n 2).val
            ∧ k.val * 1 + ((⟨3, ![1, 1, N]⟩ : Shape).rowMajor.symm n 2).val - L < N at h2
        rw [e2, Nat.mul_one] at h2
        exact hc h2
  · rw [zero_add]
    exact congrArg (fun M => ((∑ n ∈ range M, (if L ≤ k.val + n ∧ k.val + n - L < N then f (k.val + n - L) else 0) : ℝ) : EReal))
      numel_row

/-- From the right end. -/
theorem window_right {H : ℕ} (x : (⟨3, ![a, b, N]⟩ : Shape).Idx → EReal)
    (h : (⟨3, ![a, b, N]⟩ : Shape).ReduceWindows (![1, 1, N] : Fin 3 → ℕ) ![1, 1, 1] ![0, 0, 0] ![0, 0, H] ⟨3, ![a, b, N]⟩)
    (i : Fin a) (j : Fin b) (k : Fin N) (f : ℕ → ℝ) (hx : ∀ n : Fin N, x (ix3 i j n) = ((f n.val : ℝ) : EReal)) :
    Ideal.hostReduceWindowAdd (![1, 1, N] : Fin 3 → ℕ) ![1, 1, 1] ![0, 0, 0] ![0, 0, H] h x 0 (ix3 i j k)
      = ((∑ n ∈ Ico k.val N, f n : ℝ) : EReal) := by
  rw [window_sum x h i j k f hx]
  congr 1
  rw [← sum_filter, sum_Ico_eq_sum_range]
  refine sum_subset_zero_on_sdiff (fun n hn => ?_) (fun n hn => ?_) (fun n hn => by rw [Nat.sub_zero]) |>.symm
  · simp only [mem_range, mem_filter] at hn ⊢; omega
  · simp only [mem_range, mem_filter, mem_sdiff] at hn; omega

/-- From the left end. -/
theorem window_left {L : ℕ} (hL : L + 1 = N) (x : (⟨3, ![a, b, N]⟩ : Shape).Idx → EReal)
    (h : (⟨3, ![a, b, N]⟩ : Shape).ReduceWindows (![1, 1, N] : Fin 3 → ℕ) ![1, 1, 1] ![0, 0, L] ![0, 0, 0] ⟨3, ![a, b, N]⟩)
    (i : Fin a) (j : Fin b) (k : Fin N) (f : ℕ → ℝ) (hx : ∀ n : Fin N, x (ix3 i j n) = ((f n.val : ℝ) : EReal)) :
    Ideal.hostReduceWindowAdd (![1, 1, N] : Fin 3 → ℕ) ![1, 1, 1] ![0, 0, L] ![0, 0, 0] h x 0 (ix3 i j k)
      = ((∑ n ∈ range (k.val + 1), f n : ℝ) : EReal) := by
  rw [window_sum x h i j k f hx]
  congr 1
  have hk := k.isLt
  rw [← sum_filter]
  refine sum_nbij' (fun n => k.val + n - L) (fun n => n + L - k.val) ?_ ?_ ?_ ?_ ?_ <;> intro n hn <;>
    simp only [mem_range, mem_filter] at hn ⊢ <;> omega

end Cert.Window
-- ==== Proof.Step.lean ====
module

public import proofs.«01_k».proof.Proof.Gen.KernelIdeal.Skeleton
public import Idealize.ShloMosaic.Lib.Tactic

@[expose] public section

set_option maxRecDepth 16384

noncomputable section

/-! # One key block of the attention's gradient, for `n` query rows

The kernel takes the key blocks of a query block from right to left. A step over 256 keys forms the weights of `n`
query rows and carries three values over to the next block: the sums of the log-complements and of the weights'
gradients over the keys already seen, and the queries' gradient so far. It is written here once, for any number of rows
and any float values; `keep` puts zero at the keys a row does not attend to, or does nothing. -/

namespace Cert.KernelIdeal.Step

open Idealize.ShloMosaic Cert.KernelIdeal.Gen

variable {F : FTy → Type} [FloatOps F]

/-- An `a` by `b` matrix's shape. -/
abbrev Mat (a b : ℕ) : Shape := ⟨2, ![a, b]⟩

/-- What the operations ask of the shapes at `n` rows. -/
structure Rows (n : ℕ) : Prop where
  red : (Mat n 256).Reduces [1] ⟨1, ![n]⟩
  col : (⟨1, ![n]⟩ : Shape).ShapeCasts (Mat n 1)
  bc : (Mat n 1).Broadcasts (Mat n 256)
  nt : DotDims.WF (Mat n 64) (Mat 256 64) (Mat n 256) [1] [1] [0] [0] [] []
  sums : DotDims.WF (Mat n 256) (Mat 256 256) (Mat n 256) [1] [0] [0] [1] [] []
  nn : DotDims.WF (Mat n 256) (Mat 256 64) (Mat n 64) [1] [0] [0] [1] [] []
  tn : DotDims.WF (Mat n 256) (Mat n 64) (Mat 256 64) [0] [0] [1] [1] [] []

variable {n : ℕ} (h : Rows n)

/-- Rows against rows: both last axes contracted. -/
def dotNT : DotDims (Mat n 64) (Mat 256 64) (Mat n 256) where
  lhsContracting := [1]
  rhsContracting := [1]
  lhsNonContracting := [0]
  rhsNonContracting := [0]
  lhsBatch := []
  rhsBatch := []
  wf := h.nt
/-- A row of 256 times the 256 by 256 matrix. -/
def dotU : DotDims (Mat n 256) (Mat 256 256) (Mat n 256) where
  lhsContracting := [1]
  rhsContracting := [0]
  lhsNonContracting := [0]
  rhsNonContracting := [1]
  lhsBatch := []
  rhsBatch := []
  wf := h.sums
/-- A row of 256 times the key block. -/
def dotNN : DotDims (Mat n 256) (Mat 256 64) (Mat n 64) where
  lhsContracting := [1]
  rhsContracting := [0]
  lhsNonContracting := [0]
  rhsNonContracting := [1]
  lhsBatch := []
  rhsBatch := []
  wf := h.nn
/-- The transposed weights times the rows: both first axes contracted. -/
def dotTN : DotDims (Mat n 256) (Mat n 64) (Mat 256 64) where
  lhsContracting := [0]
  rhsContracting := [0]
  lhsNonContracting := [1]
  rhsNonContracting := [1]
  lhsBatch := []
  rhsBatch := []
  wf := h.tn

/-- Zero at the entries the mask leaves out. -/
def masked (m : IVec (Mat n 256) 1) (x : FVec F (Mat n 256) .f32) : FVec F (Mat n 256) .f32 :=
  select m x (broadcast (Mat n 256) (Scalar.ofBits .f32 0x00000000#32))

/-- The scores. -/
def z (q : FVec F (Mat n 64) .bf16) (kb : FVec F (Mat 256 64) .bf16) : FVec F (Mat n 256) .f32 :=
  matmul (dotNT h) none q kb (constant (Mat n 256) .f32 0x00000000#32)

/-- The logarithm of the sigmoid of a score. -/
def lb (z : FVec F (Mat n 256) .f32) : FVec F (Mat n 256) .f32 :=
  subf (minimumf z (broadcast (Mat n 256) (Scalar.ofBits .f32 0x00000000#32)))
    (log (addf (broadcast (Mat n 256) (Scalar.ofBits .f32 0x3F800000#32))
      (exp (subf (broadcast (Mat n 256) (Scalar.ofBits .f32 0x00000000#32)) (absf z)))))

variable (keep : FVec F (Mat n 256) .f32 → FVec F (Mat n 256) .f32)

/-- The logarithm of the complement, at the keys kept. -/
def lm (z : FVec F (Mat n 256) .f32) : FVec F (Mat n 256) .f32 := keep (subf (lb z) z)

/-- The sums over the keys to the right within the block: times the matrix `u`. -/
def right (u : FVec F (Mat 256 256) .bf16) (x : FVec F (Mat n 256) .bf16) : FVec F (Mat n 256) .f32 :=
  matmul (dotU h) none x u (constant (Mat n 256) .f32 0x00000000#32)

/-- The weights. -/
def ab (u : FVec F (Mat 256 256) .bf16) (r : FVec F (Mat n 1) .f32) (z : FVec F (Mat n 256) .f32) : FVec F (Mat n 256) .bf16 :=
  truncf .bf16 (keep (exp (addf (addf (lb z) (right h u (truncf .bf16 (lm keep z) bitsLt_bf16_f32)))
    (broadcastTo (Mat n 256) r h.bc)))) bitsLt_bf16_f32

/-- The gradient of the weights times the weights. -/
def g (vb : FVec F (Mat 256 64) .bf16) (dout : FVec F (Mat n 64) .bf16) (a : FVec F (Mat n 256) .bf16) : FVec F (Mat n 256) .f32 :=
  mulf (matmul (dotNT h) none dout vb (constant (Mat n 256) .f32 0x00000000#32)) (extf .f32 a bitsLt_bf16_f32)

/-- The sums over the keys to the right within the block, of a value in two parts: its leading bits and the rest. -/
def right2 (u : FVec F (Mat 256 256) .bf16) (x : FVec F (Mat n 256) .f32) : FVec F (Mat n 256) .f32 :=
  addf (right h u (truncf .bf16 x bitsLt_bf16_f32))
    (right h u (truncf .bf16 (subf x (extf .f32 (truncf .bf16 x bitsLt_bf16_f32) bitsLt_bf16_f32)) bitsLt_bf16_f32))

/-- The gradient of the scores. -/
def dz (u : FVec F (Mat 256 256) .bf16) (tot gs : FVec F (Mat n 1) .f32) (z g : FVec F (Mat n 256) .f32) : FVec F (Mat n 256) .bf16 :=
  truncf .bf16 (keep (subf g (mulf (exp (lb z)) (subf (broadcastTo (Mat n 256) (subf tot gs) h.bc) (right2 h u g))))) bitsLt_bf16_f32

/-- A carried sum with the sums of the block's rows added. -/
def addRows (s : FVec F (Mat n 1) .f32) (x : FVec F (Mat n 256) .f32) : FVec F (Mat n 1) .f32 :=
  addf s (shapeCast (Mat n 1) (multiReduction .add [1] ⟨1, ![n]⟩ x 0x00000000#32 h.red (.inl rfl) rfl) h.col)

/-- The queries' gradient with the block's part added. -/
def addQ (dq : FVec F (Mat n 64) .f32) (dz : FVec F (Mat n 256) .bf16) (kb : FVec F (Mat 256 64) .bf16) : FVec F (Mat n 64) .f32 :=
  addf dq (matmul (dotNN h) none dz kb (constant (Mat n 64) .f32 0x00000000#32))

/-- A key block's gradient with these rows' part added. -/
def addK (old : FVec F ⟨3, ![1, 256, 64]⟩ .f32) (w : FVec F (Mat n 256) .bf16) (x : FVec F (Mat n 64) .bf16) : FVec F ⟨3, ![1, 256, 64]⟩ .f32 :=
  shapeCast ⟨3, ![1, 256, 64]⟩ (addf (shapeCast (Mat 256 64) old shapeCasts_S1x256x64_S256x64)
    (matmul (dotTN h) none w x (constant (Mat 256 64) .f32 0x00000000#32))) shapeCasts_S256x64_S1x256x64

/-- What the `n` rows of a query block bring to a step: the queries, the output's gradient, the sum over all keys of the
    weights' gradients, and the carried values. -/
structure In (F : FTy → Type) [FloatOps F] (n : ℕ) where
  q : FVec F (Mat n 64) .bf16
  dout : FVec F (Mat n 64) .bf16
  tot : FVec F (Mat n 1) .f32

/-- What a step carries over. -/
structure Carry (F : FTy → Type) [FloatOps F] (n : ℕ) where
  r : FVec F (Mat n 1) .f32
  gs : FVec F (Mat n 1) .f32
  dq : FVec F (Mat n 64) .f32

/-- The key block of a step: its keys, its values and the matrix of ones below the diagonal. -/
structure Keys (F : FTy → Type) [FloatOps F] where
  k : FVec F (Mat 256 64) .bf16
  v : FVec F (Mat 256 64) .bf16
  u : FVec F (Mat 256 256) .bf16

variable (x : In F n) (b : Keys F) (c : Carry F n)

/-- The step's weights, their gradient's product and the scores' gradient. -/
def zOf : FVec F (Mat n 256) .f32 := z h x.q b.k
def aOf : FVec F (Mat n 256) .bf16 := ab h keep b.u c.r (zOf h x b)
def gOf : FVec F (Mat n 256) .f32 := g h b.v x.dout (aOf h keep x b c)
def dzOf : FVec F (Mat n 256) .bf16 := dz h keep b.u x.tot c.gs (zOf h x b) (gOf h keep x b c)

/-- The carried values after the step. -/
def next : Carry F n where
  r := addRows h c.r (lm keep (zOf h x b))
  gs := addRows h c.gs (gOf h keep x b c)
  dq := addQ h c.dq (dzOf h keep x b c) b.k

/-- The keys' and the values' gradients after the step. -/
def dkOf (old : FVec F ⟨3, ![1, 256, 64]⟩ .f32) : FVec F ⟨3, ![1, 256, 64]⟩ .f32 := addK h old (dzOf h keep x b c) x.q
def dvOf (old : FVec F ⟨3, ![1, 256, 64]⟩ .f32) : FVec F ⟨3, ![1, 256, 64]⟩ .f32 := addK h old (aOf h keep x b c) x.dout

end Cert.KernelIdeal.Step
end
-- ==== Proof.StepReal.lean ====
module

public import proofs.«01_k».proof.Proof.Math
public import proofs.«01_k».proof.Proof.Step
public import Idealize.ShloMosaic.Lib.Pointwise
public import Idealize.ShloMosaic.Lib.Pointwise.IndexVar

@[expose] public section

set_option maxRecDepth 16384

noncomputable section

/-! # One key block over the reals

With finite arguments every value of a step is a real number, and is the one of `Math.lean`: rows are the queries from
`p` on, the block's keys are those from `o` on. -/

namespace Cert.KernelIdeal.Step

open Idealize.ShloMosaic Cert.KernelIdeal.Gen Cert.Stick Finset

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [sum_insert h, sum_insert h, ih, EReal.coe_add]

theorem coe_ite (p : Prop) [Decidable p] (x y : ℝ) : (if p then (x : EReal) else (y : EReal)) = ((if p then x else y : ℝ) : EReal) := by
  split <;> rfl

theorem coe_absf (x : ℝ) : max (x : EReal) (-(x : EReal)) = ((|x| : ℝ) : EReal) := by
  rw [← EReal.coe_neg]; exact (EReal.coe_strictMono.monotone.map_max).symm

theorem log_pos {x : ℝ} (h : 0 < x) : Ideal.log (x : EReal) = ((Real.log x : ℝ) : EReal) := by
  rw [Ideal.log_coe, if_neg (not_le.mpr h)]

variable {n : ℕ} (h : Rows n)

theorem z_apply (q : FVec Ideal (Mat n 64) .bf16) (k : FVec Ideal (Mat 256 64) .bf16) (r : Fin n) (c : Fin 256) :
    z h q k (ix2 r c) = ∑ d : Fin 64, q (ix2 r d) * k (ix2 c d) := by
  unfold z
  pointwise [dotNT]

theorem right_apply (u : FVec Ideal (Mat 256 256) .bf16) (x : FVec Ideal (Mat n 256) .bf16) (r : Fin n) (c : Fin 256) :
    right h u x (ix2 r c) = ∑ b : Fin 256, x (ix2 r b) * u (ix2 b c) := by
  unfold right
  pointwise [dotU]

/-- A row of `n` values as a column. -/
theorem col_apply {α : Type} (x : (⟨1, ![n]⟩ : Shape).Idx → α) (hc : (⟨1, ![n]⟩ : Shape).ShapeCasts (Mat n 1)) (r : Fin n) :
    shapeCast (Mat n 1) x hc (ix2 r (0 : Fin 1)) = x (ix1 r) :=
  Idealize.ShloMosaic.shapeCast_apply x hc _ _ (by
    rw [Shape.rowMajor_val_two, Shape.rowMajor_val_one]
    show r.val = r.val * 1 + 0
    omega)

/-- A column spread over the keys. -/
theorem spread_apply (x : FVec Ideal (Mat n 1) .f32) (r : Fin n) (e : Fin 256) :
    broadcastTo (Mat n 256) x h.bc (ix2 r e) = x (ix2 r (0 : Fin 1)) := by
  pointwise
  refine congrArg (fun a : Fin n => x (ix2 a (0 : Fin 1))) ?_
  by_cases h1 : n = 1
  · have := r.isLt
    exact (dif_pos h1).trans (Fin.ext (by show 0 = r.val; omega))
  · exact dif_neg h1

theorem addRows_apply (s : FVec Ideal (Mat n 1) .f32) (x : FVec Ideal (Mat n 256) .f32) (r : Fin n) :
    addRows h s x (ix2 r (0 : Fin 1)) = s (ix2 r (0 : Fin 1)) + ∑ c : Fin 256, x (ix2 r c) := by
  unfold addRows
  rw [show ∀ a b : FVec Ideal (Mat n 1) .f32, addf a b (ix2 r (0 : Fin 1)) = a (ix2 r (0 : Fin 1)) + b (ix2 r (0 : Fin 1)) from fun _ _ => rfl,
    col_apply]
  pointwise

theorem addQ_apply (dq : FVec Ideal (Mat n 64) .f32) (w : FVec Ideal (Mat n 256) .bf16) (k : FVec Ideal (Mat 256 64) .bf16)
    (r : Fin n) (d : Fin 64) : addQ h dq w k (ix2 r d) = dq (ix2 r d) + ∑ c : Fin 256, w (ix2 r c) * k (ix2 c d) := by
  unfold addQ
  pointwise [dotNN]

theorem addK_apply (old : FVec Ideal ⟨3, ![1, 256, 64]⟩ .f32) (w : FVec Ideal (Mat n 256) .bf16) (x : FVec Ideal (Mat n 64) .bf16)
    (c : Fin 256) (d : Fin 64) :
    addK h old w x (ix3 (0 : Fin 1) c d) = old (ix3 (0 : Fin 1) c d) + ∑ r : Fin n, w (ix2 r c) * x (ix2 r d) := by
  unfold addK
  pointwise
  refine congrArg _ ?_
  refine (Ideal.matmul_apply₁ (dotTN h) (a := 0) (K := n) rfl rfl w x _ _).trans ?_
  pointwise

/-! ## The values as real numbers -/

theorem lb_apply (x : FVec Ideal (Mat n 256) .f32) (r : Fin n) (c : Fin 256) (y : ℝ) (hx : x (ix2 r c) = (y : EReal)) :
    lb x (ix2 r c) = ((ls y : ℝ) : EReal) := by
  have e : 0 < 1 + Real.exp (-|y|) := by positivity
  unfold lb
  pointwise
  rw [hx, Ideal.absf_def, coe_absf, zero_sub, ← EReal.coe_neg, Ideal.exp_coe, ← EReal.coe_one, ← EReal.coe_add, log_pos e, ← EReal.coe_zero,
    ← EReal.coe_strictMono.monotone.map_min, ← EReal.coe_sub]
  rfl

variable (A : Head) (N p o : ℕ)

/-- The rows of a step are the queries from `p` on. -/
structure InIs (x : In Ideal n) : Prop where
  q : ∀ (r : Fin n) (d : Fin 64), x.q (ix2 r d) = ((A.q (p + r.val) d : ℝ) : EReal)
  g : ∀ (r : Fin n) (d : Fin 64), x.dout (ix2 r d) = ((A.g (p + r.val) d : ℝ) : EReal)
  tot : ∀ r : Fin n, x.tot (ix2 r (0 : Fin 1)) = ((∑ s ∈ range N, G A N (p + r.val) s : ℝ) : EReal)

/-- The block's keys are those from `o` on. -/
structure KeysIs (b : Keys Ideal) : Prop where
  k : ∀ (c : Fin 256) (d : Fin 64), b.k (ix2 c d) = ((A.k (o + c.val) d : ℝ) : EReal)
  v : ∀ (c : Fin 256) (d : Fin 64), b.v (ix2 c d) = ((A.v (o + c.val) d : ℝ) : EReal)
  u : ∀ c e : Fin 256, b.u (ix2 c e) = (((if e < c then 1 else 0 : ℝ) : ℝ) : EReal)

/-- The carried values are the sums over the keys from `o` on. -/
structure CarryIs (c : Carry Ideal n) : Prop where
  r : ∀ r : Fin n, c.r (ix2 r (0 : Fin 1)) = ((∑ j ∈ Ico o N, Stick.lm A (p + r.val) j : ℝ) : EReal)
  gs : ∀ r : Fin n, c.gs (ix2 r (0 : Fin 1)) = ((∑ j ∈ Ico o N, G A N (p + r.val) j : ℝ) : EReal)
  dq : ∀ (r : Fin n) (d : Fin 64), c.dq (ix2 r d) = ((∑ j ∈ Ico o N, dZ A N (p + r.val) j * A.k j d : ℝ) : EReal)

/-- What is kept: the keys before the query. -/
def Keeps (keep : FVec Ideal (Mat n 256) .f32 → FVec Ideal (Mat n 256) .f32) : Prop :=
  ∀ (x : FVec Ideal (Mat n 256) .f32) (r : Fin n) (c : Fin 256),
    keep x (ix2 r c) = if o + c.val < p + r.val then x (ix2 r c) else 0

variable {A N p o} {keep : FVec Ideal (Mat n 256) .f32 → FVec Ideal (Mat n 256) .f32} {x : In Ideal n} {b : Keys Ideal} {c : Carry Ideal n}

theorem right_real {u : FVec Ideal (Mat 256 256) .bf16} (hu : ∀ c e : Fin 256, u (ix2 c e) = (((if e < c then 1 else 0 : ℝ) : ℝ) : EReal))
    {y : FVec Ideal (Mat n 256) .bf16} {r : Fin n} {f : ℕ → ℝ} (hy : ∀ c : Fin 256, y (ix2 r c) = ((f (o + c.val) : ℝ) : EReal)) (e : Fin 256) :
    right h u y (ix2 r e) = ((∑ c : Fin 256, (if e < c then f (o + c.val) else 0) : ℝ) : EReal) := by
  rw [right_apply, ← coe_sum]
  refine sum_congr rfl fun c _ => ?_
  rw [hy, hu, ← EReal.coe_mul, mul_ite, mul_one, mul_zero]

variable (hx : InIs A N p x) (hb : KeysIs A o b) (hk : Keeps p o keep)
include hx hb

theorem z_real (r : Fin n) (e : Fin 256) : zOf h x b (ix2 r e) = ((Z A (p + r.val) (o + e.val) : ℝ) : EReal) := by
  unfold zOf
  rw [z_apply]
  simp only [hx.q, hb.k, ← EReal.coe_mul, coe_sum]
  rfl

include hk

theorem lm_real (r : Fin n) (e : Fin 256) : lm keep (zOf h x b) (ix2 r e) = ((Stick.lm A (p + r.val) (o + e.val) : ℝ) : EReal) := by
  unfold lm Stick.lm
  rw [hk, ← coe_ite, EReal.coe_zero, EReal.coe_sub, ← lb_apply _ r e _ (z_real h hx hb r e), ← z_real h hx hb r e]
  rfl

variable (ho : o + 256 ≤ N) (hc : CarryIs A N p (o + 256) c)
include ho hc

theorem a_real (r : Fin n) (e : Fin 256) : aOf h keep x b c (ix2 r e) = ((W A N (p + r.val) (o + e.val) : ℝ) : EReal) := by
  unfold aOf ab W
  rw [show ∀ y : FVec Ideal (Mat n 256) .f32, (truncf .bf16 y bitsLt_bf16_f32 : FVec Ideal (Mat n 256) .bf16) (ix2 r e) = y (ix2 r e) from fun _ => rfl,
    hk, ← coe_ite, EReal.coe_zero]
  refine if_congr Iff.rfl ?_ rfl
  rw [sum_after N _ ho, ← Ideal.exp_coe, ← add_assoc, EReal.coe_add, EReal.coe_add, ← hc.r, ← lb_apply _ r e _ (z_real h hx hb r e),
    ← right_real h hb.u (y := truncf .bf16 (lm keep (zOf h x b)) bitsLt_bf16_f32) (r := r) (f := Stick.lm A (p + r.val)) (fun c => lm_real h hx hb hk r c) e,
    ← spread_apply h c.r r e]
  rfl

theorem g_real (r : Fin n) (e : Fin 256) : gOf h keep x b c (ix2 r e) = ((G A N (p + r.val) (o + e.val) : ℝ) : EReal) := by
  unfold gOf g G
  rw [EReal.coe_mul, ← a_real h hx hb hk ho hc r e]
  refine congrArg₂ (· * ·) ?_ rfl
  refine (z_apply h x.dout b.v r e).trans ?_
  simp only [hx.g, hb.v, ← EReal.coe_mul, coe_sum]

theorem dz_real (r : Fin n) (e : Fin 256) : dzOf h keep x b c (ix2 r e) = ((dZ A N (p + r.val) (o + e.val) : ℝ) : EReal) := by
  have hg := fun e => g_real h hx hb hk ho hc r e
  unfold dzOf dz dZ
  rw [show ∀ y : FVec Ideal (Mat n 256) .f32, (truncf .bf16 y bitsLt_bf16_f32 : FVec Ideal (Mat n 256) .bf16) (ix2 r e) = y (ix2 r e) from fun _ => rfl,
    hk, ← coe_ite, EReal.coe_zero]
  refine if_congr Iff.rfl ?_ rfl
  have h2 : right2 h b.u (gOf h keep x b c) (ix2 r e) = ((∑ j : Fin 256, (if e < j then G A N (p + r.val) (o + j.val) else 0) : ℝ) : EReal) := by
    unfold right2
    refine (congrArg₂ (· + ·) (right_real h hb.u (y := truncf .bf16 (gOf h keep x b c) bitsLt_bf16_f32) (r := r) (f := G A N (p + r.val)) hg e)
      (right_real h hb.u (r := r) (o := o) (f := fun _ => 0) (fun c => ?_) e)).trans ?_
    · show gOf h keep x b _ (ix2 r c) - gOf h keep x b _ (ix2 r c) = _
      rw [hg, ← EReal.coe_sub, sub_self]
    · simp
  have hs : ∀ y w : FVec Ideal (Mat n 256) .f32, subf y w (ix2 r e) = y (ix2 r e) - w (ix2 r e) := fun _ _ => rfl
  have hm : ∀ y w : FVec Ideal (Mat n 256) .f32, mulf y w (ix2 r e) = y (ix2 r e) * w (ix2 r e) := fun _ _ => rfl
  have he : ∀ y : FVec Ideal (Mat n 256) .f32, exp y (ix2 r e) = Ideal.exp (y (ix2 r e)) := fun _ => rfl
  have ht : broadcastTo (Mat n 256) (subf x.tot c.gs) h.bc (ix2 r e)
      = ((∑ s ∈ range N, G A N (p + r.val) s - ∑ j ∈ Ico (o + 256) N, G A N (p + r.val) j : ℝ) : EReal) := by
    rw [EReal.coe_sub, ← hx.tot, ← hc.gs, spread_apply h]
    rfl
  rw [hs, hm, he, hs, h2, ht, hg, lb_apply _ r e _ (z_real h hx hb r e), Ideal.exp_coe, ← EReal.coe_sub, ← EReal.coe_mul, ← EReal.coe_sub,
    sum_upto N _ ho]

/-- The carried values after the step are the sums over the keys from `o` on. -/
theorem next_real : CarryIs A N p o (next h keep x b c) where
  r r := by
    show addRows h c.r (lm keep (zOf h x b)) _ = _
    rw [addRows_apply, hc.r, sum_from N _ ho, EReal.coe_add]
    simp only [lm_real h hx hb hk, coe_sum]
  gs r := by
    show addRows h c.gs (gOf h keep x b c) _ = _
    rw [addRows_apply, hc.gs, sum_from N _ ho, EReal.coe_add]
    simp only [g_real h hx hb hk ho hc, coe_sum]
  dq r d := by
    show addQ h c.dq (dzOf h keep x b c) b.k _ = _
    rw [addQ_apply, hc.dq, sum_from N _ ho, EReal.coe_add]
    simp only [dz_real h hx hb hk ho hc, hb.k, ← EReal.coe_mul, coe_sum]

/-- The step adds to the gradients of the block's keys and values the rows' part. -/
theorem dk_real (old : FVec Ideal ⟨3, ![1, 256, 64]⟩ .f32) (e : Fin 256) (d : Fin 64) :
    dkOf h keep x b c old (ix3 (0 : Fin 1) e d) = old (ix3 (0 : Fin 1) e d)
      + ((∑ t ∈ Ico p (p + n), dZ A N t (o + e.val) * A.q t d : ℝ) : EReal) := by
  unfold dkOf
  rw [addK_apply, ← sum_rows]
  simp only [dz_real h hx hb hk ho hc, hx.q, ← EReal.coe_mul, coe_sum]

theorem dv_real (old : FVec Ideal ⟨3, ![1, 256, 64]⟩ .f32) (e : Fin 256) (d : Fin 64) :
    dvOf h keep x b c old (ix3 (0 : Fin 1) e d) = old (ix3 (0 : Fin 1) e d)
      + ((∑ t ∈ Ico p (p + n), W A N t (o + e.val) * A.g t d : ℝ) : EReal) := by
  unfold dvOf
  rw [addK_apply, ← sum_rows]
  simp only [a_real h hx hb hk ho hc, hx.g, ← EReal.coe_mul, coe_sum]

end Cert.KernelIdeal.Step
end
-- ==== Proof.HostReal.lean ====
module

public import proofs.«01_k».proof.Proof.WindowReal
public import proofs.«01_k».proof.Proof.StepReal
public import proofs.«01_k».proof.Proof.Gen.ReferenceIdeal
public import Idealize.ShloMosaic.Lib.WordCmp

@[expose] public section

set_option maxRecDepth 16384

noncomputable section

/-! # The plain program's lines

The lines of stick-breaking attention and of its gradient on whole arrays, and their values: with real arguments each
entry is the one of `Math.lean`. -/

namespace Cert.Lines

open Idealize.ShloMosaic Cert.ReferenceIdeal Cert.ReferenceIdeal.Gen Cert.Stick Cert.KernelIdeal.Step Finset

/-- Queries against keys, for each head. -/
abbrev Pairs := FVec Ideal S8x8192x8192 .f32
/-- Heads, positions, entries. -/
abbrev Heads := FVec Ideal S8x8192x64 .f32

def zeros : Pairs := broadcastInDim S8x8192x8192 ![] bcast_S_S8x8192x8192 (constant S_ .f32 0x00000000#32)
def infs : Pairs := broadcastInDim S8x8192x8192 ![] bcast_S_S8x8192x8192 (constant S_ .f32 0x7F800000#32)

/-- The softplus. -/
def sp (y : Pairs) : Pairs :=
  select (cmpf .une (subf y zeros) (subf y zeros)) (addf y zeros)
    (addf (maximumf y zeros) (Host.log1p (Host.exp (Host.negf (Host.absf (subf y zeros))))))
/-- The logarithm of the sigmoid. -/
def lsg (x : Pairs) : Pairs := Host.negf (sp (Host.negf x))
/-- The sigmoid of the opposite, as the softplus's derivative has it. -/
def res (x : Pairs) : Pairs :=
  Host.exp (subf (select (cmpf .oeq (Host.negf x) infs) zeros (Host.negf x)) (select (cmpf .oeq (sp (Host.negf x)) infs) zeros (sp (Host.negf x))))

/-- The keys before the query. -/
def before : IVec S8192x8192 1 :=
  cmpi .slt (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
def keep (x : Pairs) : Pairs :=
  select (broadcastInDim S8x8192x8192 ![1, 2] bcast_S8192x8192_S8x8192x8192_1_2 before) x zeros

/-- Inner products over the entries. -/
def scores (q k : Heads) : Pairs := Host.dotGeneral dot_S8x8192x64_S8x8192x64_S8x8192x8192_2_2_1_1_0_0 none q k
/-- Sums over the keys, with weights. -/
def mix (w : Pairs) (v : Heads) : Heads := Host.dotGeneral dot_S8x8192x8192_S8x8192x64_S8x8192x64_2_1_1_2_0_0 none w v
/-- Sums over the queries, with weights. -/
def mixT (w : Pairs) (x : Heads) : Heads := Host.dotGeneral dot_S8x8192x8192_S8x8192x64_S8x8192x64_1_1_2_2_0_0 none w x
def mixT' (x : Heads) (w : Pairs) : Heads :=
  transpose S8x8192x64 [0, 2, 1] (Host.dotGeneral dot_S8x8192x64_S8x8192x8192_S8x64x8192_1_1_2_2_0_0 none x w) transposes_S8x64x8192_S8x8192x64_0_2_1

def zero0 : FVec Ideal S_ .f32 := broadcastInDim S_ ![] bcast_S_S_ (constant S_ .f32 0x00000000#32)
/-- The sums over the later keys and this one. -/
def fromHere (x : Pairs) : Pairs :=
  Host.reduceWindowAdd ![1, 1, 8192] ![1, 1, 1] ![0, 0, 0] ![0, 0, 8191] x zero0
    reduceWindows_S8x8192x8192_S8x8192x8192_w1s1p0_0_w1s1p0_0_w8192s1p0_8191 h_S_
/-- The sums over the earlier keys and this one. -/
def upToHere (x : Pairs) : Pairs :=
  Host.reduceWindowAdd ![1, 1, 8192] ![1, 1, 1] ![0, 0, 8191] ![0, 0, 0] x zero0
    reduceWindows_S8x8192x8192_S8x8192x8192_w1s1p0_0_w1s1p0_0_w8192s1p8191_0 h_S_

def lms (z : Pairs) : Pairs := keep (lsg (Host.negf z))
/-- The weights, before the later keys are struck out. -/
def es (z : Pairs) : Pairs := Host.exp (addf (lsg z) (subf (fromHere (lms z)) (lms z)))
def ws (z : Pairs) : Pairs := keep (es z)
/-- The attention's output. -/
def out (q k v : Heads) : Heads := mix (ws (scores q k)) v

def gs (z : Pairs) (v g : Heads) : Pairs := mulf (keep (scores g v)) (es z)
def dzs (z g : Pairs) : Pairs :=
  addf (Host.negf (Host.negf (mulf (Host.negf (keep (addf (Host.negf g) (upToHere g)))) (res (Host.negf z)))))
    (Host.negf (mulf (Host.negf g) (res z)))

/-- The gradients. -/
def dq (q k v g : Heads) : Heads := mix (dzs (scores q k) (gs (scores q k) v g)) k
def dk (q k v g : Heads) : Heads := mixT (dzs (scores q k) (gs (scores q k) v g)) q
def dv (q k v g : Heads) : Heads := mixT' g (ws (scores q k))

/-! ## One entry of each -/

section Entry
variable (x y : Pairs) (i : S8x8192x8192.Idx)

theorem zeros_at : zeros i = ((0 : ℝ) : EReal) := by unfold zeros; pointwise; exact EReal.coe_zero.symm
theorem infs_at : infs i = ⊤ := by unfold infs; pointwise; simp [Ideal.ofBits, Ideal.ieee]
theorem neg_at : Host.negf x i = -(x i) := rfl
theorem exp_at : Host.exp x i = Ideal.exp (x i) := rfl
theorem add_at : addf x y i = x i + y i := rfl
theorem sub_at : subf x y i = x i - y i := rfl
theorem mul_at : mulf x y i = x i * y i := rfl

variable {x i} {r : ℝ} (h : x i = (r : EReal))
include h

theorem sp_at : sp x i = ((max r 0 + Real.log (1 + Real.exp (-|r|)) : ℝ) : EReal) := by
  have e : 0 < 1 + Real.exp (-|r|) := by positivity
  have hs : subf x zeros i = (r : EReal) := by rw [sub_at, h, zeros_at, ← EReal.coe_sub, sub_zero]
  have hc : cmpf .une (subf x zeros) (subf x zeros) i = 0#1 := by
    show FloatOps.cmpf .une (subf x zeros i) (subf x zeros i) = 0#1
    simp [Ideal.cmpf_def, Ideal.cmp]
  unfold sp
  show (if cmpf .une (subf x zeros) (subf x zeros) i = 1#1 then _ else (max (x i) (zeros i) + Ideal.log1p (Ideal.exp (-(max (subf x zeros i) (-(subf x zeros i)))))) : EReal) = _
  rw [hc, if_neg (by decide), hs, h, zeros_at, coe_absf, ← EReal.coe_neg, Ideal.exp_coe, Ideal.log1p, ← EReal.coe_one, ← EReal.coe_add, log_pos e,
    ← EReal.coe_strictMono.monotone.map_max, ← EReal.coe_add]

theorem lsg_at : lsg x i = ((ls r : ℝ) : EReal) := by
  unfold lsg
  rw [neg_at, sp_at (r := -r) (by rw [neg_at, h, EReal.coe_neg]), ← EReal.coe_neg]
  congr 1
  unfold ls
  rw [abs_neg]
  rcases le_total r 0 with hr | hr
  · rw [max_eq_left (by linarith), min_eq_left hr]; ring
  · rw [max_eq_right (by linarith), min_eq_right hr]; ring

theorem res_at : res x i = ((Real.exp (ls (-r)) : ℝ) : EReal) := by
  have hn : Host.negf x i = ((-r : ℝ) : EReal) := by rw [neg_at, h, EReal.coe_neg]
  have hp := lsg_at h
  unfold lsg at hp
  rw [neg_at] at hp
  have hs : sp (Host.negf x) i = ((-ls r : ℝ) : EReal) := by rw [EReal.coe_neg, ← hp, neg_neg]
  have hc : ∀ (y : Pairs) (u : ℝ), y i = (u : EReal) → select (cmpf .oeq y infs) zeros y i = (u : EReal) := fun y u hy => by
    show (if FloatOps.cmpf .oeq (y i) (infs i) = 1#1 then _ else y i : EReal) = _
    rw [hy, infs_at]
    simp [Ideal.cmpf_def, Ideal.cmp]
  unfold res
  rw [exp_at, sub_at, hc _ _ hn, hc _ _ hs, ← EReal.coe_sub, Ideal.exp_coe, ls_neg]
  congr 2
  ring

end Entry

theorem keep_at (x : Pairs) (h : Fin 8) (t s : Fin 8192) : keep x (ix3 h t s) = if s.val < t.val then x (ix3 h t s) else ((0 : ℝ) : EReal) := by
  have hb : broadcastInDim S8x8192x8192 ![1, 2] bcast_S8192x8192_S8x8192x8192_1_2 before (ix3 h t s) = BitVec.ofBool (decide (s.val < t.val)) := by
    unfold before
    pointwise
    exact WordCmp.cmpi_slt_ofNat (by have := s.isLt; omega) (by have := t.isLt; omega)
  unfold keep
  show (if broadcastInDim S8x8192x8192 ![1, 2] bcast_S8192x8192_S8x8192x8192_1_2 before (ix3 h t s) = 1#1 then x (ix3 h t s) else zeros (ix3 h t s) : EReal) = _
  rw [hb, zeros_at]
  by_cases hc : s.val < t.val <;> simp [hc]

theorem scores_at (q k : Heads) (h : Fin 8) (t s : Fin 8192) :
    scores q k (ix3 h t s) = ∑ d : Fin 64, q (ix3 h t d) * k (ix3 h s d) := by
  unfold scores
  pointwise [dot_S8x8192x64_S8x8192x64_S8x8192x8192_2_2_1_1_0_0]

theorem mix_at (w : Pairs) (v : Heads) (h : Fin 8) (t : Fin 8192) (d : Fin 64) :
    mix w v (ix3 h t d) = ∑ s : Fin 8192, w (ix3 h t s) * v (ix3 h s d) := by
  unfold mix
  pointwise [dot_S8x8192x8192_S8x8192x64_S8x8192x64_2_1_1_2_0_0]

theorem mixT_at (w : Pairs) (x : Heads) (h : Fin 8) (s : Fin 8192) (d : Fin 64) :
    mixT w x (ix3 h s d) = ∑ t : Fin 8192, w (ix3 h t s) * x (ix3 h t d) := by
  unfold mixT
  pointwise [dot_S8x8192x8192_S8x8192x64_S8x8192x64_1_1_2_2_0_0]

theorem mixT'_at (x : Heads) (w : Pairs) (h : Fin 8) (s : Fin 8192) (d : Fin 64) :
    mixT' x w (ix3 h s d) = ∑ t : Fin 8192, x (ix3 h t d) * w (ix3 h t s) := by
  unfold mixT'
  pointwise [dot_S8x8192x64_S8x8192x8192_S8x64x8192_1_1_2_2_0_0]

/-! ## The values -/

/-- One head of an array, as real numbers. -/
def row (x : Heads) (h : Fin 8) (t : ℕ) (d : Fin 64) : ℝ := if ht : t < 8192 then (x (ix3 h ⟨t, ht⟩ d)).toReal else 0

/-- One head of the arrays. -/
def head (q k v g : Heads) (h : Fin 8) : Head := ⟨row q h, row k h, row v h, row g h⟩

/-- Every entry is a real number. -/
def IsReal (x : Heads) : Prop := ∀ i, x i = ((x i).toReal : EReal)

theorem row_at {x : Heads} (hx : IsReal x) (h : Fin 8) (t : Fin 8192) (d : Fin 64) : x (ix3 h t d) = ((row x h t.val d : ℝ) : EReal) := by
  rw [row, dif_pos t.isLt]; exact hx _

variable {q k v g : Heads} (hq : IsReal q) (hk : IsReal k) (hv : IsReal v) (hg : IsReal g) (h : Fin 8)

include hq in
theorem q_at (t : Fin 8192) (d : Fin 64) : q (ix3 h t d) = (((head q k v g h).q t.val d : ℝ) : EReal) :=
  row_at hq h t d
include hk in
theorem k_at (t : Fin 8192) (d : Fin 64) : k (ix3 h t d) = (((head q k v g h).k t.val d : ℝ) : EReal) :=
  row_at hk h t d
include hv in
theorem v_at (t : Fin 8192) (d : Fin 64) : v (ix3 h t d) = (((head q k v g h).v t.val d : ℝ) : EReal) :=
  row_at hv h t d
include hg in
theorem g_at (t : Fin 8192) (d : Fin 64) : g (ix3 h t d) = (((head q k v g h).g t.val d : ℝ) : EReal) :=
  row_at hg h t d

/-- A sum of products of real entries. -/
theorem sum_at {n : ℕ} {x y : Fin n → EReal} {a b : ℕ → ℝ} (hx : ∀ i, x i = ((a i.val : ℝ) : EReal)) (hy : ∀ i, y i = ((b i.val : ℝ) : EReal)) :
    ∑ i, x i * y i = ((∑ i ∈ range n, a i * b i : ℝ) : EReal) := by
  rw [← Fin.sum_univ_eq_sum_range fun i => a i * b i, ← coe_sum]
  exact sum_congr rfl fun i _ => by rw [hx, hy, EReal.coe_mul]

theorem dots_at {x y : Fin 64 → EReal} {a b : Fin 64 → ℝ} (hx : ∀ i, x i = ((a i : ℝ) : EReal)) (hy : ∀ i, y i = ((b i : ℝ) : EReal)) :
    ∑ i, x i * y i = ((∑ i, a i * b i : ℝ) : EReal) := by
  rw [← coe_sum]
  exact sum_congr rfl fun i _ => by rw [hx, hy, EReal.coe_mul]

include hq hk in
theorem z_at (t s : Fin 8192) : scores q k (ix3 h t s) = ((Z (head q k v g h) t.val s.val : ℝ) : EReal) :=
  (scores_at q k h t s).trans (dots_at (q_at hq h t) (k_at hk h s))

include hg hv in
theorem gv_at (t s : Fin 8192) : scores g v (ix3 h t s) = ((∑ d, (head q k v g h).g t.val d * (head q k v g h).v s.val d : ℝ) : EReal) :=
  (scores_at g v h t s).trans (dots_at (g_at hg h t) (v_at hv h s))

theorem zero0_at (i : S_.Idx) : zero0 i = 0 := by unfold zero0; pointwise

theorem fromHere_at (x : Pairs) (t s : Fin 8192) (f : ℕ → ℝ) (hx : ∀ n : Fin 8192, x (ix3 h t n) = ((f n.val : ℝ) : EReal)) :
    fromHere x (ix3 h t s) = ((∑ n ∈ Ico s.val 8192, f n : ℝ) : EReal) := by
  unfold fromHere Host.reduceWindowAdd
  rw [Ideal.hostReduceWindowAdd_def, zero0_at]
  exact Window.window_right (a := 8) (b := 8192) (N := 8192) x _ h t s f hx

theorem upToHere_at (x : Pairs) (t s : Fin 8192) (f : ℕ → ℝ) (hx : ∀ n : Fin 8192, x (ix3 h t n) = ((f n.val : ℝ) : EReal)) :
    upToHere x (ix3 h t s) = ((∑ n ∈ range (s.val + 1), f n : ℝ) : EReal) := by
  unfold upToHere Host.reduceWindowAdd
  rw [Ideal.hostReduceWindowAdd_def, zero0_at]
  exact Window.window_left (a := 8) (b := 8192) (N := 8192) (L := 8191) rfl x _ h t s f hx

include hq hk in
theorem lms_at (t s : Fin 8192) : lms (scores q k) (ix3 h t s) = ((Stick.lm (head q k v g h) t.val s.val : ℝ) : EReal) := by
  unfold lms Stick.lm
  rw [keep_at, lsg_at (r := -Z (head q k v g h) t.val s.val) (by rw [neg_at, z_at hq hk h, EReal.coe_neg]), coe_ite, ls_neg]

include hq hk in
theorem es_at (t s : Fin 8192) : es (scores q k) (ix3 h t s)
    = ((Real.exp (ls (Z (head q k v g h) t.val s.val) + ∑ j ∈ Ico (s.val + 1) 8192, Stick.lm (head q k v g h) t.val j) : ℝ) : EReal) := by
  unfold es
  rw [exp_at, add_at, sub_at, lsg_at (z_at hq hk h t s), fromHere_at h _ t s _ (lms_at (v := v) (g := g) hq hk h t), lms_at (v := v) (g := g) hq hk h,
    ← EReal.coe_sub, ← EReal.coe_add, Ideal.exp_coe, sum_eq_sum_Ico_succ_bot s.isLt, add_sub_cancel_left]

include hq hk in
theorem ws_at (t s : Fin 8192) : ws (scores q k) (ix3 h t s) = ((W (head q k v g h) 8192 t.val s.val : ℝ) : EReal) := by
  unfold ws W
  rw [keep_at, es_at (v := v) (g := g) hq hk h, coe_ite]

include hq hk hv in
theorem out_at (t : Fin 8192) (d : Fin 64) : out q k v (ix3 h t d) = ((O (head q k v g h) 8192 t.val d : ℝ) : EReal) :=
  (mix_at _ v h t d).trans (sum_at (a := fun s => W (head q k v g h) 8192 t.val s) (ws_at hq hk h t) (fun s => v_at hv h s d))

include hq hk hv hg

theorem gs_at (t s : Fin 8192) : gs (scores q k) v g (ix3 h t s) = ((G (head q k v g h) 8192 t.val s.val : ℝ) : EReal) := by
  unfold gs G W
  rw [mul_at, keep_at, gv_at (q := q) (k := k) hv hg h, es_at (v := v) (g := g) hq hk h, coe_ite, ← EReal.coe_mul]
  congr 1
  split <;> simp

theorem dzs_at (t s : Fin 8192) : dzs (scores q k) (gs (scores q k) v g) (ix3 h t s) = ((dZ (head q k v g h) 8192 t.val s.val : ℝ) : EReal) := by
  have hz := z_at (v := v) (g := g) hq hk h t s
  have hG := gs_at hq hk hv hg h t
  unfold dzs
  rw [add_at, neg_at, neg_at, mul_at, neg_at, keep_at, add_at, neg_at, upToHere_at h _ t s _ hG, neg_at, mul_at, neg_at, hG, res_at hz,
    res_at (r := -Z (head q k v g h) t.val s.val) (by rw [neg_at, hz, EReal.coe_neg])]
  simp only [← EReal.coe_neg, ← EReal.coe_add, ← EReal.coe_mul, coe_ite]
  congr 1
  simp only [neg_neg]
  rw [exp_ls_neg]
  by_cases hs : s.val < t.val
  · rw [if_pos hs, dZ, if_pos hs]; ring
  · rw [if_neg hs, dZ, if_neg hs, G_zero _ _ (not_lt.mp hs)]; ring

theorem dq_at (t : Fin 8192) (d : Fin 64) : dq q k v g (ix3 h t d) = ((dQ (head q k v g h) 8192 t.val d : ℝ) : EReal) :=
  (mix_at _ k h t d).trans (sum_at (dzs_at hq hk hv hg h t) (fun s => k_at hk h s d))

theorem dk_at (s : Fin 8192) (d : Fin 64) : dk q k v g (ix3 h s d) = ((dK (head q k v g h) 8192 s.val d : ℝ) : EReal) :=
  (mixT_at _ q h s d).trans (sum_at (a := fun t => dZ (head q k v g h) 8192 t s.val) (fun t => dzs_at hq hk hv hg h t s) (fun t => q_at hq h t d))

theorem dv_at (s : Fin 8192) (d : Fin 64) : dv q k v g (ix3 h s d) = ((dV (head q k v g h) 8192 s.val d : ℝ) : EReal) :=
  (mixT'_at g _ h s d).trans ((sum_congr rfl fun t _ => mul_comm _ _).trans
    (sum_at (a := fun t => W (head q k v g h) 8192 t s.val) (fun t => ws_at hq hk h t s) (fun t => g_at hg h t d)))

end Cert.Lines
-- ==== Proof.AttentionReal.lean ====
module

public import proofs.«01_k».proof.Proof.HostReal
public import proofs.«01_k».proof.Proof.AttentionStep

@[expose] public section

set_option maxRecDepth 16384

noncomputable section

/-! # Attention: one key block over the reals

The queries and the keys are real numbers, and then so are the scores, the log-complements and the weights: they are
those of `Math.lean`. The values may be infinite: the output is a sum of weights times values in any case. -/

namespace Cert.AttentionIdeal

open Idealize.ShloMosaic Cert.AttentionIdeal.Gen Cert.Stick Cert.KernelIdeal.Step Finset

/-! ## One entry of each value -/

theorem z_apply (q k : FVec Ideal S512x64 .bf16) (r c : Fin 512) : z q k (ix2 r c) = ∑ d : Fin 64, q (ix2 r d) * k (ix2 c d) := by
  unfold z
  pointwise [dot_S512x64_S512x64_S512x512_1_1_0_0_n_n]

theorem right_apply (u x : FVec Ideal S512x512 .bf16) (r c : Fin 512) : right u x (ix2 r c) = ∑ b : Fin 512, x (ix2 r b) * u (ix2 b c) := by
  unfold right
  pointwise [dot_S512x512_S512x512_S512x512_1_0_0_1_n_n]

/-- A column spread over the keys. -/
theorem spread_apply (x : FVec Ideal S512x1 .f32) (r e : Fin 512) :
    broadcastTo S512x512 x broadcasts_S512x1_S512x512 (ix2 r e) = x (ix2 r (0 : Fin 1)) := by
  pointwise

theorem addSum_apply (s : FVec Ideal S512x1 .f32) (x : Sq Ideal) (r : Fin 512) :
    addSum s x (ix2 r (0 : Fin 1)) = s (ix2 r (0 : Fin 1)) + ∑ c : Fin 512, x (ix2 r c) := by
  unfold addSum
  rw [show ∀ a b : FVec Ideal S512x1 .f32, addf a b (ix2 r (0 : Fin 1)) = a (ix2 r (0 : Fin 1)) + b (ix2 r (0 : Fin 1)) from fun _ _ => rfl]
  refine congrArg _ ((col_apply _ shapeCasts_S512_S512x1 r).trans ?_)
  pointwise

theorem addOut_apply (o : FVec Ideal S512x64 .f32) (w : FVec Ideal S512x512 .bf16) (v : FVec Ideal S512x64 .bf16) (r : Fin 512) (d : Fin 64) :
    addOut o w v (ix2 r d) = o (ix2 r d) + ∑ c : Fin 512, w (ix2 r c) * v (ix2 c d) := by
  unfold addOut
  pointwise [dot_S512x512_S512x64_S512x64_1_0_0_1_n_n]

theorem lb_apply (x : Sq Ideal) (r c : Fin 512) (y : ℝ) (hx : x (ix2 r c) = (y : EReal)) : lb x (ix2 r c) = ((ls y : ℝ) : EReal) := by
  have e : 0 < 1 + Real.exp (-|y|) := by positivity
  unfold lb
  pointwise
  rw [hx, Ideal.absf_def, coe_absf, zero_sub, ← EReal.coe_neg, Ideal.exp_coe, ← EReal.coe_one, ← EReal.coe_add, log_pos e, ← EReal.coe_zero,
    ← EReal.coe_strictMono.monotone.map_min, ← EReal.coe_sub]
  rfl

/-! ## The step -/

variable {A : Head} {V : ℕ → Fin 64 → EReal} {N p o : ℕ} {q k v : FVec Ideal S512x64 .bf16} {u : FVec Ideal S512x512 .bf16}
  {keep : Sq Ideal → Sq Ideal} {a : Acc Ideal}

/-- The carried values are the sums over the keys from `o` on. -/
structure AccIs (A : Head) (V : ℕ → Fin 64 → EReal) (N p o : ℕ) (a : Acc Ideal) : Prop where
  r : ∀ r : Fin 512, a.1 (ix2 r (0 : Fin 1)) = ((∑ j ∈ Ico o N, Stick.lm A (p + r.val) j : ℝ) : EReal)
  out : ∀ (r : Fin 512) (d : Fin 64), a.2 (ix2 r d) = ∑ j ∈ Ico o N, ((W A N (p + r.val) j : ℝ) : EReal) * V j d

/-- What is kept: the keys before the query. -/
def Keeps (p o : ℕ) (keep : Sq Ideal → Sq Ideal) : Prop :=
  ∀ (x : Sq Ideal) (r c : Fin 512), keep x (ix2 r c) = if o + c.val < p + r.val then x (ix2 r c) else 0

variable (hq : ∀ (r : Fin 512) (d : Fin 64), q (ix2 r d) = ((A.q (p + r.val) d : ℝ) : EReal))
  (hk : ∀ (c : Fin 512) (d : Fin 64), k (ix2 c d) = ((A.k (o + c.val) d : ℝ) : EReal))
  (hv : ∀ (c : Fin 512) (d : Fin 64), v (ix2 c d) = V (o + c.val) d)
  (hu : ∀ c e : Fin 512, u (ix2 c e) = (((if e < c then 1 else 0 : ℝ) : ℝ) : EReal))
  (hp : Keeps p o keep)

include hq hk in
theorem z_real (r e : Fin 512) : z q k (ix2 r e) = ((Z A (p + r.val) (o + e.val) : ℝ) : EReal) := by
  rw [z_apply]
  simp only [hq, hk, ← EReal.coe_mul, coe_sum]
  rfl

include hq hk hp in
theorem lc_real (r e : Fin 512) : lc keep (z q k) (ix2 r e) = ((Stick.lm A (p + r.val) (o + e.val) : ℝ) : EReal) := by
  unfold lc Stick.lm
  rw [hp, ← coe_ite, EReal.coe_zero, EReal.coe_sub, ← lb_apply _ r e _ (z_real hq hk r e), ← z_real hq hk r e]
  rfl

include hu in
theorem right_real {y : FVec Ideal S512x512 .bf16} {r : Fin 512} {f : ℕ → ℝ} (hy : ∀ c : Fin 512, y (ix2 r c) = ((f (o + c.val) : ℝ) : EReal)) (e : Fin 512) :
    right u y (ix2 r e) = ((∑ c : Fin 512, (if e < c then f (o + c.val) else 0) : ℝ) : EReal) := by
  rw [right_apply, ← coe_sum]
  refine sum_congr rfl fun c _ => ?_
  rw [hy, hu, ← EReal.coe_mul, mul_ite, mul_one, mul_zero]

variable (ho : o + 512 ≤ N) (ha : AccIs A V N p (o + 512) a)

include hq hk hu hp ho ha

theorem wt_real (r e : Fin 512) : wt keep u a.1 (z q k) (ix2 r e) = ((W A N (p + r.val) (o + e.val) : ℝ) : EReal) := by
  unfold wt W
  rw [show ∀ y : Sq Ideal, (truncf .bf16 y bitsLt_bf16_f32 : FVec Ideal S512x512 .bf16) (ix2 r e) = y (ix2 r e) from fun _ => rfl,
    hp, ← coe_ite, EReal.coe_zero]
  refine if_congr Iff.rfl ?_ rfl
  rw [sum_after N _ ho, ← Ideal.exp_coe, ← add_assoc, EReal.coe_add, EReal.coe_add, ← ha.r, ← lb_apply _ r e _ (z_real hq hk r e),
    ← right_real hu (y := truncf .bf16 (lc keep (z q k)) bitsLt_bf16_f32) (r := r) (f := Stick.lm A (p + r.val)) (fun c => lc_real hq hk hp r c) e,
    ← spread_apply a.1 r e]
  rfl

include hv in
/-- The carried values after the step are the sums over the keys from `o` on. -/
theorem next_real : AccIs A V N p o (next keep q u k v a) where
  r r := by
    show addSum a.1 (lc keep (z q k)) _ = _
    rw [addSum_apply, ha.r, sum_from N _ ho, EReal.coe_add]
    simp only [lc_real hq hk hp, coe_sum]
  out r d := by
    show addOut a.2 (wt keep u a.1 (z q k)) v _ = _
    rw [addOut_apply, ha.out, sum_from N _ ho]
    simp only [wt_real hq hk hu hp ho ha, hv]

end Cert.AttentionIdeal
end
-- ==== Proof.Entry.lean ====
module

public import proofs.«01_k».proof.Proof.HostReal
public import proofs.«01_k».proof.Proof.Gen.KernelIdeal.Frame
public import Idealize.ShloMosaic.Lib.Claim
public import Idealize.ShloMosaic.Lib.StableHlo.RunRead
public import Idealize.ShloMosaic.Lib.StableHlo.ReadAt

@[expose] public section

set_option maxRecDepth 16384

noncomputable section

/-! # What the kernel's call is given -/

namespace Cert.KernelIdeal

open Idealize.ShloMosaic Idealize.ShloMosaic.TcCoe Idealize.SL.Sem Idealize.ShloMosaic.StableHlo Cert.KernelIdeal.Gen

variable (m : (ℓ : Loc nD τ sig) → Buf (Elt Ideal) ℓ) (c : Dev nD)

/-- The arrays the call is given in place of the queries, the keys and the values. -/
def half (x : Lines.Heads) : FVec Ideal S8x8192x64 .bf16 := truncf .bf16 x bitsLt_bf16_f32
theorem half_at (x : Lines.Heads) (i : S8x8192x64.Idx) : half x i = x i := rfl

/-- Ones below the diagonal. -/
def lower : FVec Ideal S256x256 .bf16 := uitofp .bf16 (cmpi .sgt (iotaInDim S256x256 32 0) (iotaInDim S256x256 32 1))

theorem lower_at (i e : Fin 256) : lower (ix2 i e) = (((if e < i then 1 else 0 : ℝ) : ℝ) : EReal) := by
  unfold lower
  pointwise
  rw [WordCmp.cmpi_sgt_ofNat (by have := i.isLt; omega) (by have := e.isLt; omega)]
  by_cases h : e < i
  · rw [if_pos h, decide_eq_true (Fin.lt_def.mp h)]
    show (((1#1 : BitVec 1).toNat : ℝ) : EReal) = _
    simp
  · rw [if_neg h, decide_eq_false fun h' => h (Fin.lt_def.mpr h')]
    show (((0#1 : BitVec 1).toNat : ℝ) : EReal) = _
    simp

theorem V_v17 : V m c main_v17 = half (m ((c : Thread nD τ).loc main_arg0)) := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append, TRef.binary, TRef.nullary, TRef.ternary, TRef.unary, TRef.toBuf, TRef.ofBuf, cast_eq]
  after_reads_simp
  rfl

theorem V_v18 : V m c main_v18 = half (m ((c : Thread nD τ).loc main_arg1)) := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append, TRef.binary, TRef.nullary, TRef.ternary, TRef.unary, TRef.toBuf, TRef.ofBuf, cast_eq]
  after_reads_simp
  rfl

theorem V_v19 : V m c main_v19 = half (m ((c : Thread nD τ).loc main_arg2)) := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append, TRef.binary, TRef.nullary, TRef.ternary, TRef.unary, TRef.toBuf, TRef.ofBuf, cast_eq]
  after_reads_simp
  rfl

theorem V_v23 : V m c main_v23 = lower := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append, TRef.binary, TRef.nullary, TRef.ternary, TRef.unary, TRef.toBuf, TRef.ofBuf, cast_eq]
  after_reads_simp
  rfl

theorem V_v16 : V m c main_v16 = Lines.out (m ((c : Thread nD τ).loc main_arg0)) (m ((c : Thread nD τ).loc main_arg1)) (m ((c : Thread nD τ).loc main_arg2)) := by
  unfold V
  simp only [hostOps0, hostOps0_1, hostOps0_2, hostOps0_3, hostOps0_4, hostOps0_5, hostOps0_6, hostOps0_7, hostOps0_8, hostOps0_9, List.flatten_cons,
    List.flatten_nil, List.append_nil, List.cons_append, List.nil_append, TRef.binary, TRef.nullary, TRef.ternary, TRef.unary, TRef.toBuf, TRef.ofBuf, cast_eq]
  after_reads_simp
  rfl

end Cert.KernelIdeal
-- ==== Proof.Pass.lean ====
module

public import proofs.«01_k».proof.Proof.Step
public import Idealize.ShloMosaic.Lib.WritesUnit
public import Idealize.ShloMosaic.Lib.Pipeline.FrameBody
public import Idealize.ShloMosaic.Lib.Pointwise.Index
public import Idealize.ShloMosaic.Lib.Pipeline.Kit

@[expose] public section

set_option maxRecDepth 16384

noncomputable section

/-! # What one grid point does to the carried values and to the two whole gradients

A grid point holds one head's keys and values whole and one block of 1024 queries. The steps of `Step.lean` are put
together here: four over the blocks on the diagonal, at 256, 512, 768 and 1024 rows, then one for each key block to
the left, taken from right to left. -/

namespace Cert.KernelIdeal.Step

open Idealize.ShloMosaic Cert.KernelIdeal.Gen

variable {F : FTy → Type} [FloatOps F]

theorem rows256 : Rows 256 :=
  ⟨reduces_S256x256_S256, shapeCasts_S256_S256x1, broadcasts_S256x1_S256x256, dot_S256x64_S256x64_S256x256_1_1_0_0_n_n_wf,
    dot_S256x256_S256x256_S256x256_1_0_0_1_n_n_wf, dot_S256x256_S256x64_S256x64_1_0_0_1_n_n_wf, dot_S256x256_S256x64_S256x64_0_0_1_1_n_n_wf⟩
theorem rows512 : Rows 512 :=
  ⟨reduces_S512x256_S512, shapeCasts_S512_S512x1, broadcasts_S512x1_S512x256, dot_S512x64_S256x64_S512x256_1_1_0_0_n_n_wf,
    dot_S512x256_S256x256_S512x256_1_0_0_1_n_n_wf, dot_S512x256_S256x64_S512x64_1_0_0_1_n_n_wf, dot_S512x256_S512x64_S256x64_0_0_1_1_n_n_wf⟩
theorem rows768 : Rows 768 :=
  ⟨reduces_S768x256_S768, shapeCasts_S768_S768x1, broadcasts_S768x1_S768x256, dot_S768x64_S256x64_S768x256_1_1_0_0_n_n_wf,
    dot_S768x256_S256x256_S768x256_1_0_0_1_n_n_wf, dot_S768x256_S256x64_S768x64_1_0_0_1_n_n_wf, dot_S768x256_S768x64_S256x64_0_0_1_1_n_n_wf⟩
theorem rows1024 : Rows 1024 :=
  ⟨reduces_S1024x256_S1024, shapeCasts_S1024_S1024x1, broadcasts_S1024x1_S1024x256, dot_S1024x64_S256x64_S1024x256_1_1_0_0_n_n_wf,
    dot_S1024x256_S256x256_S1024x256_1_0_0_1_n_n_wf, dot_S1024x256_S256x64_S1024x64_1_0_0_1_n_n_wf, dot_S1024x256_S1024x64_S256x64_0_0_1_1_n_n_wf⟩

/-- What a grid point reads: its queries, the head's keys and values, the matrix of ones below the diagonal, the sum over
    all keys of the weights' gradients, and the output's gradient. -/
structure Data (F : FTy → Type) [FloatOps F] where
  Q : FVec F S1x1024x64 .bf16
  K : FVec F S1x8192x64 .bf16
  V : FVec F S1x8192x64 .bf16
  U : FVec F S256x256 .bf16
  tot : FVec F S1024x1 .f32
  dout : FVec F S1024x64 .bf16

/-- The part of `X` a box covers. -/
abbrev cut {S : Shape} {φ : FTy} (X : FVec F S φ) (r : Rect S) : FVec F r.shape φ := fun x => X (r.idx x)

/-- The box of the key block at offsets `o`. -/
abbrev blkAt (o : Fin 3 → ℕ) (ho : ∀ a, o a + S1x256x64.size a ≤ S1x8192x64.size a) : Rect S1x8192x64 :=
  Rect.unit (s := S1x8192x64) o S1x256x64.size ho

/-- The key block at offsets `o`. -/
def keysAt (D : Data F) (o : Fin 3 → ℕ) (ho : ∀ a, o a + S1x256x64.size a ≤ S1x8192x64.size a) : Keys F where
  k := shapeCast S256x64 (cut D.K (blkAt o ho)) shapeCasts_S1x256x64_S256x64
  v := shapeCast S256x64 (cut D.V (blkAt o ho)) shapeCasts_S1x256x64_S256x64
  u := shapeCast S256x256 (cut D.U (Rect.unit (s := S256x256) ![0, 0] S256x256.size inb_S256x256_S256x256_0_0)) shapeCasts_S256x256_S256x256

/-- The `n` rows of the query block from row `p` on. -/
def rowsFrom (D : Data F) (n p : ℕ) (hq : ∀ a, (![0, p, 0] : Fin 3 → ℕ) a + (![1, n, 64] : Fin 3 → ℕ) a ≤ S1x1024x64.size a)
    (hd : ∀ a, (![p, 0] : Fin 2 → ℕ) a + (Mat n 64).size a ≤ S1024x64.size a) (ht : ∀ a, (![p, 0] : Fin 2 → ℕ) a + (Mat n 1).size a ≤ S1024x1.size a)
    (hc : (⟨3, ![1, n, 64]⟩ : Shape).ShapeCasts (Mat n 64)) : In F n where
  q := shapeCast (Mat n 64) (cut D.Q (Rect.unit (s := S1x1024x64) ![0, p, 0] ![1, n, 64] hq)) hc
  dout := cut D.dout (Rect.unit (s := S1024x64) ![p, 0] (Mat n 64).size hd)
  tot := cut D.tot (Rect.unit (s := S1024x1) ![p, 0] (Mat n 1).size ht)

def in256 (D : Data F) : In F 256 := rowsFrom D 256 768 inb_S1x1024x64_S1x256x64_0_768_0 inb_S1024x64_S256x64_768_0 inb_S1024x1_S256x1_768_0 shapeCasts_S1x256x64_S256x64
def in512 (D : Data F) : In F 512 := rowsFrom D 512 512 inb_S1x1024x64_S1x512x64_0_512_0 inb_S1024x64_S512x64_512_0 inb_S1024x1_S512x1_512_0 shapeCasts_S1x512x64_S512x64
def in768 (D : Data F) : In F 768 := rowsFrom D 768 256 inb_S1x1024x64_S1x768x64_0_256_0 inb_S1024x64_S768x64_256_0 inb_S1024x1_S768x1_256_0 shapeCasts_S1x768x64_S768x64
def in1024 (D : Data F) : In F 1024 := rowsFrom D 1024 0 inb_S1x1024x64_S1x1024x64_0_0_0 inb_S1024x64_S1024x64_0_0 inb_S1024x1_S1024x1_0_0 shapeCasts_S1x1024x64_S1024x64

/-- The contents with 256 rows from `o` on replaced by `w`. -/
def put (D : FVec F S1x8192x64 .f32) (o : ℕ) (w : FVec F S1x256x64 .f32) : FVec F S1x8192x64 .f32 := fun y =>
  if h : o ≤ (y 1).val ∧ (y 1).val < o + 256 then w (ix3 (0 : Fin 1) (⟨(y 1).val - o, by omega⟩ : Fin 256) (y 2 : Fin 64)) else D y

/-- What a step changes: the carried values and the keys' and the values' gradients. -/
@[ext] structure State (F : FTy → Type) [FloatOps F] where
  c : Carry F 1024
  dk : FVec F S1x8192x64 .f32
  dv : FVec F S1x8192x64 .f32

theorem inb_block {o : ℕ} (h : o + 256 ≤ 8192) : ∀ a, (![0, o, 0] : Fin 3 → ℕ) a + S1x256x64.size a ≤ S1x8192x64.size a := by
  intro a; fin_cases a
  · exact le_refl 1
  · exact h
  · exact le_refl 64

/-- The step over a key block to the left of the diagonal, that lies at row `o`. -/
def left (D : Data F) (o : ℕ) (h : o + 256 ≤ 8192) (s : State F) : State F where
  c := next rows1024 id (in1024 D) (keysAt D ![0, o, 0] (inb_block h)) s.c
  dk := put s.dk o (dkOf rows1024 id (in1024 D) (keysAt D ![0, o, 0] (inb_block h)) s.c (cut s.dk (blkAt ![0, o, 0] (inb_block h))))
  dv := put s.dv o (dvOf rows1024 id (in1024 D) (keysAt D ![0, o, 0] (inb_block h)) s.c (cut s.dv (blkAt ![0, o, 0] (inb_block h))))

theorem left_row (i m : ℕ) (hi : i < 8) : 256 * (4 * i - 1 - m) + 256 ≤ 8192 := by omega

/-- The state after `m` blocks to the left of query block `i`'s diagonal. -/
def lefts (D : Data F) (i : ℕ) (hi : i < 8) (s : State F) : ℕ → State F
  | 0 => s
  | m + 1 => left D (256 * (4 * i - 1 - m)) (left_row i m hi) (lefts D i hi s m)

/-! ## Reading the replaced rows -/

variable {sp : Space}

/-- A buffer written at 256 rows from `o` on reads as the contents with those rows replaced. -/
theorem read_writes_put (v : View sig .tc sp S1x8192x64 .f32) (f : v.ty.Contents (Elt F)) (o : ℕ) (off : Fin 3 → ℕ) (ho : off = ![0, o, 0])
    (inb : ∀ a, off a + S1x256x64.size a ≤ S1x8192x64.size a) (w : FVec F S1x256x64 .f32) (L : List (View.Piece (Elt F) S1x8192x64 .f32)) :
    v.read (Elt F) (v.writes (Elt F) f (⟨Rect.unit (s := S1x8192x64) off S1x256x64.size inb, w⟩ :: L)) = put (v.read (Elt F) (v.writes (Elt F) f L)) o w := by
  funext y
  unfold put
  split
  · next h =>
    refine View.read_writes_cons_unit_of_mem v f inb w L y _ ho fun a => ?_
    have h0 : (y 0).val = 0 := by have : (y 0).val < 1 := (y 0).isLt; omega
    fin_cases a
    · show (y 0).val = 0 + 0; omega
    · show (y 1).val = o + ((y 1).val - o); omega
    · show (y 2).val = 0 + (y 2).val; omega
  · next h =>
    refine View.read_writes_cons_unit_of_not_mem v f inb w L y ho 1 ?_
    show (y 1).val < o ∨ o + 256 ≤ (y 1).val
    omega

/-- Rows other than the replaced ones are read as they were. -/
theorem ld_put (D : FVec F S1x8192x64 .f32) (o o' : ℕ) (w : FVec F S1x256x64 .f32) (off : Fin 3 → ℕ) (ho : off = ![0, o', 0])
    (inb : ∀ a, off a + S1x256x64.size a ≤ S1x8192x64.size a) (hd : o' + 256 ≤ o ∨ o + 256 ≤ o') :
    cut (put D o w) (blkAt off inb) = cut D (blkAt off inb) := by
  subst ho
  funext x
  refine dif_neg ?_
  show ¬ (o ≤ o' + 1 * (x 1).val ∧ o' + 1 * (x 1).val < o + 256)
  have : (x 1).val < 256 := (x 1).isLt
  omega

end Cert.KernelIdeal.Step
end
-- ==== Proof.Point.lean ====
module

public import proofs.«01_k».proof.Proof.Pass

@[expose] public section

set_option maxRecDepth 16384

noncomputable section

/-! # A whole grid point

The four steps on the diagonal change only the last 256, 512, 768 and 1024 rows of the query block, and keep only the
keys before the query. -/

namespace Cert.KernelIdeal.Step

open Idealize.ShloMosaic Cert.KernelIdeal.Gen

variable {F : FTy → Type} [FloatOps F]

/-- What cutting the carried values at row `p`, and putting them together again, asks of the shapes. -/
structure Split (n p : ℕ) : Prop where
  bot1 : S1024x1.Slices ![p, 0] (Mat n 1)
  top1 : S1024x1.Slices ![0, 0] (Mat p 1)
  bot64 : S1024x64.Slices ![p, 0] (Mat n 64)
  top64 : S1024x64.Slices ![0, 0] (Mat p 64)
  cat1 : Shape.Concatenates [Mat p 1, Mat n 1] S1024x1 0
  cat64 : Shape.Concatenates [Mat p 64, Mat n 64] S1024x64 0
  mask : S1024x256.Slices ![p, 0] (Mat n 256)

theorem split256 : Split 256 768 :=
  ⟨slices_S1024x1_o768_0_S256x1, slices_S1024x1_o0_0_S768x1, slices_S1024x64_o768_0_S256x64, slices_S1024x64_o0_0_S768x64,
    concatenates_S768x1_S256x1_S1024x1_d0, concatenates_S768x64_S256x64_S1024x64_d0, slices_S1024x256_o768_0_S256x256⟩
theorem split512 : Split 512 512 :=
  ⟨slices_S1024x1_o512_0_S512x1, slices_S1024x1_o0_0_S512x1, slices_S1024x64_o512_0_S512x64, slices_S1024x64_o0_0_S512x64,
    concatenates_S512x1_S512x1_S1024x1_d0, concatenates_S512x64_S512x64_S1024x64_d0, slices_S1024x256_o512_0_S512x256⟩
theorem split768 : Split 768 256 :=
  ⟨slices_S1024x1_o256_0_S768x1, slices_S1024x1_o0_0_S256x1, slices_S1024x64_o256_0_S768x64, slices_S1024x64_o0_0_S256x64,
    concatenates_S256x1_S768x1_S1024x1_d0, concatenates_S256x64_S768x64_S1024x64_d0, slices_S1024x256_o256_0_S768x256⟩

section
variable {n p : ℕ} (sp : Split n p)

/-- The carried values of the rows from `p` on. -/
def bottom (c : Carry F 1024) : Carry F n where
  r := extractStridedSlice (Mat n 1) ![p, 0] c.r sp.bot1
  gs := extractStridedSlice (Mat n 1) ![p, 0] c.gs sp.bot1
  dq := extractStridedSlice (Mat n 64) ![p, 0] c.dq sp.bot64

/-- The carried values with the rows from `p` on replaced. -/
def join (c : Carry F 1024) (x : Carry F n) : Carry F 1024 where
  r := concatenate S1024x1 0 [⟨Mat p 1, extractStridedSlice (Mat p 1) ![0, 0] c.r sp.top1⟩, ⟨Mat n 1, x.r⟩] sp.cat1
  gs := concatenate S1024x1 0 [⟨Mat p 1, extractStridedSlice (Mat p 1) ![0, 0] c.gs sp.top1⟩, ⟨Mat n 1, x.gs⟩] sp.cat1
  dq := concatenate S1024x64 0 [⟨Mat p 64, extractStridedSlice (Mat p 64) ![0, 0] c.dq sp.top64⟩, ⟨Mat n 64, x.dq⟩] sp.cat64

/-- The step over a diagonal block at offsets `o`, on the rows from `p` on, with the keys that `m` keeps. -/
def diag (h : Rows n) (m : IVec (Mat n 256) 1) (x : In F n) (D : Data F) (off : Fin 3 → ℕ)
    (ho : ∀ a, off a + S1x256x64.size a ≤ S1x8192x64.size a) (o : ℕ) (s : State F) : State F where
  c := join sp s.c (next h (masked m) x (keysAt D off ho) (bottom sp s.c))
  dk := put s.dk o (dkOf h (masked m) x (keysAt D off ho) (bottom sp s.c) (cut s.dk (blkAt off ho)))
  dv := put s.dv o (dvOf h (masked m) x (keysAt D off ho) (bottom sp s.c) (cut s.dv (blkAt off ho)))
end

/-- The step over the leftmost diagonal block, on all rows. -/
def diagAll (m : IVec S1024x256 1) (D : Data F) (off : Fin 3 → ℕ)
    (ho : ∀ a, off a + S1x256x64.size a ≤ S1x8192x64.size a) (o : ℕ) (s : State F) : State F where
  c := next rows1024 (masked m) (in1024 D) (keysAt D off ho) s.c
  dk := put s.dk o (dkOf rows1024 (masked m) (in1024 D) (keysAt D off ho) s.c (cut s.dk (blkAt off ho)))
  dv := put s.dv o (dvOf rows1024 (masked m) (in1024 D) (keysAt D off ho) s.c (cut s.dv (blkAt off ho)))

/-- The queries' positions, and the keys' within a block. -/
def qpos (i : grid0.Coords) : IVec S1024x256 32 :=
  addi (iota .tc S1024x256 32 [0] iota_S1024x256_d0_w32) (broadcast S1024x256 (Scalar.muli (BitVec.ofNat 32 (i 1).val) 1024#32))
def kloc : IVec S1024x256 32 := iota .tc S1024x256 32 [1] iota_S1024x256_d1_w32

/-- The first key block of the diagonal. -/
def firstBlk (i : grid0.Coords) : BitVec 32 :=
  let a : BitVec 32 := Scalar.muli (BitVec.ofNat 32 (i 1).val) 1024#32
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt 256#32 0#32)) (Scalar.extui (Scalar.cmpi .slt 256#32 0#32))))
      (Scalar.cmpi .ne (Scalar.remsi a 256#32) 0#32))
    (Scalar.subi (Scalar.divsi a 256#32) 1#32) (Scalar.divsi a 256#32)

/-- The keys before the query, on the rows from `p` on and in diagonal block `r`. -/
def before {n p : ℕ} (sp : Split n p) (i : grid0.Coords) (r : BitVec 32) : IVec (Mat n 256) 1 :=
  cmpi .slt (addi (extractStridedSlice (Mat n 256) ![p, 0] kloc sp.mask) (broadcast (Mat n 256) (Scalar.muli (Scalar.addi (firstBlk i) r) 256#32)))
    (extractStridedSlice (Mat n 256) ![p, 0] (qpos i) sp.mask)
def beforeAll (i : grid0.Coords) (r : BitVec 32) : IVec S1024x256 1 :=
  cmpi .slt (addi kloc (broadcast S1024x256 (Scalar.muli (Scalar.addi (firstBlk i) r) 256#32))) (qpos i)

/-- The carried values at the start. -/
def zeroCarry : Carry F 1024 where
  r := broadcast S1024x1 (Scalar.ofBits .f32 0x00000000#32)
  gs := broadcast S1024x1 (Scalar.ofBits .f32 0x00000000#32)
  dq := broadcast S1024x64 (Scalar.ofBits .f32 0x00000000#32)

/-- The row of diagonal block `r`. -/
abbrev diagRow (i : grid0.Coords) (r : ℕ) : ℕ := 1024 * (i 1).val + 256 * r

/-- The state after the diagonal. -/
def diags (i : grid0.Coords) (D : Data F) (s : State F) : State F :=
  diagAll (beforeAll i 0#32) D (k0_off1 i 0#32) (k0_off1_inb i 0) (diagRow i 0)
   (diag split768 rows768 (before split768 i 1#32) (in768 D) D (k0_off1 i 1#32) (k0_off1_inb i 1) (diagRow i 1)
    (diag split512 rows512 (before split512 i 2#32) (in512 D) D (k0_off1 i 2#32) (k0_off1_inb i 2) (diagRow i 2)
     (diag split256 rows256 (before split256 i 3#32) (in256 D) D (k0_off1 i 3#32) (k0_off1_inb i 3) (diagRow i 3) s)))

/-- The diagonal's state from its parts: the carried values step by step, and the rows each step replaces. -/
theorem diags_eq {i : grid0.Coords} {D : Data F} {s : State F} {c1 c2 c3 c4 : Carry F 1024} {dk dv : FVec F S1x8192x64 .f32}
    (h4 : c4 = next rows1024 (masked (beforeAll i 0#32)) (in1024 D) (keysAt D (k0_off1 i 0#32) (k0_off1_inb i 0)) c3)
    (h3 : c3 = join split768 c2 (next rows768 (masked (before split768 i 1#32)) (in768 D) (keysAt D (k0_off1 i 1#32) (k0_off1_inb i 1)) (bottom split768 c2)))
    (h2 : c2 = join split512 c1 (next rows512 (masked (before split512 i 2#32)) (in512 D) (keysAt D (k0_off1 i 2#32) (k0_off1_inb i 2)) (bottom split512 c1)))
    (h1 : c1 = join split256 s.c (next rows256 (masked (before split256 i 3#32)) (in256 D) (keysAt D (k0_off1 i 3#32) (k0_off1_inb i 3)) (bottom split256 s.c)))
    (hk : dk = put (put (put (put (s.dk) (diagRow i 3)
        (dkOf rows256 (masked (before split256 i 3#32)) (in256 D) (keysAt D (k0_off1 i 3#32) (k0_off1_inb i 3)) (bottom split256 s.c) (cut s.dk (blkAt (k0_off1 i 3#32) (k0_off1_inb i 3))))) (diagRow i 2)
        (dkOf rows512 (masked (before split512 i 2#32)) (in512 D) (keysAt D (k0_off1 i 2#32) (k0_off1_inb i 2)) (bottom split512 c1) (cut s.dk (blkAt (k0_off1 i 2#32) (k0_off1_inb i 2))))) (diagRow i 1)
        (dkOf rows768 (masked (before split768 i 1#32)) (in768 D) (keysAt D (k0_off1 i 1#32) (k0_off1_inb i 1)) (bottom split768 c2) (cut s.dk (blkAt (k0_off1 i 1#32) (k0_off1_inb i 1))))) (diagRow i 0)
        (dkOf rows1024 (masked (beforeAll i 0#32)) (in1024 D) (keysAt D (k0_off1 i 0#32) (k0_off1_inb i 0)) c3 (cut s.dk (blkAt (k0_off1 i 0#32) (k0_off1_inb i 0)))))
    (hv : dv = put (put (put (put (s.dv) (diagRow i 3)
        (dvOf rows256 (masked (before split256 i 3#32)) (in256 D) (keysAt D (k0_off1 i 3#32) (k0_off1_inb i 3)) (bottom split256 s.c) (cut s.dv (blkAt (k0_off1 i 3#32) (k0_off1_inb i 3))))) (diagRow i 2)
        (dvOf rows512 (masked (before split512 i 2#32)) (in512 D) (keysAt D (k0_off1 i 2#32) (k0_off1_inb i 2)) (bottom split512 c1) (cut s.dv (blkAt (k0_off1 i 2#32) (k0_off1_inb i 2))))) (diagRow i 1)
        (dvOf rows768 (masked (before split768 i 1#32)) (in768 D) (keysAt D (k0_off1 i 1#32) (k0_off1_inb i 1)) (bottom split768 c2) (cut s.dv (blkAt (k0_off1 i 1#32) (k0_off1_inb i 1))))) (diagRow i 0)
        (dvOf rows1024 (masked (beforeAll i 0#32)) (in1024 D) (keysAt D (k0_off1 i 0#32) (k0_off1_inb i 0)) c3 (cut s.dv (blkAt (k0_off1 i 0#32) (k0_off1_inb i 0))))) :
    (⟨c4, dk, dv⟩ : State F) = diags i D s := by
  have d : ∀ a b : Fin 4, a.val < b.val → diagRow i a.val + 256 ≤ diagRow i b.val := by
    intro a b h; show 1024 * (i 1).val + 256 * a.val + 256 ≤ 1024 * (i 1).val + 256 * b.val; omega
  subst hk hv h4 h3 h2 h1
  dsimp only [diags, diagAll, diag]
  rw [ld_put _ (diagRow i 3) (diagRow i 2) _ (k0_off1 i 2#32) (k0_off1_eq i 2) (k0_off1_inb i 2) (.inl (d 2 3 (by decide))),
    ld_put _ (diagRow i 3) (diagRow i 2) _ (k0_off1 i 2#32) (k0_off1_eq i 2) (k0_off1_inb i 2) (.inl (d 2 3 (by decide))),
    ld_put _ (diagRow i 2) (diagRow i 1) _ (k0_off1 i 1#32) (k0_off1_eq i 1) (k0_off1_inb i 1) (.inl (d 1 2 (by decide))),
    ld_put _ (diagRow i 2) (diagRow i 1) _ (k0_off1 i 1#32) (k0_off1_eq i 1) (k0_off1_inb i 1) (.inl (d 1 2 (by decide))),
    ld_put _ (diagRow i 3) (diagRow i 1) _ (k0_off1 i 1#32) (k0_off1_eq i 1) (k0_off1_inb i 1) (.inl (d 1 3 (by decide))),
    ld_put _ (diagRow i 3) (diagRow i 1) _ (k0_off1 i 1#32) (k0_off1_eq i 1) (k0_off1_inb i 1) (.inl (d 1 3 (by decide))),
    ld_put _ (diagRow i 1) (diagRow i 0) _ (k0_off1 i 0#32) (k0_off1_eq i 0) (k0_off1_inb i 0) (.inl (d 0 1 (by decide))),
    ld_put _ (diagRow i 1) (diagRow i 0) _ (k0_off1 i 0#32) (k0_off1_eq i 0) (k0_off1_inb i 0) (.inl (d 0 1 (by decide))),
    ld_put _ (diagRow i 2) (diagRow i 0) _ (k0_off1 i 0#32) (k0_off1_eq i 0) (k0_off1_inb i 0) (.inl (d 0 2 (by decide))),
    ld_put _ (diagRow i 2) (diagRow i 0) _ (k0_off1 i 0#32) (k0_off1_eq i 0) (k0_off1_inb i 0) (.inl (d 0 2 (by decide))),
    ld_put _ (diagRow i 3) (diagRow i 0) _ (k0_off1 i 0#32) (k0_off1_eq i 0) (k0_off1_inb i 0) (.inl (d 0 3 (by decide))),
    ld_put _ (diagRow i 3) (diagRow i 0) _ (k0_off1 i 0#32) (k0_off1_eq i 0) (k0_off1_inb i 0) (.inl (d 0 3 (by decide)))]

/-- The diagonal's state from its parts, each step's rows read after the step before. -/
theorem diags_eq_steps {i : grid0.Coords} {D : Data F} {s : State F} {c1 c2 c3 c4 : Carry F 1024} {k1 k2 k3 k4 v1 v2 v3 v4 : FVec F S1x8192x64 .f32}
    (h4 : c4 = next rows1024 (masked (beforeAll i 0#32)) (in1024 D) (keysAt D (k0_off1 i 0#32) (k0_off1_inb i 0)) c3)
    (h3 : c3 = join split768 c2 (next rows768 (masked (before split768 i 1#32)) (in768 D) (keysAt D (k0_off1 i 1#32) (k0_off1_inb i 1)) (bottom split768 c2)))
    (h2 : c2 = join split512 c1 (next rows512 (masked (before split512 i 2#32)) (in512 D) (keysAt D (k0_off1 i 2#32) (k0_off1_inb i 2)) (bottom split512 c1)))
    (h1 : c1 = join split256 s.c (next rows256 (masked (before split256 i 3#32)) (in256 D) (keysAt D (k0_off1 i 3#32) (k0_off1_inb i 3)) (bottom split256 s.c)))
    (hk4 : k4 = put k3 (diagRow i 0) (dkOf rows1024 (masked (beforeAll i 0#32)) (in1024 D) (keysAt D (k0_off1 i 0#32) (k0_off1_inb i 0)) c3 (cut k3 (blkAt (k0_off1 i 0#32) (k0_off1_inb i 0)))))
    (hk3 : k3 = put k2 (diagRow i 1) (dkOf rows768 (masked (before split768 i 1#32)) (in768 D) (keysAt D (k0_off1 i 1#32) (k0_off1_inb i 1)) (bottom split768 c2) (cut k2 (blkAt (k0_off1 i 1#32) (k0_off1_inb i 1)))))
    (hk2 : k2 = put k1 (diagRow i 2) (dkOf rows512 (masked (before split512 i 2#32)) (in512 D) (keysAt D (k0_off1 i 2#32) (k0_off1_inb i 2)) (bottom split512 c1) (cut k1 (blkAt (k0_off1 i 2#32) (k0_off1_inb i 2)))))
    (hk1 : k1 = put s.dk (diagRow i 3) (dkOf rows256 (masked (before split256 i 3#32)) (in256 D) (keysAt D (k0_off1 i 3#32) (k0_off1_inb i 3)) (bottom split256 s.c) (cut s.dk (blkAt (k0_off1 i 3#32) (k0_off1_inb i 3)))))
    (hv4 : v4 = put v3 (diagRow i 0) (dvOf rows1024 (masked (beforeAll i 0#32)) (in1024 D) (keysAt D (k0_off1 i 0#32) (k0_off1_inb i 0)) c3 (cut v3 (blkAt (k0_off1 i 0#32) (k0_off1_inb i 0)))))
    (hv3 : v3 = put v2 (diagRow i 1) (dvOf rows768 (masked (before split768 i 1#32)) (in768 D) (keysAt D (k0_off1 i 1#32) (k0_off1_inb i 1)) (bottom split768 c2) (cut v2 (blkAt (k0_off1 i 1#32) (k0_off1_inb i 1)))))
    (hv2 : v2 = put v1 (diagRow i 2) (dvOf rows512 (masked (before split512 i 2#32)) (in512 D) (keysAt D (k0_off1 i 2#32) (k0_off1_inb i 2)) (bottom split512 c1) (cut v1 (blkAt (k0_off1 i 2#32) (k0_off1_inb i 2)))))
    (hv1 : v1 = put s.dv (diagRow i 3) (dvOf rows256 (masked (before split256 i 3#32)) (in256 D) (keysAt D (k0_off1 i 3#32) (k0_off1_inb i 3)) (bottom split256 s.c) (cut s.dv (blkAt (k0_off1 i 3#32) (k0_off1_inb i 3))))) :
    (⟨c4, k4, v4⟩ : State F) = diags i D s := by
  subst hk4 hk3 hk2 hk1 hv4 hv3 hv2 hv1 h4 h3 h2 h1
  rfl

/-- A buffer written at the four blocks of the diagonal reads as the contents with those rows replaced. -/
theorem read_four {sp : Space} (v : View sig .tc sp S1x8192x64 .f32) (f : v.ty.Contents (Elt F)) (i : grid0.Coords)
    (w0 w1 w2 w3 : FVec F S1x256x64 .f32) (L : List (View.Piece (Elt F) S1x8192x64 .f32)) :
    v.read (Elt F) (v.writes (Elt F) f (⟨Rect.unit (s := S1x8192x64) (k0_off1 i 0#32) S1x256x64.size (k0_off1_inb i 0), w0⟩
        :: ⟨Rect.unit (s := S1x8192x64) (k0_off1 i 1#32) S1x256x64.size (k0_off1_inb i 1), w1⟩
        :: ⟨Rect.unit (s := S1x8192x64) (k0_off1 i 2#32) S1x256x64.size (k0_off1_inb i 2), w2⟩
        :: ⟨Rect.unit (s := S1x8192x64) (k0_off1 i 3#32) S1x256x64.size (k0_off1_inb i 3), w3⟩ :: L))
      = put (put (put (put (v.read (Elt F) (v.writes (Elt F) f L)) (diagRow i 3) w3) (diagRow i 2) w2) (diagRow i 1) w1) (diagRow i 0) w0 := by
  rw [read_writes_put v f (diagRow i 0) (k0_off1 i 0#32) (k0_off1_eq i 0) (k0_off1_inb i 0), read_writes_put v f (diagRow i 1) (k0_off1 i 1#32) (k0_off1_eq i 1) (k0_off1_inb i 1),
    read_writes_put v f (diagRow i 2) (k0_off1 i 2#32) (k0_off1_eq i 2) (k0_off1_inb i 2), read_writes_put v f (diagRow i 3) (k0_off1 i 3#32) (k0_off1_eq i 3) (k0_off1_inb i 3)]

/-- The state after a grid point. -/
def point (i : grid0.Coords) (D : Data F) (s : State F) : State F := lefts D (i 1).val (i 1).isLt (diags i D s) (4 * (i 1).val)

/-- What a grid point reads, from its six inputs: the sum over all keys of the weights' gradients is the product of the
    output and its gradient. -/
def pointData (Q : FVec F S1x1024x64 .bf16) (K V : FVec F S1x8192x64 .bf16) (O DO : FVec F S1x1024x64 .f32) (U : FVec F S256x256 .bf16) : Data F where
  Q := Q
  K := K
  V := V
  U := U
  tot := k0_pay137 (k0_pay136 DO) O
  dout := k0_pay136 DO

/-- The queries' gradient as the grid point's result. -/
def dqOut (s : State F) : FVec F S1x1024x64 .f32 := shapeCast S1x1024x64 s.c.dq shapeCasts_S1024x64_S1x1024x64

end Cert.KernelIdeal.Step
end
-- ==== Proof.PointReal.lean ====
module

public import proofs.«01_k».proof.Proof.StepReal
public import proofs.«01_k».proof.Proof.Point
public import Idealize.ShloMosaic.Lib.WordCmp
public import Idealize.ShloMosaic.Lib.ValueLayout

@[expose] public section

set_option maxRecDepth 16384

noncomputable section

/-! # A grid point over the reals

After the key blocks from `o` on, the carried values are the sums over the keys from `o` on; the keys' and the values'
gradients hold, from `o` on, the sums over all queries up to the point's last, and before `o` the sums over the queries
of the points before. -/

namespace Cert.KernelIdeal.Step

open Idealize.ShloMosaic Cert.KernelIdeal.Gen Cert.Stick Finset

/-- The element of an array that an element of a box without strides is. -/
theorem unit_idx {S : Shape} {off size : Fin S.rank → ℕ} {inb : ∀ a, off a + size a ≤ S.size a} (x : (Rect.unit (s := S) off size inb).shape.Idx)
    (y : S.Idx) (h : ∀ a, (y a).val = off a + (x a).val) : (Rect.unit (s := S) off size inb).idx x = y := by
  funext a
  refine Fin.ext ?_
  rw [h a]
  show off a + 1 * (x a).val = _
  omega

/-- An array of one block of rows as the rows. -/
theorem drop_apply {α : Type} {a b : ℕ} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 (0 : Fin 1) i j) := ValueIdx.shapeCast_1ab_ab_apply x h i j

variable (A : Head) (i : ℕ)

/-- What a grid point reads: the queries are those from `1024 i` on. -/
structure DataIs (D : Data Ideal) : Prop where
  q : ∀ (r : Fin 1024) (d : Fin 64), D.Q (ix3 (0 : Fin 1) r d) = ((A.q (1024 * i + r.val) d : ℝ) : EReal)
  k : ∀ (s : Fin 8192) (d : Fin 64), D.K (ix3 (0 : Fin 1) s d) = ((A.k s.val d : ℝ) : EReal)
  v : ∀ (s : Fin 8192) (d : Fin 64), D.V (ix3 (0 : Fin 1) s d) = ((A.v s.val d : ℝ) : EReal)
  u : ∀ c e : Fin 256, D.U (ix2 c e) = (((if e < c then 1 else 0 : ℝ) : ℝ) : EReal)
  tot : ∀ r : Fin 1024, D.tot (ix2 r (0 : Fin 1)) = ((∑ s ∈ range 8192, G A 8192 (1024 * i + r.val) s : ℝ) : EReal)
  g : ∀ (r : Fin 1024) (d : Fin 64), D.dout (ix2 r d) = ((A.g (1024 * i + r.val) d : ℝ) : EReal)

/-- The state after the key blocks from `o` on. -/
structure StateIs (o : ℕ) (s : State Ideal) : Prop where
  c : CarryIs A 8192 (1024 * i) o s.c
  dk : ∀ (e : Fin 8192) (d : Fin 64), s.dk (ix3 (0 : Fin 1) e d)
    = ((∑ t ∈ range (if o ≤ e.val then 1024 * i + 1024 else 1024 * i), dZ A 8192 t e.val * A.q t d : ℝ) : EReal)
  dv : ∀ (e : Fin 8192) (d : Fin 64), s.dv (ix3 (0 : Fin 1) e d)
    = ((∑ t ∈ range (if o ≤ e.val then 1024 * i + 1024 else 1024 * i), W A 8192 t e.val * A.g t d : ℝ) : EReal)

variable {A i} {D : Data Ideal} (hD : DataIs A i D)
include hD

theorem keysAt_real {o : ℕ} (off : Fin 3 → ℕ) (ho : off = ![0, o, 0]) (inb : ∀ a, off a + S1x256x64.size a ≤ S1x8192x64.size a)
    (hb : o + 256 ≤ 8192) : KeysIs A o (keysAt D off inb) where
  k c d := by
    refine Eq.trans ?_ (hD.k ⟨o + c.val, by omega⟩ d)
    refine (drop_apply (cut D.K (blkAt off inb)) _ c d).trans (congrArg D.K (unit_idx _ _ fun a => ?_))
    subst ho
    fin_cases a
    · rfl
    · rfl
    · exact (Nat.zero_add _).symm
  v c d := by
    refine Eq.trans ?_ (hD.v ⟨o + c.val, by omega⟩ d)
    refine (drop_apply (cut D.V (blkAt off inb)) _ c d).trans (congrArg D.V (unit_idx _ _ fun a => ?_))
    subst ho
    fin_cases a
    · rfl
    · rfl
    · exact (Nat.zero_add _).symm
  u c e := by
    refine Eq.trans ?_ (hD.u c e)
    refine (congrFun (shapeCast_self (cut D.U (Rect.unit (s := S256x256) ![0, 0] S256x256.size inb_S256x256_S256x256_0_0)) _) _).trans
      (congrArg D.U (unit_idx _ _ fun a => ?_))
    fin_cases a <;> exact (Nat.zero_add _).symm

theorem rowsFrom_real {n p : ℕ} (hp : p + n ≤ 1024) (hq hd ht hc) : InIs A 8192 (1024 * i + p) (rowsFrom D n p hq hd ht hc) where
  q r d := by
    rw [Nat.add_assoc]
    refine Eq.trans ?_ (hD.q ⟨p + r.val, by omega⟩ d)
    refine (drop_apply (cut D.Q (Rect.unit (s := S1x1024x64) ![0, p, 0] ![1, n, 64] hq)) _ r d).trans (congrArg D.Q (unit_idx _ _ fun a => ?_))
    fin_cases a
    · rfl
    · rfl
    · exact (Nat.zero_add _).symm
  g r d := by
    rw [Nat.add_assoc]
    refine Eq.trans ?_ (hD.g ⟨p + r.val, by omega⟩ d)
    refine congrArg D.dout (unit_idx _ _ fun a => ?_)
    fin_cases a
    · rfl
    · exact (Nat.zero_add _).symm
  tot r := by
    rw [Nat.add_assoc]
    refine Eq.trans ?_ (hD.tot ⟨p + r.val, by omega⟩)
    refine congrArg D.tot (unit_idx _ _ fun a => ?_)
    fin_cases a
    · rfl
    · rfl

omit hD

theorem put_apply (X : FVec Ideal S1x8192x64 .f32) (o : ℕ) (w : FVec Ideal S1x256x64 .f32) (e : Fin 8192) (d : Fin 64) :
    put X o w (ix3 (0 : Fin 1) e d) = if h : o ≤ e.val ∧ e.val < o + 256 then w (ix3 (0 : Fin 1) ⟨e.val - o, by omega⟩ d) else X (ix3 (0 : Fin 1) e d) := rfl

theorem cut_apply {o : ℕ} (X : FVec Ideal S1x8192x64 .f32) (off : Fin 3 → ℕ) (ho : off = ![0, o, 0])
    (inb : ∀ a, off a + S1x256x64.size a ≤ S1x8192x64.size a) (hb : o + 256 ≤ 8192) (c : Fin 256) (d : Fin 64) :
    cut X (blkAt off inb) (ix3 (0 : Fin 1) c d) = X (ix3 (0 : Fin 1) ⟨o + c.val, by omega⟩ d) := by
  subst ho
  refine congrArg X (unit_idx _ _ fun a => ?_)
  fin_cases a
  · rfl
  · rfl
  · exact (Nat.zero_add _).symm

/-- A step's rows put into a whole gradient: the sums over the queries of this point are added at the block's keys. -/
theorem put_real {n p o : ℕ} (hp : p + n = 1024) (hz : p = 0 ∨ 1024 * i + p ≤ o) (hb : o + 256 ≤ 8192) (f : ℕ → ℕ → Fin 64 → ℝ)
    (hf : ∀ t s d, t ≤ s → f t s d = 0) {X : FVec Ideal S1x8192x64 .f32}
    (hX : ∀ (e : Fin 8192) (d : Fin 64), X (ix3 (0 : Fin 1) e d)
      = ((∑ t ∈ range (if o + 256 ≤ e.val then 1024 * i + 1024 else 1024 * i), f t e.val d : ℝ) : EReal))
    (off : Fin 3 → ℕ) (ho : off = ![0, o, 0]) (inb : ∀ a, off a + S1x256x64.size a ≤ S1x8192x64.size a)
    {w : FVec Ideal S1x256x64 .f32}
    (hw : ∀ (c : Fin 256) (d : Fin 64), w (ix3 (0 : Fin 1) c d) = cut X (blkAt off inb) (ix3 (0 : Fin 1) c d)
      + ((∑ t ∈ Ico (1024 * i + p) (1024 * i + p + n), f t (o + c.val) d : ℝ) : EReal))
    (e : Fin 8192) (d : Fin 64) :
    put X o w (ix3 (0 : Fin 1) e d) = ((∑ t ∈ range (if o ≤ e.val then 1024 * i + 1024 else 1024 * i), f t e.val d : ℝ) : EReal) := by
  rw [put_apply]
  by_cases h : o ≤ e.val ∧ e.val < o + 256
  · rw [dif_pos h, hw, cut_apply X off ho inb hb, if_pos h.1]
    have he : (⟨o + (e.val - o), by omega⟩ : Fin 8192) = e := Fin.ext (by show o + (e.val - o) = e.val; omega)
    have hn : o + (e.val - o) = e.val := by omega
    dsimp only
    rw [he, hX, if_neg (by omega), hn, ← EReal.coe_add]
    refine congrArg _ ?_
    have h1 : ∑ t ∈ Ico (1024 * i) (1024 * i + p), f t e.val d = 0 := by
      refine sum_eq_zero fun t ht => hf _ _ _ ?_
      rw [mem_Ico] at ht
      rcases hz with hz | hz <;> omega
    rw [← sum_range_add_sum_Ico (fun t => f t e.val d) (show 1024 * i ≤ 1024 * i + 1024 by omega),
      ← sum_Ico_consecutive (fun t => f t e.val d) (show 1024 * i ≤ 1024 * i + p by omega) (show 1024 * i + p ≤ 1024 * i + 1024 by omega), h1, zero_add,
      show 1024 * i + p + n = 1024 * i + 1024 by omega]
  · rw [dif_neg h, hX]
    have : (o + 256 ≤ e.val) = (o ≤ e.val) := propext (by omega)
    simp only [this]

/-! ## The carried values cut and joined -/

section
variable {n p : ℕ} (sp : Split n p)

theorem bottom_real {o : ℕ} {c : Carry Ideal 1024} (hp : p + n = 1024) (hc : CarryIs A 8192 (1024 * i) o c) :
    CarryIs A 8192 (1024 * i + p) o (bottom sp c) where
  r r := by
    rw [Nat.add_assoc]
    refine Eq.trans (congrArg c.r ?_) (hc.r ⟨p + r.val, by omega⟩)
    funext a; fin_cases a
    · rfl
    · exact Fin.ext (Nat.zero_add _)
  gs r := by
    rw [Nat.add_assoc]
    refine Eq.trans (congrArg c.gs ?_) (hc.gs ⟨p + r.val, by omega⟩)
    funext a; fin_cases a
    · rfl
    · exact Fin.ext (Nat.zero_add _)
  dq r d := by
    rw [Nat.add_assoc]
    refine Eq.trans (congrArg c.dq ?_) (hc.dq ⟨p + r.val, by omega⟩ d)
    funext a; fin_cases a
    · rfl
    · exact Fin.ext (Nat.zero_add _)

/-- Rows replaced from `p` on, at one entry. -/
theorem concat_apply {w : ℕ} (hp : p + n = 1024) (x : FVec Ideal (Mat 1024 w) .f32) (y : FVec Ideal (Mat n w) .f32)
    (ht : (Mat 1024 w).Slices ![0, 0] (Mat p w)) (hc : Shape.Concatenates [Mat p w, Mat n w] (Mat 1024 w) 0) (r : Fin 1024) (d : Fin w) :
    concatenate (Mat 1024 w) 0 [⟨Mat p w, extractStridedSlice (Mat p w) ![0, 0] x ht⟩, ⟨Mat n w, y⟩] hc (ix2 r d)
      = if h : r.val < p then x (ix2 r d) else y (ix2 ⟨r.val - p, by omega⟩ d) := by
  split
  · next h =>
    refine (concatenate_pair_apply_left (t := Mat 1024 w) (s₁ := Mat p w) (s₂ := Mat n w) 0 _ y hc (ix2 r d) rfl (ix2 ⟨r.val, h⟩ d) (fun b => ?_)).trans (congrArg x ?_)
    · fin_cases b <;> rfl
    · funext a; fin_cases a <;> exact Fin.ext (Nat.zero_add _)
  · next h =>
    refine concatenate_pair_apply_right (t := Mat 1024 w) (s₁ := Mat p w) (s₂ := Mat n w) 0 _ y hc (ix2 r d) rfl rfl (ix2 ⟨r.val - p, by omega⟩ d) (fun b hb => ?_) ?_
    · fin_cases b
      · exact absurd rfl hb
      · rfl
    · show r.val - p + p = r.val; omega

/-- The rows before `p` come before the block's keys, so they have nothing to add. -/
theorem join_real {o : ℕ} (hp : p + n = 1024) (hz : 1024 * i + p ≤ o) (ho : o + 256 ≤ 8192) {c : Carry Ideal 1024} {x : Carry Ideal n}
    (hc : CarryIs A 8192 (1024 * i) (o + 256) c) (hx : CarryIs A 8192 (1024 * i + p) o x) : CarryIs A 8192 (1024 * i) o (join sp c x) where
  r r := by
    refine (concat_apply hp c.r x.r sp.top1 sp.cat1 r 0).trans ?_
    split
    · next h =>
      rw [hc.r, sum_from 8192 _ ho, sum_eq_zero (s := univ) fun b _ => lm_zero A (by omega), add_zero]
    · next h => rw [hx.r, show 1024 * i + p + (r.val - p) = 1024 * i + r.val by omega]
  gs r := by
    refine (concat_apply hp c.gs x.gs sp.top1 sp.cat1 r 0).trans ?_
    split
    · next h =>
      rw [hc.gs, sum_from 8192 _ ho, sum_eq_zero (s := univ) fun b _ => G_zero A 8192 (by omega), add_zero]
    · next h => rw [hx.gs, show 1024 * i + p + (r.val - p) = 1024 * i + r.val by omega]
  dq r d := by
    refine (concat_apply hp c.dq x.dq sp.top64 sp.cat64 r d).trans ?_
    split
    · next h =>
      rw [hc.dq, sum_from 8192 _ ho, sum_eq_zero (s := univ) fun b _ => by rw [dZ_zero A 8192 (by omega), zero_mul], add_zero]
    · next h => rw [hx.dq, show 1024 * i + p + (r.val - p) = 1024 * i + r.val by omega]
end

/-! ## Which keys are kept -/

theorem firstBlk_eq : ∀ i : grid0.Coords, firstBlk i = BitVec.ofNat 32 (4 * (i 1).val) := by
  intro i
  have h : ∀ a : Fin 8, (let a : BitVec 32 := Scalar.muli (BitVec.ofNat 32 a.val) 1024#32
    Scalar.select
      (Scalar.andi
        (Scalar.cmpi .ne (Scalar.subi (Scalar.extui (Scalar.cmpi .sgt a 0#32)) (Scalar.extui (Scalar.cmpi .slt a 0#32)))
          (Scalar.subi (Scalar.extui (Scalar.cmpi .sgt 256#32 0#32)) (Scalar.extui (Scalar.cmpi .slt 256#32 0#32))))
        (Scalar.cmpi .ne (Scalar.remsi a 256#32) 0#32))
      (Scalar.subi (Scalar.divsi a 256#32) 1#32) (Scalar.divsi a 256#32)) = BitVec.ofNat 32 (4 * a.val) := by decide
  exact h (i 1)

/-- The comparison of a key's and a query's positions, as words. -/
theorem before_word (a : Fin 8) (r : Fin 4) (q e : ℕ) (hq : q < 1024) (he : e < 256) :
    IntOp.cmpi .slt (BitVec.ofNat 32 e + (BitVec.ofNat 32 (4 * a.val) + BitVec.ofNat 32 r.val) * 256#32) (BitVec.ofNat 32 q + BitVec.ofNat 32 a.val * 1024#32)
      = BitVec.ofBool (decide (1024 * a.val + 256 * r.val + e < 1024 * a.val + q)) := by
  rw [← BitVec.ofNat_add, ← BitVec.ofNat_mul, ← BitVec.ofNat_mul, ← BitVec.ofNat_add, ← BitVec.ofNat_add, WordCmp.cmpi_slt_ofNat (by omega) (by omega)]
  refine congrArg BitVec.ofBool (decide_eq_decide.mpr ?_)
  omega

theorem masked_real {n : ℕ} {m : IVec (Mat n 256) 1} {p o : ℕ}
    (hm : ∀ (r : Fin n) (c : Fin 256), m (ix2 r c) = BitVec.ofBool (decide (o + c.val < p + r.val))) : Keeps p o (masked m) := by
  intro x r c
  show Scalar.select (m (ix2 r c)) (x (ix2 r c)) (Ideal.ofBits .f32 0x00000000#32) = _
  rw [hm, Ideal.ofBits_zero_f32]
  by_cases h : o + c.val < p + r.val
  · rw [if_pos h, decide_eq_true h]; rfl
  · rw [if_neg h, decide_eq_false h]; rfl

theorem before_real {n p : ℕ} (hp : p + n = 1024) (sp : Split n p) (i : grid0.Coords) (r : Fin 4) :
    Keeps (1024 * (i 1).val + p) (diagRow i r.val) (masked (before sp i (BitVec.ofNat 32 r.val))) := by
  refine masked_real fun q c => ?_
  rw [Nat.add_assoc (1024 * (i 1).val) p]
  refine Eq.trans ?_ (before_word (i 1) r (p + q.val) c.val (by omega) c.isLt)
  rw [← firstBlk_eq]
  unfold before kloc qpos
  pointwise
  rfl

theorem beforeAll_real (i : grid0.Coords) : Keeps (1024 * (i 1).val) (diagRow i 0) (masked (beforeAll i 0#32)) := by
  refine masked_real fun q c => ?_
  refine Eq.trans ?_ (before_word (i 1) 0 q.val c.val q.isLt c.isLt)
  rw [← firstBlk_eq]
  unfold beforeAll kloc qpos
  pointwise
  rfl

/-! ## The steps of a grid point -/

include hD

theorem diag_real {n p o : ℕ} (sp : Split n p) (h : Rows n) (hp : p + n = 1024) (hz : 1024 * i + p ≤ o) (ho : o + 256 ≤ 8192)
    {m : IVec (Mat n 256) 1} {x : In Ideal n} (hx : InIs A 8192 (1024 * i + p) x) (hk : Keeps (1024 * i + p) o (masked m))
    (off : Fin 3 → ℕ) (hoff : off = ![0, o, 0]) (inb : ∀ a, off a + S1x256x64.size a ≤ S1x8192x64.size a)
    {s : State Ideal} (hs : StateIs A i (o + 256) s) : StateIs A i o (diag sp h m x D off inb o s) where
  c := join_real sp hp hz ho hs.c (next_real h hx (keysAt_real hD off hoff inb ho) hk ho (bottom_real sp hp hs.c))
  dk e d := put_real hp (.inr hz) ho (fun t s d => dZ A 8192 t s * A.q t d) (fun t s d hts => mul_eq_zero_of_left (dZ_zero A 8192 hts) _) hs.dk off hoff inb
    (fun c d => dk_real h hx (keysAt_real hD off hoff inb ho) hk ho (bottom_real sp hp hs.c) _ c d) e d
  dv e d := put_real hp (.inr hz) ho (fun t s d => W A 8192 t s * A.g t d) (fun t s d hts => mul_eq_zero_of_left (W_zero A 8192 hts) _) hs.dv off hoff inb
    (fun c d => dv_real h hx (keysAt_real hD off hoff inb ho) hk ho (bottom_real sp hp hs.c) _ c d) e d

/-- A step on all rows. -/
theorem all_real {o : ℕ} (ho : o + 256 ≤ 8192) {keep : FVec Ideal S1024x256 .f32 → FVec Ideal S1024x256 .f32} (hk : Keeps (n := 1024) (1024 * i) o keep)
    (off : Fin 3 → ℕ) (hoff : off = ![0, o, 0]) (inb : ∀ a, off a + S1x256x64.size a ≤ S1x8192x64.size a)
    {s : State Ideal} (hs : StateIs A i (o + 256) s) :
    StateIs A i o ⟨next rows1024 keep (in1024 D) (keysAt D off inb) s.c,
      put s.dk o (dkOf rows1024 keep (in1024 D) (keysAt D off inb) s.c (cut s.dk (blkAt off inb))),
      put s.dv o (dvOf rows1024 keep (in1024 D) (keysAt D off inb) s.c (cut s.dv (blkAt off inb)))⟩ where
  c := next_real rows1024 (rowsFrom_real hD (p := 0) (by omega) _ _ _ _) (keysAt_real hD off hoff inb ho) hk ho hs.c
  dk e d := put_real (n := 1024) (p := 0) rfl (.inl rfl) ho (fun t s d => dZ A 8192 t s * A.q t d) (fun t s d hts => mul_eq_zero_of_left (dZ_zero A 8192 hts) _) hs.dk off hoff inb
    (fun c d => dk_real rows1024 (rowsFrom_real hD (p := 0) (by omega) _ _ _ _) (keysAt_real hD off hoff inb ho) hk ho hs.c _ c d) e d
  dv e d := put_real (n := 1024) (p := 0) rfl (.inl rfl) ho (fun t s d => W A 8192 t s * A.g t d) (fun t s d hts => mul_eq_zero_of_left (W_zero A 8192 hts) _) hs.dv off hoff inb
    (fun c d => dv_real rows1024 (rowsFrom_real hD (p := 0) (by omega) _ _ _ _) (keysAt_real hD off hoff inb ho) hk ho hs.c _ c d) e d

theorem left_real {o : ℕ} (ho : o + 256 ≤ 8192) (hz : o + 256 ≤ 1024 * i) {s : State Ideal} (hs : StateIs A i (o + 256) s) :
    StateIs A i o (left D o ho s) :=
  all_real hD ho (keep := id) (fun x r c => (if_pos (by omega)).symm) _ rfl (inb_block ho) hs

/-- The blocks to the left of the diagonal. -/
theorem lefts_real (hi : i < 8) {s : State Ideal} (hs : StateIs A i (1024 * i) s) (m : ℕ) (hm : m ≤ 4 * i) :
    StateIs A i (1024 * i - 256 * m) (lefts D i hi s m) := by
  induction m with
  | zero => exact hs
  | succ m ih =>
    rw [lefts]
    have e : 256 * (4 * i - 1 - m) = 1024 * i - 256 * (m + 1) := by omega
    rw [← e]
    refine left_real hD (left_row i m hi) (by omega) ?_
    rw [e, show 1024 * i - 256 * (m + 1) + 256 = 1024 * i - 256 * m by omega]
    exact ih (by omega)

omit hD

/-- The four blocks on the diagonal. -/
theorem diags_real {j : grid0.Coords} (hD : DataIs A (j 1).val D) {s : State Ideal} (hs : StateIs A (j 1).val (1024 * (j 1).val + 1024) s) :
    StateIs A (j 1).val (1024 * (j 1).val) (diags j D s) := by
  have hj : (j 1).val < 8 := (j 1).isLt
  have e3 : StateIs A (j 1).val (diagRow j 3)
    (diag split256 rows256 (before split256 j 3#32) (in256 D) D (k0_off1 j 3#32) (k0_off1_inb j 3) (diagRow j 3) s) :=
    diag_real hD split256 rows256 rfl (by show 1024 * (j 1).val + 768 ≤ 1024 * (j 1).val + 256 * 3; omega) (by show 1024 * (j 1).val + 256 * 3 + 256 ≤ 8192; omega)
      (rowsFrom_real hD (by omega) _ _ _ _) (before_real rfl split256 j 3) (k0_off1 j 3#32) (k0_off1_eq j 3) (k0_off1_inb j 3) hs
  have e2 : StateIs A (j 1).val (diagRow j 2)
    (diag split512 rows512 (before split512 j 2#32) (in512 D) D (k0_off1 j 2#32) (k0_off1_inb j 2) (diagRow j 2) _) :=
    diag_real hD split512 rows512 rfl (by show 1024 * (j 1).val + 512 ≤ 1024 * (j 1).val + 256 * 2; omega) (by show 1024 * (j 1).val + 256 * 2 + 256 ≤ 8192; omega)
      (rowsFrom_real hD (by omega) _ _ _ _) (before_real rfl split512 j 2) (k0_off1 j 2#32) (k0_off1_eq j 2) (k0_off1_inb j 2) e3
  have e1 : StateIs A (j 1).val (diagRow j 1)
    (diag split768 rows768 (before split768 j 1#32) (in768 D) D (k0_off1 j 1#32) (k0_off1_inb j 1) (diagRow j 1) _) :=
    diag_real hD split768 rows768 rfl (by show 1024 * (j 1).val + 256 ≤ 1024 * (j 1).val + 256 * 1; omega) (by show 1024 * (j 1).val + 256 * 1 + 256 ≤ 8192; omega)
      (rowsFrom_real hD (by omega) _ _ _ _) (before_real rfl split768 j 1) (k0_off1 j 1#32) (k0_off1_eq j 1) (k0_off1_inb j 1) e2
  exact all_real hD (o := diagRow j 0) (by show 1024 * (j 1).val + 256 * 0 + 256 ≤ 8192; omega) (beforeAll_real j) (k0_off1 j 0#32) (k0_off1_eq j 0) (k0_off1_inb j 0) e1

/-- A grid point: with the earlier points' sums in the keys' and the values' gradients, it leaves the queries' gradient and
    those sums with its own queries added. -/
theorem point_real {j : grid0.Coords} (hD : DataIs A (j 1).val D) {dk dv : FVec Ideal S1x8192x64 .f32}
    (hk : ∀ (e : Fin 8192) (d : Fin 64), dk (ix3 (0 : Fin 1) e d) = ((∑ t ∈ range (1024 * (j 1).val), dZ A 8192 t e.val * A.q t d : ℝ) : EReal))
    (hv : ∀ (e : Fin 8192) (d : Fin 64), dv (ix3 (0 : Fin 1) e d) = ((∑ t ∈ range (1024 * (j 1).val), W A 8192 t e.val * A.g t d : ℝ) : EReal)) :
    StateIs A (j 1).val 0 (point j D ⟨zeroCarry, dk, dv⟩) := by
  have hj : (j 1).val < 8 := (j 1).isLt
  have key : ∀ f : ℕ → ℕ → ℝ, (∀ t s, t ≤ s → f t s = 0) → ∀ e : ℕ,
      ∑ t ∈ range (1024 * (j 1).val), f t e = ∑ t ∈ range (if 1024 * (j 1).val + 1024 ≤ e then 1024 * (j 1).val + 1024 else 1024 * (j 1).val), f t e := by
    intro f hf e
    split
    · next h =>
      rw [← sum_range_add_sum_Ico (fun t => f t e) (show 1024 * (j 1).val ≤ 1024 * (j 1).val + 1024 by omega),
        sum_eq_zero (s := Ico _ _) fun t ht => hf _ _ (by rw [mem_Ico] at ht; omega), add_zero]
    · rfl
  have hs : StateIs A (j 1).val (1024 * (j 1).val + 1024) ⟨zeroCarry, dk, dv⟩ := by
    refine ⟨⟨fun r => ?_, fun r => ?_, fun r d => ?_⟩, fun e d => ?_, fun e d => ?_⟩
    · rw [sum_eq_zero fun s hs => lm_zero A (by rw [mem_Ico] at hs; omega)]; exact Ideal.ofBits_zero_f32
    · rw [sum_eq_zero fun s hs => G_zero A 8192 (by rw [mem_Ico] at hs; omega)]; exact Ideal.ofBits_zero_f32
    · rw [sum_eq_zero fun s hs => by rw [dZ_zero A 8192 (by rw [mem_Ico] at hs; omega), zero_mul]]; exact Ideal.ofBits_zero_f32
    · exact (hk e d).trans (congrArg _ (key (fun t s => dZ A 8192 t s * A.q t d) (fun t s h => mul_eq_zero_of_left (dZ_zero A 8192 h) _) e.val))
    · exact (hv e d).trans (congrArg _ (key (fun t s => W A 8192 t s * A.g t d) (fun t s h => mul_eq_zero_of_left (W_zero A 8192 h) _) e.val))
  have := lefts_real hD hj (diags_real hD hs) (4 * (j 1).val) le_rfl
  rw [show 1024 * (j 1).val - 256 * (4 * (j 1).val) = 0 by omega] at this
  exact this

end Cert.KernelIdeal.Step
end
-- ==== Proof.Off.lean ====
/-
  The key block of each step of the attention's backward kernel, in closed form: before trip `k` of the loop over the
  key blocks left of the diagonal, a program of query block `i` has gone through the key blocks from `4 i + 3` down to
  `4 i - 4 k`; the trip's four steps take the blocks `4 i - 1 - 4 k - r`, and there are `i` trips. The remainder loop
  never runs.
-/
module

public import proofs.«01_k».proof.Proof.Gen.KernelIdeal
public import Idealize.ShloMosaic.Lib.Tactic

@[expose] public section

namespace Cert.KernelIdeal

open Idealize.ShloMosaic Idealize.ShloMosaic.TcCoe Cert.KernelIdeal.Gen

/-- The loop over the key blocks left of the diagonal makes one trip per earlier query block. -/
theorem t1_trips : ∀ i : grid0.Coords, (k0_t1_loop i).trips = (i 1).val := by decide +kernel

/-- The remainder loop makes no trip. -/
theorem t2_trips : ∀ i : grid0.Coords, (k0_t2_loop i).trips = 0 := by decide +kernel

/-- The first key row of step `r` of trip `k`. -/
theorem k0_off2_eq : ∀ (i : grid0.Coords) (k : Fin (k0_t1_loop i).trips) (r : Fin 4),
    k0_off2 i k (BitVec.ofNat 32 r.val) = ![0, 1024 * ((i 1).val - 1 - k.val) + (768 - 256 * r.val), 0] := by decide +kernel

instance closedOff_k0_off2_0 (i : grid0.Coords) (k : Fin (k0_t1_loop i).trips) : ClosedOff (k0_off2 i k (BitVec.ofNat 32 0)) :=
  ⟨![0, 1024 * ((i 1).val - 1 - k.val) + 768, 0], k0_off2_eq i k 0⟩
instance closedOff_k0_off2_1 (i : grid0.Coords) (k : Fin (k0_t1_loop i).trips) : ClosedOff (k0_off2 i k (BitVec.ofNat 32 1)) :=
  ⟨![0, 1024 * ((i 1).val - 1 - k.val) + 512, 0], k0_off2_eq i k 1⟩
instance closedOff_k0_off2_2 (i : grid0.Coords) (k : Fin (k0_t1_loop i).trips) : ClosedOff (k0_off2 i k (BitVec.ofNat 32 2)) :=
  ⟨![0, 1024 * ((i 1).val - 1 - k.val) + 256, 0], k0_off2_eq i k 2⟩
instance closedOff_k0_off2_3 (i : grid0.Coords) (k : Fin (k0_t1_loop i).trips) : ClosedOff (k0_off2 i k (BitVec.ofNat 32 3)) :=
  ⟨![0, 1024 * ((i 1).val - 1 - k.val) + 0, 0], k0_off2_eq i k 3⟩

end Cert.KernelIdeal
-- ==== Proof.Trip.lean ====
module

public import proofs.«01_k».proof.Proof.Off
public import proofs.«01_k».proof.Proof.Pass
public import proofs.«01_k».proof.Proof.Gen.KernelIdeal.Skeleton
public import proofs.«01_k».proof.Proof.Gen.KernelIdeal.Loops
public import Idealize.ShloMosaic.Lib.Tactic
public import Idealize.ShloMosaic.Lib.Pipeline.Kit

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of a memref's buffer on core `c`, and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What a step carries: the sum of the log-complements to the right, the sum of the weights' gradients to the right,
    and the query gradient so far. -/
abbrev Acc (F : FTy → Type) [FloatOps F] : Type := FVec F S1024x1 .f32 × FVec F S1024x1 .f32 × FVec F S1024x64 .f32

section
variable (c : Dev nD)
  (arg2 : Memref sig .tc .vmem S1x1024x64 .bf16) (arg3 : Memref sig .tc .vmem S1x8192x64 .bf16) (arg4 : Memref sig .tc .vmem S1x8192x64 .bf16)
  (arg7 : Memref sig .tc .vmem S256x256 .bf16) (arg9 : Memref sig .tc .vmem S1x8192x64 .f32) (arg10 : Memref sig .tc .vmem S1x8192x64 .f32)
  (arg11 : Memref sig .tc .vmem S1024x1 .f32) (arg12 : Memref sig .tc .vmem S1024x64 .bf16)

/-- What one trip over the key blocks touches. -/
abbrev Trip (X2 : Bf (F := F) c arg2) (X3 : Bf (F := F) c arg3) (X4 : Bf (F := F) c arg4) (X7 : Bf (F := F) c arg7)
    (X11 : Bf (F := F) c arg11) (X12 : Bf (F := F) c arg12) (f9 : Bf (F := F) c arg9) (f10 : Bf (F := F) c arg10) : sProp 𝕄 :=
  iprop(pt c arg2 X2 ∗ pt c arg3 X3 ∗ pt c arg4 X4 ∗ pt c arg7 X7 ∗ pt c arg11 X11 ∗ pt c arg12 X12 ∗ pt c arg9 f9 ∗ pt c arg10 f10)
end

@[irreducible] def trip (c : Dev nD) (i : grid0.Coords)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (v41 : BitVec 32) (v333 v335 : FVec F S1024x1 .f32) (v340 : BitVec 32) (v349 : Vec F S1024x64 .bf16) (v370 : FVec F S1024x256 .f32) (v379 : FVec F S1024x256 .bf16) (v382 : FVec F S1024x256 .f32) (v400 : FVec F S1024x64 .f32) (v409 : FVec F S1x256x64 .f32)
    (X2 : Bf (F := F) c arg2) (X3 : Bf (F := F) c arg3) (X4 : Bf (F := F) c arg4) (X7 : Bf (F := F) c arg7)
    (X11 : Bf (F := F) c arg11) (X12 : Bf (F := F) c arg12) (k : Fin (k0_t1_loop i).trips) :
    Σ' (Y : Acc F → Bf (F := F) c arg9 → Bf (F := F) c arg10 → Acc F)
      (L9 : Acc F → Bf (F := F) c arg9 → Bf (F := F) c arg10 → List (View.Piece (Elt F) S1x8192x64 .f32)),
      {L10 : Acc F → Bf (F := F) c arg9 → Bf (F := F) c arg10 → List (View.Piece (Elt F) S1x8192x64 .f32) //
        ∀ acc f9 f10, Trip (F := F) c arg2 arg3 arg4 arg7 arg9 arg10 arg11 arg12 X2 X3 X4 X7 X11 X12 f9 f10
          ⊢ wp frame (wpE (defs₀ (F := F)) Variants.none (c : Thread nD τ) none) Set.univ
              (k0_t1_body (F := F) i arg2 harg2 arg3 harg3 arg4 harg4 arg5 harg5 arg6 harg6 arg7 harg7 arg8 harg8 arg9 harg9 arg10 harg10 arg11 harg11 arg12 harg12 v41 v333 v335 v340 v349 v370 v379 v382 v400 v409 k acc)
              (fun yld => iprop(⌜yld = Y acc f9 f10⌝ ∗ Trip (F := F) c arg2 arg3 arg4 arg7 arg9 arg10 arg11 arg12 X2 X3 X4 X7 X11 X12
                (arg9.view.writes (Elt F) f9 (L9 acc f9 f10)) (arg10.view.writes (Elt F) f10 (L10 acc f9 f10))))} := by
  have hk : k.val < (i 1).val := Nat.lt_of_lt_of_eq k.isLt (t1_trips i)
  have hi : (i 1).val < 8 := (i 1).isLt
  refine ⟨?_, ?_, ?_, fun acc f9 f10 => ?run⟩
  case run =>
    unfold k0_t1_body
    iintro ⟨H2, H3, H4, H7, H11, H12, H9, H10⟩
    sl_exec
    sl_step
    sl_close

/-! ## The trip as four steps -/

/-- The carried triple as the step's record, and back. -/
def toCarry (a : Acc F) : Step.Carry F 1024 := ⟨a.1, a.2.1, a.2.2⟩
def ofCarry (a : Step.Carry F 1024) : Acc F := (a.r, a.gs, a.dq)

/-- The step over the key block at offsets `off`. -/
def leftAt (D : Step.Data F) (off : Fin 3 → ℕ) (h : ∀ a, off a + S1x256x64.size a ≤ S1x8192x64.size a) (o : ℕ) (s : Step.State F) : Step.State F where
  c := Step.next Step.rows1024 id (Step.in1024 D) (Step.keysAt D off h) s.c
  dk := Step.put s.dk o (Step.dkOf Step.rows1024 id (Step.in1024 D) (Step.keysAt D off h) s.c (Step.cut s.dk (Step.blkAt off h)))
  dv := Step.put s.dv o (Step.dvOf Step.rows1024 id (Step.in1024 D) (Step.keysAt D off h) s.c (Step.cut s.dv (Step.blkAt off h)))

theorem leftAt_eq (D : Step.Data F) (off : Fin 3 → ℕ) (h : ∀ a, off a + S1x256x64.size a ≤ S1x8192x64.size a) (o : ℕ) (ho : o + 256 ≤ 8192)
    (e : off = ![0, o, 0]) (s : Step.State F) : leftAt D off h o s = Step.left D o ho s := by
  subst e; rfl

section
variable (c : Dev nD)
  (arg2 : Memref sig .tc .vmem S1x1024x64 .bf16) (arg3 : Memref sig .tc .vmem S1x8192x64 .bf16) (arg4 : Memref sig .tc .vmem S1x8192x64 .bf16)
  (arg7 : Memref sig .tc .vmem S256x256 .bf16) (arg11 : Memref sig .tc .vmem S1024x1 .f32) (arg12 : Memref sig .tc .vmem S1024x64 .bf16)

/-- What the buffers hold, as the step's data. -/
def dataOf (X2 : Bf (F := F) c arg2) (X3 : Bf (F := F) c arg3) (X4 : Bf (F := F) c arg4) (X7 : Bf (F := F) c arg7)
    (X11 : Bf (F := F) c arg11) (X12 : Bf (F := F) c arg12) : Step.Data F where
  Q := arg2.view.read (Elt F) X2
  K := arg3.view.read (Elt F) X3
  V := arg4.view.read (Elt F) X4
  U := arg7.view.read (Elt F) X7
  tot := arg11.view.read (Elt F) X11
  dout := arg12.view.read (Elt F) X12
end

/-- The key block of step `r` of trip `k`. -/
theorem off2_eq (i : grid0.Coords) (k : Fin (k0_t1_loop i).trips) (r : Fin 4) :
    k0_off2 i k (BitVec.ofNat 32 r.val) = ![0, 256 * (4 * (i 1).val - 1 - (4 * k.val + r.val)), 0] := by
  rw [k0_off2_eq i k r]
  have hk : k.val < (i 1).val := Nat.lt_of_lt_of_eq k.isLt (t1_trips i)
  have hr := r.isLt
  congr 2
  omega

section
variable (c : Dev nD) (i : grid0.Coords)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (v41 : BitVec 32) (v333 v335 : FVec F S1024x1 .f32) (v340 : BitVec 32) (v349 : Vec F S1024x64 .bf16) (v370 : FVec F S1024x256 .f32) (v379 : FVec F S1024x256 .bf16) (v382 : FVec F S1024x256 .f32) (v400 : FVec F S1024x64 .f32) (v409 : FVec F S1x256x64 .f32)
    (X2 : Bf (F := F) c arg2) (X3 : Bf (F := F) c arg3) (X4 : Bf (F := F) c arg4) (X7 : Bf (F := F) c arg7)
    (X11 : Bf (F := F) c arg11) (X12 : Bf (F := F) c arg12) (k : Fin (k0_t1_loop i).trips)

/-- The key block of step `m` to the left, of the trip that starts at `a`. -/
abbrev rowAt (r : ℕ) : ℕ := 256 * (4 * (i 1).val - 1 - (4 * k.val + r))

/-- The four steps of the trip on a state. -/
def four (s : Step.State F) : Step.State F :=
  leftAt (dataOf c arg2 arg3 arg4 arg7 arg11 arg12 X2 X3 X4 X7 X11 X12) (k0_off2 i k 3#32) (k0_off2_inb i k 3) (rowAt i k 3)
   (leftAt (dataOf c arg2 arg3 arg4 arg7 arg11 arg12 X2 X3 X4 X7 X11 X12) (k0_off2 i k 2#32) (k0_off2_inb i k 2) (rowAt i k 2)
    (leftAt (dataOf c arg2 arg3 arg4 arg7 arg11 arg12 X2 X3 X4 X7 X11 X12) (k0_off2 i k 1#32) (k0_off2_inb i k 1) (rowAt i k 1)
     (leftAt (dataOf c arg2 arg3 arg4 arg7 arg11 arg12 X2 X3 X4 X7 X11 X12) (k0_off2 i k 0#32) (k0_off2_inb i k 0) (rowAt i k 0) s)))

abbrev theTrip := trip (F := F) c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k

theorem trip_carry (acc : Acc F) (f9 : Bf (F := F) c arg9) (f10 : Bf (F := F) c arg10) :
    (theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k).1 acc f9 f10
      = ofCarry (four c i arg2 arg3 arg4 arg7 arg11 arg12 X2 X3 X4 X7 X11 X12 k ⟨toCarry acc, arg9.view.read (Elt F) f9, arg10.view.read (Elt F) f10⟩).c := by
  unfold theTrip trip
  rfl

theorem trip_dk (acc : Acc F) (f9 : Bf (F := F) c arg9) (f10 : Bf (F := F) c arg10) :
    arg9.view.read (Elt F) (arg9.view.writes (Elt F) f9 ((theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k).2.1 acc f9 f10))
      = (four c i arg2 arg3 arg4 arg7 arg11 arg12 X2 X3 X4 X7 X11 X12 k ⟨toCarry acc, arg9.view.read (Elt F) f9, arg10.view.read (Elt F) f10⟩).dk := by
  have hk : k.val < (i 1).val := Nat.lt_of_lt_of_eq k.isLt (t1_trips i)
  have d : ∀ a b : Fin 4, a.val < b.val → rowAt i k b.val + 256 ≤ rowAt i k a.val := by
    intro a b h; show 256 * (4 * (i 1).val - 1 - (4 * k.val + b.val)) + 256 ≤ 256 * (4 * (i 1).val - 1 - (4 * k.val + a.val)); omega
  unfold theTrip trip
  refine (Step.read_writes_put arg9.view f9 (rowAt i k 3) (k0_off2 i k 3#32) (off2_eq i k 3) (k0_off2_inb i k 3) _ _).trans ?_
  rw [Step.read_writes_put arg9.view f9 (rowAt i k 2) (k0_off2 i k 2#32) (off2_eq i k 2) (k0_off2_inb i k 2),
    Step.read_writes_put arg9.view f9 (rowAt i k 1) (k0_off2 i k 1#32) (off2_eq i k 1) (k0_off2_inb i k 1),
    Step.read_writes_put arg9.view f9 (rowAt i k 0) (k0_off2 i k 0#32) (off2_eq i k 0) (k0_off2_inb i k 0)]
  dsimp only [four, leftAt]
  rw [Step.ld_put _ (rowAt i k 0) (rowAt i k 1) _ (k0_off2 i k 1#32) (off2_eq i k 1) (k0_off2_inb i k 1) (.inl (d 0 1 (by decide))),
    Step.ld_put _ (rowAt i k 1) (rowAt i k 2) _ (k0_off2 i k 2#32) (off2_eq i k 2) (k0_off2_inb i k 2) (.inl (d 1 2 (by decide))),
    Step.ld_put _ (rowAt i k 0) (rowAt i k 2) _ (k0_off2 i k 2#32) (off2_eq i k 2) (k0_off2_inb i k 2) (.inl (d 0 2 (by decide))),
    Step.ld_put _ (rowAt i k 2) (rowAt i k 3) _ (k0_off2 i k 3#32) (off2_eq i k 3) (k0_off2_inb i k 3) (.inl (d 2 3 (by decide))),
    Step.ld_put _ (rowAt i k 1) (rowAt i k 3) _ (k0_off2 i k 3#32) (off2_eq i k 3) (k0_off2_inb i k 3) (.inl (d 1 3 (by decide))),
    Step.ld_put _ (rowAt i k 0) (rowAt i k 3) _ (k0_off2 i k 3#32) (off2_eq i k 3) (k0_off2_inb i k 3) (.inl (d 0 3 (by decide)))]
  rfl

theorem trip_dv (acc : Acc F) (f9 : Bf (F := F) c arg9) (f10 : Bf (F := F) c arg10) :
    arg10.view.read (Elt F) (arg10.view.writes (Elt F) f10 ((theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k).2.2.1 acc f9 f10))
      = (four c i arg2 arg3 arg4 arg7 arg11 arg12 X2 X3 X4 X7 X11 X12 k ⟨toCarry acc, arg9.view.read (Elt F) f9, arg10.view.read (Elt F) f10⟩).dv := by
  have hk : k.val < (i 1).val := Nat.lt_of_lt_of_eq k.isLt (t1_trips i)
  have d : ∀ a b : Fin 4, a.val < b.val → rowAt i k b.val + 256 ≤ rowAt i k a.val := by
    intro a b h; show 256 * (4 * (i 1).val - 1 - (4 * k.val + b.val)) + 256 ≤ 256 * (4 * (i 1).val - 1 - (4 * k.val + a.val)); omega
  unfold theTrip trip
  refine (Step.read_writes_put arg10.view f10 (rowAt i k 3) (k0_off2 i k 3#32) (off2_eq i k 3) (k0_off2_inb i k 3) _ _).trans ?_
  rw [Step.read_writes_put arg10.view f10 (rowAt i k 2) (k0_off2 i k 2#32) (off2_eq i k 2) (k0_off2_inb i k 2),
    Step.read_writes_put arg10.view f10 (rowAt i k 1) (k0_off2 i k 1#32) (off2_eq i k 1) (k0_off2_inb i k 1),
    Step.read_writes_put arg10.view f10 (rowAt i k 0) (k0_off2 i k 0#32) (off2_eq i k 0) (k0_off2_inb i k 0)]
  dsimp only [four, leftAt]
  rw [Step.ld_put _ (rowAt i k 0) (rowAt i k 1) _ (k0_off2 i k 1#32) (off2_eq i k 1) (k0_off2_inb i k 1) (.inl (d 0 1 (by decide))),
    Step.ld_put _ (rowAt i k 1) (rowAt i k 2) _ (k0_off2 i k 2#32) (off2_eq i k 2) (k0_off2_inb i k 2) (.inl (d 1 2 (by decide))),
    Step.ld_put _ (rowAt i k 0) (rowAt i k 2) _ (k0_off2 i k 2#32) (off2_eq i k 2) (k0_off2_inb i k 2) (.inl (d 0 2 (by decide))),
    Step.ld_put _ (rowAt i k 2) (rowAt i k 3) _ (k0_off2 i k 3#32) (off2_eq i k 3) (k0_off2_inb i k 3) (.inl (d 2 3 (by decide))),
    Step.ld_put _ (rowAt i k 1) (rowAt i k 3) _ (k0_off2 i k 3#32) (off2_eq i k 3) (k0_off2_inb i k 3) (.inl (d 1 3 (by decide))),
    Step.ld_put _ (rowAt i k 0) (rowAt i k 3) _ (k0_off2 i k 3#32) (off2_eq i k 3) (k0_off2_inb i k 3) (.inl (d 0 3 (by decide)))]
  rfl
end

end Cert.KernelIdeal
end
-- ==== Proof.Loop.lean ====
module

public import proofs.«01_k».proof.Proof.Trip
public import Idealize.ShloMosaic.Lib.LoopRemainder

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg2 : Memref sig .tc .vmem S1x1024x64 .bf16) (arg3 : Memref sig .tc .vmem S1x8192x64 .bf16) (arg4 : Memref sig .tc .vmem S1x8192x64 .bf16)
  (arg7 : Memref sig .tc .vmem S256x256 .bf16) (arg11 : Memref sig .tc .vmem S1024x1 .f32) (arg12 : Memref sig .tc .vmem S1024x64 .bf16)
  (X2 : Bf (F := F) c arg2) (X3 : Bf (F := F) c arg3) (X4 : Bf (F := F) c arg4) (X7 : Bf (F := F) c arg7)
  (X11 : Bf (F := F) c arg11) (X12 : Bf (F := F) c arg12)

/-- A trip takes the state after `4 k` blocks to the state after `4 k + 4`. -/
theorem four_lefts (hi : (i 1).val < 8) (k : Fin (k0_t1_loop i).trips) (s : Step.State F) :
    four c i arg2 arg3 arg4 arg7 arg11 arg12 X2 X3 X4 X7 X11 X12 k
        (Step.lefts (dataOf c arg2 arg3 arg4 arg7 arg11 arg12 X2 X3 X4 X7 X11 X12) (i 1).val hi s (4 * k.val))
      = Step.lefts (dataOf c arg2 arg3 arg4 arg7 arg11 arg12 X2 X3 X4 X7 X11 X12) (i 1).val hi s (4 * (k.val + 1)) := by
  unfold four
  rw [leftAt_eq _ (k0_off2 i k 3#32) (k0_off2_inb i k 3) (rowAt i k 3) (Step.left_row _ _ hi) (off2_eq i k 3), leftAt_eq _ (k0_off2 i k 2#32) (k0_off2_inb i k 2) (rowAt i k 2) (Step.left_row _ _ hi) (off2_eq i k 2), leftAt_eq _ (k0_off2 i k 1#32) (k0_off2_inb i k 1) (rowAt i k 1) (Step.left_row _ _ hi) (off2_eq i k 1), leftAt_eq _ (k0_off2 i k 0#32) (k0_off2_inb i k 0) (rowAt i k 0) (Step.left_row _ _ hi) (off2_eq i k 0)]
  rfl
end

section
variable (c : Dev nD) (i : grid0.Coords)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (v41 : BitVec 32) (v333 v335 : FVec F S1024x1 .f32) (v340 : BitVec 32) (v349 : Vec F S1024x64 .bf16) (v370 : FVec F S1024x256 .f32) (v379 : FVec F S1024x256 .bf16) (v382 : FVec F S1024x256 .f32) (v400 : FVec F S1024x64 .f32) (v409 : FVec F S1x256x64 .f32)
    (X2 : Bf (F := F) c arg2) (X3 : Bf (F := F) c arg3) (X4 : Bf (F := F) c arg4) (X7 : Bf (F := F) c arg7)
    (X11 : Bf (F := F) c arg11) (X12 : Bf (F := F) c arg12) (G9 : Bf (F := F) c arg9) (G10 : Bf (F := F) c arg10)

/-- What the loop carries between trips: the carried triple and the writes made to the two gradients, latest first. -/
abbrev LSt (F : FTy → Type) [FloatOps F] : Type :=
  Acc F × List (View.Piece (Elt F) S1x8192x64 .f32) × List (View.Piece (Elt F) S1x8192x64 .f32)

/-- One trip of the loop. -/
@[irreducible] def lstep (k : ℕ) (p : LSt F) : LSt F :=
  if h : k < (k0_t1_loop i).trips then
    ((theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 ⟨k, h⟩).1 p.1 (arg9.view.writes (Elt F) G9 p.2.1) (arg10.view.writes (Elt F) G10 p.2.2),
      (theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 ⟨k, h⟩).2.1 p.1 (arg9.view.writes (Elt F) G9 p.2.1) (arg10.view.writes (Elt F) G10 p.2.2) ++ p.2.1,
      (theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 ⟨k, h⟩).2.2.1 p.1 (arg9.view.writes (Elt F) G9 p.2.1) (arg10.view.writes (Elt F) G10 p.2.2) ++ p.2.2)
  else p

/-- The loop's values before trip `k`. -/
def lst (init : Acc F) : ℕ → LSt F
  | 0 => (init, [], [])
  | k + 1 => lstep c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 k (lst init k)

theorem lst_succ (init : Acc F) (k : Fin (k0_t1_loop i).trips) :
    lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init (k.val + 1) =
      ((theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k).1 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).1 (arg9.view.writes (Elt F) G9 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.1) (arg10.view.writes (Elt F) G10 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.2),
      (theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k).2.1 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).1 (arg9.view.writes (Elt F) G9 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.1) (arg10.view.writes (Elt F) G10 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.2) ++ (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.1,
      (theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k).2.2.1 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).1 (arg9.view.writes (Elt F) G9 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.1) (arg10.view.writes (Elt F) G10 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.2) ++ (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k.val).2.2) := by
  rw [lst.eq_2]
  unfold lstep
  exact dif_pos k.isLt

/-- The loop's invariant: what is read is as it was, the gradients are at the writes made, the carried triple is the loop's. -/
abbrev linv (init : Acc F) (k : ℕ) (acc : Acc F) : sProp 𝕄 :=
  iprop(pt c arg2 X2 ∗ pt c arg3 X3 ∗ pt c arg4 X4 ∗ pt c arg7 X7 ∗ pt c arg11 X11 ∗ pt c arg12 X12
    ∗ (∃ f, pt c arg9 f ∗ ⌜f = arg9.view.writes (Elt F) G9 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k).2.1⌝)
    ∗ (∃ f, pt c arg10 f ∗ ⌜f = arg10.view.writes (Elt F) G10 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k).2.2⌝)
    ∗ ⌜acc = (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k).1⌝)

set_option warn.classDefReducibility false in
@[sl_loop] def loopInv1 (init : Acc F) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v41 v333 v335 v340 v349 v370 v379 v382 v400 v409 init where
  inv := linv c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init
  step k acc := by
    iintro ⟨H2, H3, H4, H7, H11, H12, ⟨%f9, H9, %h9⟩, ⟨%f10, H10, %h10⟩, %hacc⟩
    subst hacc
    iapply (wp_wand_r Idealize.ShloMosaic.frame (wpE (defs₀ (F := F)) Variants.none (c : Thread nD τ) none) Set.univ)
    isplitl [H2 H3 H4 H7 H11 H12 H9 H10]
    · iapply ((theTrip c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 k).2.2.2 _ f9 f10)
      isplitl [H2]; · iexact H2
      isplitl [H3]; · iexact H3
      isplitl [H4]; · iexact H4
      isplitl [H7]; · iexact H7
      isplitl [H11]; · iexact H11
      isplitl [H12]; · iexact H12
      isplitl [H9]; · iexact H9
      iexact H10
    · iintro %yld ⟨%hres, H2, H3, H4, H7, H11, H12, H9, H10⟩
      isplitl [H2]; · iexact H2
      isplitl [H3]; · iexact H3
      isplitl [H4]; · iexact H4
      isplitl [H7]; · iexact H7
      isplitl [H11]; · iexact H11
      isplitl [H12]; · iexact H12
      isplitl [H9]
      · iexists _; isplitl [H9]; · iexact H9
        ipureintro; rw [lst_succ, h9, h10, ← View.writes_append]
      isplitl [H10]
      · iexists _; isplitl [H10]; · iexact H10
        ipureintro; rw [lst_succ, h9, h10, ← View.writes_append]
      ipureintro; rw [hres, lst_succ, h9, h10]

/-- The loop's values are the steps' over the key blocks to the left. -/
theorem lst_eq (hi : (i 1).val < 8) (init : Acc F) (k : ℕ) (hk : k ≤ (i 1).val) :
    (⟨toCarry (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k).1,
      arg9.view.read (Elt F) (arg9.view.writes (Elt F) G9 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k).2.1),
      arg10.view.read (Elt F) (arg10.view.writes (Elt F) G10 (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init k).2.2)⟩ : Step.State F)
      = Step.lefts (dataOf c arg2 arg3 arg4 arg7 arg11 arg12 X2 X3 X4 X7 X11 X12) (i 1).val hi ⟨toCarry init, arg9.view.read (Elt F) G9, arg10.view.read (Elt F) G10⟩ (4 * k) := by
  induction k with
  | zero => rfl
  | succ k ih =>
    have hk' : k < (k0_t1_loop i).trips := by rw [t1_trips]; exact hk
    have e := lst_succ c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 G9 G10 init ⟨k, hk'⟩
    have ih := ih (Nat.le_of_succ_le hk)
    rw [show k + 1 = (⟨k, hk'⟩ : Fin (k0_t1_loop i).trips).val + 1 from rfl, e]
    simp only [View.writes_append]
    rw [trip_carry, trip_dk, trip_dv]
    show four c i arg2 arg3 arg4 arg7 arg11 arg12 X2 X3 X4 X7 X11 X12 ⟨k, hk'⟩ _ = _
    rw [ih]
    exact four_lefts c i arg2 arg3 arg4 arg7 arg11 arg12 X2 X3 X4 X7 X11 X12 hi ⟨k, hk'⟩ _
end

set_option warn.classDefReducibility false in
/-- The loop over the blocks that do not fill a trip: there are none. -/
@[sl_loop] def loopInv2 (c : Dev nD) (i : grid0.Coords)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (v41 : BitVec 32) (v333 v335 : FVec F S1024x1 .f32) (v340 : BitVec 32) (v349 : Vec F S1024x64 .bf16) (v370 : FVec F S1024x256 .f32) (v379 : FVec F S1024x256 .bf16) (v382 : FVec F S1024x256 .f32) (v400 : FVec F S1024x64 .f32) (v409 : FVec F S1x256x64 .f32) (v446 : BitVec 32) (init : Acc F) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v41 v333 v335 v340 v349 v370 v379 v382 v400 v409 v446 init where
  inv _ acc := iprop(⌜acc = init⌝)
  step k acc := absurd k.isLt (Nat.not_lt.mpr ((t2_trips i).le.trans (Nat.zero_le _)))

end Cert.KernelIdeal
end
-- ==== Proof.Root.lean ====
module

public import proofs.«01_k».proof.Proof.Loop

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD)
  (arg2 : Memref sig .tc .vmem S1x1024x64 .bf16) (arg3 : Memref sig .tc .vmem S1x8192x64 .bf16) (arg4 : Memref sig .tc .vmem S1x8192x64 .bf16)
  (arg5 : Memref sig .tc .vmem S1x1024x64 .f32) (arg6 : Memref sig .tc .vmem S1x1024x64 .f32)
  (arg7 : Memref sig .tc .vmem S256x256 .bf16) (arg8 : Memref sig .tc .vmem S1x1024x64 .f32)
  (arg9 : Memref sig .tc .vmem S1x8192x64 .f32) (arg10 : Memref sig .tc .vmem S1x8192x64 .f32)
  (arg11 : Memref sig .tc .vmem S1024x1 .f32) (arg12 : Memref sig .tc .vmem S1024x64 .bf16)

/-- What a grid point touches. -/
abbrev Held (X2 : Bf (F := F) c arg2) (X3 : Bf (F := F) c arg3) (X4 : Bf (F := F) c arg4) (X5 : Bf (F := F) c arg5) (X6 : Bf (F := F) c arg6)
    (X7 : Bf (F := F) c arg7) (f8 : Bf (F := F) c arg8) (f9 : Bf (F := F) c arg9) (f10 : Bf (F := F) c arg10)
    (f11 : Bf (F := F) c arg11) (f12 : Bf (F := F) c arg12) : sProp 𝕄 :=
  iprop(pt c arg2 X2 ∗ pt c arg3 X3 ∗ pt c arg4 X4 ∗ pt c arg5 X5 ∗ pt c arg6 X6 ∗ pt c arg7 X7 ∗ pt c arg8 f8 ∗ pt c arg9 f9 ∗ pt c arg10 f10
    ∗ pt c arg11 f11 ∗ pt c arg12 f12)
end

/-- The grid point is its head's first. -/
abbrev atFirst (i : grid0.Coords) : Prop := Scalar.cmpi .ne (Scalar.extui (Scalar.cmpi .eq (BitVec.ofNat 32 (i 1).val) 0#32)) 0#32 = 1#1

/-- A later grid point of a head: the run, and what it leaves in each buffer. -/
@[irreducible] def rootNext (c : Dev nD) (i : grid0.Coords) (hc : ¬ atFirst i)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (X2 : Bf (F := F) c arg2) (X3 : Bf (F := F) c arg3) (X4 : Bf (F := F) c arg4) (X5 : Bf (F := F) c arg5) (X6 : Bf (F := F) c arg6) (X7 : Bf (F := F) c arg7)
    (f8 : Bf (F := F) c arg8) (f9 : Bf (F := F) c arg9) (f10 : Bf (F := F) c arg10) (f11 : Bf (F := F) c arg11) (f12 : Bf (F := F) c arg12) :
    Σ' (R8 : Bf (F := F) c arg8) (R9 : Bf (F := F) c arg9) (R10 : Bf (F := F) c arg10) (R11 : Bf (F := F) c arg11), {R12 : Bf (F := F) c arg12 //
        Held (F := F) c arg2 arg3 arg4 arg5 arg6 arg7 arg8 arg9 arg10 arg11 arg12 X2 X3 X4 X5 X6 X7 f8 f9 f10 f11 f12
          ⊢ wp frame (wpE (defs₀ (F := F)) Variants.none (c : Thread nD τ) none) Set.univ
              (cc0_l1_b_attn (F := F) i arg2 harg2 arg3 harg3 arg4 harg4 arg5 harg5 arg6 harg6 arg7 harg7 arg8 harg8 arg9 harg9 arg10 harg10 arg11 harg11 arg12 harg12)
              (fun _ => Held (F := F) c arg2 arg3 arg4 arg5 arg6 arg7 arg8 arg9 arg10 arg11 arg12 X2 X3 X4 X5 X6 X7 R8 R9 R10 R11 R12)} := by
  have hi : (i 1).val < 8 := (i 1).isLt
  refine ⟨?_, ?_, ?_, ?_, ?_, ?run⟩
  case run =>
    iintro ⟨H2, H3, H4, H5, H6, H7, H8, H9, H10, H11, H12⟩
    sl_unfold [cc0_l1_b_attn]
    sl_exec
    sl_step
    sl_close

/-- The first grid point of a head: the run, and what it leaves in each buffer. -/
@[irreducible] def rootFirst (c : Dev nD) (i : grid0.Coords) (hc : atFirst i)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (X2 : Bf (F := F) c arg2) (X3 : Bf (F := F) c arg3) (X4 : Bf (F := F) c arg4) (X5 : Bf (F := F) c arg5) (X6 : Bf (F := F) c arg6) (X7 : Bf (F := F) c arg7)
    (f8 : Bf (F := F) c arg8) (f9 : Bf (F := F) c arg9) (f10 : Bf (F := F) c arg10) (f11 : Bf (F := F) c arg11) (f12 : Bf (F := F) c arg12) :
    Σ' (R8 : Bf (F := F) c arg8) (R9 : Bf (F := F) c arg9) (R10 : Bf (F := F) c arg10) (R11 : Bf (F := F) c arg11), {R12 : Bf (F := F) c arg12 //
        Held (F := F) c arg2 arg3 arg4 arg5 arg6 arg7 arg8 arg9 arg10 arg11 arg12 X2 X3 X4 X5 X6 X7 f8 f9 f10 f11 f12
          ⊢ wp frame (wpE (defs₀ (F := F)) Variants.none (c : Thread nD τ) none) Set.univ
              (cc0_l1_b_attn (F := F) i arg2 harg2 arg3 harg3 arg4 harg4 arg5 harg5 arg6 harg6 arg7 harg7 arg8 harg8 arg9 harg9 arg10 harg10 arg11 harg11 arg12 harg12)
              (fun _ => Held (F := F) c arg2 arg3 arg4 arg5 arg6 arg7 arg8 arg9 arg10 arg11 arg12 X2 X3 X4 X5 X6 X7 R8 R9 R10 R11 R12)} := by
  have hi : (i 1).val < 8 := (i 1).isLt
  refine ⟨?_, ?_, ?_, ?_, ?_, ?run⟩
  case run =>
    iintro ⟨H2, H3, H4, H5, H6, H7, H8, H9, H10, H11, H12⟩
    sl_unfold [cc0_l1_b_attn]
    sl_exec
    sl_step
    sl_close

end Cert.KernelIdeal
end
-- ==== Proof.Assemble.lean ====
module

public import proofs.«01_k».proof.Proof.Loop
public import proofs.«01_k».proof.Proof.Point
public import Idealize.ShloMosaic.Lib.VecWindow

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (v41 : BitVec 32) (v333 v335 : FVec F S1024x1 .f32) (v340 : BitVec 32) (v349 : Vec F S1024x64 .bf16) (v370 : FVec F S1024x256 .f32) (v379 : FVec F S1024x256 .bf16) (v382 : FVec F S1024x256 .f32) (v400 : FVec F S1024x64 .f32) (v409 : FVec F S1x256x64 .f32)
    (X2 : Bf (F := F) c arg2) (X3 : Bf (F := F) c arg3) (X4 : Bf (F := F) c arg4) (X7 : Bf (F := F) c arg7)
    (X11 : Bf (F := F) c arg11) (X12 : Bf (F := F) c arg12) (f9 : Bf (F := F) c arg9) (f10 : Bf (F := F) c arg10)

/-- The diagonal's four steps and then the loop's are the whole grid point. -/
theorem assemble (l9 l10 : List (View.Piece (Elt F) S1x8192x64 .f32)) (init : Acc F) (s : Step.State F)
    (h : (⟨toCarry init, arg9.view.read (Elt F) (arg9.view.writes (Elt F) f9 l9), arg10.view.read (Elt F) (arg10.view.writes (Elt F) f10 l10)⟩ : Step.State F)
      = Step.diags i (dataOf c arg2 arg3 arg4 arg7 arg11 arg12 X2 X3 X4 X7 X11 X12) s) :
    (⟨toCarry (lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 (arg9.view.writes (Elt F) f9 l9) (arg10.view.writes (Elt F) f10 l10) init (Scf.trips (k0_t1_loop i).lb (k0_t1_loop i).ub (k0_t1_loop i).st)).1,
      arg9.view.read (Elt F) (arg9.view.writes (Elt F) f9
        ((lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 (arg9.view.writes (Elt F) f9 l9) (arg10.view.writes (Elt F) f10 l10) init (Scf.trips (k0_t1_loop i).lb (k0_t1_loop i).ub (k0_t1_loop i).st)).2.1 ++ l9)),
      arg10.view.read (Elt F) (arg10.view.writes (Elt F) f10
        ((lst c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 (arg9.view.writes (Elt F) f9 l9) (arg10.view.writes (Elt F) f10 l10) init (Scf.trips (k0_t1_loop i).lb (k0_t1_loop i).ub (k0_t1_loop i).st)).2.2 ++ l10))⟩ : Step.State F)
      = Step.point i (dataOf c arg2 arg3 arg4 arg7 arg11 arg12 X2 X3 X4 X7 X11 X12) s := by
  rw [View.writes_append, View.writes_append, show Scf.trips (k0_t1_loop i).lb (k0_t1_loop i).ub (k0_t1_loop i).st = (i 1).val from t1_trips i]
  refine (lst_eq c i arg2 harg2 arg3 harg3 arg4 harg4 arg5 harg5 arg6 harg6 arg7 harg7 arg8 harg8 arg9 harg9 arg10 harg10 arg11 harg11 arg12 harg12 v41 v333 v335 v340 v349 v370 v379 v382 v400 v409 X2 X3 X4 X7 X11 X12 _ _ (i 1).isLt init (i 1).val le_rfl).trans ?_
  rw [h]
  rfl
end

end Cert.KernelIdeal
end
-- ==== Proof.RootNext.lean ====
module

public import proofs.«01_k».proof.Proof.Root
public import proofs.«01_k».proof.Proof.Assemble
public import proofs.«01_k».proof.Proof.Point
public import Idealize.ShloMosaic.Lib.VecWindow

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (hc : ¬ atFirst i)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (X2 : Bf (F := F) c arg2) (X3 : Bf (F := F) c arg3) (X4 : Bf (F := F) c arg4) (X5 : Bf (F := F) c arg5) (X6 : Bf (F := F) c arg6) (X7 : Bf (F := F) c arg7)
    (f8 : Bf (F := F) c arg8) (f9 : Bf (F := F) c arg9) (f10 : Bf (F := F) c arg10) (f11 : Bf (F := F) c arg11) (f12 : Bf (F := F) c arg12)

/-- What the scratch buffers hold is what the point's inputs say. -/
theorem rootNext_data :
    dataOf c arg2 arg3 arg4 arg7 arg11 arg12 X2 X3 X4 X7 (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.1 (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.2.1
      = Step.pointData (arg2.view.read (Elt F) X2) (arg3.view.read (Elt F) X3) (arg4.view.read (Elt F) X4) (arg5.view.read (Elt F) X5)
          (arg6.view.read (Elt F) X6) (arg7.view.read (Elt F) X7) := by
  have e12 : arg12.view.read (Elt F) (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.2.1 = k0_pay136 (arg6.view.read (Elt F) X6) := by
    unfold rootNext
    refine (View.read_writes_full arg12.view _ _ _ _).trans ?_
    exact congrArg k0_pay136 (View.readAt_full arg6.view _ _)
  have e11 : arg11.view.read (Elt F) (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.1 = k0_pay137 (k0_pay136 (arg6.view.read (Elt F) X6)) (arg5.view.read (Elt F) X5) := by
    unfold rootNext
    refine (View.read_writes_full arg11.view _ _ _ _).trans ?_
    refine congr (congrArg k0_pay137 ?_) (View.readAt_full arg5.view _ _)
    refine (View.readCov_full arg12.view _ _ _ _).trans ?_
    exact congrArg k0_pay136 (View.readAt_full arg6.view _ _)
  unfold dataOf Step.pointData
  rw [e11, e12]

/-- What the grid point leaves is the diagonal's four steps and then those to the left. -/
theorem rootNext_state : ∃ a : Acc F,
    arg8.view.read (Elt F) (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).1 = shapeCast S1x1024x64 a.2.2 shapeCasts_S1024x64_S1x1024x64
    ∧ (⟨toCarry a, arg9.view.read (Elt F) (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.1, arg10.view.read (Elt F) (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.1⟩ : Step.State F)
      = Step.point i (dataOf c arg2 arg3 arg4 arg7 arg11 arg12 X2 X3 X4 X7 (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.1 (rootNext (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.2.1)
          ⟨Step.zeroCarry, arg9.view.read (Elt F) f9, arg10.view.read (Elt F) f10⟩ := by
  unfold rootNext
  refine ⟨_, View.read_writes_full arg8.view _ _ _ _, assemble c i _ _ _ _ _ _ _ _ _ _ _ _ _ _ _ _ _ _ _ _ _ _ _ _ _ _ _ _ _ _ _ _ _ _ _ _ _ _ _ _ _ _ _ _ ?_⟩
  exact Step.diags_eq (c3 := ⟨rootNext.sl.r_44 c i arg2 arg3 X2 X3, rootNext.sl.r_45 c i arg2 arg3 arg4 arg6 arg7 arg12 X2 X3 X4 X6 X7, rootNext.sl.r_46 c i arg2 arg3 arg4 arg5 arg6 arg7 arg11 arg12 X2 X3 X4 X5 X6 X7⟩)
    (c2 := ⟨rootNext.sl.r_27 c i arg2 arg3 X2 X3, rootNext.sl.r_28 c i arg2 arg3 arg4 arg6 arg7 arg12 X2 X3 X4 X6 X7, rootNext.sl.r_29 c i arg2 arg3 arg4 arg5 arg6 arg7 arg11 arg12 X2 X3 X4 X5 X6 X7⟩)
    (c1 := ⟨rootNext.sl.r_11 c i arg2 arg3 X2 X3, rootNext.sl.r_12 c i arg2 arg3 arg4 arg6 arg7 arg12 X2 X3 X4 X6 X7, rootNext.sl.r_13 c i arg2 arg3 arg4 arg5 arg6 arg7 arg11 arg12 X2 X3 X4 X5 X6 X7⟩) rfl rfl rfl rfl
    ((Step.read_four arg9.view _ i _ _ _ _ _).trans rfl) ((Step.read_four arg10.view _ i _ _ _ _ _).trans rfl)
end

end Cert.KernelIdeal
end
-- ==== Proof.RootFirst.lean ====
module

public import proofs.«01_k».proof.Proof.Root
public import proofs.«01_k».proof.Proof.Assemble
public import proofs.«01_k».proof.Proof.Point
public import Idealize.ShloMosaic.Lib.VecWindow

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (hc : atFirst i)
    (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (X2 : Bf (F := F) c arg2) (X3 : Bf (F := F) c arg3) (X4 : Bf (F := F) c arg4) (X5 : Bf (F := F) c arg5) (X6 : Bf (F := F) c arg6) (X7 : Bf (F := F) c arg7)
    (f8 : Bf (F := F) c arg8) (f9 : Bf (F := F) c arg9) (f10 : Bf (F := F) c arg10) (f11 : Bf (F := F) c arg11) (f12 : Bf (F := F) c arg12)

/-- What the scratch buffers hold is what the point's inputs say. -/
theorem rootFirst_data :
    dataOf c arg2 arg3 arg4 arg7 arg11 arg12 X2 X3 X4 X7 (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.1 (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.2.1
      = Step.pointData (arg2.view.read (Elt F) X2) (arg3.view.read (Elt F) X3) (arg4.view.read (Elt F) X4) (arg5.view.read (Elt F) X5)
          (arg6.view.read (Elt F) X6) (arg7.view.read (Elt F) X7) := by
  have e12 : arg12.view.read (Elt F) (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.2.1 = k0_pay136 (arg6.view.read (Elt F) X6) := by
    unfold rootFirst
    refine (View.read_writes_full arg12.view _ _ _ _).trans ?_
    exact congrArg k0_pay136 (View.readAt_full arg6.view _ _)
  have e11 : arg11.view.read (Elt F) (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.1 = k0_pay137 (k0_pay136 (arg6.view.read (Elt F) X6)) (arg5.view.read (Elt F) X5) := by
    unfold rootFirst
    refine (View.read_writes_full arg11.view _ _ _ _).trans ?_
    refine congr (congrArg k0_pay137 ?_) (View.readAt_full arg5.view _ _)
    refine (View.readCov_full arg12.view _ _ _ _).trans ?_
    exact congrArg k0_pay136 (View.readAt_full arg6.view _ _)
  unfold dataOf Step.pointData
  rw [e11, e12]

/-- What the grid point leaves is the diagonal's four steps and then those to the left. -/
theorem rootFirst_state : ∃ a : Acc F,
    arg8.view.read (Elt F) (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).1 = shapeCast S1x1024x64 a.2.2 shapeCasts_S1024x64_S1x1024x64
    ∧ (⟨toCarry a, arg9.view.read (Elt F) (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.1, arg10.view.read (Elt F) (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.1⟩ : Step.State F)
      = Step.point i (dataOf c arg2 arg3 arg4 arg7 arg11 arg12 X2 X3 X4 X7 (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.1 (rootFirst (F := F) c i hc arg2 harg2 arg3 harg3 arg4 harg4 arg5 harg5 arg6 harg6 arg7 harg7 arg8 harg8 arg9 harg9 arg10 harg10 arg11 harg11 arg12 harg12 X2 X3 X4 X5 X6 X7 f8 f9 f10 f11 f12).2.2.2.2.1)
          ⟨Step.zeroCarry, k0_pay134, k0_pay135⟩ := by
  unfold rootFirst
  refine ⟨_, View.read_writes_full arg8.view _ _ _ _, assemble c i _ _ _ _ _ _ _ _ _ _ _ _ _ _ _ _ _ _ _ _ _ _ _ _ _ _ _ _ _ _ _ _ _ _ _ _ _ _ _ _ _ _ _ _ ?_⟩
  have z9 : arg9.view.read (Elt F) (arg9.view.writes (Elt F) arg9.view.junk [⟨Rect.unit (s := S1x8192x64) ![0, 0, 0] S1x8192x64.size inb_S1x8192x64_S1x8192x64_0_0_0, k0_pay134⟩]) = k0_pay134 := View.read_writes_full arg9.view _ _ _ []
  have z10 : arg10.view.read (Elt F) (arg10.view.writes (Elt F) arg10.view.junk [⟨Rect.unit (s := S1x8192x64) ![0, 0, 0] S1x8192x64.size inb_S1x8192x64_S1x8192x64_0_0_0, k0_pay135⟩]) = k0_pay135 := View.read_writes_full arg10.view _ _ _ []
  rw [← z9, ← z10]
  exact Step.diags_eq_steps (c3 := ⟨rootFirst.sl.r_44 c i arg2 arg3 X2 X3, rootFirst.sl.r_45 c i arg2 arg3 arg4 arg6 arg7 arg12 X2 X3 X4 X6 X7, rootFirst.sl.r_46 c i arg2 arg3 arg4 arg5 arg6 arg7 arg11 arg12 X2 X3 X4 X5 X6 X7⟩)
    (c2 := ⟨rootFirst.sl.r_27 c i arg2 arg3 X2 X3, rootFirst.sl.r_28 c i arg2 arg3 arg4 arg6 arg7 arg12 X2 X3 X4 X6 X7, rootFirst.sl.r_29 c i arg2 arg3 arg4 arg5 arg6 arg7 arg11 arg12 X2 X3 X4 X5 X6 X7⟩)
    (c1 := ⟨rootFirst.sl.r_11 c i arg2 arg3 X2 X3, rootFirst.sl.r_12 c i arg2 arg3 arg4 arg6 arg7 arg12 X2 X3 X4 X6 X7, rootFirst.sl.r_13 c i arg2 arg3 arg4 arg5 arg6 arg7 arg11 arg12 X2 X3 X4 X5 X6 X7⟩) rfl rfl rfl rfl
    ((Step.read_writes_put arg9.view _ (Step.diagRow i 0) (k0_off1 i 0#32) (k0_off1_eq i 0) (k0_off1_inb i 0) _ _).trans rfl)
    ((Step.read_writes_put arg9.view _ (Step.diagRow i 1) (k0_off1 i 1#32) (k0_off1_eq i 1) (k0_off1_inb i 1) _ _).trans rfl)
    ((Step.read_writes_put arg9.view _ (Step.diagRow i 2) (k0_off1 i 2#32) (k0_off1_eq i 2) (k0_off1_inb i 2) _ _).trans rfl)
    ((Step.read_writes_put arg9.view _ (Step.diagRow i 3) (k0_off1 i 3#32) (k0_off1_eq i 3) (k0_off1_inb i 3) _ _).trans rfl)
    ((Step.read_writes_put arg10.view _ (Step.diagRow i 0) (k0_off1 i 0#32) (k0_off1_eq i 0) (k0_off1_inb i 0) _ _).trans rfl)
    ((Step.read_writes_put arg10.view _ (Step.diagRow i 1) (k0_off1 i 1#32) (k0_off1_eq i 1) (k0_off1_inb i 1) _ _).trans rfl)
    ((Step.read_writes_put arg10.view _ (Step.diagRow i 2) (k0_off1 i 2#32) (k0_off1_eq i 2) (k0_off1_inb i 2) _ _).trans rfl)
    ((Step.read_writes_put arg10.view _ (Step.diagRow i 3) (k0_off1 i 3#32) (k0_off1_eq i 3) (k0_off1_inb i 3) _ _).trans rfl)
end

end Cert.KernelIdeal
end
-- ==== Proof.Owned.lean ====
module

public import proofs.«01_k».proof.Proof.RootNext
public import proofs.«01_k».proof.Proof.RootFirst

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A later grid point of a head, between what the buffers hold before it and after it. -/
theorem pointNext (c : Dev nD) (i : grid0.Coords) (hc : ¬ atFirst i) (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (q : FVec F S1x1024x64 .bf16) (k v : FVec F S1x8192x64 .bf16) (o d : FVec F S1x1024x64 .f32) (u : FVec F S256x256 .bf16)
    (d8 : FVec F S1x1024x64 .f32) (d9 d10 : FVec F S1x8192x64 .f32) (f11 : Bf (F := F) c arg11) (f12 : Bf (F := F) c arg12) :
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare d ∗ owns (c : Thread nD τ) arg7 fullShare u ∗ owns (c : Thread nD τ) arg8 fullShare d8 ∗ owns (c : Thread nD τ) arg9 fullShare d9 ∗ owns (c : Thread nD τ) arg10 fullShare d10 ∗ pt c arg11 f11 ∗ pt c arg12 f12)
      ⊢ wp frame (wpE (defs₀ (F := F)) Variants.none (c : Thread nD τ) none) Set.univ
          (cc0_l1_b_attn (F := F) i arg2 harg2 arg3 harg3 arg4 harg4 arg5 harg5 arg6 harg6 arg7 harg7 arg8 harg8 arg9 harg9 arg10 harg10 arg11 harg11 arg12 harg12)
          (fun _ => iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare d ∗ owns (c : Thread nD τ) arg7 fullShare u ∗ owns (c : Thread nD τ) arg8 fullShare (Step.dqOut (Step.point i (Step.pointData q k v o d u) ⟨Step.zeroCarry, d9, d10⟩)) ∗ owns (c : Thread nD τ) arg9 fullShare (Step.point i (Step.pointData q k v o d u) ⟨Step.zeroCarry, d9, d10⟩).dk ∗ owns (c : Thread nD τ) arg10 fullShare (Step.point i (Step.pointData q k v o d u) ⟨Step.zeroCarry, d9, d10⟩).dv
            ∗ (∃ f, pt c arg11 f) ∗ (∃ f, pt c arg12 f))) := by
  unfold owns
  rw [harg2.set_eq_univ, harg3.set_eq_univ, harg4.set_eq_univ, harg5.set_eq_univ, harg6.set_eq_univ, harg7.set_eq_univ, harg8.set_eq_univ, harg9.set_eq_univ, harg10.set_eq_univ]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, H11, H12⟩
  obtain ⟨a, ha, hs⟩ := rootNext_state c i hc arg2 harg2 arg3 harg3 arg4 harg4 arg5 harg5 arg6 harg6 arg7 harg7 arg8 harg8 arg9 harg9 arg10 harg10 arg11 harg11 arg12 harg12 f2 f3 f4 f5 f6 f7 f8 f9 f10 f11 f12
  rw [rootNext_data] at hs
  have hc' := congrArg Step.State.c hs
  have hk := congrArg Step.State.dk hs
  have hv := congrArg Step.State.dv hs
  dsimp only at hc' hk hv
  rw [e2, e3, e4, e5, e6, e7, e9, e10] at hc' hk hv
  have h8 : arg8.view.read (Elt F) (rootNext (F := F) c i hc arg2 harg2 arg3 harg3 arg4 harg4 arg5 harg5 arg6 harg6 arg7 harg7 arg8 harg8 arg9 harg9 arg10 harg10 arg11 harg11 arg12 harg12 f2 f3 f4 f5 f6 f7 f8 f9 f10 f11 f12).1 = Step.dqOut (Step.point i (Step.pointData q k v o d u) ⟨Step.zeroCarry, d9, d10⟩) := by
    rw [ha]; unfold Step.dqOut; rw [← hc']; rfl
  iapply (wp_wand_r frame _ Set.univ)
  isplitl [H2 H3 H4 H5 H6 H7 H8 H9 H10 H11 H12]
  · iapply (rootNext (F := F) c i hc arg2 harg2 arg3 harg3 arg4 harg4 arg5 harg5 arg6 harg6 arg7 harg7 arg8 harg8 arg9 harg9 arg10 harg10 arg11 harg11 arg12 harg12 f2 f3 f4 f5 f6 f7 f8 f9 f10 f11 f12).2.2.2.2.2
    unfold Held
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %_ H
  unfold Held
  icases H with ⟨H2, H3, H4, H5, H6, H7, H8, H9, H10, H11, H12⟩
  isplitl [H2]
  · iexists _; isplitr; swap; (· iexact H2); ipureintro; exact e2
  isplitl [H3]
  · iexists _; isplitr; swap; (· iexact H3); ipureintro; exact e3
  isplitl [H4]
  · iexists _; isplitr; swap; (· iexact H4); ipureintro; exact e4
  isplitl [H5]
  · iexists _; isplitr; swap; (· iexact H5); ipureintro; exact e5
  isplitl [H6]
  · iexists _; isplitr; swap; (· iexact H6); ipureintro; exact e6
  isplitl [H7]
  · iexists _; isplitr; swap; (· iexact H7); ipureintro; exact e7
  isplitl [H8]
  · iexists _; isplitr; swap; (· iexact H8); ipureintro; exact h8
  isplitl [H9]
  · iexists _; isplitr; swap; (· iexact H9); ipureintro; exact hk
  isplitl [H10]
  · iexists _; isplitr; swap; (· iexact H10); ipureintro; exact hv
  isplitl [H11]; · iexists _; iexact H11
  iexists _; iexact H12

/-- The first grid point of a head, between what the buffers hold before it and after it. -/
theorem pointFirst (c : Dev nD) (i : grid0.Coords) (hc : atFirst i) (arg2 : Memref sig .tc .vmem S1x1024x64 .bf16) (harg2 : arg2.IsWhole) (arg3 : Memref sig .tc .vmem S1x8192x64 .bf16) (harg3 : arg3.IsWhole) (arg4 : Memref sig .tc .vmem S1x8192x64 .bf16) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S256x256 .bf16) (harg7 : arg7.IsWhole) (arg8 : Memref sig .tc .vmem S1x1024x64 .f32) (harg8 : arg8.IsWhole) (arg9 : Memref sig .tc .vmem S1x8192x64 .f32) (harg9 : arg9.IsWhole) (arg10 : Memref sig .tc .vmem S1x8192x64 .f32) (harg10 : arg10.IsWhole) (arg11 : Memref sig .tc .vmem S1024x1 .f32) (harg11 : arg11.IsWhole) (arg12 : Memref sig .tc .vmem S1024x64 .bf16) (harg12 : arg12.IsWhole)
    (q : FVec F S1x1024x64 .bf16) (k v : FVec F S1x8192x64 .bf16) (o d : FVec F S1x1024x64 .f32) (u : FVec F S256x256 .bf16)
    (d8 : FVec F S1x1024x64 .f32) (d9 d10 : FVec F S1x8192x64 .f32) (f11 : Bf (F := F) c arg11) (f12 : Bf (F := F) c arg12) :
    iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare d ∗ owns (c : Thread nD τ) arg7 fullShare u ∗ owns (c : Thread nD τ) arg8 fullShare d8 ∗ owns (c : Thread nD τ) arg9 fullShare d9 ∗ owns (c : Thread nD τ) arg10 fullShare d10 ∗ pt c arg11 f11 ∗ pt c arg12 f12)
      ⊢ wp frame (wpE (defs₀ (F := F)) Variants.none (c : Thread nD τ) none) Set.univ
          (cc0_l1_b_attn (F := F) i arg2 harg2 arg3 harg3 arg4 harg4 arg5 harg5 arg6 harg6 arg7 harg7 arg8 harg8 arg9 harg9 arg10 harg10 arg11 harg11 arg12 harg12)
          (fun _ => iprop(owns (c : Thread nD τ) arg2 fullShare q ∗ owns (c : Thread nD τ) arg3 fullShare k ∗ owns (c : Thread nD τ) arg4 fullShare v ∗ owns (c : Thread nD τ) arg5 fullShare o ∗ owns (c : Thread nD τ) arg6 fullShare d ∗ owns (c : Thread nD τ) arg7 fullShare u ∗ owns (c : Thread nD τ) arg8 fullShare (Step.dqOut (Step.point i (Step.pointData q k v o d u) ⟨Step.zeroCarry, k0_pay134, k0_pay135⟩)) ∗ owns (c : Thread nD τ) arg9 fullShare (Step.point i (Step.pointData q k v o d u) ⟨Step.zeroCarry, k0_pay134, k0_pay135⟩).dk ∗ owns (c : Thread nD τ) arg10 fullShare (Step.point i (Step.pointData q k v o d u) ⟨Step.zeroCarry, k0_pay134, k0_pay135⟩).dv
            ∗ (∃ f, pt c arg11 f) ∗ (∃ f, pt c arg12 f))) := by
  unfold owns
  rw [harg2.set_eq_univ, harg3.set_eq_univ, harg4.set_eq_univ, harg5.set_eq_univ, harg6.set_eq_univ, harg7.set_eq_univ, harg8.set_eq_univ, harg9.set_eq_univ, harg10.set_eq_univ]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, H11, H12⟩
  obtain ⟨a, ha, hs⟩ := rootFirst_state c i hc arg2 harg2 arg3 harg3 arg4 harg4 arg5 harg5 arg6 harg6 arg7 harg7 arg8 harg8 arg9 harg9 arg10 harg10 arg11 harg11 arg12 harg12 f2 f3 f4 f5 f6 f7 f8 f9 f10 f11 f12
  rw [rootFirst_data] at hs
  have hc' := congrArg Step.State.c hs
  have hk := congrArg Step.State.dk hs
  have hv := congrArg Step.State.dv hs
  dsimp only at hc' hk hv
  rw [e2, e3, e4, e5, e6, e7] at hc' hk hv
  have h8 : arg8.view.read (Elt F) (rootFirst (F := F) c i hc arg2 harg2 arg3 harg3 arg4 harg4 arg5 harg5 arg6 harg6 arg7 harg7 arg8 harg8 arg9 harg9 arg10 harg10 arg11 harg11 arg12 harg12 f2 f3 f4 f5 f6 f7 f8 f9 f10 f11 f12).1 = Step.dqOut (Step.point i (Step.pointData q k v o d u) ⟨Step.zeroCarry, k0_pay134, k0_pay135⟩) := by
    rw [ha]; unfold Step.dqOut; rw [← hc']; rfl
  iapply (wp_wand_r frame _ Set.univ)
  isplitl [H2 H3 H4 H5 H6 H7 H8 H9 H10 H11 H12]
  · iapply (rootFirst (F := F) c i hc arg2 harg2 arg3 harg3 arg4 harg4 arg5 harg5 arg6 harg6 arg7 harg7 arg8 harg8 arg9 harg9 arg10 harg10 arg11 harg11 arg12 harg12 f2 f3 f4 f5 f6 f7 f8 f9 f10 f11 f12).2.2.2.2.2
    unfold Held
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %_ H
  unfold Held
  icases H with ⟨H2, H3, H4, H5, H6, H7, H8, H9, H10, H11, H12⟩
  isplitl [H2]
  · iexists _; isplitr; swap; (· iexact H2); ipureintro; exact e2
  isplitl [H3]
  · iexists _; isplitr; swap; (· iexact H3); ipureintro; exact e3
  isplitl [H4]
  · iexists _; isplitr; swap; (· iexact H4); ipureintro; exact e4
  isplitl [H5]
  · iexists _; isplitr; swap; (· iexact H5); ipureintro; exact e5
  isplitl [H6]
  · iexists _; isplitr; swap; (· iexact H6); ipureintro; exact e6
  isplitl [H7]
  · iexists _; isplitr; swap; (· iexact H7); ipureintro; exact e7
  isplitl [H8]
  · iexists _; isplitr; swap; (· iexact H8); ipureintro; exact h8
  isplitl [H9]
  · iexists _; isplitr; swap; (· iexact H9); ipureintro; exact hk
  isplitl [H10]
  · iexists _; isplitr; swap; (· iexact H10); ipureintro; exact hv
  isplitl [H11]; · iexists _; iexact H11
  iexists _; iexact H12

end Cert.KernelIdeal
end
-- ==== Proof.Run.lean ====
module

public import proofs.«01_k».proof.Proof.Owned
public import proofs.«01_k».proof.Proof.Gen.KernelIdeal.Frame
public import proofs.«01_k».proof.Proof.Gen.KernelIdeal.Points
public import Idealize.ShloMosaic.Lib.Pipeline.FrameBody

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- A point is its head's first when it is a multiple of the eight query blocks. -/
theorem atFirst_iff : ∀ t : Fin grid0.N, atFirst (grid0.coords t) ↔ t.val % 8 = 0 := by decide +kernel
theorem coords_head : ∀ t : Fin grid0.N, (grid0.coords t 0).val = t.val / 8 := by decide +kernel
theorem coords_block : ∀ t : Fin grid0.N, (grid0.coords t 1).val = t.val % 8 := by decide +kernel

/-! ## What the points leave -/

/-- What point `t` reads. -/
def dataAt (c : Dev nD) (t : Fin cfg0.N) : Step.Data F :=
  Step.pointData (iblk m c 0 t) (iblk m c 1 t) (iblk m c 2 t) (iblk m c 3 t) (iblk m c 4 t) (iblk m c 5 t)

/-- The state after point `n`: a head's first point begins with zeros in the keys' two results, a later one with what
    the point before left. -/
def stateAt (c : Dev nD) : (n : ℕ) → n < cfg0.N → Step.State F
  | 0, h => Step.point (grid0.coords ⟨0, h⟩) (dataAt m c ⟨0, h⟩) ⟨Step.zeroCarry, k0_pay134, k0_pay135⟩
  | n + 1, h => Step.point (grid0.coords ⟨n + 1, h⟩) (dataAt m c ⟨n + 1, h⟩)
      (if (n + 1) % 8 = 0 then ⟨Step.zeroCarry, k0_pay134, k0_pay135⟩
        else ⟨Step.zeroCarry, (stateAt c n (Nat.lt_of_succ_lt h)).dk, (stateAt c n (Nat.lt_of_succ_lt h)).dv⟩)

theorem stateAt_first (c : Dev nD) (t : Fin cfg0.N) (h : t.val % 8 = 0) :
    stateAt m c t.val t.isLt = Step.point (grid0.coords t) (dataAt m c t) ⟨Step.zeroCarry, k0_pay134, k0_pay135⟩ := by
  obtain ⟨n, hn⟩ := t
  cases n with
  | zero => rw [stateAt]
  | succ n => rw [stateAt, if_pos h]

theorem stateAt_next (c : Dev nD) (t : Fin cfg0.N) (h : t.val % 8 ≠ 0) :
    stateAt m c t.val t.isLt = Step.point (grid0.coords t) (dataAt m c t)
      ⟨Step.zeroCarry, (stateAt m c (t.val - 1) (Nat.lt_of_le_of_lt (Nat.sub_le _ _) t.isLt)).dk,
        (stateAt m c (t.val - 1) (Nat.lt_of_le_of_lt (Nat.sub_le _ _) t.isLt)).dv⟩ := by
  obtain ⟨n, hn⟩ := t
  cases n with
  | zero => exact absurd rfl h
  | succ n => rw [stateAt, if_neg h]; rfl

/-! ## The pipeline's proof data -/

/-- The arrays as the region finds them; after the body each input's buffer at its block and the results' at what the
    points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Step.dqOut (stateAt m c t.val t.isLt)
    | ⟨7, _⟩ => (stateAt m c t.val t.isLt).dk
    | ⟨8, _⟩ => (stateAt m c t.val t.isLt).dv
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = Step.dqOut (stateAt m c t.val t.isLt) := by dsimp only [dats]
theorem after_7 (c : Dev nD) (t : Fin cfg0.N) : (dats m 0 c).after 7 t = (stateAt m c t.val t.isLt).dk := by dsimp only [dats]
theorem after_8 (c : Dev nD) (t : Fin cfg0.N) : (dats m 0 c).after 8 t = (stateAt m c t.val t.isLt).dv := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- Inside a head the keys' results hold what the point before left. -/
theorem before_7 (c : Dev nD) (t : Fin cfg0.N) (h : t.val % 8 ≠ 0) (d) :
    (dats m 0 c).before 7 t d = (stateAt m c (t.val - 1) (Nat.lt_of_le_of_lt (Nat.sub_le _ _) t.isLt)).dk :=
  ((dats m 0 c).before_out_kept 7 rfl t (fun h0 => h (by rw [h0]))
    (Bool.eq_false_iff.mpr fun hf => absurd ((flush0_7 _).mp hf) (by dsimp only; omega)) (fun _ => rfl) (fun _ _ => rfl) d).trans (after_7 m c _)
theorem before_8 (c : Dev nD) (t : Fin cfg0.N) (h : t.val % 8 ≠ 0) (d) :
    (dats m 0 c).before 8 t d = (stateAt m c (t.val - 1) (Nat.lt_of_le_of_lt (Nat.sub_le _ _) t.isLt)).dv :=
  ((dats m 0 c).before_out_kept 8 rfl t (fun h0 => h (by rw [h0]))
    (Bool.eq_false_iff.mpr fun hf => absurd ((flush0_8 _).mp hf) (by dsimp only; omega)) (fun _ => rfl) (fun _ _ => rfl) d).trans (after_8 m c _)

/-! ## The body obligation -/

theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4, after_5,
    after_6, after_7, after_8]
  unfold Pipeline.ΦA
  rw [scopedRest0_eq]
  by_cases h : t.val % 8 = 0
  · rw [stateAt_first m c t h]
    unfold dataAt
    iintro ⟨⟨⟨⟨%f11, H11⟩, ⟨%f12, H12⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 H11 H12]
    · iapply (pointFirst (F := F) c (grid0.coords t) ((atFirst_iff t).mpr h) _ _ _ _ _ _ _ _ _ _ _ _ _ _ _ _ _ _
        (Memref.whole cc0_scratch0) (Memref.isWhole_whole _) (Memref.whole cc0_scratch1) (Memref.isWhole_whole _)
        (iblk m c 0 t) (iblk m c 1 t) (iblk m c 2 t) (iblk m c 3 t) (iblk m c 4 t) (iblk m c 5 t) _ _ _ f11 f12)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    iintro %_ ⟨H0, H1, H2, H3, H4, H5, H6, H7, H8, H11, H12⟩
    isplitl [Hr H11 H12]
    · isplitl [H11 H12]
      · isplitl [H11]; · iexact H11
        iexact H12
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before_7 m c t h, before_8 m c t h]
    rw [stateAt_next m c t h]
    unfold dataAt
    iintro ⟨⟨⟨⟨%f11, H11⟩, ⟨%f12, H12⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r frame _ Set.univ)
    isplitl [H0 H1 H2 H3 H4 H5 H6 H7 H8 H11 H12]
    · iapply (pointNext (F := F) c (grid0.coords t) (fun hf => h ((atFirst_iff t).mp hf)) _ _ _ _ _ _ _ _ _ _ _ _ _ _ _ _ _ _
        (Memref.whole cc0_scratch0) (Memref.isWhole_whole _) (Memref.whole cc0_scratch1) (Memref.isWhole_whole _)
        (iblk m c 0 t) (iblk m c 1 t) (iblk m c 2 t) (iblk m c 3 t) (iblk m c 4 t) (iblk m c 5 t) _ _ _ f11 f12)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    iintro %_ ⟨H0, H1, H2, H3, H4, H5, H6, H7, H8, H11, H12⟩
    isplitl [Hr H11 H12]
    · isplitl [H11 H12]
      · isplitl [H11]; · iexact H11
        iexact H12
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The run -/

set_option backward.isDefEq.respectTransparency.types false in
/-- For any float values, from any memory with zero counters: every execution terminates, the arrays of the pipeline
    end at what the proof data says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun c w => A_eq m c w) (hΦ := fun _ _ => rfl)

/-- The arguments are left alone and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun c w => A_eq m c w) (run_main m ρ)

end Cert.KernelIdeal
end
-- ==== Proof.DataReal.lean ====
module

public import proofs.«01_k».proof.Proof.Entry
public import proofs.«01_k».proof.Proof.PointReal
public import proofs.«01_k».proof.Proof.Run
public import Idealize.ShloMosaic.Lib.Pipeline.ValueKit.Geometry

@[expose] public section

set_option maxRecDepth 16384

noncomputable section

/-! # What a grid point reads -/

namespace Cert.KernelIdeal

open Idealize.ShloMosaic Idealize.ShloMosaic.TcCoe Idealize.SL.Sem Cert.KernelIdeal.Gen Cert.KernelIdeal.Step Cert.Stick Finset

variable (m : (ℓ : Loc nD τ sig) → Buf (Elt Ideal) ℓ) (c : Dev nD)

/-- The arguments. -/
abbrev argQ : Lines.Heads := m ((c : Thread nD τ).loc main_arg0)
abbrev argK : Lines.Heads := m ((c : Thread nD τ).loc main_arg1)
abbrev argV : Lines.Heads := m ((c : Thread nD τ).loc main_arg2)
abbrev argG : Lines.Heads := m ((c : Thread nD τ).loc main_arg3)

/-- The arguments' head `h`. -/
abbrev headAt (h : Fin 8) : Head := Lines.head (argQ m c) (argK m c) (argV m c) (argG m c) h

/-- The head and the first query of a grid point. -/
abbrev hd (t : Fin cfg0.N) : Fin 8 := ⟨t.val / 8, Nat.div_lt_of_lt_mul t.isLt⟩
abbrev pos (t : Fin cfg0.N) (r : Fin 1024) : Fin 8192 := ⟨1024 * (t.val % 8) + r.val, by omega⟩

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 8, t.val % 8, 0] := (by decide +kernel : ∀ t : Fin grid0.N, _)
theorem idx7 : ∀ t : Fin cfg0.N, win0_7.index t = ![t.val / 8, 0, 0] := (by decide +kernel : ∀ t : Fin grid0.N, _)
theorem idx8 : ∀ t : Fin cfg0.N, win0_8.index t = ![t.val / 8, 0, 0] := (by decide +kernel : ∀ t : Fin grid0.N, _)

variable (t : Fin cfg0.N)

theorem blk0 (r : Fin 1024) (d : Fin 64) : iblk m c 0 t (ix3 (0 : Fin 1) r d) = argQ m c (ix3 (hd t) (pos t r) d) := by
  blk_simp [iblk]
  rw [V_v17]
  refine congrArg (argQ m c) ?_
  blk_ext [idx0]

theorem blk1 (s : Fin 8192) (d : Fin 64) : iblk m c 1 t (ix3 (0 : Fin 1) s d) = argK m c (ix3 (hd t) s d) := by
  blk_simp [iblk]
  rw [V_v18]
  refine congrArg (argK m c) ?_
  blk_ext [idx1]

theorem blk2 (s : Fin 8192) (d : Fin 64) : iblk m c 2 t (ix3 (0 : Fin 1) s d) = argV m c (ix3 (hd t) s d) := by
  blk_simp [iblk]
  rw [V_v19]
  refine congrArg (argV m c) ?_
  blk_ext [idx2]

theorem blk3 (r : Fin 1024) (d : Fin 64) :
    iblk m c 3 t (ix3 (0 : Fin 1) r d) = Lines.out (argQ m c) (argK m c) (argV m c) (ix3 (hd t) (pos t r) d) := by
  blk_simp [iblk]
  rw [V_v16]
  refine congrArg (Lines.out (argQ m c) (argK m c) (argV m c)) ?_
  blk_ext [idx3]

theorem blk4 (r : Fin 1024) (d : Fin 64) : iblk m c 4 t (ix3 (0 : Fin 1) r d) = argG m c (ix3 (hd t) (pos t r) d) := by
  blk_simp [iblk]
  rw [V_main_arg3]
  refine congrArg (argG m c) ?_
  blk_ext [idx4]

theorem blk5 (a e : Fin 256) : iblk m c 5 t (ix2 a e) = lower (ix2 a e) := by
  blk_simp [iblk]
  rw [V_v23]
  refine congrArg lower ?_
  blk_ext [idx5]

/-- The arguments are real. -/
structure Args : Prop where
  q : Lines.IsReal (argQ m c)
  k : Lines.IsReal (argK m c)
  v : Lines.IsReal (argV m c)
  g : Lines.IsReal (argG m c)

variable {m c} (hA : Args m c)
include hA

theorem dout_real (r : Fin 1024) (d : Fin 64) :
    k0_pay136 (iblk m c 4 t) (ix2 r d) = (((headAt m c (hd t)).g (pos t r).val d : ℝ) : EReal) := by
  refine Eq.trans ?_ (Lines.g_at hA.g (hd t) (pos t r) d)
  refine Eq.trans ?_ (blk4 m c t r d)
  unfold k0_pay136
  pointwise

theorem tot_real (r : Fin 1024) : k0_pay137 (k0_pay136 (iblk m c 4 t)) (iblk m c 3 t) (ix2 r (0 : Fin 1))
    = ((∑ s ∈ range 8192, G (headAt m c (hd t)) 8192 (pos t r).val s : ℝ) : EReal) := by
  rw [← sum_G]
  refine Eq.trans (b := ∑ d : Fin 64, k0_pay136 (iblk m c 4 t) (ix2 r d) * iblk m c 3 t (ix3 (0 : Fin 1) r d)) ?_ ?_
  · generalize k0_pay136 (iblk m c 4 t) = x
    generalize iblk m c 3 t = y
    unfold k0_pay137
    pointwise
  · refine Lines.dots_at (dout_real t hA r) fun d => ?_
    exact (blk3 m c t r d).trans (Lines.out_at (g := argG m c) hA.q hA.k hA.v (hd t) (pos t r) d)

set_option maxHeartbeats 4000000 in
theorem data_real : DataIs (headAt m c (hd t)) (t.val % 8) (dataAt m c t) :=
  ⟨fun r d => (blk0 m c t r d).trans (Lines.q_at hA.q (hd t) (pos t r) d),
    fun s d => (blk1 m c t s d).trans (Lines.k_at hA.k (hd t) s d),
    fun s d => (blk2 m c t s d).trans (Lines.v_at hA.v (hd t) s d),
    fun a e => (blk5 m c t a e).trans (lower_at a e),
    fun r => tot_real t hA r, fun r d => dout_real t hA r d⟩

end Cert.KernelIdeal
-- ==== Proof.KernelReal.lean ====
module

public import proofs.«01_k».proof.Proof.DataReal

@[expose] public section

set_option maxRecDepth 16384

noncomputable section

/-! # The kernel's results

With real arguments the arrays the kernel leaves are the gradients of `Math.lean`. -/

namespace Cert.KernelIdeal

open Idealize.ShloMosaic Idealize.ShloMosaic.TcCoe Idealize.SL.Sem Cert.KernelIdeal.Gen Cert.KernelIdeal.Step Cert.Stick Finset

variable {m : (ℓ : Loc nD τ sig) → Buf (Elt Ideal) ℓ} {c : Dev nD}

theorem none_at : k0_pay134 (F := Ideal) = (fun _ => 0) ∧ k0_pay135 (F := Ideal) = (fun _ => 0) := by
  constructor <;> funext i
  · unfold k0_pay134
    pointwise
  · unfold k0_pay135
    pointwise

/-- One more point: with the earlier points' sums in the keys' and the values' gradients. -/
theorem next_point (hA : Args m c) (t : Fin cfg0.N) {dk dv : FVec Ideal S1x8192x64 .f32}
    (hk : ∀ (e : Fin 8192) (d : Fin 64), dk (ix3 (0 : Fin 1) e d)
      = ((∑ u ∈ range (1024 * (t.val % 8)), dZ (headAt m c (hd t)) 8192 u e.val * (headAt m c (hd t)).q u d : ℝ) : EReal))
    (hv : ∀ (e : Fin 8192) (d : Fin 64), dv (ix3 (0 : Fin 1) e d)
      = ((∑ u ∈ range (1024 * (t.val % 8)), W (headAt m c (hd t)) 8192 u e.val * (headAt m c (hd t)).g u d : ℝ) : EReal)) :
    StateIs (headAt m c (hd t)) (t.val % 8) 0 (point (grid0.coords t) (dataAt m c t) ⟨zeroCarry, dk, dv⟩) := by
  have hd := data_real t hA
  rw [← coords_block t] at hd hk hv ⊢
  exact point_real hd hk hv

/-- The state after each point. -/
theorem state_real (hA : Args m c) (t : Fin cfg0.N) : StateIs (headAt m c (hd t)) (t.val % 8) 0 (stateAt m c t.val t.isLt) := by
  obtain ⟨n, hn⟩ := t
  induction n with
  | zero =>
    rw [stateAt_first m c ⟨0, hn⟩ rfl]
    refine next_point hA ⟨0, hn⟩ (fun e d => ?_) (fun e d => ?_)
    · rw [none_at.1]; simp
    · rw [none_at.2]; simp
  | succ n ih =>
    by_cases h : (n + 1) % 8 = 0
    · rw [stateAt_first m c ⟨n + 1, hn⟩ h]
      refine next_point hA ⟨n + 1, hn⟩ (fun e d => ?_) (fun e d => ?_)
      · rw [none_at.1]; simp [h]
      · rw [none_at.2]; simp [h]
    · rw [stateAt_next m c ⟨n + 1, hn⟩ h]
      have hs := ih (Nat.lt_of_succ_lt hn)
      have e1 : (⟨(n + 1) / 8, Nat.div_lt_of_lt_mul hn⟩ : Fin 8) = ⟨n / 8, Nat.div_lt_of_lt_mul (Nat.lt_of_succ_lt hn)⟩ := Fin.ext (by dsimp only; omega)
      have e2 : 1024 * (n % 8) + 1024 = 1024 * ((n + 1) % 8) := by omega
      refine next_point hA ⟨n + 1, hn⟩ (fun e d => ?_) (fun e d => ?_)
      · refine (hs.dk e d).trans ?_
        rw [if_pos (Nat.zero_le _)]
        dsimp only [hd]
        rw [e1, e2]
      · refine (hs.dv e d).trans ?_
        rw [if_pos (Nat.zero_le _)]
        dsimp only [hd]
        rw [e1, e2]

end Cert.KernelIdeal
-- ==== Proof.ArrayReal.lean ====
module

public import proofs.«01_k».proof.Proof.KernelReal

@[expose] public section

set_option maxRecDepth 16384

noncomputable section

/-! # The kernel's arrays

After the last point each result holds the gradient. -/

namespace Cert.KernelIdeal

open Idealize.ShloMosaic Idealize.ShloMosaic.TcCoe Idealize.SL.Sem Cert.KernelIdeal.Gen Cert.KernelIdeal.Step Cert.Stick Finset

variable {m : (ℓ : Loc nD τ sig) → Buf (Elt Ideal) ℓ} {c : Dev nD}

theorem dqOut_real (hA : Args m c) (t : Fin cfg0.N) (r : Fin 1024) (d : Fin 64) : dqOut (stateAt m c t.val t.isLt) (ix3 (0 : Fin 1) r d)
    = Lines.dq (argQ m c) (argK m c) (argV m c) (argG m c) (ix3 (hd t) (pos t r) d) := by
  rw [Lines.dq_at hA.q hA.k hA.v hA.g]
  refine Eq.trans ?_ (((state_real hA t).c.dq r d).trans ?_)
  · unfold dqOut
    pointwise
  · rw [Nat.Ico_zero_eq_range]
    rfl

theorem dk_real (hA : Args m c) (t : Fin cfg0.N) (ht : t.val % 8 = 7) (s : Fin 8192) (d : Fin 64) : (stateAt m c t.val t.isLt).dk (ix3 (0 : Fin 1) s d)
    = Lines.dk (argQ m c) (argK m c) (argV m c) (argG m c) (ix3 (hd t) s d) := by
  rw [Lines.dk_at hA.q hA.k hA.v hA.g, (state_real hA t).dk s d, if_pos (Nat.zero_le _), ht]
  rfl

theorem dv_real (hA : Args m c) (t : Fin cfg0.N) (ht : t.val % 8 = 7) (s : Fin 8192) (d : Fin 64) : (stateAt m c t.val t.isLt).dv (ix3 (0 : Fin 1) s d)
    = Lines.dv (argQ m c) (argK m c) (argV m c) (argG m c) (ix3 (hd t) s d) := by
  rw [Lines.dv_at hA.q hA.k hA.v hA.g, (state_real hA t).dv s d, if_pos (Nat.zero_le _), ht]
  rfl

theorem final_dq (hA : Args m c) : (dats m 0 c).arrAt 6 cfg0.N = Lines.dq (argQ m c) (argK m c) (argV m c) (argG m c) := by
  refine (dats m 0 c).arrAt_eq_of_covers 6 _ (by decide +kernel) fun t hf y => ?_
  blk_simp
  rw [after_6]
  obtain ⟨r, d, rfl⟩ : ∃ (r : Fin 1024) (d : Fin 64), y = ix3 (0 : Fin 1) r d := ⟨y 1, y 2, funext fun a => by
    match a with
    | ⟨0, _⟩ => exact Fin.eq_zero _
    | ⟨1, _⟩ => rfl
    | ⟨2, _⟩ => rfl⟩
  refine (dqOut_real hA t r d).trans (congrArg (Lines.dq (argQ m c) (argK m c) (argV m c) (argG m c)) ?_)
  blk_ext [idx6]

theorem final_dk (hA : Args m c) : (dats m 0 c).arrAt 7 cfg0.N = Lines.dk (argQ m c) (argK m c) (argV m c) (argG m c) := by
  refine (dats m 0 c).arrAt_eq_of_covers 7 _ (by decide +kernel) fun t hf y => ?_
  blk_simp
  rw [after_7]
  obtain ⟨r, d, rfl⟩ : ∃ (r : Fin 8192) (d : Fin 64), y = ix3 (0 : Fin 1) r d := ⟨y 1, y 2, funext fun a => by
    match a with
    | ⟨0, _⟩ => exact Fin.eq_zero _
    | ⟨1, _⟩ => rfl
    | ⟨2, _⟩ => rfl⟩
  refine (dk_real hA t ((flush0_7 t).mp hf) r d).trans (congrArg (Lines.dk (argQ m c) (argK m c) (argV m c) (argG m c)) ?_)
  blk_ext [idx7]

theorem final_dv (hA : Args m c) : (dats m 0 c).arrAt 8 cfg0.N = Lines.dv (argQ m c) (argK m c) (argV m c) (argG m c) := by
  refine (dats m 0 c).arrAt_eq_of_covers 8 _ (by decide +kernel) fun t hf y => ?_
  blk_simp
  rw [after_8]
  obtain ⟨r, d, rfl⟩ : ∃ (r : Fin 8192) (d : Fin 64), y = ix3 (0 : Fin 1) r d := ⟨y 1, y 2, funext fun a => by
    match a with
    | ⟨0, _⟩ => exact Fin.eq_zero _
    | ⟨1, _⟩ => rfl
    | ⟨2, _⟩ => rfl⟩
  refine (dv_real hA t ((flush0_8 t).mp hf) r d).trans (congrArg (Lines.dv (argQ m c) (argK m c) (argV m c) (argG m c)) ?_)
  blk_ext [idx8]

end Cert.KernelIdeal
-- ==== Proof.RefReal.lean ====
module

public import proofs.«01_k».proof.Proof.HostReal
public import proofs.«01_k».proof.Proof.Gen.ReferenceIdeal.Run

@[expose] public section

set_option maxRecDepth 16384

noncomputable section

/-! # The reference's results -/

namespace Cert.ReferenceIdeal

open Idealize.ShloMosaic Idealize.ShloMosaic.TcCoe Idealize.SL.Sem Cert.ReferenceIdeal.Gen Cert.ReferenceIdeal.Value

variable (m : (ℓ : Loc nD τ sig) → Buf (Elt Ideal) ℓ) (c : Dev nD)

theorem dq_eq : res_out0 m c = Lines.dq (m ((c.tc : Thread nD τ).loc main_arg0)) (m ((c.tc : Thread nD τ).loc main_arg1))
    (m ((c.tc : Thread nD τ).loc main_arg2)) (m ((c.tc : Thread nD τ).loc main_arg3)) := rfl
theorem dk_eq : res_out1 m c = Lines.dk (m ((c.tc : Thread nD τ).loc main_arg0)) (m ((c.tc : Thread nD τ).loc main_arg1))
    (m ((c.tc : Thread nD τ).loc main_arg2)) (m ((c.tc : Thread nD τ).loc main_arg3)) := rfl
theorem dv_eq : res_out2 m c = Lines.dv (m ((c.tc : Thread nD τ).loc main_arg0)) (m ((c.tc : Thread nD τ).loc main_arg1))
    (m ((c.tc : Thread nD τ).loc main_arg2)) (m ((c.tc : Thread nD τ).loc main_arg3)) := rfl

end Cert.ReferenceIdeal
-- ==== Proof.Equal.lean ====
module

public import proofs.«01_k».proof.Defs
public import proofs.«01_k».proof.Proof.ArrayReal
public import proofs.«01_k».proof.Proof.RefReal

@[expose] public section

set_option maxRecDepth 16384

noncomputable section

/-! # The kernel's results are the reference's -/

namespace Cert.Proof

open Idealize.ShloMosaic Idealize.ShloMosaic.TcCoe Idealize.SL.Sem

instance facts_finite : Cert.Pre_finite.Facts := ⟨by decide⟩

/-- What is smaller than infinity in absolute value is a real number. -/
theorem real_of_lt {x : EReal} (h : max x (-x) < ⊤) : x = ((x.toReal : ℝ) : EReal) := by
  refine (EReal.coe_toReal (fun e => ?_) (fun e => ?_)).symm
  · rw [e] at h; simp at h
  · rw [e] at h; simp at h

theorem isReal_of_finite {x : Lines.Heads}
    (h : cmpf .olt (Host.absf x) (broadcastInDim Cert.Pre_finite.S8x8192x64 ![] Cert.Pre_finite.Facts.bcast_S_S8x8192x64
      (constant Cert.Pre_finite.S_ .f32 0x7F800000#32) : FVec Ideal _ .f32) = (fun _ => 1#1)) : Lines.IsReal x := fun i => by
  have hi := congrFun h i
  have ht : (broadcastInDim Cert.Pre_finite.S8x8192x64 ![] Cert.Pre_finite.Facts.bcast_S_S8x8192x64
      (constant Cert.Pre_finite.S_ .f32 0x7F800000#32) : FVec Ideal _ .f32) i = ⊤ := by
    pointwise
    simp [Ideal.ofBits, Ideal.ieee]
  change Ideal.cmp .olt (max (x i) (-(x i))) _ = 1#1 at hi
  rw [ht] at hi
  refine real_of_lt ?_
  by_contra hn
  simp only [Ideal.cmp, hn] at hi
  exact absurd hi (by decide)

theorem args_of_finite {m} (h : Cert.Pre_KernelIdeal_finite m) (c : Dev Cert.KernelIdeal.nD) : Cert.KernelIdeal.Args m c :=
  ⟨isReal_of_finite (h c).1, isReal_of_finite (h c).2.1, isReal_of_finite (h c).2.2.1, isReal_of_finite (h c).2.2.2⟩

theorem equal : Cert.algebraic_KernelIdeal_ReferenceIdeal_pre_finite := by
  intro m g m' g' hpre hagree
  refine ⟨fun c => Lines.dq (KernelIdeal.argQ m c) (KernelIdeal.argK m c) (KernelIdeal.argV m c) (KernelIdeal.argG m c),
    fun c => Lines.dk (KernelIdeal.argQ m c) (KernelIdeal.argK m c) (KernelIdeal.argV m c) (KernelIdeal.argG m c),
    fun c => Lines.dv (KernelIdeal.argQ m c) (KernelIdeal.argK m c) (KernelIdeal.argV m c) (KernelIdeal.argG m c), ?_, ?_⟩
  · refine (θ_run Cert.KernelIdeal.defs _ _).mono (fun r h c => ?_) (θ_run_and (Cert.KernelIdeal.run_main m g) (Cert.KernelIdeal.frame_main m g))
    have hA := args_of_finite hpre c
    exact ⟨((h.1.1 c).1 6).trans (KernelIdeal.final_dq hA), ((h.1.1 c).1 7).trans (KernelIdeal.final_dk hA),
      ((h.1.1 c).1 8).trans (KernelIdeal.final_dv hA), h.2.1 c⟩
  · refine (θ_run Cert.ReferenceIdeal.defs _ _).mono (fun r h c => ?_) (Cert.ReferenceIdeal.Value.run m' g')
    obtain ⟨e0, e1, e2, e3⟩ := hagree c
    obtain ⟨h1, h2, h3, h4⟩ := h c
    refine ⟨h1.trans ?_, h2.trans ?_, h3.trans ?_, h4⟩
    · refine (ReferenceIdeal.dq_eq m' c).trans ?_
      rw [e0, e1, e2, e3]
    · refine (ReferenceIdeal.dk_eq m' c).trans ?_
      rw [e0, e1, e2, e3]
    · refine (ReferenceIdeal.dv_eq m' c).trans ?_
      rw [e0, e1, e2, e3]

end Cert.Proof
-- ==== Proof.AttentionValue.lean ====
module

public import proofs.«01_k».proof.Proof.AttentionPoint
public import proofs.«01_k».proof.Proof.AttentionReal
public import proofs.«01_k».proof.Proof.Equal
public import proofs.«01_k».proof.Proof.Gen.AttentionLinesIdeal.Run
public import proofs.«01_k».proof.Proof.Common

@[expose] public section

set_option maxRecDepth 16384

noncomputable section

/-! # Attention: the output of the call

A grid point's blocks are parts of the arguments, so the steps of `AttentionReal.lean` sum over the keys of the
whole head, and the result is that of the reference's lines. -/

namespace Cert.AttentionIdeal

open Idealize.ShloMosaic Idealize.ShloMosaic.TcCoe Idealize.SL.Sem Idealize.ShloMosaic.StableHlo Cert.AttentionIdeal.Gen Cert.Stick Finset
open Cert.KernelIdeal.Step (unit_idx drop_apply)

/-! ## The keys kept -/

theorem diag_word (a : Fin 16) (q e : ℕ) (hq : q < 512) (he : e < 512) :
    IntOp.cmpi .slt (BitVec.ofNat 32 e + BitVec.ofNat 32 (512 * a.val)) (BitVec.ofNat 32 q + BitVec.ofNat 32 (512 * a.val))
      = BitVec.ofBool (decide (512 * a.val + e < 512 * a.val + q)) := by
  rw [← BitVec.ofNat_add, ← BitVec.ofNat_add, WordCmp.cmpi_slt_ofNat (by omega) (by omega)]
  refine congrArg BitVec.ofBool (decide_eq_decide.mpr ?_)
  omega

theorem diagMask_apply (i : grid0.Coords) (r c : Fin 512) :
    diagMask i (ix2 r c) = BitVec.ofBool (decide (512 * (i 1).val + c.val < 512 * (i 1).val + r.val)) := by
  refine Eq.trans ?_ (diag_word (i 1) r.val c.val r.isLt c.isLt)
  unfold diagMask
  pointwise
  rfl

theorem keeps_diag (i : grid0.Coords) : Keeps (512 * (i 1).val) (512 * (i 1).val) (masked (diagMask i)) := by
  intro x r c
  show Scalar.select (diagMask i (ix2 r c)) (x (ix2 r c)) (Ideal.ofBits .f32 0x00000000#32) = _
  rw [diagMask_apply, Ideal.ofBits_zero_f32]
  by_cases h : 512 * (i 1).val + c.val < 512 * (i 1).val + r.val
  · rw [if_pos h, decide_eq_true h]; rfl
  · rw [if_neg h, decide_eq_false h]; rfl

theorem keeps_left {p o : ℕ} (h : o + 512 ≤ p) : Keeps p o id := fun x r c => (if_pos (by have := c.isLt; omega)).symm

/-! ## The steps of a grid point -/

/-- What a grid point reads: the queries are those from `512 i` on. -/
structure DataIs (A : Head) (V : ℕ → Fin 64 → EReal) (i : ℕ) (D : Data Ideal) : Prop where
  q : ∀ (r : Fin 512) (d : Fin 64), D.Q (ix3 (0 : Fin 1) r d) = ((A.q (512 * i + r.val) d : ℝ) : EReal)
  k : ∀ (s : Fin 8192) (d : Fin 64), D.K (ix3 (0 : Fin 1) s d) = ((A.k s.val d : ℝ) : EReal)
  v : ∀ (s : Fin 8192) (d : Fin 64), D.V (ix3 (0 : Fin 1) s d) = V s.val d
  u : ∀ c e : Fin 512, D.U (ix2 c e) = (((if e < c then 1 else 0 : ℝ) : ℝ) : EReal)

theorem rowsAt_apply (X : FVec Ideal S1x8192x64 .bf16) {n : ℕ} (h : n < 16) (c : Fin 512) (d : Fin 64) :
    rowsAt X ![0, 512 * n, 0] (inb_block h) (ix2 c d) = X (ix3 (0 : Fin 1) ⟨512 * n + c.val, by omega⟩ d) := by
  refine (drop_apply (cut X (Rect.unit (s := S1x8192x64) ![0, 512 * n, 0] S1x512x64.size (inb_block h))) _ c d).trans
    (congrArg X (unit_idx _ _ fun a => ?_))
  fin_cases a
  · rfl
  · rfl
  · exact (Nat.zero_add _).symm

theorem queries_apply (D : Data Ideal) (r : Fin 512) (d : Fin 64) : queries D (ix2 r d) = D.Q (ix3 (0 : Fin 1) r d) := by
  refine (drop_apply (cut D.Q (Rect.unit (s := S1x512x64) ![0, 0, 0] S1x512x64.size inb_S1x512x64_S1x512x64_0_0_0)) _ r d).trans
    (congrArg D.Q (unit_idx _ _ fun a => ?_))
  fin_cases a <;> exact (Nat.zero_add _).symm

theorem below_apply (D : Data Ideal) (c e : Fin 512) : below D (ix2 c e) = D.U (ix2 c e) := by
  refine (congrFun (shapeCast_self (cut D.U (Rect.unit (s := S512x512) ![0, 0] S512x512.size inb_S512x512_S512x512_0_0)) _) _).trans
    (congrArg D.U (unit_idx _ _ fun a => ?_))
  fin_cases a <;> exact (Nat.zero_add _).symm

variable {A : Head} {V : ℕ → Fin 64 → EReal} {i : ℕ} {D : Data Ideal} (hD : DataIs A V i D)

include hD in
theorem step_real {n : ℕ} (h : n < 16) {keep : Sq Ideal → Sq Ideal} (hp : Keeps (512 * i) (512 * n) keep) {a : Acc Ideal}
    (ha : AccIs A V 8192 (512 * i) (512 * n + 512) a) : AccIs A V 8192 (512 * i) (512 * n) (step keep D n h a) :=
  next_real (fun r d => (queries_apply D r d).trans (hD.q r d)) (fun c d => (rowsAt_apply D.K h c d).trans (hD.k _ d))
    (fun c d => (rowsAt_apply D.V h c d).trans (hD.v _ d)) (fun c e => (below_apply D c e).trans (hD.u c e)) hp (by omega) ha

/-- Before any step: the keys to the right of the block count for nothing. -/
theorem none0_real : AccIs A V 8192 (512 * i) (512 * i + 512) none0 where
  r r := by
    rw [sum_eq_zero fun j hj => lm_zero A (by have := (mem_Ico.mp hj).1; have := r.isLt; omega)]
    unfold none0
    pointwise
    rfl
  out r d := by
    rw [sum_eq_zero fun j hj => by
      rw [W_zero A 8192 (by have := (mem_Ico.mp hj).1; have := r.isLt; omega), EReal.coe_zero, zero_mul]]
    unfold none0
    pointwise

theorem lefts_real {j : grid0.Coords} (hD : DataIs A V (j 1).val D) : ∀ m : ℕ, m ≤ (j 1).val →
    AccIs A V 8192 (512 * (j 1).val) (512 * ((j 1).val - m)) (lefts D j m)
  | 0, _ => step_real hD (j 1).isLt (keeps_diag j) none0_real
  | m + 1, h => by
    have e : (j 1).val - (m + 1) = (j 1).val - 1 - m := by omega
    have e' : 512 * ((j 1).val - m) = 512 * ((j 1).val - 1 - m) + 512 := by omega
    rw [e]
    exact step_real hD _ (keeps_left (by omega)) (e' ▸ lefts_real hD m (by omega))

/-! ## What the call is given -/

section Given
variable (m : (ℓ : Loc nD τ sig) → Buf (Elt Ideal) ℓ) (c : Dev nD)

/-- The arguments. -/
abbrev argQ : Lines.Heads := m ((c : Thread nD τ).loc main_arg0)
abbrev argK : Lines.Heads := m ((c : Thread nD τ).loc main_arg1)
abbrev argV : Lines.Heads := m ((c : Thread nD τ).loc main_arg2)

/-- The arrays the call is given in their place. -/
def half (x : Lines.Heads) : FVec Ideal S8x8192x64 .bf16 := truncf .bf16 x bitsLt_bf16_f32

/-- Ones below the diagonal. -/
def lower : FVec Ideal S512x512 .bf16 := uitofp .bf16 (cmpi .sgt (iotaInDim S512x512 32 0) (iotaInDim S512x512 32 1))

theorem lower_at (i e : Fin 512) : lower (ix2 i e) = (((if e < i then 1 else 0 : ℝ) : ℝ) : EReal) := by
  unfold lower
  pointwise
  rw [WordCmp.cmpi_sgt_ofNat (by have := i.isLt; omega) (by have := e.isLt; omega)]
  by_cases h : e < i
  · rw [if_pos h, decide_eq_true (Fin.lt_def.mp h)]
    show (((1#1 : BitVec 1).toNat : ℝ) : EReal) = _
    simp
  · rw [if_neg h, decide_eq_false fun h' => h (Fin.lt_def.mpr h')]
    show (((0#1 : BitVec 1).toNat : ℝ) : EReal) = _
    simp

theorem V_v0 : Gen.V m c main_v0 = half (argQ m c) := by
  unfold Gen.V
  simp only [hostOps0, List.flatten_cons, List.flatten_nil, List.append_nil, List.cons_append, List.nil_append, TRef.binary, TRef.nullary,
    TRef.unary, TRef.toBuf, TRef.ofBuf, cast_eq]
  after_reads_simp
  rfl

theorem V_v1 : Gen.V m c main_v1 = half (argK m c) := by
  unfold Gen.V
  simp only [hostOps0, List.flatten_cons, List.flatten_nil, List.append_nil, List.cons_append, List.nil_append, TRef.binary, TRef.nullary,
    TRef.unary, TRef.toBuf, TRef.ofBuf, cast_eq]
  after_reads_simp
  rfl

theorem V_v2 : Gen.V m c main_v2 = half (argV m c) := by
  unfold Gen.V
  simp only [hostOps0, List.flatten_cons, List.flatten_nil, List.append_nil, List.cons_append, List.nil_append, TRef.binary, TRef.nullary,
    TRef.unary, TRef.toBuf, TRef.ofBuf, cast_eq]
  after_reads_simp
  rfl

theorem V_v6 : Gen.V m c main_v6 = lower := by
  unfold Gen.V
  simp only [hostOps0, List.flatten_cons, List.flatten_nil, List.append_nil, List.cons_append, List.nil_append, TRef.binary, TRef.nullary,
    TRef.unary, TRef.toBuf, TRef.ofBuf, cast_eq]
  after_reads_simp
  rfl

/-! ## The blocks of a grid point -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 16, t.val % 16, 0] := (by decide +kernel : ∀ t : Fin grid0.N, _)
theorem coord1 : ∀ t : Fin cfg0.N, ((grid0.coords t) 1).val = t.val % 16 := (by decide +kernel : ∀ t : Fin grid0.N, _)

/-- The head and a query of a grid point. -/
abbrev hd (t : Fin cfg0.N) : Fin 8 := ⟨t.val / 16, Nat.div_lt_of_lt_mul t.isLt⟩
abbrev pos (t : Fin cfg0.N) (r : Fin 512) : Fin 8192 := ⟨512 * (t.val % 16) + r.val, by omega⟩

variable (t : Fin cfg0.N)

theorem blk0 (r : Fin 512) (d : Fin 64) : iblk m c 0 t (ix3 (0 : Fin 1) r d) = argQ m c (ix3 (hd t) (pos t r) d) := by
  blk_simp [iblk]
  rw [V_v0]
  refine congrArg (argQ m c) ?_
  blk_ext [idx0]

theorem blk1 (s : Fin 8192) (d : Fin 64) : iblk m c 1 t (ix3 (0 : Fin 1) s d) = argK m c (ix3 (hd t) s d) := by
  blk_simp [iblk]
  rw [V_v1]
  refine congrArg (argK m c) ?_
  blk_ext [idx1]

theorem blk2 (s : Fin 8192) (d : Fin 64) : iblk m c 2 t (ix3 (0 : Fin 1) s d) = argV m c (ix3 (hd t) s d) := by
  blk_simp [iblk]
  rw [V_v2]
  refine congrArg (argV m c) ?_
  blk_ext [idx2]

theorem blk3 (a e : Fin 512) : iblk m c 3 t (ix2 a e) = lower (ix2 a e) := by
  blk_simp [iblk]
  rw [V_v6]
  refine congrArg lower ?_
  blk_ext [idx3]

/-- The arguments' head `h`, but for the values. -/
abbrev headAt (h : Fin 8) : Head := Lines.head (argQ m c) (argK m c) (argV m c) (argV m c) h

/-- The values of head `h`. -/
def valuesAt (h : Fin 8) (s : ℕ) (d : Fin 64) : EReal := if hs : s < 8192 then argV m c (ix3 h ⟨s, hs⟩ d) else 0

theorem valuesAt_eq (h : Fin 8) (s : Fin 8192) (d : Fin 64) : valuesAt m c h s.val d = argV m c (ix3 h s d) := dif_pos s.isLt

/-- The queries and the keys are real. -/
structure Args : Prop where
  q : Lines.IsReal (argQ m c)
  k : Lines.IsReal (argK m c)

variable {m c} (hA : Args m c)
include hA

theorem data_real : DataIs (headAt m c (hd t)) (valuesAt m c (hd t)) (grid0.coords t 1).val ⟨iblk m c 0 t, iblk m c 1 t, iblk m c 2 t, iblk m c 3 t⟩ := by
  rw [coord1]
  exact ⟨fun r d => (blk0 m c t r d).trans (Lines.q_at hA.q (hd t) (pos t r) d),
    fun s d => (blk1 m c t s d).trans (Lines.k_at hA.k (hd t) s d),
    fun s d => (blk2 m c t s d).trans (valuesAt_eq m c (hd t) s d).symm,
    fun a e => (blk3 m c t a e).trans (lower_at a e)⟩

/-! ## The result -/

theorem mix_real (h : Fin 8) (t : Fin 8192) (d : Fin 64) : Lines.out (argQ m c) (argK m c) (argV m c) (ix3 h t d)
    = ∑ j ∈ Ico 0 8192, ((W (headAt m c h) 8192 t.val j : ℝ) : EReal) * valuesAt m c h j d := by
  rw [Nat.Ico_zero_eq_range, ← Fin.sum_univ_eq_sum_range]
  refine (Lines.mix_at _ (argV m c) h t d).trans (sum_congr rfl fun s _ => ?_)
  rw [Lines.ws_at (v := argV m c) (g := argV m c) hA.q hA.k h t s, valuesAt_eq]

theorem out_real (r : Fin 512) (d : Fin 64) : outsAt0 m c t (ix3 (0 : Fin 1) r d)
    = Lines.out (argQ m c) (argK m c) (argV m c) (ix3 (hd t) (pos t r) d) := by
  rw [mix_real hA]
  unfold outsAt0
  rw [out_eq]
  have h := (lefts_real (data_real t hA) _ le_rfl).out r d
  rw [Nat.sub_self, Nat.mul_zero] at h
  refine Eq.trans ?_ (h.trans ?_)
  · pointwise
  · rw [coord1]

theorem final : (dats m 0 c).arrAt 4 cfg0.N = Lines.out (argQ m c) (argK m c) (argV m c) := by
  refine (dats m 0 c).arrAt_eq_of_covers 4 _ (by decide +kernel) fun t hf y => ?_
  blk_simp
  rw [after0_4]
  obtain ⟨r, d, rfl⟩ : ∃ (r : Fin 512) (d : Fin 64), y = ix3 (0 : Fin 1) r d := ⟨y 1, y 2, funext fun a => by
    match a with
    | ⟨0, _⟩ => exact Fin.eq_zero _
    | ⟨1, _⟩ => rfl
    | ⟨2, _⟩ => rfl⟩
  refine (out_real t hA r d).trans (congrArg (Lines.out (argQ m c) (argK m c) (argV m c)) ?_)
  blk_ext [idx4]

end Given

end Cert.AttentionIdeal

/-! ## The reference -/

namespace Cert.AttentionLinesIdeal

open Idealize.ShloMosaic Idealize.ShloMosaic.TcCoe Idealize.SL.Sem Cert.AttentionLinesIdeal.Gen Cert.AttentionLinesIdeal.Value

theorem out_eq (m : (ℓ : Loc nD τ sig) → Buf (Elt Ideal) ℓ) (c : Dev nD) : res_out0 m c
    = Lines.out (m ((c.tc : Thread nD τ).loc main_arg0)) (m ((c.tc : Thread nD τ).loc main_arg1)) (m ((c.tc : Thread nD τ).loc main_arg2)) := rfl

end Cert.AttentionLinesIdeal

/-! ## The claims -/

namespace Cert.Proof

open Idealize.ShloMosaic Idealize.ShloMosaic.TcCoe Idealize.SL.Sem

instance facts_finite_scores : Cert.Pre_finite_scores.Facts := ⟨by decide⟩

theorem attention_args {m} (h : Cert.Pre_AttentionIdeal_finite_scores m) (c : Dev Cert.AttentionIdeal.nD) : Cert.AttentionIdeal.Args m c :=
  ⟨isReal_of_finite (h c).1, isReal_of_finite (h c).2⟩

/-- The reference leaves its arguments alone and declares no semaphore. -/
theorem frame_AttentionLinesIdeal : Cert.quiescent_AttentionLinesIdeal := fun m ρ _ =>
  (θ_run Cert.AttentionLinesIdeal.defs _ _).mono
    (fun r h => ⟨fun c => (h c).2, sem_eq_zero_of_no_sems (by decide) r.2⟩)
    (Cert.AttentionLinesIdeal.Value.run m ρ)

/-- The kernel and the reference leave the same array. -/
theorem equal_Attention : Cert.algebraic_AttentionIdeal_AttentionLinesIdeal_pre_finite_scores := by
  intro m g m' g' hpre hagree
  refine ⟨fun c => Lines.out (AttentionIdeal.argQ m c) (AttentionIdeal.argK m c) (AttentionIdeal.argV m c), ?_, ?_⟩
  · exact (θ_run Cert.AttentionIdeal.defs _ _).mono
      (fun r h c => ⟨((h.1 c).1 4).trans (AttentionIdeal.final (attention_args hpre c)), h.2.1 c⟩)
      (θ_run_and (Cert.AttentionIdeal.Gen.run_main m g) (Cert.AttentionIdeal.Gen.frame m g))
  · refine (θ_run Cert.AttentionLinesIdeal.defs _ _).mono (fun r h c => ?_) (Cert.AttentionLinesIdeal.Value.run m' g')
    obtain ⟨e0, e1, e2⟩ := hagree c
    refine ⟨(h c).1.trans ((AttentionLinesIdeal.out_eq m' c).trans ?_), (h c).2⟩
    rw [e0, e1, e2]

end Cert.Proof
end
-- ==== Proof.Gate.lean ====
module

public import Idealize.ShloMosaic.Lib.Pointwise
public import Idealize.ShloMosaic.PureOps.Ideal

@[expose] public section

noncomputable section

/-! # The logistic gate of one number, infinities included -/

namespace Cert.Proof

open Idealize.ShloMosaic

/-- The gate: the logistic function of `x`. -/
def gate (x : EReal) : EReal := Ideal.div 1 (1 + Ideal.exp (-x))

theorem gate_top : gate ⊤ = 1 := by
  unfold gate
  rw [EReal.neg_top, Ideal.exp_bot, add_zero, Ideal.div, if_neg one_ne_zero, inv_one, mul_one]

theorem gate_bot : gate ⊥ = 0 := by
  unfold gate
  rw [EReal.neg_bot, Ideal.exp_top, EReal.add_top_of_ne_bot (by decide), Ideal.div, if_neg (by decide), EReal.inv_top, mul_zero]

theorem gate_coe (x : ℝ) : gate (x : EReal) = ((1 / (1 + Real.exp (-x)) : ℝ) : EReal) := by
  unfold gate
  have h : (1 + Real.exp (-x)) ≠ 0 := by positivity
  rw [← EReal.coe_neg, Ideal.exp_coe, show (1 : EReal) + (Real.exp (-x) : EReal) = ((1 + Real.exp (-x) : ℝ) : EReal) by push_cast; rfl,
    Ideal.div_coe h, one_mul]

/-- The derivative of `x * gate x` times a real number, in the two forms in which it is written: multiplied out, as the chain rule
    gives it, and with the common factor taken out. -/
theorem gate_grad (c : ℝ) (x : EReal) :
    c * gate x * (1 + x * (1 - gate x)) = c * gate x + x * c * (gate x * (1 - gate x)) := by
  have h1 : (1 : EReal) - 1 = 0 := by
    rw [← EReal.coe_one, ← EReal.coe_sub, sub_self, EReal.coe_zero]
  induction x with
  | bot => rw [gate_bot]; simp
  | top => rw [gate_top, h1]; simp
  | coe x =>
    rw [gate_coe]
    norm_cast
    ring

end Cert.Proof

end
-- ==== Proof.SwigluValue.lean ====
module

public import proofs.«01_k».proof.Proof.Gen.SwigluIdeal.Frame
public import proofs.«01_k».proof.Proof.Gen.SwigluLinesIdeal.Run
public import proofs.«01_k».proof.Proof.Gate
public import proofs.«01_k».proof.Proof.Common

@[expose] public section

set_option maxRecDepth 16384

noncomputable section

/-! # Swiglu: the activation of the feed-forward layer

A row holds its gate half, then its up half; the activation is `g * gate g * u`. -/

namespace Cert.SwigluIdeal

open Idealize.ShloMosaic Idealize.ShloMosaic.TcCoe Idealize.SL.Sem Idealize.ShloMosaic.StableHlo Cert.SwigluIdeal.Gen

/-! ## The mathematics -/

/-- The activation of a gate and an up value. -/
def act (g u : EReal) : EReal := g * Proof.gate g * u

/-- Column `q` of the gate half, in the row. -/
def left (q : Fin 2816) : Fin 5632 := ⟨q.val, by omega⟩
/-- Column `q` of the up half, in the row. -/
def right (q : Fin 2816) : Fin 5632 := ⟨2816 + q.val, by omega⟩

/-- The activations. -/
def result (x : FVec Ideal S8192x5632 .bf16) : FVec Ideal S8192x2816 .bf16 := fun i =>
  act (x (ix2 (i 0) (left (i 1)))) (x (ix2 (i 0) (right (i 1))))

/-! ## What the body computes from a point's blocks -/

theorem pay1_at (x0 x1 : Vec Ideal S512x1408 .bf16) (a : Fin 512) (b : Fin 1408) :
    k0_pay1 (F := Ideal) x0 x1 (ix2 a b) = act (x0 (ix2 a b)) (x1 (ix2 a b)) := by
  unfold k0_pay1 act Proof.gate
  pointwise
  rw [zero_sub]

/-- The body stores one whole block. -/
theorem block (x0 x1 : Vec Ideal S512x1408 .bf16) : out0_2 (F := Ideal) x0 x1 = k0_pay1 (F := Ideal) x0 x1 := by
  unfold out0_2
  rw [View.canon_cons_unit_lit, View.ld_unit_lit, View.ld_unit_lit]
  all_goals decide

/-! ## The blocks a point is given -/

variable (m : (ℓ : Loc nD τ sig) → Buf (Elt Ideal) ℓ) (c : Dev nD)

theorem pt_lt (t : Fin cfg0.N) : t.val < 32 := lt_of_lt_of_eq t.isLt N_0

theorem idx0 : ∀ t : Fin cfg0.N, win0_0.index t = ![t.val / 2, t.val % 2] := (by decide +kernel : ∀ t : Fin grid0.N, _)
theorem idx1 : ∀ t : Fin cfg0.N, win0_1.index t = ![t.val / 2, t.val % 2 + 2] := (by decide +kernel : ∀ t : Fin grid0.N, _)
theorem idx2 : ∀ t : Fin cfg0.N, win0_2.index t = ![t.val / 2, t.val % 2] := (by decide +kernel : ∀ t : Fin grid0.N, _)

abbrev X : FVec Ideal S8192x5632 .bf16 := m ((c : Thread nD τ).loc main_arg0)

/-- Row `a` of point `t`'s block of the result, in the whole result. -/
def row (t : Fin cfg0.N) (a : Fin 512) : Fin 8192 := ⟨512 * (t.val / 2) + a.val, by have := pt_lt t; omega⟩
/-- Column `b` of it. -/
def col (t : Fin cfg0.N) (b : Fin 1408) : Fin 2816 := ⟨1408 * (t.val % 2) + b.val, by omega⟩

abbrev B0 (t : Fin cfg0.N) : FVec Ideal S512x1408 .bf16 := iblk m c 0 t
abbrev B1 (t : Fin cfg0.N) : FVec Ideal S512x1408 .bf16 := iblk m c 1 t

theorem blk0 (t : Fin cfg0.N) (a : Fin 512) (b : Fin 1408) : B0 m c t (ix2 a b) = X m c (ix2 (row t a) (left (col t b))) := by
  unfold B0
  blk_simp [iblk]
  rw [V_main_arg0]
  refine congrArg (X m c) ?_
  unfold row left col
  blk_ext [idx0]

theorem blk1 (t : Fin cfg0.N) (a : Fin 512) (b : Fin 1408) : B1 m c t (ix2 a b) = X m c (ix2 (row t a) (right (col t b))) := by
  unfold B1
  blk_simp [iblk]
  rw [V_main_arg0]
  refine congrArg (X m c) ?_
  unfold row right col
  blk_ext [idx1]

theorem out_at (t : Fin cfg0.N) (a : Fin 512) (b : Fin 1408) :
    out0_2 (F := Ideal) (B0 m c t) (B1 m c t) (ix2 a b) = result (X m c) (ix2 (row t a) (col t b)) := by
  rw [block, pay1_at, blk0, blk1]
  rfl

/-! ## The whole result -/

theorem final : (dats m 0 c).arrAt 2 cfg0.N = result (X m c) := by
  refine (dats m 0 c).arrAt_eq_of_covers 2 _ (by decide +kernel) fun t hf y => ?_
  blk_simp
  rw [after0_2]
  obtain ⟨a, b, rfl⟩ := Blocks.pair 512 1408 y
  refine (out_at m c t a b).trans ?_
  refine congrArg (result (X m c)) (?_ : ix2 (row t a) (col t b) = _)
  unfold row col
  blk_ext [idx2]

end Cert.SwigluIdeal

/-! ## The reference -/

namespace Cert.SwigluLinesIdeal

open Idealize.ShloMosaic Idealize.ShloMosaic.TcCoe Cert.SwigluLinesIdeal.Gen

/-- The reference's line. -/
def lines (x : FVec Ideal S8192x5632 .bf16) : FVec Ideal S8192x2816 .bf16 :=
  truncf .bf16 (mulf (mulf (extractStridedSlice S8192x2816 ![0, 0] (extf .f32 x bitsLt_bf16_f32) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 x bitsLt_bf16_f32) slices_S8192x5632_S8192x2816_0_0)))))) (extractStridedSlice S8192x2816 ![0, 2816] (extf .f32 x bitsLt_bf16_f32) slices_S8192x5632_S8192x2816_0_2816)) bitsLt_bf16_f32

theorem lines_eq (x : FVec Ideal S8192x5632 .bf16) : lines x = SwigluIdeal.result x := by
  funext i
  obtain ⟨a, b, rfl⟩ := Blocks.pair 8192 2816 i
  refine Eq.trans (b := SwigluIdeal.act (x (ix2 a (SwigluIdeal.left b))) (x (ix2 a (SwigluIdeal.right b)))) ?_ rfl
  unfold lines SwigluIdeal.act Proof.gate SwigluIdeal.left SwigluIdeal.right
  pointwise

end Cert.SwigluLinesIdeal

/-! ## The claims -/

namespace Cert.Proof

open Idealize.ShloMosaic Idealize.ShloMosaic.TcCoe Idealize.SL.Sem

/-- The reference leaves its argument alone and declares no semaphore. -/
theorem frame_SwigluLinesIdeal : Cert.quiescent_SwigluLinesIdeal := fun m ρ _ =>
  (θ_run Cert.SwigluLinesIdeal.defs _ _).mono
    (fun r h => ⟨fun c => (h c).2, sem_eq_zero_of_no_sems (by decide) r.2⟩)
    (Cert.SwigluLinesIdeal.Value.run m ρ)

/-- The kernel and the reference leave the same array. -/
theorem equal_Swiglu : Cert.algebraic_SwigluIdeal_SwigluLinesIdeal := by
  intro m g m' g' _ hagree
  refine ⟨fun c => SwigluIdeal.result (SwigluIdeal.X m c), ?_, ?_⟩
  · exact (θ_run Cert.SwigluIdeal.defs _ _).mono (fun r h c => ⟨((h.1 c).1 2).trans (SwigluIdeal.final m c), h.2.1 c⟩)
      (θ_run_and (Cert.SwigluIdeal.Gen.run_main m g) (Cert.SwigluIdeal.Gen.frame m g))
  · refine (θ_run Cert.SwigluLinesIdeal.defs _ _).mono (fun r h c => ?_) (Cert.SwigluLinesIdeal.Value.run m' g')
    have e0 := hagree c
    refine ⟨(h c).1.trans ((SwigluLinesIdeal.lines_eq _).trans ?_), (h c).2⟩
    rw [e0]

end Cert.Proof

end
-- ==== Proof.GradSwigluValue.lean ====
module

public import proofs.«01_k».proof.Proof.Gen.GradSwigluIdeal.Frame
public import proofs.«01_k».proof.Proof.Gen.GradSwigluLinesIdeal.Run
public import proofs.«01_k».proof.Proof.Gate
public import proofs.«01_k».proof.Proof.Equal
public import proofs.«01_k».proof.Proof.Common
public import Idealize.ShloMosaic.Lib.KernelVsHost

@[expose] public section

set_option maxRecDepth 16384

noncomputable section

/-! # GradSwiglu: the gradient of the feed-forward layer's activation

A row holds its gate half, then its up half; with `d` the gradient of the activation `g * gate g * u`, the gradient of the gate
is `d * u * gate g * (1 + g * (1 - gate g))` and that of the up value `d * g * gate g`. The chain rule, which the reference
follows, gives the first multiplied out: the two are equal as `d * u` is a real number. -/

namespace Cert.GradSwigluIdeal

open Idealize.ShloMosaic Idealize.ShloMosaic.TcCoe Idealize.SL.Sem Idealize.ShloMosaic.StableHlo Cert.GradSwigluIdeal.Gen

/-! ## The mathematics -/

/-- The gradient of the gate value. -/
def dgate (g u d : EReal) : EReal := d * u * Proof.gate g * (1 + g * (1 - Proof.gate g))

/-- The gradient of the up value. -/
def dup (g d : EReal) : EReal := d * g * Proof.gate g

/-- Column `q` of the gate half, in the row. -/
def left (q : Fin 2816) : Fin 5632 := ⟨q.val, by omega⟩
/-- Column `q` of the up half, in the row. -/
def right (q : Fin 2816) : Fin 5632 := ⟨2816 + q.val, by omega⟩

/-- A column of the row lies in the one half or in the other. -/
theorem halves (b : Fin 5632) : (∃ q, b = left q) ∨ ∃ q, b = right q := by
  by_cases h : b.val < 2816
  · exact .inl ⟨⟨b.val, h⟩, rfl⟩
  · exact .inr ⟨⟨b.val - 2816, by omega⟩, Fin.ext (show b.val = 2816 + (b.val - 2816) by omega)⟩

/-- Element `(p, b)` of the gradient. -/
def elem (x : FVec Ideal S8192x5632 .bf16) (d : FVec Ideal S8192x2816 .bf16) (p : Fin 8192) (b : Fin 5632) : EReal :=
  if h : b.val < 2816 then dgate (x (ix2 p b)) (x (ix2 p (right ⟨b.val, h⟩))) (d (ix2 p ⟨b.val, h⟩))
  else dup (x (ix2 p (left ⟨b.val - 2816, by omega⟩))) (d (ix2 p ⟨b.val - 2816, by omega⟩))

theorem elem_left (x : FVec Ideal S8192x5632 .bf16) (d : FVec Ideal S8192x2816 .bf16) (p : Fin 8192) (q : Fin 2816) :
    elem x d p (left q) = dgate (x (ix2 p (left q))) (x (ix2 p (right q))) (d (ix2 p q)) := dif_pos q.isLt

theorem elem_right (x : FVec Ideal S8192x5632 .bf16) (d : FVec Ideal S8192x2816 .bf16) (p : Fin 8192) (q : Fin 2816) :
    elem x d p (right q) = dup (x (ix2 p (left q))) (d (ix2 p q)) := by
  have e : (⟨(right q).val - 2816, by have := q.isLt; show 2816 + q.val - 2816 < 2816; omega⟩ : Fin 2816) = q :=
    Fin.ext (show 2816 + q.val - 2816 = q.val by omega)
  refine (dif_neg (show ¬ 2816 + q.val < 2816 by omega)).trans ?_
  rw [e]

/-- The gradient. -/
def result (x : FVec Ideal S8192x5632 .bf16) (d : FVec Ideal S8192x2816 .bf16) : FVec Ideal S8192x5632 .bf16 := fun i =>
  elem x d (i 0) (i 1)

/-! ## What the body computes from a point's blocks -/

theorem pay4_at (g u d : Vec Ideal S512x2816 .bf16) (a : Fin 512) (b : Fin 2816) :
    k0_pay4 (F := Ideal) g u d (ix2 a b) = dgate (g (ix2 a b)) (u (ix2 a b)) (d (ix2 a b)) := by
  unfold k0_pay4 k0_pay3 k0_pay2 k0_pay1 dgate Proof.gate
  pointwise
  rw [zero_sub]

theorem pay5_at (g d : Vec Ideal S512x2816 .bf16) (a : Fin 512) (b : Fin 2816) :
    k0_pay5 (F := Ideal) g d (ix2 a b) = dup (g (ix2 a b)) (d (ix2 a b)) := by
  unfold k0_pay5 k0_pay3 k0_pay2 k0_pay1 dup Proof.gate
  pointwise
  rw [zero_sub]

/-- A load of the gate half. -/
theorem ld_left (x0 : Vec Ideal S512x5632 .bf16) (a : Fin 512) (b : Fin 2816) : View.ld x0 r0_0 (ix2 a b) = x0 (ix2 a (left b)) := by
  rw [View.ld_unit]
  unfold left
  pointwise

/-- A load of the up half. -/
theorem ld_right (x0 : Vec Ideal S512x5632 .bf16) (a : Fin 512) (b : Fin 2816) : View.ld x0 r0_1 (ix2 a b) = x0 (ix2 a (right b)) := by
  rw [View.ld_unit]
  unfold right
  pointwise

/-- A load of the whole of the activation's gradient. -/
theorem ld_all (x1 : Vec Ideal S512x2816 .bf16) : View.ld x1 r0_2 = x1 := by
  rw [View.ld_unit_lit]
  all_goals decide

/-- The two halves stored are those of an array that agrees with each. -/
theorem block (x0 : Vec Ideal S512x5632 .bf16) (x1 : Vec Ideal S512x2816 .bf16) (G : Fin 512 → Fin 5632 → EReal)
    (hl : ∀ a b, G a (left b) = dgate (x0 (ix2 a (left b))) (x0 (ix2 a (right b))) (x1 (ix2 a b)))
    (hr : ∀ a b, G a (right b) = dup (x0 (ix2 a (left b))) (x1 (ix2 a b))) (y : S512x5632.Idx) :
    out0_2 (F := Ideal) x0 x1 y = G (y 0) (y 1) := by
  unfold out0_2
  refine View.canon_apply_of_pieces (fun y : S512x5632.Idx => G (y 0) (y 1)) _ ?_ y (cover0_2 (F := Ideal) _ _ y)
  intro p hp
  rw [List.mem_cons, List.mem_singleton] at hp
  rcases hp with rfl | rfl
  · intro i
    obtain ⟨a, b, rfl⟩ := Blocks.pair 512 2816 i
    have e : r0_1.emb (ix2 a b) = (ix2 a (right b) : S512x5632.Idx) := funext fun i => by
      match i with
      | ⟨0, _⟩ => exact Fin.ext (show 0 + 1 * a.val = a.val by omega)
      | ⟨1, _⟩ => exact Fin.ext (show 2816 + 1 * b.val = 2816 + b.val by omega)
    refine (pay5_at _ _ a b).trans ?_
    rw [ld_left, ld_all, e]
    exact (hr a b).symm
  · intro i
    obtain ⟨a, b, rfl⟩ := Blocks.pair 512 2816 i
    have e : r0_0.emb (ix2 a b) = (ix2 a (left b) : S512x5632.Idx) := funext fun i => by
      match i with
      | ⟨0, _⟩ => exact Fin.ext (show 0 + 1 * a.val = a.val by omega)
      | ⟨1, _⟩ => exact Fin.ext (show 0 + 1 * b.val = b.val by omega)
    refine (pay4_at _ _ _ a b).trans ?_
    rw [ld_left, ld_right, ld_all, e]
    exact (hl a b).symm

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

abbrev X : FVec Ideal S8192x5632 .bf16 := m ((c : Thread nD τ).loc main_arg0)
abbrev D : FVec Ideal S8192x2816 .bf16 := m ((c : Thread nD τ).loc main_arg1)

/-- Row `a` of point `t`'s block, in the whole. -/
def row (t : Fin cfg0.N) (a : Fin 512) : Fin 8192 := ⟨512 * t.val + a.val, by have := pt_lt t; omega⟩

abbrev B0 (t : Fin cfg0.N) : FVec Ideal S512x5632 .bf16 := iblk m c 0 t
abbrev B1 (t : Fin cfg0.N) : FVec Ideal S512x2816 .bf16 := iblk m c 1 t

theorem blk0 (t : Fin cfg0.N) (a : Fin 512) (b : Fin 5632) : B0 m c t (ix2 a b) = X m c (ix2 (row t a) b) := by
  unfold B0
  blk_simp [iblk]
  rw [V_main_arg0]
  refine congrArg (X m c) ?_
  unfold row
  blk_ext [idx0]

theorem blk1 (t : Fin cfg0.N) (a : Fin 512) (b : Fin 2816) : B1 m c t (ix2 a b) = D m c (ix2 (row t a) b) := by
  unfold B1
  blk_simp [iblk]
  rw [V_main_arg1]
  refine congrArg (D m c) ?_
  unfold row
  blk_ext [idx1]

theorem out_at (t : Fin cfg0.N) (a : Fin 512) (b : Fin 5632) :
    out0_2 (F := Ideal) (B0 m c t) (B1 m c t) (ix2 a b) = result (X m c) (D m c) (ix2 (row t a) b) := by
  refine block _ _ (fun a b => elem (X m c) (D m c) (row t a) b) (fun a b => ?_) (fun a b => ?_) (ix2 a b)
  · rw [elem_left, blk0, blk0, blk1]
  · rw [elem_right, blk0, blk1]

/-! ## The whole result -/

theorem final : (dats m 0 c).arrAt 2 cfg0.N = result (X m c) (D m c) := by
  refine (dats m 0 c).arrAt_eq_of_covers 2 _ (by decide +kernel) fun t hf y => ?_
  blk_simp
  rw [after0_2]
  obtain ⟨a, b, rfl⟩ := Blocks.pair 512 5632 y
  refine (out_at m c t a b).trans ?_
  refine congrArg (result (X m c) (D m c)) (?_ : ix2 (row t a) b = _)
  unfold row
  blk_ext [idx2]

end Cert.GradSwigluIdeal

/-! ## The reference -/

namespace Cert.GradSwigluLinesIdeal

open Idealize.ShloMosaic Idealize.ShloMosaic.TcCoe Cert.GradSwigluLinesIdeal.Gen

/-- The gradient of the up half. -/
def upHalf (x : FVec Ideal S8192x5632 .bf16) (d : FVec Ideal S8192x2816 .bf16) : FVec Ideal S8192x2816 .f32 :=
  mulf (mulf (extractStridedSlice S8192x2816 ![0, 0] (extf .f32 x bitsLt_bf16_f32) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 x bitsLt_bf16_f32) slices_S8192x5632_S8192x2816_0_0)))))) (extf .f32 d bitsLt_bf16_f32)

/-- The gradient of the gate half. -/
def gateHalf (x : FVec Ideal S8192x5632 .bf16) (d : FVec Ideal S8192x2816 .bf16) : FVec Ideal S8192x2816 .f32 :=
  addf (mulf (mulf (extf .f32 d bitsLt_bf16_f32) (extractStridedSlice S8192x2816 ![0, 2816] (extf .f32 x bitsLt_bf16_f32) slices_S8192x5632_S8192x2816_0_2816)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 x bitsLt_bf16_f32) slices_S8192x5632_S8192x2816_0_0)))))) (mulf (mulf (extractStridedSlice S8192x2816 ![0, 0] (extf .f32 x bitsLt_bf16_f32) slices_S8192x5632_S8192x2816_0_0) (mulf (extf .f32 d bitsLt_bf16_f32) (extractStridedSlice S8192x2816 ![0, 2816] (extf .f32 x bitsLt_bf16_f32) slices_S8192x5632_S8192x2816_0_2816))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 x bitsLt_bf16_f32) slices_S8192x5632_S8192x2816_0_0))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (extf .f32 x bitsLt_bf16_f32) slices_S8192x5632_S8192x2816_0_0))))))))

/-- The reference's line: each half's gradient padded to the row, and their sum. -/
def lines (x : FVec Ideal S8192x5632 .bf16) (d : FVec Ideal S8192x2816 .bf16) : FVec Ideal S8192x5632 .bf16 :=
  truncf .bf16 (addf (pad S8192x5632 ![0, 2816] ![0, 0] ![0, 0] (upHalf x d) (constant S_ .f32 0x00000000#32) pads_S8192x2816_S8192x5632_000_281600 h_S_) (pad S8192x5632 ![0, 0] ![0, 2816] ![0, 0] (gateHalf x d) (constant S_ .f32 0x00000000#32) pads_S8192x2816_S8192x5632_000_028160 h_S_)) bitsLt_bf16_f32

theorem upHalf_at (x : FVec Ideal S8192x5632 .bf16) (d : FVec Ideal S8192x2816 .bf16) (a : Fin 8192) (q : Fin 2816) :
    upHalf x d (ix2 a q) = GradSwigluIdeal.dup (x (ix2 a (GradSwigluIdeal.left q))) (d (ix2 a q)) := by
  unfold GradSwigluIdeal.dup
  refine Eq.trans (b := x (ix2 a (GradSwigluIdeal.left q)) * Proof.gate (x (ix2 a (GradSwigluIdeal.left q))) * d (ix2 a q)) ?_ ?_
  · unfold upHalf Proof.gate GradSwigluIdeal.left
    pointwise
  · rw [mul_comm, mul_assoc]

theorem gateHalf_at (x : FVec Ideal S8192x5632 .bf16) (d : FVec Ideal S8192x2816 .bf16) (a : Fin 8192) (q : Fin 2816)
    (g u v : EReal) (hg : x (ix2 a (GradSwigluIdeal.left q)) = g) (hu : x (ix2 a (GradSwigluIdeal.right q)) = u) (hv : d (ix2 a q) = v) :
    gateHalf x d (ix2 a q) = v * u * Proof.gate g + g * (v * u) * (Proof.gate g * (1 - Proof.gate g)) := by
  subst hg hu hv
  unfold gateHalf Proof.gate GradSwigluIdeal.left GradSwigluIdeal.right
  pointwise

theorem sum_at (x y : FVec Ideal S8192x5632 .f32) (i : S8192x5632.Idx) : addf x y i = (x i + y i : EReal) := rfl

/-- Padding after the gate half: the half, then zeros. -/
theorem after_left (y : FVec Ideal S8192x2816 .f32) (a : Fin 8192) (q : Fin 2816) :
    pad S8192x5632 ![0, 0] ![0, 2816] ![0, 0] y (constant S_ .f32 0x00000000#32) pads_S8192x2816_S8192x5632_000_028160 h_S_
      (ix2 a (GradSwigluIdeal.left q)) = y (ix2 a q) :=
  pad_apply_of_inside _ _ _ _ _ _ _ _ (ix2 a q) fun i => by
    match i with
    | ⟨0, _⟩ => show a.val = 0 + a.val * 1; omega
    | ⟨1, _⟩ => show q.val = 0 + q.val * 1; omega

theorem after_right (y : FVec Ideal S8192x2816 .f32) (a : Fin 8192) (q : Fin 2816) :
    pad S8192x5632 ![0, 0] ![0, 2816] ![0, 0] y (constant S_ .f32 0x00000000#32) pads_S8192x2816_S8192x5632_000_028160 h_S_
      (ix2 a (GradSwigluIdeal.right q)) = (0 : EReal) := by
  refine (pad_apply_of_not_inside _ _ _ _ _ _ _ _ (1 : Fin 2) ?_).trans Ideal.ofBits_zero_f32
  intro h
  have : (2816 + q.val - 0) / 1 < 2816 := h.2.2
  omega

/-- Padding before the up half: zeros, then the half. -/
theorem before_left (y : FVec Ideal S8192x2816 .f32) (a : Fin 8192) (q : Fin 2816) :
    pad S8192x5632 ![0, 2816] ![0, 0] ![0, 0] y (constant S_ .f32 0x00000000#32) pads_S8192x2816_S8192x5632_000_281600 h_S_
      (ix2 a (GradSwigluIdeal.left q)) = (0 : EReal) := by
  refine (pad_apply_of_not_inside _ _ _ _ _ _ _ _ (1 : Fin 2) ?_).trans Ideal.ofBits_zero_f32
  intro h
  have : 2816 ≤ q.val := h.1
  omega

theorem before_right (y : FVec Ideal S8192x2816 .f32) (a : Fin 8192) (q : Fin 2816) :
    pad S8192x5632 ![0, 2816] ![0, 0] ![0, 0] y (constant S_ .f32 0x00000000#32) pads_S8192x2816_S8192x5632_000_281600 h_S_
      (ix2 a (GradSwigluIdeal.right q)) = y (ix2 a q) :=
  pad_apply_of_inside _ _ _ _ _ _ _ _ (ix2 a q) fun i => by
    match i with
    | ⟨0, _⟩ => show a.val = 0 + a.val * 1; omega
    | ⟨1, _⟩ => show 2816 + q.val = 2816 + q.val * 1; omega

/-- An element of the sum. -/
theorem lines_at (x : FVec Ideal S8192x5632 .bf16) (d : FVec Ideal S8192x2816 .bf16) (i : S8192x5632.Idx) :
    lines x d i = addf (pad S8192x5632 ![0, 2816] ![0, 0] ![0, 0] (upHalf x d) (constant S_ .f32 0x00000000#32) pads_S8192x2816_S8192x5632_000_281600 h_S_)
      (pad S8192x5632 ![0, 0] ![0, 2816] ![0, 0] (gateHalf x d) (constant S_ .f32 0x00000000#32) pads_S8192x2816_S8192x5632_000_028160 h_S_) i := rfl

theorem lines_eq (x : FVec Ideal S8192x5632 .bf16) (d : FVec Ideal S8192x2816 .bf16)
    (hu : ∀ p q, ∃ r : ℝ, x (ix2 p (GradSwigluIdeal.right q)) = r) (hd : ∀ p q, ∃ r : ℝ, d (ix2 p q) = r) :
    lines x d = GradSwigluIdeal.result x d := by
  funext i
  obtain ⟨a, b, rfl⟩ := Blocks.pair 8192 5632 i
  show lines x d (ix2 a b) = GradSwigluIdeal.elem x d a b
  rcases GradSwigluIdeal.halves b with ⟨q, rfl⟩ | ⟨q, rfl⟩
  · rw [GradSwigluIdeal.elem_left]
    obtain ⟨u, hu⟩ := hu a q
    obtain ⟨v, hd⟩ := hd a q
    rw [lines_at, sum_at, before_left, after_left, zero_add, gateHalf_at x d a q _ _ _ rfl hu hd]
    unfold GradSwigluIdeal.dgate
    rw [hu, hd, ← EReal.coe_mul, Proof.gate_grad]
  · rw [GradSwigluIdeal.elem_right, lines_at, sum_at, before_right, after_right, add_zero, upHalf_at]

end Cert.GradSwigluLinesIdeal

/-! ## The claims -/

namespace Cert.Proof

open Idealize.ShloMosaic Idealize.ShloMosaic.TcCoe Idealize.SL.Sem

instance facts_finite_up : Cert.Pre_finite_up.Facts := ⟨by decide, by decide⟩

theorem real_of_olt {x : EReal} (h : Ideal.cmp .olt (max x (-x)) ⊤ = 1#1) : ∃ r : ℝ, x = r := by
  refine ⟨_, real_of_lt (x := x) ?_⟩
  by_contra hn
  simp only [Ideal.cmp, hn] at h
  exact absurd h (by decide)

/-- Under the precondition the gradient of the activation and the up half are real numbers. -/
theorem gradSwiglu_args {m} (h : Cert.Pre_GradSwigluIdeal_finite_up m) (c : Dev Cert.GradSwigluIdeal.nD) :
    (∀ p q, ∃ r : ℝ, GradSwigluIdeal.X m c (ix2 p (GradSwigluIdeal.right q)) = r) ∧ ∀ p q, ∃ r : ℝ, GradSwigluIdeal.D m c (ix2 p q) = r := by
  have ht : Ideal.ofBits .bf16 0x7F80#16 = (⊤ : EReal) := by simp [Ideal.ofBits, Ideal.ieee]
  have e : ∀ (p : Fin 8192) (q : Fin 2816), (extractStridedSlice Cert.Pre_finite_up.S8192x2816 ![0, 2816] (GradSwigluIdeal.X m c)
      Cert.Pre_finite_up.Facts.slices_S8192x5632_S8192x2816_0_2816 : FVec Ideal _ .bf16) (ix2 p q) = GradSwigluIdeal.X m c (ix2 p (GradSwigluIdeal.right q)) := fun p q => by
    unfold GradSwigluIdeal.right
    pointwise
  refine ⟨fun p q => real_of_olt ?_, fun p q => real_of_olt ?_⟩
  · have := congrFun (h c).1 (ix2 p q)
    rw [← ht, ← e]
    exact this
  · have := congrFun (h c).2 (ix2 p q)
    rw [← ht]
    exact this

/-- The reference leaves its arguments alone and declares no semaphore. -/
theorem frame_GradSwigluLinesIdeal : Cert.quiescent_GradSwigluLinesIdeal := fun m ρ _ =>
  (θ_run Cert.GradSwigluLinesIdeal.defs _ _).mono
    (fun r h => ⟨fun c => (h c).2, sem_eq_zero_of_no_sems (by decide) r.2⟩)
    (Cert.GradSwigluLinesIdeal.Value.run m ρ)

/-- The kernel and the reference leave the same array. -/
theorem equal_GradSwiglu : Cert.algebraic_GradSwigluIdeal_GradSwigluLinesIdeal_pre_finite_up := by
  intro m g m' g' hpre hagree
  refine ⟨fun c => GradSwigluIdeal.result (GradSwigluIdeal.X m c) (GradSwigluIdeal.D m c), ?_, ?_⟩
  · exact (θ_run Cert.GradSwigluIdeal.defs _ _).mono (fun r h c => ⟨((h.1 c).1 2).trans (GradSwigluIdeal.final m c), h.2.1 c⟩)
      (θ_run_and (Cert.GradSwigluIdeal.Gen.run_main m g) (Cert.GradSwigluIdeal.Gen.frame m g))
  · refine (θ_run Cert.GradSwigluLinesIdeal.defs _ _).mono (fun r h c => ?_) (Cert.GradSwigluLinesIdeal.Value.run m' g')
    obtain ⟨e0, e1⟩ := hagree c
    obtain ⟨hu, hd⟩ := gradSwiglu_args hpre c
    refine ⟨(h c).1.trans ?_, (h c).2⟩
    rw [e0, e1]
    exact GradSwigluLinesIdeal.lines_eq _ _ hu hd

end Cert.Proof

end
-- ==== Proof.Branches.lean ====
module

public import Idealize.ShloMosaic.Lib.Pointwise
public import Idealize.ShloMosaic.Lib.Pipeline.ValueKit.Geometry
public import proofs.«01_k».proof.Proof.Gate

@[expose] public section

set_option maxRecDepth 16384

noncomputable section

/-! # The three branches of a trunk layer, projected and gated

Branch `n` of a row has 512 numbers, which its own matrix takes to 1024; each of these has a gate of its own, whose argument stands
in column `4096 + 1024 n + d` of the trunk's projection, before the bias `1024 n + d`. -/

namespace Cert.Branches

open Idealize.ShloMosaic

/-- Column `d` of branch `n` among the 3072 gates. -/
def col (n : Fin 3) (d : Fin 1024) : Fin 3072 := ⟨n.val * 1024 + d.val, by omega⟩

/-- The same column in the trunk's projection. -/
def at4096 (j : Fin 3072) : Fin 7168 := ⟨4096 + j.val, by omega⟩

/-- The three branches, by number. -/
def pick {α : Type} (a b c : α) (n : Fin 3) : α := match n with
  | ⟨0, _⟩ => a
  | ⟨1, _⟩ => b
  | ⟨2, _⟩ => c

/-- A sum over the branches, as it is added up. -/
theorem sum3 (f : Fin 3 → EReal) : ∑ n, f n = f ⟨0, by decide⟩ + f ⟨1, by decide⟩ + f ⟨2, by decide⟩ := Fin.sum_univ_three f

/-- Head of column `k` of the third branch, eight heads of 64. -/
def head (k : Fin 512) : Fin 8 := ⟨k.val / 64, by omega⟩
/-- Its column within the head. -/
def lane (k : Fin 512) : Fin 64 := ⟨k.val % 64, by omega⟩

/-- Column `e` of head `h` among the third branch's 512. -/
def beside (h : Fin 8) (e : Fin 64) : Fin 512 := ⟨64 * h.val + e.val, by omega⟩

/-- Branch of one of the 3072 gates. -/
def branch (j : Fin 3072) : Fin 3 := ⟨j.val / 1024, by omega⟩
/-- Its column within the branch. -/
def within (j : Fin 3072) : Fin 1024 := ⟨j.val % 1024, by omega⟩

theorem branch_col (n : Fin 3) (d : Fin 1024) : branch (col n d) = n := Fin.ext (show (n.val * 1024 + d.val) / 1024 = n.val by omega)
theorem within_col (n : Fin 3) (d : Fin 1024) : within (col n d) = d := Fin.ext (show (n.val * 1024 + d.val) % 1024 = d.val by omega)
theorem col_branch (j : Fin 3072) : col (branch j) (within j) = j := Fin.ext (show j.val / 1024 * 1024 + j.val % 1024 = j.val by omega)

end Cert.Branches

end
-- ==== Proof.MergeValue.lean ====
module

public import proofs.«01_k».proof.Proof.Gen.MergeIdeal.Frame
public import proofs.«01_k».proof.Proof.Gen.MergeLinesIdeal.Run
public import proofs.«01_k».proof.Proof.Branches
public import proofs.«01_k».proof.Proof.Common
public import Idealize.ShloMosaic.Lib.VecWindow

@[expose] public section

set_option maxRecDepth 16384

noncomputable section

/-! # Merge: the gated sum of the three branches

The third branch arrives as eight heads, which the body lays side by side, writes out, and reads back as one operand. -/

namespace Cert.MergeIdeal

open Idealize.ShloMosaic Idealize.ShloMosaic.TcCoe Idealize.SL.Sem Idealize.ShloMosaic.StableHlo Cert.MergeIdeal.Gen
open Cert.Branches

/-! ## The mathematics -/

/-- The heads side by side. -/
def joined {r : ℕ} (o : FVec Ideal ⟨3, ![8, r, 64]⟩ .f32) : FVec Ideal ⟨2, ![r, 512]⟩ .bf16 := fun i =>
  o (ix3 (head (i 1)) (i 0) (lane (i 1)))

/-- Element `(s, d)` of the merge, `g n` being the gates' arguments before the bias. -/
def elem {r : ℕ} (ya yb yc : FVec Ideal ⟨2, ![r, 512]⟩ .bf16) (wb : FVec Ideal S3x512x1024 .bf16) (g : Fin 3 → EReal) (b : FVec Ideal S1x3072 .f32)
    (s : Fin r) (d : Fin 1024) : EReal :=
  ∑ n, Proof.gate (g n + b (ix2 (0 : Fin 1) (col n d))) * ∑ k, pick ya yb yc n (ix2 s k) * wb (ix3 n k d)

/-- The merge. -/
def result (ya yb yc : FVec Ideal S8192x512 .bf16) (wb : FVec Ideal S3x512x1024 .bf16) (P : FVec Ideal S8192x7168 .bf16) (b : FVec Ideal S1x3072 .f32) :
    FVec Ideal S8192x1024 .bf16 := fun i =>
  elem ya yb yc wb (fun n => P (ix2 (i 0) (at4096 (col n (i 1))))) b (i 0) (i 1)

/-! ## What the body computes from a point's blocks -/

theorem pay9_at (y : Vec Ideal S512x512 .bf16) (w : Vec Ideal S1x512x1024 .bf16) (g : Vec Ideal S512x1024 .bf16) (b : Vec Ideal S1x1024 .f32)
    (a : Fin 512) (d : Fin 1024) : k0_pay9 (F := Ideal) y w g b (ix2 a d)
      = Proof.gate (g (ix2 a d) + b (ix2 (0 : Fin 1) d)) * ∑ k : Fin 512, y (ix2 a k) * w (ix3 (0 : Fin 1) k d) := by
  unfold k0_pay9 Proof.gate
  pointwise [dot_S512x512_S512x1024_S512x1024_1_0_0_1_n_n]
  rw [zero_sub]

theorem pay10_at (z : FVec Ideal S512x1024 .f32) (y : Vec Ideal S512x512 .bf16) (w : Vec Ideal S1x512x1024 .bf16) (g : Vec Ideal S512x1024 .bf16) (b : Vec Ideal S1x1024 .f32)
    (y' : Vec Ideal S512x512 .bf16) (w' : Vec Ideal S1x512x1024 .bf16) (g' : Vec Ideal S512x1024 .bf16) (b' : Vec Ideal S1x1024 .f32)
    (a : Fin 512) (d : Fin 1024) : k0_pay10 (F := Ideal) z y w g b y' w' g' b' (ix2 a d)
      = z (ix2 a d) + Proof.gate (g (ix2 a d) + b (ix2 (0 : Fin 1) d)) * (∑ k : Fin 512, y (ix2 a k) * w (ix3 (0 : Fin 1) k d))
        + Proof.gate (g' (ix2 a d) + b' (ix2 (0 : Fin 1) d)) * ∑ k : Fin 512, y' (ix2 a k) * w' (ix3 (0 : Fin 1) k d) := by
  unfold k0_pay10 Proof.gate
  pointwise [dot_S512x512_S512x1024_S512x1024_1_0_0_1_n_n]
  rw [zero_sub, zero_sub]

/-- A head as the body casts it. -/
theorem pay1_at (o : Vec Ideal S8x512x64 .f32) (h : ℕ) (hh : h < 8) (inb : ∀ a, (![h, 0, 0] : Fin 3 → ℕ) a + S1x512x64.size a ≤ S8x512x64.size a)
    (a : Fin 512) (e : Fin 64) :
    k0_pay1 (F := Ideal) (View.ld o (Rect.unit (s := S8x512x64) ![h, 0, 0] S1x512x64.size inb)) (ix2 a e) = o (ix3 ⟨h, hh⟩ a e) := by
  unfold k0_pay1
  pointwise

/-- It is its columns of the heads side by side. -/
theorem piece (o : Vec Ideal S8x512x64 .f32) (h : ℕ) (hh : h < 8) (inb : ∀ a, (![h, 0, 0] : Fin 3 → ℕ) a + S1x512x64.size a ≤ S8x512x64.size a)
    (inb' : ∀ a, (![0, 64 * h] : Fin 2 → ℕ) a + S512x64.size a ≤ S512x512.size a) (y : S512x64.Idx) :
    k0_pay1 (F := Ideal) (View.ld o (Rect.unit (s := S8x512x64) ![h, 0, 0] S1x512x64.size inb)) y
      = joined o ((Rect.unit (s := S512x512) ![0, 64 * h] S512x64.size inb').emb y) := by
  obtain ⟨a, e, rfl⟩ := Blocks.pair 512 64 y
  rw [pay1_at o h hh]
  refine congrArg o (funext fun i => ?_)
  match i with
  | ⟨0, _⟩ => exact Fin.ext (show h = (64 * h + 1 * e.val) / 64 by omega)
  | ⟨1, _⟩ => exact Fin.ext (show a.val = 0 + 1 * a.val by omega)
  | ⟨2, _⟩ => exact Fin.ext (show e.val = (64 * h + 1 * e.val) % 64 by omega)

theorem ld_w (x3 : Vec Ideal S3x512x1024 .bf16) (n : Fin 3) (inb : ∀ a, (![n.val, 0, 0] : Fin 3 → ℕ) a + S1x512x1024.size a ≤ S3x512x1024.size a) (k : Fin 512) (d : Fin 1024) :
    View.ld x3 (Rect.unit (s := S3x512x1024) ![n.val, 0, 0] S1x512x1024.size inb) (ix3 (0 : Fin 1) k d) = x3 (ix3 n k d) := by
  rw [View.ld_unit]
  refine congrArg x3 (funext fun i => ?_)
  match i with
  | ⟨0, _⟩ => exact Fin.ext (show n.val + 0 = n.val by omega)
  | ⟨1, _⟩ => exact Fin.ext (show 0 + k.val = k.val by omega)
  | ⟨2, _⟩ => exact Fin.ext (show 0 + d.val = d.val by omega)

theorem ld_b (x7 : Vec Ideal S1x3072 .f32) (n : Fin 3) (inb : ∀ a, (![0, 1024 * n.val] : Fin 2 → ℕ) a + S1x1024.size a ≤ S1x3072.size a) (d : Fin 1024) :
    View.ld x7 (Rect.unit (s := S1x3072) ![0, 1024 * n.val] S1x1024.size inb) (ix2 (0 : Fin 1) d) = x7 (ix2 (0 : Fin 1) (col n d)) := by
  rw [View.ld_unit]
  refine congrArg x7 (funext fun i => ?_)
  match i with
  | ⟨0, _⟩ => exact Fin.ext (show 0 + 0 = 0 by omega)
  | ⟨1, _⟩ => exact Fin.ext (show 1024 * n.val + d.val = n.val * 1024 + d.val by omega)

section

variable (c : Dev nD) (i : grid0.Coords)
  (a1 : Memref sig .tc .vmem S512x512 .bf16) (h1 : a1.IsWhole) (a2 : Memref sig .tc .vmem S512x512 .bf16) (h2 : a2.IsWhole)
  (a3 : Memref sig .tc .vmem S8x512x64 .f32) (h3 : a3.IsWhole) (a4 : Memref sig .tc .vmem S3x512x1024 .bf16) (h4 : a4.IsWhole)
  (a5 : Memref sig .tc .vmem S512x1024 .bf16) (h5 : a5.IsWhole) (a6 : Memref sig .tc .vmem S512x1024 .bf16) (h6 : a6.IsWhole)
  (a7 : Memref sig .tc .vmem S512x1024 .bf16) (h7 : a7.IsWhole) (a8 : Memref sig .tc .vmem S1x3072 .f32) (h8 : a8.IsWhole)
  (a9 : Memref sig .tc .vmem S512x1024 .bf16) (h9 : a9.IsWhole) (a10 : Memref sig .tc .vmem S512x512 .bf16) (h10 : a10.IsWhole)
  (x0 x1 : Vec Ideal S512x512 .bf16) (x2 : Vec Ideal S8x512x64 .f32) (x3 : Vec Ideal S3x512x1024 .bf16)
  (x4 x5 x6 : Vec Ideal S512x1024 .bf16) (x7 : Vec Ideal S1x3072 .f32)

include c i a1 h1 a2 h2 a3 h3 a4 h4 a5 h5 a6 h6 a7 h7 a8 h8 a9 h9 a10 h10 x0 x1 x2 x3 x4 x5 x6 x7

/-- The eight stores cover the third branch's block. -/
theorem covered (y : S512x512.Idx) : ∃ p ∈ kernelRun0_A.sl.H9_8 c a3 h3 x2, y ∈ p.1.set :=
  cover0_A_9 c i a1 h1 a2 h2 a3 h3 a4 h4 a5 h5 a6 h6 a7 h7 a8 h8 a9 h9 a10 h10 x0 x1 x2 x3 x4 x5 x6 x7 y

/-- The eight stores leave the heads side by side. -/
theorem stored : View.canon (kernelRun0_A.sl.H9_8 c a3 h3 x2) = joined x2 := by
  funext y
  refine View.canon_apply_of_pieces (e := .bf16) (joined x2) _ ?_ y
    (covered c i a1 h1 a2 h2 a3 h3 a4 h4 a5 h5 a6 h6 a7 h7 a8 h8 a9 h9 a10 h10 x0 x1 x2 x3 x4 x5 x6 x7 y)
  unfold kernelRun0_A.sl.H9_8 kernelRun0_A.sl.r
  simp only [View.readAt_eq_ld, h3.read_unread]
  refine List.forall_mem_cons.mpr ⟨piece x2 7 (by decide) inb_S8x512x64_S1x512x64_7_0_0 inb_S512x512_S512x64_0_448, ?_⟩
  refine List.forall_mem_cons.mpr ⟨piece x2 6 (by decide) inb_S8x512x64_S1x512x64_6_0_0 inb_S512x512_S512x64_0_384, ?_⟩
  refine List.forall_mem_cons.mpr ⟨piece x2 5 (by decide) inb_S8x512x64_S1x512x64_5_0_0 inb_S512x512_S512x64_0_320, ?_⟩
  refine List.forall_mem_cons.mpr ⟨piece x2 4 (by decide) inb_S8x512x64_S1x512x64_4_0_0 inb_S512x512_S512x64_0_256, ?_⟩
  refine List.forall_mem_cons.mpr ⟨piece x2 3 (by decide) inb_S8x512x64_S1x512x64_3_0_0 inb_S512x512_S512x64_0_192, ?_⟩
  refine List.forall_mem_cons.mpr ⟨piece x2 2 (by decide) inb_S8x512x64_S1x512x64_2_0_0 inb_S512x512_S512x64_0_128, ?_⟩
  refine List.forall_mem_cons.mpr ⟨piece x2 1 (by decide) inb_S8x512x64_S1x512x64_1_0_0 inb_S512x512_S512x64_0_64, ?_⟩
  refine List.forall_mem_cons.mpr ⟨piece x2 0 (by decide) inb_S8x512x64_S1x512x64_0_0_0 inb_S512x512_S512x64_0_0, ?_⟩
  exact fun p hp => absurd hp List.not_mem_nil

theorem out9 : out0_A_9 c i a1 h1 a2 h2 a3 h3 a4 h4 a5 h5 a6 h6 a7 h7 a8 h8 a9 h9 a10 h10 x0 x1 x2 x3 x4 x5 x6 x7 = joined x2 := by
  unfold out0_A_9
  dsimp only [kernelRun0_A]
  funext y
  rw [View.read_writes_junk_apply_eq_canon]
  exact congrFun (stored c i a1 h1 a2 h2 a3 h3 a4 h4 a5 h5 a6 h6 a7 h7 a8 h8 a9 h9 a10 h10 x0 x1 x2 x3 x4 x5 x6 x7) y

theorem out8_at (a : Fin 512) (d : Fin 1024) :
    out0_A_8 c i a1 h1 a2 h2 a3 h3 a4 h4 a5 h5 a6 h6 a7 h7 a8 h8 a9 h9 a10 h10 x0 x1 x2 x3 x4 x5 x6 x7 (ix2 a d)
      = elem x0 x1 (joined x2) x3 (fun n => pick x4 x5 x6 n (ix2 a d)) x7 a d := by
  unfold out0_A_8
  dsimp only [kernelRun0_A]
  rw [View.read_writes_full]
  unfold kernelRun0_A.sl.r_3 kernelRun0_A.sl.r_1 kernelRun0_A.sl.r_2 kernelRun0_A.sl.v69
  rw [View.readCov_eq_canon_ld _ _ _ (covered c i a1 h1 a2 h2 a3 h3 a4 h4 a5 h5 a6 h6 a7 h7 a8 h8 a9 h9 a10 h10 x0 x1 x2 x3 x4 x5 x6 x7),
    stored c i a1 h1 a2 h2 a3 h3 a4 h4 a5 h5 a6 h6 a7 h7 a8 h8 a9 h9 a10 h10 x0 x1 x2 x3 x4 x5 x6 x7]
  simp only [View.readAt_eq_ld, Memref.IsWhole.read_unread]
  rw [View.ld_unit_lit, View.ld_unit_lit, View.ld_unit_lit, View.ld_unit_lit, View.ld_unit_lit, View.ld_unit_lit]
  case _ =>
    refine (pay10_at _ _ _ _ _ _ _ _ _ a d).trans ?_
    rw [pay9_at]
    unfold elem
    rw [sum3]
    have w0 := ld_w x3 0 inb_S3x512x1024_S1x512x1024_0_0_0
    have w1 := ld_w x3 1 inb_S3x512x1024_S1x512x1024_1_0_0
    have w2 := ld_w x3 2 inb_S3x512x1024_S1x512x1024_2_0_0
    have b0 := ld_b x7 0 inb_S1x3072_S1x1024_0_0 d
    have b1 := ld_b x7 1 inb_S1x3072_S1x1024_0_1024 d
    have b2 := ld_b x7 2 inb_S1x3072_S1x1024_0_2048 d
    refine congrArg₂ _ (congrArg₂ _ (congrArg₂ _ (congrArg _ (congrArg _ b0)) ?_) (congrArg₂ _ (congrArg _ (congrArg _ b1)) ?_)) (congrArg₂ _ (congrArg _ (congrArg _ b2)) ?_)
    · exact Finset.sum_congr rfl fun k _ => congrArg _ (w0 k d)
    · exact Finset.sum_congr rfl fun k _ => congrArg _ (w1 k d)
    · exact Finset.sum_congr rfl fun k _ => congrArg _ (w2 k d)
  all_goals decide

end

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 4] := (by decide +kernel : ∀ t : Fin grid0.N, _)
theorem idx5 : ∀ t : Fin cfg0.N, win0_5.index t = ![t.val, 5] := (by decide +kernel : ∀ t : Fin grid0.N, _)
theorem idx6 : ∀ t : Fin cfg0.N, win0_6.index t = ![t.val, 6] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

abbrev Ya : FVec Ideal S8192x512 .bf16 := m ((c : Thread nD τ).loc main_arg0)
abbrev Yb : FVec Ideal S8192x512 .bf16 := m ((c : Thread nD τ).loc main_arg1)
abbrev O : FVec Ideal S8x8192x64 .f32 := m ((c : Thread nD τ).loc main_arg2)
abbrev W : FVec Ideal S3x512x1024 .bf16 := m ((c : Thread nD τ).loc main_arg3)
abbrev P : FVec Ideal S8192x7168 .bf16 := m ((c : Thread nD τ).loc main_arg4)
abbrev Bg : FVec Ideal S1x3072 .f32 := m ((c : Thread nD τ).loc main_arg5)

/-- Row `a` of point `t`'s block, in the whole. -/
def row (t : Fin cfg0.N) (a : Fin 512) : Fin 8192 := ⟨512 * t.val + a.val, by have := pt_lt t; omega⟩

abbrev B0 (t : Fin cfg0.N) : FVec Ideal S512x512 .bf16 := iblk m c 0 t
abbrev B1 (t : Fin cfg0.N) : FVec Ideal S512x512 .bf16 := iblk m c 1 t
abbrev B2 (t : Fin cfg0.N) : FVec Ideal S8x512x64 .f32 := iblk m c 2 t
abbrev B3 (t : Fin cfg0.N) : FVec Ideal S3x512x1024 .bf16 := iblk m c 3 t
abbrev B4 (t : Fin cfg0.N) : FVec Ideal S512x1024 .bf16 := iblk m c 4 t
abbrev B5 (t : Fin cfg0.N) : FVec Ideal S512x1024 .bf16 := iblk m c 5 t
abbrev B6 (t : Fin cfg0.N) : FVec Ideal S512x1024 .bf16 := iblk m c 6 t
abbrev B7 (t : Fin cfg0.N) : FVec Ideal S1x3072 .f32 := iblk m c 7 t

theorem blk0 (t : Fin cfg0.N) (a k : Fin 512) : B0 m c t (ix2 a k) = Ya m c (ix2 (row t a) k) := by
  unfold B0
  blk_simp [iblk]
  rw [V_main_arg0]
  refine congrArg (Ya m c) ?_
  unfold row
  blk_ext [idx0]

theorem blk1 (t : Fin cfg0.N) (a k : Fin 512) : B1 m c t (ix2 a k) = Yb m c (ix2 (row t a) k) := by
  unfold B1
  blk_simp [iblk]
  rw [V_main_arg1]
  refine congrArg (Yb m c) ?_
  unfold row
  blk_ext [idx1]

theorem blk2 (t : Fin cfg0.N) (h : Fin 8) (a : Fin 512) (e : Fin 64) : B2 m c t (ix3 h a e) = O m c (ix3 h (row t a) e) := by
  unfold B2
  blk_simp [iblk]
  rw [V_main_arg2]
  refine congrArg (O m c) ?_
  unfold row
  blk_ext [idx2]

theorem blk3 (t : Fin cfg0.N) (n : Fin 3) (k : Fin 512) (d : Fin 1024) : B3 m c t (ix3 n k d) = W m c (ix3 n k d) := by
  unfold B3
  blk_simp [iblk]
  rw [V_main_arg3]
  refine congrArg (W m c) ?_
  blk_ext [idx3]

theorem blk4 (t : Fin cfg0.N) (a : Fin 512) (d : Fin 1024) : B4 m c t (ix2 a d) = P m c (ix2 (row t a) (at4096 (col 0 d))) := by
  unfold B4
  blk_simp [iblk]
  rw [V_main_arg4]
  refine congrArg (P m c) ?_
  unfold row at4096 col
  blk_ext [idx4]

theorem blk5 (t : Fin cfg0.N) (a : Fin 512) (d : Fin 1024) : B5 m c t (ix2 a d) = P m c (ix2 (row t a) (at4096 (col 1 d))) := by
  unfold B5
  blk_simp [iblk]
  rw [V_main_arg4]
  refine congrArg (P m c) ?_
  unfold row at4096 col
  blk_ext [idx5]

theorem blk6 (t : Fin cfg0.N) (a : Fin 512) (d : Fin 1024) : B6 m c t (ix2 a d) = P m c (ix2 (row t a) (at4096 (col 2 d))) := by
  unfold B6
  blk_simp [iblk]
  rw [V_main_arg4]
  refine congrArg (P m c) ?_
  unfold row at4096 col
  blk_ext [idx6]

theorem blk7 (t : Fin cfg0.N) (j : Fin 3072) : B7 m c t (ix2 (0 : Fin 1) j) = Bg m c (ix2 (0 : Fin 1) j) := by
  unfold B7
  blk_simp [iblk]
  rw [V_main_arg5]
  refine congrArg (Bg m c) ?_
  blk_ext [idx7]

theorem joined_at (t : Fin cfg0.N) (a k : Fin 512) : joined (B2 m c t) (ix2 a k) = joined (O m c) (ix2 (row t a) k) :=
  blk2 m c t (head k) a (lane k)

/-- The merge of a point's blocks is the block of the merge. -/
theorem elem_at (t : Fin cfg0.N) (a : Fin 512) (d : Fin 1024) :
    elem (B0 m c t) (B1 m c t) (joined (B2 m c t)) (B3 m c t) (fun n => pick (B4 m c t) (B5 m c t) (B6 m c t) n (ix2 a d)) (B7 m c t) a d
      = result (Ya m c) (Yb m c) (joined (O m c)) (W m c) (P m c) (Bg m c) (ix2 (row t a) d) := by
  unfold result elem
  refine Finset.sum_congr rfl fun n _ => congrArg₂ _ (congrArg _ (congrArg₂ _ ?_ (blk7 m c t _))) (Finset.sum_congr rfl fun k _ => congrArg₂ _ ?_ (blk3 m c t n k d))
  · match n with
    | ⟨0, _⟩ => exact blk4 m c t a d
    | ⟨1, _⟩ => exact blk5 m c t a d
    | ⟨2, _⟩ => exact blk6 m c t a d
  · match n with
    | ⟨0, _⟩ => exact blk0 m c t a k
    | ⟨1, _⟩ => exact blk1 m c t a k
    | ⟨2, _⟩ => exact joined_at m c t a k

/-! ## The whole results -/

theorem final8 : (dats m 0 c).arrAt 8 cfg0.N = result (Ya m c) (Yb m c) (joined (O m c)) (W m c) (P m c) (Bg m c) := by
  refine (dats m 0 c).arrAt_eq_of_covers 8 _ (by decide +kernel) fun t hf y => ?_
  blk_simp
  rw [after0_8]
  unfold outsAt0
  dsimp only
  obtain ⟨a, d, rfl⟩ := Blocks.pair 512 1024 y
  refine (out8_at _ _ _ _ _ _ _ _ _ _ _ _ _ _ _ _ _ _ _ _ _ _ _ _ _ _ _ _ _ _ a d).trans ((elem_at m c t a d).trans ?_)
  refine congrArg (result (Ya m c) (Yb m c) (joined (O m c)) (W m c) (P m c) (Bg m c)) (?_ : ix2 (row t a) d = _)
  unfold row
  blk_ext [idx8]

theorem final9 : (dats m 0 c).arrAt 9 cfg0.N = joined (O m c) := by
  refine (dats m 0 c).arrAt_eq_of_covers 9 _ (by decide +kernel) fun t hf y => ?_
  blk_simp
  rw [after0_9]
  unfold outsAt0
  dsimp only
  obtain ⟨a, k, rfl⟩ := Blocks.pair 512 512 y
  refine (congrFun (out9 _ _ _ _ _ _ _ _ _ _ _ _ _ _ _ _ _ _ _ _ _ _ _ _ _ _ _ _ _ _) (ix2 a k)).trans ((joined_at m c t a k).trans ?_)
  refine congrArg (joined (O m c)) (?_ : ix2 (row t a) k = _)
  unfold row
  blk_ext [idx9]

end Cert.MergeIdeal

/-! ## The reference -/

namespace Cert.MergeLinesIdeal

open Idealize.ShloMosaic Idealize.ShloMosaic.TcCoe Cert.MergeLinesIdeal.Gen Cert.Branches
open Cert.MergeIdeal (joined)

/-- The heads side by side, as the reference lays them. -/
def heads (o : FVec Ideal S8x8192x64 .f32) : FVec Ideal S8192x512 .f32 :=
  shapeCast _ (transpose S8192x8x64 [1, 0, 2] o transposes_S8x8192x64_S8192x8x64_1_0_2) shapeCasts_S8192x8x64_S8192x512

/-- The branches stacked. -/
def stacked (ya yb : FVec Ideal S8192x512 .bf16) (o : FVec Ideal S8x8192x64 .f32) : FVec Ideal S8192x3x512 .f32 :=
  (concatenate S8192x3x512 1 [⟨S8192x1x512, ((broadcastInDim S8192x1x512 ![0, 2] bcast_S8192x512_S8192x1x512_0_2 (extf .f32 ya bitsLt_bf16_f32)) : (⟨S8192x1x512, .f32⟩ : BufTy).Contents (Elt Ideal))⟩, ⟨S8192x1x512, ((broadcastInDim S8192x1x512 ![0, 2] bcast_S8192x512_S8192x1x512_0_2 (extf .f32 yb bitsLt_bf16_f32)) : (⟨S8192x1x512, .f32⟩ : BufTy).Contents (Elt Ideal))⟩, ⟨S8192x1x512, ((broadcastInDim S8192x1x512 ![0, 2] bcast_S8192x512_S8192x1x512_0_2 (heads o)) : (⟨S8192x1x512, .f32⟩ : BufTy).Contents (Elt Ideal))⟩] concatenates_S8192x1x512_S8192x1x512_S8192x1x512_S8192x3x512_d1 : (⟨S8192x3x512, .f32⟩ : BufTy).Contents (Elt Ideal))

/-- The branches' products. -/
def products (wb : FVec Ideal S3x512x1024 .bf16) (ys : FVec Ideal S8192x3x512 .f32) : FVec Ideal S8192x3x1024 .f32 :=
  transpose S8192x3x1024 [2, 0, 1] (Host.dotGeneral dot_S3x512x1024_S8192x3x512_S3x1024x8192_1_2_2_0_0_1 none (extf .f32 wb bitsLt_bf16_f32) ys) transposes_S3x1024x8192_S8192x3x1024_2_0_1

/-- The gates. -/
def gates (P : FVec Ideal S8192x7168 .bf16) (b : FVec Ideal S1x3072 .f32) : FVec Ideal S8192x3x1024 .f32 :=
  shapeCast _ (Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf (extf .f32 (extractStridedSlice S8192x3072 ![0, 4096] P slices_S8192x7168_S8192x3072_0_4096) bitsLt_bf16_f32) (broadcastInDim S8192x3072 ![0, 1] bcast_S1x3072_S8192x3072_0_1 b)))))) shapeCasts_S8192x3072_S8192x3x1024

/-- The reference's first line. -/
def lines (ya yb : FVec Ideal S8192x512 .bf16) (o : FVec Ideal S8x8192x64 .f32) (wb : FVec Ideal S3x512x1024 .bf16) (P : FVec Ideal S8192x7168 .bf16) (b : FVec Ideal S1x3072 .f32) :
    FVec Ideal S8192x1024 .bf16 :=
  truncf .bf16 (Host.reduceAdd (mulf (gates P b) (products wb (stacked ya yb o))) (constant S_ .f32 0x00000000#32) reducesTo_S8192x3x1024_S8192x1024_d1 h_S_) bitsLt_bf16_f32

theorem heads_at (o : FVec Ideal S8x8192x64 .f32) (a : Fin 8192) (k : Fin 512) : heads o (ix2 a k) = o (ix3 (head k) a (lane k)) := by
  unfold heads head lane
  pointwise

theorem stacked_at (ya yb : FVec Ideal S8192x512 .bf16) (o : FVec Ideal S8x8192x64 .f32) (a : Fin 8192) (n : Fin 3) (k : Fin 512) :
    stacked ya yb o (ix3 a n k) = pick ya yb (joined o) n (ix2 a k) := by
  match n with
  | ⟨0, _⟩ => unfold stacked pick; pointwise
  | ⟨1, _⟩ => unfold stacked pick; pointwise
  | ⟨2, _⟩ =>
    refine Eq.trans ?_ (heads_at o a k)
    unfold stacked
    pointwise

theorem products_at (wb : FVec Ideal S3x512x1024 .bf16) (ys : FVec Ideal S8192x3x512 .f32) (a : Fin 8192) (n : Fin 3) (d : Fin 1024) :
    products wb ys (ix3 a n d) = ∑ k : Fin 512, ys (ix3 a n k) * wb (ix3 n k d) := by
  refine Eq.trans (b := ∑ k : Fin 512, wb (ix3 n k d) * ys (ix3 a n k)) ?_ (Finset.sum_congr rfl fun k _ => mul_comm _ _)
  unfold products
  pointwise [dot_S3x512x1024_S8192x3x512_S3x1024x8192_1_2_2_0_0_1]

theorem gates_at (P : FVec Ideal S8192x7168 .bf16) (b : FVec Ideal S1x3072 .f32) (a : Fin 8192) (n : Fin 3) (d : Fin 1024) :
    gates P b (ix3 a n d) = Proof.gate (P (ix2 a (at4096 (col n d))) + b (ix2 (0 : Fin 1) (col n d))) := by
  unfold gates Proof.gate at4096 col
  pointwise

theorem lines_eq (ya yb : FVec Ideal S8192x512 .bf16) (o : FVec Ideal S8x8192x64 .f32) (wb : FVec Ideal S3x512x1024 .bf16) (P : FVec Ideal S8192x7168 .bf16) (b : FVec Ideal S1x3072 .f32) :
    lines ya yb o wb P b = MergeIdeal.result ya yb (joined o) wb P b := by
  funext i
  obtain ⟨a, d, rfl⟩ := Blocks.pair 8192 1024 i
  refine Eq.trans (b := ∑ n : Fin 3, gates P b (ix3 a n d) * products wb (stacked ya yb o) (ix3 a n d)) ?_ ?_
  · unfold lines
    pointwise
  · unfold MergeIdeal.result MergeIdeal.elem
    refine Finset.sum_congr rfl fun n _ => ?_
    rw [gates_at, products_at]
    exact congrArg _ (Finset.sum_congr rfl fun k _ => by rw [stacked_at]; rfl)

/-- The reference's second line. -/
theorem heads_eq (o : FVec Ideal S8x8192x64 .f32) : (truncf .bf16 (heads o) bitsLt_bf16_f32 : FVec Ideal S8192x512 .bf16) = joined o := by
  funext i
  obtain ⟨a, k, rfl⟩ := Blocks.pair 8192 512 i
  exact heads_at o a k

end Cert.MergeLinesIdeal

/-! ## The claims -/

namespace Cert.Proof

open Idealize.ShloMosaic Idealize.ShloMosaic.TcCoe Idealize.SL.Sem

/-- The reference leaves its arguments alone and declares no semaphore. -/
theorem frame_MergeLinesIdeal : Cert.quiescent_MergeLinesIdeal := fun m ρ _ =>
  (θ_run Cert.MergeLinesIdeal.defs _ _).mono
    (fun r h => ⟨fun c => (h c).2.2, sem_eq_zero_of_no_sems (by decide) r.2⟩)
    (Cert.MergeLinesIdeal.Value.run m ρ)

/-- The kernel and the reference leave the same arrays. -/
theorem equal_Merge : Cert.algebraic_MergeIdeal_MergeLinesIdeal := by
  intro m g m' g' _ hagree
  refine ⟨fun c => MergeIdeal.result (MergeIdeal.Ya m c) (MergeIdeal.Yb m c) (MergeIdeal.joined (MergeIdeal.O m c)) (MergeIdeal.W m c) (MergeIdeal.P m c) (MergeIdeal.Bg m c),
    fun c => MergeIdeal.joined (MergeIdeal.O m c), ?_, ?_⟩
  · exact (θ_run Cert.MergeIdeal.defs _ _).mono
      (fun r h c => ⟨((h.1 c).1 8).trans (MergeIdeal.final8 m c), ((h.1 c).1 9).trans (MergeIdeal.final9 m c), h.2.1 c⟩)
      (θ_run_and (Cert.MergeIdeal.Gen.run_main m g) (Cert.MergeIdeal.Gen.frame m g))
  · refine (θ_run Cert.MergeLinesIdeal.defs _ _).mono (fun r h c => ?_) (Cert.MergeLinesIdeal.Value.run m' g')
    obtain ⟨e0, e1, e2, e3, e4, e5⟩ := hagree c
    obtain ⟨r0, r1, r2⟩ := h c
    refine ⟨r0.trans ?_, r1.trans ?_, r2⟩
    · refine (MergeLinesIdeal.lines_eq _ _ _ _ _ _).trans ?_
      rw [e0, e1, e2, e3, e4, e5]
    · refine (MergeLinesIdeal.heads_eq _).trans ?_
      rw [e2]

end Cert.Proof

end
-- ==== Proof.GradMergePoint.lean ====
module

public import proofs.«01_k».proof.Proof.Gen.GradMergeIdeal.Frame
public import proofs.«01_k».proof.Proof.Branches
public import proofs.«01_k».proof.Proof.Common
public import Idealize.ShloMosaic.Lib.VecWindow

@[expose] public section

set_option maxRecDepth 16384

noncomputable section

/-! # GradMerge: what one grid point computes

From a block of 512 rows: the gates' gradients, the gradients of the three branches' products, the gradients of the branches, and the
block's part of the gradient of the gates' bias. The first point and the later ones differ in the last alone. -/

namespace Cert.GradMergeIdeal

open Idealize.ShloMosaic Idealize.ShloMosaic.TcCoe Idealize.SL.Sem Idealize.ShloMosaic.StableHlo Cert.GradMergeIdeal.Gen
open Cert.Branches

/-! ## The mathematics

`g n s d` is the argument of a gate before its bias, `ya`, `yb`, `yc` the branches, `dm` the gradient of the merge. -/

section

variable {r : ℕ} (ya yb yc : FVec Ideal ⟨2, ![r, 512]⟩ .bf16) (wb : FVec Ideal S3x512x1024 .bf16) (w : Fin 3 → Fin 1024 → Fin 512 → EReal)
  (g : Fin 3 → Fin r → Fin 1024 → EReal) (b : FVec Ideal S1x3072 .f32) (dm : FVec Ideal ⟨2, ![r, 1024]⟩ .bf16)

/-- A gate. -/
def sg (n : Fin 3) (s : Fin r) (d : Fin 1024) : EReal := Proof.gate (g n s d + b (ix2 (0 : Fin 1) (col n d)))

/-- A branch's product. -/
def prod (n : Fin 3) (s : Fin r) (d : Fin 1024) : EReal := ∑ k : Fin 512, pick ya yb yc n (ix2 s k) * wb (ix3 n k d)

/-- The gradient of a gate's argument. -/
def dgate (n : Fin 3) (s : Fin r) (d : Fin 1024) : EReal := dm (ix2 s d) * prod ya yb yc wb n s d * sg g b n s d * (1 - sg g b n s d)

/-- The gradient of a branch's product. -/
def dyd (n : Fin 3) (s : Fin r) (d : Fin 1024) : EReal := dm (ix2 s d) * sg g b n s d

/-- The gradient of a branch, `w` being the branches' matrices turned. -/
def dy (n : Fin 3) (s : Fin r) (k : Fin 512) : EReal := ∑ d : Fin 1024, dyd g b dm n s d * w n d k

/-- The gates' gradients, the three branches side by side. -/
def allGates : FVec Ideal ⟨2, ![r, 3072]⟩ .bf16 := fun y => dgate ya yb yc wb g b dm (branch (y 1)) (y 0) (within (y 1))

/-- The gradient of one branch's product. -/
def allDyd (n : Fin 3) : FVec Ideal ⟨2, ![r, 1024]⟩ .bf16 := fun y => dyd g b dm n (y 0) (y 1)

/-- The gradient of one branch. -/
def allDy (n : Fin 3) : FVec Ideal ⟨2, ![r, 512]⟩ .f32 := fun y => dy w g b dm n (y 0) (y 1)

/-- The gradient of the third branch, head by head. -/
def allHeads : FVec Ideal ⟨3, ![8, r, 64]⟩ .f32 := fun y => dy w g b dm 2 (y 1) (beside (y 0) (y 2))

/-- The gradient of the gates' bias. -/
def allBias : FVec Ideal S1x3072 .f32 := fun y => ∑ s : Fin r, dgate ya yb yc wb g b dm (branch (y 1)) s (within (y 1))

end

/-! ## The body's operations -/

section

variable (v : Vec Ideal S512x1024 .bf16) (y : Vec Ideal S512x512 .bf16) (w : Vec Ideal S1x512x1024 .bf16) (g : Vec Ideal S512x1024 .bf16) (b : Vec Ideal S1x1024 .f32)

theorem pay5_at (a : Fin 512) (d : Fin 1024) : k0_pay5 (F := Ideal) g b (ix2 a d) = Proof.gate (g (ix2 a d) + b (ix2 (0 : Fin 1) d)) := by
  unfold k0_pay5 Proof.gate
  pointwise
  rw [zero_sub]

theorem pay9_at (a : Fin 512) (d : Fin 1024) :
    k0_pay9 (F := Ideal) v g b (ix2 a d) = v (ix2 a d) * Proof.gate (g (ix2 a d) + b (ix2 (0 : Fin 1) d)) := by
  rw [← pay5_at]
  rfl

theorem pay6_at (a : Fin 512) (d : Fin 1024) : k0_pay6 (F := Ideal) v y w g b (ix2 a d)
    = v (ix2 a d) * (∑ k : Fin 512, y (ix2 a k) * w (ix3 (0 : Fin 1) k d)) * Proof.gate (g (ix2 a d) + b (ix2 (0 : Fin 1) d))
      * (1 - Proof.gate (g (ix2 a d) + b (ix2 (0 : Fin 1) d))) := by
  unfold k0_pay6 k0_pay4
  pointwise [dot_S512x512_S512x1024_S512x1024_1_0_0_1_n_n]
  rw [pay5_at]

theorem pay8_at (d : Fin 1024) : k0_pay8 (F := Ideal) v y w g b (ix2 (0 : Fin 1) d) = ∑ a : Fin 512, k0_pay6 (F := Ideal) v y w g b (ix2 a d) := by
  unfold k0_pay8
  generalize k0_pay6 (F := Ideal) v y w g b = z
  pointwise

end

/-- The first branch's product gradient with the matrix. -/
theorem pay11_at (v : FVec Ideal S512x1024 .bf16) (w : FVec Ideal S1024x512 .bf16) (a k : Fin 512) :
    k0_pay11 (F := Ideal) v w (constant S512x512 .f32 0#32) (ix2 a k) = ∑ d : Fin 1024, v (ix2 a d) * w (ix2 d k) := by
  unfold k0_pay11
  pointwise [dot_S512x1024_S1024x512_S512x512_1_0_0_1_n_n]

theorem pay10_at (w : Vec Ideal S1x1024x512 .bf16) (d : Fin 1024) (k : Fin 512) : k0_pay10 (F := Ideal) w (ix2 d k) = w (ix3 (0 : Fin 1) d k) := by
  unfold k0_pay10
  pointwise

theorem head0_at (z : FVec Ideal S512x1024 .bf16) (w : FVec Ideal S1024x512 .bf16) (a : Fin 512) (e : Fin 64) :
    k0_pay26 (F := Ideal) z w (constant S512x512 .f32 0#32) (ix3 (0 : Fin 1) a e)
      = k0_pay11 (F := Ideal) z w (constant S512x512 .f32 0#32) (ix2 a (beside ⟨0, by decide⟩ e)) := by
  unfold k0_pay26 beside
  rw [show (k0_pay25 (F := Ideal)) = k0_pay11 from rfl]
  generalize k0_pay11 (F := Ideal) z w (constant S512x512 .f32 0#32) = x
  pointwise

theorem head1_at (z : FVec Ideal S512x1024 .bf16) (w : FVec Ideal S1024x512 .bf16) (a : Fin 512) (e : Fin 64) :
    k0_pay27 (F := Ideal) z w (constant S512x512 .f32 0#32) (ix3 (0 : Fin 1) a e)
      = k0_pay11 (F := Ideal) z w (constant S512x512 .f32 0#32) (ix2 a (beside ⟨1, by decide⟩ e)) := by
  unfold k0_pay27 beside
  rw [show (k0_pay25 (F := Ideal)) = k0_pay11 from rfl]
  generalize k0_pay11 (F := Ideal) z w (constant S512x512 .f32 0#32) = x
  pointwise

theorem head2_at (z : FVec Ideal S512x1024 .bf16) (w : FVec Ideal S1024x512 .bf16) (a : Fin 512) (e : Fin 64) :
    k0_pay28 (F := Ideal) z w (constant S512x512 .f32 0#32) (ix3 (0 : Fin 1) a e)
      = k0_pay11 (F := Ideal) z w (constant S512x512 .f32 0#32) (ix2 a (beside ⟨2, by decide⟩ e)) := by
  unfold k0_pay28 beside
  rw [show (k0_pay25 (F := Ideal)) = k0_pay11 from rfl]
  generalize k0_pay11 (F := Ideal) z w (constant S512x512 .f32 0#32) = x
  pointwise

theorem head3_at (z : FVec Ideal S512x1024 .bf16) (w : FVec Ideal S1024x512 .bf16) (a : Fin 512) (e : Fin 64) :
    k0_pay29 (F := Ideal) z w (constant S512x512 .f32 0#32) (ix3 (0 : Fin 1) a e)
      = k0_pay11 (F := Ideal) z w (constant S512x512 .f32 0#32) (ix2 a (beside ⟨3, by decide⟩ e)) := by
  unfold k0_pay29 beside
  rw [show (k0_pay25 (F := Ideal)) = k0_pay11 from rfl]
  generalize k0_pay11 (F := Ideal) z w (constant S512x512 .f32 0#32) = x
  pointwise

theorem head4_at (z : FVec Ideal S512x1024 .bf16) (w : FVec Ideal S1024x512 .bf16) (a : Fin 512) (e : Fin 64) :
    k0_pay30 (F := Ideal) z w (constant S512x512 .f32 0#32) (ix3 (0 : Fin 1) a e)
      = k0_pay11 (F := Ideal) z w (constant S512x512 .f32 0#32) (ix2 a (beside ⟨4, by decide⟩ e)) := by
  unfold k0_pay30 beside
  rw [show (k0_pay25 (F := Ideal)) = k0_pay11 from rfl]
  generalize k0_pay11 (F := Ideal) z w (constant S512x512 .f32 0#32) = x
  pointwise

theorem head5_at (z : FVec Ideal S512x1024 .bf16) (w : FVec Ideal S1024x512 .bf16) (a : Fin 512) (e : Fin 64) :
    k0_pay31 (F := Ideal) z w (constant S512x512 .f32 0#32) (ix3 (0 : Fin 1) a e)
      = k0_pay11 (F := Ideal) z w (constant S512x512 .f32 0#32) (ix2 a (beside ⟨5, by decide⟩ e)) := by
  unfold k0_pay31 beside
  rw [show (k0_pay25 (F := Ideal)) = k0_pay11 from rfl]
  generalize k0_pay11 (F := Ideal) z w (constant S512x512 .f32 0#32) = x
  pointwise

theorem head6_at (z : FVec Ideal S512x1024 .bf16) (w : FVec Ideal S1024x512 .bf16) (a : Fin 512) (e : Fin 64) :
    k0_pay32 (F := Ideal) z w (constant S512x512 .f32 0#32) (ix3 (0 : Fin 1) a e)
      = k0_pay11 (F := Ideal) z w (constant S512x512 .f32 0#32) (ix2 a (beside ⟨6, by decide⟩ e)) := by
  unfold k0_pay32 beside
  rw [show (k0_pay25 (F := Ideal)) = k0_pay11 from rfl]
  generalize k0_pay11 (F := Ideal) z w (constant S512x512 .f32 0#32) = x
  pointwise

theorem head7_at (z : FVec Ideal S512x1024 .bf16) (w : FVec Ideal S1024x512 .bf16) (a : Fin 512) (e : Fin 64) :
    k0_pay1 (F := Ideal) (k0_pay33 (F := Ideal) z w (constant S512x512 .f32 0#32)) (ix3 (0 : Fin 1) a e)
      = k0_pay11 (F := Ideal) z w (constant S512x512 .f32 0#32) (ix2 a (beside ⟨7, by decide⟩ e)) := by
  unfold k0_pay1 k0_pay33 beside
  rw [show (k0_pay25 (F := Ideal)) = k0_pay11 from rfl]
  generalize k0_pay11 (F := Ideal) z w (constant S512x512 .f32 0#32) = x
  pointwise

theorem pay2_at (p q r : FVec Ideal S1x1024 .f32) (n : Fin 3) (d : Fin 1024) : k0_pay2 (F := Ideal) p q r (ix2 (0 : Fin 1) (col n d)) = pick p q r n (ix2 (0 : Fin 1) d) := by
  match n with
  | ⟨0, _⟩ =>
    unfold k0_pay2 pick col
    pointwise
  | ⟨1, _⟩ =>
    unfold k0_pay2 pick col
    pointwise
  | ⟨2, _⟩ =>
    unfold k0_pay2 pick col
    pointwise
    rw [dif_neg (by omega), dif_neg (by omega)]
    exact congrArg (fun j => r (ix2 (0 : Fin 1) j)) (Fin.ext (show 2048 + d.val - 1024 - 1024 = d.val by omega))

/-! ## The body's loads -/

theorem ld_y (x : Vec Ideal S512x512 .bf16) : View.ld x (Rect.unit (s := S512x512) ![0, 0] ![512, 512] inb_S512x512_S512x512_0_0) = x :=
  View.ld_unit_lit _ _ (by decide)

theorem ld_g (x : Vec Ideal S512x1024 .bf16) : View.ld x (Rect.unit (s := S512x1024) ![0, 0] ![512, 1024] inb_S512x1024_S512x1024_0_0) = x :=
  View.ld_unit_lit _ _ (by decide)

theorem ld_all (x : Vec Ideal S1x3072 .f32) : View.ld x (Rect.unit (s := S1x3072) ![0, 0] ![1, 3072] inb_S1x3072_S1x3072_0_0) = x :=
  View.ld_unit_lit _ _ (by decide)

theorem ld_w (x3 : Vec Ideal S3x512x1024 .bf16) (n : Fin 3) (inb : ∀ a, (![n.val, 0, 0] : Fin 3 → ℕ) a + S1x512x1024.size a ≤ S3x512x1024.size a) (k : Fin 512) (d : Fin 1024) :
    View.ld x3 (Rect.unit (s := S3x512x1024) ![n.val, 0, 0] S1x512x1024.size inb) (ix3 (0 : Fin 1) k d) = x3 (ix3 n k d) := by
  rw [View.ld_unit]
  refine congrArg x3 (funext fun i => ?_)
  match i with
  | ⟨0, _⟩ => exact Fin.ext (show n.val + 0 = n.val by omega)
  | ⟨1, _⟩ => exact Fin.ext (show 0 + k.val = k.val by omega)
  | ⟨2, _⟩ => exact Fin.ext (show 0 + d.val = d.val by omega)

theorem ld_t (x4 : Vec Ideal S3x1024x512 .bf16) (n : Fin 3) (inb : ∀ a, (![n.val, 0, 0] : Fin 3 → ℕ) a + S1x1024x512.size a ≤ S3x1024x512.size a) (d : Fin 1024) (k : Fin 512) :
    View.ld x4 (Rect.unit (s := S3x1024x512) ![n.val, 0, 0] S1x1024x512.size inb) (ix3 (0 : Fin 1) d k) = x4 (ix3 n d k) := by
  rw [View.ld_unit]
  refine congrArg x4 (funext fun i => ?_)
  match i with
  | ⟨0, _⟩ => exact Fin.ext (show n.val + 0 = n.val by omega)
  | ⟨1, _⟩ => exact Fin.ext (show 0 + d.val = d.val by omega)
  | ⟨2, _⟩ => exact Fin.ext (show 0 + k.val = k.val by omega)

theorem ld_b (x8 : Vec Ideal S1x3072 .f32) (n : Fin 3) (inb : ∀ a, (![0, 1024 * n.val] : Fin 2 → ℕ) a + S1x1024.size a ≤ S1x3072.size a) (d : Fin 1024) :
    View.ld x8 (Rect.unit (s := S1x3072) ![0, 1024 * n.val] S1x1024.size inb) (ix2 (0 : Fin 1) d) = x8 (ix2 (0 : Fin 1) (col n d)) := by
  rw [View.ld_unit]
  refine congrArg x8 (funext fun i => ?_)
  match i with
  | ⟨0, _⟩ => exact Fin.ext (show 0 + 0 = 0 by omega)
  | ⟨1, _⟩ => exact Fin.ext (show 1024 * n.val + d.val = n.val * 1024 + d.val by omega)

/-! ## The stores' values -/

section

variable (x0 x1 x2 : Vec Ideal S512x512 .bf16) (x3 : Vec Ideal S3x512x1024 .bf16)
    (x4 : Vec Ideal S3x1024x512 .bf16) (x5 x6 x7 : Vec Ideal S512x1024 .bf16)
    (x8 : Vec Ideal S1x3072 .f32) (x9 : Vec Ideal S512x1024 .bf16)

/-- The gates' arguments in a point's blocks. -/
def args : Fin 3 → Fin 512 → Fin 1024 → EReal := fun n a d => pick x5 x6 x7 n (ix2 a d)

/-- The turned matrices in a point's block. -/
def turnedW : Fin 3 → Fin 1024 → Fin 512 → EReal := fun n d k => x4 (ix3 n d k)

theorem dgate_at (n : Fin 3) (inb : ∀ a, (![n.val, 0, 0] : Fin 3 → ℕ) a + S1x512x1024.size a ≤ S3x512x1024.size a)
    (inb' : ∀ a, (![0, 1024 * n.val] : Fin 2 → ℕ) a + S1x1024.size a ≤ S1x3072.size a) (a : Fin 512) (d : Fin 1024) :
    k0_pay6 (F := Ideal) x9 (pick x0 x1 x2 n) (View.ld x3 (Rect.unit (s := S3x512x1024) ![n.val, 0, 0] S1x512x1024.size inb)) (pick x5 x6 x7 n)
      (View.ld x8 (Rect.unit (s := S1x3072) ![0, 1024 * n.val] S1x1024.size inb')) (ix2 a d)
      = dgate x0 x1 x2 x3 (args x5 x6 x7) x8 x9 n a d := by
  rw [pay6_at, ld_b]
  unfold dgate prod
  rw [Finset.sum_congr rfl fun k _ => congrArg (fun z : EReal => pick x0 x1 x2 n (ix2 a k) * z) (ld_w x3 n inb k d)]
  match n with
  | ⟨0, _⟩ => rfl
  | ⟨1, _⟩ => rfl
  | ⟨2, _⟩ => rfl

theorem dyd_at (n : Fin 3) (inb' : ∀ a, (![0, 1024 * n.val] : Fin 2 → ℕ) a + S1x1024.size a ≤ S1x3072.size a) (a : Fin 512) (d : Fin 1024) :
    k0_pay9 (F := Ideal) x9 (pick x5 x6 x7 n) (View.ld x8 (Rect.unit (s := S1x3072) ![0, 1024 * n.val] S1x1024.size inb')) (ix2 a d)
      = dyd (args x5 x6 x7) x8 x9 n a d := by
  rw [pay9_at, ld_b]
  match n with
  | ⟨0, _⟩ => rfl
  | ⟨1, _⟩ => rfl
  | ⟨2, _⟩ => rfl

theorem dy_at (n : Fin 3) (inb' : ∀ a, (![0, 1024 * n.val] : Fin 2 → ℕ) a + S1x1024.size a ≤ S1x3072.size a)
    (inb : ∀ a, (![n.val, 0, 0] : Fin 3 → ℕ) a + S1x1024x512.size a ≤ S3x1024x512.size a) (a k : Fin 512) :
    k0_pay11 (F := Ideal) (k0_pay9 (F := Ideal) x9 (pick x5 x6 x7 n) (View.ld x8 (Rect.unit (s := S1x3072) ![0, 1024 * n.val] S1x1024.size inb')))
      (k0_pay10 (F := Ideal) (View.ld x4 (Rect.unit (s := S3x1024x512) ![n.val, 0, 0] S1x1024x512.size inb))) (constant S512x512 .f32 0#32) (ix2 a k)
      = dy (turnedW x4) (args x5 x6 x7) x8 x9 n a k := by
  rw [pay11_at]
  refine Finset.sum_congr rfl fun d _ => ?_
  rw [dyd_at, pay10_at, ld_t]
  rfl

theorem piece (n : Fin 3) (inb : ∀ a, (![n.val, 0, 0] : Fin 3 → ℕ) a + S1x512x1024.size a ≤ S3x512x1024.size a)
    (inb' : ∀ a, (![0, 1024 * n.val] : Fin 2 → ℕ) a + S1x1024.size a ≤ S1x3072.size a)
    (inb'' : ∀ a, (![0, 1024 * n.val] : Fin 2 → ℕ) a + S512x1024.size a ≤ S512x3072.size a) (y : S512x1024.Idx) :
    k0_pay7 (F := Ideal) x9 (pick x0 x1 x2 n) (View.ld x3 (Rect.unit (s := S3x512x1024) ![n.val, 0, 0] S1x512x1024.size inb)) (pick x5 x6 x7 n)
      (View.ld x8 (Rect.unit (s := S1x3072) ![0, 1024 * n.val] S1x1024.size inb')) y
      = allGates x0 x1 x2 x3 (args x5 x6 x7) x8 x9 ((Rect.unit (s := S512x3072) ![0, 1024 * n.val] S512x1024.size inb'').emb y) := by
  obtain ⟨a, d, rfl⟩ := Blocks.pair 512 1024 y
  refine (dgate_at x0 x1 x2 x3 x5 x6 x7 x8 x9 n inb inb' a d).trans ?_
  have e : (Rect.unit (s := S512x3072) ![0, 1024 * n.val] S512x1024.size inb'').emb (ix2 a d) = ix2 a (col n d) := funext fun i => by
    match i with
    | ⟨0, _⟩ => exact Fin.ext (show 0 + 1 * a.val = a.val by omega)
    | ⟨1, _⟩ => exact Fin.ext (show 1024 * n.val + 1 * d.val = n.val * 1024 + d.val by omega)
  rw [e]
  unfold allGates
  show _ = dgate x0 x1 x2 x3 (args x5 x6 x7) x8 x9 (branch (col n d)) a (within (col n d))
  rw [branch_col, within_col]

theorem bias_at (inb0 : ∀ a, (![0, 0, 0] : Fin 3 → ℕ) a + S1x512x1024.size a ≤ S3x512x1024.size a) (inb1 : ∀ a, (![1, 0, 0] : Fin 3 → ℕ) a + S1x512x1024.size a ≤ S3x512x1024.size a)
    (inb2 : ∀ a, (![2, 0, 0] : Fin 3 → ℕ) a + S1x512x1024.size a ≤ S3x512x1024.size a) (j0 : ∀ a, (![0, 0] : Fin 2 → ℕ) a + S1x1024.size a ≤ S1x3072.size a)
    (j1 : ∀ a, (![0, 1024] : Fin 2 → ℕ) a + S1x1024.size a ≤ S1x3072.size a) (j2 : ∀ a, (![0, 2048] : Fin 2 → ℕ) a + S1x1024.size a ≤ S1x3072.size a) :
    k0_pay2 (F := Ideal)
      (k0_pay8 (F := Ideal) x9 x0 (View.ld x3 (Rect.unit (s := S3x512x1024) ![0, 0, 0] S1x512x1024.size inb0)) x5 (View.ld x8 (Rect.unit (s := S1x3072) ![0, 0] S1x1024.size j0)))
      (k0_pay8 (F := Ideal) x9 x1 (View.ld x3 (Rect.unit (s := S3x512x1024) ![1, 0, 0] S1x512x1024.size inb1)) x6 (View.ld x8 (Rect.unit (s := S1x3072) ![0, 1024] S1x1024.size j1)))
      (k0_pay8 (F := Ideal) x9 x2 (View.ld x3 (Rect.unit (s := S3x512x1024) ![2, 0, 0] S1x512x1024.size inb2)) x7 (View.ld x8 (Rect.unit (s := S1x3072) ![0, 2048] S1x1024.size j2)))
      = allBias x0 x1 x2 x3 (args x5 x6 x7) x8 x9 := by
  funext y
  obtain ⟨n, d, rfl⟩ : ∃ (n : Fin 3) (d : Fin 1024), y = ix2 (0 : Fin 1) (col n d) := ⟨branch (y 1), within (y 1), funext fun i => by
    match i with
    | ⟨0, _⟩ => exact Fin.ext (Nat.lt_one_iff.mp (y 0).isLt)
    | ⟨1, _⟩ => exact (col_branch (y 1)).symm⟩
  rw [pay2_at]
  unfold allBias
  show _ = ∑ s : Fin 512, dgate x0 x1 x2 x3 (args x5 x6 x7) x8 x9 (branch (col n d)) s (within (col n d))
  rw [branch_col, within_col]
  match n with
  | ⟨0, _⟩ => exact (pay8_at _ _ _ _ _ d).trans (Finset.sum_congr rfl fun a _ => dgate_at x0 x1 x2 x3 x5 x6 x7 x8 x9 ⟨0, by decide⟩ inb0 j0 a d)
  | ⟨1, _⟩ => exact (pay8_at _ _ _ _ _ d).trans (Finset.sum_congr rfl fun a _ => dgate_at x0 x1 x2 x3 x5 x6 x7 x8 x9 ⟨1, by decide⟩ inb1 j1 a d)
  | ⟨2, _⟩ => exact (pay8_at _ _ _ _ _ d).trans (Finset.sum_congr rfl fun a _ => dgate_at x0 x1 x2 x3 x5 x6 x7 x8 x9 ⟨2, by decide⟩ inb2 j2 a d)

theorem headpiece (h : Fin 8) (p : FVec Ideal S1x512x64 .f32)
    (inb : ∀ a, (![0, 2048] : Fin 2 → ℕ) a + S1x1024.size a ≤ S1x3072.size a) (inb' : ∀ a, (![2, 0, 0] : Fin 3 → ℕ) a + S1x1024x512.size a ≤ S3x1024x512.size a)
    (hp : ∀ (a : Fin 512) (e : Fin 64), p (ix3 (0 : Fin 1) a e) = k0_pay11 (F := Ideal)
      (k0_pay9 (F := Ideal) x9 x7 (View.ld x8 (Rect.unit (s := S1x3072) ![0, 2048] S1x1024.size inb)))
      (k0_pay10 (F := Ideal) (View.ld x4 (Rect.unit (s := S3x1024x512) ![2, 0, 0] S1x1024x512.size inb'))) (constant S512x512 .f32 0#32) (ix2 a (beside h e)))
    (inb'' : ∀ a, (![h.val, 0, 0] : Fin 3 → ℕ) a + S1x512x64.size a ≤ S8x512x64.size a) (y : S1x512x64.Idx) :
    p y = allHeads (turnedW x4) (args x5 x6 x7) x8 x9 ((Rect.unit (s := S8x512x64) ![h.val, 0, 0] S1x512x64.size inb'').emb y) := by
  obtain ⟨a, e, rfl⟩ : ∃ (a : Fin 512) (e : Fin 64), y = ix3 (0 : Fin 1) a e := ⟨y 1, y 2, funext fun i => by
    match i with
    | ⟨0, _⟩ => exact Fin.ext (Nat.lt_one_iff.mp (y 0).isLt)
    | ⟨1, _⟩ => rfl
    | ⟨2, _⟩ => rfl⟩
  have e' : (Rect.unit (s := S8x512x64) ![h.val, 0, 0] S1x512x64.size inb'').emb (ix3 (0 : Fin 1) a e) = ix3 h a e := funext fun i => by
    match i with
    | ⟨0, _⟩ => exact Fin.ext (show h.val + 1 * 0 = h.val by omega)
    | ⟨1, _⟩ => exact Fin.ext (show 0 + 1 * a.val = a.val by omega)
    | ⟨2, _⟩ => exact Fin.ext (show 0 + 1 * e.val = e.val by omega)
  rw [hp, e']
  exact dy_at x4 x5 x6 x7 x8 x9 2 inb inb' a (beside h e)

end

/-! ## What a point leaves -/

section

variable (x0 x1 x2 : Vec Ideal S512x512 .bf16) (x3 : Vec Ideal S3x512x1024 .bf16) (x4 : Vec Ideal S3x1024x512 .bf16)
  (x5 x6 x7 : Vec Ideal S512x1024 .bf16) (x8 : Vec Ideal S1x3072 .f32) (x9 : Vec Ideal S512x1024 .bf16)

theorem gatesA (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_10 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allGates x0 x1 x2 x3 (args x5 x6 x7) x8 x9 := by
  unfold out0_A_10
  dsimp only [kernelRun0_A]
  funext y
  rw [View.read_writes_junk_apply_eq_canon]
  refine View.canon_apply_of_pieces (e := .bf16) (allGates x0 x1 x2 x3 (args x5 x6 x7) x8 x9) _ ?_ y (cover0_A_10 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 y)
  dsimp only [kernelRun0_A]
  unfold kernelRun0_A.sl.r
  simp only [View.readAt_eq_ld, Memref.IsWhole.read_unread, ld_y, ld_g, ld_all]
  refine List.forall_mem_cons.mpr ⟨piece x0 x1 x2 x3 x5 x6 x7 x8 x9 2 _ _ inb_S512x3072_S512x1024_0_2048, ?_⟩
  refine List.forall_mem_cons.mpr ⟨piece x0 x1 x2 x3 x5 x6 x7 x8 x9 1 _ _ inb_S512x3072_S512x1024_0_1024, ?_⟩
  refine List.forall_mem_cons.mpr ⟨piece x0 x1 x2 x3 x5 x6 x7 x8 x9 0 _ _ inb_S512x3072_S512x1024_0_0, ?_⟩
  exact fun p hp => absurd hp List.not_mem_nil

theorem dyd0A (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_11 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allDyd (args x5 x6 x7) x8 x9 0 := by
  unfold out0_A_11
  dsimp only [kernelRun0_A]
  rw [View.read_writes_full]
  simp only [View.readAt_eq_ld, Memref.IsWhole.read_unread, ld_y, ld_g, ld_all]
  funext y
  obtain ⟨a, d, rfl⟩ := Blocks.pair 512 1024 y
  exact dyd_at x5 x6 x7 x8 x9 0 _ a d

theorem dyd1A (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allDyd (args x5 x6 x7) x8 x9 1 := by
  unfold out0_A_12
  dsimp only [kernelRun0_A]
  rw [View.read_writes_full]
  unfold kernelRun0_A.sl.r
  simp only [View.readAt_eq_ld, Memref.IsWhole.read_unread, ld_y, ld_g, ld_all]
  funext y
  obtain ⟨a, d, rfl⟩ := Blocks.pair 512 1024 y
  exact dyd_at x5 x6 x7 x8 x9 1 _ a d

theorem dyd2A (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allDyd (args x5 x6 x7) x8 x9 2 := by
  unfold out0_A_13
  dsimp only [kernelRun0_A]
  rw [View.read_writes_full]
  unfold kernelRun0_A.sl.r
  simp only [View.readAt_eq_ld, Memref.IsWhole.read_unread, ld_y, ld_g, ld_all]
  funext y
  obtain ⟨a, d, rfl⟩ := Blocks.pair 512 1024 y
  exact dyd_at x5 x6 x7 x8 x9 2 _ a d

theorem dy0A (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allDy (turnedW x4) (args x5 x6 x7) x8 x9 0 := by
  unfold out0_A_14
  dsimp only [kernelRun0_A]
  rw [View.read_writes_full]
  unfold kernelRun0_A.sl.r_2 kernelRun0_A.sl.r_3 kernelRun0_A.sl.cst_22
  simp only [View.readAt_eq_ld, Memref.IsWhole.read_unread, ld_y, ld_g, ld_all]
  funext y
  obtain ⟨a, k, rfl⟩ := Blocks.pair 512 512 y
  exact dy_at x4 x5 x6 x7 x8 x9 0 _ _ a k

theorem dy1A (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_15 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allDy (turnedW x4) (args x5 x6 x7) x8 x9 1 := by
  unfold out0_A_15
  dsimp only [kernelRun0_A]
  rw [View.read_writes_full]
  unfold kernelRun0_A.sl.r_5 kernelRun0_A.sl.r_6 kernelRun0_A.sl.r kernelRun0_A.sl.cst_22
  simp only [View.readAt_eq_ld, Memref.IsWhole.read_unread, ld_y, ld_g, ld_all]
  funext y
  obtain ⟨a, k, rfl⟩ := Blocks.pair 512 512 y
  exact dy_at x4 x5 x6 x7 x8 x9 1 _ _ a k

theorem headsA (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_16 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allHeads (turnedW x4) (args x5 x6 x7) x8 x9 := by
  unfold out0_A_16
  dsimp only [kernelRun0_A]
  funext y
  rw [View.read_writes_junk_apply_eq_canon]
  refine View.canon_apply_of_pieces (e := .f32) (allHeads (turnedW x4) (args x5 x6 x7) x8 x9) _ ?_ y (cover0_A_16 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 y)
  dsimp only [kernelRun0_A]
  unfold kernelRun0_A.sl.r_10 kernelRun0_A.sl.r_8 kernelRun0_A.sl.r_9 kernelRun0_A.sl.r kernelRun0_A.sl.cst_22
  simp only [View.readAt_eq_ld, Memref.IsWhole.read_unread, ld_y, ld_g, ld_all]
  refine List.forall_mem_cons.mpr ⟨headpiece x4 x5 x6 x7 x8 x9 7 _ inb_S1x3072_S1x1024_0_2048 inb_S3x1024x512_S1x1024x512_2_0_0 (head7_at _ _) inb_S8x512x64_S1x512x64_7_0_0, ?_⟩
  refine List.forall_mem_cons.mpr ⟨headpiece x4 x5 x6 x7 x8 x9 6 _ inb_S1x3072_S1x1024_0_2048 inb_S3x1024x512_S1x1024x512_2_0_0 (head6_at _ _) inb_S8x512x64_S1x512x64_6_0_0, ?_⟩
  refine List.forall_mem_cons.mpr ⟨headpiece x4 x5 x6 x7 x8 x9 5 _ inb_S1x3072_S1x1024_0_2048 inb_S3x1024x512_S1x1024x512_2_0_0 (head5_at _ _) inb_S8x512x64_S1x512x64_5_0_0, ?_⟩
  refine List.forall_mem_cons.mpr ⟨headpiece x4 x5 x6 x7 x8 x9 4 _ inb_S1x3072_S1x1024_0_2048 inb_S3x1024x512_S1x1024x512_2_0_0 (head4_at _ _) inb_S8x512x64_S1x512x64_4_0_0, ?_⟩
  refine List.forall_mem_cons.mpr ⟨headpiece x4 x5 x6 x7 x8 x9 3 _ inb_S1x3072_S1x1024_0_2048 inb_S3x1024x512_S1x1024x512_2_0_0 (head3_at _ _) inb_S8x512x64_S1x512x64_3_0_0, ?_⟩
  refine List.forall_mem_cons.mpr ⟨headpiece x4 x5 x6 x7 x8 x9 2 _ inb_S1x3072_S1x1024_0_2048 inb_S3x1024x512_S1x1024x512_2_0_0 (head2_at _ _) inb_S8x512x64_S1x512x64_2_0_0, ?_⟩
  refine List.forall_mem_cons.mpr ⟨headpiece x4 x5 x6 x7 x8 x9 1 _ inb_S1x3072_S1x1024_0_2048 inb_S3x1024x512_S1x1024x512_2_0_0 (head1_at _ _) inb_S8x512x64_S1x512x64_1_0_0, ?_⟩
  refine List.forall_mem_cons.mpr ⟨headpiece x4 x5 x6 x7 x8 x9 0 _ inb_S1x3072_S1x1024_0_2048 inb_S3x1024x512_S1x1024x512_2_0_0 (head0_at _ _) inb_S8x512x64_S1x512x64_0_0_0, ?_⟩
  exact fun p hp => absurd hp List.not_mem_nil

theorem biasA (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 :
    out0_A_17 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 = allBias x0 x1 x2 x3 (args x5 x6 x7) x8 x9 := by
  unfold out0_A_17
  dsimp only [kernelRun0_A]
  rw [View.read_writes_full]
  unfold kernelRun0_A.sl.r_1 kernelRun0_A.sl.r_4 kernelRun0_A.sl.r_7 kernelRun0_A.sl.r
  simp only [View.readAt_eq_ld, Memref.IsWhole.read_unread, ld_y, ld_g, ld_all]
  exact bias_at x0 x1 x2 x3 x5 x6 x7 x8 x9 _ _ _ _ _ _

theorem gatesB (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_10 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = allGates x0 x1 x2 x3 (args x5 x6 x7) x8 x9 := by
  unfold out0_B_10
  dsimp only [kernelRun0_B]
  funext y
  rw [View.read_writes_junk_apply_eq_canon]
  refine View.canon_apply_of_pieces (e := .bf16) (allGates x0 x1 x2 x3 (args x5 x6 x7) x8 x9) _ ?_ y (cover0_B_10 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo y)
  dsimp only [kernelRun0_B]
  unfold kernelRun0_B.sl.r
  simp only [View.readAt_eq_ld, Memref.IsWhole.read_unread, ld_y, ld_g, ld_all]
  refine List.forall_mem_cons.mpr ⟨piece x0 x1 x2 x3 x5 x6 x7 x8 x9 2 _ _ inb_S512x3072_S512x1024_0_2048, ?_⟩
  refine List.forall_mem_cons.mpr ⟨piece x0 x1 x2 x3 x5 x6 x7 x8 x9 1 _ _ inb_S512x3072_S512x1024_0_1024, ?_⟩
  refine List.forall_mem_cons.mpr ⟨piece x0 x1 x2 x3 x5 x6 x7 x8 x9 0 _ _ inb_S512x3072_S512x1024_0_0, ?_⟩
  exact fun p hp => absurd hp List.not_mem_nil

theorem dyd0B (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_11 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = allDyd (args x5 x6 x7) x8 x9 0 := by
  unfold out0_B_11
  dsimp only [kernelRun0_B]
  rw [View.read_writes_full]
  simp only [View.readAt_eq_ld, Memref.IsWhole.read_unread, ld_y, ld_g, ld_all]
  funext y
  obtain ⟨a, d, rfl⟩ := Blocks.pair 512 1024 y
  exact dyd_at x5 x6 x7 x8 x9 0 _ a d

theorem dyd1B (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = allDyd (args x5 x6 x7) x8 x9 1 := by
  unfold out0_B_12
  dsimp only [kernelRun0_B]
  rw [View.read_writes_full]
  unfold kernelRun0_B.sl.r
  simp only [View.readAt_eq_ld, Memref.IsWhole.read_unread, ld_y, ld_g, ld_all]
  funext y
  obtain ⟨a, d, rfl⟩ := Blocks.pair 512 1024 y
  exact dyd_at x5 x6 x7 x8 x9 1 _ a d

theorem dyd2B (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = allDyd (args x5 x6 x7) x8 x9 2 := by
  unfold out0_B_13
  dsimp only [kernelRun0_B]
  rw [View.read_writes_full]
  unfold kernelRun0_B.sl.r
  simp only [View.readAt_eq_ld, Memref.IsWhole.read_unread, ld_y, ld_g, ld_all]
  funext y
  obtain ⟨a, d, rfl⟩ := Blocks.pair 512 1024 y
  exact dyd_at x5 x6 x7 x8 x9 2 _ a d

theorem dy0B (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = allDy (turnedW x4) (args x5 x6 x7) x8 x9 0 := by
  unfold out0_B_14
  dsimp only [kernelRun0_B]
  rw [View.read_writes_full]
  unfold kernelRun0_B.sl.r_2 kernelRun0_B.sl.r_3 kernelRun0_B.sl.cst_22
  simp only [View.readAt_eq_ld, Memref.IsWhole.read_unread, ld_y, ld_g, ld_all]
  funext y
  obtain ⟨a, k, rfl⟩ := Blocks.pair 512 512 y
  exact dy_at x4 x5 x6 x7 x8 x9 0 _ _ a k

theorem dy1B (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_15 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = allDy (turnedW x4) (args x5 x6 x7) x8 x9 1 := by
  unfold out0_B_15
  dsimp only [kernelRun0_B]
  rw [View.read_writes_full]
  unfold kernelRun0_B.sl.r_5 kernelRun0_B.sl.r_6 kernelRun0_B.sl.r kernelRun0_B.sl.cst_22
  simp only [View.readAt_eq_ld, Memref.IsWhole.read_unread, ld_y, ld_g, ld_all]
  funext y
  obtain ⟨a, k, rfl⟩ := Blocks.pair 512 512 y
  exact dy_at x4 x5 x6 x7 x8 x9 1 _ _ a k

theorem headsB (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_16 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = allHeads (turnedW x4) (args x5 x6 x7) x8 x9 := by
  unfold out0_B_16
  dsimp only [kernelRun0_B]
  funext y
  rw [View.read_writes_junk_apply_eq_canon]
  refine View.canon_apply_of_pieces (e := .f32) (allHeads (turnedW x4) (args x5 x6 x7) x8 x9) _ ?_ y (cover0_B_16 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo y)
  dsimp only [kernelRun0_B]
  unfold kernelRun0_B.sl.r_10 kernelRun0_B.sl.r_8 kernelRun0_B.sl.r_9 kernelRun0_B.sl.r kernelRun0_B.sl.cst_22
  simp only [View.readAt_eq_ld, Memref.IsWhole.read_unread, ld_y, ld_g, ld_all]
  refine List.forall_mem_cons.mpr ⟨headpiece x4 x5 x6 x7 x8 x9 7 _ inb_S1x3072_S1x1024_0_2048 inb_S3x1024x512_S1x1024x512_2_0_0 (head7_at _ _) inb_S8x512x64_S1x512x64_7_0_0, ?_⟩
  refine List.forall_mem_cons.mpr ⟨headpiece x4 x5 x6 x7 x8 x9 6 _ inb_S1x3072_S1x1024_0_2048 inb_S3x1024x512_S1x1024x512_2_0_0 (head6_at _ _) inb_S8x512x64_S1x512x64_6_0_0, ?_⟩
  refine List.forall_mem_cons.mpr ⟨headpiece x4 x5 x6 x7 x8 x9 5 _ inb_S1x3072_S1x1024_0_2048 inb_S3x1024x512_S1x1024x512_2_0_0 (head5_at _ _) inb_S8x512x64_S1x512x64_5_0_0, ?_⟩
  refine List.forall_mem_cons.mpr ⟨headpiece x4 x5 x6 x7 x8 x9 4 _ inb_S1x3072_S1x1024_0_2048 inb_S3x1024x512_S1x1024x512_2_0_0 (head4_at _ _) inb_S8x512x64_S1x512x64_4_0_0, ?_⟩
  refine List.forall_mem_cons.mpr ⟨headpiece x4 x5 x6 x7 x8 x9 3 _ inb_S1x3072_S1x1024_0_2048 inb_S3x1024x512_S1x1024x512_2_0_0 (head3_at _ _) inb_S8x512x64_S1x512x64_3_0_0, ?_⟩
  refine List.forall_mem_cons.mpr ⟨headpiece x4 x5 x6 x7 x8 x9 2 _ inb_S1x3072_S1x1024_0_2048 inb_S3x1024x512_S1x1024x512_2_0_0 (head2_at _ _) inb_S8x512x64_S1x512x64_2_0_0, ?_⟩
  refine List.forall_mem_cons.mpr ⟨headpiece x4 x5 x6 x7 x8 x9 1 _ inb_S1x3072_S1x1024_0_2048 inb_S3x1024x512_S1x1024x512_2_0_0 (head1_at _ _) inb_S8x512x64_S1x512x64_1_0_0, ?_⟩
  refine List.forall_mem_cons.mpr ⟨headpiece x4 x5 x6 x7 x8 x9 0 _ inb_S1x3072_S1x1024_0_2048 inb_S3x1024x512_S1x1024x512_2_0_0 (head0_at _ _) inb_S8x512x64_S1x512x64_0_0_0, ?_⟩
  exact fun p hp => absurd hp List.not_mem_nil

theorem biasB (c : Dev nD) (i : grid0.Coords) a1 h1 a2 h2 a3 h3 a4 h4 a5 h5 a6 h6 a7 h7 a8 h8 a9 h9 a10 h10 a11 h11 a12 h12 a13 h13 a14 h14 a15 h15 a16 h16 a17 h17 a18 h18 hc0 hc1 (xo : Vec Ideal S1x3072 .f32) :
    out0_B_17 (F := Ideal) c i a1 h1 a2 h2 a3 h3 a4 h4 a5 h5 a6 h6 a7 h7 a8 h8 a9 h9 a10 h10 a11 h11 a12 h12 a13 h13 a14 h14 a15 h15 a16 h16 a17 h17 a18 h18 hc0 hc1 x0 x1 x2 x3 x4 x5 x6 x7 x8 x9 xo = fun y => (xo y + allBias x0 x1 x2 x3 (args x5 x6 x7) x8 x9 y : EReal) := by
  unfold out0_B_17
  dsimp only [kernelRun0_B]
  rw [View.read_writes_full]
  unfold kernelRun0_B.sl.r_1 kernelRun0_B.sl.r_4 kernelRun0_B.sl.r_7 kernelRun0_B.sl.r
  simp only [View.readAt_eq_ld, Memref.IsWhole.read_unread, ld_y, ld_g, ld_all]
  rw [← bias_at x0 x1 x2 x3 x5 x6 x7 x8 x9 _ _ _ _ _ _]
  exact congrArg (fun z => addf z _) (shapeCast_self xo _)

end

end Cert.GradMergeIdeal

end
-- ==== Proof.GradMergeValue.lean ====
module

public import proofs.«01_k».proof.Proof.GradMergePoint
public import proofs.«01_k».proof.Proof.Gen.GradMergeLinesIdeal.Run
public import proofs.«01_k».proof.Proof.Branches
public import proofs.«01_k».proof.Proof.Common
public import Idealize.ShloMosaic.Lib.VecWindow

@[expose] public section

set_option maxRecDepth 16384

noncomputable section

/-! # GradMerge: the gradients of the gated sum of the branches

Sixteen points of 512 rows each. -/

namespace Cert.GradMergeIdeal

open Idealize.ShloMosaic Idealize.ShloMosaic.TcCoe Idealize.SL.Sem Idealize.ShloMosaic.StableHlo Cert.GradMergeIdeal.Gen
open Cert.Branches

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 4] := (by decide +kernel : ∀ t : Fin grid0.N, _)
theorem idx6 : ∀ t : Fin cfg0.N, win0_6.index t = ![t.val, 5] := (by decide +kernel : ∀ t : Fin grid0.N, _)
theorem idx7 : ∀ t : Fin cfg0.N, win0_7.index t = ![t.val, 6] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![0, t.val, 0] := (by decide +kernel : ∀ t : Fin grid0.N, _)
theorem idx17 : ∀ t : Fin cfg0.N, win0_17.index t = ![0, 0] := (by decide +kernel : ∀ t : Fin grid0.N, _)

abbrev Ya : FVec Ideal S8192x512 .bf16 := m ((c : Thread nD τ).loc main_arg0)
abbrev Yb : FVec Ideal S8192x512 .bf16 := m ((c : Thread nD τ).loc main_arg1)
abbrev Yc : FVec Ideal S8192x512 .bf16 := m ((c : Thread nD τ).loc main_arg2)
abbrev W : FVec Ideal S3x512x1024 .bf16 := m ((c : Thread nD τ).loc main_arg3)
abbrev P : FVec Ideal S8192x7168 .bf16 := m ((c : Thread nD τ).loc main_arg4)
abbrev Bg : FVec Ideal S1x3072 .f32 := m ((c : Thread nD τ).loc main_arg5)
abbrev Dm : FVec Ideal S8192x1024 .bf16 := m ((c : Thread nD τ).loc main_arg6)

/-- The gates' arguments in a projection. -/
def gateArgs (P : FVec Ideal S8192x7168 .bf16) : Fin 3 → Fin 8192 → Fin 1024 → EReal := fun n s d => P (ix2 s (at4096 (col n d)))
/-- The branches' matrices turned. -/
def turnW (W : FVec Ideal S3x512x1024 .bf16) : Fin 3 → Fin 1024 → Fin 512 → EReal := fun n d k => W (ix3 n k d)

abbrev Args : Fin 3 → Fin 8192 → Fin 1024 → EReal := gateArgs (P m c)
abbrev Wt : Fin 3 → Fin 1024 → Fin 512 → EReal := turnW (W m c)

/-- Row `a` of point `t`'s block, in the whole. -/
def row (t : Fin cfg0.N) (a : Fin 512) : Fin 8192 := ⟨512 * t.val + a.val, by have := pt_lt t; omega⟩

abbrev B0 (t : Fin cfg0.N) : FVec Ideal S512x512 .bf16 := iblk m c 0 t
abbrev B1 (t : Fin cfg0.N) : FVec Ideal S512x512 .bf16 := iblk m c 1 t
abbrev B2 (t : Fin cfg0.N) : FVec Ideal S512x512 .bf16 := iblk m c 2 t
abbrev B3 (t : Fin cfg0.N) : FVec Ideal S3x512x1024 .bf16 := iblk m c 3 t
abbrev B4 (t : Fin cfg0.N) : FVec Ideal S3x1024x512 .bf16 := iblk m c 4 t
abbrev B5 (t : Fin cfg0.N) : FVec Ideal S512x1024 .bf16 := iblk m c 5 t
abbrev B6 (t : Fin cfg0.N) : FVec Ideal S512x1024 .bf16 := iblk m c 6 t
abbrev B7 (t : Fin cfg0.N) : FVec Ideal S512x1024 .bf16 := iblk m c 7 t
abbrev B8 (t : Fin cfg0.N) : FVec Ideal S1x3072 .f32 := iblk m c 8 t
abbrev B9 (t : Fin cfg0.N) : FVec Ideal S512x1024 .bf16 := iblk m c 9 t

theorem blk0 (t : Fin cfg0.N) (a k : Fin 512) : B0 m c t (ix2 a k) = Ya m c (ix2 (row t a) k) := by
  unfold B0
  blk_simp [iblk]
  rw [V_main_arg0]
  refine congrArg (Ya m c) ?_
  unfold row
  blk_ext [idx0]

theorem blk1 (t : Fin cfg0.N) (a k : Fin 512) : B1 m c t (ix2 a k) = Yb m c (ix2 (row t a) k) := by
  unfold B1
  blk_simp [iblk]
  rw [V_main_arg1]
  refine congrArg (Yb m c) ?_
  unfold row
  blk_ext [idx1]

theorem blk2 (t : Fin cfg0.N) (a k : Fin 512) : B2 m c t (ix2 a k) = Yc m c (ix2 (row t a) k) := by
  unfold B2
  blk_simp [iblk]
  rw [V_main_arg2]
  refine congrArg (Yc m c) ?_
  unfold row
  blk_ext [idx2]

theorem blk3 (t : Fin cfg0.N) (n : Fin 3) (k : Fin 512) (d : Fin 1024) : B3 m c t (ix3 n k d) = W m c (ix3 n k d) := by
  unfold B3
  blk_simp [iblk]
  rw [V_main_arg3]
  refine congrArg (W m c) ?_
  blk_ext [idx3]

theorem V_v0 : V m c main_v0 = transpose S3x1024x512 [0, 2, 1] (W m c) transposes_S3x512x1024_S3x1024x512_0_2_1 := by
  unfold V
  simp only [hostOps0]
  after_reads_simp

theorem turned (n : Fin 3) (d : Fin 1024) (k : Fin 512) : (V m c main_v0 : FVec Ideal S3x1024x512 .bf16) (ix3 n d k) = W m c (ix3 n k d) := by
  rw [V_v0]
  pointwise

theorem blk4 (t : Fin cfg0.N) (n : Fin 3) (d : Fin 1024) (k : Fin 512) : B4 m c t (ix3 n d k) = W m c (ix3 n k d) := by
  rw [← turned]
  unfold B4
  blk_simp [iblk]
  refine congrArg (V m c main_v0) ?_
  blk_ext [idx4]

theorem blk5 (t : Fin cfg0.N) (a : Fin 512) (d : Fin 1024) : B5 m c t (ix2 a d) = P m c (ix2 (row t a) (at4096 (col 0 d))) := by
  unfold B5
  blk_simp [iblk]
  rw [V_main_arg4]
  refine congrArg (P m c) ?_
  unfold row at4096 col
  blk_ext [idx5]

theorem blk6 (t : Fin cfg0.N) (a : Fin 512) (d : Fin 1024) : B6 m c t (ix2 a d) = P m c (ix2 (row t a) (at4096 (col 1 d))) := by
  unfold B6
  blk_simp [iblk]
  rw [V_main_arg4]
  refine congrArg (P m c) ?_
  unfold row at4096 col
  blk_ext [idx6]

theorem blk7 (t : Fin cfg0.N) (a : Fin 512) (d : Fin 1024) : B7 m c t (ix2 a d) = P m c (ix2 (row t a) (at4096 (col 2 d))) := by
  unfold B7
  blk_simp [iblk]
  rw [V_main_arg4]
  refine congrArg (P m c) ?_
  unfold row at4096 col
  blk_ext [idx7]

theorem blk8 (t : Fin cfg0.N) (j : Fin 3072) : B8 m c t (ix2 (0 : Fin 1) j) = Bg m c (ix2 (0 : Fin 1) j) := by
  unfold B8
  blk_simp [iblk]
  rw [V_main_arg5]
  refine congrArg (Bg m c) ?_
  blk_ext [idx8]

theorem blk9 (t : Fin cfg0.N) (a : Fin 512) (d : Fin 1024) : B9 m c t (ix2 a d) = Dm m c (ix2 (row t a) d) := by
  unfold B9
  blk_simp [iblk]
  rw [V_main_arg6]
  refine congrArg (Dm m c) ?_
  unfold row
  blk_ext [idx9]

/-! ## A point's values are rows of the whole's -/

theorem args_blk (t : Fin cfg0.N) (n : Fin 3) (a : Fin 512) (d : Fin 1024) :
    args (B5 m c t) (B6 m c t) (B7 m c t) n a d = Args m c n (row t a) d := by
  match n with
  | ⟨0, _⟩ => exact blk5 m c t a d
  | ⟨1, _⟩ => exact blk6 m c t a d
  | ⟨2, _⟩ => exact blk7 m c t a d

theorem sg_blk (t : Fin cfg0.N) (n : Fin 3) (a : Fin 512) (d : Fin 1024) :
    sg (args (B5 m c t) (B6 m c t) (B7 m c t)) (B8 m c t) n a d = sg (Args m c) (Bg m c) n (row t a) d := by
  unfold sg
  rw [args_blk, blk8]

theorem prod_blk (t : Fin cfg0.N) (n : Fin 3) (a : Fin 512) (d : Fin 1024) :
    prod (B0 m c t) (B1 m c t) (B2 m c t) (B3 m c t) n a d = prod (Ya m c) (Yb m c) (Yc m c) (W m c) n (row t a) d := by
  refine Finset.sum_congr rfl fun k _ => congrArg₂ _ ?_ (blk3 m c t n k d)
  match n with
  | ⟨0, _⟩ => exact blk0 m c t a k
  | ⟨1, _⟩ => exact blk1 m c t a k
  | ⟨2, _⟩ => exact blk2 m c t a k

theorem dgate_blk (t : Fin cfg0.N) (n : Fin 3) (a : Fin 512) (d : Fin 1024) :
    dgate (B0 m c t) (B1 m c t) (B2 m c t) (B3 m c t) (args (B5 m c t) (B6 m c t) (B7 m c t)) (B8 m c t) (B9 m c t) n a d = dgate (Ya m c) (Yb m c) (Yc m c) (W m c) (Args m c) (Bg m c) (Dm m c) n (row t a) d := by
  unfold dgate
  rw [prod_blk, sg_blk, blk9]

theorem dyd_blk (t : Fin cfg0.N) (n : Fin 3) (a : Fin 512) (d : Fin 1024) :
    dyd (args (B5 m c t) (B6 m c t) (B7 m c t)) (B8 m c t) (B9 m c t) n a d = dyd (Args m c) (Bg m c) (Dm m c) n (row t a) d := by
  unfold dyd
  rw [sg_blk, blk9]

theorem dy_blk (t : Fin cfg0.N) (n : Fin 3) (a k : Fin 512) :
    dy (turnedW (B4 m c t)) (args (B5 m c t) (B6 m c t) (B7 m c t)) (B8 m c t) (B9 m c t) n a k = dy (Wt m c) (Args m c) (Bg m c) (Dm m c) n (row t a) k := by
  unfold dy
  refine Finset.sum_congr rfl fun d _ => ?_
  rw [dyd_blk]
  exact congrArg _ (blk4 m c t n d k)

/-! ## What each point leaves -/

theorem outs10 (t : Fin cfg0.N) : (outsAt0 m c t.val t.isLt).1 = allGates (B0 m c t) (B1 m c t) (B2 m c t) (B3 m c t) (args (B5 m c t) (B6 m c t) (B7 m c t)) (B8 m c t) (B9 m c t) := by
  by_cases ht : t.val % 16 = 0
  · rw [outsAt0_A m c t ht (by have := pt_lt t; omega)]
    dsimp only
    rw [gatesA]
  · rw [outsAt0_B m c t ht (by omega)]
    dsimp only
    rw [gatesB]

theorem outs11 (t : Fin cfg0.N) : (outsAt0 m c t.val t.isLt).2.1 = allDyd (args (B5 m c t) (B6 m c t) (B7 m c t)) (B8 m c t) (B9 m c t) 0 := by
  by_cases ht : t.val % 16 = 0
  · rw [outsAt0_A m c t ht (by have := pt_lt t; omega)]
    dsimp only
    rw [dyd0A]
  · rw [outsAt0_B m c t ht (by omega)]
    dsimp only
    rw [dyd0B]

theorem outs12 (t : Fin cfg0.N) : (outsAt0 m c t.val t.isLt).2.2.1 = allDyd (args (B5 m c t) (B6 m c t) (B7 m c t)) (B8 m c t) (B9 m c t) 1 := by
  by_cases ht : t.val % 16 = 0
  · rw [outsAt0_A m c t ht (by have := pt_lt t; omega)]
    dsimp only
    rw [dyd1A]
  · rw [outsAt0_B m c t ht (by omega)]
    dsimp only
    rw [dyd1B]

theorem outs13 (t : Fin cfg0.N) : (outsAt0 m c t.val t.isLt).2.2.2.1 = allDyd (args (B5 m c t) (B6 m c t) (B7 m c t)) (B8 m c t) (B9 m c t) 2 := by
  by_cases ht : t.val % 16 = 0
  · rw [outsAt0_A m c t ht (by have := pt_lt t; omega)]
    dsimp only
    rw [dyd2A]
  · rw [outsAt0_B m c t ht (by omega)]
    dsimp only
    rw [dyd2B]

theorem outs14 (t : Fin cfg0.N) : (outsAt0 m c t.val t.isLt).2.2.2.2.1 = allDy (turnedW (B4 m c t)) (args (B5 m c t) (B6 m c t) (B7 m c t)) (B8 m c t) (B9 m c t) 0 := by
  by_cases ht : t.val % 16 = 0
  · rw [outsAt0_A m c t ht (by have := pt_lt t; omega)]
    dsimp only
    rw [dy0A]
  · rw [outsAt0_B m c t ht (by omega)]
    dsimp only
    rw [dy0B]

theorem outs15 (t : Fin cfg0.N) : (outsAt0 m c t.val t.isLt).2.2.2.2.2.1 = allDy (turnedW (B4 m c t)) (args (B5 m c t) (B6 m c t) (B7 m c t)) (B8 m c t) (B9 m c t) 1 := by
  by_cases ht : t.val % 16 = 0
  · rw [outsAt0_A m c t ht (by have := pt_lt t; omega)]
    dsimp only
    rw [dy1A]
  · rw [outsAt0_B m c t ht (by omega)]
    dsimp only
    rw [dy1B]

theorem outs16 (t : Fin cfg0.N) : (outsAt0 m c t.val t.isLt).2.2.2.2.2.2.1 = allHeads (turnedW (B4 m c t)) (args (B5 m c t) (B6 m c t) (B7 m c t)) (B8 m c t) (B9 m c t) := by
  by_cases ht : t.val % 16 = 0
  · rw [outsAt0_A m c t ht (by have := pt_lt t; omega)]
    dsimp only
    rw [headsA]
  · rw [outsAt0_B m c t ht (by omega)]
    dsimp only
    rw [headsB]

/-- The terms of one element of the bias's gradient, row by row. -/
def terms (j : Fin 3072) : Fin 8192 → EReal := fun s => dgate (Ya m c) (Yb m c) (Yc m c) (W m c) (Args m c) (Bg m c) (Dm m c) (branch j) s (within j)

theorem bias_blk (t : Fin cfg0.N) (j : Fin 3072) :
    Blocks.part (terms m c j) (512 * t.val) + allBias (B0 m c t) (B1 m c t) (B2 m c t) (B3 m c t) (args (B5 m c t) (B6 m c t) (B7 m c t)) (B8 m c t) (B9 m c t) (ix2 (0 : Fin 1) j) = Blocks.part (terms m c j) (512 * (t.val + 1)) := by
  have := pt_lt t
  refine Blocks.part_block (terms m c j) (by omega) (by omega) (fun a : Fin 512 => dgate (B0 m c t) (B1 m c t) (B2 m c t) (B3 m c t) (args (B5 m c t) (B6 m c t) (B7 m c t)) (B8 m c t) (B9 m c t) (branch j) a (within j)) fun a => ?_
  exact dgate_blk m c t (branch j) a (within j)

theorem bias_first (t : Fin cfg0.N) (ht : t.val % 16 = 0) (j : Fin 3072) :
    (outsAt0 m c t.val t.isLt).2.2.2.2.2.2.2 (ix2 (0 : Fin 1) j) = Blocks.part (terms m c j) (512 * (t.val + 1)) := by
  have := pt_lt t
  rw [outsAt0_A m c t ht (by omega)]
  dsimp only
  rw [biasA, ← bias_blk, show t.val = 0 by omega, Nat.mul_zero, Blocks.part_zero, zero_add]

theorem bias_next (t : Fin cfg0.N) (ht : ¬t.val % 16 = 0) (j : Fin 3072)
    (ih : (outsAt0 m c (t.val - 1) (Blocks.prev t)).2.2.2.2.2.2.2 (ix2 (0 : Fin 1) j) = Blocks.part (terms m c j) (512 * t.val)) :
    (outsAt0 m c t.val t.isLt).2.2.2.2.2.2.2 (ix2 (0 : Fin 1) j) = Blocks.part (terms m c j) (512 * (t.val + 1)) := by
  rw [outsAt0_B m c t ht (by omega)]
  dsimp only
  rw [biasB, ← bias_blk, ← ih]

theorem bias_after (n : ℕ) (hn : n < cfg0.N) (j : Fin 3072) :
    (outsAt0 m c n hn).2.2.2.2.2.2.2 (ix2 (0 : Fin 1) j) = Blocks.part (terms m c j) (512 * (n + 1)) := by
  induction n with
  | zero => exact bias_first m c ⟨0, hn⟩ rfl j
  | succ n ih =>
    have := pt_lt ⟨n + 1, hn⟩
    exact bias_next m c ⟨n + 1, hn⟩ (by dsimp only at this ⊢; omega) j (ih (by omega))

theorem outs17 (t : Fin cfg0.N) (ht : t.val % 16 = 15) (j : Fin 3072) :
    (outsAt0 m c t.val t.isLt).2.2.2.2.2.2.2 (ix2 (0 : Fin 1) j) = allBias (Ya m c) (Yb m c) (Yc m c) (W m c) (Args m c) (Bg m c) (Dm m c) (ix2 (0 : Fin 1) j) := by
  have := pt_lt t
  rw [bias_after, show 512 * (t.val + 1) = 8192 by omega, Blocks.part_all]
  rfl

/-! ## The whole results -/

theorem final10 : (dats m 0 c).arrAt 10 cfg0.N = allGates (Ya m c) (Yb m c) (Yc m c) (W m c) (Args m c) (Bg m c) (Dm m c) := by
  refine (dats m 0 c).arrAt_eq_of_covers 10 _ (by decide +kernel) fun t hf y => ?_
  blk_simp
  rw [after0_10, outs10]
  obtain ⟨a, d, rfl⟩ := Blocks.pair 512 3072 y
  refine (dgate_blk m c t (branch d) a (within d)).trans ?_
  refine congrArg (allGates (Ya m c) (Yb m c) (Yc m c) (W m c) (Args m c) (Bg m c) (Dm m c)) (?_ : ix2 (row t a) d = _)
  unfold row
  blk_ext [idx10]

theorem final11 : (dats m 0 c).arrAt 11 cfg0.N = allDyd (Args m c) (Bg m c) (Dm m c) 0 := by
  refine (dats m 0 c).arrAt_eq_of_covers 11 _ (by decide +kernel) fun t hf y => ?_
  blk_simp
  rw [after0_11, outs11]
  obtain ⟨a, d, rfl⟩ := Blocks.pair 512 1024 y
  refine (dyd_blk m c t 0 a d).trans ?_
  refine congrArg (allDyd (Args m c) (Bg m c) (Dm m c) 0) (?_ : ix2 (row t a) d = _)
  unfold row
  blk_ext [idx11]

theorem final12 : (dats m 0 c).arrAt 12 cfg0.N = allDyd (Args m c) (Bg m c) (Dm m c) 1 := by
  refine (dats m 0 c).arrAt_eq_of_covers 12 _ (by decide +kernel) fun t hf y => ?_
  blk_simp
  rw [after0_12, outs12]
  obtain ⟨a, d, rfl⟩ := Blocks.pair 512 1024 y
  refine (dyd_blk m c t 1 a d).trans ?_
  refine congrArg (allDyd (Args m c) (Bg m c) (Dm m c) 1) (?_ : ix2 (row t a) d = _)
  unfold row
  blk_ext [idx12]

theorem final13 : (dats m 0 c).arrAt 13 cfg0.N = allDyd (Args m c) (Bg m c) (Dm m c) 2 := by
  refine (dats m 0 c).arrAt_eq_of_covers 13 _ (by decide +kernel) fun t hf y => ?_
  blk_simp
  rw [after0_13, outs13]
  obtain ⟨a, d, rfl⟩ := Blocks.pair 512 1024 y
  refine (dyd_blk m c t 2 a d).trans ?_
  refine congrArg (allDyd (Args m c) (Bg m c) (Dm m c) 2) (?_ : ix2 (row t a) d = _)
  unfold row
  blk_ext [idx13]

theorem final14 : (dats m 0 c).arrAt 14 cfg0.N = allDy (Wt m c) (Args m c) (Bg m c) (Dm m c) 0 := by
  refine (dats m 0 c).arrAt_eq_of_covers 14 _ (by decide +kernel) fun t hf y => ?_
  blk_simp
  rw [after0_14, outs14]
  obtain ⟨a, d, rfl⟩ := Blocks.pair 512 512 y
  refine (dy_blk m c t 0 a d).trans ?_
  refine congrArg (allDy (Wt m c) (Args m c) (Bg m c) (Dm m c) 0) (?_ : ix2 (row t a) d = _)
  unfold row
  blk_ext [idx14]

theorem final15 : (dats m 0 c).arrAt 15 cfg0.N = allDy (Wt m c) (Args m c) (Bg m c) (Dm m c) 1 := by
  refine (dats m 0 c).arrAt_eq_of_covers 15 _ (by decide +kernel) fun t hf y => ?_
  blk_simp
  rw [after0_15, outs15]
  obtain ⟨a, d, rfl⟩ := Blocks.pair 512 512 y
  refine (dy_blk m c t 1 a d).trans ?_
  refine congrArg (allDy (Wt m c) (Args m c) (Bg m c) (Dm m c) 1) (?_ : ix2 (row t a) d = _)
  unfold row
  blk_ext [idx15]

theorem final16 : (dats m 0 c).arrAt 16 cfg0.N = allHeads (Wt m c) (Args m c) (Bg m c) (Dm m c) := by
  refine (dats m 0 c).arrAt_eq_of_covers 16 _ (by decide +kernel) fun t hf y => ?_
  blk_simp
  rw [after0_16, outs16]
  obtain ⟨h, a, e, rfl⟩ : ∃ (h : Fin 8) (a : Fin 512) (e : Fin 64), y = ix3 h a e := ⟨y 0, y 1, y 2, funext fun i => by
    match i with
    | ⟨0, _⟩ => rfl
    | ⟨1, _⟩ => rfl
    | ⟨2, _⟩ => rfl⟩
  refine (dy_blk m c t 2 a (beside h e)).trans ?_
  refine congrArg (allHeads (Wt m c) (Args m c) (Bg m c) (Dm m c)) (?_ : ix3 h (row t a) e = _)
  unfold row
  blk_ext [idx16]

theorem final17 : (dats m 0 c).arrAt 17 cfg0.N = allBias (Ya m c) (Yb m c) (Yc m c) (W m c) (Args m c) (Bg m c) (Dm m c) := by
  refine (dats m 0 c).arrAt_eq_of_covers 17 _ (by decide +kernel) fun t hf y => ?_
  blk_simp
  rw [after0_17]
  obtain ⟨j, rfl⟩ : ∃ j : Fin 3072, y = ix2 (0 : Fin 1) j := ⟨y 1, funext fun i => by
    match i with
    | ⟨0, _⟩ => exact Fin.ext (Nat.lt_one_iff.mp (y 0).isLt)
    | ⟨1, _⟩ => rfl⟩
  refine (outs17 m c t ((flush0_17 t).mp hf) j).trans ?_
  refine congrArg (allBias (Ya m c) (Yb m c) (Yc m c) (W m c) (Args m c) (Bg m c) (Dm m c)) (?_ : ix2 (0 : Fin 1) j = _)
  blk_ext [idx17]

end Cert.GradMergeIdeal

/-! ## The reference -/

namespace Cert.GradMergeLinesIdeal

open Idealize.ShloMosaic Idealize.ShloMosaic.TcCoe Cert.GradMergeLinesIdeal.Gen Cert.Branches
open Cert.GradMergeIdeal (sg prod dgate dyd dy allGates allDyd allDy allHeads allBias gateArgs turnW)

section

variable (ya yb yc : FVec Ideal S8192x512 .bf16) (wb : FVec Ideal S3x512x1024 .bf16) (P : FVec Ideal S8192x7168 .bf16) (b : FVec Ideal S1x3072 .f32)
  (dm : FVec Ideal S8192x1024 .bf16)

/-- The gates. -/
def gates : FVec Ideal S8192x3072 .f32 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf (extf .f32 (extractStridedSlice S8192x3072 ![0, 4096] P slices_S8192x7168_S8192x3072_0_4096) bitsLt_bf16_f32) (broadcastInDim S8192x3072 ![0, 1] bcast_S1x3072_S8192x3072_0_1 b)))))

/-- The branches stacked. -/
def stacked : FVec Ideal S8192x3x512 .bf16 :=
  (concatenate S8192x3x512 1 [⟨S8192x1x512, ((broadcastInDim S8192x1x512 ![0, 2] bcast_S8192x512_S8192x1x512_0_2 ya) : (⟨S8192x1x512, .bf16⟩ : BufTy).Contents (Elt Ideal))⟩, ⟨S8192x1x512, ((broadcastInDim S8192x1x512 ![0, 2] bcast_S8192x512_S8192x1x512_0_2 yb) : (⟨S8192x1x512, .bf16⟩ : BufTy).Contents (Elt Ideal))⟩, ⟨S8192x1x512, ((broadcastInDim S8192x1x512 ![0, 2] bcast_S8192x512_S8192x1x512_0_2 yc) : (⟨S8192x1x512, .bf16⟩ : BufTy).Contents (Elt Ideal))⟩] concatenates_S8192x1x512_S8192x1x512_S8192x1x512_S8192x3x512_d1 : (⟨S8192x3x512, .bf16⟩ : BufTy).Contents (Elt Ideal))

/-- The branches' products. -/
def products (ys : FVec Ideal S8192x3x512 .bf16) : FVec Ideal S8192x3x1024 .f32 :=
  transpose S8192x3x1024 [2, 0, 1] (Host.dotGeneral dot_S3x512x1024_S8192x3x512_S3x1024x8192_1_2_2_0_0_1 none (extf .f32 wb bitsLt_bf16_f32) (extf .f32 ys bitsLt_bf16_f32)) transposes_S3x1024x8192_S8192x3x1024_2_0_1

/-- The gradient of the merge, once for each branch. -/
def spread : FVec Ideal S8192x3x1024 .f32 :=
  broadcastInDim S8192x3x1024 ![0, 2] bcast_S8192x1024_S8192x3x1024_0_2 (extf .f32 dm bitsLt_bf16_f32)

/-- The slope of the gates. -/
def slope (s : FVec Ideal S8192x3072 .f32) : FVec Ideal S8192x3072 .f32 :=
  mulf s (subf (broadcastInDim S8192x3072 ![] bcast_S_S8192x3072 (constant S_ .f32 0x3F800000#32)) s)

/-- The gradients of the products. -/
def dprod : FVec Ideal S8192x3x1024 .f32 :=
  mulf (shapeCast _ (gates P b) shapeCasts_S8192x3072_S8192x3x1024) (spread dm)

/-- The gradients of the branches. -/
def dbranch (dp : FVec Ideal S8192x3x1024 .f32) : FVec Ideal S8192x3x512 .f32 :=
  transpose S8192x3x512 [1, 0, 2] (Host.dotGeneral dot_S3x1024x8192_S3x512x1024_S3x8192x512_1_2_2_1_0_0 none (transpose S3x1024x8192 [1, 2, 0] dp transposes_S8192x3x1024_S3x1024x8192_1_2_0) (extf .f32 wb bitsLt_bf16_f32)) transposes_S3x8192x512_S8192x3x512_1_0_2

/-- The gradients of the gates' arguments. -/
def dgates : FVec Ideal S8192x3072 .f32 :=
  mulf (shapeCast _ (mulf (spread dm) (products wb (stacked ya yb yc))) shapeCasts_S8192x3x1024_S8192x3072) (slope (gates P b))

theorem gates_at (a : Fin 8192) (j : Fin 3072) : gates P b (ix2 a j) = Proof.gate (P (ix2 a (at4096 j)) + b (ix2 (0 : Fin 1) j)) := by
  unfold gates Proof.gate at4096
  pointwise

theorem gates_col (a : Fin 8192) (n : Fin 3) (d : Fin 1024) : gates P b (ix2 a (col n d)) = sg (gateArgs P) b n a d := gates_at P b a (col n d)

theorem stacked_at (a : Fin 8192) (n : Fin 3) (k : Fin 512) : stacked ya yb yc (ix3 a n k) = pick ya yb yc n (ix2 a k) := by
  match n with
  | ⟨0, _⟩ => unfold stacked pick; pointwise
  | ⟨1, _⟩ => unfold stacked pick; pointwise
  | ⟨2, _⟩ => unfold stacked pick; pointwise

theorem products_at (ys : FVec Ideal S8192x3x512 .bf16) (a : Fin 8192) (n : Fin 3) (d : Fin 1024) :
    products wb ys (ix3 a n d) = ∑ k : Fin 512, ys (ix3 a n k) * wb (ix3 n k d) := by
  refine Eq.trans (b := ∑ k : Fin 512, wb (ix3 n k d) * ys (ix3 a n k)) ?_ (Finset.sum_congr rfl fun k _ => mul_comm _ _)
  unfold products
  pointwise [dot_S3x512x1024_S8192x3x512_S3x1024x8192_1_2_2_0_0_1]

theorem products_eq (a : Fin 8192) (n : Fin 3) (d : Fin 1024) : products wb (stacked ya yb yc) (ix3 a n d) = prod ya yb yc wb n a d := by
  rw [products_at]
  exact Finset.sum_congr rfl fun k _ => congrArg (fun z : EReal => z * wb (ix3 n k d)) (stacked_at ya yb yc a n k)

theorem spread_at (a : Fin 8192) (n : Fin 3) (d : Fin 1024) : spread dm (ix3 a n d) = dm (ix2 a d) := by
  unfold spread
  pointwise

theorem slope_at (s : FVec Ideal S8192x3072 .f32) (a : Fin 8192) (j : Fin 3072) : slope s (ix2 a j) = s (ix2 a j) * (1 - s (ix2 a j)) := by
  unfold slope
  pointwise

theorem dprod_at (a : Fin 8192) (n : Fin 3) (d : Fin 1024) : dprod P b dm (ix3 a n d) = dyd (gateArgs P) b dm n a d := by
  unfold dyd
  rw [mul_comm, ← gates_col]
  refine Eq.trans (b := gates P b (ix2 a (col n d)) * spread dm (ix3 a n d)) ?_ (by rw [spread_at])
  unfold dprod col
  generalize gates P b = x
  generalize spread dm = z
  pointwise

theorem dbranch_at (dp : FVec Ideal S8192x3x1024 .f32) (a : Fin 8192) (n : Fin 3) (k : Fin 512) :
    dbranch wb dp (ix3 a n k) = ∑ d : Fin 1024, dp (ix3 a n d) * wb (ix3 n k d) := by
  unfold dbranch
  pointwise [dot_S3x1024x8192_S3x512x1024_S3x8192x512_1_2_2_1_0_0]

theorem dbranch_eq (a : Fin 8192) (n : Fin 3) (k : Fin 512) : dbranch wb (dprod P b dm) (ix3 a n k) = dy (turnW wb) (gateArgs P) b dm n a k := by
  rw [dbranch_at]
  exact Finset.sum_congr rfl fun d _ => congrArg (fun z : EReal => z * wb (ix3 n k d)) (dprod_at P b dm a n d)

theorem dgates_col (a : Fin 8192) (n : Fin 3) (d : Fin 1024) : dgates ya yb yc wb P b dm (ix2 a (col n d)) = dgate ya yb yc wb (gateArgs P) b dm n a d := by
  unfold dgate
  rw [← gates_col, mul_assoc, ← slope_at, ← products_eq, ← spread_at dm a n d]
  unfold dgates col
  generalize slope (gates P b) = x
  generalize spread dm = z
  generalize products wb (stacked ya yb yc) = w
  pointwise

theorem dgates_at (a : Fin 8192) (j : Fin 3072) :
    dgates ya yb yc wb P b dm (ix2 a j) = dgate ya yb yc wb (gateArgs P) b dm (branch j) a (within j) := by
  rw [← dgates_col, col_branch]

/-! ## Its results -/

theorem line0 : (truncf .bf16 (dgates ya yb yc wb P b dm) bitsLt_bf16_f32 : FVec Ideal S8192x3072 .bf16) = allGates ya yb yc wb (gateArgs P) b dm := by
  funext i
  obtain ⟨a, j, rfl⟩ := Blocks.pair 8192 3072 i
  exact dgates_at ya yb yc wb P b dm a j

theorem line1 : (shapeCast S8192x1024 (extractStridedSlice S8192x1x1024 ![0, 0, 0] (truncf .bf16 (dprod P b dm) bitsLt_bf16_f32) slices_S8192x3x1024_S8192x1x1024_0_0_0) shapeCasts_S8192x1x1024_S8192x1024 : FVec Ideal S8192x1024 .bf16) = allDyd (gateArgs P) b dm 0 := by
  funext i
  obtain ⟨a, d, rfl⟩ := Blocks.pair 8192 1024 i
  refine Eq.trans (b := dprod P b dm (ix3 a (⟨0, by decide⟩ : Fin 3) d)) ?_ (dprod_at P b dm a ⟨0, by decide⟩ d)
  generalize dprod P b dm = x
  pointwise

theorem line2 : (shapeCast S8192x1024 (extractStridedSlice S8192x1x1024 ![0, 1, 0] (truncf .bf16 (dprod P b dm) bitsLt_bf16_f32) slices_S8192x3x1024_S8192x1x1024_0_1_0) shapeCasts_S8192x1x1024_S8192x1024 : FVec Ideal S8192x1024 .bf16) = allDyd (gateArgs P) b dm 1 := by
  funext i
  obtain ⟨a, d, rfl⟩ := Blocks.pair 8192 1024 i
  refine Eq.trans (b := dprod P b dm (ix3 a (⟨1, by decide⟩ : Fin 3) d)) ?_ (dprod_at P b dm a ⟨1, by decide⟩ d)
  generalize dprod P b dm = x
  pointwise

theorem line3 : (shapeCast S8192x1024 (extractStridedSlice S8192x1x1024 ![0, 2, 0] (truncf .bf16 (dprod P b dm) bitsLt_bf16_f32) slices_S8192x3x1024_S8192x1x1024_0_2_0) shapeCasts_S8192x1x1024_S8192x1024 : FVec Ideal S8192x1024 .bf16) = allDyd (gateArgs P) b dm 2 := by
  funext i
  obtain ⟨a, d, rfl⟩ := Blocks.pair 8192 1024 i
  refine Eq.trans (b := dprod P b dm (ix3 a (⟨2, by decide⟩ : Fin 3) d)) ?_ (dprod_at P b dm a ⟨2, by decide⟩ d)
  generalize dprod P b dm = x
  pointwise

theorem line4 : (shapeCast S8192x512 (extractStridedSlice S8192x1x512 ![0, 0, 0] (dbranch wb (dprod P b dm)) slices_S8192x3x512_S8192x1x512_0_0_0) shapeCasts_S8192x1x512_S8192x512 : FVec Ideal S8192x512 .f32) = allDy (turnW wb) (gateArgs P) b dm 0 := by
  funext i
  obtain ⟨a, k, rfl⟩ := Blocks.pair 8192 512 i
  refine Eq.trans (b := dbranch wb (dprod P b dm) (ix3 a (⟨0, by decide⟩ : Fin 3) k)) ?_ (dbranch_eq wb P b dm a ⟨0, by decide⟩ k)
  generalize dbranch wb (dprod P b dm) = x
  pointwise

theorem line5 : (shapeCast S8192x512 (extractStridedSlice S8192x1x512 ![0, 1, 0] (dbranch wb (dprod P b dm)) slices_S8192x3x512_S8192x1x512_0_1_0) shapeCasts_S8192x1x512_S8192x512 : FVec Ideal S8192x512 .f32) = allDy (turnW wb) (gateArgs P) b dm 1 := by
  funext i
  obtain ⟨a, k, rfl⟩ := Blocks.pair 8192 512 i
  refine Eq.trans (b := dbranch wb (dprod P b dm) (ix3 a (⟨1, by decide⟩ : Fin 3) k)) ?_ (dbranch_eq wb P b dm a ⟨1, by decide⟩ k)
  generalize dbranch wb (dprod P b dm) = x
  pointwise

theorem line6 : (transpose S8x8192x64 [1, 0, 2] (shapeCast S8192x8x64 (shapeCast S8192x512 (extractStridedSlice S8192x1x512 ![0, 2, 0] (dbranch wb (dprod P b dm)) slices_S8192x3x512_S8192x1x512_0_2_0) shapeCasts_S8192x1x512_S8192x512) shapeCasts_S8192x512_S8192x8x64) transposes_S8192x8x64_S8x8192x64_1_0_2 : FVec Ideal S8x8192x64 .f32) = allHeads (turnW wb) (gateArgs P) b dm := by
  funext i
  obtain ⟨h, a, e, rfl⟩ : ∃ (h : Fin 8) (a : Fin 8192) (e : Fin 64), i = ix3 h a e := ⟨i 0, i 1, i 2, funext fun i => by
    match i with
    | ⟨0, _⟩ => rfl
    | ⟨1, _⟩ => rfl
    | ⟨2, _⟩ => rfl⟩
  refine Eq.trans (b := dbranch wb (dprod P b dm) (ix3 a (⟨2, by decide⟩ : Fin 3) (beside h e))) ?_ (dbranch_eq wb P b dm a ⟨2, by decide⟩ (beside h e))
  generalize dbranch wb (dprod P b dm) = x
  unfold beside
  pointwise
  exact congrArg (fun k => x (ix3 a (⟨2, by decide⟩ : Fin 3) k)) (Fin.ext (show h.val * 64 + e.val = 64 * h.val + e.val by omega))

theorem line7 : (shapeCast S1x3072 (Host.reduceAdd (dgates ya yb yc wb P b dm) (constant S_ .f32 0x00000000#32) reducesTo_S8192x3072_S3072_d0 h_S_) shapeCasts_S3072_S1x3072 : FVec Ideal S1x3072 .f32) = allBias ya yb yc wb (gateArgs P) b dm := by
  funext i
  obtain ⟨j, rfl⟩ : ∃ j : Fin 3072, i = ix2 (0 : Fin 1) j := ⟨i 1, funext fun k => by
    match k with
    | ⟨0, _⟩ => exact Fin.ext (Nat.lt_one_iff.mp (i 0).isLt)
    | ⟨1, _⟩ => rfl⟩
  refine Eq.trans (b := ∑ a : Fin 8192, dgates ya yb yc wb P b dm (ix2 a j)) ?_ (Finset.sum_congr rfl fun a _ => dgates_at ya yb yc wb P b dm a j)
  generalize dgates ya yb yc wb P b dm = x
  pointwise

end

end Cert.GradMergeLinesIdeal

/-! ## The claims -/

namespace Cert.Proof

open Idealize.ShloMosaic Idealize.ShloMosaic.TcCoe Idealize.SL.Sem

/-- The reference leaves its arguments alone and declares no semaphore. -/
theorem frame_GradMergeLinesIdeal : Cert.quiescent_GradMergeLinesIdeal := fun m ρ _ =>
  (θ_run Cert.GradMergeLinesIdeal.defs _ _).mono
    (fun r h => ⟨fun c => (h c).2.2.2.2.2.2.2.2, sem_eq_zero_of_no_sems (by decide) r.2⟩)
    (Cert.GradMergeLinesIdeal.Value.run m ρ)

/-- The kernel and the reference leave the same arrays. -/
theorem equal_GradMerge : Cert.algebraic_GradMergeIdeal_GradMergeLinesIdeal := by
  intro m g m' g' _ hagree
  refine ⟨fun c => GradMergeIdeal.allGates (GradMergeIdeal.Ya m c) (GradMergeIdeal.Yb m c) (GradMergeIdeal.Yc m c) (GradMergeIdeal.W m c) (GradMergeIdeal.Args m c) (GradMergeIdeal.Bg m c) (GradMergeIdeal.Dm m c),
    fun c => GradMergeIdeal.allDyd (GradMergeIdeal.Args m c) (GradMergeIdeal.Bg m c) (GradMergeIdeal.Dm m c) 0,
    fun c => GradMergeIdeal.allDyd (GradMergeIdeal.Args m c) (GradMergeIdeal.Bg m c) (GradMergeIdeal.Dm m c) 1,
    fun c => GradMergeIdeal.allDyd (GradMergeIdeal.Args m c) (GradMergeIdeal.Bg m c) (GradMergeIdeal.Dm m c) 2,
    fun c => GradMergeIdeal.allDy (GradMergeIdeal.Wt m c) (GradMergeIdeal.Args m c) (GradMergeIdeal.Bg m c) (GradMergeIdeal.Dm m c) 0,
    fun c => GradMergeIdeal.allDy (GradMergeIdeal.Wt m c) (GradMergeIdeal.Args m c) (GradMergeIdeal.Bg m c) (GradMergeIdeal.Dm m c) 1,
    fun c => GradMergeIdeal.allHeads (GradMergeIdeal.Wt m c) (GradMergeIdeal.Args m c) (GradMergeIdeal.Bg m c) (GradMergeIdeal.Dm m c),
    fun c => GradMergeIdeal.allBias (GradMergeIdeal.Ya m c) (GradMergeIdeal.Yb m c) (GradMergeIdeal.Yc m c) (GradMergeIdeal.W m c) (GradMergeIdeal.Args m c) (GradMergeIdeal.Bg m c) (GradMergeIdeal.Dm m c), ?_, ?_⟩
  · exact (θ_run Cert.GradMergeIdeal.defs _ _).mono
      (fun r h c => ⟨((h.1 c).1 10).trans (GradMergeIdeal.final10 m c), ((h.1 c).1 11).trans (GradMergeIdeal.final11 m c), ((h.1 c).1 12).trans (GradMergeIdeal.final12 m c), ((h.1 c).1 13).trans (GradMergeIdeal.final13 m c), ((h.1 c).1 14).trans (GradMergeIdeal.final14 m c), ((h.1 c).1 15).trans (GradMergeIdeal.final15 m c), ((h.1 c).1 16).trans (GradMergeIdeal.final16 m c), ((h.1 c).1 17).trans (GradMergeIdeal.final17 m c), h.2.1 c⟩)
      (θ_run_and (Cert.GradMergeIdeal.Gen.run_main m g) (Cert.GradMergeIdeal.Gen.frame m g))
  · refine (θ_run Cert.GradMergeLinesIdeal.defs _ _).mono (fun r h c => ?_) (Cert.GradMergeLinesIdeal.Value.run m' g')
    obtain ⟨e0, e1, e2, e3, e4, e5, e6⟩ := hagree c
    obtain ⟨r0, r1, r2, r3, r4, r5, r6, r7, r8⟩ := h c
    refine ⟨r0.trans ((GradMergeLinesIdeal.line0 _ _ _ _ _ _ _).trans ?_), r1.trans ((GradMergeLinesIdeal.line1 _ _ _).trans ?_),
      r2.trans ((GradMergeLinesIdeal.line2 _ _ _).trans ?_), r3.trans ((GradMergeLinesIdeal.line3 _ _ _).trans ?_),
      r4.trans ((GradMergeLinesIdeal.line4 _ _ _ _).trans ?_), r5.trans ((GradMergeLinesIdeal.line5 _ _ _ _).trans ?_),
      r6.trans ((GradMergeLinesIdeal.line6 _ _ _ _).trans ?_), r7.trans ((GradMergeLinesIdeal.line7 _ _ _ _ _ _ _).trans ?_), r8⟩
    · rw [e0, e1, e2, e3, e4, e5, e6]
    · rw [e4, e5, e6]
    · rw [e4, e5, e6]
    · rw [e4, e5, e6]
    · rw [e3, e4, e5, e6]
    · rw [e3, e4, e5, e6]
    · rw [e3, e4, e5, e6]
    · rw [e0, e1, e2, e3, e4, e5, e6]

end Cert.Proof

end
-- ==== Proof.Shift.lean ====
module

public import Idealize.ShloMosaic.Lib.Pointwise
public import Idealize.ShloMosaic.Lib.KernelVsHost
public import Idealize.ShloMosaic.Lib.WordCmp
public import Idealize.ShloMosaic.Lib.Pipeline.ValueKit.Geometry
public import Idealize.ShloMosaic.Lib.Pipeline.Value

@[expose] public section

set_option maxRecDepth 16384

noncomputable section

/-! # Rows shifted along 8192 positions, in blocks of 512

A block has the 16 rows before it, or those after it, at hand. -/

namespace Cert.Shift

open Idealize.ShloMosaic Idealize.ShloMosaic.TcCoe

/-- The value `n` positions earlier, zero before the first. -/
def lag (n : ℕ) (U : Fin 8192 → EReal) (s : Fin 8192) : EReal := if h : n ≤ s.val then U ⟨s.val - n, by omega⟩ else 0

/-- The value `n` positions later, zero after the last. -/
def lead (n : ℕ) (U : Fin 8192 → EReal) (s : Fin 8192) : EReal := if h : s.val + n < 8192 then U ⟨s.val + n, h⟩ else 0

/-- A block's row `n` positions earlier, `p` holding the 16 rows before the block. -/
def down (n : ℕ) (u : Fin 512 → EReal) (p : Fin 16 → EReal) (a : Fin 512) : EReal :=
  if h : n ≤ a.val then u ⟨a.val - n, by omega⟩ else p (Fin.ofNat 16 (16 + a.val - n))

/-- A block's row `n` positions later, `q` holding the 16 rows after the block. -/
def up (n : ℕ) (u : Fin 512 → EReal) (q : Fin 16 → EReal) (a : Fin 512) : EReal :=
  if h : a.val + n < 512 then u ⟨a.val + n, h⟩ else q (Fin.ofNat 16 (a.val + n - 512))

/-- Row `a` of block `t`. -/
def row (t : ℕ) (ht : t < 16) (a : Fin 512) : Fin 8192 := ⟨512 * t + a.val, by omega⟩

theorem row_val (t : ℕ) (ht : t < 16) (a : Fin 512) : (row t ht a).val = 512 * t + a.val := rfl

theorem down_eq (n : ℕ) (hn : n ≤ 16) (t : ℕ) (ht : t < 16) (U : Fin 8192 → EReal) (u : Fin 512 → EReal) (p : Fin 16 → EReal)
    (hu : ∀ a, u a = U (row t ht a)) (hp : ∀ r : Fin 16, p r = if h : 0 < t then U ⟨512 * t + r.val - 16, by omega⟩ else 0) (a : Fin 512) :
    down n u p a = lag n U (row t ht a) := by
  unfold down lag
  by_cases h : n ≤ a.val
  · rw [dif_pos h, dif_pos (show n ≤ (row t ht a).val by rw [row_val]; omega), hu]
    exact congrArg U (Fin.ext (show 512 * t + (a.val - n) = 512 * t + a.val - n by omega))
  · rw [dif_neg h, hp]
    by_cases h0 : 0 < t
    · rw [dif_pos h0, dif_pos (show n ≤ (row t ht a).val by rw [row_val]; omega)]
      exact congrArg U (Fin.ext (show 512 * t + (16 + a.val - n) % 16 - 16 = 512 * t + a.val - n by omega))
    · rw [dif_neg h0, dif_neg (show ¬ n ≤ (row t ht a).val by rw [row_val]; omega)]

theorem up_eq (n : ℕ) (hn : n ≤ 16) (t : ℕ) (ht : t < 16) (U : Fin 8192 → EReal) (u : Fin 512 → EReal) (q : Fin 16 → EReal)
    (hu : ∀ a, u a = U (row t ht a)) (hq : ∀ r : Fin 16, q r = if h : t < 15 then U ⟨512 * t + 512 + r.val, by omega⟩ else 0) (a : Fin 512) :
    up n u q a = lead n U (row t ht a) := by
  unfold up lead
  by_cases h : a.val + n < 512
  · rw [dif_pos h, dif_pos (show (row t ht a).val + n < 8192 by rw [row_val]; omega), hu]
    exact congrArg U (Fin.ext (show 512 * t + (a.val + n) = 512 * t + a.val + n by omega))
  · rw [dif_neg h, hq]
    by_cases h0 : t < 15
    · rw [dif_pos h0, dif_pos (show (row t ht a).val + n < 8192 by rw [row_val]; omega)]
      exact congrArg U (Fin.ext (show 512 * t + 512 + (a.val + n - 512) % 16 = 512 * t + a.val + n by omega))
    · rw [dif_neg h0, dif_neg (show ¬ (row t ht a).val + n < 8192 by rw [row_val]; omega)]

/-- A rotation of a block by `n` rows. -/
theorem rotate_at (x : FVec Ideal ⟨2, ![512, 512]⟩ .f32) (w : BitVec 32) (n : ℕ) (hw : w.toNat = n) (hn : n < 512)
    (h : (⟨2, ![512, 512]⟩ : Shape).Rotates 0 none) (a d : Fin 512) :
    dynamicRotate 0 w none x h (ix2 a d) = x (ix2 ⟨(a.val + 512 - n) % 512, Nat.mod_lt _ (by decide)⟩ d) := by
  refine dynamicRotate_apply 0 w x h _ _ fun b => ?_
  match b with
  | ⟨0, _⟩ => exact show (a.val + 512 - n) % 512 = (a.val + 512 - w.toNat % 512) % 512 by rw [hw, Nat.mod_eq_of_lt hn]
  | ⟨1, _⟩ => rfl

/-- A choice by a row's number, told apart as a word. -/
theorem choose (a : Fin 512) (n : ℕ) (hn : n < 512) (x y : EReal) :
    Scalar.select (IntOp.cmpi .eq (BitVec.ofNat 32 a.val) (BitVec.ofNat 32 n)) x y = if a.val = n then x else y := by
  rw [WordCmp.cmpi_eq_eq]
  by_cases h : a.val = n
  · rw [if_pos h, h, decide_eq_true rfl]
    rfl
  · rw [if_neg h, decide_eq_false fun e => h ?_]
    · rfl
    · have := congrArg BitVec.toNat e
      rw [BitVec.toNat_ofNat, BitVec.toNat_ofNat, Nat.mod_eq_of_lt (by omega), Nat.mod_eq_of_lt (by omega)] at this
      exact this

/-- One row down: the rotation, its first row replaced. -/
theorem down1 (u : Fin 512 → EReal) (p : Fin 16 → EReal) (a : Fin 512) :
    (if a.val = 0 then p 15 else u ⟨(a.val + 512 - 1) % 512, Nat.mod_lt _ (by decide)⟩) = down 1 u p a := by
  unfold down
  by_cases h : a.val = 0
  · rw [if_pos h, dif_neg (by omega)]
    exact congrArg p (Fin.ext (show 15 = (16 + a.val - 1) % 16 by omega))
  · rw [if_neg h, dif_pos (by omega)]
    exact congrArg u (Fin.ext (show (a.val + 512 - 1) % 512 = a.val - 1 by omega))

/-- Two rows down: the rotation, its first two rows replaced. -/
theorem down2 (u : Fin 512 → EReal) (p : Fin 16 → EReal) (a : Fin 512) :
    (if a.val = 1 then p 15 else if a.val = 0 then p 14 else u ⟨(a.val + 512 - 2) % 512, Nat.mod_lt _ (by decide)⟩) = down 2 u p a := by
  unfold down
  by_cases h : a.val = 1
  · rw [if_pos h, dif_neg (by omega)]
    exact congrArg p (Fin.ext (show 15 = (16 + a.val - 2) % 16 by omega))
  by_cases h' : a.val = 0
  · rw [if_neg h, if_pos h', dif_neg (by omega)]
    exact congrArg p (Fin.ext (show 14 = (16 + a.val - 2) % 16 by omega))
  · rw [if_neg h, if_neg h', dif_pos (by omega)]
    exact congrArg u (Fin.ext (show (a.val + 512 - 2) % 512 = a.val - 2 by omega))

/-- One row up: the rotation, its last row replaced. -/
theorem up1 (u : Fin 512 → EReal) (q : Fin 16 → EReal) (a : Fin 512) :
    (if a.val = 511 then q 0 else u ⟨(a.val + 512 - 511) % 512, Nat.mod_lt _ (by decide)⟩) = up 1 u q a := by
  unfold up
  by_cases h : a.val = 511
  · rw [if_pos h, dif_neg (by omega)]
    exact congrArg q (Fin.ext (show 0 = (a.val + 1 - 512) % 16 by omega))
  · rw [if_neg h, dif_pos (by omega)]
    exact congrArg u (Fin.ext (show (a.val + 512 - 511) % 512 = a.val + 1 by omega))

/-- Two rows up: the rotation, its last two rows replaced. -/
theorem up2 (u : Fin 512 → EReal) (q : Fin 16 → EReal) (a : Fin 512) :
    (if a.val = 511 then q 1 else if a.val = 510 then q 0 else u ⟨(a.val + 512 - 510) % 512, Nat.mod_lt _ (by decide)⟩) = up 2 u q a := by
  unfold up
  by_cases h : a.val = 511
  · rw [if_pos h, dif_neg (by omega)]
    exact congrArg q (Fin.ext (show 1 = (a.val + 2 - 512) % 16 by omega))
  by_cases h' : a.val = 510
  · rw [if_neg h, if_pos h', dif_neg (by omega)]
    exact congrArg q (Fin.ext (show 0 = (a.val + 2 - 512) % 16 by omega))
  · rw [if_neg h, if_neg h', dif_pos (by omega)]
    exact congrArg u (Fin.ext (show (a.val + 512 - 510) % 512 = a.val + 2 by omega))

/-- The flag that is one at every block but the first. -/
theorem flag (i : Fin 16) : (((Scalar.extui (Scalar.cmpi .sgt (BitVec.ofNat 32 i.val) 0#32) : BitVec 32).toInt : ℝ) : EReal) = if 0 < i.val then 1 else 0 := by
  have h : (Scalar.extui (Scalar.cmpi .sgt (BitVec.ofNat 32 i.val) 0#32) : BitVec 32).toInt = if 0 < i.val then 1 else 0 := by
    revert i
    decide
  rw [h]
  by_cases h0 : 0 < i.val
  · rw [if_pos h0, if_pos h0]; simp
  · rw [if_neg h0, if_neg h0]; simp

/-- The flag that is one at every block but the last. -/
theorem flag' (i : Fin 16) : (((Scalar.extui (Scalar.cmpi .slt (BitVec.ofNat 32 i.val) 15#32) : BitVec 32).toInt : ℝ) : EReal) = if i.val < 15 then 1 else 0 := by
  have h : (Scalar.extui (Scalar.cmpi .slt (BitVec.ofNat 32 i.val) 15#32) : BitVec 32).toInt = if i.val < 15 then 1 else 0 := by
    revert i
    decide
  rw [h]
  by_cases h0 : i.val < 15
  · rw [if_pos h0, if_pos h0]; simp
  · rw [if_neg h0, if_neg h0]; simp

/-- The convolution of one column: three taps and a bias. -/
def taps (w : Fin 3 → EReal) (b : EReal) (U : Fin 8192 → EReal) (s : Fin 8192) : EReal :=
  b + w 0 * lag 2 U s + w 1 * lag 1 U s + w 2 * U s

/-- Two zero rows set before an array: row `j + s` is the array's, `2 - j` positions earlier. -/
theorem behind (z : FVec Ideal ⟨2, ![2, 512]⟩ .f32) (hz : ∀ i, z i = 0) (u : FVec Ideal ⟨2, ![8192, 512]⟩ .f32)
    (h : Shape.Concatenates [⟨2, ![2, 512]⟩, ⟨2, ![8192, 512]⟩] ⟨2, ![8194, 512]⟩ 0) (j : ℕ) (hj : j ≤ 2) (s : Fin 8192) (d : Fin 512) :
    concatenate ⟨2, ![8194, 512]⟩ 0 [⟨⟨2, ![2, 512]⟩, z⟩, ⟨⟨2, ![8192, 512]⟩, u⟩] h (ix2 (⟨j + s.val, by omega⟩ : Fin 8194) d)
      = lag (2 - j) (fun s => u (ix2 s d)) s := by
  unfold lag
  by_cases h0 : 2 - j ≤ s.val
  · rw [dif_pos h0]
    refine concatenate_pair_apply_right 0 z u h _ rfl rfl (ix2 ⟨s.val - (2 - j), by omega⟩ d) (fun b hb => ?_) ?_
    · match b with
      | ⟨0, _⟩ => exact absurd rfl hb
      | ⟨1, _⟩ => rfl
    · exact show s.val - (2 - j) + 2 = j + s.val by omega
  · rw [dif_neg h0]
    refine (concatenate_pair_apply_left 0 z u h _ rfl (ix2 ⟨j + s.val, by omega⟩ d) (fun b => ?_)).trans (hz _)
    match b with
    | ⟨0, _⟩ => rfl
    | ⟨1, _⟩ => rfl

end Cert.Shift

end
-- ==== Proof.ConvValue.lean ====
module

public import proofs.«01_k».proof.Proof.Gen.ConvIdeal.Frame
public import proofs.«01_k».proof.Proof.Gen.ConvLinesIdeal.Run
public import proofs.«01_k».proof.Proof.Shift
public import proofs.«01_k».proof.Proof.Common
public import Idealize.ShloMosaic.Lib.VecWindow

@[expose] public section

set_option maxRecDepth 16384

noncomputable section

/-! # Conv: the gated short convolution

A block of 512 positions takes the two positions before it from the sixteen rows before the block. -/

namespace Cert.ConvIdeal

open Idealize.ShloMosaic Idealize.ShloMosaic.TcCoe Idealize.SL.Sem Idealize.ShloMosaic.StableHlo Cert.ConvIdeal.Gen
open Cert.Shift

/-! ## The mathematics -/

/-- Column `d` of the first 512 columns, of the next, and of the ones after. -/
def at0 (d : Fin 512) : Fin 7168 := ⟨d.val, by omega⟩
def at512 (d : Fin 512) : Fin 7168 := ⟨512 + d.val, by omega⟩
def at1024 (d : Fin 512) : Fin 7168 := ⟨1024 + d.val, by omega⟩

/-- The convolution's input, column `d`. -/
def input (P : FVec Ideal S8192x7168 .bf16) (d : Fin 512) (s : Fin 8192) : EReal := P (ix2 s (at512 d)) * P (ix2 s (at1024 d))

/-- The convolution, column `d`. -/
def conv (P : FVec Ideal S8192x7168 .bf16) (w : FVec Ideal S3x512 .f32) (b : FVec Ideal S512 .f32) (d : Fin 512) (s : Fin 8192) : EReal :=
  taps (fun n => w (ix2 n d)) (b (ix1 d)) (input P d) s

/-- The gated convolution. -/
def result (P : FVec Ideal S8192x7168 .bf16) (w : FVec Ideal S3x512 .f32) (b : FVec Ideal S512 .f32) : FVec Ideal S8192x512 .bf16 := fun i =>
  P (ix2 (i 0) (at0 (i 1))) * conv P w b (i 1) (i 0)

/-! ## The body -/

theorem pay2_at (x1 x2 : Vec Ideal S512x512 .bf16) (a d : Fin 512) : k0_pay2 (F := Ideal) x1 x2 (ix2 a d) = x1 (ix2 a d) * x2 (ix2 a d) := by
  unfold k0_pay2
  pointwise

theorem pay3_at (i : grid0.Coords) (x3 x4 : Vec Ideal S16x512 .bf16) (r : Fin 16) (d : Fin 512) :
    k0_pay3 (F := Ideal) i x3 x4 (ix2 r d) = x3 (ix2 r d) * x4 (ix2 r d) * (if 0 < (i 0).val then 1 else 0) := by
  refine Eq.trans ?_ (congrArg (fun z => x3 (ix2 r d) * x4 (ix2 r d) * z) (flag (i 0)))
  unfold k0_pay3
  pointwise

theorem pay7_at (x1 x2 : Vec Ideal S512x512 .bf16) (a d : Fin 512) :
    k0_pay7 (F := Ideal) x1 x2 (ix2 a d) = k0_pay2 (F := Ideal) x1 x2 (ix2 ⟨(a.val + 512 - 1) % 512, Nat.mod_lt _ (by decide)⟩ d) := by
  unfold k0_pay7
  dsimp only
  rw [rotate_at _ _ 1 rfl (by decide)]

theorem pay5_at (i : grid0.Coords) (x1 x2 : Vec Ideal S512x512 .bf16) (x3 x4 : Vec Ideal S16x512 .bf16) (x5 : Vec Ideal S8x512 .f32) (x6 : Vec Ideal S1x512 .f32)
    (a d : Fin 512) :
    k0_pay5 (F := Ideal) i x1 x2 x3 x4 x5 x6 (ix2 a d)
      = x6 (ix2 (0 : Fin 1) d) + x5 (ix2 (0 : Fin 8) d) * down 2 (fun a => k0_pay2 (F := Ideal) x1 x2 (ix2 a d)) (fun r => k0_pay3 (F := Ideal) i x3 x4 (ix2 r d)) a := by
  rw [← down2, ← choose a 1 (by decide), ← choose a 0 (by decide)]
  unfold k0_pay5 k0_pay4
  pointwise

/-- A block of the gated convolution. -/
theorem pay1_at (i : grid0.Coords) (x0 x1 x2 : Vec Ideal S512x512 .bf16) (x3 x4 : Vec Ideal S16x512 .bf16) (x5 : Vec Ideal S8x512 .f32) (x6 : Vec Ideal S1x512 .f32)
    (a d : Fin 512) :
    k0_pay1 (F := Ideal) (k0_pay2 x1 x2) (k0_pay3 i x3 x4) (k0_pay4 x5) (k0_pay5 i x1 x2 x3 x4 x5 x6) (k0_pay6 x5) (k0_pay7 x1 x2) (iota .tc S512x512 32 [0] iota_S512x512_d0_w32) 0#32 x0 (ix2 a d)
      = x0 (ix2 a d) * (x6 (ix2 (0 : Fin 1) d)
          + x5 (ix2 (0 : Fin 8) d) * down 2 (fun a => k0_pay2 (F := Ideal) x1 x2 (ix2 a d)) (fun r => k0_pay3 (F := Ideal) i x3 x4 (ix2 r d)) a
          + x5 (ix2 (1 : Fin 8) d) * down 1 (fun a => k0_pay2 (F := Ideal) x1 x2 (ix2 a d)) (fun r => k0_pay3 (F := Ideal) i x3 x4 (ix2 r d)) a
          + x5 (ix2 (2 : Fin 8) d) * k0_pay2 (F := Ideal) x1 x2 (ix2 a d)) := by
  rw [← pay5_at, ← down1, ← choose a 0 (by decide), ← pay7_at]
  unfold k0_pay1 k0_pay6 k0_pay4
  pointwise

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![32 * t.val - 1, 1] := (by decide +kernel : ∀ t : Fin grid0.N, _)
theorem idx4 : ∀ t : Fin cfg0.N, win0_4.index t = ![32 * t.val - 1, 2] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem coord : ∀ t : Fin cfg0.N, ((grid0.coords t) 0).val = t.val := (by decide +kernel : ∀ t : Fin grid0.N, _)

abbrev P : FVec Ideal S8192x7168 .bf16 := m ((c : Thread nD τ).loc main_arg0)
abbrev W : FVec Ideal S3x512 .f32 := m ((c : Thread nD τ).loc main_arg1)
abbrev Bc : FVec Ideal S512 .f32 := m ((c : Thread nD τ).loc main_arg2)

abbrev B0 (t : Fin cfg0.N) : FVec Ideal S512x512 .bf16 := iblk m c 0 t
abbrev B1 (t : Fin cfg0.N) : FVec Ideal S512x512 .bf16 := iblk m c 1 t
abbrev B2 (t : Fin cfg0.N) : FVec Ideal S512x512 .bf16 := iblk m c 2 t
abbrev B3 (t : Fin cfg0.N) : FVec Ideal S16x512 .bf16 := iblk m c 3 t
abbrev B4 (t : Fin cfg0.N) : FVec Ideal S16x512 .bf16 := iblk m c 4 t
abbrev B5 (t : Fin cfg0.N) : FVec Ideal S8x512 .f32 := iblk m c 5 t
abbrev B6 (t : Fin cfg0.N) : FVec Ideal S1x512 .f32 := iblk m c 6 t

theorem blk0 (t : Fin cfg0.N) (a d : Fin 512) : B0 m c t (ix2 a d) = P m c (ix2 (row t.val (pt_lt t) a) (at0 d)) := by
  unfold B0
  blk_simp [iblk]
  rw [V_main_arg0]
  refine congrArg (P m c) ?_
  unfold row at0
  blk_ext [idx0]

theorem blk1 (t : Fin cfg0.N) (a d : Fin 512) : B1 m c t (ix2 a d) = P m c (ix2 (row t.val (pt_lt t) a) (at512 d)) := by
  unfold B1
  blk_simp [iblk]
  rw [V_main_arg0]
  refine congrArg (P m c) ?_
  unfold row at512
  blk_ext [idx1]

theorem blk2 (t : Fin cfg0.N) (a d : Fin 512) : B2 m c t (ix2 a d) = P m c (ix2 (row t.val (pt_lt t) a) (at1024 d)) := by
  unfold B2
  blk_simp [iblk]
  rw [V_main_arg0]
  refine congrArg (P m c) ?_
  unfold row at1024
  blk_ext [idx2]

theorem blk3 (t : Fin cfg0.N) (h : 0 < t.val) (r : Fin 16) (d : Fin 512) :
    B3 m c t (ix2 r d) = P m c (ix2 ⟨512 * t.val + r.val - 16, by have := pt_lt t; omega⟩ (at512 d)) := by
  unfold B3
  blk_simp [iblk]
  rw [V_main_arg0]
  refine congrArg (P m c) ?_
  unfold at512
  blk_ext [idx3]

theorem blk4 (t : Fin cfg0.N) (h : 0 < t.val) (r : Fin 16) (d : Fin 512) :
    B4 m c t (ix2 r d) = P m c (ix2 ⟨512 * t.val + r.val - 16, by have := pt_lt t; omega⟩ (at1024 d)) := by
  unfold B4
  blk_simp [iblk]
  rw [V_main_arg0]
  refine congrArg (P m c) ?_
  unfold at1024
  blk_ext [idx4]

theorem V_v0 : V m c main_v0 = pad S8x512 ![0, 0] ![5, 0] ![0, 0] (W m c) (sitofp .f32 (constantI S_ 32 0#32) : FVec Ideal S_ .f32) pads_S3x512_S8x512_050_000 h_S_ := by
  unfold V
  simp only [hostOps0, hostOps0_1, hostOps0_2]
  after_reads_simp
  rfl

theorem V_v1 : V m c main_v1 = broadcastInDim S1x512 ![1] bcast_S512_S1x512_1 (Bc m c) := by
  unfold V
  simp only [hostOps0, hostOps0_1, hostOps0_2]
  after_reads_simp

/-- The padded taps. -/
theorem padded (n : Fin 3) (d : Fin 512) : (V m c main_v0 : FVec Ideal S8x512 .f32) (ix2 (n.castLE (by decide)) d) = W m c (ix2 n d) := by
  rw [V_v0]
  refine pad_apply_of_inside _ _ _ _ _ _ _ _ (ix2 n d) fun b => ?_
  match b with
  | ⟨0, _⟩ => exact show n.val = 0 + n.val * (0 + 1) by omega
  | ⟨1, _⟩ => exact show d.val = 0 + d.val * (0 + 1) by omega

theorem blk5 (t : Fin cfg0.N) (n : Fin 3) (d : Fin 512) : B5 m c t (ix2 (n.castLE (by decide) : Fin 8) d) = W m c (ix2 n d) := by
  rw [← padded]
  unfold B5
  blk_simp [iblk]
  refine congrArg (V m c main_v0) ?_
  blk_ext [idx5]

theorem blk6 (t : Fin cfg0.N) (d : Fin 512) : B6 m c t (ix2 (0 : Fin 1) d) = Bc m c (ix1 d) := by
  have h : (V m c main_v1 : FVec Ideal S1x512 .f32) (ix2 (0 : Fin 1) d) = Bc m c (ix1 d) := by
    rw [V_v1]
    pointwise
  rw [← h]
  unfold B6
  blk_simp [iblk]
  refine congrArg (V m c main_v1) ?_
  blk_ext [idx6]

theorem cur (t : Fin cfg0.N) (a d : Fin 512) : k0_pay2 (F := Ideal) (B1 m c t) (B2 m c t) (ix2 a d) = input (P m c) d (row t.val (pt_lt t) a) := by
  rw [pay2_at, blk1, blk2]
  rfl

theorem prev (t : Fin cfg0.N) (r : Fin 16) (d : Fin 512) :
    k0_pay3 (F := Ideal) (grid0.coords t) (B3 m c t) (B4 m c t) (ix2 r d)
      = if h : 0 < t.val then input (P m c) d ⟨512 * t.val + r.val - 16, by have := pt_lt t; omega⟩ else 0 := by
  rw [pay3_at, coord]
  by_cases h : 0 < t.val
  · rw [dif_pos h, if_pos h, mul_one, blk3 m c t h, blk4 m c t h]
    rfl
  · rw [dif_neg h, if_neg h, mul_zero]

/-- What a point stores is the block of the gated convolution. -/
theorem out_at (t : Fin cfg0.N) (a d : Fin 512) :
    out0_7 (F := Ideal) (grid0.coords t) (B0 m c t) (B1 m c t) (B2 m c t) (B3 m c t) (B4 m c t) (B5 m c t) (B6 m c t) (ix2 a d)
      = result (P m c) (W m c) (Bc m c) (ix2 (row t.val (pt_lt t) a) d) := by
  unfold out0_7 r0_0 r0_1 r0_2 r0_3
  rw [View.canon_unit_zero (by funext i; match i with | ⟨0, _⟩ => rfl | ⟨1, _⟩ => rfl)]
  rw [View.ld_unit_lit, View.ld_unit_lit, View.ld_unit_lit, View.ld_unit_lit, View.ld_unit_lit, View.ld_unit_lit, View.ld_unit_lit]
  rotate_left
  iterate 7 decide
  rw [pay1_at, down_eq 2 (by decide) t.val (pt_lt t) (input (P m c) d) _ _ (fun a => cur m c t a d) (fun r => prev m c t r d),
    down_eq 1 (by decide) t.val (pt_lt t) (input (P m c) d) _ _ (fun a => cur m c t a d) (fun r => prev m c t r d), cur, blk0, blk6]
  have w0 := blk5 m c t 0 d
  have w1 := blk5 m c t 1 d
  have w2 := blk5 m c t 2 d
  exact congrArg _ (congrArg₂ _ (congrArg₂ _ (congrArg _ (congrArg (· * _) w0)) (congrArg (· * _) w1)) (congrArg (· * _) w2))

/-! ## The whole result -/

theorem final7 : (dats m 0 c).arrAt 7 cfg0.N = result (P m c) (W m c) (Bc m c) := by
  refine (dats m 0 c).arrAt_eq_of_covers 7 _ (by decide +kernel) fun t hf y => ?_
  blk_simp
  rw [after0_7]
  obtain ⟨a, d, rfl⟩ := Blocks.pair 512 512 y
  refine (out_at m c t a d).trans ?_
  refine congrArg (result (P m c) (W m c) (Bc m c)) (?_ : ix2 (row t.val (pt_lt t) a) d = _)
  unfold row
  blk_ext [idx7]

end Cert.ConvIdeal

/-! ## The reference -/

namespace Cert.ConvLinesIdeal

open Idealize.ShloMosaic Idealize.ShloMosaic.TcCoe Cert.ConvLinesIdeal.Gen Cert.Shift
open Cert.ConvIdeal (at0 at512 at1024 input conv result)

/-- The convolution's input behind two rows of zeros. -/
def padded (P : FVec Ideal S8192x7168 .bf16) : FVec Ideal S8194x512 .f32 :=
  concatenate S8194x512 0 [⟨S2x512, (broadcastInDim S2x512 ![] bcast_S_S2x512 (constant S_ .f32 0x00000000#32))⟩, ⟨S8192x512, (mulf (extf .f32 (extractStridedSlice S8192x512 ![0, 512] P slices_S8192x7168_S8192x512_0_512) bitsLt_bf16_f32) (extf .f32 (extractStridedSlice S8192x512 ![0, 1024] P slices_S8192x7168_S8192x512_0_1024) bitsLt_bf16_f32))⟩] concatenates_S2x512_S8192x512_S8194x512_d0

/-- A row of the taps, at every position. -/
def spread (x : FVec Ideal S512 .f32) : FVec Ideal S8192x512 .f32 :=
  broadcastInDim S8192x512 ![0, 1] bcast_S1x512_S8192x512_0_1 (broadcastInDim S1x512 ![1] bcast_S512_S1x512_1 x)

/-- The reference's line. -/
def lines (P : FVec Ideal S8192x7168 .bf16) (w : FVec Ideal S3x512 .f32) (b : FVec Ideal S512 .f32) : FVec Ideal S8192x512 .bf16 :=
  truncf .bf16 (mulf (extf .f32 (extractStridedSlice S8192x512 ![0, 0] P slices_S8192x7168_S8192x512_0_0) bitsLt_bf16_f32)
    (addf (addf (addf (spread b)
      (mulf (spread (shapeCast _ (extractStridedSlice S1x512 ![0, 0] w slices_S3x512_S1x512_0_0) shapeCasts_S1x512_S512)) (extractStridedSlice S8192x512 ![0, 0] (padded P) slices_S8194x512_S8192x512_0_0)))
      (mulf (spread (shapeCast _ (extractStridedSlice S1x512 ![1, 0] w slices_S3x512_S1x512_1_0) shapeCasts_S1x512_S512)) (extractStridedSlice S8192x512 ![1, 0] (padded P) slices_S8194x512_S8192x512_1_0)))
      (mulf (spread (shapeCast _ (extractStridedSlice S1x512 ![2, 0] w slices_S3x512_S1x512_2_0) shapeCasts_S1x512_S512)) (extractStridedSlice S8192x512 ![2, 0] (padded P) slices_S8194x512_S8192x512_2_0)))) bitsLt_bf16_f32

theorem padded_at (P : FVec Ideal S8192x7168 .bf16) (j : ℕ) (hj : j ≤ 2) (s : Fin 8192) (d : Fin 512) :
    padded P (ix2 (⟨j + s.val, by omega⟩ : Fin 8194) d) = lag (2 - j) (input P d) s := by
  unfold padded
  refine (behind _ (fun i => ?_) _ _ j hj s d).trans (congrArg (fun U => lag (2 - j) U s) (funext fun s => ?_))
  · exact (by pointwise : (broadcastInDim S2x512 ![] bcast_S_S2x512 (constant S_ .f32 0x00000000#32) : FVec Ideal S2x512 .f32) i = 0)
  · unfold input at512 at1024
    pointwise

theorem lag_zero (U : Fin 8192 → EReal) (s : Fin 8192) : lag 0 U s = U s := by
  unfold lag
  rw [dif_pos (Nat.zero_le _)]
  exact congrArg U (Fin.ext (Nat.sub_zero _))

theorem lines_eq (P : FVec Ideal S8192x7168 .bf16) (w : FVec Ideal S3x512 .f32) (b : FVec Ideal S512 .f32) : lines P w b = result P w b := by
  funext i
  obtain ⟨s, d, rfl⟩ := Blocks.pair 8192 512 i
  have h0 := padded_at P 0 (by decide) s d
  have h1 := padded_at P 1 (by decide) s d
  have h2 := (padded_at P 2 (by decide) s d).trans (lag_zero _ s)
  refine Eq.trans (b := P (ix2 s (at0 d)) * (b (ix1 d) + w (ix2 (0 : Fin 3) d) * padded P (ix2 (⟨0 + s.val, by omega⟩ : Fin 8194) d)
    + w (ix2 (1 : Fin 3) d) * padded P (ix2 (⟨1 + s.val, by omega⟩ : Fin 8194) d) + w (ix2 (2 : Fin 3) d) * padded P (ix2 (⟨2 + s.val, by omega⟩ : Fin 8194) d))) ?_ ?_
  · unfold lines spread at0
    pointwise
  · rw [h0, h1, h2]
    rfl

end Cert.ConvLinesIdeal

/-! ## The claims -/

namespace Cert.Proof

open Idealize.ShloMosaic Idealize.ShloMosaic.TcCoe Idealize.SL.Sem

/-- The reference leaves its arguments alone and declares no semaphore. -/
theorem frame_ConvLinesIdeal : Cert.quiescent_ConvLinesIdeal := fun m ρ _ =>
  (θ_run Cert.ConvLinesIdeal.defs _ _).mono
    (fun r h => ⟨fun c => (h c).2, sem_eq_zero_of_no_sems (by decide) r.2⟩)
    (Cert.ConvLinesIdeal.Value.run m ρ)

/-- The kernel and the reference leave the same array. -/
theorem equal_Conv : Cert.algebraic_ConvIdeal_ConvLinesIdeal := by
  intro m g m' g' _ hagree
  refine ⟨fun c => ConvIdeal.result (ConvIdeal.P m c) (ConvIdeal.W m c) (ConvIdeal.Bc m c), ?_, ?_⟩
  · exact (θ_run Cert.ConvIdeal.defs _ _).mono
      (fun r h c => ⟨((h.1 c).1 7).trans (ConvIdeal.final7 m c), h.2.1 c⟩)
      (θ_run_and (Cert.ConvIdeal.Gen.run_main m g) (Cert.ConvIdeal.Gen.frame m g))
  · refine (θ_run Cert.ConvLinesIdeal.defs _ _).mono (fun r h c => ?_) (Cert.ConvLinesIdeal.Value.run m' g')
    obtain ⟨e0, e1, e2⟩ := hagree c
    obtain ⟨r0, r1⟩ := h c
    refine ⟨r0.trans ?_, r1⟩
    refine (ConvLinesIdeal.lines_eq _ _ _).trans ?_
    rw [e0, e1, e2]

end Cert.Proof

end
-- ==== Proof.GradConvPoint.lean ====
module

public import proofs.«01_k».proof.Proof.Gen.GradConvIdeal.Frame
public import proofs.«01_k».proof.Proof.Shift
public import proofs.«01_k».proof.Proof.Common
public import Idealize.ShloMosaic.Lib.VecWindow

@[expose] public section

set_option maxRecDepth 16384

noncomputable section

/-! # GradConv: what one grid point computes

From a block of 512 positions, with the sixteen before and the sixteen after it: the gradients of the gate and of the two factors of
the convolution's input, side by side, and the block's part of the gradients of the taps and of the bias. The first point and the
later ones differ in the last alone. -/

namespace Cert.GradConvIdeal

open Idealize.ShloMosaic Idealize.ShloMosaic.TcCoe Idealize.SL.Sem Idealize.ShloMosaic.StableHlo Cert.GradConvIdeal.Gen
open Cert.Shift

/-! ## The three column ranges of the first result -/

/-- Column `d` of range `n`. -/
def seg (n : Fin 3) (d : Fin 512) : Fin 1536 := ⟨n.val * 512 + d.val, by omega⟩

/-- The range a column lies in, and its column there. -/
def range (j : Fin 1536) : Fin 3 := ⟨j.val / 512, by omega⟩
def inside (j : Fin 1536) : Fin 512 := ⟨j.val % 512, Nat.mod_lt _ (by decide)⟩

theorem range_seg (n : Fin 3) (d : Fin 512) : range (seg n d) = n := Fin.ext (show (n.val * 512 + d.val) / 512 = n.val by omega)
theorem inside_seg (n : Fin 3) (d : Fin 512) : inside (seg n d) = d := Fin.ext (show (n.val * 512 + d.val) % 512 = d.val by omega)
theorem seg_range (j : Fin 1536) : seg (range j) (inside j) = j := Fin.ext (show j.val / 512 * 512 + j.val % 512 = j.val by omega)

/-- A position's term in row `n` of the second result: the gradients of the three taps, of the bias, and four rows of zeros. -/
def partOf (g u2 u1 u : EReal) (n : Fin 8) : EReal :=
  match n with
  | ⟨0, _⟩ => g * u2
  | ⟨1, _⟩ => g * u1
  | ⟨2, _⟩ => g * u
  | ⟨3, _⟩ => g
  | ⟨_ + 4, _⟩ => 0

/-! ## The body's operations -/

theorem pay5_at (x1 x2 : Vec Ideal S512x512 .bf16) (a d : Fin 512) : k0_pay5 (F := Ideal) x1 x2 (ix2 a d) = x1 (ix2 a d) * x2 (ix2 a d) := by
  unfold k0_pay5 k0_pay3 k0_pay4
  pointwise

theorem pay6_at (i : grid0.Coords) (x3 x4 : Vec Ideal S16x512 .bf16) (r : Fin 16) (d : Fin 512) :
    k0_pay6 (F := Ideal) i x3 x4 (ix2 r d) = x3 (ix2 r d) * x4 (ix2 r d) * (if 0 < (i 0).val then 1 else 0) := by
  refine Eq.trans ?_ (congrArg (fun z => x3 (ix2 r d) * x4 (ix2 r d) * z) (flag (i 0)))
  unfold k0_pay6
  pointwise

theorem pay8_at (i : grid0.Coords) (x1 x2 : Vec Ideal S512x512 .bf16) (x3 x4 : Vec Ideal S16x512 .bf16) (a d : Fin 512) :
    k0_pay8 (F := Ideal) i x1 x2 x3 x4 (ix2 a d)
      = down 1 (fun a => k0_pay5 (F := Ideal) x1 x2 (ix2 a d)) (fun r => k0_pay6 (F := Ideal) i x3 x4 (ix2 r d)) a := by
  rw [← down1, ← choose a 0 (by decide)]
  unfold k0_pay8
  pointwise

theorem pay9_at (i : grid0.Coords) (x1 x2 : Vec Ideal S512x512 .bf16) (x3 x4 : Vec Ideal S16x512 .bf16) (a d : Fin 512) :
    k0_pay9 (F := Ideal) i x1 x2 x3 x4 (ix2 a d)
      = down 2 (fun a => k0_pay5 (F := Ideal) x1 x2 (ix2 a d)) (fun r => k0_pay6 (F := Ideal) i x3 x4 (ix2 r d)) a := by
  rw [← down2, ← choose a 1 (by decide), ← choose a 0 (by decide)]
  unfold k0_pay9
  pointwise

theorem pay10_at (u : FVec Ideal S512x512 .f32) (w : Vec Ideal S8x512 .f32) (u1 u2 : FVec Ideal S512x512 .f32) (b : Vec Ideal S1x512 .f32) (a d : Fin 512) :
    k0_pay10 (F := Ideal) u (k0_pay7 w) u1 u2 b (ix2 a d)
      = b (ix2 (0 : Fin 1) d) + w (ix2 (0 : Fin 8) d) * u2 (ix2 a d) + w (ix2 (1 : Fin 8) d) * u1 (ix2 a d) + w (ix2 (2 : Fin 8) d) * u (ix2 a d) := by
  unfold k0_pay10 k0_pay7
  pointwise

theorem pay11_at (x0 : Vec Ideal S512x512 .bf16) (x5 : Vec Ideal S512x512 .f32) (a d : Fin 512) :
    k0_pay11 (F := Ideal) (k0_pay2 x0) x5 (ix2 a d) = x5 (ix2 a d) * x0 (ix2 a d) := by
  unfold k0_pay11 k0_pay2
  pointwise

theorem pay12_at (i : grid0.Coords) (x7 : Vec Ideal S16x512 .f32) (x6 : Vec Ideal S16x512 .bf16) (r : Fin 16) (d : Fin 512) :
    k0_pay12 (F := Ideal) (BitVec.ofNat 32 (i 0).val) x7 x6 (ix2 r d) = x7 (ix2 r d) * x6 (ix2 r d) * (if (i 0).val < 15 then 1 else 0) := by
  refine Eq.trans ?_ (congrArg (fun z => x7 (ix2 r d) * x6 (ix2 r d) * z) (flag' (i 0)))
  unfold k0_pay12
  pointwise

theorem pay13_at (g : BitVec 32) (v : FVec Ideal S512x512 .f32) (w : Vec Ideal S8x512 .f32) (x5 : Vec Ideal S512x512 .f32)
    (x7 : Vec Ideal S16x512 .f32) (x6 : Vec Ideal S16x512 .bf16) (a d : Fin 512) :
    k0_pay13 (F := Ideal) g v (k0_pay7 w) x5 x7 x6 (ix2 a d)
      = w (ix2 (2 : Fin 8) d) * k0_pay11 (F := Ideal) v x5 (ix2 a d)
        + w (ix2 (1 : Fin 8) d) * up 1 (fun a => k0_pay11 (F := Ideal) v x5 (ix2 a d)) (fun r => k0_pay12 (F := Ideal) g x7 x6 (ix2 r d)) a := by
  rw [← up1, ← choose a 511 (by decide)]
  unfold k0_pay13 k0_pay7
  pointwise

theorem pay18_at (g : BitVec 32) (v : FVec Ideal S512x512 .f32) (w : Vec Ideal S8x512 .f32) (x5 : Vec Ideal S512x512 .f32)
    (x7 : Vec Ideal S16x512 .f32) (x6 : Vec Ideal S16x512 .bf16) (z : FVec Ideal S512x512 .f32) (a d : Fin 512) :
    k0_pay18 (F := Ideal) (k0_pay12 g x7 x6) z (k0_pay14 (k0_pay7 w)) (k0_pay15 v x5) (iota .tc S512x512 32 [0] iota_S512x512_d0_w32) k0_pay16 (k0_pay17 g x7 x6) (ix2 a d)
      = z (ix2 a d) + w (ix2 (0 : Fin 8) d) * up 2 (fun a => k0_pay11 (F := Ideal) v x5 (ix2 a d)) (fun r => k0_pay12 (F := Ideal) g x7 x6 (ix2 r d)) a := by
  rw [← up2, ← choose a 511 (by decide), ← choose a 510 (by decide)]
  unfold k0_pay18 k0_pay17 k0_pay16 k0_pay15 k0_pay14 k0_pay7
  pointwise

/-- The block's part of the gradients of the taps and of the bias. -/
theorem pay22_at (u u1 u2 g : FVec Ideal S512x512 .f32) (n : Fin 8) (d : Fin 512) :
    k0_pay22 (F := Ideal) u u1 u2 g (ix2 n d) = ∑ a : Fin 512, partOf (g (ix2 a d)) (u2 (ix2 a d)) (u1 (ix2 a d)) (u (ix2 a d)) n := by
  match n with
  | ⟨0, _⟩ => unfold k0_pay22; pointwise; rfl
  | ⟨1, _⟩ => unfold k0_pay22; pointwise; rfl
  | ⟨2, _⟩ => unfold k0_pay22; pointwise; rfl
  | ⟨3, _⟩ => unfold k0_pay22; pointwise; rfl
  | ⟨4, _⟩ => unfold k0_pay22; pointwise; exact Finset.sum_const_zero.symm
  | ⟨5, _⟩ => unfold k0_pay22; pointwise; exact Finset.sum_const_zero.symm
  | ⟨6, _⟩ => unfold k0_pay22; pointwise; exact Finset.sum_const_zero.symm
  | ⟨7, _⟩ => unfold k0_pay22; pointwise; exact Finset.sum_const_zero.symm

/-! ## A block's values -/

section

variable (i : grid0.Coords) (x0 x1 x2 : Vec Ideal S512x512 .bf16) (x3 x4 : Vec Ideal S16x512 .bf16) (x5 : Vec Ideal S512x512 .f32)
  (x6 : Vec Ideal S16x512 .bf16) (x7 : Vec Ideal S16x512 .f32) (x8 : Vec Ideal S8x512 .f32) (x9 : Vec Ideal S1x512 .f32)

/-- The convolution's input, in the block and in the rows before it. -/
def cur (d a : Fin 512) : EReal := x1 (ix2 a d) * x2 (ix2 a d)
def before (d : Fin 512) (r : Fin 16) : EReal := x3 (ix2 r d) * x4 (ix2 r d) * (if 0 < (i 0).val then 1 else 0)

/-- The gradient of the convolution's result, in the block and in the rows after it. -/
def grad (d a : Fin 512) : EReal := x5 (ix2 a d) * x0 (ix2 a d)
def after (d : Fin 512) (r : Fin 16) : EReal := x7 (ix2 r d) * x6 (ix2 r d) * (if (i 0).val < 15 then 1 else 0)

/-- The convolution. -/
def blockConv (d a : Fin 512) : EReal :=
  x9 (ix2 (0 : Fin 1) d) + x8 (ix2 (0 : Fin 8) d) * down 2 (cur x1 x2 d) (before i x3 x4 d) a
    + x8 (ix2 (1 : Fin 8) d) * down 1 (cur x1 x2 d) (before i x3 x4 d) a + x8 (ix2 (2 : Fin 8) d) * cur x1 x2 d a

/-- The gradient of the convolution's input. -/
def blockDu (d a : Fin 512) : EReal :=
  x8 (ix2 (2 : Fin 8) d) * grad x0 x5 d a + x8 (ix2 (1 : Fin 8) d) * up 1 (grad x0 x5 d) (after i x6 x7 d) a
    + x8 (ix2 (0 : Fin 8) d) * up 2 (grad x0 x5 d) (after i x6 x7 d) a

/-- One element of the first result. -/
def elemO (n : Fin 3) (d a : Fin 512) : EReal :=
  match n with
  | ⟨0, _⟩ => x5 (ix2 a d) * blockConv i x1 x2 x3 x4 x8 x9 d a
  | ⟨1, _⟩ => blockDu i x0 x5 x6 x7 x8 d a * x2 (ix2 a d)
  | ⟨2, _⟩ => blockDu i x0 x5 x6 x7 x8 d a * x1 (ix2 a d)

/-- The first result's block. -/
def blockO : FVec Ideal S512x1536 .bf16 := fun y => elemO i x0 x1 x2 x3 x4 x5 x6 x7 x8 x9 (range (y 1)) (inside (y 1)) (y 0)

/-- A position's terms in the second result. -/
def elemW (n : Fin 8) (d a : Fin 512) : EReal :=
  partOf (grad x0 x5 d a) (down 2 (cur x1 x2 d) (before i x3 x4 d) a) (down 1 (cur x1 x2 d) (before i x3 x4 d) a) (cur x1 x2 d a) n

/-- The block's part of the second result. -/
def blockW : FVec Ideal S8x512 .f32 := fun y => ∑ a : Fin 512, elemW i x0 x1 x2 x3 x4 x5 (y 0) (y 1) a

theorem down1_eq (a d : Fin 512) : k0_pay8 (F := Ideal) i x1 x2 x3 x4 (ix2 a d) = down 1 (cur x1 x2 d) (before i x3 x4 d) a := by
  rw [pay8_at, show (fun a => k0_pay5 (F := Ideal) x1 x2 (ix2 a d)) = cur x1 x2 d from funext fun a => pay5_at x1 x2 a d,
    show (fun r => k0_pay6 (F := Ideal) i x3 x4 (ix2 r d)) = before i x3 x4 d from funext fun r => pay6_at i x3 x4 r d]

theorem down2_eq (a d : Fin 512) : k0_pay9 (F := Ideal) i x1 x2 x3 x4 (ix2 a d) = down 2 (cur x1 x2 d) (before i x3 x4 d) a := by
  rw [pay9_at, show (fun a => k0_pay5 (F := Ideal) x1 x2 (ix2 a d)) = cur x1 x2 d from funext fun a => pay5_at x1 x2 a d,
    show (fun r => k0_pay6 (F := Ideal) i x3 x4 (ix2 r d)) = before i x3 x4 d from funext fun r => pay6_at i x3 x4 r d]

theorem conv_eq (a d : Fin 512) :
    k0_pay10 (F := Ideal) (k0_pay5 x1 x2) (k0_pay7 x8) (k0_pay8 i x1 x2 x3 x4) (k0_pay9 i x1 x2 x3 x4) x9 (ix2 a d) = blockConv i x1 x2 x3 x4 x8 x9 d a := by
  rw [pay10_at, down1_eq, down2_eq, pay5_at]
  rfl

theorem du_eq (a d : Fin 512) :
    k0_pay18 (F := Ideal) (k0_pay12 (BitVec.ofNat 32 (i 0).val) x7 x6) (k0_pay13 (BitVec.ofNat 32 (i 0).val) (k0_pay2 x0) (k0_pay7 x8) x5 x7 x6) (k0_pay14 (k0_pay7 x8))
      (k0_pay15 (k0_pay2 x0) x5) (iota .tc S512x512 32 [0] iota_S512x512_d0_w32) k0_pay16 (k0_pay17 (BitVec.ofNat 32 (i 0).val) x7 x6) (ix2 a d)
      = blockDu i x0 x5 x6 x7 x8 d a := by
  rw [pay18_at, pay13_at, show (fun a => k0_pay11 (F := Ideal) (k0_pay2 x0) x5 (ix2 a d)) = grad x0 x5 d from funext fun a => pay11_at x0 x5 a d,
    show (fun r => k0_pay12 (F := Ideal) (BitVec.ofNat 32 (i 0).val) x7 x6 (ix2 r d)) = after i x6 x7 d from funext fun r => pay12_at i x7 x6 r d, pay11_at]
  rfl

theorem piece (n : Fin 3) (p : FVec Ideal S512x512 .bf16) (hp : ∀ a d, p (ix2 a d) = elemO i x0 x1 x2 x3 x4 x5 x6 x7 x8 x9 n d a)
    (inb : ∀ a, (![0, 512 * n.val] : Fin 2 → ℕ) a + S512x512.size a ≤ S512x1536.size a) (y : S512x512.Idx) :
    p y = blockO i x0 x1 x2 x3 x4 x5 x6 x7 x8 x9 ((Rect.unit (s := S512x1536) ![0, 512 * n.val] S512x512.size inb).emb y) := by
  obtain ⟨a, d, rfl⟩ := Blocks.pair 512 512 y
  have e : (Rect.unit (s := S512x1536) ![0, 512 * n.val] S512x512.size inb).emb (ix2 a d) = ix2 a (seg n d) := funext fun i => by
    match i with
    | ⟨0, _⟩ => exact Fin.ext (show 0 + 1 * a.val = a.val by omega)
    | ⟨1, _⟩ => exact Fin.ext (show 512 * n.val + 1 * d.val = n.val * 512 + d.val by omega)
  rw [hp, e]
  unfold blockO
  show _ = elemO i x0 x1 x2 x3 x4 x5 x6 x7 x8 x9 (range (seg n d)) (inside (seg n d)) a
  rw [range_seg, inside_seg]

theorem part_eq :
    k0_pay22 (F := Ideal) (k0_pay5 x1 x2) (k0_pay8 i x1 x2 x3 x4) (k0_pay9 i x1 x2 x3 x4) (k0_pay11 (k0_pay2 x0) x5) = blockW i x0 x1 x2 x3 x4 x5 := by
  funext y
  obtain ⟨n, d, rfl⟩ := Blocks.pair 8 512 y
  rw [pay22_at]
  refine Finset.sum_congr rfl fun a _ => ?_
  rw [down1_eq, down2_eq, pay5_at, pay11_at]
  rfl

end

/-! ## The body's loads -/

theorem ld_a (x : Vec Ideal S512x512 .bf16) : View.ld x (Rect.unit (s := S512x512) ![0, 0] ![512, 512] inb_S512x512_S512x512_0_0) = x :=
  View.ld_unit_lit _ _ (by decide)

theorem ld_b (x : Vec Ideal S512x512 .f32) : View.ld x (Rect.unit (s := S512x512) ![0, 0] ![512, 512] inb_S512x512_S512x512_0_0) = x :=
  View.ld_unit_lit _ _ (by decide)

theorem ld_c (x : Vec Ideal S16x512 .bf16) : View.ld x (Rect.unit (s := S16x512) ![0, 0] ![16, 512] inb_S16x512_S16x512_0_0) = x :=
  View.ld_unit_lit _ _ (by decide)

theorem ld_d (x : Vec Ideal S16x512 .f32) : View.ld x (Rect.unit (s := S16x512) ![0, 0] ![16, 512] inb_S16x512_S16x512_0_0) = x :=
  View.ld_unit_lit _ _ (by decide)

theorem ld_e (x : Vec Ideal S8x512 .f32) : View.ld x (Rect.unit (s := S8x512) ![0, 0] ![8, 512] inb_S8x512_S8x512_0_0) = x :=
  View.ld_unit_lit _ _ (by decide)

theorem ld_f (x : Vec Ideal S1x512 .f32) : View.ld x (Rect.unit (s := S1x512) ![0, 0] ![1, 512] inb_S1x512_S1x512_0_0) = x :=
  View.ld_unit_lit _ _ (by decide)

/-! ## What a point leaves -/

section

variable (x0 x1 x2 : Vec Ideal S512x512 .bf16) (x3 x4 : Vec Ideal S16x512 .bf16) (x5 : Vec Ideal S512x512 .f32)
  (x6 : Vec Ideal S16x512 .bf16) (x7 : Vec Ideal S16x512 .f32) (x8 : Vec Ideal S8x512 .f32) (x9 : Vec Ideal S1x512 .f32)

theorem sideA (c : Dev nD) (i : grid0.Coords) a1 h1 a2 h2 a3 h3 a4 h4 a5 h5 a6 h6 a7 h7 a8 h8 a9 h9 a10 h10 a11 h11 a12 h12 hc0 hc1 :
    out0_A_10 (F := Ideal) c i a1 h1 a2 h2 a3 h3 a4 h4 a5 h5 a6 h6 a7 h7 a8 h8 a9 h9 a10 h10 a11 h11 a12 h12 hc0 hc1 x0 x1 x2 x3 x4 x5 x6 x7 x8 x9 = blockO i x0 x1 x2 x3 x4 x5 x6 x7 x8 x9 := by
  unfold out0_A_10
  funext y
  rw [View.read_writes_junk_apply_eq_canon]
  refine View.canon_apply_of_pieces (e := .bf16) (blockO i x0 x1 x2 x3 x4 x5 x6 x7 x8 x9) _ ?_ y (cover0_A_10 (F := Ideal) c i a1 h1 a2 h2 a3 h3 a4 h4 a5 h5 a6 h6 a7 h7 a8 h8 a9 h9 a10 h10 a11 h11 a12 h12 hc0 hc1 x0 x1 x2 x3 x4 x5 x6 x7 x8 x9 y)
  dsimp only [kernelRun0_A]
  unfold kernelRun0_A.sl.r_14 kernelRun0_A.sl.r_13 kernelRun0_A.sl.r_12 kernelRun0_A.sl.r_11 kernelRun0_A.sl.r_10 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.v84
  simp only [View.readAt_eq_ld, Memref.IsWhole.read_unread, ld_a, ld_b, ld_c, ld_d, ld_e, ld_f]
  refine List.forall_mem_cons.mpr ⟨piece i x0 x1 x2 x3 x4 x5 x6 x7 x8 x9 2 _ (fun a d => ?_) inb_S512x1536_S512x512_0_1024, ?_⟩
  · exact congrArg (· * x1 (ix2 a d)) (du_eq i x0 x5 x6 x7 x8 a d)
  refine List.forall_mem_cons.mpr ⟨piece i x0 x1 x2 x3 x4 x5 x6 x7 x8 x9 1 _ (fun a d => ?_) inb_S512x1536_S512x512_0_512, ?_⟩
  · exact congrArg (· * x2 (ix2 a d)) (du_eq i x0 x5 x6 x7 x8 a d)
  refine List.forall_mem_cons.mpr ⟨piece i x0 x1 x2 x3 x4 x5 x6 x7 x8 x9 0 _ (fun a d => ?_) inb_S512x1536_S512x512_0_0, ?_⟩
  · exact congrArg (x5 (ix2 a d) * ·) (conv_eq i x1 x2 x3 x4 x8 x9 a d)
  exact fun p hp => absurd hp List.not_mem_nil

theorem tapsA (c : Dev nD) (i : grid0.Coords) a1 h1 a2 h2 a3 h3 a4 h4 a5 h5 a6 h6 a7 h7 a8 h8 a9 h9 a10 h10 a11 h11 a12 h12 hc0 hc1 :
    out0_A_11 (F := Ideal) c i a1 h1 a2 h2 a3 h3 a4 h4 a5 h5 a6 h6 a7 h7 a8 h8 a9 h9 a10 h10 a11 h11 a12 h12 hc0 hc1 x0 x1 x2 x3 x4 x5 x6 x7 x8 x9 = blockW i x0 x1 x2 x3 x4 x5 := by
  unfold out0_A_11
  dsimp only [kernelRun0_A]
  rw [View.read_writes_full]
  unfold kernelRun0_A.sl.r_9 kernelRun0_A.sl.r_6 kernelRun0_A.sl.r_5 kernelRun0_A.sl.r_3 kernelRun0_A.sl.r
  simp only [View.readAt_eq_ld, Memref.IsWhole.read_unread, ld_a, ld_b, ld_c]
  exact part_eq i x0 x1 x2 x3 x4 x5

theorem sideB (c : Dev nD) (i : grid0.Coords) a1 h1 a2 h2 a3 h3 a4 h4 a5 h5 a6 h6 a7 h7 a8 h8 a9 h9 a10 h10 a11 h11 a12 h12 hc0 hc1 (x11 : Vec Ideal S8x512 .f32) :
    out0_B_10 (F := Ideal) c i a1 h1 a2 h2 a3 h3 a4 h4 a5 h5 a6 h6 a7 h7 a8 h8 a9 h9 a10 h10 a11 h11 a12 h12 hc0 hc1 x0 x1 x2 x3 x4 x5 x6 x7 x8 x9 x11 = blockO i x0 x1 x2 x3 x4 x5 x6 x7 x8 x9 := by
  unfold out0_B_10
  funext y
  rw [View.read_writes_junk_apply_eq_canon]
  refine View.canon_apply_of_pieces (e := .bf16) (blockO i x0 x1 x2 x3 x4 x5 x6 x7 x8 x9) _ ?_ y (cover0_B_10 (F := Ideal) c i a1 h1 a2 h2 a3 h3 a4 h4 a5 h5 a6 h6 a7 h7 a8 h8 a9 h9 a10 h10 a11 h11 a12 h12 hc0 hc1 x0 x1 x2 x3 x4 x5 x6 x7 x8 x9 x11 y)
  dsimp only [kernelRun0_B]
  unfold kernelRun0_B.sl.r_14 kernelRun0_B.sl.r_13 kernelRun0_B.sl.r_12 kernelRun0_B.sl.r_11 kernelRun0_B.sl.r_10 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r kernelRun0_B.sl.v84
  simp only [View.readAt_eq_ld, Memref.IsWhole.read_unread, ld_a, ld_b, ld_c, ld_d, ld_e, ld_f]
  refine List.forall_mem_cons.mpr ⟨piece i x0 x1 x2 x3 x4 x5 x6 x7 x8 x9 2 _ (fun a d => ?_) inb_S512x1536_S512x512_0_1024, ?_⟩
  · exact congrArg (· * x1 (ix2 a d)) (du_eq i x0 x5 x6 x7 x8 a d)
  refine List.forall_mem_cons.mpr ⟨piece i x0 x1 x2 x3 x4 x5 x6 x7 x8 x9 1 _ (fun a d => ?_) inb_S512x1536_S512x512_0_512, ?_⟩
  · exact congrArg (· * x2 (ix2 a d)) (du_eq i x0 x5 x6 x7 x8 a d)
  refine List.forall_mem_cons.mpr ⟨piece i x0 x1 x2 x3 x4 x5 x6 x7 x8 x9 0 _ (fun a d => ?_) inb_S512x1536_S512x512_0_0, ?_⟩
  · exact congrArg (x5 (ix2 a d) * ·) (conv_eq i x1 x2 x3 x4 x8 x9 a d)
  exact fun p hp => absurd hp List.not_mem_nil

theorem tapsB (c : Dev nD) (i : grid0.Coords) a1 h1 a2 h2 a3 h3 a4 h4 a5 h5 a6 h6 a7 h7 a8 h8 a9 h9 a10 h10 a11 h11 a12 h12 hc0 hc1 (x11 : Vec Ideal S8x512 .f32) :
    out0_B_11 (F := Ideal) c i a1 h1 a2 h2 a3 h3 a4 h4 a5 h5 a6 h6 a7 h7 a8 h8 a9 h9 a10 h10 a11 h11 a12 h12 hc0 hc1 x0 x1 x2 x3 x4 x5 x6 x7 x8 x9 x11 = fun y => x11 y + blockW i x0 x1 x2 x3 x4 x5 y := by
  unfold out0_B_11
  dsimp only [kernelRun0_B]
  rw [View.read_writes_full]
  unfold kernelRun0_B.sl.r_15 kernelRun0_B.sl.r_9 kernelRun0_B.sl.r_6 kernelRun0_B.sl.r_5 kernelRun0_B.sl.r_3 kernelRun0_B.sl.r
  simp only [View.readAt_eq_ld, Memref.IsWhole.read_unread, ld_a, ld_b, ld_c, ld_e]
  rw [part_eq]
  unfold k0_pay1
  funext y
  pointwise

end

end Cert.GradConvIdeal

end
-- ==== Proof.GradConvValue.lean ====
module

public import proofs.«01_k».proof.Proof.GradConvPoint
public import proofs.«01_k».proof.Proof.ConvValue
public import proofs.«01_k».proof.Proof.Gen.GradConvLinesIdeal.Run
public import proofs.«01_k».proof.Proof.Common
public import Idealize.ShloMosaic.Lib.Pointwise
public import Idealize.ShloMosaic.Lib.KernelVsHost
public import Idealize.ShloMosaic.Lib.Pipeline.Value

@[expose] public section

set_option maxRecDepth 16384

noncomputable section

/-! # GradConv: the gradients of the gated short convolution

The gradient of the convolution's input takes, at each position, the gradients of the two positions after it; a block finds those of
the next block in the sixteen rows after it. The gradients of the taps and of the bias are sums over all positions, one block's after
another's. -/

namespace Cert.GradConvIdeal

open Idealize.ShloMosaic Idealize.ShloMosaic.TcCoe Idealize.SL.Sem Idealize.ShloMosaic.StableHlo Cert.GradConvIdeal.Gen
open Cert.Shift
open Cert.ConvIdeal (at0 at512 at1024 input conv)

/-! ## The mathematics -/

/-- The gradient of the convolution's result, column `d`. -/
def gradY (P : FVec Ideal S8192x7168 .bf16) (D : FVec Ideal S8192x512 .f32) (d : Fin 512) (s : Fin 8192) : EReal :=
  D (ix2 s d) * P (ix2 s (at0 d))

/-- The gradient of the convolution's input, column `d`. -/
def du (P : FVec Ideal S8192x7168 .bf16) (D : FVec Ideal S8192x512 .f32) (w : FVec Ideal S3x512 .f32) (d : Fin 512) (s : Fin 8192) : EReal :=
  w (ix2 (2 : Fin 3) d) * gradY P D d s + w (ix2 (1 : Fin 3) d) * lead 1 (gradY P D d) s + w (ix2 (0 : Fin 3) d) * lead 2 (gradY P D d) s

/-- One element of the first result: the gradient of the gate and of the input's two factors. -/
def elem (P : FVec Ideal S8192x7168 .bf16) (D : FVec Ideal S8192x512 .f32) (w : FVec Ideal S3x512 .f32) (b : FVec Ideal S512 .f32)
    (n : Fin 3) (d : Fin 512) (s : Fin 8192) : EReal :=
  match n with
  | ⟨0, _⟩ => D (ix2 s d) * conv P w b d s
  | ⟨1, _⟩ => du P D w d s * P (ix2 s (at1024 d))
  | ⟨2, _⟩ => du P D w d s * P (ix2 s (at512 d))

/-- The first result. -/
def sides (P : FVec Ideal S8192x7168 .bf16) (D : FVec Ideal S8192x512 .f32) (w : FVec Ideal S3x512 .f32) (b : FVec Ideal S512 .f32) :
    FVec Ideal S8192x1536 .bf16 := fun i => elem P D w b (range (i 1)) (inside (i 1)) (i 0)

/-- A position's terms in the second result. -/
def term (P : FVec Ideal S8192x7168 .bf16) (D : FVec Ideal S8192x512 .f32) (n : Fin 8) (d : Fin 512) (s : Fin 8192) : EReal :=
  partOf (gradY P D d s) (lag 2 (input P d) s) (lag 1 (input P d) s) (input P d s) n

/-- The second result: three rows for the taps, one for the bias, four of zeros. -/
def sums (P : FVec Ideal S8192x7168 .bf16) (D : FVec Ideal S8192x512 .f32) : FVec Ideal S8x512 .f32 := fun i =>
  ∑ s : Fin 8192, term P D (i 0) (i 1) s

/-! ## The blocks a point is given -/

variable (m : (ℓ : Loc nD τ sig) → Buf (Elt Ideal) ℓ) (c : Dev nD)

theorem pt_lt (t : Fin cfg0.N) : t.val < 16 := lt_of_lt_of_eq t.isLt N_0

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![32 * t.val - 1, 1] := (by decide +kernel : ∀ t : Fin grid0.N, _)
theorem idx4 : ∀ t : Fin cfg0.N, win0_4.index t = ![32 * t.val - 1, 2] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![min (32 * (t.val + 1)) 511, 0] := (by decide +kernel : ∀ t : Fin grid0.N, _)
theorem idx7 : ∀ t : Fin cfg0.N, win0_7.index t = ![min (32 * (t.val + 1)) 511, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, 0] := (by decide +kernel : ∀ t : Fin grid0.N, _)
theorem coord : ∀ t : Fin cfg0.N, ((grid0.coords t) 0).val = t.val := (by decide +kernel : ∀ t : Fin grid0.N, _)

abbrev P : FVec Ideal S8192x7168 .bf16 := m ((c : Thread nD τ).loc main_arg0)
abbrev D : FVec Ideal S8192x512 .f32 := m ((c : Thread nD τ).loc main_arg1)
abbrev W : FVec Ideal S3x512 .f32 := m ((c : Thread nD τ).loc main_arg2)
abbrev Bc : FVec Ideal S512 .f32 := m ((c : Thread nD τ).loc main_arg3)

abbrev B0 (t : Fin cfg0.N) : FVec Ideal S512x512 .bf16 := iblk m c 0 t
abbrev B1 (t : Fin cfg0.N) : FVec Ideal S512x512 .bf16 := iblk m c 1 t
abbrev B2 (t : Fin cfg0.N) : FVec Ideal S512x512 .bf16 := iblk m c 2 t
abbrev B3 (t : Fin cfg0.N) : FVec Ideal S16x512 .bf16 := iblk m c 3 t
abbrev B4 (t : Fin cfg0.N) : FVec Ideal S16x512 .bf16 := iblk m c 4 t
abbrev B5 (t : Fin cfg0.N) : FVec Ideal S512x512 .f32 := iblk m c 5 t
abbrev B6 (t : Fin cfg0.N) : FVec Ideal S16x512 .bf16 := iblk m c 6 t
abbrev B7 (t : Fin cfg0.N) : FVec Ideal S16x512 .f32 := iblk m c 7 t
abbrev B8 (t : Fin cfg0.N) : FVec Ideal S8x512 .f32 := iblk m c 8 t
abbrev B9 (t : Fin cfg0.N) : FVec Ideal S1x512 .f32 := iblk m c 9 t

theorem blk0 (t : Fin cfg0.N) (a d : Fin 512) : B0 m c t (ix2 a d) = P m c (ix2 (row t.val (pt_lt t) a) (at0 d)) := by
  unfold B0
  blk_simp [iblk]
  rw [V_main_arg0]
  refine congrArg (P m c) ?_
  unfold row at0
  blk_ext [idx0]

theorem blk1 (t : Fin cfg0.N) (a d : Fin 512) : B1 m c t (ix2 a d) = P m c (ix2 (row t.val (pt_lt t) a) (at512 d)) := by
  unfold B1
  blk_simp [iblk]
  rw [V_main_arg0]
  refine congrArg (P m c) ?_
  unfold row at512
  blk_ext [idx1]

theorem blk2 (t : Fin cfg0.N) (a d : Fin 512) : B2 m c t (ix2 a d) = P m c (ix2 (row t.val (pt_lt t) a) (at1024 d)) := by
  unfold B2
  blk_simp [iblk]
  rw [V_main_arg0]
  refine congrArg (P m c) ?_
  unfold row at1024
  blk_ext [idx2]

theorem blk3 (t : Fin cfg0.N) (h : 0 < t.val) (r : Fin 16) (d : Fin 512) :
    B3 m c t (ix2 r d) = P m c (ix2 ⟨512 * t.val + r.val - 16, by have := pt_lt t; omega⟩ (at512 d)) := by
  unfold B3
  blk_simp [iblk]
  rw [V_main_arg0]
  refine congrArg (P m c) ?_
  unfold at512
  blk_ext [idx3]

theorem blk4 (t : Fin cfg0.N) (h : 0 < t.val) (r : Fin 16) (d : Fin 512) :
    B4 m c t (ix2 r d) = P m c (ix2 ⟨512 * t.val + r.val - 16, by have := pt_lt t; omega⟩ (at1024 d)) := by
  unfold B4
  blk_simp [iblk]
  rw [V_main_arg0]
  refine congrArg (P m c) ?_
  unfold at1024
  blk_ext [idx4]

theorem blk5 (t : Fin cfg0.N) (a d : Fin 512) : B5 m c t (ix2 a d) = D m c (ix2 (row t.val (pt_lt t) a) d) := by
  unfold B5
  blk_simp [iblk]
  rw [V_main_arg1]
  refine congrArg (D m c) ?_
  unfold row
  blk_ext [idx5]

theorem blk6 (t : Fin cfg0.N) (h : t.val < 15) (r : Fin 16) (d : Fin 512) :
    B6 m c t (ix2 r d) = P m c (ix2 ⟨512 * t.val + 512 + r.val, by omega⟩ (at0 d)) := by
  unfold B6
  blk_simp [iblk]
  rw [V_main_arg0]
  refine congrArg (P m c) ?_
  unfold at0
  blk_ext [idx6]

theorem blk7 (t : Fin cfg0.N) (h : t.val < 15) (r : Fin 16) (d : Fin 512) :
    B7 m c t (ix2 r d) = D m c (ix2 ⟨512 * t.val + 512 + r.val, by omega⟩ d) := by
  unfold B7
  blk_simp [iblk]
  rw [V_main_arg1]
  refine congrArg (D m c) ?_
  blk_ext [idx7]

theorem V_v0 : V m c main_v0 = pad S8x512 ![0, 0] ![5, 0] ![0, 0] (W m c) (sitofp .f32 (constantI S_ 32 0#32) : FVec Ideal S_ .f32) pads_S3x512_S8x512_050_000 h_S_ := by
  unfold V
  simp only [hostOps0, hostOps0_1, hostOps0_2]
  after_reads_simp
  rfl

theorem V_v1 : V m c main_v1 = broadcastInDim S1x512 ![1] bcast_S512_S1x512_1 (Bc m c) := by
  unfold V
  simp only [hostOps0, hostOps0_1, hostOps0_2]
  after_reads_simp

/-- The padded taps. -/
theorem padded (n : Fin 3) (d : Fin 512) : (V m c main_v0 : FVec Ideal S8x512 .f32) (ix2 (n.castLE (by decide)) d) = W m c (ix2 n d) := by
  rw [V_v0]
  refine pad_apply_of_inside _ _ _ _ _ _ _ _ (ix2 n d) fun b => ?_
  match b with
  | ⟨0, _⟩ => exact show n.val = 0 + n.val * (0 + 1) by omega
  | ⟨1, _⟩ => exact show d.val = 0 + d.val * (0 + 1) by omega

theorem blk8 (t : Fin cfg0.N) (n : Fin 3) (d : Fin 512) : B8 m c t (ix2 (n.castLE (by decide) : Fin 8) d) = W m c (ix2 n d) := by
  rw [← padded]
  unfold B8
  blk_simp [iblk]
  refine congrArg (V m c main_v0) ?_
  blk_ext [idx8]

theorem blk9 (t : Fin cfg0.N) (d : Fin 512) : B9 m c t (ix2 (0 : Fin 1) d) = Bc m c (ix1 d) := by
  have h : (V m c main_v1 : FVec Ideal S1x512 .f32) (ix2 (0 : Fin 1) d) = Bc m c (ix1 d) := by
    rw [V_v1]
    pointwise
  rw [← h]
  unfold B9
  blk_simp [iblk]
  refine congrArg (V m c main_v1) ?_
  blk_ext [idx9]

theorem cur_at (t : Fin cfg0.N) (d a : Fin 512) : cur (B1 m c t) (B2 m c t) d a = input (P m c) d (row t.val (pt_lt t) a) := by
  unfold cur
  rw [blk1, blk2]
  rfl

theorem before_at (t : Fin cfg0.N) (d : Fin 512) (r : Fin 16) :
    before (grid0.coords t) (B3 m c t) (B4 m c t) d r
      = if h : 0 < t.val then input (P m c) d ⟨512 * t.val + r.val - 16, by have := pt_lt t; omega⟩ else 0 := by
  unfold before
  rw [coord]
  by_cases h : 0 < t.val
  · rw [dif_pos h, if_pos h, mul_one, blk3 m c t h, blk4 m c t h]
    rfl
  · rw [dif_neg h, if_neg h, mul_zero]

theorem grad_at (t : Fin cfg0.N) (d a : Fin 512) : grad (B0 m c t) (B5 m c t) d a = gradY (P m c) (D m c) d (row t.val (pt_lt t) a) := by
  unfold grad
  rw [blk0, blk5]
  rfl

theorem after_at (t : Fin cfg0.N) (d : Fin 512) (r : Fin 16) :
    after (grid0.coords t) (B6 m c t) (B7 m c t) d r
      = if h : t.val < 15 then gradY (P m c) (D m c) d ⟨512 * t.val + 512 + r.val, by omega⟩ else 0 := by
  unfold after
  rw [coord]
  by_cases h : t.val < 15
  · rw [dif_pos h, if_pos h, mul_one, blk6 m c t h, blk7 m c t h]
    rfl
  · rw [dif_neg h, if_neg h, mul_zero]

theorem down_at (t : Fin cfg0.N) (n : ℕ) (hn : n ≤ 16) (d a : Fin 512) :
    down n (cur (B1 m c t) (B2 m c t) d) (before (grid0.coords t) (B3 m c t) (B4 m c t) d) a = lag n (input (P m c) d) (row t.val (pt_lt t) a) :=
  down_eq n hn t.val (pt_lt t) (input (P m c) d) _ _ (cur_at m c t d) (before_at m c t d) a

theorem up_at (t : Fin cfg0.N) (n : ℕ) (hn : n ≤ 16) (d a : Fin 512) :
    up n (grad (B0 m c t) (B5 m c t) d) (after (grid0.coords t) (B6 m c t) (B7 m c t) d) a = lead n (gradY (P m c) (D m c) d) (row t.val (pt_lt t) a) :=
  up_eq n hn t.val (pt_lt t) (gradY (P m c) (D m c) d) _ _ (grad_at m c t d) (after_at m c t d) a

theorem conv_at (t : Fin cfg0.N) (d a : Fin 512) :
    blockConv (grid0.coords t) (B1 m c t) (B2 m c t) (B3 m c t) (B4 m c t) (B8 m c t) (B9 m c t) d a
      = conv (P m c) (W m c) (Bc m c) d (row t.val (pt_lt t) a) := by
  unfold blockConv
  rw [down_at m c t 2 (by decide), down_at m c t 1 (by decide), cur_at, blk9]
  have w0 := blk8 m c t 0 d
  have w1 := blk8 m c t 1 d
  have w2 := blk8 m c t 2 d
  exact congrArg₂ _ (congrArg₂ _ (congrArg _ (congrArg (· * _) w0)) (congrArg (· * _) w1)) (congrArg (· * _) w2)

theorem du_at (t : Fin cfg0.N) (d a : Fin 512) :
    blockDu (grid0.coords t) (B0 m c t) (B5 m c t) (B6 m c t) (B7 m c t) (B8 m c t) d a
      = du (P m c) (D m c) (W m c) d (row t.val (pt_lt t) a) := by
  unfold blockDu
  rw [up_at m c t 2 (by decide), up_at m c t 1 (by decide), grad_at]
  have w0 := blk8 m c t 0 d
  have w1 := blk8 m c t 1 d
  have w2 := blk8 m c t 2 d
  exact congrArg₂ _ (congrArg₂ _ (congrArg (· * _) w2) (congrArg (· * _) w1)) (congrArg (· * _) w0)

/-- What a point stores of the first result. -/
theorem side_at (t : Fin cfg0.N) (n : Fin 3) (d a : Fin 512) :
    elemO (grid0.coords t) (B0 m c t) (B1 m c t) (B2 m c t) (B3 m c t) (B4 m c t) (B5 m c t) (B6 m c t) (B7 m c t) (B8 m c t) (B9 m c t) n d a
      = elem (P m c) (D m c) (W m c) (Bc m c) n d (row t.val (pt_lt t) a) := by
  unfold elemO elem
  match n with
  | ⟨0, _⟩ =>
    dsimp only
    rw [conv_at, blk5]
  | ⟨1, _⟩ =>
    dsimp only
    rw [du_at, blk2]
  | ⟨2, _⟩ =>
    dsimp only
    rw [du_at, blk1]

theorem term_at (t : Fin cfg0.N) (n : Fin 8) (d a : Fin 512) :
    elemW (grid0.coords t) (B0 m c t) (B1 m c t) (B2 m c t) (B3 m c t) (B4 m c t) (B5 m c t) n d a
      = term (P m c) (D m c) n d (row t.val (pt_lt t) a) := by
  unfold elemW term
  rw [down_at m c t 2 (by decide), down_at m c t 1 (by decide), cur_at, grad_at]

theorem outs10 (t : Fin cfg0.N) : (outsAt0 m c t.val t.isLt).1
    = blockO (grid0.coords t) (B0 m c t) (B1 m c t) (B2 m c t) (B3 m c t) (B4 m c t) (B5 m c t) (B6 m c t) (B7 m c t) (B8 m c t) (B9 m c t) := by
  by_cases ht : t.val % 16 = 0
  · rw [outsAt0_A m c t ht (by have := pt_lt t; omega)]
    dsimp only
    rw [sideA]
  · rw [outsAt0_B m c t ht (by omega)]
    dsimp only
    rw [sideB]

/-! ## The sums, block by block -/

theorem sum_blk (t : Fin cfg0.N) (n : Fin 8) (d : Fin 512) :
    Blocks.part (term (P m c) (D m c) n d) (512 * t.val)
      + blockW (grid0.coords t) (B0 m c t) (B1 m c t) (B2 m c t) (B3 m c t) (B4 m c t) (B5 m c t) (ix2 n d)
      = Blocks.part (term (P m c) (D m c) n d) (512 * (t.val + 1)) := by
  have := pt_lt t
  refine Blocks.part_block (term (P m c) (D m c) n d) (by omega) (by omega)
    (fun a : Fin 512 => elemW (grid0.coords t) (B0 m c t) (B1 m c t) (B2 m c t) (B3 m c t) (B4 m c t) (B5 m c t) n d a) fun a => ?_
  exact term_at m c t n d a

theorem sum_first (t : Fin cfg0.N) (ht : t.val % 16 = 0) (n : Fin 8) (d : Fin 512) :
    (outsAt0 m c t.val t.isLt).2 (ix2 n d) = Blocks.part (term (P m c) (D m c) n d) (512 * (t.val + 1)) := by
  have := pt_lt t
  rw [outsAt0_A m c t ht (by omega)]
  dsimp only
  rw [tapsA, ← sum_blk, show t.val = 0 by omega, Nat.mul_zero, Blocks.part_zero, zero_add]

theorem sum_next (t : Fin cfg0.N) (ht : ¬t.val % 16 = 0) (n : Fin 8) (d : Fin 512)
    (ih : (outsAt0 m c (t.val - 1) (Blocks.prev t)).2 (ix2 n d) = Blocks.part (term (P m c) (D m c) n d) (512 * t.val)) :
    (outsAt0 m c t.val t.isLt).2 (ix2 n d) = Blocks.part (term (P m c) (D m c) n d) (512 * (t.val + 1)) := by
  rw [outsAt0_B m c t ht (by omega)]
  dsimp only
  rw [tapsB, ← sum_blk, ← ih]

theorem sum_after (k : ℕ) (hk : k < cfg0.N) (n : Fin 8) (d : Fin 512) :
    (outsAt0 m c k hk).2 (ix2 n d) = Blocks.part (term (P m c) (D m c) n d) (512 * (k + 1)) := by
  induction k with
  | zero => exact sum_first m c ⟨0, hk⟩ rfl n d
  | succ k ih =>
    have := pt_lt ⟨k + 1, hk⟩
    exact sum_next m c ⟨k + 1, hk⟩ (by dsimp only at this ⊢; omega) n d (ih (by omega))

theorem outs11 (t : Fin cfg0.N) (ht : t.val % 16 = 15) (n : Fin 8) (d : Fin 512) :
    (outsAt0 m c t.val t.isLt).2 (ix2 n d) = sums (P m c) (D m c) (ix2 n d) := by
  have := pt_lt t
  rw [sum_after, show 512 * (t.val + 1) = 8192 by omega, Blocks.part_all]
  rfl

/-! ## The whole results -/

theorem final10 : (dats m 0 c).arrAt 10 cfg0.N = sides (P m c) (D m c) (W m c) (Bc m c) := by
  refine (dats m 0 c).arrAt_eq_of_covers 10 _ (by decide +kernel) fun t hf y => ?_
  blk_simp
  rw [after0_10, outs10]
  obtain ⟨a, j, rfl⟩ := Blocks.pair 512 1536 y
  refine (side_at m c t (range j) (inside j) a).trans ?_
  refine congrArg (sides (P m c) (D m c) (W m c) (Bc m c)) (?_ : ix2 (row t.val (pt_lt t) a) j = _)
  unfold row
  blk_ext [idx10]

theorem final11 : (dats m 0 c).arrAt 11 cfg0.N = sums (P m c) (D m c) := by
  refine (dats m 0 c).arrAt_eq_of_covers 11 _ (by decide +kernel) fun t hf y => ?_
  blk_simp
  rw [after0_11]
  obtain ⟨n, d, rfl⟩ := Blocks.pair 8 512 y
  refine (outs11 m c t ((flush0_11 t).mp hf) n d).trans ?_
  refine congrArg (sums (P m c) (D m c)) (?_ : ix2 n d = _)
  blk_ext [idx11]

end Cert.GradConvIdeal

/-! ## The reference -/

namespace Cert.GradConvLinesIdeal

open Idealize.ShloMosaic Idealize.ShloMosaic.TcCoe Cert.GradConvLinesIdeal.Gen Cert.Shift
open Cert.ConvIdeal (at0 at512 at1024 input conv)
open Cert.ConvLinesIdeal (padded spread padded_at lag_zero)
open Cert.GradConvIdeal (seg range inside range_seg inside_seg seg_range partOf gradY du elem sides term sums)

section

variable (P : FVec Ideal S8192x7168 .bf16) (D : FVec Ideal S8192x512 .f32) (w : FVec Ideal S3x512 .f32) (b : FVec Ideal S512 .f32)

/-- The three column ranges of the projection. -/
def gateOf : FVec Ideal S8192x512 .f32 := extf .f32 (extractStridedSlice S8192x512 ![0, 0] P slices_S8192x7168_S8192x512_0_0) bitsLt_bf16_f32
def leftOf : FVec Ideal S8192x512 .f32 := extf .f32 (extractStridedSlice S8192x512 ![0, 512] P slices_S8192x7168_S8192x512_0_512) bitsLt_bf16_f32
def rightOf : FVec Ideal S8192x512 .f32 := extf .f32 (extractStridedSlice S8192x512 ![0, 1024] P slices_S8192x7168_S8192x512_0_1024) bitsLt_bf16_f32

/-- The taps, each at every position. -/
def tap0 : FVec Ideal S8192x512 .f32 := spread (shapeCast _ (extractStridedSlice S1x512 ![0, 0] w slices_S3x512_S1x512_0_0) shapeCasts_S1x512_S512)
def tap1 : FVec Ideal S8192x512 .f32 := spread (shapeCast _ (extractStridedSlice S1x512 ![1, 0] w slices_S3x512_S1x512_1_0) shapeCasts_S1x512_S512)
def tap2 : FVec Ideal S8192x512 .f32 := spread (shapeCast _ (extractStridedSlice S1x512 ![2, 0] w slices_S3x512_S1x512_2_0) shapeCasts_S1x512_S512)

/-- The convolution's input two positions earlier, one earlier, and in place. -/
def slice0 : FVec Ideal S8192x512 .f32 := extractStridedSlice S8192x512 ![0, 0] (padded P) slices_S8194x512_S8192x512_0_0
def slice1 : FVec Ideal S8192x512 .f32 := extractStridedSlice S8192x512 ![1, 0] (padded P) slices_S8194x512_S8192x512_1_0
def slice2 : FVec Ideal S8192x512 .f32 := extractStridedSlice S8192x512 ![2, 0] (padded P) slices_S8194x512_S8192x512_2_0

/-- The convolution. -/
def convOf : FVec Ideal S8192x512 .f32 :=
  addf (addf (addf (spread b) (mulf (tap0 w) (slice0 P))) (mulf (tap1 w) (slice1 P))) (mulf (tap2 w) (slice2 P))

/-- The gradient of the convolution. -/
def gradOf : FVec Ideal S8192x512 .f32 := mulf (gateOf P) D

/-- The gradient of its input: that of the padded input, the two rows of zeros taken off. -/
def inputGrad : FVec Ideal S8192x512 .f32 :=
  extractStridedSlice S8192x512 ![2, 0] (addf (addf
    (pad S8194x512 ![2, 0] ![0, 0] ![0, 0] (mulf (tap2 w) (gradOf P D)) (constant S_ .f32 0x00000000#32) pads_S8192x512_S8194x512_200_000 h_S_)
    (pad S8194x512 ![1, 0] ![1, 0] ![0, 0] (mulf (tap1 w) (gradOf P D)) (constant S_ .f32 0x00000000#32) pads_S8192x512_S8194x512_110_000 h_S_))
    (pad S8194x512 ![0, 0] ![2, 0] ![0, 0] (mulf (tap0 w) (gradOf P D)) (constant S_ .f32 0x00000000#32) pads_S8192x512_S8194x512_020_000 h_S_)) slices_S8194x512_S8192x512_2_0

/-- Three arrays side by side. -/
def beside (x y z : FVec Ideal S8192x512 .f32) : FVec Ideal S8192x1536 .f32 :=
  (concatenate S8192x1536 1 [⟨S8192x512, (x : (⟨S8192x512, .f32⟩ : BufTy).Contents (Elt Ideal))⟩, ⟨S8192x512, (y : (⟨S8192x512, .f32⟩ : BufTy).Contents (Elt Ideal))⟩, ⟨S8192x512, (z : (⟨S8192x512, .f32⟩ : BufTy).Contents (Elt Ideal))⟩] concatenates_S8192x512_S8192x512_S8192x512_S8192x1536_d1 : (⟨S8192x1536, .f32⟩ : BufTy).Contents (Elt Ideal))

/-- The first line. -/
def line0 : FVec Ideal S8192x1536 .bf16 :=
  truncf .bf16 (beside (mulf D (convOf P w b)) (mulf (inputGrad P D w) (rightOf P)) (mulf (leftOf P) (inputGrad P D w))) bitsLt_bf16_f32

/-- The sum over the positions, as one row. -/
def total (x : FVec Ideal S8192x512 .f32) : FVec Ideal S1x512 .f32 :=
  broadcastInDim S1x512 ![1] bcast_S512_S1x512_1 (Host.reduceAdd (shapeCast _ (Host.reduceAdd x (constant S_ .f32 0x00000000#32) reducesTo_S8192x512_S512_d0 h_S_) shapeCasts_S512_S1x512) (constant S_ .f32 0x00000000#32) reducesTo_S1x512_S512_d0 h_S_)

/-- Three rows, one on top of the other. -/
def threeRows (x y z : FVec Ideal S1x512 .f32) : FVec Ideal S3x512 .f32 :=
  addf (addf
    (pad S3x512 ![2, 0] ![0, 0] ![0, 0] x (constant S_ .f32 0x00000000#32) pads_S1x512_S3x512_200_000 h_S_)
    (pad S3x512 ![1, 0] ![1, 0] ![0, 0] y (constant S_ .f32 0x00000000#32) pads_S1x512_S3x512_110_000 h_S_))
    (pad S3x512 ![0, 0] ![2, 0] ![0, 0] z (constant S_ .f32 0x00000000#32) pads_S1x512_S3x512_020_000 h_S_)

/-- Four rows of zeros. -/
def zeros : FVec Ideal S4x512 .f32 := broadcastInDim S4x512 ![] bcast_S_S4x512 (constant S_ .f32 0x00000000#32)

/-- The taps' rows, the bias's, and four of zeros. -/
def stack (x : FVec Ideal S3x512 .f32) (y : FVec Ideal S1x512 .f32) : FVec Ideal S8x512 .f32 :=
  (concatenate S8x512 0 [⟨S3x512, (x : (⟨S3x512, .f32⟩ : BufTy).Contents (Elt Ideal))⟩, ⟨S1x512, (y : (⟨S1x512, .f32⟩ : BufTy).Contents (Elt Ideal))⟩, ⟨S4x512, (zeros : (⟨S4x512, .f32⟩ : BufTy).Contents (Elt Ideal))⟩] concatenates_S3x512_S1x512_S4x512_S8x512_d0 : (⟨S8x512, .f32⟩ : BufTy).Contents (Elt Ideal))

/-- The second line. -/
def line1 : FVec Ideal S8x512 .f32 :=
  stack (threeRows (total (mulf (gradOf P D) (slice2 P))) (total (mulf (gradOf P D) (slice1 P))) (total (mulf (gradOf P D) (slice0 P)))) (total (gradOf P D))

/-! ### The first line -/

theorem slice0_at (s : Fin 8192) (d : Fin 512) : slice0 P (ix2 s d) = lag 2 (input P d) s := by
  rw [← padded_at P 0 (by decide) s d]
  unfold slice0
  pointwise

theorem slice1_at (s : Fin 8192) (d : Fin 512) : slice1 P (ix2 s d) = lag 1 (input P d) s := by
  rw [← padded_at P 1 (by decide) s d]
  unfold slice1
  pointwise

theorem slice2_at (s : Fin 8192) (d : Fin 512) : slice2 P (ix2 s d) = input P d s := by
  rw [← lag_zero (input P d) s, ← padded_at P 2 (by decide) s d]
  unfold slice2
  pointwise

theorem tap0_at (s : Fin 8192) (d : Fin 512) : tap0 w (ix2 s d) = w (ix2 (0 : Fin 3) d) := by
  unfold tap0 spread
  pointwise

theorem tap1_at (s : Fin 8192) (d : Fin 512) : tap1 w (ix2 s d) = w (ix2 (1 : Fin 3) d) := by
  unfold tap1 spread
  pointwise

theorem tap2_at (s : Fin 8192) (d : Fin 512) : tap2 w (ix2 s d) = w (ix2 (2 : Fin 3) d) := by
  unfold tap2 spread
  pointwise

theorem spread_at (x : FVec Ideal S512 .f32) (s : Fin 8192) (d : Fin 512) : spread x (ix2 s d) = x (ix1 d) := by
  unfold spread
  pointwise

theorem leftOf_at (s : Fin 8192) (d : Fin 512) : leftOf P (ix2 s d) = P (ix2 s (at512 d)) := by
  unfold leftOf at512
  pointwise

theorem rightOf_at (s : Fin 8192) (d : Fin 512) : rightOf P (ix2 s d) = P (ix2 s (at1024 d)) := by
  unfold rightOf at1024
  pointwise

theorem gradOf_at (s : Fin 8192) (d : Fin 512) : gradOf P D (ix2 s d) = gradY P D d s := by
  unfold gradY
  rw [mul_comm]
  unfold gradOf gateOf at0
  pointwise

theorem convOf_at (s : Fin 8192) (d : Fin 512) : convOf P w b (ix2 s d) = conv P w b d s := by
  refine Eq.trans (b := spread b (ix2 s d) + tap0 w (ix2 s d) * slice0 P (ix2 s d) + tap1 w (ix2 s d) * slice1 P (ix2 s d) + tap2 w (ix2 s d) * slice2 P (ix2 s d)) ?_ ?_
  · unfold convOf
    pointwise
  · rw [spread_at, tap0_at, tap1_at, tap2_at, slice0_at, slice1_at, slice2_at]
    rfl

theorem zero_at (i : S_.Idx) : (constant S_ .f32 0x00000000#32 : FVec Ideal S_ .f32) i = 0 := by pointwise

/-- `lo` rows of zeros before an array and `n` after it, read from the third row on. -/
theorem pad_rows (lo n : ℕ) (e : lo + n = 2) (x : FVec Ideal S8192x512 .f32) (h : Shape.Pads S8192x512 ![lo, 0] ![n, 0] ![0, 0] S8194x512)
    (s : Fin 8192) (d : Fin 512) :
    pad S8194x512 ![lo, 0] ![n, 0] ![0, 0] x (constant S_ .f32 0x00000000#32 : FVec Ideal S_ .f32) h h_S_ (ix2 (⟨2 + s.val, by omega⟩ : Fin 8194) d)
      = lead n (fun s => x (ix2 s d)) s := by
  unfold lead
  by_cases hs : s.val + n < 8192
  · rw [dif_pos hs]
    refine pad_apply_of_inside _ _ _ _ _ _ _ _ (ix2 ⟨s.val + n, hs⟩ d) fun k => ?_
    match k with
    | ⟨0, _⟩ => exact show 2 + s.val = lo + (s.val + n) * (0 + 1) by omega
    | ⟨1, _⟩ => exact show d.val = 0 + d.val * (0 + 1) by omega
  · rw [dif_neg hs]
    refine (pad_apply_of_not_inside _ _ _ _ _ _ _ _ 0 fun hin => hs ?_).trans (zero_at _)
    have h2 : (2 + s.val - lo) / (0 + 1) < 8192 := hin.2.2
    rw [Nat.div_one] at h2
    omega

theorem lead_mul (n : ℕ) (v : EReal) (g : Fin 8192 → EReal) (s : Fin 8192) : lead n (fun s => v * g s) s = v * lead n g s := by
  unfold lead
  by_cases h : s.val + n < 8192
  · rw [dif_pos h, dif_pos h]
  · rw [dif_neg h, dif_neg h, mul_zero]

theorem lead_zero (U : Fin 8192 → EReal) (s : Fin 8192) : lead 0 U s = U s := by
  unfold lead
  rw [dif_pos (show s.val + 0 < 8192 from s.isLt)]
  rfl

/-- A tap's share of the gradient, moved back by `n` positions. -/
theorem tap_rows (n : ℕ) (t x : FVec Ideal S8192x512 .f32) (v : EReal) (g : Fin 8192 → EReal) (d : Fin 512) (ht : ∀ s, t (ix2 s d) = v)
    (hx : ∀ s, x (ix2 s d) = g s) (s : Fin 8192) : lead n (fun s => mulf t x (ix2 s d)) s = v * lead n g s := by
  rw [← lead_mul]
  refine congrArg (fun U => lead n U s) (funext fun s => ?_)
  rw [← ht s, ← hx s]
  pointwise

theorem inputGrad_at (s : Fin 8192) (d : Fin 512) : inputGrad P D w (ix2 s d) = du P D w d s := by
  have h2 := (pad_rows 2 0 rfl (mulf (tap2 w) (gradOf P D)) pads_S8192x512_S8194x512_200_000 s d).trans
    (tap_rows 0 (tap2 w) (gradOf P D) _ (gradY P D d) d (fun s => tap2_at w s d) (fun s => gradOf_at P D s d) s)
  have h1 := (pad_rows 1 1 rfl (mulf (tap1 w) (gradOf P D)) pads_S8192x512_S8194x512_110_000 s d).trans
    (tap_rows 1 (tap1 w) (gradOf P D) _ (gradY P D d) d (fun s => tap1_at w s d) (fun s => gradOf_at P D s d) s)
  have h0 := (pad_rows 0 2 rfl (mulf (tap0 w) (gradOf P D)) pads_S8192x512_S8194x512_020_000 s d).trans
    (tap_rows 2 (tap0 w) (gradOf P D) _ (gradY P D d) d (fun s => tap0_at w s d) (fun s => gradOf_at P D s d) s)
  rw [lead_zero] at h2
  unfold du
  rw [← h0, ← h1, ← h2]
  unfold inputGrad
  generalize pad S8194x512 ![2, 0] ![0, 0] ![0, 0] (mulf (tap2 w) (gradOf P D)) (constant S_ .f32 0x00000000#32) pads_S8192x512_S8194x512_200_000 h_S_ = p2
  generalize pad S8194x512 ![1, 0] ![1, 0] ![0, 0] (mulf (tap1 w) (gradOf P D)) (constant S_ .f32 0x00000000#32) pads_S8192x512_S8194x512_110_000 h_S_ = p1
  generalize pad S8194x512 ![0, 0] ![2, 0] ![0, 0] (mulf (tap0 w) (gradOf P D)) (constant S_ .f32 0x00000000#32) pads_S8192x512_S8194x512_020_000 h_S_ = p0
  pointwise

theorem beside_at (x y z : FVec Ideal S8192x512 .f32) (s : Fin 8192) (n : Fin 3) (d : Fin 512) :
    beside x y z (ix2 s (seg n d)) = (match n with | ⟨0, _⟩ => x | ⟨1, _⟩ => y | ⟨2, _⟩ => z) (ix2 s d) := by
  unfold beside
  match n with
  | ⟨0, _⟩ =>
    refine concatenate_apply_piece (t := S8192x1536) 1 [⟨S8192x512, x⟩, ⟨S8192x512, y⟩, ⟨S8192x512, z⟩] concatenates_S8192x512_S8192x512_S8192x512_S8192x1536_d1 (ix2 s (seg 0 d)) 0 (by show 0 < 3; omega) S8192x512 x rfl rfl 0 rfl (ix2 s d) (fun k hk => ?_) (show 0 + d.val = 0 * 512 + d.val by omega)
    match k with
    | ⟨0, _⟩ => rfl
    | ⟨1, _⟩ => exact absurd rfl hk
  | ⟨1, _⟩ =>
    refine concatenate_apply_piece (t := S8192x1536) 1 [⟨S8192x512, x⟩, ⟨S8192x512, y⟩, ⟨S8192x512, z⟩] concatenates_S8192x512_S8192x512_S8192x512_S8192x1536_d1 (ix2 s (seg 1 d)) 1 (by show 1 < 3; omega) S8192x512 y rfl rfl 512 rfl (ix2 s d) (fun k hk => ?_) (show 512 + d.val = 1 * 512 + d.val by omega)
    match k with
    | ⟨0, _⟩ => rfl
    | ⟨1, _⟩ => exact absurd rfl hk
  | ⟨2, _⟩ =>
    refine concatenate_apply_piece (t := S8192x1536) 1 [⟨S8192x512, x⟩, ⟨S8192x512, y⟩, ⟨S8192x512, z⟩] concatenates_S8192x512_S8192x512_S8192x512_S8192x1536_d1 (ix2 s (seg 2 d)) 2 (by show 2 < 3; omega) S8192x512 z rfl rfl 1024 rfl (ix2 s d) (fun k hk => ?_) (show 1024 + d.val = 2 * 512 + d.val by omega)
    match k with
    | ⟨0, _⟩ => rfl
    | ⟨1, _⟩ => exact absurd rfl hk

theorem mulf_at (x y : FVec Ideal S8192x512 .f32) (s : Fin 8192) (d : Fin 512) : mulf x y (ix2 s d) = x (ix2 s d) * y (ix2 s d) := by pointwise

theorem line0_eq : line0 P D w b = sides P D w b := by
  funext i
  obtain ⟨s, n, d, rfl⟩ : ∃ (s : Fin 8192) (n : Fin 3) (d : Fin 512), i = ix2 s (seg n d) := ⟨i 0, range (i 1), inside (i 1), funext fun k => by
    match k with
    | ⟨0, _⟩ => rfl
    | ⟨1, _⟩ => exact (seg_range (i 1)).symm⟩
  unfold sides
  show _ = elem P D w b (range (seg n d)) (inside (seg n d)) s
  rw [range_seg, inside_seg]
  unfold line0
  show beside _ _ _ (ix2 s (seg n d)) = _
  rw [beside_at]
  unfold elem
  match n with
  | ⟨0, _⟩ =>
    dsimp only
    rw [mulf_at, convOf_at]
  | ⟨1, _⟩ =>
    dsimp only
    rw [mulf_at, inputGrad_at, rightOf_at]
  | ⟨2, _⟩ =>
    dsimp only
    rw [mulf_at, inputGrad_at, leftOf_at, mul_comm]

/-! ### The second line -/

theorem total_at (x : FVec Ideal S8192x512 .f32) (d : Fin 512) : total x (ix2 (0 : Fin 1) d) = ∑ s : Fin 8192, x (ix2 s d) := by
  unfold total
  pointwise
  exact Fintype.sum_unique _

/-- One row among three. -/
theorem pad_row (lo n : ℕ) (x : FVec Ideal S1x512 .f32) (h : Shape.Pads S1x512 ![lo, 0] ![n, 0] ![0, 0] S3x512) (k : Fin 3) (d : Fin 512) :
    pad S3x512 ![lo, 0] ![n, 0] ![0, 0] x (constant S_ .f32 0x00000000#32 : FVec Ideal S_ .f32) h h_S_ (ix2 k d)
      = if k.val = lo then x (ix2 (0 : Fin 1) d) else 0 := by
  by_cases hk : k.val = lo
  · rw [if_pos hk]
    refine pad_apply_of_inside _ _ _ _ _ _ _ _ (ix2 (0 : Fin 1) d) fun b => ?_
    match b with
    | ⟨0, _⟩ => exact show k.val = lo + 0 * (0 + 1) by omega
    | ⟨1, _⟩ => exact show d.val = 0 + d.val * (0 + 1) by omega
  · rw [if_neg hk]
    refine (pad_apply_of_not_inside _ _ _ _ _ _ _ _ 0 fun hin => hk ?_).trans (zero_at _)
    have h1 : lo ≤ k.val := hin.1
    have h2 : (k.val - lo) / (0 + 1) < 1 := hin.2.2
    rw [Nat.div_one] at h2
    omega

theorem addf_at (x y : FVec Ideal S3x512 .f32) (i : S3x512.Idx) : addf x y i = x i + y i := by pointwise

theorem threeRows_at (x y z : FVec Ideal S1x512 .f32) (k : Fin 3) (d : Fin 512) :
    threeRows x y z (ix2 k d) = (match k with | ⟨0, _⟩ => z | ⟨1, _⟩ => y | ⟨2, _⟩ => x) (ix2 (0 : Fin 1) d) := by
  unfold threeRows
  rw [addf_at, addf_at, pad_row, pad_row, pad_row]
  match k with
  | ⟨0, _⟩ => simp
  | ⟨1, _⟩ => simp
  | ⟨2, _⟩ => simp

theorem stack_tap (x : FVec Ideal S3x512 .f32) (y : FVec Ideal S1x512 .f32) (k : Fin 3) (d : Fin 512) :
    stack x y (ix2 (k.castLE (by decide) : Fin 8) d) = x (ix2 k d) := by
  unfold stack
  refine concatenate_apply_piece (t := S8x512) 0 [⟨S3x512, x⟩, ⟨S1x512, y⟩, ⟨S4x512, zeros⟩] concatenates_S3x512_S1x512_S4x512_S8x512_d0 (ix2 (k.castLE (by decide) : Fin 8) d) 0 (by show 0 < 3; omega) S3x512 x rfl rfl 0 rfl (ix2 k d) (fun a ha => ?_) (show 0 + k.val = k.val by omega)
  match a with
  | ⟨0, _⟩ => exact absurd rfl ha
  | ⟨1, _⟩ => rfl

theorem stack_bias (x : FVec Ideal S3x512 .f32) (y : FVec Ideal S1x512 .f32) (d : Fin 512) :
    stack x y (ix2 (3 : Fin 8) d) = y (ix2 (0 : Fin 1) d) := by
  unfold stack
  refine concatenate_apply_piece (t := S8x512) 0 [⟨S3x512, x⟩, ⟨S1x512, y⟩, ⟨S4x512, zeros⟩] concatenates_S3x512_S1x512_S4x512_S8x512_d0 (ix2 (3 : Fin 8) d) 1 (by show 1 < 3; omega) S1x512 y rfl rfl 3 rfl (ix2 (0 : Fin 1) d) (fun a ha => ?_) (show 3 + 0 = 3 from rfl)
  match a with
  | ⟨0, _⟩ => exact absurd rfl ha
  | ⟨1, _⟩ => rfl

theorem stack_rest (x : FVec Ideal S3x512 .f32) (y : FVec Ideal S1x512 .f32) (k : Fin 4) (d : Fin 512) :
    stack x y (ix2 (⟨4 + k.val, by omega⟩ : Fin 8) d) = 0 := by
  unfold stack
  refine (concatenate_apply_piece (t := S8x512) 0 [⟨S3x512, x⟩, ⟨S1x512, y⟩, ⟨S4x512, zeros⟩] concatenates_S3x512_S1x512_S4x512_S8x512_d0 (ix2 (⟨4 + k.val, by omega⟩ : Fin 8) d) 2 (by show 2 < 3; omega) S4x512 zeros rfl rfl 4 rfl (ix2 k d) (fun a ha => ?_) (show 4 + k.val = 4 + k.val from rfl)).trans ?_
  · match a with
    | ⟨0, _⟩ => exact absurd rfl ha
    | ⟨1, _⟩ => rfl
  · unfold zeros
    pointwise

theorem tap_sum (v : FVec Ideal S8192x512 .f32) (g : Fin 8192 → EReal) (d : Fin 512) (hv : ∀ s, v (ix2 s d) = g s) :
    total (mulf (gradOf P D) v) (ix2 (0 : Fin 1) d) = ∑ s : Fin 8192, gradY P D d s * g s := by
  rw [total_at]
  refine Finset.sum_congr rfl fun s _ => ?_
  rw [mulf_at, gradOf_at, hv]

theorem line1_eq : line1 P D = sums P D := by
  funext i
  obtain ⟨n, d, rfl⟩ := Blocks.pair 8 512 i
  show _ = ∑ s : Fin 8192, term P D n d s
  unfold line1 term
  match n with
  | ⟨0, _⟩ => exact ((stack_tap _ _ 0 d).trans (threeRows_at _ _ _ 0 d)).trans (tap_sum P D _ _ d fun s => slice0_at P s d)
  | ⟨1, _⟩ => exact ((stack_tap _ _ 1 d).trans (threeRows_at _ _ _ 1 d)).trans (tap_sum P D _ _ d fun s => slice1_at P s d)
  | ⟨2, _⟩ => exact ((stack_tap _ _ 2 d).trans (threeRows_at _ _ _ 2 d)).trans (tap_sum P D _ _ d fun s => slice2_at P s d)
  | ⟨3, _⟩ => exact ((stack_bias _ _ d).trans (total_at _ d)).trans (Finset.sum_congr rfl fun s _ => gradOf_at P D s d)
  | ⟨4, _⟩ => exact (stack_rest _ _ 0 d).trans Finset.sum_const_zero.symm
  | ⟨5, _⟩ => exact (stack_rest _ _ 1 d).trans Finset.sum_const_zero.symm
  | ⟨6, _⟩ => exact (stack_rest _ _ 2 d).trans Finset.sum_const_zero.symm
  | ⟨7, _⟩ => exact (stack_rest _ _ 3 d).trans Finset.sum_const_zero.symm

end

end Cert.GradConvLinesIdeal

/-! ## The claims -/

namespace Cert.Proof

open Idealize.ShloMosaic Idealize.ShloMosaic.TcCoe Idealize.SL.Sem

/-- The reference leaves its arguments alone and declares no semaphore. -/
theorem frame_GradConvLinesIdeal : Cert.quiescent_GradConvLinesIdeal := fun m ρ _ =>
  (θ_run Cert.GradConvLinesIdeal.defs _ _).mono
    (fun r h => ⟨fun c => (h c).2.2, sem_eq_zero_of_no_sems (by decide) r.2⟩)
    (Cert.GradConvLinesIdeal.Value.run m ρ)

/-- The kernel and the reference leave the same two arrays. -/
theorem equal_GradConv : Cert.algebraic_GradConvIdeal_GradConvLinesIdeal := by
  intro m g m' g' _ hagree
  refine ⟨fun c => GradConvIdeal.sides (GradConvIdeal.P m c) (GradConvIdeal.D m c) (GradConvIdeal.W m c) (GradConvIdeal.Bc m c),
    fun c => GradConvIdeal.sums (GradConvIdeal.P m c) (GradConvIdeal.D m c), ?_, ?_⟩
  · exact (θ_run Cert.GradConvIdeal.defs _ _).mono
      (fun r h c => ⟨((h.1 c).1 10).trans (GradConvIdeal.final10 m c), ((h.1 c).1 11).trans (GradConvIdeal.final11 m c), h.2.1 c⟩)
      (θ_run_and (Cert.GradConvIdeal.Gen.run_main m g) (Cert.GradConvIdeal.Gen.frame m g))
  · refine (θ_run Cert.GradConvLinesIdeal.defs _ _).mono (fun r h c => ?_) (Cert.GradConvLinesIdeal.Value.run m' g')
    obtain ⟨e0, e1, e2, e3⟩ := hagree c
    obtain ⟨r0, r1, r2⟩ := h c
    refine ⟨r0.trans ((GradConvLinesIdeal.line0_eq _ _ _ _).trans ?_), r1.trans ((GradConvLinesIdeal.line1_eq _ _).trans ?_), r2⟩
    · rw [e0, e1, e2, e3]
    · rw [e0, e1]

end Cert.Proof

end
-- ==== Proof.Rsqrt.lean ====
module

public import Idealize.ShloMosaic.Lib.Pointwise

@[expose] public section

noncomputable section

/-! # The inverse root of a mean of squares

What the gradient of a normalisation needs of it, over the extended reals. -/

namespace Cert.Rsqrt

open Idealize.ShloMosaic

/-- The number of columns, the term added to the mean, and the exponent of the root. -/
def cols : EReal := Ideal.ofBits .f32 0x44800000#32
def eps : EReal := Ideal.ofBits .f32 0x358637BD#32
def half : EReal := Ideal.ofBits .f32 0xBF000000#32

theorem cols_eq : cols = ((1024 : ℝ) : EReal) := by
  unfold cols
  simp [Ideal.ofBits, Ideal.ieee, -EReal.coe_mul]; norm_num

theorem half_eq : half = ((-(1 / 2) : ℝ) : EReal) := by
  unfold half
  simp [Ideal.ofBits, Ideal.ieee, -EReal.coe_mul]; norm_num

theorem eps_pos : 0 < eps := by
  unfold eps
  simp [Ideal.ofBits, Ideal.ieee, -EReal.coe_mul]

theorem one_eq : Ideal.ofBits .f32 0x3F800000#32 = 1 := by
  simp [Ideal.ofBits, Ideal.ieee, -EReal.coe_mul]; norm_num

/-- Division by the number of columns is a product. -/
theorem mean_eq (x : EReal) : Ideal.div x cols = x * ((1024⁻¹ : ℝ) : EReal) := by
  unfold Ideal.div
  rw [cols_eq, if_neg (by exact_mod_cast (by norm_num : (1024 : ℝ) ≠ 0)), EReal.coe_inv]

/-- The number under the root is positive, where division by the number of columns is a product. -/
theorem pos {n : ℕ} (N : EReal) (z : ℝ) (hz : 0 ≤ z) (hN : ∀ x, Ideal.div x N = x * (z : EReal)) (x : Fin n → EReal) :
    0 < Ideal.div (∑ k, x k * x k) N + eps := by
  rw [hN]
  refine lt_of_lt_of_le eps_pos (le_add_of_nonneg_left (mul_nonneg (Finset.sum_nonneg fun k _ => ?_) ?_))
  · rcases le_total 0 (x k) with h | h
    · exact mul_nonneg h h
    · rw [← neg_mul_neg]
      exact mul_nonneg (EReal.neg_nonneg.mpr h) (EReal.neg_nonneg.mpr h)
  · exact_mod_cast hz

/-- The inverse root of a positive number, divided by the number, is the inverse root's cube. -/
theorem cube (y : EReal) (hy : 0 < y) : Ideal.div (Ideal.rsqrt y) y = Ideal.rsqrt y * Ideal.rsqrt y * Ideal.rsqrt y := by
  unfold Ideal.div
  rw [if_neg hy.ne']
  induction y with
  | bot => exact absurd hy (by simp)
  | top => simp
  | coe y =>
    have h : 0 < y := by exact_mod_cast hy
    rw [Ideal.rsqrt_coe, if_neg (not_lt.mpr h.le), if_neg h.ne', ← EReal.coe_inv, ← EReal.coe_mul, ← EReal.coe_mul, ← EReal.coe_mul]
    congr 1
    have h2 : (√y)⁻¹ * (√y)⁻¹ = y⁻¹ := by rw [← mul_inv, Real.mul_self_sqrt h.le]
    rw [h2, mul_comm]

/-- Twice a number is the number times two. -/
theorem twice (x : EReal) : x + x = x * ((2 : ℝ) : EReal) := by
  induction x with
  | bot => rw [EReal.bot_mul_coe_of_pos (by norm_num)]; rfl
  | top => rw [EReal.top_mul_coe_of_pos (by norm_num)]; rfl
  | coe x => rw [← EReal.coe_add, ← EReal.coe_mul]; congr 1; ring

/-- The gradient through the mean of squares, once for each factor of the square: what both give is the cube of the inverse root. -/
theorem through (N : EReal) (z : ℝ) (hN : ∀ x, Ideal.div x N = x * (z : EReal)) (x s y : EReal) (hy : 0 < y) :
    x * Ideal.div (s * (half * Ideal.div (Ideal.rsqrt y) y)) N + Ideal.div (s * (half * Ideal.div (Ideal.rsqrt y) y)) N * x
      = -(x * (Ideal.rsqrt y * Ideal.rsqrt y * Ideal.rsqrt y * Ideal.div s N)) := by
  rw [mul_comm _ x, twice, cube y hy, hN, hN, half_eq]
  generalize Ideal.rsqrt y * Ideal.rsqrt y * Ideal.rsqrt y = r
  have h : ((-(1 / 2) : ℝ) : EReal) * ((2 : ℝ) : EReal) = -1 := by
    rw [← EReal.coe_mul]; norm_num
  calc x * (s * (((-(1 / 2) : ℝ) : EReal) * r) * (z : EReal)) * ((2 : ℝ) : EReal)
      = (((-(1 / 2) : ℝ) : EReal) * ((2 : ℝ) : EReal)) * (x * (r * (s * (z : EReal)))) := by ac_rfl
    _ = -(x * (r * (s * (z : EReal)))) := by rw [h, neg_one_mul]

end Cert.Rsqrt

end
-- ==== Proof.NormValue.lean ====
module

public import proofs.«01_k».proof.Proof.Gen.NormIdeal.Frame
public import proofs.«01_k».proof.Proof.Gen.NormLinesIdeal.Run
public import proofs.«01_k».proof.Proof.Rsqrt
public import proofs.«01_k».proof.Proof.Common
public import Idealize.ShloMosaic.Lib.VecWindow

@[expose] public section

set_option maxRecDepth 16384

noncomputable section

/-! # Norm: the layers' normalisation -/

namespace Cert.NormIdeal

open Idealize.ShloMosaic Idealize.ShloMosaic.TcCoe Idealize.SL.Sem Idealize.ShloMosaic.StableHlo Cert.NormIdeal.Gen
open Cert.Rsqrt

/-! ## The mathematics -/

/-- A row's inverse root of the mean of its squares. -/
def scale (x : Fin 1024 → EReal) : EReal := Ideal.rsqrt (Ideal.div (∑ k, x k * x k) cols + eps)

/-- The normalised rows, each column times its gain. -/
def result (X : FVec Ideal S8192x1024 .f32) (g : FVec Ideal S1024 .f32) : FVec Ideal S8192x1024 .bf16 := fun i =>
  X i * scale (fun k => X (ix2 (i 0) k)) * g (ix1 (i 1))

/-! ## The body -/

/-- A block of the normalised rows. -/
theorem pay1_at (x0 : Vec Ideal S512x1024 .f32) (x1 : Vec Ideal S1x1024 .f32) (a : Fin 512) (d : Fin 1024) :
    k0_pay1 (F := Ideal) x0 x1 (ix2 a d) = x0 (ix2 a d) * scale (fun k => x0 (ix2 a k)) * x1 (ix2 (0 : Fin 1) d) := by
  rw [← mul_one (x1 (ix2 (0 : Fin 1) d)), ← one_eq]
  unfold k0_pay1 scale cols eps
  pointwise

/-! ## The blocks a point is given -/

variable (m : (ℓ : Loc nD τ sig) → Buf (Elt Ideal) ℓ) (c : Dev nD)

/-- Row `a` of block `t`. -/
def row (t : Fin cfg0.N) (a : Fin 512) : Fin 8192 := ⟨512 * t.val + a.val, by have : t.val < 16 := lt_of_lt_of_eq t.isLt N_0; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

abbrev X : FVec Ideal S8192x1024 .f32 := m ((c : Thread nD τ).loc main_arg0)
abbrev G : FVec Ideal S1024 .f32 := m ((c : Thread nD τ).loc main_arg1)

abbrev B0 (t : Fin cfg0.N) : FVec Ideal S512x1024 .f32 := iblk m c 0 t
abbrev B1 (t : Fin cfg0.N) : FVec Ideal S1x1024 .f32 := iblk m c 1 t

theorem blk0 (t : Fin cfg0.N) (a : Fin 512) (d : Fin 1024) : B0 m c t (ix2 a d) = X m c (ix2 (row t a) d) := by
  unfold B0
  blk_simp [iblk]
  rw [V_main_arg0]
  refine congrArg (X m c) ?_
  unfold row
  blk_ext [idx0]

theorem V_v0 : V m c main_v0 = broadcastInDim S1x1024 ![1] bcast_S1024_S1x1024_1 (G m c) := by
  unfold V
  simp only [hostOps0]
  after_reads_simp

theorem blk1 (t : Fin cfg0.N) (d : Fin 1024) : B1 m c t (ix2 (0 : Fin 1) d) = G m c (ix1 d) := by
  have h : (V m c main_v0 : FVec Ideal S1x1024 .f32) (ix2 (0 : Fin 1) d) = G m c (ix1 d) := by
    rw [V_v0]
    pointwise
  rw [← h]
  unfold B1
  blk_simp [iblk]
  refine congrArg (V m c main_v0) ?_
  blk_ext [idx1]

/-- What a point stores is the block of the normalised rows. -/
theorem out_at (t : Fin cfg0.N) (a : Fin 512) (d : Fin 1024) :
    out0_2 (F := Ideal) (B0 m c t) (B1 m c t) (ix2 a d) = result (X m c) (G m c) (ix2 (row t a) d) := by
  unfold out0_2 r0_0 r0_1
  rw [View.canon_unit_zero (by funext i; match i with | ⟨0, _⟩ => rfl | ⟨1, _⟩ => rfl)]
  rw [View.ld_unit_lit, View.ld_unit_lit]
  rotate_left
  iterate 2 decide
  rw [pay1_at, blk0, blk1, show (fun k => B0 m c t (ix2 a k)) = fun k => X m c (ix2 (row t a) k) from funext fun k => blk0 m c t a k]
  rfl

/-! ## The whole result -/

theorem final2 : (dats m 0 c).arrAt 2 cfg0.N = result (X m c) (G m c) := by
  refine (dats m 0 c).arrAt_eq_of_covers 2 _ (by decide +kernel) fun t hf y => ?_
  blk_simp
  rw [after0_2]
  obtain ⟨a, d, rfl⟩ := Blocks.pair 512 1024 y
  refine (out_at m c t a d).trans ?_
  refine congrArg (result (X m c) (G m c)) (?_ : ix2 (row t a) d = _)
  unfold row
  blk_ext [idx2]

end Cert.NormIdeal

/-! ## The reference -/

namespace Cert.NormLinesIdeal

open Idealize.ShloMosaic Idealize.ShloMosaic.TcCoe Cert.NormLinesIdeal.Gen Cert.Rsqrt
open Cert.NormIdeal (scale result)

/-- The number under the root, a column of them. -/
def meanOf (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reference's line. -/
def lines (X : FVec Ideal S8192x1024 .f32) (g : FVec Ideal S1024 .f32) : FVec Ideal S8192x1024 .bf16 :=
  truncf .bf16 (mulf (mulf X (broadcastInDim S8192x1024 ![0, 1] bcast_S8192x1_S8192x1024_0_1 (Host.rsqrt (meanOf X)))) (broadcastInDim S8192x1024 ![0, 1] bcast_S1x1024_S8192x1024_0_1 (broadcastInDim S1x1024 ![1] bcast_S1024_S1x1024_1 g))) bitsLt_bf16_f32

theorem meanOf_at (X : FVec Ideal S8192x1024 .f32) (s : Fin 8192) :
    meanOf X (ix2 s (0 : Fin 1)) = Ideal.div (∑ k : Fin 1024, X (ix2 s k) * X (ix2 s k)) cols + eps := by
  unfold meanOf cols eps
  pointwise

theorem lines_eq (X : FVec Ideal S8192x1024 .f32) (g : FVec Ideal S1024 .f32) : lines X g = result X g := by
  funext i
  obtain ⟨s, d, rfl⟩ := Blocks.pair 8192 1024 i
  refine Eq.trans (b := X (ix2 s d) * Ideal.rsqrt (meanOf X (ix2 s (0 : Fin 1))) * g (ix1 d)) ?_ ?_
  · unfold lines
    pointwise
  · rw [meanOf_at]
    rfl

end Cert.NormLinesIdeal

/-! ## The claims -/

namespace Cert.Proof

open Idealize.ShloMosaic Idealize.ShloMosaic.TcCoe Idealize.SL.Sem

/-- The reference leaves its arguments alone and declares no semaphore. -/
theorem frame_NormLinesIdeal : Cert.quiescent_NormLinesIdeal := fun m ρ _ =>
  (θ_run Cert.NormLinesIdeal.defs _ _).mono
    (fun r h => ⟨fun c => (h c).2, sem_eq_zero_of_no_sems (by decide) r.2⟩)
    (Cert.NormLinesIdeal.Value.run m ρ)

/-- The kernel and the reference leave the same array. -/
theorem equal_Norm : Cert.algebraic_NormIdeal_NormLinesIdeal := by
  intro m g m' g' _ hagree
  refine ⟨fun c => NormIdeal.result (NormIdeal.X m c) (NormIdeal.G m c), ?_, ?_⟩
  · exact (θ_run Cert.NormIdeal.defs _ _).mono
      (fun r h c => ⟨((h.1 c).1 2).trans (NormIdeal.final2 m c), h.2.1 c⟩)
      (θ_run_and (Cert.NormIdeal.Gen.run_main m g) (Cert.NormIdeal.Gen.frame m g))
  · refine (θ_run Cert.NormLinesIdeal.defs _ _).mono (fun r h c => ?_) (Cert.NormLinesIdeal.Value.run m' g')
    obtain ⟨e0, e1⟩ := hagree c
    obtain ⟨r0, r1⟩ := h c
    refine ⟨r0.trans ?_, r1⟩
    refine (NormLinesIdeal.lines_eq _ _).trans ?_
    rw [e0, e1]

end Cert.Proof

end
-- ==== Proof.GradNormValue.lean ====
module

public import proofs.«01_k».proof.Proof.Gen.GradNormIdeal.Frame
public import proofs.«01_k».proof.Proof.Gen.GradNormLinesIdeal.Run
public import proofs.«01_k».proof.Proof.NormValue
public import proofs.«01_k».proof.Proof.Common
public import Idealize.ShloMosaic.Lib.VecWindow

@[expose] public section

set_option maxRecDepth 16384

noncomputable section

/-! # GradNorm: the gradient of the layers' normalisation

The gradient of a row passes once through the row itself and once through the mean of its squares; the residual's gradient is added.
The gains' gradient is a sum over all positions, one block's after another's. -/

namespace Cert.GradNormIdeal

open Idealize.ShloMosaic Idealize.ShloMosaic.TcCoe Idealize.SL.Sem Idealize.ShloMosaic.StableHlo Cert.GradNormIdeal.Gen
open Cert.Rsqrt
open Cert.NormIdeal (scale)

/-! ## The mathematics -/

/-- The gradient of one element of a row `x`, given the gradient `u` of the scaled row. -/
def rowGrad (x u : Fin 1024 → EReal) (d : Fin 1024) : EReal :=
  scale x * u d - x d * (scale x * scale x * scale x * Ideal.div (∑ k, u k * x k) cols)

/-- The rows' gradient, with the residual's. -/
def elem (X : FVec Ideal S8192x1024 .f32) (g : FVec Ideal S1024 .f32) (D : FVec Ideal S8192x1024 .bf16) (R : FVec Ideal S8192x1024 .f32)
    (s : Fin 8192) (d : Fin 1024) : EReal :=
  rowGrad (fun k => X (ix2 s k)) (fun k => D (ix2 s k) * g (ix1 k)) d + R (ix2 s d)

def wide (X : FVec Ideal S8192x1024 .f32) (g : FVec Ideal S1024 .f32) (D : FVec Ideal S8192x1024 .bf16) (R : FVec Ideal S8192x1024 .f32) :
    FVec Ideal S8192x1024 .f32 := fun i => elem X g D R (i 0) (i 1)

/-- The same, rounded to half the width. -/
def copy (X : FVec Ideal S8192x1024 .f32) (g : FVec Ideal S1024 .f32) (D : FVec Ideal S8192x1024 .bf16) (R : FVec Ideal S8192x1024 .f32) :
    FVec Ideal S8192x1024 .bf16 := fun i => elem X g D R (i 0) (i 1)

/-- A position's term in the gradient of a gain. -/
def term (X : FVec Ideal S8192x1024 .f32) (D : FVec Ideal S8192x1024 .bf16) (d : Fin 1024) (s : Fin 8192) : EReal :=
  D (ix2 s d) * X (ix2 s d) * scale (fun k => X (ix2 s k))

/-- The gains' gradient. -/
def gains (X : FVec Ideal S8192x1024 .f32) (D : FVec Ideal S8192x1024 .bf16) : FVec Ideal S1x1024 .f32 := fun i =>
  ∑ s : Fin 8192, term X D (i 1) s

/-! ## The body -/

/-- A block of the rows' gradient, and a block's part of the gains'. -/
def blockE (x0 : Vec Ideal S512x1024 .f32) (x1 : Vec Ideal S1x1024 .f32) (x2 : Vec Ideal S512x1024 .bf16) (x3 : Vec Ideal S512x1024 .f32)
    (a : Fin 512) (d : Fin 1024) : EReal :=
  rowGrad (fun k => x0 (ix2 a k)) (fun k => x2 (ix2 a k) * x1 (ix2 (0 : Fin 1) k)) d + x3 (ix2 a d)

def blockG (x0 : Vec Ideal S512x1024 .f32) (x2 : Vec Ideal S512x1024 .bf16) (d : Fin 1024) : EReal :=
  ∑ a : Fin 512, x2 (ix2 a d) * x0 (ix2 a d) * scale (fun k => x0 (ix2 a k))

theorem pay3_at (x2 : Vec Ideal S512x1024 .bf16) (a : Fin 512) (d : Fin 1024) : k0_pay3 (F := Ideal) x2 (ix2 a d) = x2 (ix2 a d) := by
  rw [← mul_one (x2 (ix2 a d)), ← one_eq]
  unfold k0_pay3
  pointwise

theorem pay4_at (x0 : Vec Ideal S512x1024 .f32) (a : Fin 512) : k0_pay4 (F := Ideal) x0 (ix2 a (0 : Fin 1)) = scale (fun k => x0 (ix2 a k)) := by
  unfold k0_pay4 scale cols eps
  pointwise

theorem pay5_at (x0 : Vec Ideal S512x1024 .f32) (x1 : Vec Ideal S1x1024 .f32) (x2 : Vec Ideal S512x1024 .bf16) (x3 : Vec Ideal S512x1024 .f32)
    (a : Fin 512) (d : Fin 1024) : k0_pay5 (F := Ideal) x0 x2 x1 x3 (ix2 a d) = blockE x0 x1 x2 x3 a d := by
  unfold blockE rowGrad
  rw [← pay4_at]
  simp only [← pay3_at x2]
  unfold k0_pay5 cols
  generalize k0_pay3 (F := Ideal) x2 = p
  generalize k0_pay4 (F := Ideal) x0 = r
  pointwise

theorem pay6_at (x0 : Vec Ideal S512x1024 .f32) (x1 : Vec Ideal S1x1024 .f32) (x2 : Vec Ideal S512x1024 .bf16) (x3 : Vec Ideal S512x1024 .f32)
    (a : Fin 512) (d : Fin 1024) : k0_pay6 (F := Ideal) x0 x2 x1 x3 (ix2 a d) = blockE x0 x1 x2 x3 a d := by
  rw [← pay5_at]
  unfold k0_pay6
  generalize k0_pay5 (F := Ideal) x0 x2 x1 x3 = p
  pointwise

theorem pay7_at (x0 : Vec Ideal S512x1024 .f32) (x2 : Vec Ideal S512x1024 .bf16) (a : Fin 512) (d : Fin 1024) :
    k0_pay7 (F := Ideal) x0 x2 (ix2 a d) = x2 (ix2 a d) * x0 (ix2 a d) * scale (fun k => x0 (ix2 a k)) := by
  rw [← pay4_at, ← pay3_at x2]
  unfold k0_pay7
  generalize k0_pay3 (F := Ideal) x2 = p
  generalize k0_pay4 (F := Ideal) x0 = r
  pointwise

theorem pay1_at (x0 : Vec Ideal S512x1024 .f32) (x2 : Vec Ideal S512x1024 .bf16) (d : Fin 1024) :
    k0_pay1 (F := Ideal) (k0_pay7 x0 x2) (ix2 (0 : Fin 1) d) = blockG x0 x2 d := by
  refine Eq.trans (b := ∑ a : Fin 512, k0_pay7 (F := Ideal) x0 x2 (ix2 a d)) ?_ (Finset.sum_congr rfl fun a _ => pay7_at x0 x2 a d)
  unfold k0_pay1
  generalize k0_pay7 (F := Ideal) x0 x2 = p
  pointwise

theorem pay2_at (x0 : Vec Ideal S512x1024 .f32) (x2 : Vec Ideal S512x1024 .bf16) (x5 : Vec Ideal S1x1024 .f32) (d : Fin 1024) :
    k0_pay2 (F := Ideal) (k0_pay7 x0 x2) x5 (ix2 (0 : Fin 1) d) = x5 (ix2 (0 : Fin 1) d) + blockG x0 x2 d := by
  rw [← pay1_at]
  unfold k0_pay2
  generalize k0_pay1 (F := Ideal) (k0_pay7 x0 x2) = p
  pointwise

theorem ld_a (x : Vec Ideal S512x1024 .f32) : View.ld x (Rect.unit (s := S512x1024) ![0, 0] ![512, 1024] inb_S512x1024_S512x1024_0_0) = x :=
  View.ld_unit_lit _ _ (by decide)

theorem ld_b (x : Vec Ideal S512x1024 .bf16) : View.ld x (Rect.unit (s := S512x1024) ![0, 0] ![512, 1024] inb_S512x1024_S512x1024_0_0) = x :=
  View.ld_unit_lit _ _ (by decide)

theorem ld_c (x : Vec Ideal S1x1024 .f32) : View.ld x (Rect.unit (s := S1x1024) ![0, 0] ![1, 1024] inb_S1x1024_S1x1024_0_0) = x :=
  View.ld_unit_lit _ _ (by decide)

/-! ## What a point leaves -/

section

variable (x0 : Vec Ideal S512x1024 .f32) (x1 : Vec Ideal S1x1024 .f32) (x2 : Vec Ideal S512x1024 .bf16) (x3 : Vec Ideal S512x1024 .f32)

theorem left4A (c : Dev nD) (i : grid0.Coords) a1 h1 a2 h2 a3 h3 a4 h4 a5 h5 a6 h6 a7 h7 hc0 hc1 :
    out0_A_4 (F := Ideal) c i a1 h1 a2 h2 a3 h3 a4 h4 a5 h5 a6 h6 a7 h7 hc0 hc1 x0 x1 x2 x3 = k0_pay5 x0 x2 x1 x3 := by
  unfold out0_A_4
  dsimp only [kernelRun0_A]
  rw [View.read_writes_full]
  simp only [View.readAt_eq_ld, Memref.IsWhole.read_unread, ld_a, ld_b, ld_c]

theorem left6A (c : Dev nD) (i : grid0.Coords) a1 h1 a2 h2 a3 h3 a4 h4 a5 h5 a6 h6 a7 h7 hc0 hc1 :
    out0_A_6 (F := Ideal) c i a1 h1 a2 h2 a3 h3 a4 h4 a5 h5 a6 h6 a7 h7 hc0 hc1 x0 x1 x2 x3 = k0_pay6 x0 x2 x1 x3 := by
  unfold out0_A_6
  dsimp only [kernelRun0_A]
  rw [View.read_writes_full]
  simp only [View.readAt_eq_ld, Memref.IsWhole.read_unread, ld_a, ld_b, ld_c]

theorem left5A (c : Dev nD) (i : grid0.Coords) a1 h1 a2 h2 a3 h3 a4 h4 a5 h5 a6 h6 a7 h7 hc0 hc1 :
    out0_A_5 (F := Ideal) c i a1 h1 a2 h2 a3 h3 a4 h4 a5 h5 a6 h6 a7 h7 hc0 hc1 x0 x1 x2 x3 = k0_pay1 (k0_pay7 x0 x2) := by
  unfold out0_A_5
  dsimp only [kernelRun0_A]
  rw [View.read_writes_full]
  unfold kernelRun0_A.sl.r
  simp only [View.readAt_eq_ld, Memref.IsWhole.read_unread, ld_a, ld_b, ld_c]

theorem left4B (c : Dev nD) (i : grid0.Coords) a1 h1 a2 h2 a3 h3 a4 h4 a5 h5 a6 h6 a7 h7 hc0 hc1 (x5 : Vec Ideal S1x1024 .f32) :
    out0_B_4 (F := Ideal) c i a1 h1 a2 h2 a3 h3 a4 h4 a5 h5 a6 h6 a7 h7 hc0 hc1 x0 x1 x2 x3 x5 = k0_pay5 x0 x2 x1 x3 := by
  unfold out0_B_4
  dsimp only [kernelRun0_B]
  rw [View.read_writes_full]
  simp only [View.readAt_eq_ld, Memref.IsWhole.read_unread, ld_a, ld_b, ld_c]

theorem left6B (c : Dev nD) (i : grid0.Coords) a1 h1 a2 h2 a3 h3 a4 h4 a5 h5 a6 h6 a7 h7 hc0 hc1 (x5 : Vec Ideal S1x1024 .f32) :
    out0_B_6 (F := Ideal) c i a1 h1 a2 h2 a3 h3 a4 h4 a5 h5 a6 h6 a7 h7 hc0 hc1 x0 x1 x2 x3 x5 = k0_pay6 x0 x2 x1 x3 := by
  unfold out0_B_6
  dsimp only [kernelRun0_B]
  rw [View.read_writes_full]
  simp only [View.readAt_eq_ld, Memref.IsWhole.read_unread, ld_a, ld_b, ld_c]

theorem left5B (c : Dev nD) (i : grid0.Coords) a1 h1 a2 h2 a3 h3 a4 h4 a5 h5 a6 h6 a7 h7 hc0 hc1 (x5 : Vec Ideal S1x1024 .f32) :
    out0_B_5 (F := Ideal) c i a1 h1 a2 h2 a3 h3 a4 h4 a5 h5 a6 h6 a7 h7 hc0 hc1 x0 x1 x2 x3 x5 = k0_pay2 (k0_pay7 x0 x2) x5 := by
  unfold out0_B_5
  dsimp only [kernelRun0_B]
  rw [View.read_writes_full]
  unfold kernelRun0_B.sl.r
  simp only [View.readAt_eq_ld, Memref.IsWhole.read_unread, ld_a, ld_b, ld_c]

end

/-! ## The blocks a point is given -/

variable (m : (ℓ : Loc nD τ sig) → Buf (Elt Ideal) ℓ) (c : Dev nD)

theorem pt_lt (t : Fin cfg0.N) : t.val < 16 := lt_of_lt_of_eq t.isLt N_0

/-- Row `a` of block `t`. -/
def row (t : Fin cfg0.N) (a : Fin 512) : Fin 8192 := ⟨512 * t.val + a.val, by have := pt_lt t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

abbrev X : FVec Ideal S8192x1024 .f32 := m ((c : Thread nD τ).loc main_arg0)
abbrev G : FVec Ideal S1024 .f32 := m ((c : Thread nD τ).loc main_arg1)
abbrev D : FVec Ideal S8192x1024 .bf16 := m ((c : Thread nD τ).loc main_arg2)
abbrev R : FVec Ideal S8192x1024 .f32 := m ((c : Thread nD τ).loc main_arg3)

abbrev B0 (t : Fin cfg0.N) : FVec Ideal S512x1024 .f32 := iblk m c 0 t
abbrev B1 (t : Fin cfg0.N) : FVec Ideal S1x1024 .f32 := iblk m c 1 t
abbrev B2 (t : Fin cfg0.N) : FVec Ideal S512x1024 .bf16 := iblk m c 2 t
abbrev B3 (t : Fin cfg0.N) : FVec Ideal S512x1024 .f32 := iblk m c 3 t

theorem blk0 (t : Fin cfg0.N) (a : Fin 512) (d : Fin 1024) : B0 m c t (ix2 a d) = X m c (ix2 (row t a) d) := by
  unfold B0
  blk_simp [iblk]
  rw [V_main_arg0]
  refine congrArg (X m c) ?_
  unfold row
  blk_ext [idx0]

theorem blk2 (t : Fin cfg0.N) (a : Fin 512) (d : Fin 1024) : B2 m c t (ix2 a d) = D m c (ix2 (row t a) d) := by
  unfold B2
  blk_simp [iblk]
  rw [V_main_arg2]
  refine congrArg (D m c) ?_
  unfold row
  blk_ext [idx2]

theorem blk3 (t : Fin cfg0.N) (a : Fin 512) (d : Fin 1024) : B3 m c t (ix2 a d) = R m c (ix2 (row t a) d) := by
  unfold B3
  blk_simp [iblk]
  rw [V_main_arg3]
  refine congrArg (R m c) ?_
  unfold row
  blk_ext [idx3]

theorem V_v0 : V m c main_v0 = broadcastInDim S1x1024 ![1] bcast_S1024_S1x1024_1 (G m c) := by
  unfold V
  simp only [hostOps0]
  after_reads_simp

theorem blk1 (t : Fin cfg0.N) (d : Fin 1024) : B1 m c t (ix2 (0 : Fin 1) d) = G m c (ix1 d) := by
  have h : (V m c main_v0 : FVec Ideal S1x1024 .f32) (ix2 (0 : Fin 1) d) = G m c (ix1 d) := by
    rw [V_v0]
    pointwise
  rw [← h]
  unfold B1
  blk_simp [iblk]
  refine congrArg (V m c main_v0) ?_
  blk_ext [idx1]

/-- What a point stores of the rows' gradient, and its part of the gains'. -/
theorem elem_at (t : Fin cfg0.N) (a : Fin 512) (d : Fin 1024) :
    blockE (B0 m c t) (B1 m c t) (B2 m c t) (B3 m c t) a d = elem (X m c) (G m c) (D m c) (R m c) (row t a) d := by
  unfold blockE elem
  simp only [blk0, blk1, blk2, blk3]

theorem term_at (t : Fin cfg0.N) (d : Fin 1024) (a : Fin 512) :
    B2 m c t (ix2 a d) * B0 m c t (ix2 a d) * scale (fun k => B0 m c t (ix2 a k)) = term (X m c) (D m c) d (row t a) := by
  unfold term
  simp only [blk0, blk2]

theorem wide_at (t : Fin cfg0.N) (a : Fin 512) (d : Fin 1024) :
    k0_pay5 (F := Ideal) (B0 m c t) (B2 m c t) (B1 m c t) (B3 m c t) (ix2 a d) = wide (X m c) (G m c) (D m c) (R m c) (ix2 (row t a) d) := by
  rw [pay5_at, elem_at]
  rfl

theorem copy_at (t : Fin cfg0.N) (a : Fin 512) (d : Fin 1024) :
    k0_pay6 (F := Ideal) (B0 m c t) (B2 m c t) (B1 m c t) (B3 m c t) (ix2 a d) = copy (X m c) (G m c) (D m c) (R m c) (ix2 (row t a) d) := by
  rw [pay6_at, elem_at]
  rfl

theorem outs4 (t : Fin cfg0.N) : (outsAt0 m c t.val t.isLt).1 = k0_pay5 (F := Ideal) (B0 m c t) (B2 m c t) (B1 m c t) (B3 m c t) := by
  by_cases ht : t.val % 16 = 0
  · rw [outsAt0_A m c t ht (by have := pt_lt t; omega)]
    dsimp only
    rw [left4A]
  · rw [outsAt0_B m c t ht (by omega)]
    dsimp only
    rw [left4B]

theorem outs6 (t : Fin cfg0.N) : (outsAt0 m c t.val t.isLt).2.2 = k0_pay6 (F := Ideal) (B0 m c t) (B2 m c t) (B1 m c t) (B3 m c t) := by
  by_cases ht : t.val % 16 = 0
  · rw [outsAt0_A m c t ht (by have := pt_lt t; omega)]
    dsimp only
    rw [left6A]
  · rw [outsAt0_B m c t ht (by omega)]
    dsimp only
    rw [left6B]

/-! ## The gains' gradient, block by block -/

theorem sum_blk (t : Fin cfg0.N) (d : Fin 1024) :
    Blocks.part (term (X m c) (D m c) d) (512 * t.val) + blockG (B0 m c t) (B2 m c t) d = Blocks.part (term (X m c) (D m c) d) (512 * (t.val + 1)) := by
  have := pt_lt t
  exact Blocks.part_block (term (X m c) (D m c) d) (by omega) (by omega)
    (fun a : Fin 512 => B2 m c t (ix2 a d) * B0 m c t (ix2 a d) * scale (fun k => B0 m c t (ix2 a k))) fun a => term_at m c t d a

theorem sum_first (t : Fin cfg0.N) (ht : t.val % 16 = 0) (d : Fin 1024) :
    (outsAt0 m c t.val t.isLt).2.1 (ix2 (0 : Fin 1) d) = Blocks.part (term (X m c) (D m c) d) (512 * (t.val + 1)) := by
  have := pt_lt t
  rw [outsAt0_A m c t ht (by omega)]
  dsimp only
  rw [left5A, pay1_at, ← sum_blk, show t.val = 0 by omega, Nat.mul_zero, Blocks.part_zero, zero_add]

theorem sum_next (t : Fin cfg0.N) (ht : ¬t.val % 16 = 0) (d : Fin 1024)
    (ih : (outsAt0 m c (t.val - 1) (Blocks.prev t)).2.1 (ix2 (0 : Fin 1) d) = Blocks.part (term (X m c) (D m c) d) (512 * t.val)) :
    (outsAt0 m c t.val t.isLt).2.1 (ix2 (0 : Fin 1) d) = Blocks.part (term (X m c) (D m c) d) (512 * (t.val + 1)) := by
  rw [outsAt0_B m c t ht (by omega)]
  dsimp only
  rw [left5B, pay2_at, ← sum_blk, ← ih]

theorem sum_after (k : ℕ) (hk : k < cfg0.N) (d : Fin 1024) :
    (outsAt0 m c k hk).2.1 (ix2 (0 : Fin 1) d) = Blocks.part (term (X m c) (D m c) d) (512 * (k + 1)) := by
  induction k with
  | zero => exact sum_first m c ⟨0, hk⟩ rfl d
  | succ k ih =>
    have := pt_lt ⟨k + 1, hk⟩
    exact sum_next m c ⟨k + 1, hk⟩ (by dsimp only at this ⊢; omega) d (ih (by omega))

theorem outs5 (t : Fin cfg0.N) (ht : t.val % 16 = 15) (d : Fin 1024) :
    (outsAt0 m c t.val t.isLt).2.1 (ix2 (0 : Fin 1) d) = gains (X m c) (D m c) (ix2 (0 : Fin 1) d) := by
  have := pt_lt t
  rw [sum_after, show 512 * (t.val + 1) = 8192 by omega, Blocks.part_all]
  rfl

/-! ## The whole results -/

theorem final4 : (dats m 0 c).arrAt 4 cfg0.N = wide (X m c) (G m c) (D m c) (R m c) := by
  refine (dats m 0 c).arrAt_eq_of_covers 4 _ (by decide +kernel) fun t hf y => ?_
  blk_simp
  rw [after0_4, outs4]
  obtain ⟨a, d, rfl⟩ := Blocks.pair 512 1024 y
  refine (wide_at m c t a d).trans ?_
  refine congrArg (wide (X m c) (G m c) (D m c) (R m c)) (?_ : ix2 (row t a) d = _)
  unfold row
  blk_ext [idx4]

theorem final6 : (dats m 0 c).arrAt 6 cfg0.N = copy (X m c) (G m c) (D m c) (R m c) := by
  refine (dats m 0 c).arrAt_eq_of_covers 6 _ (by decide +kernel) fun t hf y => ?_
  blk_simp
  rw [after0_6, outs6]
  obtain ⟨a, d, rfl⟩ := Blocks.pair 512 1024 y
  refine (copy_at m c t a d).trans ?_
  refine congrArg (copy (X m c) (G m c) (D m c) (R m c)) (?_ : ix2 (row t a) d = _)
  unfold row
  blk_ext [idx6]

theorem final5 : (dats m 0 c).arrAt 5 cfg0.N = gains (X m c) (D m c) := by
  refine (dats m 0 c).arrAt_eq_of_covers 5 _ (by decide +kernel) fun t hf y => ?_
  blk_simp
  rw [after0_5]
  obtain ⟨d, rfl⟩ : ∃ d : Fin 1024, y = ix2 (0 : Fin 1) d := ⟨y 1, funext fun i => by
    match i with
    | ⟨0, _⟩ => exact Subsingleton.elim (α := Fin 1) _ _
    | ⟨1, _⟩ => rfl⟩
  refine (outs5 m c t ((flush0_5 t).mp hf) d).trans ?_
  refine congrArg (gains (X m c) (D m c)) (?_ : ix2 (0 : Fin 1) d = _)
  blk_ext [idx5]

end Cert.GradNormIdeal

/-! ## The reference -/

namespace Cert.GradNormLinesIdeal

open Idealize.ShloMosaic Idealize.ShloMosaic.TcCoe Cert.GradNormLinesIdeal.Gen Cert.Rsqrt
open Cert.NormIdeal (scale)
open Cert.NormLinesIdeal (meanOf meanOf_at)
open Cert.GradNormIdeal (rowGrad elem wide copy term gains)

section

variable (X : FVec Ideal S8192x1024 .f32) (g : FVec Ideal S1024 .f32) (D : FVec Ideal S8192x1024 .bf16) (R : FVec Ideal S8192x1024 .f32)

/-- The gradient of the scaled rows. -/
def scaledGrad : FVec Ideal S8192x1024 .f32 :=
  mulf (extf .f32 D bitsLt_bf16_f32) (broadcastInDim S8192x1024 ![0, 1] bcast_S1x1024_S8192x1024_0_1 (broadcastInDim S1x1024 ![1] bcast_S1024_S1x1024_1 g))

/-- A column, at every column of the rows. -/
def spread (y : FVec Ideal S8192x1 .f32) : FVec Ideal S8192x1024 .f32 := broadcastInDim S8192x1024 ![0, 1] bcast_S8192x1_S8192x1024_0_1 y

/-- The gradient of a square, at every column of the rows. -/
def squareGrad : FVec Ideal S8192x1024 .f32 :=
  broadcastInDim S8192x1024 ![0] bcast_S8192_S8192x1024_0 (Host.reduceAdd (Host.divf (mulf (shapeCast _ (Host.reduceAdd (mulf X (scaledGrad g D)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (meanOf X)) (meanOf X)))) (broadcastInDim S8192x1 ![] bcast_S_S8192x1 (constant S_ .f32 0x44800000#32))) (constant S_ .f32 0x00000000#32) reducesTo_S8192x1_S8192_d1 h_S_)

/-- The first line. -/
def line0 : FVec Ideal S8192x1024 .f32 :=
  addf (addf (addf (mulf (scaledGrad g D) (spread (Host.rsqrt (meanOf X)))) (mulf X (squareGrad X g D))) (mulf (squareGrad X g D) X)) R

/-- The second line. -/
def line1 : FVec Ideal S1x1024 .f32 :=
  broadcastInDim S1x1024 ![1] bcast_S1024_S1x1024_1 (Host.reduceAdd (shapeCast _ (Host.reduceAdd (mulf (mulf X (spread (Host.rsqrt (meanOf X)))) (extf .f32 D bitsLt_bf16_f32)) (constant S_ .f32 0x00000000#32) reducesTo_S8192x1024_S1024_d0 h_S_) shapeCasts_S1024_S1x1024) (constant S_ .f32 0x00000000#32) reducesTo_S1x1024_S1024_d0 h_S_)

/-- The third line. -/
def line2 : FVec Ideal S8192x1024 .bf16 := truncf .bf16 (line0 X g D R) bitsLt_bf16_f32

theorem scaledGrad_at (s : Fin 8192) (d : Fin 1024) : scaledGrad g D (ix2 s d) = D (ix2 s d) * g (ix1 d) := by
  unfold scaledGrad
  pointwise

theorem root_at (s : Fin 8192) (d : Fin 1024) : spread (Host.rsqrt (meanOf X)) (ix2 s d) = scale (fun k => X (ix2 s k)) := by
  refine Eq.trans (b := Ideal.rsqrt (meanOf X (ix2 s (0 : Fin 1)))) ?_ ?_
  · unfold spread
    pointwise
  · rw [meanOf_at]
    rfl

theorem squareGrad_at (s : Fin 8192) (d : Fin 1024) :
    squareGrad X g D (ix2 s d) = Ideal.div ((∑ k : Fin 1024, X (ix2 s k) * scaledGrad g D (ix2 s k))
      * (half * Ideal.div (Ideal.rsqrt (meanOf X (ix2 s (0 : Fin 1)))) (meanOf X (ix2 s (0 : Fin 1))))) cols := by
  unfold squareGrad half cols
  generalize scaledGrad g D = u
  generalize meanOf X = y
  pointwise
  exact Fintype.sum_unique _

theorem line0_at (s : Fin 8192) (d : Fin 1024) : line0 X g D R (ix2 s d) = elem X g D R s d := by
  refine Eq.trans (b := scaledGrad g D (ix2 s d) * spread (Host.rsqrt (meanOf X)) (ix2 s d) + X (ix2 s d) * squareGrad X g D (ix2 s d)
    + squareGrad X g D (ix2 s d) * X (ix2 s d) + R (ix2 s d)) ?_ ?_
  · unfold line0
    generalize squareGrad X g D = p
    generalize spread (Host.rsqrt (meanOf X)) = r
    generalize scaledGrad g D = u
    pointwise
  · rw [root_at, squareGrad_at, add_assoc (_ * _), through _ _ mean_eq _ _ _ (by rw [meanOf_at]; exact pos _ _ (by norm_num) mean_eq fun k => X (ix2 s k)), meanOf_at]
    simp only [scaledGrad_at]
    unfold elem rowGrad
    rw [mul_comm _ (scale _), sub_eq_add_neg]
    simp only [mul_comm (X (ix2 s _)) (D (ix2 s _) * g (ix1 _))]
    rfl

theorem line0_eq : line0 X g D R = wide X g D R := by
  funext i
  obtain ⟨s, d, rfl⟩ := Blocks.pair 8192 1024 i
  exact line0_at X g D R s d

theorem line2_eq : line2 X g D R = copy X g D R := by
  refine Eq.trans (?_ : _ = fun i => wide X g D R i) rfl
  rw [← line0_eq]
  unfold line2
  generalize line0 X g D R = p
  funext i
  pointwise

theorem line1_eq : line1 X D = gains X D := by
  funext i
  obtain ⟨d, rfl⟩ : ∃ d : Fin 1024, i = ix2 (0 : Fin 1) d := ⟨i 1, funext fun i => by
    match i with
    | ⟨0, _⟩ => exact Subsingleton.elim (α := Fin 1) _ _
    | ⟨1, _⟩ => rfl⟩
  refine Eq.trans (b := ∑ s : Fin 8192, X (ix2 s d) * spread (Host.rsqrt (meanOf X)) (ix2 s d) * D (ix2 s d)) ?_ ?_
  · unfold line1
    generalize spread (Host.rsqrt (meanOf X)) = r
    pointwise
    exact Fintype.sum_unique _
  · refine Finset.sum_congr rfl fun s _ => ?_
    rw [root_at]
    exact (mul_comm _ _).trans (mul_assoc _ _ _).symm

end

end Cert.GradNormLinesIdeal

/-! ## The claims -/

namespace Cert.Proof

open Idealize.ShloMosaic Idealize.ShloMosaic.TcCoe Idealize.SL.Sem

/-- The reference leaves its arguments alone and declares no semaphore. -/
theorem frame_GradNormLinesIdeal : Cert.quiescent_GradNormLinesIdeal := fun m ρ _ =>
  (θ_run Cert.GradNormLinesIdeal.defs _ _).mono
    (fun r h => ⟨fun c => (h c).2.2.2, sem_eq_zero_of_no_sems (by decide) r.2⟩)
    (Cert.GradNormLinesIdeal.Value.run m ρ)

/-- The kernel and the reference leave the same three arrays. -/
theorem equal_GradNorm : Cert.algebraic_GradNormIdeal_GradNormLinesIdeal := by
  intro m g m' g' _ hagree
  refine ⟨fun c => GradNormIdeal.wide (GradNormIdeal.X m c) (GradNormIdeal.G m c) (GradNormIdeal.D m c) (GradNormIdeal.R m c),
    fun c => GradNormIdeal.gains (GradNormIdeal.X m c) (GradNormIdeal.D m c),
    fun c => GradNormIdeal.copy (GradNormIdeal.X m c) (GradNormIdeal.G m c) (GradNormIdeal.D m c) (GradNormIdeal.R m c), ?_, ?_⟩
  · exact (θ_run Cert.GradNormIdeal.defs _ _).mono
      (fun r h c => ⟨((h.1 c).1 4).trans (GradNormIdeal.final4 m c), ((h.1 c).1 5).trans (GradNormIdeal.final5 m c),
        ((h.1 c).1 6).trans (GradNormIdeal.final6 m c), h.2.1 c⟩)
      (θ_run_and (Cert.GradNormIdeal.Gen.run_main m g) (Cert.GradNormIdeal.Gen.frame m g))
  · refine (θ_run Cert.GradNormLinesIdeal.defs _ _).mono (fun r h c => ?_) (Cert.GradNormLinesIdeal.Value.run m' g')
    obtain ⟨e0, e1, e2, e3⟩ := hagree c
    obtain ⟨r0, r1, r2, r3⟩ := h c
    refine ⟨r0.trans ((GradNormLinesIdeal.line0_eq _ _ _ _).trans ?_), r1.trans ((GradNormLinesIdeal.line1_eq _ _).trans ?_),
      r2.trans ((GradNormLinesIdeal.line2_eq _ _ _ _).trans ?_), r3⟩
    · rw [e0, e1, e2, e3]
    · rw [e0, e2]
    · rw [e0, e1, e2, e3]

end Cert.Proof

end
-- ==== Proof.HeadsValue.lean ====
module

public import proofs.«01_k».proof.Proof.Gen.HeadsIdeal.Frame
public import proofs.«01_k».proof.Proof.Gen.HeadsLinesIdeal.Run
public import proofs.«01_k».proof.Proof.Rsqrt
public import proofs.«01_k».proof.Proof.Branches
public import proofs.«01_k».proof.Proof.Common
public import Idealize.ShloMosaic.Lib.VecWindow

@[expose] public section

set_option maxRecDepth 16384

noncomputable section

/-! # Heads: the attention's queries, keys and values, head by head -/

namespace Cert.HeadsIdeal

open Idealize.ShloMosaic Idealize.ShloMosaic.TcCoe Idealize.SL.Sem Idealize.ShloMosaic.StableHlo Cert.HeadsIdeal.Gen
open Cert.Rsqrt Cert.Branches

/-! ## The mathematics -/

/-- The number of a head's columns, and the factor of the scores. -/
def width : EReal := Ideal.ofBits .f32 0x42800000#32
def eighth : EReal := Ideal.ofBits .f32 0x3E000000#32

/-- The inverse root of the mean of a head's squares. -/
def scale (x : Fin 64 → EReal) : EReal := Ideal.rsqrt (Ideal.div (∑ k, x k * x k) width + eps)

/-- Column `e` of head `h` in the projection: of the queries (0), the keys (1), the values (2). -/
def spot (n : Fin 3) (h : Fin 8) (e : Fin 64) : Fin 7168 := ⟨512 * (5 + n.val) + (64 * h.val + e.val), by omega⟩

/-- The normalised heads, each column times its gain. -/
def normed (P : FVec Ideal S8192x7168 .bf16) (g : FVec Ideal S64 .f32) (n : Fin 3) (h : Fin 8) (s : Fin 8192) (e : Fin 64) : EReal :=
  P (ix2 s (spot n h e)) * scale (fun k => P (ix2 s (spot n h k))) * g (ix1 e)

def queries (P : FVec Ideal S8192x7168 .bf16) (g : FVec Ideal S64 .f32) : FVec Ideal S8x8192x64 .bf16 := fun i => normed P g 0 (i 0) (i 1) (i 2) * eighth
def keys (P : FVec Ideal S8192x7168 .bf16) (g : FVec Ideal S64 .f32) : FVec Ideal S8x8192x64 .bf16 := fun i => normed P g 1 (i 0) (i 1) (i 2)
def values (P : FVec Ideal S8192x7168 .bf16) : FVec Ideal S8x8192x64 .bf16 := fun i => P (ix2 (i 1) (spot 2 (i 0) (i 2)))

/-! ## The body -/

/-- A block of one of the three, head by head. -/
def blockK (x : Vec Ideal S512x512 .bf16) (g : Vec Ideal S1x64 .f32) : Vec Ideal S8x512x64 .bf16 := fun i =>
  x (ix2 (i 1) (beside (i 0) (i 2))) * scale (fun k => x (ix2 (i 1) (beside (i 0) k))) * g (ix2 (0 : Fin 1) (i 2))
def blockQ (x : Vec Ideal S512x512 .bf16) (g : Vec Ideal S1x64 .f32) : Vec Ideal S8x512x64 .bf16 := fun i => blockK x g i * eighth
def blockV (x : Vec Ideal S512x512 .bf16) : Vec Ideal S8x512x64 .bf16 := fun i => x (ix2 (i 1) (beside (i 0) (i 2)))

theorem pay3_at (v : Vec Ideal S512x64 .bf16) (g : Vec Ideal S1x64 .f32) (a : Fin 512) (e : Fin 64) :
    k0_pay3 (F := Ideal) v g (ix3 (0 : Fin 1) a e) = v (ix2 a e) * scale (fun k => v (ix2 a k)) * g (ix2 (0 : Fin 1) e) * eighth := by
  rw [mul_assoc _ _ eighth]
  unfold k0_pay3 scale width eps eighth
  pointwise

theorem pay17_at (v : Vec Ideal S512x64 .bf16) (g : Vec Ideal S1x64 .f32) (a : Fin 512) (e : Fin 64) :
    k0_pay17 (F := Ideal) v g (ix3 (0 : Fin 1) a e) = v (ix2 a e) * scale (fun k => v (ix2 a k)) * g (ix2 (0 : Fin 1) e) := by
  rw [← mul_one (g (ix2 (0 : Fin 1) e)), ← one_eq]
  unfold k0_pay17 scale width eps
  pointwise

theorem pay7_at (v : Vec Ideal S512x64 .bf16) (a : Fin 512) (e : Fin 64) : k0_pay7 (F := Ideal) v (ix3 (0 : Fin 1) a e) = v (ix2 a e) := by
  unfold k0_pay7
  pointwise

/-- The columns of one head. -/
theorem cut (x : Vec Ideal S512x512 .bf16) (h : Fin 8) (inb : ∀ a, (![0, 64 * h.val] : Fin 2 → ℕ) a + S512x64.size a ≤ S512x512.size a) (a : Fin 512) (e : Fin 64) :
    View.ld x (Rect.unit (s := S512x512) ![0, 64 * h.val] S512x64.size inb) (ix2 a e) = x (ix2 a (beside h e)) :=
  congrArg x (funext fun i => by
    match i with
    | ⟨0, _⟩ => exact Fin.ext (show 0 + 1 * a.val = a.val by omega)
    | ⟨1, _⟩ => exact Fin.ext (show 64 * h.val + 1 * e.val = 64 * h.val + e.val by omega))

/-- The whole row of gains. -/
theorem all (g : Vec Ideal S1x64 .f32) : View.ld g r0_1 = g := by
  unfold r0_1
  rw [View.ld_unit_lit]
  decide

/-- Where one head's rows lie in the block. -/
theorem piece (G : Vec Ideal S8x512x64 .bf16) (h : Fin 8) (p : Vec Ideal S1x512x64 .bf16)
    (hp : ∀ (a : Fin 512) (e : Fin 64), p (ix3 (0 : Fin 1) a e) = G (ix3 h a e))
    (inb : ∀ a, (![h.val, 0, 0] : Fin 3 → ℕ) a + S1x512x64.size a ≤ S8x512x64.size a) (y : S1x512x64.Idx) :
    p y = G ((Rect.unit (s := S8x512x64) ![h.val, 0, 0] S1x512x64.size inb).emb y) := by
  obtain ⟨a, e, rfl⟩ : ∃ (a : Fin 512) (e : Fin 64), y = ix3 (0 : Fin 1) a e := ⟨y 1, y 2, funext fun i => by
    match i with
    | ⟨0, _⟩ => exact Fin.ext (Nat.lt_one_iff.mp (y 0).isLt)
    | ⟨1, _⟩ => rfl
    | ⟨2, _⟩ => rfl⟩
  refine (hp a e).trans (congrArg G (funext fun i => ?_))
  match i with
  | ⟨0, _⟩ => exact Fin.ext (show h.val = h.val + 1 * 0 by omega)
  | ⟨1, _⟩ => exact Fin.ext (show a.val = 0 + 1 * a.val by omega)
  | ⟨2, _⟩ => exact Fin.ext (show e.val = 0 + 1 * e.val by omega)

theorem pieceQ (x : Vec Ideal S512x512 .bf16) (g : Vec Ideal S1x64 .f32) (h : Fin 8) (inb : ∀ a, (![0, 64 * h.val] : Fin 2 → ℕ) a + S512x64.size a ≤ S512x512.size a) (inb') (y : S1x512x64.Idx) :
    k0_pay3 (F := Ideal) (View.ld x (Rect.unit (s := S512x512) ![0, 64 * h.val] S512x64.size inb)) (View.ld g r0_1) y
      = blockQ x g ((Rect.unit (s := S8x512x64) ![h.val, 0, 0] S1x512x64.size inb').emb y) :=
  piece (blockQ x g) h _ (fun a e => by
    rw [pay3_at, all]
    exact congrArg (fun r : Fin 64 → EReal => r e * scale r * g (ix2 (0 : Fin 1) e) * eighth) (funext fun k => cut x h inb a k)) inb' y

theorem pieceK (x : Vec Ideal S512x512 .bf16) (g : Vec Ideal S1x64 .f32) (h : Fin 8) (inb : ∀ a, (![0, 64 * h.val] : Fin 2 → ℕ) a + S512x64.size a ≤ S512x512.size a) (inb') (y : S1x512x64.Idx) :
    k0_pay17 (F := Ideal) (View.ld x (Rect.unit (s := S512x512) ![0, 64 * h.val] S512x64.size inb)) (View.ld g r0_1) y
      = blockK x g ((Rect.unit (s := S8x512x64) ![h.val, 0, 0] S1x512x64.size inb').emb y) :=
  piece (blockK x g) h _ (fun a e => by
    rw [pay17_at, all]
    exact congrArg (fun r : Fin 64 → EReal => r e * scale r * g (ix2 (0 : Fin 1) e)) (funext fun k => cut x h inb a k)) inb' y

theorem pieceV (x : Vec Ideal S512x512 .bf16) (h : Fin 8) (inb : ∀ a, (![0, 64 * h.val] : Fin 2 → ℕ) a + S512x64.size a ≤ S512x512.size a) (inb') (y : S1x512x64.Idx) :
    k0_pay7 (F := Ideal) (View.ld x (Rect.unit (s := S512x512) ![0, 64 * h.val] S512x64.size inb)) y
      = blockV x ((Rect.unit (s := S8x512x64) ![h.val, 0, 0] S1x512x64.size inb').emb y) :=
  piece (blockV x) h _ (fun a e => by rw [pay7_at, cut]; rfl) inb' y

section
variable (x0 x1 x2 : Vec Ideal S512x512 .bf16) (x3 x4 : Vec Ideal S1x64 .f32)

theorem outQ : out0_5 (F := Ideal) x0 x1 x2 x3 x4 = blockQ x0 x3 := by
  funext y
  unfold out0_5
  refine View.canon_apply_of_pieces (e := .bf16) (blockQ x0 x3) _ ?_ y (cover0_5 _ _ _ _ _ _ _ _ y)
  refine List.forall_mem_cons.mpr ⟨pieceQ x0 x3 7 inb_S512x512_S512x64_0_448 inb_S8x512x64_S1x512x64_7_0_0, ?_⟩
  refine List.forall_mem_cons.mpr ⟨pieceQ x0 x3 6 inb_S512x512_S512x64_0_384 inb_S8x512x64_S1x512x64_6_0_0, ?_⟩
  refine List.forall_mem_cons.mpr ⟨pieceQ x0 x3 5 inb_S512x512_S512x64_0_320 inb_S8x512x64_S1x512x64_5_0_0, ?_⟩
  refine List.forall_mem_cons.mpr ⟨pieceQ x0 x3 4 inb_S512x512_S512x64_0_256 inb_S8x512x64_S1x512x64_4_0_0, ?_⟩
  refine List.forall_mem_cons.mpr ⟨pieceQ x0 x3 3 inb_S512x512_S512x64_0_192 inb_S8x512x64_S1x512x64_3_0_0, ?_⟩
  refine List.forall_mem_cons.mpr ⟨pieceQ x0 x3 2 inb_S512x512_S512x64_0_128 inb_S8x512x64_S1x512x64_2_0_0, ?_⟩
  refine List.forall_mem_cons.mpr ⟨pieceQ x0 x3 1 inb_S512x512_S512x64_0_64 inb_S8x512x64_S1x512x64_1_0_0, ?_⟩
  refine List.forall_mem_cons.mpr ⟨pieceQ x0 x3 0 inb_S512x512_S512x64_0_0 inb_S8x512x64_S1x512x64_0_0_0, ?_⟩
  exact fun p hp => absurd hp List.not_mem_nil

theorem outK : out0_6 (F := Ideal) x0 x1 x2 x3 x4 = blockK x1 x4 := by
  funext y
  unfold out0_6
  refine View.canon_apply_of_pieces (e := .bf16) (blockK x1 x4) _ ?_ y (cover0_6 _ _ _ _ _ _ _ _ y)
  refine List.forall_mem_cons.mpr ⟨pieceK x1 x4 7 inb_S512x512_S512x64_0_448 inb_S8x512x64_S1x512x64_7_0_0, ?_⟩
  refine List.forall_mem_cons.mpr ⟨pieceK x1 x4 6 inb_S512x512_S512x64_0_384 inb_S8x512x64_S1x512x64_6_0_0, ?_⟩
  refine List.forall_mem_cons.mpr ⟨pieceK x1 x4 5 inb_S512x512_S512x64_0_320 inb_S8x512x64_S1x512x64_5_0_0, ?_⟩
  refine List.forall_mem_cons.mpr ⟨pieceK x1 x4 4 inb_S512x512_S512x64_0_256 inb_S8x512x64_S1x512x64_4_0_0, ?_⟩
  refine List.forall_mem_cons.mpr ⟨pieceK x1 x4 3 inb_S512x512_S512x64_0_192 inb_S8x512x64_S1x512x64_3_0_0, ?_⟩
  refine List.forall_mem_cons.mpr ⟨pieceK x1 x4 2 inb_S512x512_S512x64_0_128 inb_S8x512x64_S1x512x64_2_0_0, ?_⟩
  refine List.forall_mem_cons.mpr ⟨pieceK x1 x4 1 inb_S512x512_S512x64_0_64 inb_S8x512x64_S1x512x64_1_0_0, ?_⟩
  refine List.forall_mem_cons.mpr ⟨pieceK x1 x4 0 inb_S512x512_S512x64_0_0 inb_S8x512x64_S1x512x64_0_0_0, ?_⟩
  exact fun p hp => absurd hp List.not_mem_nil

theorem outV : out0_7 (F := Ideal) x0 x1 x2 x3 x4 = blockV x2 := by
  funext y
  unfold out0_7
  refine View.canon_apply_of_pieces (e := .bf16) (blockV x2) _ ?_ y (cover0_7 _ _ _ _ _ _ _ _ y)
  refine List.forall_mem_cons.mpr ⟨pieceV x2 7 inb_S512x512_S512x64_0_448 inb_S8x512x64_S1x512x64_7_0_0, ?_⟩
  refine List.forall_mem_cons.mpr ⟨pieceV x2 6 inb_S512x512_S512x64_0_384 inb_S8x512x64_S1x512x64_6_0_0, ?_⟩
  refine List.forall_mem_cons.mpr ⟨pieceV x2 5 inb_S512x512_S512x64_0_320 inb_S8x512x64_S1x512x64_5_0_0, ?_⟩
  refine List.forall_mem_cons.mpr ⟨pieceV x2 4 inb_S512x512_S512x64_0_256 inb_S8x512x64_S1x512x64_4_0_0, ?_⟩
  refine List.forall_mem_cons.mpr ⟨pieceV x2 3 inb_S512x512_S512x64_0_192 inb_S8x512x64_S1x512x64_3_0_0, ?_⟩
  refine List.forall_mem_cons.mpr ⟨pieceV x2 2 inb_S512x512_S512x64_0_128 inb_S8x512x64_S1x512x64_2_0_0, ?_⟩
  refine List.forall_mem_cons.mpr ⟨pieceV x2 1 inb_S512x512_S512x64_0_64 inb_S8x512x64_S1x512x64_1_0_0, ?_⟩
  refine List.forall_mem_cons.mpr ⟨pieceV x2 0 inb_S512x512_S512x64_0_0 inb_S8x512x64_S1x512x64_0_0_0, ?_⟩
  exact fun p hp => absurd hp List.not_mem_nil

end

/-! ## The blocks a point is given -/

variable (m : (ℓ : Loc nD τ sig) → Buf (Elt Ideal) ℓ) (c : Dev nD)

/-- Row `a` of block `t`. -/
def row (t : Fin cfg0.N) (a : Fin 512) : Fin 8192 := ⟨512 * t.val + a.val, by have : t.val < 16 := lt_of_lt_of_eq t.isLt N_0; omega⟩

theorem idx0 : ∀ t : Fin cfg0.N, win0_0.index t = ![t.val, 5] := (by decide +kernel : ∀ t : Fin grid0.N, _)
theorem idx1 : ∀ t : Fin cfg0.N, win0_1.index t = ![t.val, 6] := (by decide +kernel : ∀ t : Fin grid0.N, _)
theorem idx2 : ∀ t : Fin cfg0.N, win0_2.index t = ![t.val, 7] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

abbrev P : FVec Ideal S8192x7168 .bf16 := m ((c : Thread nD τ).loc main_arg0)
abbrev GQ : FVec Ideal S64 .f32 := m ((c : Thread nD τ).loc main_arg1)
abbrev GK : FVec Ideal S64 .f32 := m ((c : Thread nD τ).loc main_arg2)

abbrev B0 (t : Fin cfg0.N) : FVec Ideal S512x512 .bf16 := iblk m c 0 t
abbrev B1 (t : Fin cfg0.N) : FVec Ideal S512x512 .bf16 := iblk m c 1 t
abbrev B2 (t : Fin cfg0.N) : FVec Ideal S512x512 .bf16 := iblk m c 2 t
abbrev B3 (t : Fin cfg0.N) : FVec Ideal S1x64 .f32 := iblk m c 3 t
abbrev B4 (t : Fin cfg0.N) : FVec Ideal S1x64 .f32 := iblk m c 4 t

theorem blk0 (t : Fin cfg0.N) (a : Fin 512) (h : Fin 8) (e : Fin 64) : B0 m c t (ix2 a (beside h e)) = P m c (ix2 (row t a) (spot 0 h e)) := by
  unfold B0
  blk_simp [iblk]
  rw [V_main_arg0]
  refine congrArg (P m c) ?_
  unfold row spot beside
  blk_ext [idx0]

theorem blk1 (t : Fin cfg0.N) (a : Fin 512) (h : Fin 8) (e : Fin 64) : B1 m c t (ix2 a (beside h e)) = P m c (ix2 (row t a) (spot 1 h e)) := by
  unfold B1
  blk_simp [iblk]
  rw [V_main_arg0]
  refine congrArg (P m c) ?_
  unfold row spot beside
  blk_ext [idx1]

theorem blk2 (t : Fin cfg0.N) (a : Fin 512) (h : Fin 8) (e : Fin 64) : B2 m c t (ix2 a (beside h e)) = P m c (ix2 (row t a) (spot 2 h e)) := by
  unfold B2
  blk_simp [iblk]
  rw [V_main_arg0]
  refine congrArg (P m c) ?_
  unfold row spot beside
  blk_ext [idx2]

theorem V_v0 : V m c main_v0 = broadcastInDim S1x64 ![1] bcast_S64_S1x64_1 (GQ m c) := by
  unfold V
  simp only [hostOps0]
  after_reads_simp

theorem blk3 (t : Fin cfg0.N) (e : Fin 64) : B3 m c t (ix2 (0 : Fin 1) e) = GQ m c (ix1 e) := by
  have h : (V m c main_v0 : FVec Ideal S1x64 .f32) (ix2 (0 : Fin 1) e) = GQ m c (ix1 e) := by
    rw [V_v0]
    pointwise
  rw [← h]
  unfold B3
  blk_simp [iblk]
  refine congrArg (V m c main_v0) ?_
  blk_ext [idx3]

theorem V_v1 : V m c main_v1 = broadcastInDim S1x64 ![1] bcast_S64_S1x64_1 (GK m c) := by
  unfold V
  simp only [hostOps0]
  after_reads_simp

theorem blk4 (t : Fin cfg0.N) (e : Fin 64) : B4 m c t (ix2 (0 : Fin 1) e) = GK m c (ix1 e) := by
  have h : (V m c main_v1 : FVec Ideal S1x64 .f32) (ix2 (0 : Fin 1) e) = GK m c (ix1 e) := by
    rw [V_v1]
    pointwise
  rw [← h]
  unfold B4
  blk_simp [iblk]
  refine congrArg (V m c main_v1) ?_
  blk_ext [idx4]

/-- What a point stores are the blocks of the three results. -/
theorem keys_at (t : Fin cfg0.N) (h : Fin 8) (a : Fin 512) (e : Fin 64) :
    blockK (B1 m c t) (B4 m c t) (ix3 h a e) = normed (P m c) (GK m c) 1 h (row t a) e := by
  refine Eq.trans (b := B1 m c t (ix2 a (beside h e)) * scale (fun k => B1 m c t (ix2 a (beside h k))) * B4 m c t (ix2 (0 : Fin 1) e)) rfl ?_
  simp only [blk1, blk4]
  rfl

theorem queries_at (t : Fin cfg0.N) (h : Fin 8) (a : Fin 512) (e : Fin 64) :
    blockQ (B0 m c t) (B3 m c t) (ix3 h a e) = normed (P m c) (GQ m c) 0 h (row t a) e * eighth := by
  refine Eq.trans (b := B0 m c t (ix2 a (beside h e)) * scale (fun k => B0 m c t (ix2 a (beside h k))) * B3 m c t (ix2 (0 : Fin 1) e) * eighth) rfl ?_
  simp only [blk0, blk3]
  rfl

theorem values_at (t : Fin cfg0.N) (h : Fin 8) (a : Fin 512) (e : Fin 64) :
    blockV (B2 m c t) (ix3 h a e) = P m c (ix2 (row t a) (spot 2 h e)) := blk2 m c t a h e

/-! ## The whole results -/

/-- An index of eight blocks of rows is a head, a row and a column. -/
theorem triple (n : ℕ) (y : (⟨3, ![8, n, 64]⟩ : Shape).Idx) : ∃ (h : Fin 8) (a : Fin n) (e : Fin 64), y = ix3 h a e :=
  ⟨y 0, y 1, y 2, (ix3_eta y).symm⟩

theorem final5 : (dats m 0 c).arrAt 5 cfg0.N = queries (P m c) (GQ m c) := by
  refine (dats m 0 c).arrAt_eq_of_covers 5 _ (by decide +kernel) fun t hf y => ?_
  blk_simp
  rw [after0_5, outQ]
  obtain ⟨h, a, e, rfl⟩ := triple 512 y
  refine (queries_at m c t h a e).trans ?_
  refine congrArg (queries (P m c) (GQ m c)) (?_ : ix3 h (row t a) e = _)
  unfold row
  blk_ext [idx5]

theorem final6 : (dats m 0 c).arrAt 6 cfg0.N = keys (P m c) (GK m c) := by
  refine (dats m 0 c).arrAt_eq_of_covers 6 _ (by decide +kernel) fun t hf y => ?_
  blk_simp
  rw [after0_6, outK]
  obtain ⟨h, a, e, rfl⟩ := triple 512 y
  refine (keys_at m c t h a e).trans ?_
  refine congrArg (keys (P m c) (GK m c)) (?_ : ix3 h (row t a) e = _)
  unfold row
  blk_ext [idx6]

theorem final7 : (dats m 0 c).arrAt 7 cfg0.N = values (P m c) := by
  refine (dats m 0 c).arrAt_eq_of_covers 7 _ (by decide +kernel) fun t hf y => ?_
  blk_simp
  rw [after0_7, outV]
  obtain ⟨h, a, e, rfl⟩ := triple 512 y
  refine (values_at m c t h a e).trans ?_
  refine congrArg (values (P m c)) (?_ : ix3 h (row t a) e = _)
  unfold row
  blk_ext [idx7]

end Cert.HeadsIdeal

/-! ## The reference -/

namespace Cert.HeadsLinesIdeal

open Idealize.ShloMosaic Idealize.ShloMosaic.TcCoe Cert.HeadsLinesIdeal.Gen Cert.Rsqrt
open Cert.HeadsIdeal (width eighth scale spot normed queries keys values triple)

/-- 512 columns as eight heads, in f32. -/
def split (x : FVec Ideal S8192x512 .bf16) : FVec Ideal S8192x8x64 .f32 := extf .f32 (shapeCast _ x shapeCasts_S8192x512_S8192x8x64) bitsLt_bf16_f32

/-- The number under the root. -/
def meanOf (x : FVec Ideal S8192x8x64 .f32) : FVec Ideal S8192x8x1 .f32 :=
  addf (Host.divf (broadcastInDim S8192x8x1 ![0, 1] bcast_S8192x8_S8192x8x1_0_1 (Host.reduceAdd (mulf x x) (constant S_ .f32 0x00000000#32) reducesTo_S8192x8x64_S8192x8_d2 h_S_)) (broadcastInDim S8192x8x1 ![] bcast_S_S8192x8x1 (constant S_ .f32 0x42800000#32))) (broadcastInDim S8192x8x1 ![] bcast_S_S8192x8x1 (constant S_ .f32 0x358637BD#32))

/-- The normalised heads. -/
def norms (x : FVec Ideal S8192x8x64 .f32) (g : FVec Ideal S64 .f32) : FVec Ideal S8x8192x64 .f32 :=
  transpose S8x8192x64 [1, 0, 2] (mulf (mulf x (broadcastInDim S8192x8x64 ![0, 1, 2] bcast_S8192x8x1_S8192x8x64_0_1_2 (Host.rsqrt (meanOf x)))) (broadcastInDim S8192x8x64 ![0, 1, 2] bcast_S1x1x64_S8192x8x64_0_1_2 (broadcastInDim S1x1x64 ![2] bcast_S64_S1x1x64_2 g))) transposes_S8192x8x64_S8x8192x64_1_0_2

theorem meanOf_at (x : FVec Ideal S8192x8x64 .f32) (s : Fin 8192) (h : Fin 8) :
    meanOf x (ix3 s h (0 : Fin 1)) = Ideal.div (∑ k : Fin 64, x (ix3 s h k) * x (ix3 s h k)) width + eps := by
  unfold meanOf width eps
  pointwise

theorem norms_at (x : FVec Ideal S8192x8x64 .f32) (g : FVec Ideal S64 .f32) (h : Fin 8) (s : Fin 8192) (e : Fin 64) :
    norms x g (ix3 h s e) = x (ix3 s h e) * scale (fun k => x (ix3 s h k)) * g (ix1 e) := by
  unfold scale
  rw [← meanOf_at]
  unfold norms
  pointwise

theorem split0 (P : FVec Ideal S8192x7168 .bf16) (s : Fin 8192) (h : Fin 8) (e : Fin 64) :
    split (extractStridedSlice S8192x512 ![0, 2560] P slices_S8192x7168_S8192x512_0_2560) (ix3 s h e) = P (ix2 s (spot 0 h e)) := by
  unfold split
  pointwise
  exact congrArg P (congrArg (ix2 s) (Fin.ext (by unfold spot; dsimp only; omega)))

theorem split1 (P : FVec Ideal S8192x7168 .bf16) (s : Fin 8192) (h : Fin 8) (e : Fin 64) :
    split (extractStridedSlice S8192x512 ![0, 3072] P slices_S8192x7168_S8192x512_0_3072) (ix3 s h e) = P (ix2 s (spot 1 h e)) := by
  unfold split
  pointwise
  exact congrArg P (congrArg (ix2 s) (Fin.ext (by unfold spot; dsimp only; omega)))

theorem split2 (P : FVec Ideal S8192x7168 .bf16) (s : Fin 8192) (h : Fin 8) (e : Fin 64) :
    split (extractStridedSlice S8192x512 ![0, 3584] P slices_S8192x7168_S8192x512_0_3584) (ix3 s h e) = P (ix2 s (spot 2 h e)) := by
  unfold split
  pointwise
  exact congrArg P (congrArg (ix2 s) (Fin.ext (by unfold spot; dsimp only; omega)))

theorem queries_eq (P : FVec Ideal S8192x7168 .bf16) (g : FVec Ideal S64 .f32) :
    (truncf .bf16 (mulf (norms (split (extractStridedSlice S8192x512 ![0, 2560] P slices_S8192x7168_S8192x512_0_2560)) g) (broadcastInDim S8x8192x64 ![] bcast_S_S8x8192x64 (constant S_ .f32 0x3E000000#32))) bitsLt_bf16_f32 : FVec Ideal S8x8192x64 .bf16) = queries P g := by
  funext i
  obtain ⟨h, s, e, rfl⟩ := triple 8192 i
  refine Eq.trans (b := norms (split (extractStridedSlice S8192x512 ![0, 2560] P slices_S8192x7168_S8192x512_0_2560)) g (ix3 h s e) * eighth) ?_ ?_
  · unfold eighth
    pointwise
  · rw [norms_at]
    simp only [split0]
    rfl

theorem keys_eq (P : FVec Ideal S8192x7168 .bf16) (g : FVec Ideal S64 .f32) :
    (truncf .bf16 (norms (split (extractStridedSlice S8192x512 ![0, 3072] P slices_S8192x7168_S8192x512_0_3072)) g) bitsLt_bf16_f32 : FVec Ideal S8x8192x64 .bf16) = keys P g := by
  funext i
  obtain ⟨h, s, e, rfl⟩ := triple 8192 i
  refine (norms_at _ g h s e).trans ?_
  simp only [split1]
  rfl

theorem values_eq (P : FVec Ideal S8192x7168 .bf16) :
    (transpose S8x8192x64 [1, 0, 2] (shapeCast _ (extractStridedSlice S8192x512 ![0, 3584] P slices_S8192x7168_S8192x512_0_3584) shapeCasts_S8192x512_S8192x8x64) transposes_S8192x8x64_S8x8192x64_1_0_2 : FVec Ideal S8x8192x64 .bf16) = values P := by
  funext i
  obtain ⟨h, s, e, rfl⟩ := triple 8192 i
  refine Eq.trans (b := split (extractStridedSlice S8192x512 ![0, 3584] P slices_S8192x7168_S8192x512_0_3584) (ix3 s h e)) ?_ (split2 P s h e)
  unfold split
  pointwise

end Cert.HeadsLinesIdeal

/-! ## The claims -/

namespace Cert.Proof

open Idealize.ShloMosaic Idealize.ShloMosaic.TcCoe Idealize.SL.Sem

/-- The reference leaves its arguments alone and declares no semaphore. -/
theorem frame_HeadsLinesIdeal : Cert.quiescent_HeadsLinesIdeal := fun m ρ _ =>
  (θ_run Cert.HeadsLinesIdeal.defs _ _).mono
    (fun r h => ⟨fun c => (h c).2.2.2, sem_eq_zero_of_no_sems (by decide) r.2⟩)
    (Cert.HeadsLinesIdeal.Value.run m ρ)

/-- The kernel and the reference leave the same three arrays. -/
theorem equal_Heads : Cert.algebraic_HeadsIdeal_HeadsLinesIdeal := by
  intro m g m' g' _ hagree
  refine ⟨fun c => HeadsIdeal.queries (HeadsIdeal.P m c) (HeadsIdeal.GQ m c), fun c => HeadsIdeal.keys (HeadsIdeal.P m c) (HeadsIdeal.GK m c),
    fun c => HeadsIdeal.values (HeadsIdeal.P m c), ?_, ?_⟩
  · exact (θ_run Cert.HeadsIdeal.defs _ _).mono
      (fun r h c => ⟨((h.1 c).1 5).trans (HeadsIdeal.final5 m c), ((h.1 c).1 6).trans (HeadsIdeal.final6 m c),
        ((h.1 c).1 7).trans (HeadsIdeal.final7 m c), h.2.1 c⟩)
      (θ_run_and (Cert.HeadsIdeal.Gen.run_main m g) (Cert.HeadsIdeal.Gen.frame m g))
  · refine (θ_run Cert.HeadsLinesIdeal.defs _ _).mono (fun r h c => ?_) (Cert.HeadsLinesIdeal.Value.run m' g')
    obtain ⟨e0, e1, e2⟩ := hagree c
    obtain ⟨r0, r1, r2, r3⟩ := h c
    refine ⟨r0.trans ((HeadsLinesIdeal.queries_eq _ _).trans ?_), r1.trans ((HeadsLinesIdeal.keys_eq _ _).trans ?_),
      r2.trans ((HeadsLinesIdeal.values_eq _).trans ?_), r3⟩
    · rw [e0, e1]
    · rw [e0, e2]
    · rw [e0]

end Cert.Proof

end
-- ==== Proof.GradHeadsValue.lean ====
module

public import proofs.«01_k».proof.Proof.Gen.GradHeadsIdeal.Frame
public import proofs.«01_k».proof.Proof.Gen.GradHeadsLinesIdeal.Run
public import proofs.«01_k».proof.Proof.HeadsValue
public import proofs.«01_k».proof.Proof.GradConvValue
public import proofs.«01_k».proof.Proof.Common

@[expose] public section

set_option maxRecDepth 16384

noncomputable section

/-! # GradHeads: the gradient of the attention's queries, keys and values

Each head of the queries and of the keys has the gradient of a normalisation; the values' gradient is put back in its columns. The
gains' gradients are sums over all positions and heads, one block of positions after another. -/

namespace Cert.GradHeadsIdeal

open Idealize.ShloMosaic Idealize.ShloMosaic.TcCoe Idealize.SL.Sem Idealize.ShloMosaic.StableHlo Cert.GradHeadsIdeal.Gen
open Cert.Rsqrt
open Cert.Branches (head lane beside pick)
open Cert.HeadsIdeal (width eighth scale spot cut)
open Cert.GradConvIdeal (seg range inside range_seg inside_seg seg_range)

/-! ## The mathematics -/

/-- The gradient of one element of a head `x`, given the gradient `u` of the scaled head. -/
def rowGrad (x u : Fin 64 → EReal) (e : Fin 64) : EReal :=
  scale x * u e - x e * (scale x * scale x * scale x * Ideal.div (∑ k, u k * x k) width)

/-- One of a position's 1536 gradients, from its heads, the gains and the gradients of the normalised heads. -/
def entry (xq xk : Fin 8 → Fin 64 → EReal) (gq gk : Fin 64 → EReal) (dq dk dv : Fin 8 → Fin 64 → EReal) (n : Fin 3) (h : Fin 8) (e : Fin 64) : EReal :=
  pick (rowGrad (xq h) (fun k => dq h k * gq k) e) (rowGrad (xk h) (fun k => dk h k * gk k) e) (dv h e) n

/-- The queries' gradient, the keys' and the values', side by side. -/
def sides (P : FVec Ideal S8192x7168 .bf16) (gq gk : FVec Ideal S64 .f32) (dq dk dv : FVec Ideal S8x8192x64 .f32) : FVec Ideal S8192x1536 .bf16 := fun i =>
  entry (fun h e => P (ix2 (i 0) (spot 0 h e))) (fun h e => P (ix2 (i 0) (spot 1 h e))) (fun e => gq (ix1 e)) (fun e => gk (ix1 e))
    (fun h e => dq (ix3 h (i 0) e) * eighth) (fun h e => dk (ix3 h (i 0) e)) (fun h e => dv (ix3 h (i 0) e))
    (range (i 1)) (head (inside (i 1))) (lane (inside (i 1)))

/-- A position's term in the gradient of a gain: its heads' terms added up. -/
def term (x d : Fin 8 → Fin 64 → EReal) (e : Fin 64) : EReal := ∑ h, d h e * x h e * scale (x h)

/-- The gradients of the queries' gains and of the keys'. -/
def gainsQ (P : FVec Ideal S8192x7168 .bf16) (d : FVec Ideal S8x8192x64 .f32) : FVec Ideal S1x64 .f32 := fun i =>
  ∑ s : Fin 8192, term (fun h e => P (ix2 s (spot 0 h e))) (fun h e => d (ix3 h s e) * eighth) (i 1)
def gainsK (P : FVec Ideal S8192x7168 .bf16) (d : FVec Ideal S8x8192x64 .f32) : FVec Ideal S1x64 .f32 := fun i =>
  ∑ s : Fin 8192, term (fun h e => P (ix2 s (spot 1 h e))) (fun h e => d (ix3 h s e)) (i 1)

theorem head_beside (h : Fin 8) (e : Fin 64) : head (beside h e) = h := Fin.ext (show (64 * h.val + e.val) / 64 = h.val by omega)
theorem lane_beside (h : Fin 8) (e : Fin 64) : lane (beside h e) = e := Fin.ext (show (64 * h.val + e.val) % 64 = e.val by omega)
theorem beside_head (k : Fin 512) : beside (head k) (lane k) = k := Fin.ext (show 64 * (k.val / 64) + k.val % 64 = k.val by omega)

/-- An index of rows of 1536 is a row, a third, a head and a column. -/
theorem place (r : ℕ) (y : (⟨2, ![r, 1536]⟩ : Shape).Idx) : ∃ (a : Fin r) (n : Fin 3) (h : Fin 8) (e : Fin 64), y = ix2 a (seg n (beside h e)) :=
  let ⟨a, j, hy⟩ := Blocks.pair r 1536 y
  ⟨a, range j, head (inside j), lane (inside j), by rw [beside_head, seg_range]; exact hy⟩

/-! ## The body -/

theorem pay8_at (d : Vec Ideal S1x512x64 .f32) (a : Fin 512) (e : Fin 64) : k0_pay8 (F := Ideal) d (ix2 a e) = d (ix3 (0 : Fin 1) a e) * eighth := by
  unfold k0_pay8 eighth
  pointwise

theorem pay14_at (d : Vec Ideal S1x512x64 .f32) (a : Fin 512) (e : Fin 64) : k0_pay14 (F := Ideal) d (ix2 a e) = d (ix3 (0 : Fin 1) a e) := by
  rw [← mul_one (d (ix3 (0 : Fin 1) a e)), ← one_eq]
  unfold k0_pay14
  pointwise

theorem pay9_at (x : Vec Ideal S512x64 .bf16) (a : Fin 512) : k0_pay9 (F := Ideal) x (ix2 a (0 : Fin 1)) = scale (fun k => x (ix2 a k)) := by
  unfold k0_pay9 k0_pay7 scale width eps
  pointwise

theorem pay10_at (x : Vec Ideal S512x64 .bf16) (d : Vec Ideal S1x512x64 .f32) (g : Vec Ideal S1x64 .f32) (a : Fin 512) (e : Fin 64) :
    k0_pay10 (F := Ideal) x d g (ix2 a e) = rowGrad (fun k => x (ix2 a k)) (fun k => d (ix3 (0 : Fin 1) a k) * eighth * g (ix2 (0 : Fin 1) k)) e := by
  unfold rowGrad
  rw [← pay9_at]
  simp only [← pay8_at d]
  unfold k0_pay10 k0_pay7 width
  generalize k0_pay8 (F := Ideal) d = p
  generalize k0_pay9 (F := Ideal) x = r
  pointwise

theorem pay16_at (x : Vec Ideal S512x64 .bf16) (d : Vec Ideal S1x512x64 .f32) (g : Vec Ideal S1x64 .f32) (a : Fin 512) (e : Fin 64) :
    k0_pay16 (F := Ideal) x d g (ix2 a e) = rowGrad (fun k => x (ix2 a k)) (fun k => d (ix3 (0 : Fin 1) a k) * g (ix2 (0 : Fin 1) k)) e := by
  unfold rowGrad
  rw [← pay9_at]
  simp only [← pay14_at d]
  unfold k0_pay16 k0_pay13 width
  generalize k0_pay14 (F := Ideal) d = p
  rw [show k0_pay15 (F := Ideal) x = k0_pay9 x from rfl]
  generalize k0_pay9 (F := Ideal) x = r
  pointwise

theorem pay11_at (x : Vec Ideal S512x64 .bf16) (d : Vec Ideal S1x512x64 .f32) (e : Fin 64) :
    k0_pay11 (F := Ideal) x d (ix2 (0 : Fin 1) e) = ∑ a : Fin 512, d (ix3 (0 : Fin 1) a e) * eighth * x (ix2 a e) * scale (fun k => x (ix2 a k)) := by
  simp only [← pay8_at d, ← pay9_at]
  unfold k0_pay11 k0_pay7
  generalize k0_pay8 (F := Ideal) d = p
  generalize k0_pay9 (F := Ideal) x = r
  pointwise

theorem pay42_at (x : Vec Ideal S512x64 .bf16) (d : Vec Ideal S1x512x64 .f32) (e : Fin 64) :
    k0_pay42 (F := Ideal) x d (ix2 (0 : Fin 1) e) = ∑ a : Fin 512, d (ix3 (0 : Fin 1) a e) * x (ix2 a e) * scale (fun k => x (ix2 a k)) := by
  simp only [← pay14_at d, ← pay9_at]
  unfold k0_pay42 k0_pay38
  rw [show k0_pay39 (F := Ideal) d = k0_pay14 d from rfl, show k0_pay40 (F := Ideal) x = k0_pay9 x from rfl]
  generalize k0_pay14 (F := Ideal) d = p
  generalize k0_pay9 (F := Ideal) x = r
  pointwise

theorem pay18_at (d : Vec Ideal S1x512x64 .f32) (a : Fin 512) (e : Fin 64) : k0_pay18 (F := Ideal) d (ix2 a e) = d (ix3 (0 : Fin 1) a e) := by
  unfold k0_pay18
  pointwise

/-- Eight arrays added to zero one after the other. -/
theorem eight (p : Fin 8 → FVec Ideal S1x64 .f32) :
    addf (addf (addf (addf (addf (addf (addf (addf (k0_pay5 (F := Ideal)) (p 0)) (p 1)) (p 2)) (p 3)) (p 4)) (p 5)) (p 6)) (p 7) = fun y => ∑ h, p h y := by
  funext y
  have h : k0_pay5 (F := Ideal) y = 0 := by
    unfold k0_pay5
    pointwise
  rw [Fin.sum_univ_eight, ← zero_add (p 0 y), ← h]
  rfl

section

variable (x0 x1 : Vec Ideal S512x512 .bf16) (x2 x3 : Vec Ideal S1x64 .f32) (x4 x5 x6 : Vec Ideal S8x512x64 .f32)

/-- A block of the gradients. -/
def blockO : Vec Ideal S512x1536 .bf16 := fun i =>
  entry (fun h e => x0 (ix2 (i 0) (beside h e))) (fun h e => x1 (ix2 (i 0) (beside h e))) (fun e => x2 (ix2 (0 : Fin 1) e)) (fun e => x3 (ix2 (0 : Fin 1) e))
    (fun h e => x4 (ix3 h (i 0) e) * eighth) (fun h e => x5 (ix3 h (i 0) e)) (fun h e => x6 (ix3 h (i 0) e))
    (range (i 1)) (head (inside (i 1))) (lane (inside (i 1)))

theorem blockO_at (a : Fin 512) (n : Fin 3) (h : Fin 8) (e : Fin 64) : blockO x0 x1 x2 x3 x4 x5 x6 (ix2 a (seg n (beside h e)))
    = entry (fun h e => x0 (ix2 a (beside h e))) (fun h e => x1 (ix2 a (beside h e))) (fun e => x2 (ix2 (0 : Fin 1) e)) (fun e => x3 (ix2 (0 : Fin 1) e))
        (fun h e => x4 (ix3 h a e) * eighth) (fun h e => x5 (ix3 h a e)) (fun h e => x6 (ix3 h a e)) n h e := by
  show entry _ _ _ _ _ _ _ (range (seg n (beside h e))) (head (inside (seg n (beside h e)))) (lane (inside (seg n (beside h e)))) = _
  rw [range_seg, inside_seg, head_beside, lane_beside]
  rfl

/-- Where one head's columns lie in the block. -/
theorem inO (n : Fin 3) (h : Fin 8) : ∀ a, (![0, 512 * n.val + 64 * h.val] : Fin 2 → ℕ) a + S512x64.size a ≤ S512x1536.size a := by
  decide +revert

theorem piece (G : Vec Ideal S512x1536 .bf16) (n : Fin 3) (h : Fin 8) (p : Vec Ideal S512x64 .bf16)
    (hp : ∀ (a : Fin 512) (e : Fin 64), p (ix2 a e) = G (ix2 a (seg n (beside h e)))) (y : S512x64.Idx) :
    p y = G ((Rect.unit (s := S512x1536) ![0, 512 * n.val + 64 * h.val] S512x64.size (inO n h)).emb y) := by
  obtain ⟨a, e, rfl⟩ := Blocks.pair 512 64 y
  refine (hp a e).trans (congrArg G (funext fun i => ?_))
  match i with
  | ⟨0, _⟩ => exact Fin.ext (show a.val = 0 + 1 * a.val by omega)
  | ⟨1, _⟩ => exact Fin.ext (show n.val * 512 + (64 * h.val + e.val) = 512 * n.val + 64 * h.val + 1 * e.val by omega)

theorem inX (h : Fin 8) : ∀ a, (![0, 64 * h.val] : Fin 2 → ℕ) a + S512x64.size a ≤ S512x512.size a := by decide +revert
theorem inD (h : Fin 8) : ∀ a, (![h.val, 0, 0] : Fin 3 → ℕ) a + S1x512x64.size a ≤ S8x512x64.size a := by decide +revert

/-- What the body reads: one head's columns, one head's gradients, the row of gains. -/
def cols (m : Memref sig .tc .vmem S512x512 .bf16) (hm : m.IsWhole) (x : Vec Ideal S512x512 .bf16) (h : Fin 8) : Vec Ideal S512x64 .bf16 :=
  View.readAt (Elt Ideal) m.view (Rect.unit (s := S512x512) ![0, 64 * h.val] S512x64.size (inX h)).toLoadRect (hm.unread x)
def grads (m : Memref sig .tc .vmem S8x512x64 .f32) (hm : m.IsWhole) (x : Vec Ideal S8x512x64 .f32) (h : Fin 8) : Vec Ideal S1x512x64 .f32 :=
  View.readAt (Elt Ideal) m.view (Rect.unit (s := S8x512x64) ![h.val, 0, 0] S1x512x64.size (inD h)).toLoadRect (hm.unread x)
def gain (m : Memref sig .tc .vmem S1x64 .f32) (hm : m.IsWhole) (x : Vec Ideal S1x64 .f32) : Vec Ideal S1x64 .f32 :=
  View.readAt (Elt Ideal) m.view (Rect.unit (s := S1x64) ![0, 0] S1x64.size inb_S1x64_S1x64_0_0).toLoadRect (hm.unread x)

theorem cols_at (m) (hm : m.IsWhole) (x : Vec Ideal S512x512 .bf16) (h : Fin 8) (a : Fin 512) (e : Fin 64) : cols m hm x h (ix2 a e) = x (ix2 a (beside h e)) := by
  unfold cols
  rw [View.readAt_eq_ld, hm.read_unread]
  exact cut x h (inX h) a e

theorem grads_at (m) (hm : m.IsWhole) (x : Vec Ideal S8x512x64 .f32) (h : Fin 8) (a : Fin 512) (e : Fin 64) : grads m hm x h (ix3 (0 : Fin 1) a e) = x (ix3 h a e) := by
  unfold grads
  rw [View.readAt_eq_ld, hm.read_unread]
  refine congrArg x (funext fun i => ?_)
  match i with
  | ⟨0, _⟩ => exact Fin.ext (show h.val + 1 * 0 = h.val by omega)
  | ⟨1, _⟩ => exact Fin.ext (show 0 + 1 * a.val = a.val by omega)
  | ⟨2, _⟩ => exact Fin.ext (show 0 + 1 * e.val = e.val by omega)

theorem gain_eq (m) (hm : m.IsWhole) (x : Vec Ideal S1x64 .f32) : gain m hm x = x := by
  unfold gain
  rw [View.readAt_eq_ld, hm.read_unread]
  exact View.ld_unit_lit _ _ (by decide)

variable (a1 : Memref sig .tc .vmem S512x512 .bf16) (h1 : a1.IsWhole) (a2 : Memref sig .tc .vmem S512x512 .bf16) (h2 : a2.IsWhole)
  (a3 : Memref sig .tc .vmem S1x64 .f32) (h3 : a3.IsWhole) (a4 : Memref sig .tc .vmem S1x64 .f32) (h4 : a4.IsWhole)
  (a5 : Memref sig .tc .vmem S8x512x64 .f32) (h5 : a5.IsWhole) (a6 : Memref sig .tc .vmem S8x512x64 .f32) (h6 : a6.IsWhole)
  (a7 : Memref sig .tc .vmem S8x512x64 .f32) (h7 : a7.IsWhole)

/-- What a point stores, the last store first. -/
def pieces : List (View.Piece (Elt Ideal) S512x1536 .bf16) := ([7, 6, 5, 4, 3, 2, 1, 0] : List (Fin 8)).flatMap fun h =>
  [⟨Rect.unit (s := S512x1536) ![0, 512 * (2 : Fin 3).val + 64 * h.val] S512x64.size (inO 2 h), k0_pay18 (grads a7 h7 x6 h)⟩,
    ⟨Rect.unit (s := S512x1536) ![0, 512 * (1 : Fin 3).val + 64 * h.val] S512x64.size (inO 1 h), k0_pay16 (cols a2 h2 x1 h) (grads a6 h6 x5 h) (gain a4 h4 x3)⟩,
    ⟨Rect.unit (s := S512x1536) ![0, 512 * (0 : Fin 3).val + 64 * h.val] S512x64.size (inO 0 h), k0_pay10 (cols a1 h1 x0 h) (grads a5 h5 x4 h) (gain a3 h3 x2)⟩]

theorem pieces_at : ∀ p ∈ pieces x0 x1 x2 x3 x4 x5 x6 a1 h1 a2 h2 a3 h3 a4 h4 a5 h5 a6 h6 a7 h7, ∀ y, p.2 y = blockO x0 x1 x2 x3 x4 x5 x6 (p.1.emb y) := by
  intro p hp
  obtain ⟨h, -, hp⟩ := List.mem_flatMap.mp hp
  rcases List.mem_cons.mp hp with rfl | hp
  · exact piece _ 2 h _ fun a e => by
      show k0_pay18 (F := Ideal) (grads a7 h7 x6 h) (ix2 a e) = _
      rw [blockO_at, pay18_at, grads_at]; rfl
  rcases List.mem_cons.mp hp with rfl | hp
  · exact piece _ 1 h _ fun a e => by
      show k0_pay16 (F := Ideal) (cols a2 h2 x1 h) (grads a6 h6 x5 h) (gain a4 h4 x3) (ix2 a e) = _
      rw [blockO_at, pay16_at, gain_eq]; simp only [cols_at, grads_at]; rfl
  rcases List.mem_cons.mp hp with rfl | hp
  · exact piece _ 0 h _ fun a e => by
      show k0_pay10 (F := Ideal) (cols a1 h1 x0 h) (grads a5 h5 x4 h) (gain a3 h3 x2) (ix2 a e) = _
      rw [blockO_at, pay10_at, gain_eq]; simp only [cols_at, grads_at]; rfl
  exact absurd hp List.not_mem_nil

variable (c : Dev nD) (i : grid0.Coords)

theorem sideA a8 h8 a9 h9 a10 h10 hc0 hc1 :
    out0_A_7 (F := Ideal) c i a1 h1 a2 h2 a3 h3 a4 h4 a5 h5 a6 h6 a7 h7 a8 h8 a9 h9 a10 h10 hc0 hc1 x0 x1 x2 x3 x4 x5 x6 = blockO x0 x1 x2 x3 x4 x5 x6 := by
  unfold out0_A_7
  funext y
  rw [View.read_writes_junk_apply_eq_canon]
  refine View.canon_apply_of_pieces (e := .bf16) (blockO x0 x1 x2 x3 x4 x5 x6) _ ?_ y (cover0_A_7 (F := Ideal) c i a1 h1 a2 h2 a3 h3 a4 h4 a5 h5 a6 h6 a7 h7 a8 h8 a9 h9 a10 h10 hc0 hc1 x0 x1 x2 x3 x4 x5 x6 y)
  dsimp only [kernelRun0_A]
  exact pieces_at x0 x1 x2 x3 x4 x5 x6 a1 h1 a2 h2 a3 h3 a4 h4 a5 h5 a6 h6 a7 h7

theorem sideB a8 h8 a9 h9 a10 h10 hc0 hc1 x8 x9 :
    out0_B_7 (F := Ideal) c i a1 h1 a2 h2 a3 h3 a4 h4 a5 h5 a6 h6 a7 h7 a8 h8 a9 h9 a10 h10 hc0 hc1 x0 x1 x2 x3 x4 x5 x6 x8 x9 = blockO x0 x1 x2 x3 x4 x5 x6 := by
  unfold out0_B_7
  funext y
  rw [View.read_writes_junk_apply_eq_canon]
  refine View.canon_apply_of_pieces (e := .bf16) (blockO x0 x1 x2 x3 x4 x5 x6) _ ?_ y (cover0_B_7 (F := Ideal) c i a1 h1 a2 h2 a3 h3 a4 h4 a5 h5 a6 h6 a7 h7 a8 h8 a9 h9 a10 h10 hc0 hc1 x0 x1 x2 x3 x4 x5 x6 x8 x9 y)
  dsimp only [kernelRun0_B]
  exact pieces_at x0 x1 x2 x3 x4 x5 x6 a1 h1 a2 h2 a3 h3 a4 h4 a5 h5 a6 h6 a7 h7

/-- A block's part of the gains' gradients. -/
def partQ : Vec Ideal S1x64 .f32 := fun y => ∑ h, k0_pay11 (F := Ideal) (cols a1 h1 x0 h) (grads a5 h5 x4 h) y
def partK : Vec Ideal S1x64 .f32 := fun y => ∑ h, k0_pay42 (F := Ideal) (cols a2 h2 x1 h) (grads a6 h6 x5 h) y

theorem gainsQA a8 h8 a9 h9 a10 h10 hc0 hc1 :
    out0_A_8 (F := Ideal) c i a1 h1 a2 h2 a3 h3 a4 h4 a5 h5 a6 h6 a7 h7 a8 h8 a9 h9 a10 h10 hc0 hc1 x0 x1 x2 x3 x4 x5 x6 = partQ x0 x4 a1 h1 a5 h5 := by
  unfold out0_A_8
  dsimp only [kernelRun0_A]
  rw [View.read_writes_full]
  exact eight fun h => k0_pay11 (F := Ideal) (cols a1 h1 x0 h) (grads a5 h5 x4 h)

theorem gainsKA a8 h8 a9 h9 a10 h10 hc0 hc1 :
    out0_A_9 (F := Ideal) c i a1 h1 a2 h2 a3 h3 a4 h4 a5 h5 a6 h6 a7 h7 a8 h8 a9 h9 a10 h10 hc0 hc1 x0 x1 x2 x3 x4 x5 x6 = partK x1 x5 a2 h2 a6 h6 := by
  unfold out0_A_9
  dsimp only [kernelRun0_A]
  rw [View.read_writes_full]
  exact eight fun h => k0_pay42 (F := Ideal) (cols a2 h2 x1 h) (grads a6 h6 x5 h)

theorem gainsQB a8 h8 a9 h9 a10 h10 hc0 hc1 x8 x9 :
    out0_B_8 (F := Ideal) c i a1 h1 a2 h2 a3 h3 a4 h4 a5 h5 a6 h6 a7 h7 a8 h8 a9 h9 a10 h10 hc0 hc1 x0 x1 x2 x3 x4 x5 x6 x8 x9 = fun y => x8 y + partQ x0 x4 a1 h1 a5 h5 y := by
  unfold out0_B_8
  dsimp only [kernelRun0_B]
  rw [View.read_writes_full]
  exact congrArg₂ (fun u v : FVec Ideal S1x64 .f32 => addf u v) ((shapeCast_self (gain a9 h9 x8) _).trans (gain_eq a9 h9 x8)) (eight fun h => k0_pay11 (F := Ideal) (cols a1 h1 x0 h) (grads a5 h5 x4 h))

theorem gainsKB a8 h8 a9 h9 a10 h10 hc0 hc1 x8 x9 :
    out0_B_9 (F := Ideal) c i a1 h1 a2 h2 a3 h3 a4 h4 a5 h5 a6 h6 a7 h7 a8 h8 a9 h9 a10 h10 hc0 hc1 x0 x1 x2 x3 x4 x5 x6 x8 x9 = fun y => x9 y + partK x1 x5 a2 h2 a6 h6 y := by
  unfold out0_B_9
  dsimp only [kernelRun0_B]
  rw [View.read_writes_full]
  exact congrArg₂ (fun u v : FVec Ideal S1x64 .f32 => addf u v) ((shapeCast_self (gain a10 h10 x9) _).trans (gain_eq a10 h10 x9)) (eight fun h => k0_pay42 (F := Ideal) (cols a2 h2 x1 h) (grads a6 h6 x5 h))

theorem partQ_at (e : Fin 64) : partQ x0 x4 a1 h1 a5 h5 (ix2 (0 : Fin 1) e)
    = ∑ a : Fin 512, term (fun h e => x0 (ix2 a (beside h e))) (fun h e => x4 (ix3 h a e) * eighth) e := by
  unfold partQ term
  rw [Finset.sum_comm]
  refine Finset.sum_congr rfl fun h _ => ?_
  rw [pay11_at]
  simp only [cols_at, grads_at]

theorem partK_at (e : Fin 64) : partK x1 x5 a2 h2 a6 h6 (ix2 (0 : Fin 1) e)
    = ∑ a : Fin 512, term (fun h e => x1 (ix2 a (beside h e))) (fun h e => x5 (ix3 h a e)) e := by
  unfold partK term
  rw [Finset.sum_comm]
  refine Finset.sum_congr rfl fun h _ => ?_
  rw [pay42_at]
  simp only [cols_at, grads_at]

end

/-! ## The blocks -/

variable (m : (ℓ : Loc nD τ sig) → Buf (Elt Ideal) ℓ) (c : Dev nD)

/-- The arguments: the projected input, the two gains and the gradients of the queries, keys and values. -/
abbrev P : FVec Ideal S8192x7168 .bf16 := m ((c : Thread nD τ).loc main_arg0)
abbrev GQ : FVec Ideal S64 .f32 := m ((c : Thread nD τ).loc main_arg1)
abbrev GK : FVec Ideal S64 .f32 := m ((c : Thread nD τ).loc main_arg2)
abbrev DQ : FVec Ideal S8x8192x64 .f32 := m ((c : Thread nD τ).loc main_arg3)
abbrev DK : FVec Ideal S8x8192x64 .f32 := m ((c : Thread nD τ).loc main_arg4)
abbrev DV : FVec Ideal S8x8192x64 .f32 := m ((c : Thread nD τ).loc main_arg5)

theorem pt_lt (t : Fin cfg0.N) : t.val < 16 := lt_of_lt_of_eq t.isLt N_0

/-- The row that a block's row `a` is at point `t`. -/
def row (t : Fin cfg0.N) (a : Fin 512) : Fin 8192 := ⟨512 * t.val + a.val, by have := pt_lt t; omega⟩

theorem idx0 : ∀ t : Fin cfg0.N, win0_0.index t = ![t.val, 5] := (by decide +kernel : ∀ t : Fin grid0.N, _)
theorem idx1 : ∀ t : Fin cfg0.N, win0_1.index t = ![t.val, 6] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- The blocks of the operands. -/
abbrev B0 (t : Fin cfg0.N) : FVec Ideal S512x512 .bf16 := iblk m c 0 t
abbrev B1 (t : Fin cfg0.N) : FVec Ideal S512x512 .bf16 := iblk m c 1 t
abbrev B2 (t : Fin cfg0.N) : FVec Ideal S1x64 .f32 := iblk m c 2 t
abbrev B3 (t : Fin cfg0.N) : FVec Ideal S1x64 .f32 := iblk m c 3 t
abbrev B4 (t : Fin cfg0.N) : FVec Ideal S8x512x64 .f32 := iblk m c 4 t
abbrev B5 (t : Fin cfg0.N) : FVec Ideal S8x512x64 .f32 := iblk m c 5 t
abbrev B6 (t : Fin cfg0.N) : FVec Ideal S8x512x64 .f32 := iblk m c 6 t

theorem blk0 (t : Fin cfg0.N) (a : Fin 512) (h : Fin 8) (e : Fin 64) : B0 m c t (ix2 a (beside h e)) = P m c (ix2 (row t a) (spot 0 h e)) := by
  unfold B0
  blk_simp [iblk]
  rw [V_main_arg0]
  refine congrArg (P m c) ?_
  unfold row spot beside
  blk_ext [idx0]

theorem blk1 (t : Fin cfg0.N) (a : Fin 512) (h : Fin 8) (e : Fin 64) : B1 m c t (ix2 a (beside h e)) = P m c (ix2 (row t a) (spot 1 h e)) := by
  unfold B1
  blk_simp [iblk]
  rw [V_main_arg0]
  refine congrArg (P m c) ?_
  unfold row spot beside
  blk_ext [idx1]

theorem V_v0 : V m c main_v0 = broadcastInDim S1x64 ![1] bcast_S64_S1x64_1 (GQ m c) := by
  unfold V
  simp only [hostOps0]
  after_reads_simp

theorem V_v1 : V m c main_v1 = broadcastInDim S1x64 ![1] bcast_S64_S1x64_1 (GK m c) := by
  unfold V
  simp only [hostOps0]
  after_reads_simp

/-- A row of gains. -/
theorem line_at (g : FVec Ideal S64 .f32) (e : Fin 64) : (broadcastInDim S1x64 ![1] bcast_S64_S1x64_1 g : FVec Ideal S1x64 .f32) (ix2 (0 : Fin 1) e) = g (ix1 e) := by
  pointwise

theorem blk2 (t : Fin cfg0.N) (e : Fin 64) : B2 m c t (ix2 (0 : Fin 1) e) = GQ m c (ix1 e) := by
  rw [← line_at (GQ m c) e, ← V_v0]
  unfold B2
  blk_simp [iblk]
  refine congrArg (V m c main_v0) ?_
  blk_ext [idx2]

theorem blk3 (t : Fin cfg0.N) (e : Fin 64) : B3 m c t (ix2 (0 : Fin 1) e) = GK m c (ix1 e) := by
  rw [← line_at (GK m c) e, ← V_v1]
  unfold B3
  blk_simp [iblk]
  refine congrArg (V m c main_v1) ?_
  blk_ext [idx3]

theorem blk4 (t : Fin cfg0.N) (h : Fin 8) (a : Fin 512) (e : Fin 64) : B4 m c t (ix3 h a e) = DQ m c (ix3 h (row t a) e) := by
  unfold B4
  blk_simp [iblk]
  rw [V_main_arg3]
  refine congrArg (DQ m c) ?_
  unfold row
  blk_ext [idx4]

theorem blk5 (t : Fin cfg0.N) (h : Fin 8) (a : Fin 512) (e : Fin 64) : B5 m c t (ix3 h a e) = DK m c (ix3 h (row t a) e) := by
  unfold B5
  blk_simp [iblk]
  rw [V_main_arg4]
  refine congrArg (DK m c) ?_
  unfold row
  blk_ext [idx5]

theorem blk6 (t : Fin cfg0.N) (h : Fin 8) (a : Fin 512) (e : Fin 64) : B6 m c t (ix3 h a e) = DV m c (ix3 h (row t a) e) := by
  unfold B6
  blk_simp [iblk]
  rw [V_main_arg5]
  refine congrArg (DV m c) ?_
  unfold row
  blk_ext [idx6]

/-! ## The whole results -/

theorem sides_at (P : FVec Ideal S8192x7168 .bf16) (gq gk : FVec Ideal S64 .f32) (dq dk dv : FVec Ideal S8x8192x64 .f32) (s : Fin 8192) (n : Fin 3) (h : Fin 8) (e : Fin 64) :
    sides P gq gk dq dk dv (ix2 s (seg n (beside h e)))
    = entry (fun h e => P (ix2 s (spot 0 h e))) (fun h e => P (ix2 s (spot 1 h e))) (fun e => gq (ix1 e)) (fun e => gk (ix1 e))
        (fun h e => dq (ix3 h s e) * eighth) (fun h e => dk (ix3 h s e)) (fun h e => dv (ix3 h s e)) n h e := by
  show entry _ _ _ _ _ _ _ (range (seg n (beside h e))) (head (inside (seg n (beside h e)))) (lane (inside (seg n (beside h e)))) = _
  rw [range_seg, inside_seg, head_beside, lane_beside]
  rfl

theorem outs7 (t : Fin cfg0.N) : (outsAt0 m c t.val t.isLt).1 = blockO (B0 m c t) (B1 m c t) (B2 m c t) (B3 m c t) (B4 m c t) (B5 m c t) (B6 m c t) := by
  have := pt_lt t
  by_cases ht : t.val % 16 = 0
  · rw [outsAt0_A m c t ht (by omega)]
    dsimp only
    rw [sideA]
  · rw [outsAt0_B m c t ht (by omega)]
    dsimp only
    rw [sideB]

theorem final7 : (dats m 0 c).arrAt 7 cfg0.N = sides (P m c) (GQ m c) (GK m c) (DQ m c) (DK m c) (DV m c) := by
  refine (dats m 0 c).arrAt_eq_of_covers 7 _ (by decide +kernel) fun t hf y => ?_
  blk_simp
  rw [after0_7, outs7]
  obtain ⟨a, n, h, e, rfl⟩ := place 512 y
  refine Eq.trans (b := sides (P m c) (GQ m c) (GK m c) (DQ m c) (DK m c) (DV m c) (ix2 (row t a) (seg n (beside h e)))) ?_ ?_
  · rw [blockO_at, sides_at]
    simp only [blk0, blk1, blk2, blk3, blk4, blk5, blk6]
  · refine congrArg (sides (P m c) (GQ m c) (GK m c) (DQ m c) (DK m c) (DV m c)) ?_
    unfold row
    blk_ext [idx7]

/-- A sum begun at the first point and carried on at the others is, at the last, that of all rows. -/
theorem total (s : (n : ℕ) → n < cfg0.N → EReal) (f : Fin 8192 → EReal) (p : Fin cfg0.N → EReal) (hp : ∀ t, p t = ∑ a, f (row t a))
    (h0 : ∀ t : Fin cfg0.N, t.val = 0 → s t.val t.isLt = p t) (h1 : ∀ t : Fin cfg0.N, t.val ≠ 0 → s t.val t.isLt = s (t.val - 1) (Blocks.prev t) + p t)
    (t : Fin cfg0.N) (ht : t.val % 16 = 15) : s t.val t.isLt = ∑ i, f i := by
  have lt := pt_lt
  have h17 : ∀ t : Fin cfg0.N, t.val % 17 = t.val := fun t => Nat.mod_eq_of_lt (by have := lt t; omega)
  refine (Blocks.run 17 512 s (fun _ => f) p (fun _ _ _ => rfl) (fun t => ?_) (fun t h => h0 t (by rw [← h17 t]; exact h))
    (fun t h _ => h1 t (by rw [← h17 t]; exact h)) t.val t.isLt (by have := lt t; omega)).trans ?_
  · rw [h17, hp]
    exact Blocks.part_block f (by omega) (by have := lt t; omega) (fun a : Fin 512 => f (row t a)) fun a => rfl
  · have := lt t
    rw [h17, show 512 * (t.val + 1) = 8192 by omega]
    exact Blocks.part_all f

/-- The only row of a row of gains. -/
theorem lonely (y : S1x64.Idx) : ∃ e : Fin 64, y = ix2 (0 : Fin 1) e := by
  obtain ⟨a, e, rfl⟩ := Blocks.pair 1 64 y
  exact ⟨e, by rw [Subsingleton.elim a 0]⟩

theorem final8 : (dats m 0 c).arrAt 8 cfg0.N = gainsQ (P m c) (DQ m c) := by
  refine (dats m 0 c).arrAt_eq_of_covers 8 _ (by decide +kernel) fun t hf y => ?_
  blk_simp
  rw [after0_8]
  obtain ⟨e, rfl⟩ := lonely y
  refine (total (fun n hn => (outsAt0 m c n hn).2.1 (ix2 (0 : Fin 1) e))
    (fun s => term (fun h e => P m c (ix2 s (spot 0 h e))) (fun h e => DQ m c (ix3 h s e) * eighth) e)
    (fun t => partQ (B0 m c t) (B4 m c t) (ms0_0 t) (hs0_0 t) (ms0_4 t) (hs0_4 t) (ix2 (0 : Fin 1) e)) (fun t => ?_) (fun t h => ?_) (fun t h => ?_)
    t ((flush0_8 t).mp hf)).trans ?_
  · rw [partQ_at]
    simp only [blk0, blk4]
  · rw [outsAt0_A m c t (by omega) (by omega)]
    dsimp only
    rw [gainsQA]
  · have := pt_lt t
    rw [outsAt0_B m c t (by omega) (by omega)]
    dsimp only
    rw [gainsQB]
  · show gainsQ (P m c) (DQ m c) (ix2 (0 : Fin 1) e) = _
    refine congrArg (gainsQ (P m c) (DQ m c)) (?_ : ix2 (0 : Fin 1) e = _)
    blk_ext [idx8]

theorem final9 : (dats m 0 c).arrAt 9 cfg0.N = gainsK (P m c) (DK m c) := by
  refine (dats m 0 c).arrAt_eq_of_covers 9 _ (by decide +kernel) fun t hf y => ?_
  blk_simp
  rw [after0_9]
  obtain ⟨e, rfl⟩ := lonely y
  refine (total (fun n hn => (outsAt0 m c n hn).2.2 (ix2 (0 : Fin 1) e))
    (fun s => term (fun h e => P m c (ix2 s (spot 1 h e))) (fun h e => DK m c (ix3 h s e)) e)
    (fun t => partK (B1 m c t) (B5 m c t) (ms0_1 t) (hs0_1 t) (ms0_5 t) (hs0_5 t) (ix2 (0 : Fin 1) e)) (fun t => ?_) (fun t h => ?_) (fun t h => ?_)
    t ((flush0_9 t).mp hf)).trans ?_
  · rw [partK_at]
    simp only [blk1, blk5]
  · rw [outsAt0_A m c t (by omega) (by omega)]
    dsimp only
    rw [gainsKA]
  · have := pt_lt t
    rw [outsAt0_B m c t (by omega) (by omega)]
    dsimp only
    rw [gainsKB]
  · show gainsK (P m c) (DK m c) (ix2 (0 : Fin 1) e) = _
    refine congrArg (gainsK (P m c) (DK m c)) (?_ : ix2 (0 : Fin 1) e = _)
    blk_ext [idx9]

end Cert.GradHeadsIdeal

/-! ## The reference -/

namespace Cert.GradHeadsLinesIdeal

open Idealize.ShloMosaic Idealize.ShloMosaic.TcCoe Cert.GradHeadsLinesIdeal.Gen Cert.Rsqrt
open Cert.Branches (head lane beside pick)
open Cert.HeadsIdeal (width eighth scale spot triple)
open Cert.HeadsLinesIdeal (meanOf meanOf_at)
open Cert.GradConvIdeal (seg)
open Cert.GradHeadsIdeal (rowGrad entry sides sides_at term gainsQ gainsK place lonely)

theorem width_mean (x : EReal) : Ideal.div x width = x * ((64⁻¹ : ℝ) : EReal) := by
  have h : width = ((64 : ℝ) : EReal) := by
    unfold width
    simp [Ideal.ofBits, Ideal.ieee, -EReal.coe_mul]; norm_num
  unfold Ideal.div
  rw [h, if_neg (by exact_mod_cast (by norm_num : (64 : ℝ) ≠ 0)), EReal.coe_inv]

/-- A sum over the first two axes of three. -/
theorem sum_two {a b n : ℕ} (h : (⟨3, ![a, b, n]⟩ : Shape).ReducesTo [0, 1] ⟨1, ![n]⟩) (v : (⟨3, ![a, b, n]⟩ : Shape).Idx → EReal) (e : Fin n) :
    Ideal.hostReduceAdd h v 0 (ix1 e) = ∑ k : Fin a, ∑ l : Fin b, v (ix3 k l e) := by
  refine (zero_add _).trans ((Finset.sum_filter_eq_sum_of_fiber _ (fun k : Fin a × Fin b => ix3 k.1 k.2 e)
    (fun x y w => Prod.ext (congrFun w 0) (congrFun w 1)) (fun i => ⟨fun w => ⟨(i 0, i 1), ?_⟩, ?_⟩) v).trans (Fintype.sum_prod_type _))
  · funext x
    apply Fin.ext
    match x with
    | ⟨0, _⟩ => rfl
    | ⟨1, _⟩ => rfl
    | ⟨2, _⟩ => exact (congrArg Fin.val (congrFun w 0)).symm
  · rintro ⟨k, rfl⟩
    funext x
    match x with
    | ⟨0, _⟩ => rfl

/-- 512 columns in f32, as eight heads. -/
def split (x : FVec Ideal S8192x512 .bf16) : FVec Ideal S8192x8x64 .f32 := shapeCast _ (extf .f32 x bitsLt_bf16_f32) shapeCasts_S8192x512_S8192x8x64

/-- The queries and the keys. -/
def queries (P : FVec Ideal S8192x7168 .bf16) : FVec Ideal S8192x8x64 .f32 := split (extractStridedSlice S8192x512 ![0, 2560] P slices_S8192x7168_S8192x512_0_2560)
def keys (P : FVec Ideal S8192x7168 .bf16) : FVec Ideal S8192x8x64 .f32 := split (extractStridedSlice S8192x512 ![0, 3072] P slices_S8192x7168_S8192x512_0_3072)

/-- Heads put back beside each other at every position. -/
def turned (d : FVec Ideal S8x8192x64 .f32) : FVec Ideal S8192x8x64 .f32 := transpose S8192x8x64 [1, 0, 2] d transposes_S8x8192x64_S8192x8x64_1_0_2
def eighths (d : FVec Ideal S8x8192x64 .f32) : FVec Ideal S8x8192x64 .f32 := mulf d (broadcastInDim S8x8192x64 ![] bcast_S_S8x8192x64 (constant S_ .f32 0x3E000000#32))
def flat (x : FVec Ideal S8192x8x64 .f32) : FVec Ideal S8192x512 .f32 := shapeCast _ x shapeCasts_S8192x8x64_S8192x512

section

variable (x : FVec Ideal S8192x8x64 .f32) (d : FVec Ideal S8192x8x64 .f32) (g : FVec Ideal S64 .f32)

/-- The gradient of the scaled heads. -/
def scaledGrad : FVec Ideal S8192x8x64 .f32 :=
  mulf d (broadcastInDim S8192x8x64 ![0, 1, 2] bcast_S1x1x64_S8192x8x64_0_1_2 (broadcastInDim S1x1x64 ![2] bcast_S64_S1x1x64_2 g))

/-- A head's number, at every column of the head. -/
def spread (y : FVec Ideal S8192x8x1 .f32) : FVec Ideal S8192x8x64 .f32 := broadcastInDim S8192x8x64 ![0, 1, 2] bcast_S8192x8x1_S8192x8x64_0_1_2 y

/-- The gradient of a square, at every column of the head. -/
def squareGrad (u : FVec Ideal S8192x8x64 .f32) : FVec Ideal S8192x8x64 .f32 :=
  broadcastInDim S8192x8x64 ![0, 1] bcast_S8192x8_S8192x8x64_0_1 (Host.reduceAdd (Host.divf (mulf (shapeCast _ (Host.reduceAdd (mulf x u) (constant S_ .f32 0x00000000#32) reducesTo_S8192x8x64_S8192x8_d2 h_S_) shapeCasts_S8192x8_S8192x8x1) (mulf (broadcastInDim S8192x8x1 ![] bcast_S_S8192x8x1 (constant S_ .f32 0xBF000000#32)) (Host.divf (Host.rsqrt (meanOf x)) (meanOf x)))) (broadcastInDim S8192x8x1 ![] bcast_S_S8192x8x1 (constant S_ .f32 0x42800000#32))) (constant S_ .f32 0x00000000#32) reducesTo_S8192x8x1_S8192x8_d2 h_S_)

/-- The gradient of the heads. -/
def headGrad (u : FVec Ideal S8192x8x64 .f32) : FVec Ideal S8192x8x64 .f32 :=
  addf (addf (mulf u (spread (Host.rsqrt (meanOf x)))) (mulf x (squareGrad x u))) (mulf (squareGrad x u) x)

/-- The gradient of the gain. -/
def gainGrad : FVec Ideal S1x64 .f32 :=
  broadcastInDim S1x64 ![1] bcast_S64_S1x64_1 (Host.reduceAdd (shapeCast _ (Host.reduceAdd (mulf (mulf x (spread (Host.rsqrt (meanOf x)))) d) (constant S_ .f32 0x00000000#32) reducesTo_S8192x8x64_S64_d0_1 h_S_) shapeCasts_S64_S1x1x64) (constant S_ .f32 0x00000000#32) reducesTo_S1x1x64_S64_d0_1 h_S_)

theorem scaledGrad_at (s : Fin 8192) (h : Fin 8) (e : Fin 64) : scaledGrad d g (ix3 s h e) = d (ix3 s h e) * g (ix1 e) := by
  unfold scaledGrad
  pointwise

theorem root_at (s : Fin 8192) (h : Fin 8) (e : Fin 64) : spread (Host.rsqrt (meanOf x)) (ix3 s h e) = scale (fun k => x (ix3 s h k)) := by
  refine Eq.trans (b := Ideal.rsqrt (meanOf x (ix3 s h (0 : Fin 1)))) ?_ ?_
  · unfold spread
    pointwise
  · rw [meanOf_at]
    rfl

theorem squareGrad_at (u : FVec Ideal S8192x8x64 .f32) (s : Fin 8192) (h : Fin 8) (e : Fin 64) :
    squareGrad x u (ix3 s h e) = Ideal.div ((∑ k : Fin 64, x (ix3 s h k) * u (ix3 s h k))
      * (half * Ideal.div (Ideal.rsqrt (meanOf x (ix3 s h (0 : Fin 1)))) (meanOf x (ix3 s h (0 : Fin 1))))) width := by
  unfold squareGrad half width
  generalize meanOf x = y
  pointwise
  exact Fintype.sum_unique _

theorem headGrad_at (u : FVec Ideal S8192x8x64 .f32) (s : Fin 8192) (h : Fin 8) (e : Fin 64) :
    headGrad x u (ix3 s h e) = rowGrad (fun k => x (ix3 s h k)) (fun k => u (ix3 s h k)) e := by
  refine Eq.trans (b := u (ix3 s h e) * spread (Host.rsqrt (meanOf x)) (ix3 s h e) + x (ix3 s h e) * squareGrad x u (ix3 s h e)
    + squareGrad x u (ix3 s h e) * x (ix3 s h e)) ?_ ?_
  · unfold headGrad
    generalize squareGrad x u = p
    generalize spread (Host.rsqrt (meanOf x)) = r
    pointwise
  · rw [root_at, squareGrad_at, add_assoc (_ * _), through _ _ width_mean _ _ _ (by rw [meanOf_at]; exact pos _ _ (by norm_num) width_mean fun k => x (ix3 s h k)), meanOf_at]
    unfold rowGrad
    rw [mul_comm _ (scale _), sub_eq_add_neg]
    simp only [mul_comm (x (ix3 s h _)) (u (ix3 s h _))]
    rfl

theorem gainGrad_at (e : Fin 64) : gainGrad x d (ix2 (0 : Fin 1) e) = ∑ s : Fin 8192, term (fun h e => x (ix3 s h e)) (fun h e => d (ix3 s h e)) e := by
  refine Eq.trans (b := ∑ s : Fin 8192, ∑ h : Fin 8, x (ix3 s h e) * spread (Host.rsqrt (meanOf x)) (ix3 s h e) * d (ix3 s h e)) ?_ ?_
  · unfold gainGrad
    generalize spread (Host.rsqrt (meanOf x)) = r
    pointwise
    rw [sum_two]
    refine (Fintype.sum_unique _).trans ((Fintype.sum_unique _).trans ?_)
    pointwise
    rw [sum_two]
    pointwise
  · refine Finset.sum_congr rfl fun s _ => Finset.sum_congr rfl fun h _ => ?_
    rw [root_at]
    exact (mul_comm _ _).trans (mul_assoc _ _ _).symm

end

theorem queries_at (P : FVec Ideal S8192x7168 .bf16) (s : Fin 8192) (h : Fin 8) (e : Fin 64) : queries P (ix3 s h e) = P (ix2 s (spot 0 h e)) := by
  unfold queries split
  pointwise
  exact congrArg P (congrArg (ix2 s) (Fin.ext (by unfold spot; dsimp only; omega)))

theorem keys_at (P : FVec Ideal S8192x7168 .bf16) (s : Fin 8192) (h : Fin 8) (e : Fin 64) : keys P (ix3 s h e) = P (ix2 s (spot 1 h e)) := by
  unfold keys split
  pointwise
  exact congrArg P (congrArg (ix2 s) (Fin.ext (by unfold spot; dsimp only; omega)))

theorem turned_at (d : FVec Ideal S8x8192x64 .f32) (s : Fin 8192) (h : Fin 8) (e : Fin 64) : turned d (ix3 s h e) = d (ix3 h s e) := by
  unfold turned
  pointwise

theorem eighths_at (d : FVec Ideal S8x8192x64 .f32) (s : Fin 8192) (h : Fin 8) (e : Fin 64) : turned (eighths d) (ix3 s h e) = d (ix3 h s e) * eighth := by
  rw [turned_at]
  unfold eighths eighth
  pointwise

theorem flat_at (x : FVec Ideal S8192x8x64 .f32) (s : Fin 8192) (h : Fin 8) (e : Fin 64) : flat x (ix2 s (beside h e)) = x (ix3 s h e) := by
  unfold flat beside
  pointwise

/-- The first line. -/
def line0 (P : FVec Ideal S8192x7168 .bf16) (gq gk : FVec Ideal S64 .f32) (dq dk dv : FVec Ideal S8x8192x64 .f32) : FVec Ideal S8192x1536 .bf16 :=
  truncf .bf16 (GradConvLinesIdeal.beside (flat (headGrad (queries P) (scaledGrad (turned (eighths dq)) gq)))
    (flat (headGrad (keys P) (scaledGrad (turned dk) gk))) (flat (turned dv))) bitsLt_bf16_f32

theorem line0_eq (P : FVec Ideal S8192x7168 .bf16) (gq gk : FVec Ideal S64 .f32) (dq dk dv : FVec Ideal S8x8192x64 .f32) :
    line0 P gq gk dq dk dv = sides P gq gk dq dk dv := by
  funext i
  obtain ⟨s, n, h, e, rfl⟩ := place 8192 i
  rw [sides_at]
  refine Eq.trans (b := GradConvLinesIdeal.beside (flat (headGrad (queries P) (scaledGrad (turned (eighths dq)) gq)))
    (flat (headGrad (keys P) (scaledGrad (turned dk) gk))) (flat (turned dv)) (ix2 s (seg n (beside h e)))) ?_ ?_
  · unfold line0
    generalize GradConvLinesIdeal.beside _ _ _ = p
    pointwise
  rw [GradConvLinesIdeal.beside_at]
  match n with
  | ⟨0, _⟩ =>
    dsimp only
    rw [flat_at, headGrad_at]
    simp only [queries_at, scaledGrad_at, eighths_at]
    rfl
  | ⟨1, _⟩ =>
    dsimp only
    rw [flat_at, headGrad_at]
    simp only [keys_at, scaledGrad_at, turned_at]
    rfl
  | ⟨2, _⟩ =>
    dsimp only
    rw [flat_at, turned_at]
    rfl

theorem line1_eq (P : FVec Ideal S8192x7168 .bf16) (d : FVec Ideal S8x8192x64 .f32) : gainGrad (queries P) (turned (eighths d)) = gainsQ P d := by
  funext i
  obtain ⟨e, rfl⟩ := lonely i
  rw [gainGrad_at]
  simp only [queries_at, eighths_at]
  rfl

theorem line2_eq (P : FVec Ideal S8192x7168 .bf16) (d : FVec Ideal S8x8192x64 .f32) : gainGrad (keys P) (turned d) = gainsK P d := by
  funext i
  obtain ⟨e, rfl⟩ := lonely i
  rw [gainGrad_at]
  simp only [keys_at, turned_at]
  rfl

end Cert.GradHeadsLinesIdeal

/-! ## The claims -/

namespace Cert.Proof

open Idealize.ShloMosaic Idealize.ShloMosaic.TcCoe Idealize.SL.Sem

/-- The reference leaves its arguments alone and declares no semaphore. -/
theorem frame_GradHeadsLinesIdeal : Cert.quiescent_GradHeadsLinesIdeal := fun m ρ _ =>
  (θ_run Cert.GradHeadsLinesIdeal.defs _ _).mono
    (fun r h => ⟨fun c => (h c).2.2.2, sem_eq_zero_of_no_sems (by decide) r.2⟩)
    (Cert.GradHeadsLinesIdeal.Value.run m ρ)

/-- The kernel and the reference leave the same three arrays. -/
theorem equal_GradHeads : Cert.algebraic_GradHeadsIdeal_GradHeadsLinesIdeal := by
  intro m g m' g' _ hagree
  refine ⟨fun c => GradHeadsIdeal.sides (GradHeadsIdeal.P m c) (GradHeadsIdeal.GQ m c) (GradHeadsIdeal.GK m c) (GradHeadsIdeal.DQ m c) (GradHeadsIdeal.DK m c) (GradHeadsIdeal.DV m c),
    fun c => GradHeadsIdeal.gainsQ (GradHeadsIdeal.P m c) (GradHeadsIdeal.DQ m c),
    fun c => GradHeadsIdeal.gainsK (GradHeadsIdeal.P m c) (GradHeadsIdeal.DK m c), ?_, ?_⟩
  · exact (θ_run Cert.GradHeadsIdeal.defs _ _).mono
      (fun r h c => ⟨((h.1 c).1 7).trans (GradHeadsIdeal.final7 m c), ((h.1 c).1 8).trans (GradHeadsIdeal.final8 m c),
        ((h.1 c).1 9).trans (GradHeadsIdeal.final9 m c), h.2.1 c⟩)
      (θ_run_and (Cert.GradHeadsIdeal.Gen.run_main m g) (Cert.GradHeadsIdeal.Gen.frame m g))
  · refine (θ_run Cert.GradHeadsLinesIdeal.defs _ _).mono (fun r h c => ?_) (Cert.GradHeadsLinesIdeal.Value.run m' g')
    obtain ⟨e0, e1, e2, e3, e4, e5⟩ := hagree c
    obtain ⟨r0, r1, r2, r3⟩ := h c
    refine ⟨r0.trans ((GradHeadsLinesIdeal.line0_eq _ _ _ _ _ _).trans ?_), r1.trans ((GradHeadsLinesIdeal.line1_eq _ _).trans ?_),
      r2.trans ((GradHeadsLinesIdeal.line2_eq _ _).trans ?_), r3⟩
    · rw [e0, e1, e2, e3, e4, e5]
    · rw [e0, e3]
    · rw [e0, e4]

end Cert.Proof

end
-- ==== Proof.LossValue.lean ====
module

public import proofs.«01_k».proof.Proof.Gen.LossIdeal.Frame
public import proofs.«01_k».proof.Proof.Gen.LossLinesIdeal.Run
public import proofs.«01_k».proof.Proof.Rsqrt
public import proofs.«01_k».proof.Proof.Common
public import Idealize.ShloMosaic.Lib.VecWindow

@[expose] public section

set_option maxRecDepth 16384

noncomputable section

/-! # Loss: half the mean square of the error, and its gradient

The loss is a sum over all positions, one block's after another's; squares are not negative, so the factor passes through the sum. -/

namespace Cert.LossIdeal

open Idealize.ShloMosaic Idealize.ShloMosaic.TcCoe Idealize.SL.Sem Idealize.ShloMosaic.StableHlo Cert.LossIdeal.Gen

/-! ## The mathematics -/

/-- One over the number of columns, and half of it. -/
def share : EReal := Ideal.ofBits .f32 0x3A800000#32
def halfShare : EReal := Ideal.ofBits .f32 0x3A000000#32

theorem share_eq : share = ((1024⁻¹ : ℝ) : EReal) := by
  unfold share
  simp [Ideal.ofBits, Ideal.ieee, -EReal.coe_mul]; norm_num

theorem halfShare_eq : halfShare = ((2048⁻¹ : ℝ) : EReal) := by
  unfold halfShare
  simp [Ideal.ofBits, Ideal.ieee, -EReal.coe_mul]; norm_num

/-- The loss's gradient. -/
def wide (X T : FVec Ideal S8192x1024 .f32) : FVec Ideal S8192x1024 .f32 := fun i => (X i - T i) * share

/-- The same, rounded to half the width. -/
def copy (X T : FVec Ideal S8192x1024 .f32) : FVec Ideal S8192x1024 .bf16 := fun i => (X i - T i) * share

/-- The sum of the squares of a row's errors. -/
def squares (X T : FVec Ideal S8192x1024 .f32) (s : Fin 8192) : EReal := ∑ k : Fin 1024, (X (ix2 s k) - T (ix2 s k)) * (X (ix2 s k) - T (ix2 s k))

/-- The loss, in every lane. -/
def total (X T : FVec Ideal S8192x1024 .f32) : FVec Ideal S1x128 .f32 := fun _ => ∑ s : Fin 8192, squares X T s * halfShare

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem squares_nonneg (X T : FVec Ideal S8192x1024 .f32) (s : Fin 8192) : 0 ≤ squares X T s := Finset.sum_nonneg fun _ _ => square_nonneg _

/-- A factor passes through a sum of terms that are not negative. -/
theorem sum_times {n : ℕ} (f : Fin n → EReal) (hf : ∀ a, 0 ≤ f a) (z : EReal) : (∑ a, f a) * z = ∑ a, f a * z := by
  have h : ∀ u : Finset (Fin n), (∑ a ∈ u, f a) * z = ∑ a ∈ u, f a * z := fun u => by
    induction u using Finset.induction_on with
    | empty => simp
    | insert a u ha ih => rw [Finset.sum_insert ha, Finset.sum_insert ha, EReal.right_distrib_of_nonneg (hf a) (Finset.sum_nonneg fun b _ => hf b), ih]
  exact h Finset.univ

/-! ## The body -/

section

variable (x0 x1 : Vec Ideal S512x1024 .f32)

theorem pay1_at (a : Fin 512) (d : Fin 1024) : k0_pay1 (F := Ideal) x0 x1 (ix2 a d) = x0 (ix2 a d) - x1 (ix2 a d) := by
  unfold k0_pay1
  pointwise

theorem pay2_at (a : Fin 512) (d : Fin 1024) : k0_pay2 (F := Ideal) x0 x1 (ix2 a d) = (x0 (ix2 a d) - x1 (ix2 a d)) * share := by
  rw [← pay1_at]
  unfold k0_pay2 share
  generalize k0_pay1 (F := Ideal) x0 x1 = p
  pointwise

theorem pay3_at (a : Fin 512) (d : Fin 1024) : k0_pay3 (F := Ideal) x0 x1 (ix2 a d) = (x0 (ix2 a d) - x1 (ix2 a d)) * share := by
  rw [← pay1_at]
  unfold k0_pay3 share
  generalize k0_pay1 (F := Ideal) x0 x1 = p
  pointwise

/-- The sum of the squares of a block's row. -/
def row2 (a : Fin 512) : EReal := ∑ k : Fin 1024, (x0 (ix2 a k) - x1 (ix2 a k)) * (x0 (ix2 a k) - x1 (ix2 a k))

/-- A block's part of the loss. -/
def blockL : EReal := ∑ a : Fin 512, row2 x0 x1 a * halfShare

theorem pay4_at (l : Fin 128) : k0_pay4 (F := Ideal) x0 x1 (ix2 (0 : Fin 1) l) = blockL x0 x1 := by
  unfold blockL
  rw [← sum_times (row2 x0 x1) fun a => Finset.sum_nonneg fun _ _ => square_nonneg _]
  unfold row2
  simp only [← pay1_at x0 x1]
  unfold k0_pay4 halfShare
  generalize k0_pay1 (F := Ideal) x0 x1 = p
  pointwise

theorem pay5_at (y : Vec Ideal S1x128 .f32) (l : Fin 128) :
    k0_pay5 (F := Ideal) x0 x1 y (ix2 (0 : Fin 1) l) = y (ix2 (0 : Fin 1) l) + blockL x0 x1 := by
  rw [← pay4_at x0 x1 l]
  unfold k0_pay5
  generalize k0_pay4 (F := Ideal) x0 x1 = p
  pointwise

theorem ld_a (x : Vec Ideal S512x1024 .f32) : View.ld x (Rect.unit (s := S512x1024) ![0, 0] ![512, 1024] inb_S512x1024_S512x1024_0_0) = x :=
  View.ld_unit_lit _ _ (by decide)

theorem ld_b (x : Vec Ideal S1x128 .f32) : View.ld x (Rect.unit (s := S1x128) ![0, 0] ![1, 128] inb_S1x128_S1x128_0_0) = x :=
  View.ld_unit_lit _ _ (by decide)

/-! ## What a point leaves -/

variable (c : Dev nD) (i : grid0.Coords)

theorem left2A a1 h1 a2 h2 a3 h3 a4 h4 a5 h5 hc0 hc1 :
    out0_A_2 (F := Ideal) c i a1 h1 a2 h2 a3 h3 a4 h4 a5 h5 hc0 hc1 x0 x1 = k0_pay2 x0 x1 := by
  unfold out0_A_2
  dsimp only [kernelRun0_A]
  rw [View.read_writes_full]
  simp only [View.readAt_eq_ld, Memref.IsWhole.read_unread, ld_a, ld_b]

theorem left4A a1 h1 a2 h2 a3 h3 a4 h4 a5 h5 hc0 hc1 :
    out0_A_4 (F := Ideal) c i a1 h1 a2 h2 a3 h3 a4 h4 a5 h5 hc0 hc1 x0 x1 = k0_pay3 x0 x1 := by
  unfold out0_A_4
  dsimp only [kernelRun0_A]
  rw [View.read_writes_full]
  simp only [View.readAt_eq_ld, Memref.IsWhole.read_unread, ld_a, ld_b]

theorem left3A a1 h1 a2 h2 a3 h3 a4 h4 a5 h5 hc0 hc1 :
    out0_A_3 (F := Ideal) c i a1 h1 a2 h2 a3 h3 a4 h4 a5 h5 hc0 hc1 x0 x1 = k0_pay4 x0 x1 := by
  unfold out0_A_3
  dsimp only [kernelRun0_A]
  rw [View.read_writes_full]
  simp only [View.readAt_eq_ld, Memref.IsWhole.read_unread, ld_a, ld_b]

theorem left2B a1 h1 a2 h2 a3 h3 a4 h4 a5 h5 hc0 hc1 (y : Vec Ideal S1x128 .f32) :
    out0_B_2 (F := Ideal) c i a1 h1 a2 h2 a3 h3 a4 h4 a5 h5 hc0 hc1 x0 x1 y = k0_pay2 x0 x1 := by
  unfold out0_B_2
  dsimp only [kernelRun0_B]
  rw [View.read_writes_full]
  simp only [View.readAt_eq_ld, Memref.IsWhole.read_unread, ld_a, ld_b]

theorem left4B a1 h1 a2 h2 a3 h3 a4 h4 a5 h5 hc0 hc1 (y : Vec Ideal S1x128 .f32) :
    out0_B_4 (F := Ideal) c i a1 h1 a2 h2 a3 h3 a4 h4 a5 h5 hc0 hc1 x0 x1 y = k0_pay3 x0 x1 := by
  unfold out0_B_4
  dsimp only [kernelRun0_B]
  rw [View.read_writes_full]
  simp only [View.readAt_eq_ld, Memref.IsWhole.read_unread, ld_a, ld_b]

theorem left3B a1 h1 a2 h2 a3 h3 a4 h4 a5 h5 hc0 hc1 (y : Vec Ideal S1x128 .f32) :
    out0_B_3 (F := Ideal) c i a1 h1 a2 h2 a3 h3 a4 h4 a5 h5 hc0 hc1 x0 x1 y = k0_pay5 x0 x1 y := by
  unfold out0_B_3
  dsimp only [kernelRun0_B]
  rw [View.read_writes_full]
  simp only [View.readAt_eq_ld, Memref.IsWhole.read_unread, ld_a, ld_b]

end

/-! ## The blocks a point is given -/

variable (m : (ℓ : Loc nD τ sig) → Buf (Elt Ideal) ℓ) (c : Dev nD)

theorem pt_lt (t : Fin cfg0.N) : t.val < 16 := lt_of_lt_of_eq t.isLt N_0

/-- Row `a` of block `t`. -/
def row (t : Fin cfg0.N) (a : Fin 512) : Fin 8192 := ⟨512 * t.val + a.val, by have := pt_lt t; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

abbrev X : FVec Ideal S8192x1024 .f32 := m ((c : Thread nD τ).loc main_arg0)
abbrev T : FVec Ideal S8192x1024 .f32 := m ((c : Thread nD τ).loc main_arg1)

abbrev B0 (t : Fin cfg0.N) : FVec Ideal S512x1024 .f32 := iblk m c 0 t
abbrev B1 (t : Fin cfg0.N) : FVec Ideal S512x1024 .f32 := iblk m c 1 t

theorem blk0 (t : Fin cfg0.N) (a : Fin 512) (d : Fin 1024) : B0 m c t (ix2 a d) = X m c (ix2 (row t a) d) := by
  unfold B0
  blk_simp [iblk]
  rw [V_main_arg0]
  refine congrArg (X m c) ?_
  unfold row
  blk_ext [idx0]

theorem blk1 (t : Fin cfg0.N) (a : Fin 512) (d : Fin 1024) : B1 m c t (ix2 a d) = T m c (ix2 (row t a) d) := by
  unfold B1
  blk_simp [iblk]
  rw [V_main_arg1]
  refine congrArg (T m c) ?_
  unfold row
  blk_ext [idx1]

theorem wide_at (t : Fin cfg0.N) (a : Fin 512) (d : Fin 1024) :
    k0_pay2 (F := Ideal) (B0 m c t) (B1 m c t) (ix2 a d) = wide (X m c) (T m c) (ix2 (row t a) d) := by
  rw [pay2_at, blk0, blk1]
  rfl

theorem copy_at (t : Fin cfg0.N) (a : Fin 512) (d : Fin 1024) :
    k0_pay3 (F := Ideal) (B0 m c t) (B1 m c t) (ix2 a d) = copy (X m c) (T m c) (ix2 (row t a) d) := by
  rw [pay3_at, blk0, blk1]
  rfl

theorem term_at (t : Fin cfg0.N) (a : Fin 512) : row2 (B0 m c t) (B1 m c t) a * halfShare = squares (X m c) (T m c) (row t a) * halfShare := by
  unfold row2 squares
  simp only [blk0, blk1]

theorem outs2 (t : Fin cfg0.N) : (outsAt0 m c t.val t.isLt).1 = k0_pay2 (F := Ideal) (B0 m c t) (B1 m c t) := by
  by_cases ht : t.val % 16 = 0
  · rw [outsAt0_A m c t ht (by have := pt_lt t; omega)]
    dsimp only
    rw [left2A]
  · rw [outsAt0_B m c t ht (by omega)]
    dsimp only
    rw [left2B]

theorem outs4 (t : Fin cfg0.N) : (outsAt0 m c t.val t.isLt).2.2 = k0_pay3 (F := Ideal) (B0 m c t) (B1 m c t) := by
  by_cases ht : t.val % 16 = 0
  · rw [outsAt0_A m c t ht (by have := pt_lt t; omega)]
    dsimp only
    rw [left4A]
  · rw [outsAt0_B m c t ht (by omega)]
    dsimp only
    rw [left4B]

/-- The loss after a point is that of the blocks so far. -/
theorem loss_after (k : ℕ) (hk : k < cfg0.N) (l : Fin 128) :
    (outsAt0 m c k hk).2.1 (ix2 (0 : Fin 1) l) = Blocks.part (fun s => squares (X m c) (T m c) s * halfShare) (512 * (k + 1)) := by
  have next (t : Fin cfg0.N) : Blocks.part (fun s => squares (X m c) (T m c) s * halfShare) (512 * t.val) + blockL (B0 m c t) (B1 m c t)
      = Blocks.part (fun s => squares (X m c) (T m c) s * halfShare) (512 * (t.val + 1)) := by
    have := pt_lt t
    exact Blocks.part_block _ (by omega) (by omega) (fun a : Fin 512 => row2 (B0 m c t) (B1 m c t) a * halfShare) fun a => term_at m c t a
  induction k with
  | zero =>
    rw [← next ⟨0, hk⟩, outsAt0_A m c ⟨0, hk⟩ rfl (Nat.not_succ_le_zero 0)]
    dsimp only
    rw [left3A, pay4_at, Nat.mul_zero, Blocks.part_zero, zero_add]
  | succ k ih =>
    have := pt_lt ⟨k + 1, hk⟩
    rw [← next ⟨k + 1, hk⟩, outsAt0_B m c ⟨k + 1, hk⟩ (by dsimp only at this ⊢; omega) (by dsimp only; omega)]
    dsimp only
    rw [left3B, pay5_at]
    exact congrArg (· + _) (ih (by omega))

/-! ## The whole results -/

theorem final2 : (dats m 0 c).arrAt 2 cfg0.N = wide (X m c) (T m c) := by
  refine (dats m 0 c).arrAt_eq_of_covers 2 _ (by decide +kernel) fun t hf y => ?_
  blk_simp
  rw [after0_2, outs2]
  obtain ⟨a, d, rfl⟩ := Blocks.pair 512 1024 y
  refine (wide_at m c t a d).trans ?_
  refine congrArg (wide (X m c) (T m c)) (?_ : ix2 (row t a) d = _)
  unfold row
  blk_ext [idx2]

theorem final4 : (dats m 0 c).arrAt 4 cfg0.N = copy (X m c) (T m c) := by
  refine (dats m 0 c).arrAt_eq_of_covers 4 _ (by decide +kernel) fun t hf y => ?_
  blk_simp
  rw [after0_4, outs4]
  obtain ⟨a, d, rfl⟩ := Blocks.pair 512 1024 y
  refine (copy_at m c t a d).trans ?_
  refine congrArg (copy (X m c) (T m c)) (?_ : ix2 (row t a) d = _)
  unfold row
  blk_ext [idx4]

theorem final3 : (dats m 0 c).arrAt 3 cfg0.N = total (X m c) (T m c) := by
  refine (dats m 0 c).arrAt_eq_of_covers 3 _ (by decide +kernel) fun t hf y => ?_
  blk_simp
  rw [after0_3]
  obtain ⟨z, l, rfl⟩ := Blocks.pair 1 128 y
  obtain rfl : z = 0 := Subsingleton.elim _ _
  refine (loss_after m c t.val t.isLt l).trans ?_
  have := pt_lt t
  have := (flush0_3 t).mp hf
  rw [show 512 * (t.val + 1) = 8192 by omega, Blocks.part_all]
  rfl

end Cert.LossIdeal

/-! ## The reference -/

namespace Cert.LossLinesIdeal

open Idealize.ShloMosaic Idealize.ShloMosaic.TcCoe Cert.LossLinesIdeal.Gen Cert.Rsqrt
open Cert.LossIdeal (share halfShare share_eq halfShare_eq wide copy squares total squares_nonneg sum_times)

variable (X T : FVec Ideal S8192x1024 .f32)

/-- The first line. -/
def line0 : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf X T))

/-- The mean square of every row's errors. -/
def means : FVec Ideal S8192 .f32 :=
  Host.divf (Host.reduceAdd (mulf (subf X T) (subf X T)) (constant S_ .f32 0x00000000#32) reducesTo_S8192x1024_S8192_d1 h_S_) (broadcastInDim S8192 ![] bcast_S_S8192 (constant S_ .f32 0x44800000#32))

/-- The second line. -/
def line1 : FVec Ideal S1x128 .f32 :=
  broadcastInDim S1x128 ![] bcast_S_S1x128 (mulf (constant S_ .f32 0x3F000000#32) (Host.reduceAdd (means X T) (constant S_ .f32 0x00000000#32) reducesTo_S8192_S_d0 h_S_))

/-- The third line. -/
def line2 : FVec Ideal S8192x1024 .bf16 := truncf .bf16 (line0 X T) bitsLt_bf16_f32

theorem half_eq : Ideal.ofBits .f32 0x3F000000#32 = ((2⁻¹ : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem line0_at (s : Fin 8192) (d : Fin 1024) : line0 X T (ix2 s d) = (X (ix2 s d) - T (ix2 s d)) * share := by
  refine Eq.trans (b := Ideal.div (Ideal.ofBits .f32 0x3F000000#32 * Ideal.ofBits .f32 0x3F800000#32) cols
    * (Ideal.ofBits .f32 0x40000000#32 * (X (ix2 s d) - T (ix2 s d)))) ?_ ?_
  · unfold line0 cols
    pointwise
  · rw [mean_eq, half_eq, one_eq, two_eq, share_eq, mul_one, ← mul_assoc, ← EReal.coe_mul, ← EReal.coe_mul, mul_comm]
    congr 2
    norm_num

theorem line0_eq : line0 X T = wide X T := by
  funext i
  obtain ⟨s, d, rfl⟩ := Blocks.pair 8192 1024 i
  exact line0_at X T s d

theorem line2_eq : line2 X T = copy X T := by
  refine Eq.trans (?_ : _ = fun i => wide X T i) rfl
  rw [← line0_eq]
  unfold line2
  generalize line0 X T = p
  funext i
  pointwise

theorem means_at (s : Fin 8192) : means X T (ix1 s) = squares X T s * share := by
  rw [share_eq, ← mean_eq]
  unfold means squares cols
  pointwise

theorem line1_eq : line1 X T = total X T := by
  funext i
  obtain ⟨z, l, rfl⟩ := Blocks.pair 1 128 i
  refine Eq.trans (b := Ideal.ofBits .f32 0x3F000000#32 * ∑ s : Fin 8192, means X T (ix1 s)) ?_ ?_
  · unfold line1
    generalize means X T = p
    pointwise
  · simp only [means_at]
    unfold total
    rw [← sum_times _ (squares_nonneg X T), ← sum_times _ (squares_nonneg X T), mul_comm, mul_assoc, half_eq, share_eq, halfShare_eq, ← EReal.coe_mul]
    congr 2
    norm_num

end Cert.LossLinesIdeal

/-! ## The claims -/

namespace Cert.Proof

open Idealize.ShloMosaic Idealize.ShloMosaic.TcCoe Idealize.SL.Sem

/-- The reference leaves its arguments alone and declares no semaphore. -/
theorem frame_LossLinesIdeal : Cert.quiescent_LossLinesIdeal := fun m ρ _ =>
  (θ_run Cert.LossLinesIdeal.defs _ _).mono
    (fun r h => ⟨fun c => (h c).2.2.2, sem_eq_zero_of_no_sems (by decide) r.2⟩)
    (Cert.LossLinesIdeal.Value.run m ρ)

/-- The kernel and the reference leave the same three arrays. -/
theorem equal_Loss : Cert.algebraic_LossIdeal_LossLinesIdeal := by
  intro m g m' g' _ hagree
  refine ⟨fun c => LossIdeal.wide (LossIdeal.X m c) (LossIdeal.T m c), fun c => LossIdeal.total (LossIdeal.X m c) (LossIdeal.T m c),
    fun c => LossIdeal.copy (LossIdeal.X m c) (LossIdeal.T m c), ?_, ?_⟩
  · exact (θ_run Cert.LossIdeal.defs _ _).mono
      (fun r h c => ⟨((h.1 c).1 2).trans (LossIdeal.final2 m c), ((h.1 c).1 3).trans (LossIdeal.final3 m c),
        ((h.1 c).1 4).trans (LossIdeal.final4 m c), h.2.1 c⟩)
      (θ_run_and (Cert.LossIdeal.Gen.run_main m g) (Cert.LossIdeal.Gen.frame m g))
  · refine (θ_run Cert.LossLinesIdeal.defs _ _).mono (fun r h c => ?_) (Cert.LossLinesIdeal.Value.run m' g')
    obtain ⟨e0, e1⟩ := hagree c
    obtain ⟨r0, r1, r2, r3⟩ := h c
    refine ⟨r0.trans ((LossLinesIdeal.line0_eq _ _).trans ?_), r1.trans ((LossLinesIdeal.line1_eq _ _).trans ?_),
      r2.trans ((LossLinesIdeal.line2_eq _ _).trans ?_), r3⟩ <;> rw [e0, e1]

end Cert.Proof

end
-- ==== Proof.Same.lean ====
module

public import proofs.«01_k».proof.Proof.Run
public import proofs.«01_k».proof.Proof.Gen.Kernel

@[expose] public section

set_option maxHeartbeats 4000000
set_option maxRecDepth 16384

/-!
# The two printed kernels are one program

The kernel at the machine's words and the kernel to be read over the reals are printed with the same text, so the
run of the second is a run of the first.
-/

noncomputable section
namespace Cert.Kernel
open Idealize.ShloMosaic Idealize.ShloMosaic.TcCoe Idealize.SL.Sem

variable {F : FTy → Type} [FloatOps F]

/-- The body of the call. -/
theorem same_body : @cc0_l1_b_attn F _ _ = @Cert.KernelIdeal.cc0_l1_b_attn F _ _ := rfl

/-- The table of bodies. -/
theorem same_bodies : defs₀ (F := F) = Cert.KernelIdeal.defs₀ (F := F) := by
  funext p ℓ a
  cases p with
  | tc =>
    obtain ⟨n, h⟩ := ℓ
    cases n with
    | zero => rfl
    | succ n => exact absurd h (by omega)
  | scScalar _ => rfl
  | scVector _ _ => rfl

/-- The table with the pipeline's labels. -/
theorem same_defs : defs (F := F) = Cert.KernelIdeal.defs (F := F) :=
  congrArg (Pipeline.defs (Cert.KernelIdeal.pcfgs (F := F))) same_bodies

/-- The host program. -/
theorem same_main : main (F := F) = Cert.KernelIdeal.main (F := F) := rfl

end Cert.Kernel
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InProj.Frame
public import proofs.«01_k».proof.Proof.InProjValue
public import proofs.«01_k».proof.Proof.Gen.GateUp.Frame
public import proofs.«01_k».proof.Proof.GateUpValue
public import proofs.«01_k».proof.Proof.Gen.GradAct.Frame
public import proofs.«01_k».proof.Proof.GradActValue
public import proofs.«01_k».proof.Proof.Gen.GradMerged.Frame
public import proofs.«01_k».proof.Proof.GradMergedValue
public import proofs.«01_k».proof.Proof.Gen.OutProj.Frame
public import proofs.«01_k».proof.Proof.OutProjValue
public import proofs.«01_k».proof.Proof.Gen.GradIn.Frame
public import proofs.«01_k».proof.Proof.GradInValue
public import proofs.«01_k».proof.Proof.Gen.GradGateUp.Frame
public import proofs.«01_k».proof.Proof.GradGateUpValue
public import proofs.«01_k».proof.Proof.Gen.GradDown.Frame
public import proofs.«01_k».proof.Proof.GradDownValue
public import proofs.«01_k».proof.Proof.Gen.GradOut.Frame
public import proofs.«01_k».proof.Proof.GradOutValue
public import proofs.«01_k».proof.Proof.Gen.GradBranch.Frame
public import proofs.«01_k».proof.Proof.GradBranchValue
public import proofs.«01_k».proof.Proof.Gen.GradFfn.Frame
public import proofs.«01_k».proof.Proof.GradFfnValue
public import proofs.«01_k».proof.Proof.Gen.GradHidden.Frame
public import proofs.«01_k».proof.Proof.GradHiddenValue
public import proofs.«01_k».proof.Proof.Gen.Down.Frame
public import proofs.«01_k».proof.Proof.DownValue
public import proofs.«01_k».proof.Proof.AttentionValue
public import proofs.«01_k».proof.Proof.Gen.Swiglu.Frame
public import proofs.«01_k».proof.Proof.SwigluValue
public import proofs.«01_k».proof.Proof.Gen.GradSwiglu.Frame
public import proofs.«01_k».proof.Proof.GradSwigluValue
public import proofs.«01_k».proof.Proof.Gen.Merge.Frame
public import proofs.«01_k».proof.Proof.MergeValue
public import proofs.«01_k».proof.Proof.Gen.GradMerge.Frame
public import proofs.«01_k».proof.Proof.GradMergeValue
public import proofs.«01_k».proof.Proof.Gen.Conv.Frame
public import proofs.«01_k».proof.Proof.ConvValue
public import proofs.«01_k».proof.Proof.Gen.GradConv.Frame
public import proofs.«01_k».proof.Proof.GradConvValue
public import proofs.«01_k».proof.Proof.Gen.Norm.Frame
public import proofs.«01_k».proof.Proof.NormValue
public import proofs.«01_k».proof.Proof.Gen.GradNorm.Frame
public import proofs.«01_k».proof.Proof.GradNormValue
public import proofs.«01_k».proof.Proof.Gen.Heads.Frame
public import proofs.«01_k».proof.Proof.HeadsValue
public import proofs.«01_k».proof.Proof.Gen.GradHeads.Frame
public import proofs.«01_k».proof.Proof.GradHeadsValue
public import proofs.«01_k».proof.Proof.Gen.Loss.Frame
public import proofs.«01_k».proof.Proof.LossValue
public import proofs.«01_k».proof.Proof.Gen.Attention.Frame
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionLinesIdeal.Run
public import proofs.«01_k».proof.Proof.Run
public import proofs.«01_k».proof.Proof.Same
public import proofs.«01_k».proof.Proof.Equal

@[expose] public section

set_option maxRecDepth 16384

noncomputable section

namespace Cert.Proof

open Idealize.ShloMosaic Idealize.ShloMosaic.TcCoe Idealize.SL.Sem

/-- The kernel at the machine's words: the run for any float values, read there. -/
theorem frame_kernel : Cert.quiescent_Kernel := fun m ρ _ => by
  rw [Cert.Kernel.same_defs, Cert.Kernel.same_main]
  exact Cert.KernelIdeal.frame_main (F := Bits) m ρ

/-- The kernel over the reals. -/
theorem frame_kernelIdeal : Cert.quiescent_KernelIdeal := fun m ρ _ => Cert.KernelIdeal.frame_main m ρ

/-- The reference over the reals: it leaves its arguments alone and declares no semaphore. -/
theorem frame_referenceIdeal : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

/-- Everything: the witnesses of what the programs state, then the frames, then the values. -/
theorem claim : Cert.Claim := ⟨Cert.Kernel.Gen.facts, Cert.KernelIdeal.Gen.facts, Cert.ReferenceIdeal.Gen.facts,
  Cert.InProj.Gen.facts, Cert.InProjIdeal.Gen.facts,
  Cert.InProjLinesIdeal.Gen.facts, Cert.GateUp.Gen.facts, Cert.GateUpIdeal.Gen.facts,
  Cert.GateUpLinesIdeal.Gen.facts, Cert.GradAct.Gen.facts, Cert.GradActIdeal.Gen.facts,
  Cert.GradActLinesIdeal.Gen.facts, Cert.GradMerged.Gen.facts, Cert.GradMergedIdeal.Gen.facts,
  Cert.GradMergedLinesIdeal.Gen.facts, Cert.OutProj.Gen.facts, Cert.OutProjIdeal.Gen.facts,
  Cert.OutProjLinesIdeal.Gen.facts, Cert.GradIn.Gen.facts, Cert.GradInIdeal.Gen.facts,
  Cert.GradInLinesIdeal.Gen.facts, Cert.GradGateUp.Gen.facts, Cert.GradGateUpIdeal.Gen.facts,
  Cert.GradGateUpLinesIdeal.Gen.facts, Cert.GradDown.Gen.facts, Cert.GradDownIdeal.Gen.facts,
  Cert.GradDownLinesIdeal.Gen.facts, Cert.GradOut.Gen.facts, Cert.GradOutIdeal.Gen.facts,
  Cert.GradOutLinesIdeal.Gen.facts, Cert.GradBranch.Gen.facts, Cert.GradBranchIdeal.Gen.facts,
  Cert.GradBranchLinesIdeal.Gen.facts, Cert.GradFfn.Gen.facts, Cert.GradFfnIdeal.Gen.facts,
  Cert.GradFfnLinesIdeal.Gen.facts, Cert.GradHidden.Gen.facts, Cert.GradHiddenIdeal.Gen.facts,
  Cert.GradHiddenLinesIdeal.Gen.facts, Cert.Down.Gen.facts, Cert.DownIdeal.Gen.facts,
  Cert.DownLinesIdeal.Gen.facts,
  Cert.Attention.Gen.facts, Cert.AttentionIdeal.Gen.facts, Cert.AttentionLinesIdeal.Gen.facts,
  Cert.GradMerge.Gen.facts, Cert.GradMergeIdeal.Gen.facts,
  Cert.GradMergeLinesIdeal.Gen.facts, Cert.Merge.Gen.facts, Cert.MergeIdeal.Gen.facts,
  Cert.MergeLinesIdeal.Gen.facts, Cert.Swiglu.Gen.facts, Cert.SwigluIdeal.Gen.facts,
  Cert.SwigluLinesIdeal.Gen.facts, Cert.GradSwiglu.Gen.facts, Cert.GradSwigluIdeal.Gen.facts,
  Cert.GradSwigluLinesIdeal.Gen.facts,
  Cert.Conv.Gen.facts, Cert.ConvIdeal.Gen.facts,
  Cert.ConvLinesIdeal.Gen.facts, Cert.GradConv.Gen.facts, Cert.GradConvIdeal.Gen.facts,
  Cert.GradConvLinesIdeal.Gen.facts, Cert.Norm.Gen.facts, Cert.NormIdeal.Gen.facts,
  Cert.NormLinesIdeal.Gen.facts, Cert.GradNorm.Gen.facts, Cert.GradNormIdeal.Gen.facts,
  Cert.GradNormLinesIdeal.Gen.facts, Cert.Heads.Gen.facts, Cert.HeadsIdeal.Gen.facts,
  Cert.HeadsLinesIdeal.Gen.facts, Cert.GradHeads.Gen.facts, Cert.GradHeadsIdeal.Gen.facts,
  Cert.GradHeadsLinesIdeal.Gen.facts, Cert.Loss.Gen.facts, Cert.LossIdeal.Gen.facts,
  Cert.LossLinesIdeal.Gen.facts,
  facts_finite, facts_finite_scores, facts_finite_up,
  frame_kernel, frame_kernelIdeal, fun m ρ _ => frame_kernelIdeal m ρ trivial, frame_referenceIdeal,
  fun m ρ _ => frame_referenceIdeal m ρ trivial,
  fun m ρ _ => Cert.InProj.Gen.frame m ρ, fun m ρ _ => Cert.InProjIdeal.Gen.frame m ρ, frame_InProjLinesIdeal,
  fun m ρ _ => Cert.GateUp.Gen.frame m ρ, fun m ρ _ => Cert.GateUpIdeal.Gen.frame m ρ, frame_GateUpLinesIdeal,
  fun m ρ _ => Cert.GradAct.Gen.frame m ρ, fun m ρ _ => Cert.GradActIdeal.Gen.frame m ρ, frame_GradActLinesIdeal,
  fun m ρ _ => Cert.GradMerged.Gen.frame m ρ, fun m ρ _ => Cert.GradMergedIdeal.Gen.frame m ρ, frame_GradMergedLinesIdeal,
  fun m ρ _ => Cert.OutProj.Gen.frame m ρ, fun m ρ _ => Cert.OutProjIdeal.Gen.frame m ρ, frame_OutProjLinesIdeal,
  fun m ρ _ => Cert.GradIn.Gen.frame m ρ, fun m ρ _ => Cert.GradInIdeal.Gen.frame m ρ, frame_GradInLinesIdeal,
  fun m ρ _ => Cert.GradGateUp.Gen.frame m ρ, fun m ρ _ => Cert.GradGateUpIdeal.Gen.frame m ρ, frame_GradGateUpLinesIdeal,
  fun m ρ _ => Cert.GradDown.Gen.frame m ρ, fun m ρ _ => Cert.GradDownIdeal.Gen.frame m ρ, frame_GradDownLinesIdeal,
  fun m ρ _ => Cert.GradOut.Gen.frame m ρ, fun m ρ _ => Cert.GradOutIdeal.Gen.frame m ρ, frame_GradOutLinesIdeal,
  fun m ρ _ => Cert.GradBranch.Gen.frame m ρ, fun m ρ _ => Cert.GradBranchIdeal.Gen.frame m ρ, frame_GradBranchLinesIdeal,
  fun m ρ _ => Cert.GradFfn.Gen.frame m ρ, fun m ρ _ => Cert.GradFfnIdeal.Gen.frame m ρ, frame_GradFfnLinesIdeal,
  fun m ρ _ => Cert.GradHidden.Gen.frame m ρ, fun m ρ _ => Cert.GradHiddenIdeal.Gen.frame m ρ, frame_GradHiddenLinesIdeal,
  fun m ρ _ => Cert.Down.Gen.frame m ρ, fun m ρ _ => Cert.DownIdeal.Gen.frame m ρ, frame_DownLinesIdeal,
  fun m ρ _ => Cert.Attention.Gen.frame m ρ, fun m ρ _ => Cert.AttentionIdeal.Gen.frame m ρ, fun m ρ _ => Cert.AttentionIdeal.Gen.frame m ρ,
  frame_AttentionLinesIdeal, fun m ρ _ => frame_AttentionLinesIdeal m ρ trivial,
  fun m ρ _ => Cert.GradMerge.Gen.frame m ρ, fun m ρ _ => Cert.GradMergeIdeal.Gen.frame m ρ, frame_GradMergeLinesIdeal,
  fun m ρ _ => Cert.Merge.Gen.frame m ρ, fun m ρ _ => Cert.MergeIdeal.Gen.frame m ρ, frame_MergeLinesIdeal,
  fun m ρ _ => Cert.Swiglu.Gen.frame m ρ, fun m ρ _ => Cert.SwigluIdeal.Gen.frame m ρ, frame_SwigluLinesIdeal,
  fun m ρ _ => Cert.GradSwiglu.Gen.frame m ρ, fun m ρ _ => Cert.GradSwigluIdeal.Gen.frame m ρ, fun m ρ _ => Cert.GradSwigluIdeal.Gen.frame m ρ,
  frame_GradSwigluLinesIdeal, fun m ρ _ => frame_GradSwigluLinesIdeal m ρ trivial,
  fun m ρ _ => Cert.Conv.Gen.frame m ρ, fun m ρ _ => Cert.ConvIdeal.Gen.frame m ρ, frame_ConvLinesIdeal,
  fun m ρ _ => Cert.GradConv.Gen.frame m ρ, fun m ρ _ => Cert.GradConvIdeal.Gen.frame m ρ, frame_GradConvLinesIdeal,
  fun m ρ _ => Cert.Norm.Gen.frame m ρ, fun m ρ _ => Cert.NormIdeal.Gen.frame m ρ, frame_NormLinesIdeal,
  fun m ρ _ => Cert.GradNorm.Gen.frame m ρ, fun m ρ _ => Cert.GradNormIdeal.Gen.frame m ρ, frame_GradNormLinesIdeal,
  fun m ρ _ => Cert.Heads.Gen.frame m ρ, fun m ρ _ => Cert.HeadsIdeal.Gen.frame m ρ, frame_HeadsLinesIdeal,
  fun m ρ _ => Cert.GradHeads.Gen.frame m ρ, fun m ρ _ => Cert.GradHeadsIdeal.Gen.frame m ρ, frame_GradHeadsLinesIdeal,
  fun m ρ _ => Cert.Loss.Gen.frame m ρ, fun m ρ _ => Cert.LossIdeal.Gen.frame m ρ, frame_LossLinesIdeal,
  trivial, equal,
  trivial, equal_InProj,
  trivial, equal_GateUp,
  trivial, equal_GradAct,
  trivial, equal_GradMerged,
  trivial, equal_OutProj,
  trivial, equal_GradIn,
  trivial, equal_GradGateUp,
  trivial, equal_GradDown,
  trivial, equal_GradOut,
  trivial, equal_GradBranch,
  trivial, equal_GradFfn,
  trivial, equal_GradHidden,
  trivial, equal_Down,
  trivial, equal_Attention,
  trivial, equal_GradMerge,
  trivial, equal_Merge,
  trivial, equal_Swiglu,
  trivial, equal_GradSwiglu,
  trivial, equal_Conv,
  trivial, equal_GradConv,
  trivial, equal_Norm,
  trivial, equal_GradNorm,
  trivial, equal_Heads,
  trivial, equal_GradHeads,
  trivial, equal_Loss⟩

end Cert.Proof

end
